-- ==== Defs.lean ====
def Pre_Swa (m : (ℓ : Loc Cert.Swa.nD Cert.Swa.τ Cert.Swa.sig) → Buf (Elt Bits) ℓ) : Prop :=
  True

def Pre_SwaIdeal (m : (ℓ : Loc Cert.SwaIdeal.nD Cert.SwaIdeal.τ Cert.SwaIdeal.sig) → Buf (Elt Ideal) ℓ) : Prop :=
  True

def Pre_SwaIdeal_finite_scores [hPre_finite_scores : Cert.Pre_finite_scores.Facts] (m : (ℓ : Loc Cert.SwaIdeal.nD Cert.SwaIdeal.τ Cert.SwaIdeal.sig) → Buf (Elt Ideal) ℓ) : Prop :=
  ∀ c : Dev Cert.SwaIdeal.nD,
    (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).1 = (fun _ => 1#1)
    ∧ (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.1 = (fun _ => 1#1)
    ∧ (Cert.Pre_finite_scores.fn (F := Ideal) (m ((c.tc : Thread Cert.SwaIdeal.nD Cert.SwaIdeal.τ).loc Cert.SwaIdeal.main_arg0)) (m ((c.tc : Thread Cert.SwaIdeal.nD Cert.SwaIdeal.τ).loc Cert.SwaIdeal.main_arg1)) (m ((c.tc : Thread Cert.SwaIdeal.nD Cert.SwaIdeal.τ).loc Cert.SwaIdeal.main_arg2))).2.2 = (fun _ => 1#1)

def Pre_SwaRefIdeal (m : (ℓ : Loc Cert.SwaRefIdeal.nD Cert.SwaRefIdeal.τ Cert.SwaRefIdeal.sig) → Buf (Elt Ideal) ℓ) : Prop :=
  True

def Pre_SwaRefIdeal_finite_scores [hPre_finite_scores : Cert.Pre_finite_scores.Facts] (m : (ℓ : Loc Cert.SwaRefIdeal.nD Cert.SwaRefIdeal.τ Cert.SwaRefIdeal.sig) → Buf (Elt Ideal) ℓ) : Prop :=
  ∀ c : Dev Cert.SwaRefIdeal.nD,
    (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).1 = (fun _ => 1#1)
    ∧ (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.1 = (fun _ => 1#1)
    ∧ (Cert.Pre_finite_scores.fn (F := Ideal) (m ((c.tc : Thread Cert.SwaRefIdeal.nD Cert.SwaRefIdeal.τ).loc Cert.SwaRefIdeal.main_arg0)) (m ((c.tc : Thread Cert.SwaRefIdeal.nD Cert.SwaRefIdeal.τ).loc Cert.SwaRefIdeal.main_arg1)) (m ((c.tc : Thread Cert.SwaRefIdeal.nD Cert.SwaRefIdeal.τ).loc Cert.SwaRefIdeal.main_arg2))).2.2 = (fun _ => 1#1)

def Pre_EvenIn (m : (ℓ : Loc Cert.EvenIn.nD Cert.EvenIn.τ Cert.EvenIn.sig) → Buf (Elt Bits) ℓ) : Prop :=
  True

def Pre_EvenInIdeal (m : (ℓ : Loc Cert.EvenInIdeal.nD Cert.EvenInIdeal.τ Cert.EvenInIdeal.sig) → Buf (Elt Ideal) ℓ) : Prop :=
  True

def Pre_EvenInRefIdeal (m : (ℓ : Loc Cert.EvenInRefIdeal.nD Cert.EvenInRefIdeal.τ Cert.EvenInRefIdeal.sig) → Buf (Elt Ideal) ℓ) : Prop :=
  True

def Pre_OddIn (m : (ℓ : Loc Cert.OddIn.nD Cert.OddIn.τ Cert.OddIn.sig) → Buf (Elt Bits) ℓ) : Prop :=
  True

def Pre_OddInIdeal (m : (ℓ : Loc Cert.OddInIdeal.nD Cert.OddInIdeal.τ Cert.OddInIdeal.sig) → Buf (Elt Ideal) ℓ) : Prop :=
  True

def Pre_OddInRefIdeal (m : (ℓ : Loc Cert.OddInRefIdeal.nD Cert.OddInRefIdeal.τ Cert.OddInRefIdeal.sig) → Buf (Elt Ideal) ℓ) : Prop :=
  True

def Pre_Query (m : (ℓ : Loc Cert.Query.nD Cert.Query.τ Cert.Query.sig) → Buf (Elt Bits) ℓ) : Prop :=
  True

def Pre_QueryIdeal (m : (ℓ : Loc Cert.QueryIdeal.nD Cert.QueryIdeal.τ Cert.QueryIdeal.sig) → Buf (Elt Ideal) ℓ) : Prop :=
  True

def Pre_QueryRefIdeal (m : (ℓ : Loc Cert.QueryRefIdeal.nD Cert.QueryRefIdeal.τ Cert.QueryRefIdeal.sig) → Buf (Elt Ideal) ℓ) : Prop :=
  True

def Pre_EvenOut (m : (ℓ : Loc Cert.EvenOut.nD Cert.EvenOut.τ Cert.EvenOut.sig) → Buf (Elt Bits) ℓ) : Prop :=
  True

def Pre_EvenOutIdeal (m : (ℓ : Loc Cert.EvenOutIdeal.nD Cert.EvenOutIdeal.τ Cert.EvenOutIdeal.sig) → Buf (Elt Ideal) ℓ) : Prop :=
  True

def Pre_EvenOutRefIdeal (m : (ℓ : Loc Cert.EvenOutRefIdeal.nD Cert.EvenOutRefIdeal.τ Cert.EvenOutRefIdeal.sig) → Buf (Elt Ideal) ℓ) : Prop :=
  True

def Pre_OddOut (m : (ℓ : Loc Cert.OddOut.nD Cert.OddOut.τ Cert.OddOut.sig) → Buf (Elt Bits) ℓ) : Prop :=
  True

def Pre_OddOutIdeal (m : (ℓ : Loc Cert.OddOutIdeal.nD Cert.OddOutIdeal.τ Cert.OddOutIdeal.sig) → Buf (Elt Ideal) ℓ) : Prop :=
  True

def Pre_OddOutRefIdeal (m : (ℓ : Loc Cert.OddOutRefIdeal.nD Cert.OddOutRefIdeal.τ Cert.OddOutRefIdeal.sig) → Buf (Elt Ideal) ℓ) : Prop :=
  True

def Pre_Gdn (m : (ℓ : Loc Cert.Gdn.nD Cert.Gdn.τ Cert.Gdn.sig) → Buf (Elt Bits) ℓ) : Prop :=
  True

def Pre_GdnIdeal (m : (ℓ : Loc Cert.GdnIdeal.nD Cert.GdnIdeal.τ Cert.GdnIdeal.sig) → Buf (Elt Ideal) ℓ) : Prop :=
  True

def Pre_GdnIdeal_finite_keys [hPre_finite_keys : Cert.Pre_finite_keys.Facts] (m : (ℓ : Loc Cert.GdnIdeal.nD Cert.GdnIdeal.τ Cert.GdnIdeal.sig) → Buf (Elt Ideal) ℓ) : Prop :=
  ∀ c : Dev Cert.GdnIdeal.nD,
    (Cert.Pre_finite_keys.fn (F := Ideal) (m ((c.tc : Thread Cert.GdnIdeal.nD Cert.GdnIdeal.τ).loc Cert.GdnIdeal.main_arg0)) (m ((c.tc : Thread Cert.GdnIdeal.nD Cert.GdnIdeal.τ).loc Cert.GdnIdeal.main_arg1)) (m ((c.tc : Thread Cert.GdnIdeal.nD Cert.GdnIdeal.τ).loc Cert.GdnIdeal.main_arg2)) (m ((c.tc : Thread Cert.GdnIdeal.nD Cert.GdnIdeal.τ).loc Cert.GdnIdeal.main_arg3)) (m ((c.tc : Thread Cert.GdnIdeal.nD Cert.GdnIdeal.τ).loc Cert.GdnIdeal.main_arg4))) = (fun _ => 1#1)

def Pre_GdnRefIdeal (m : (ℓ : Loc Cert.GdnRefIdeal.nD Cert.GdnRefIdeal.τ Cert.GdnRefIdeal.sig) → Buf (Elt Ideal) ℓ) : Prop :=
  True

def Pre_GdnRefIdeal_finite_keys [hPre_finite_keys : Cert.Pre_finite_keys.Facts] (m : (ℓ : Loc Cert.GdnRefIdeal.nD Cert.GdnRefIdeal.τ Cert.GdnRefIdeal.sig) → Buf (Elt Ideal) ℓ) : Prop :=
  ∀ c : Dev Cert.GdnRefIdeal.nD,
    (Cert.Pre_finite_keys.fn (F := Ideal) (m ((c.tc : Thread Cert.GdnRefIdeal.nD Cert.GdnRefIdeal.τ).loc Cert.GdnRefIdeal.main_arg0)) (m ((c.tc : Thread Cert.GdnRefIdeal.nD Cert.GdnRefIdeal.τ).loc Cert.GdnRefIdeal.main_arg1)) (m ((c.tc : Thread Cert.GdnRefIdeal.nD Cert.GdnRefIdeal.τ).loc Cert.GdnRefIdeal.main_arg2)) (m ((c.tc : Thread Cert.GdnRefIdeal.nD Cert.GdnRefIdeal.τ).loc Cert.GdnRefIdeal.main_arg3)) (m ((c.tc : Thread Cert.GdnRefIdeal.nD Cert.GdnRefIdeal.τ).loc Cert.GdnRefIdeal.main_arg4))) = (fun _ => 1#1)

def quiescent_Swa [hSwa : Cert.Swa.Facts] : Prop :=
  ∀ (m : (ℓ : Loc Cert.Swa.nD Cert.Swa.τ Cert.Swa.sig) → Buf (Elt Bits) ℓ) (g : Dev Cert.Swa.nD → PrngReg), Pre_Swa m →
    θ_run (Cert.Swa.defs (F := Bits)) (onTc (τ := Cert.Swa.τ) (Cert.Swa.main (F := Bits))) ⟨m, fun _ => 0, g⟩ (fun r => (∀ c : Dev Cert.Swa.nD,
      r.2.mem ((c.tc : Thread Cert.Swa.nD Cert.Swa.τ).loc Cert.Swa.main_arg0) = m ((c.tc : Thread Cert.Swa.nD Cert.Swa.τ).loc Cert.Swa.main_arg0)
      ∧ r.2.mem ((c.tc : Thread Cert.Swa.nD Cert.Swa.τ).loc Cert.Swa.main_arg1) = m ((c.tc : Thread Cert.Swa.nD Cert.Swa.τ).loc Cert.Swa.main_arg1)
      ∧ r.2.mem ((c.tc : Thread Cert.Swa.nD Cert.Swa.τ).loc Cert.Swa.main_arg2) = m ((c.tc : Thread Cert.Swa.nD Cert.Swa.τ).loc Cert.Swa.main_arg2))
      ∧ r.2.sem = fun _ => 0)

def quiescent_SwaIdeal [hSwaIdeal : Cert.SwaIdeal.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaIdeal_pre_finite_scores [hSwaIdeal : Cert.SwaIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg), Pre_SwaIdeal_finite_scores m →
    θ_run (Cert.SwaIdeal.defs (F := Ideal)) (onTc (τ := Cert.SwaIdeal.τ) (Cert.SwaIdeal.main (F := Ideal))) ⟨m, fun _ => 0, g⟩ (fun r => (∀ c : Dev Cert.SwaIdeal.nD,
      r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
      ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
      ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ r.2.sem = fun _ => 0)

def quiescent_SwaRefIdeal [hSwaRefIdeal : Cert.SwaRefIdeal.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_SwaRefIdeal_pre_finite_scores [hSwaRefIdeal : Cert.SwaRefIdeal.Facts] [hPre_finite_scores : Cert.Pre_finite_scores.Facts] : Prop :=
  ∀ (m : (ℓ : Loc Cert.SwaRefIdeal.nD Cert.SwaRefIdeal.τ Cert.SwaRefIdeal.sig) → Buf (Elt Ideal) ℓ) (g : Dev Cert.SwaRefIdeal.nD → PrngReg), Pre_SwaRefIdeal_finite_scores m →
    θ_run (Cert.SwaRefIdeal.defs (F := Ideal)) (onTc (τ := Cert.SwaRefIdeal.τ) (Cert.SwaRefIdeal.main (F := Ideal))) ⟨m, fun _ => 0, g⟩ (fun r => (∀ c : Dev Cert.SwaRefIdeal.nD,
      r.2.mem ((c.tc : Thread Cert.SwaRefIdeal.nD Cert.SwaRefIdeal.τ).loc Cert.SwaRefIdeal.main_arg0) = m ((c.tc : Thread Cert.SwaRefIdeal.nD Cert.SwaRefIdeal.τ).loc Cert.SwaRefIdeal.main_arg0)
      ∧ r.2.mem ((c.tc : Thread Cert.SwaRefIdeal.nD Cert.SwaRefIdeal.τ).loc Cert.SwaRefIdeal.main_arg1) = m ((c.tc : Thread Cert.SwaRefIdeal.nD Cert.SwaRefIdeal.τ).loc Cert.SwaRefIdeal.main_arg1)
      ∧ r.2.mem ((c.tc : Thread Cert.SwaRefIdeal.nD Cert.SwaRefIdeal.τ).loc Cert.SwaRefIdeal.main_arg2) = m ((c.tc : Thread Cert.SwaRefIdeal.nD Cert.SwaRefIdeal.τ).loc Cert.SwaRefIdeal.main_arg2))
      ∧ r.2.sem = fun _ => 0)

def quiescent_EvenIn [hEvenIn : Cert.EvenIn.Facts] : Prop :=
  ∀ (m : (ℓ : Loc Cert.EvenIn.nD Cert.EvenIn.τ Cert.EvenIn.sig) → Buf (Elt Bits) ℓ) (g : Dev Cert.EvenIn.nD → PrngReg), Pre_EvenIn m →
    θ_run (Cert.EvenIn.defs (F := Bits)) (onTc (τ := Cert.EvenIn.τ) (Cert.EvenIn.main (F := Bits))) ⟨m, fun _ => 0, g⟩ (fun r => (∀ c : Dev Cert.EvenIn.nD,
      r.2.mem ((c.tc : Thread Cert.EvenIn.nD Cert.EvenIn.τ).loc Cert.EvenIn.main_arg0) = m ((c.tc : Thread Cert.EvenIn.nD Cert.EvenIn.τ).loc Cert.EvenIn.main_arg0)
      ∧ r.2.mem ((c.tc : Thread Cert.EvenIn.nD Cert.EvenIn.τ).loc Cert.EvenIn.main_arg1) = m ((c.tc : Thread Cert.EvenIn.nD Cert.EvenIn.τ).loc Cert.EvenIn.main_arg1)
      ∧ r.2.mem ((c.tc : Thread Cert.EvenIn.nD Cert.EvenIn.τ).loc Cert.EvenIn.main_arg2) = m ((c.tc : Thread Cert.EvenIn.nD Cert.EvenIn.τ).loc Cert.EvenIn.main_arg2)
      ∧ r.2.mem ((c.tc : Thread Cert.EvenIn.nD Cert.EvenIn.τ).loc Cert.EvenIn.main_arg3) = m ((c.tc : Thread Cert.EvenIn.nD Cert.EvenIn.τ).loc Cert.EvenIn.main_arg3)
      ∧ r.2.mem ((c.tc : Thread Cert.EvenIn.nD Cert.EvenIn.τ).loc Cert.EvenIn.main_arg4) = m ((c.tc : Thread Cert.EvenIn.nD Cert.EvenIn.τ).loc Cert.EvenIn.main_arg4))
      ∧ r.2.sem = fun _ => 0)

def quiescent_EvenInIdeal [hEvenInIdeal : Cert.EvenInIdeal.Facts] : Prop :=
  ∀ (m : (ℓ : Loc Cert.EvenInIdeal.nD Cert.EvenInIdeal.τ Cert.EvenInIdeal.sig) → Buf (Elt Ideal) ℓ) (g : Dev Cert.EvenInIdeal.nD → PrngReg), Pre_EvenInIdeal m →
    θ_run (Cert.EvenInIdeal.defs (F := Ideal)) (onTc (τ := Cert.EvenInIdeal.τ) (Cert.EvenInIdeal.main (F := Ideal))) ⟨m, fun _ => 0, g⟩ (fun r => (∀ c : Dev Cert.EvenInIdeal.nD,
      r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
      ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
      ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
      ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
      ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ r.2.sem = fun _ => 0)

def quiescent_EvenInRefIdeal [hEvenInRefIdeal : Cert.EvenInRefIdeal.Facts] : Prop :=
  ∀ (m : (ℓ : Loc Cert.EvenInRefIdeal.nD Cert.EvenInRefIdeal.τ Cert.EvenInRefIdeal.sig) → Buf (Elt Ideal) ℓ) (g : Dev Cert.EvenInRefIdeal.nD → PrngReg), Pre_EvenInRefIdeal m →
    θ_run (Cert.EvenInRefIdeal.defs (F := Ideal)) (onTc (τ := Cert.EvenInRefIdeal.τ) (Cert.EvenInRefIdeal.main (F := Ideal))) ⟨m, fun _ => 0, g⟩ (fun r => (∀ c : Dev Cert.EvenInRefIdeal.nD,
      r.2.mem ((c.tc : Thread Cert.EvenInRefIdeal.nD Cert.EvenInRefIdeal.τ).loc Cert.EvenInRefIdeal.main_arg0) = m ((c.tc : Thread Cert.EvenInRefIdeal.nD Cert.EvenInRefIdeal.τ).loc Cert.EvenInRefIdeal.main_arg0)
      ∧ r.2.mem ((c.tc : Thread Cert.EvenInRefIdeal.nD Cert.EvenInRefIdeal.τ).loc Cert.EvenInRefIdeal.main_arg1) = m ((c.tc : Thread Cert.EvenInRefIdeal.nD Cert.EvenInRefIdeal.τ).loc Cert.EvenInRefIdeal.main_arg1)
      ∧ r.2.mem ((c.tc : Thread Cert.EvenInRefIdeal.nD Cert.EvenInRefIdeal.τ).loc Cert.EvenInRefIdeal.main_arg2) = m ((c.tc : Thread Cert.EvenInRefIdeal.nD Cert.EvenInRefIdeal.τ).loc Cert.EvenInRefIdeal.main_arg2)
      ∧ r.2.mem ((c.tc : Thread Cert.EvenInRefIdeal.nD Cert.EvenInRefIdeal.τ).loc Cert.EvenInRefIdeal.main_arg3) = m ((c.tc : Thread Cert.EvenInRefIdeal.nD Cert.EvenInRefIdeal.τ).loc Cert.EvenInRefIdeal.main_arg3)
      ∧ r.2.mem ((c.tc : Thread Cert.EvenInRefIdeal.nD Cert.EvenInRefIdeal.τ).loc Cert.EvenInRefIdeal.main_arg4) = m ((c.tc : Thread Cert.EvenInRefIdeal.nD Cert.EvenInRefIdeal.τ).loc Cert.EvenInRefIdeal.main_arg4))
      ∧ r.2.sem = fun _ => 0)

def quiescent_OddIn [hOddIn : Cert.OddIn.Facts] : Prop :=
  ∀ (m : (ℓ : Loc Cert.OddIn.nD Cert.OddIn.τ Cert.OddIn.sig) → Buf (Elt Bits) ℓ) (g : Dev Cert.OddIn.nD → PrngReg), Pre_OddIn m →
    θ_run (Cert.OddIn.defs (F := Bits)) (onTc (τ := Cert.OddIn.τ) (Cert.OddIn.main (F := Bits))) ⟨m, fun _ => 0, g⟩ (fun r => (∀ c : Dev Cert.OddIn.nD,
      r.2.mem ((c.tc : Thread Cert.OddIn.nD Cert.OddIn.τ).loc Cert.OddIn.main_arg0) = m ((c.tc : Thread Cert.OddIn.nD Cert.OddIn.τ).loc Cert.OddIn.main_arg0)
      ∧ r.2.mem ((c.tc : Thread Cert.OddIn.nD Cert.OddIn.τ).loc Cert.OddIn.main_arg1) = m ((c.tc : Thread Cert.OddIn.nD Cert.OddIn.τ).loc Cert.OddIn.main_arg1)
      ∧ r.2.mem ((c.tc : Thread Cert.OddIn.nD Cert.OddIn.τ).loc Cert.OddIn.main_arg2) = m ((c.tc : Thread Cert.OddIn.nD Cert.OddIn.τ).loc Cert.OddIn.main_arg2)
      ∧ r.2.mem ((c.tc : Thread Cert.OddIn.nD Cert.OddIn.τ).loc Cert.OddIn.main_arg3) = m ((c.tc : Thread Cert.OddIn.nD Cert.OddIn.τ).loc Cert.OddIn.main_arg3)
      ∧ r.2.mem ((c.tc : Thread Cert.OddIn.nD Cert.OddIn.τ).loc Cert.OddIn.main_arg4) = m ((c.tc : Thread Cert.OddIn.nD Cert.OddIn.τ).loc Cert.OddIn.main_arg4))
      ∧ r.2.sem = fun _ => 0)

def quiescent_OddInIdeal [hOddInIdeal : Cert.OddInIdeal.Facts] : Prop :=
  ∀ (m : (ℓ : Loc Cert.OddInIdeal.nD Cert.OddInIdeal.τ Cert.OddInIdeal.sig) → Buf (Elt Ideal) ℓ) (g : Dev Cert.OddInIdeal.nD → PrngReg), Pre_OddInIdeal m →
    θ_run (Cert.OddInIdeal.defs (F := Ideal)) (onTc (τ := Cert.OddInIdeal.τ) (Cert.OddInIdeal.main (F := Ideal))) ⟨m, fun _ => 0, g⟩ (fun r => (∀ c : Dev Cert.OddInIdeal.nD,
      r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
      ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
      ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
      ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
      ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ r.2.sem = fun _ => 0)

def quiescent_OddInRefIdeal [hOddInRefIdeal : Cert.OddInRefIdeal.Facts] : Prop :=
  ∀ (m : (ℓ : Loc Cert.OddInRefIdeal.nD Cert.OddInRefIdeal.τ Cert.OddInRefIdeal.sig) → Buf (Elt Ideal) ℓ) (g : Dev Cert.OddInRefIdeal.nD → PrngReg), Pre_OddInRefIdeal m →
    θ_run (Cert.OddInRefIdeal.defs (F := Ideal)) (onTc (τ := Cert.OddInRefIdeal.τ) (Cert.OddInRefIdeal.main (F := Ideal))) ⟨m, fun _ => 0, g⟩ (fun r => (∀ c : Dev Cert.OddInRefIdeal.nD,
      r.2.mem ((c.tc : Thread Cert.OddInRefIdeal.nD Cert.OddInRefIdeal.τ).loc Cert.OddInRefIdeal.main_arg0) = m ((c.tc : Thread Cert.OddInRefIdeal.nD Cert.OddInRefIdeal.τ).loc Cert.OddInRefIdeal.main_arg0)
      ∧ r.2.mem ((c.tc : Thread Cert.OddInRefIdeal.nD Cert.OddInRefIdeal.τ).loc Cert.OddInRefIdeal.main_arg1) = m ((c.tc : Thread Cert.OddInRefIdeal.nD Cert.OddInRefIdeal.τ).loc Cert.OddInRefIdeal.main_arg1)
      ∧ r.2.mem ((c.tc : Thread Cert.OddInRefIdeal.nD Cert.OddInRefIdeal.τ).loc Cert.OddInRefIdeal.main_arg2) = m ((c.tc : Thread Cert.OddInRefIdeal.nD Cert.OddInRefIdeal.τ).loc Cert.OddInRefIdeal.main_arg2)
      ∧ r.2.mem ((c.tc : Thread Cert.OddInRefIdeal.nD Cert.OddInRefIdeal.τ).loc Cert.OddInRefIdeal.main_arg3) = m ((c.tc : Thread Cert.OddInRefIdeal.nD Cert.OddInRefIdeal.τ).loc Cert.OddInRefIdeal.main_arg3)
      ∧ r.2.mem ((c.tc : Thread Cert.OddInRefIdeal.nD Cert.OddInRefIdeal.τ).loc Cert.OddInRefIdeal.main_arg4) = m ((c.tc : Thread Cert.OddInRefIdeal.nD Cert.OddInRefIdeal.τ).loc Cert.OddInRefIdeal.main_arg4))
      ∧ r.2.sem = fun _ => 0)

def quiescent_Query [hQuery : Cert.Query.Facts] : Prop :=
  ∀ (m : (ℓ : Loc Cert.Query.nD Cert.Query.τ Cert.Query.sig) → Buf (Elt Bits) ℓ) (g : Dev Cert.Query.nD → PrngReg), Pre_Query m →
    θ_run (Cert.Query.defs (F := Bits)) (onTc (τ := Cert.Query.τ) (Cert.Query.main (F := Bits))) ⟨m, fun _ => 0, g⟩ (fun r => (∀ c : Dev Cert.Query.nD,
      r.2.mem ((c.tc : Thread Cert.Query.nD Cert.Query.τ).loc Cert.Query.main_arg0) = m ((c.tc : Thread Cert.Query.nD Cert.Query.τ).loc Cert.Query.main_arg0)
      ∧ r.2.mem ((c.tc : Thread Cert.Query.nD Cert.Query.τ).loc Cert.Query.main_arg1) = m ((c.tc : Thread Cert.Query.nD Cert.Query.τ).loc Cert.Query.main_arg1)
      ∧ r.2.mem ((c.tc : Thread Cert.Query.nD Cert.Query.τ).loc Cert.Query.main_arg2) = m ((c.tc : Thread Cert.Query.nD Cert.Query.τ).loc Cert.Query.main_arg2)
      ∧ r.2.mem ((c.tc : Thread Cert.Query.nD Cert.Query.τ).loc Cert.Query.main_arg3) = m ((c.tc : Thread Cert.Query.nD Cert.Query.τ).loc Cert.Query.main_arg3)
      ∧ r.2.mem ((c.tc : Thread Cert.Query.nD Cert.Query.τ).loc Cert.Query.main_arg4) = m ((c.tc : Thread Cert.Query.nD Cert.Query.τ).loc Cert.Query.main_arg4))
      ∧ r.2.sem = fun _ => 0)

def quiescent_QueryIdeal [hQueryIdeal : Cert.QueryIdeal.Facts] : Prop :=
  ∀ (m : (ℓ : Loc Cert.QueryIdeal.nD Cert.QueryIdeal.τ Cert.QueryIdeal.sig) → Buf (Elt Ideal) ℓ) (g : Dev Cert.QueryIdeal.nD → PrngReg), Pre_QueryIdeal m →
    θ_run (Cert.QueryIdeal.defs (F := Ideal)) (onTc (τ := Cert.QueryIdeal.τ) (Cert.QueryIdeal.main (F := Ideal))) ⟨m, fun _ => 0, g⟩ (fun r => (∀ c : Dev Cert.QueryIdeal.nD,
      r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
      ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
      ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
      ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
      ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ r.2.sem = fun _ => 0)

def quiescent_QueryRefIdeal [hQueryRefIdeal : Cert.QueryRefIdeal.Facts] : Prop :=
  ∀ (m : (ℓ : Loc Cert.QueryRefIdeal.nD Cert.QueryRefIdeal.τ Cert.QueryRefIdeal.sig) → Buf (Elt Ideal) ℓ) (g : Dev Cert.QueryRefIdeal.nD → PrngReg), Pre_QueryRefIdeal m →
    θ_run (Cert.QueryRefIdeal.defs (F := Ideal)) (onTc (τ := Cert.QueryRefIdeal.τ) (Cert.QueryRefIdeal.main (F := Ideal))) ⟨m, fun _ => 0, g⟩ (fun r => (∀ c : Dev Cert.QueryRefIdeal.nD,
      r.2.mem ((c.tc : Thread Cert.QueryRefIdeal.nD Cert.QueryRefIdeal.τ).loc Cert.QueryRefIdeal.main_arg0) = m ((c.tc : Thread Cert.QueryRefIdeal.nD Cert.QueryRefIdeal.τ).loc Cert.QueryRefIdeal.main_arg0)
      ∧ r.2.mem ((c.tc : Thread Cert.QueryRefIdeal.nD Cert.QueryRefIdeal.τ).loc Cert.QueryRefIdeal.main_arg1) = m ((c.tc : Thread Cert.QueryRefIdeal.nD Cert.QueryRefIdeal.τ).loc Cert.QueryRefIdeal.main_arg1)
      ∧ r.2.mem ((c.tc : Thread Cert.QueryRefIdeal.nD Cert.QueryRefIdeal.τ).loc Cert.QueryRefIdeal.main_arg2) = m ((c.tc : Thread Cert.QueryRefIdeal.nD Cert.QueryRefIdeal.τ).loc Cert.QueryRefIdeal.main_arg2)
      ∧ r.2.mem ((c.tc : Thread Cert.QueryRefIdeal.nD Cert.QueryRefIdeal.τ).loc Cert.QueryRefIdeal.main_arg3) = m ((c.tc : Thread Cert.QueryRefIdeal.nD Cert.QueryRefIdeal.τ).loc Cert.QueryRefIdeal.main_arg3)
      ∧ r.2.mem ((c.tc : Thread Cert.QueryRefIdeal.nD Cert.QueryRefIdeal.τ).loc Cert.QueryRefIdeal.main_arg4) = m ((c.tc : Thread Cert.QueryRefIdeal.nD Cert.QueryRefIdeal.τ).loc Cert.QueryRefIdeal.main_arg4))
      ∧ r.2.sem = fun _ => 0)

def quiescent_EvenOut [hEvenOut : Cert.EvenOut.Facts] : Prop :=
  ∀ (m : (ℓ : Loc Cert.EvenOut.nD Cert.EvenOut.τ Cert.EvenOut.sig) → Buf (Elt Bits) ℓ) (g : Dev Cert.EvenOut.nD → PrngReg), Pre_EvenOut m →
    θ_run (Cert.EvenOut.defs (F := Bits)) (onTc (τ := Cert.EvenOut.τ) (Cert.EvenOut.main (F := Bits))) ⟨m, fun _ => 0, g⟩ (fun r => (∀ c : Dev Cert.EvenOut.nD,
      r.2.mem ((c.tc : Thread Cert.EvenOut.nD Cert.EvenOut.τ).loc Cert.EvenOut.main_arg0) = m ((c.tc : Thread Cert.EvenOut.nD Cert.EvenOut.τ).loc Cert.EvenOut.main_arg0)
      ∧ r.2.mem ((c.tc : Thread Cert.EvenOut.nD Cert.EvenOut.τ).loc Cert.EvenOut.main_arg1) = m ((c.tc : Thread Cert.EvenOut.nD Cert.EvenOut.τ).loc Cert.EvenOut.main_arg1)
      ∧ r.2.mem ((c.tc : Thread Cert.EvenOut.nD Cert.EvenOut.τ).loc Cert.EvenOut.main_arg2) = m ((c.tc : Thread Cert.EvenOut.nD Cert.EvenOut.τ).loc Cert.EvenOut.main_arg2)
      ∧ r.2.mem ((c.tc : Thread Cert.EvenOut.nD Cert.EvenOut.τ).loc Cert.EvenOut.main_arg3) = m ((c.tc : Thread Cert.EvenOut.nD Cert.EvenOut.τ).loc Cert.EvenOut.main_arg3)
      ∧ r.2.mem ((c.tc : Thread Cert.EvenOut.nD Cert.EvenOut.τ).loc Cert.EvenOut.main_arg4) = m ((c.tc : Thread Cert.EvenOut.nD Cert.EvenOut.τ).loc Cert.EvenOut.main_arg4))
      ∧ r.2.sem = fun _ => 0)

def quiescent_EvenOutIdeal [hEvenOutIdeal : Cert.EvenOutIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg), Pre_EvenOutIdeal m →
    θ_run (Cert.EvenOutIdeal.defs (F := Ideal)) (onTc (τ := Cert.EvenOutIdeal.τ) (Cert.EvenOutIdeal.main (F := Ideal))) ⟨m, fun _ => 0, g⟩ (fun r => (∀ c : Dev Cert.EvenOutIdeal.nD,
      r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
      ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
      ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
      ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
      ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ r.2.sem = fun _ => 0)

def quiescent_EvenOutRefIdeal [hEvenOutRefIdeal : Cert.EvenOutRefIdeal.Facts] : Prop :=
  ∀ (m : (ℓ : Loc Cert.EvenOutRefIdeal.nD Cert.EvenOutRefIdeal.τ Cert.EvenOutRefIdeal.sig) → Buf (Elt Ideal) ℓ) (g : Dev Cert.EvenOutRefIdeal.nD → PrngReg), Pre_EvenOutRefIdeal m →
    θ_run (Cert.EvenOutRefIdeal.defs (F := Ideal)) (onTc (τ := Cert.EvenOutRefIdeal.τ) (Cert.EvenOutRefIdeal.main (F := Ideal))) ⟨m, fun _ => 0, g⟩ (fun r => (∀ c : Dev Cert.EvenOutRefIdeal.nD,
      r.2.mem ((c.tc : Thread Cert.EvenOutRefIdeal.nD Cert.EvenOutRefIdeal.τ).loc Cert.EvenOutRefIdeal.main_arg0) = m ((c.tc : Thread Cert.EvenOutRefIdeal.nD Cert.EvenOutRefIdeal.τ).loc Cert.EvenOutRefIdeal.main_arg0)
      ∧ r.2.mem ((c.tc : Thread Cert.EvenOutRefIdeal.nD Cert.EvenOutRefIdeal.τ).loc Cert.EvenOutRefIdeal.main_arg1) = m ((c.tc : Thread Cert.EvenOutRefIdeal.nD Cert.EvenOutRefIdeal.τ).loc Cert.EvenOutRefIdeal.main_arg1)
      ∧ r.2.mem ((c.tc : Thread Cert.EvenOutRefIdeal.nD Cert.EvenOutRefIdeal.τ).loc Cert.EvenOutRefIdeal.main_arg2) = m ((c.tc : Thread Cert.EvenOutRefIdeal.nD Cert.EvenOutRefIdeal.τ).loc Cert.EvenOutRefIdeal.main_arg2)
      ∧ r.2.mem ((c.tc : Thread Cert.EvenOutRefIdeal.nD Cert.EvenOutRefIdeal.τ).loc Cert.EvenOutRefIdeal.main_arg3) = m ((c.tc : Thread Cert.EvenOutRefIdeal.nD Cert.EvenOutRefIdeal.τ).loc Cert.EvenOutRefIdeal.main_arg3)
      ∧ r.2.mem ((c.tc : Thread Cert.EvenOutRefIdeal.nD Cert.EvenOutRefIdeal.τ).loc Cert.EvenOutRefIdeal.main_arg4) = m ((c.tc : Thread Cert.EvenOutRefIdeal.nD Cert.EvenOutRefIdeal.τ).loc Cert.EvenOutRefIdeal.main_arg4))
      ∧ r.2.sem = fun _ => 0)

def quiescent_OddOut [hOddOut : Cert.OddOut.Facts] : Prop :=
  ∀ (m : (ℓ : Loc Cert.OddOut.nD Cert.OddOut.τ Cert.OddOut.sig) → Buf (Elt Bits) ℓ) (g : Dev Cert.OddOut.nD → PrngReg), Pre_OddOut m →
    θ_run (Cert.OddOut.defs (F := Bits)) (onTc (τ := Cert.OddOut.τ) (Cert.OddOut.main (F := Bits))) ⟨m, fun _ => 0, g⟩ (fun r => (∀ c : Dev Cert.OddOut.nD,
      r.2.mem ((c.tc : Thread Cert.OddOut.nD Cert.OddOut.τ).loc Cert.OddOut.main_arg0) = m ((c.tc : Thread Cert.OddOut.nD Cert.OddOut.τ).loc Cert.OddOut.main_arg0)
      ∧ r.2.mem ((c.tc : Thread Cert.OddOut.nD Cert.OddOut.τ).loc Cert.OddOut.main_arg1) = m ((c.tc : Thread Cert.OddOut.nD Cert.OddOut.τ).loc Cert.OddOut.main_arg1)
      ∧ r.2.mem ((c.tc : Thread Cert.OddOut.nD Cert.OddOut.τ).loc Cert.OddOut.main_arg2) = m ((c.tc : Thread Cert.OddOut.nD Cert.OddOut.τ).loc Cert.OddOut.main_arg2)
      ∧ r.2.mem ((c.tc : Thread Cert.OddOut.nD Cert.OddOut.τ).loc Cert.OddOut.main_arg3) = m ((c.tc : Thread Cert.OddOut.nD Cert.OddOut.τ).loc Cert.OddOut.main_arg3))
      ∧ r.2.sem = fun _ => 0)

def quiescent_OddOutIdeal [hOddOutIdeal : Cert.OddOutIdeal.Facts] : Prop :=
  ∀ (m : (ℓ : Loc Cert.OddOutIdeal.nD Cert.OddOutIdeal.τ Cert.OddOutIdeal.sig) → Buf (Elt Ideal) ℓ) (g : Dev Cert.OddOutIdeal.nD → PrngReg), Pre_OddOutIdeal m →
    θ_run (Cert.OddOutIdeal.defs (F := Ideal)) (onTc (τ := Cert.OddOutIdeal.τ) (Cert.OddOutIdeal.main (F := Ideal))) ⟨m, fun _ => 0, g⟩ (fun r => (∀ c : Dev Cert.OddOutIdeal.nD,
      r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
      ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
      ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
      ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ r.2.sem = fun _ => 0)

def quiescent_OddOutRefIdeal [hOddOutRefIdeal : Cert.OddOutRefIdeal.Facts] : Prop :=
  ∀ (m : (ℓ : Loc Cert.OddOutRefIdeal.nD Cert.OddOutRefIdeal.τ Cert.OddOutRefIdeal.sig) → Buf (Elt Ideal) ℓ) (g : Dev Cert.OddOutRefIdeal.nD → PrngReg), Pre_OddOutRefIdeal m →
    θ_run (Cert.OddOutRefIdeal.defs (F := Ideal)) (onTc (τ := Cert.OddOutRefIdeal.τ) (Cert.OddOutRefIdeal.main (F := Ideal))) ⟨m, fun _ => 0, g⟩ (fun r => (∀ c : Dev Cert.OddOutRefIdeal.nD,
      r.2.mem ((c.tc : Thread Cert.OddOutRefIdeal.nD Cert.OddOutRefIdeal.τ).loc Cert.OddOutRefIdeal.main_arg0) = m ((c.tc : Thread Cert.OddOutRefIdeal.nD Cert.OddOutRefIdeal.τ).loc Cert.OddOutRefIdeal.main_arg0)
      ∧ r.2.mem ((c.tc : Thread Cert.OddOutRefIdeal.nD Cert.OddOutRefIdeal.τ).loc Cert.OddOutRefIdeal.main_arg1) = m ((c.tc : Thread Cert.OddOutRefIdeal.nD Cert.OddOutRefIdeal.τ).loc Cert.OddOutRefIdeal.main_arg1)
      ∧ r.2.mem ((c.tc : Thread Cert.OddOutRefIdeal.nD Cert.OddOutRefIdeal.τ).loc Cert.OddOutRefIdeal.main_arg2) = m ((c.tc : Thread Cert.OddOutRefIdeal.nD Cert.OddOutRefIdeal.τ).loc Cert.OddOutRefIdeal.main_arg2)
      ∧ r.2.mem ((c.tc : Thread Cert.OddOutRefIdeal.nD Cert.OddOutRefIdeal.τ).loc Cert.OddOutRefIdeal.main_arg3) = m ((c.tc : Thread Cert.OddOutRefIdeal.nD Cert.OddOutRefIdeal.τ).loc Cert.OddOutRefIdeal.main_arg3))
      ∧ r.2.sem = fun _ => 0)

def quiescent_Gdn [hGdn : Cert.Gdn.Facts] : Prop :=
  ∀ (m : (ℓ : Loc Cert.Gdn.nD Cert.Gdn.τ Cert.Gdn.sig) → Buf (Elt Bits) ℓ) (g : Dev Cert.Gdn.nD → PrngReg), Pre_Gdn m →
    θ_run (Cert.Gdn.defs (F := Bits)) (onTc (τ := Cert.Gdn.τ) (Cert.Gdn.main (F := Bits))) ⟨m, fun _ => 0, g⟩ (fun r => (∀ c : Dev Cert.Gdn.nD,
      r.2.mem ((c.tc : Thread Cert.Gdn.nD Cert.Gdn.τ).loc Cert.Gdn.main_arg0) = m ((c.tc : Thread Cert.Gdn.nD Cert.Gdn.τ).loc Cert.Gdn.main_arg0)
      ∧ r.2.mem ((c.tc : Thread Cert.Gdn.nD Cert.Gdn.τ).loc Cert.Gdn.main_arg1) = m ((c.tc : Thread Cert.Gdn.nD Cert.Gdn.τ).loc Cert.Gdn.main_arg1)
      ∧ r.2.mem ((c.tc : Thread Cert.Gdn.nD Cert.Gdn.τ).loc Cert.Gdn.main_arg2) = m ((c.tc : Thread Cert.Gdn.nD Cert.Gdn.τ).loc Cert.Gdn.main_arg2)
      ∧ r.2.mem ((c.tc : Thread Cert.Gdn.nD Cert.Gdn.τ).loc Cert.Gdn.main_arg3) = m ((c.tc : Thread Cert.Gdn.nD Cert.Gdn.τ).loc Cert.Gdn.main_arg3)
      ∧ r.2.mem ((c.tc : Thread Cert.Gdn.nD Cert.Gdn.τ).loc Cert.Gdn.main_arg4) = m ((c.tc : Thread Cert.Gdn.nD Cert.Gdn.τ).loc Cert.Gdn.main_arg4))
      ∧ r.2.sem = fun _ => 0)

def quiescent_GdnIdeal [hGdnIdeal : Cert.GdnIdeal.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ r.2.sem = fun _ => 0)

def quiescent_GdnIdeal_pre_finite_keys [hGdnIdeal : Cert.GdnIdeal.Facts] [hPre_finite_keys : Cert.Pre_finite_keys.Facts] : Prop :=
  ∀ (m : (ℓ : Loc Cert.GdnIdeal.nD Cert.GdnIdeal.τ Cert.GdnIdeal.sig) → Buf (Elt Ideal) ℓ) (g : Dev Cert.GdnIdeal.nD → PrngReg), Pre_GdnIdeal_finite_keys m →
    θ_run (Cert.GdnIdeal.defs (F := Ideal)) (onTc (τ := Cert.GdnIdeal.τ) (Cert.GdnIdeal.main (F := Ideal))) ⟨m, fun _ => 0, g⟩ (fun r => (∀ c : Dev Cert.GdnIdeal.nD,
      r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
      ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
      ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
      ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
      ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ r.2.sem = fun _ => 0)

def quiescent_GdnRefIdeal [hGdnRefIdeal : Cert.GdnRefIdeal.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4))
      ∧ r.2.sem = fun _ => 0)

def quiescent_GdnRefIdeal_pre_finite_keys [hGdnRefIdeal : Cert.GdnRefIdeal.Facts] [hPre_finite_keys : Cert.Pre_finite_keys.Facts] : Prop :=
  ∀ (m : (ℓ : Loc Cert.GdnRefIdeal.nD Cert.GdnRefIdeal.τ Cert.GdnRefIdeal.sig) → Buf (Elt Ideal) ℓ) (g : Dev Cert.GdnRefIdeal.nD → PrngReg), Pre_GdnRefIdeal_finite_keys m →
    θ_run (Cert.GdnRefIdeal.defs (F := Ideal)) (onTc (τ := Cert.GdnRefIdeal.τ) (Cert.GdnRefIdeal.main (F := Ideal))) ⟨m, fun _ => 0, g⟩ (fun r => (∀ c : Dev Cert.GdnRefIdeal.nD,
      r.2.mem ((c.tc : Thread Cert.GdnRefIdeal.nD Cert.GdnRefIdeal.τ).loc Cert.GdnRefIdeal.main_arg0) = m ((c.tc : Thread Cert.GdnRefIdeal.nD Cert.GdnRefIdeal.τ).loc Cert.GdnRefIdeal.main_arg0)
      ∧ r.2.mem ((c.tc : Thread Cert.GdnRefIdeal.nD Cert.GdnRefIdeal.τ).loc Cert.GdnRefIdeal.main_arg1) = m ((c.tc : Thread Cert.GdnRefIdeal.nD Cert.GdnRefIdeal.τ).loc Cert.GdnRefIdeal.main_arg1)
      ∧ r.2.mem ((c.tc : Thread Cert.GdnRefIdeal.nD Cert.GdnRefIdeal.τ).loc Cert.GdnRefIdeal.main_arg2) = m ((c.tc : Thread Cert.GdnRefIdeal.nD Cert.GdnRefIdeal.τ).loc Cert.GdnRefIdeal.main_arg2)
      ∧ r.2.mem ((c.tc : Thread Cert.GdnRefIdeal.nD Cert.GdnRefIdeal.τ).loc Cert.GdnRefIdeal.main_arg3) = m ((c.tc : Thread Cert.GdnRefIdeal.nD Cert.GdnRefIdeal.τ).loc Cert.GdnRefIdeal.main_arg3)
      ∧ r.2.mem ((c.tc : Thread Cert.GdnRefIdeal.nD Cert.GdnRefIdeal.τ).loc Cert.GdnRefIdeal.main_arg4) = m ((c.tc : Thread Cert.GdnRefIdeal.nD Cert.GdnRefIdeal.τ).loc Cert.GdnRefIdeal.main_arg4))
      ∧ r.2.sem = fun _ => 0)

def preserves_Swa_SwaIdeal : Prop :=
  True

def algebraic_SwaIdeal_SwaRefIdeal_pre_finite_scores [hSwaIdeal : Cert.SwaIdeal.Facts] [hSwaRefIdeal : Cert.SwaRefIdeal.Facts] [hPre_finite_scores : Cert.Pre_finite_scores.Facts] : Prop :=
  ∀ (m : (ℓ : Loc Cert.SwaIdeal.nD Cert.SwaIdeal.τ Cert.SwaIdeal.sig) → Buf (Elt Ideal) ℓ) (g : Dev Cert.SwaIdeal.nD → PrngReg)
    (m' : (ℓ : Loc Cert.SwaRefIdeal.nD Cert.SwaRefIdeal.τ Cert.SwaRefIdeal.sig) → Buf (Elt Ideal) ℓ) (g' : Dev Cert.SwaRefIdeal.nD → PrngReg), Pre_SwaIdeal_finite_scores m →
    (∀ c : Dev Cert.SwaIdeal.nD,
      m' ((c.tc : Thread Cert.SwaRefIdeal.nD Cert.SwaRefIdeal.τ).loc Cert.SwaRefIdeal.main_arg0) = m ((c.tc : Thread Cert.SwaIdeal.nD Cert.SwaIdeal.τ).loc Cert.SwaIdeal.main_arg0)
      ∧ m' ((c.tc : Thread Cert.SwaRefIdeal.nD Cert.SwaRefIdeal.τ).loc Cert.SwaRefIdeal.main_arg1) = m ((c.tc : Thread Cert.SwaIdeal.nD Cert.SwaIdeal.τ).loc Cert.SwaIdeal.main_arg1)
      ∧ m' ((c.tc : Thread Cert.SwaRefIdeal.nD Cert.SwaRefIdeal.τ).loc Cert.SwaRefIdeal.main_arg2) = m ((c.tc : Thread Cert.SwaIdeal.nD Cert.SwaIdeal.τ).loc Cert.SwaIdeal.main_arg2)) →
    ∃ (v0 : (c : Dev Cert.SwaIdeal.nD) → Buf (Elt Ideal) ((c.tc : Thread Cert.SwaIdeal.nD Cert.SwaIdeal.τ).loc Cert.SwaIdeal.main_v0)),
      θ_run (Cert.SwaIdeal.defs (F := Ideal)) (onTc (τ := Cert.SwaIdeal.τ) (Cert.SwaIdeal.main (F := Ideal))) ⟨m, fun _ => 0, g⟩ (fun r => ∀ c : Dev Cert.SwaIdeal.nD,
          r.2.mem ((c.tc : Thread Cert.SwaIdeal.nD Cert.SwaIdeal.τ).loc Cert.SwaIdeal.main_v0) = v0 c
          ∧ r.2.mem ((c.tc : Thread Cert.SwaIdeal.nD Cert.SwaIdeal.τ).loc Cert.SwaIdeal.main_arg0) = m ((c.tc : Thread Cert.SwaIdeal.nD Cert.SwaIdeal.τ).loc Cert.SwaIdeal.main_arg0)
          ∧ r.2.mem ((c.tc : Thread Cert.SwaIdeal.nD Cert.SwaIdeal.τ).loc Cert.SwaIdeal.main_arg1) = m ((c.tc : Thread Cert.SwaIdeal.nD Cert.SwaIdeal.τ).loc Cert.SwaIdeal.main_arg1)
          ∧ r.2.mem ((c.tc : Thread Cert.SwaIdeal.nD Cert.SwaIdeal.τ).loc Cert.SwaIdeal.main_arg2) = m ((c.tc : Thread Cert.SwaIdeal.nD Cert.SwaIdeal.τ).loc Cert.SwaIdeal.main_arg2))
      ∧ θ_run (Cert.SwaRefIdeal.defs (F := Ideal)) (onTc (τ := Cert.SwaRefIdeal.τ) (Cert.SwaRefIdeal.main (F := Ideal))) ⟨m', fun _ => 0, g'⟩ (fun r => ∀ c : Dev Cert.SwaRefIdeal.nD,
          r.2.mem ((c.tc : Thread Cert.SwaRefIdeal.nD Cert.SwaRefIdeal.τ).loc Cert.SwaRefIdeal.main_v51) = v0 c
          ∧ r.2.mem ((c.tc : Thread Cert.SwaRefIdeal.nD Cert.SwaRefIdeal.τ).loc Cert.SwaRefIdeal.main_arg0) = m' ((c.tc : Thread Cert.SwaRefIdeal.nD Cert.SwaRefIdeal.τ).loc Cert.SwaRefIdeal.main_arg0)
          ∧ r.2.mem ((c.tc : Thread Cert.SwaRefIdeal.nD Cert.SwaRefIdeal.τ).loc Cert.SwaRefIdeal.main_arg1) = m' ((c.tc : Thread Cert.SwaRefIdeal.nD Cert.SwaRefIdeal.τ).loc Cert.SwaRefIdeal.main_arg1)
          ∧ r.2.mem ((c.tc : Thread Cert.SwaRefIdeal.nD Cert.SwaRefIdeal.τ).loc Cert.SwaRefIdeal.main_arg2) = m' ((c.tc : Thread Cert.SwaRefIdeal.nD Cert.SwaRefIdeal.τ).loc Cert.SwaRefIdeal.main_arg2))

def preserves_EvenIn_EvenInIdeal : Prop :=
  True

def algebraic_EvenInIdeal_EvenInRefIdeal [hEvenInIdeal : Cert.EvenInIdeal.Facts] [hEvenInRefIdeal : Cert.EvenInRefIdeal.Facts] : Prop :=
  ∀ (m : (ℓ : Loc Cert.EvenInIdeal.nD Cert.EvenInIdeal.τ Cert.EvenInIdeal.sig) → Buf (Elt Ideal) ℓ) (g : Dev Cert.EvenInIdeal.nD → PrngReg)
    (m' : (ℓ : Loc Cert.EvenInRefIdeal.nD Cert.EvenInRefIdeal.τ Cert.EvenInRefIdeal.sig) → Buf (Elt Ideal) ℓ) (g' : Dev Cert.EvenInRefIdeal.nD → PrngReg), Pre_EvenInIdeal m →
    (∀ c : Dev Cert.EvenInIdeal.nD,
      m' ((c.tc : Thread Cert.EvenInRefIdeal.nD Cert.EvenInRefIdeal.τ).loc Cert.EvenInRefIdeal.main_arg0) = m ((c.tc : Thread Cert.EvenInIdeal.nD Cert.EvenInIdeal.τ).loc Cert.EvenInIdeal.main_arg0)
      ∧ m' ((c.tc : Thread Cert.EvenInRefIdeal.nD Cert.EvenInRefIdeal.τ).loc Cert.EvenInRefIdeal.main_arg1) = m ((c.tc : Thread Cert.EvenInIdeal.nD Cert.EvenInIdeal.τ).loc Cert.EvenInIdeal.main_arg1)
      ∧ m' ((c.tc : Thread Cert.EvenInRefIdeal.nD Cert.EvenInRefIdeal.τ).loc Cert.EvenInRefIdeal.main_arg2) = m ((c.tc : Thread Cert.EvenInIdeal.nD Cert.EvenInIdeal.τ).loc Cert.EvenInIdeal.main_arg2)
      ∧ m' ((c.tc : Thread Cert.EvenInRefIdeal.nD Cert.EvenInRefIdeal.τ).loc Cert.EvenInRefIdeal.main_arg3) = m ((c.tc : Thread Cert.EvenInIdeal.nD Cert.EvenInIdeal.τ).loc Cert.EvenInIdeal.main_arg3)
      ∧ m' ((c.tc : Thread Cert.EvenInRefIdeal.nD Cert.EvenInRefIdeal.τ).loc Cert.EvenInRefIdeal.main_arg4) = m ((c.tc : Thread Cert.EvenInIdeal.nD Cert.EvenInIdeal.τ).loc Cert.EvenInIdeal.main_arg4)) →
    ∃ (v0 : (c : Dev Cert.EvenInIdeal.nD) → Buf (Elt Ideal) ((c.tc : Thread Cert.EvenInIdeal.nD Cert.EvenInIdeal.τ).loc Cert.EvenInIdeal.main_v16)),
      θ_run (Cert.EvenInIdeal.defs (F := Ideal)) (onTc (τ := Cert.EvenInIdeal.τ) (Cert.EvenInIdeal.main (F := Ideal))) ⟨m, fun _ => 0, g⟩ (fun r => ∀ c : Dev Cert.EvenInIdeal.nD,
          r.2.mem ((c.tc : Thread Cert.EvenInIdeal.nD Cert.EvenInIdeal.τ).loc Cert.EvenInIdeal.main_v16) = v0 c
          ∧ r.2.mem ((c.tc : Thread Cert.EvenInIdeal.nD Cert.EvenInIdeal.τ).loc Cert.EvenInIdeal.main_arg0) = m ((c.tc : Thread Cert.EvenInIdeal.nD Cert.EvenInIdeal.τ).loc Cert.EvenInIdeal.main_arg0)
          ∧ r.2.mem ((c.tc : Thread Cert.EvenInIdeal.nD Cert.EvenInIdeal.τ).loc Cert.EvenInIdeal.main_arg1) = m ((c.tc : Thread Cert.EvenInIdeal.nD Cert.EvenInIdeal.τ).loc Cert.EvenInIdeal.main_arg1)
          ∧ r.2.mem ((c.tc : Thread Cert.EvenInIdeal.nD Cert.EvenInIdeal.τ).loc Cert.EvenInIdeal.main_arg2) = m ((c.tc : Thread Cert.EvenInIdeal.nD Cert.EvenInIdeal.τ).loc Cert.EvenInIdeal.main_arg2)
          ∧ r.2.mem ((c.tc : Thread Cert.EvenInIdeal.nD Cert.EvenInIdeal.τ).loc Cert.EvenInIdeal.main_arg3) = m ((c.tc : Thread Cert.EvenInIdeal.nD Cert.EvenInIdeal.τ).loc Cert.EvenInIdeal.main_arg3)
          ∧ r.2.mem ((c.tc : Thread Cert.EvenInIdeal.nD Cert.EvenInIdeal.τ).loc Cert.EvenInIdeal.main_arg4) = m ((c.tc : Thread Cert.EvenInIdeal.nD Cert.EvenInIdeal.τ).loc Cert.EvenInIdeal.main_arg4))
      ∧ θ_run (Cert.EvenInRefIdeal.defs (F := Ideal)) (onTc (τ := Cert.EvenInRefIdeal.τ) (Cert.EvenInRefIdeal.main (F := Ideal))) ⟨m', fun _ => 0, g'⟩ (fun r => ∀ c : Dev Cert.EvenInRefIdeal.nD,
          r.2.mem ((c.tc : Thread Cert.EvenInRefIdeal.nD Cert.EvenInRefIdeal.τ).loc Cert.EvenInRefIdeal.main_v32) = v0 c
          ∧ r.2.mem ((c.tc : Thread Cert.EvenInRefIdeal.nD Cert.EvenInRefIdeal.τ).loc Cert.EvenInRefIdeal.main_arg0) = m' ((c.tc : Thread Cert.EvenInRefIdeal.nD Cert.EvenInRefIdeal.τ).loc Cert.EvenInRefIdeal.main_arg0)
          ∧ r.2.mem ((c.tc : Thread Cert.EvenInRefIdeal.nD Cert.EvenInRefIdeal.τ).loc Cert.EvenInRefIdeal.main_arg1) = m' ((c.tc : Thread Cert.EvenInRefIdeal.nD Cert.EvenInRefIdeal.τ).loc Cert.EvenInRefIdeal.main_arg1)
          ∧ r.2.mem ((c.tc : Thread Cert.EvenInRefIdeal.nD Cert.EvenInRefIdeal.τ).loc Cert.EvenInRefIdeal.main_arg2) = m' ((c.tc : Thread Cert.EvenInRefIdeal.nD Cert.EvenInRefIdeal.τ).loc Cert.EvenInRefIdeal.main_arg2)
          ∧ r.2.mem ((c.tc : Thread Cert.EvenInRefIdeal.nD Cert.EvenInRefIdeal.τ).loc Cert.EvenInRefIdeal.main_arg3) = m' ((c.tc : Thread Cert.EvenInRefIdeal.nD Cert.EvenInRefIdeal.τ).loc Cert.EvenInRefIdeal.main_arg3)
          ∧ r.2.mem ((c.tc : Thread Cert.EvenInRefIdeal.nD Cert.EvenInRefIdeal.τ).loc Cert.EvenInRefIdeal.main_arg4) = m' ((c.tc : Thread Cert.EvenInRefIdeal.nD Cert.EvenInRefIdeal.τ).loc Cert.EvenInRefIdeal.main_arg4))

def preserves_OddIn_OddInIdeal : Prop :=
  True

def algebraic_OddInIdeal_OddInRefIdeal [hOddInIdeal : Cert.OddInIdeal.Facts] [hOddInRefIdeal : Cert.OddInRefIdeal.Facts] : Prop :=
  ∀ (m : (ℓ : Loc Cert.OddInIdeal.nD Cert.OddInIdeal.τ Cert.OddInIdeal.sig) → Buf (Elt Ideal) ℓ) (g : Dev Cert.OddInIdeal.nD → PrngReg)
    (m' : (ℓ : Loc Cert.OddInRefIdeal.nD Cert.OddInRefIdeal.τ Cert.OddInRefIdeal.sig) → Buf (Elt Ideal) ℓ) (g' : Dev Cert.OddInRefIdeal.nD → PrngReg), Pre_OddInIdeal m →
    (∀ c : Dev Cert.OddInIdeal.nD,
      m' ((c.tc : Thread Cert.OddInRefIdeal.nD Cert.OddInRefIdeal.τ).loc Cert.OddInRefIdeal.main_arg0) = m ((c.tc : Thread Cert.OddInIdeal.nD Cert.OddInIdeal.τ).loc Cert.OddInIdeal.main_arg0)
      ∧ m' ((c.tc : Thread Cert.OddInRefIdeal.nD Cert.OddInRefIdeal.τ).loc Cert.OddInRefIdeal.main_arg1) = m ((c.tc : Thread Cert.OddInIdeal.nD Cert.OddInIdeal.τ).loc Cert.OddInIdeal.main_arg1)
      ∧ m' ((c.tc : Thread Cert.OddInRefIdeal.nD Cert.OddInRefIdeal.τ).loc Cert.OddInRefIdeal.main_arg2) = m ((c.tc : Thread Cert.OddInIdeal.nD Cert.OddInIdeal.τ).loc Cert.OddInIdeal.main_arg2)
      ∧ m' ((c.tc : Thread Cert.OddInRefIdeal.nD Cert.OddInRefIdeal.τ).loc Cert.OddInRefIdeal.main_arg3) = m ((c.tc : Thread Cert.OddInIdeal.nD Cert.OddInIdeal.τ).loc Cert.OddInIdeal.main_arg3)
      ∧ m' ((c.tc : Thread Cert.OddInRefIdeal.nD Cert.OddInRefIdeal.τ).loc Cert.OddInRefIdeal.main_arg4) = m ((c.tc : Thread Cert.OddInIdeal.nD Cert.OddInIdeal.τ).loc Cert.OddInIdeal.main_arg4)) →
    ∃ (v0 : (c : Dev Cert.OddInIdeal.nD) → Buf (Elt Ideal) ((c.tc : Thread Cert.OddInIdeal.nD Cert.OddInIdeal.τ).loc Cert.OddInIdeal.main_v46)),
      θ_run (Cert.OddInIdeal.defs (F := Ideal)) (onTc (τ := Cert.OddInIdeal.τ) (Cert.OddInIdeal.main (F := Ideal))) ⟨m, fun _ => 0, g⟩ (fun r => ∀ c : Dev Cert.OddInIdeal.nD,
          r.2.mem ((c.tc : Thread Cert.OddInIdeal.nD Cert.OddInIdeal.τ).loc Cert.OddInIdeal.main_v46) = v0 c
          ∧ r.2.mem ((c.tc : Thread Cert.OddInIdeal.nD Cert.OddInIdeal.τ).loc Cert.OddInIdeal.main_arg0) = m ((c.tc : Thread Cert.OddInIdeal.nD Cert.OddInIdeal.τ).loc Cert.OddInIdeal.main_arg0)
          ∧ r.2.mem ((c.tc : Thread Cert.OddInIdeal.nD Cert.OddInIdeal.τ).loc Cert.OddInIdeal.main_arg1) = m ((c.tc : Thread Cert.OddInIdeal.nD Cert.OddInIdeal.τ).loc Cert.OddInIdeal.main_arg1)
          ∧ r.2.mem ((c.tc : Thread Cert.OddInIdeal.nD Cert.OddInIdeal.τ).loc Cert.OddInIdeal.main_arg2) = m ((c.tc : Thread Cert.OddInIdeal.nD Cert.OddInIdeal.τ).loc Cert.OddInIdeal.main_arg2)
          ∧ r.2.mem ((c.tc : Thread Cert.OddInIdeal.nD Cert.OddInIdeal.τ).loc Cert.OddInIdeal.main_arg3) = m ((c.tc : Thread Cert.OddInIdeal.nD Cert.OddInIdeal.τ).loc Cert.OddInIdeal.main_arg3)
          ∧ r.2.mem ((c.tc : Thread Cert.OddInIdeal.nD Cert.OddInIdeal.τ).loc Cert.OddInIdeal.main_arg4) = m ((c.tc : Thread Cert.OddInIdeal.nD Cert.OddInIdeal.τ).loc Cert.OddInIdeal.main_arg4))
      ∧ θ_run (Cert.OddInRefIdeal.defs (F := Ideal)) (onTc (τ := Cert.OddInRefIdeal.τ) (Cert.OddInRefIdeal.main (F := Ideal))) ⟨m', fun _ => 0, g'⟩ (fun r => ∀ c : Dev Cert.OddInRefIdeal.nD,
          r.2.mem ((c.tc : Thread Cert.OddInRefIdeal.nD Cert.OddInRefIdeal.τ).loc Cert.OddInRefIdeal.main_v144) = v0 c
          ∧ r.2.mem ((c.tc : Thread Cert.OddInRefIdeal.nD Cert.OddInRefIdeal.τ).loc Cert.OddInRefIdeal.main_arg0) = m' ((c.tc : Thread Cert.OddInRefIdeal.nD Cert.OddInRefIdeal.τ).loc Cert.OddInRefIdeal.main_arg0)
          ∧ r.2.mem ((c.tc : Thread Cert.OddInRefIdeal.nD Cert.OddInRefIdeal.τ).loc Cert.OddInRefIdeal.main_arg1) = m' ((c.tc : Thread Cert.OddInRefIdeal.nD Cert.OddInRefIdeal.τ).loc Cert.OddInRefIdeal.main_arg1)
          ∧ r.2.mem ((c.tc : Thread Cert.OddInRefIdeal.nD Cert.OddInRefIdeal.τ).loc Cert.OddInRefIdeal.main_arg2) = m' ((c.tc : Thread Cert.OddInRefIdeal.nD Cert.OddInRefIdeal.τ).loc Cert.OddInRefIdeal.main_arg2)
          ∧ r.2.mem ((c.tc : Thread Cert.OddInRefIdeal.nD Cert.OddInRefIdeal.τ).loc Cert.OddInRefIdeal.main_arg3) = m' ((c.tc : Thread Cert.OddInRefIdeal.nD Cert.OddInRefIdeal.τ).loc Cert.OddInRefIdeal.main_arg3)
          ∧ r.2.mem ((c.tc : Thread Cert.OddInRefIdeal.nD Cert.OddInRefIdeal.τ).loc Cert.OddInRefIdeal.main_arg4) = m' ((c.tc : Thread Cert.OddInRefIdeal.nD Cert.OddInRefIdeal.τ).loc Cert.OddInRefIdeal.main_arg4))

def preserves_Query_QueryIdeal : Prop :=
  True

def algebraic_QueryIdeal_QueryRefIdeal [hQueryIdeal : Cert.QueryIdeal.Facts] [hQueryRefIdeal : Cert.QueryRefIdeal.Facts] : Prop :=
  ∀ (m : (ℓ : Loc Cert.QueryIdeal.nD Cert.QueryIdeal.τ Cert.QueryIdeal.sig) → Buf (Elt Ideal) ℓ) (g : Dev Cert.QueryIdeal.nD → PrngReg)
    (m' : (ℓ : Loc Cert.QueryRefIdeal.nD Cert.QueryRefIdeal.τ Cert.QueryRefIdeal.sig) → Buf (Elt Ideal) ℓ) (g' : Dev Cert.QueryRefIdeal.nD → PrngReg), Pre_QueryIdeal m →
    (∀ c : Dev Cert.QueryIdeal.nD,
      m' ((c.tc : Thread Cert.QueryRefIdeal.nD Cert.QueryRefIdeal.τ).loc Cert.QueryRefIdeal.main_arg0) = m ((c.tc : Thread Cert.QueryIdeal.nD Cert.QueryIdeal.τ).loc Cert.QueryIdeal.main_arg0)
      ∧ m' ((c.tc : Thread Cert.QueryRefIdeal.nD Cert.QueryRefIdeal.τ).loc Cert.QueryRefIdeal.main_arg1) = m ((c.tc : Thread Cert.QueryIdeal.nD Cert.QueryIdeal.τ).loc Cert.QueryIdeal.main_arg1)
      ∧ m' ((c.tc : Thread Cert.QueryRefIdeal.nD Cert.QueryRefIdeal.τ).loc Cert.QueryRefIdeal.main_arg2) = m ((c.tc : Thread Cert.QueryIdeal.nD Cert.QueryIdeal.τ).loc Cert.QueryIdeal.main_arg2)
      ∧ m' ((c.tc : Thread Cert.QueryRefIdeal.nD Cert.QueryRefIdeal.τ).loc Cert.QueryRefIdeal.main_arg3) = m ((c.tc : Thread Cert.QueryIdeal.nD Cert.QueryIdeal.τ).loc Cert.QueryIdeal.main_arg3)
      ∧ m' ((c.tc : Thread Cert.QueryRefIdeal.nD Cert.QueryRefIdeal.τ).loc Cert.QueryRefIdeal.main_arg4) = m ((c.tc : Thread Cert.QueryIdeal.nD Cert.QueryIdeal.τ).loc Cert.QueryIdeal.main_arg4)) →
    ∃ (v0 : (c : Dev Cert.QueryIdeal.nD) → Buf (Elt Ideal) ((c.tc : Thread Cert.QueryIdeal.nD Cert.QueryIdeal.τ).loc Cert.QueryIdeal.main_v4_0)) (v1 : (c : Dev Cert.QueryIdeal.nD) → Buf (Elt Ideal) ((c.tc : Thread Cert.QueryIdeal.nD Cert.QueryIdeal.τ).loc Cert.QueryIdeal.main_v4_1)),
      θ_run (Cert.QueryIdeal.defs (F := Ideal)) (onTc (τ := Cert.QueryIdeal.τ) (Cert.QueryIdeal.main (F := Ideal))) ⟨m, fun _ => 0, g⟩ (fun r => ∀ c : Dev Cert.QueryIdeal.nD,
          r.2.mem ((c.tc : Thread Cert.QueryIdeal.nD Cert.QueryIdeal.τ).loc Cert.QueryIdeal.main_v4_0) = v0 c
          ∧ r.2.mem ((c.tc : Thread Cert.QueryIdeal.nD Cert.QueryIdeal.τ).loc Cert.QueryIdeal.main_v4_1) = v1 c
          ∧ r.2.mem ((c.tc : Thread Cert.QueryIdeal.nD Cert.QueryIdeal.τ).loc Cert.QueryIdeal.main_arg0) = m ((c.tc : Thread Cert.QueryIdeal.nD Cert.QueryIdeal.τ).loc Cert.QueryIdeal.main_arg0)
          ∧ r.2.mem ((c.tc : Thread Cert.QueryIdeal.nD Cert.QueryIdeal.τ).loc Cert.QueryIdeal.main_arg1) = m ((c.tc : Thread Cert.QueryIdeal.nD Cert.QueryIdeal.τ).loc Cert.QueryIdeal.main_arg1)
          ∧ r.2.mem ((c.tc : Thread Cert.QueryIdeal.nD Cert.QueryIdeal.τ).loc Cert.QueryIdeal.main_arg2) = m ((c.tc : Thread Cert.QueryIdeal.nD Cert.QueryIdeal.τ).loc Cert.QueryIdeal.main_arg2)
          ∧ r.2.mem ((c.tc : Thread Cert.QueryIdeal.nD Cert.QueryIdeal.τ).loc Cert.QueryIdeal.main_arg3) = m ((c.tc : Thread Cert.QueryIdeal.nD Cert.QueryIdeal.τ).loc Cert.QueryIdeal.main_arg3)
          ∧ r.2.mem ((c.tc : Thread Cert.QueryIdeal.nD Cert.QueryIdeal.τ).loc Cert.QueryIdeal.main_arg4) = m ((c.tc : Thread Cert.QueryIdeal.nD Cert.QueryIdeal.τ).loc Cert.QueryIdeal.main_arg4))
      ∧ θ_run (Cert.QueryRefIdeal.defs (F := Ideal)) (onTc (τ := Cert.QueryRefIdeal.τ) (Cert.QueryRefIdeal.main (F := Ideal))) ⟨m', fun _ => 0, g'⟩ (fun r => ∀ c : Dev Cert.QueryRefIdeal.nD,
          r.2.mem ((c.tc : Thread Cert.QueryRefIdeal.nD Cert.QueryRefIdeal.τ).loc Cert.QueryRefIdeal.main_v21) = v0 c
          ∧ r.2.mem ((c.tc : Thread Cert.QueryRefIdeal.nD Cert.QueryRefIdeal.τ).loc Cert.QueryRefIdeal.main_v22) = v1 c
          ∧ r.2.mem ((c.tc : Thread Cert.QueryRefIdeal.nD Cert.QueryRefIdeal.τ).loc Cert.QueryRefIdeal.main_arg0) = m' ((c.tc : Thread Cert.QueryRefIdeal.nD Cert.QueryRefIdeal.τ).loc Cert.QueryRefIdeal.main_arg0)
          ∧ r.2.mem ((c.tc : Thread Cert.QueryRefIdeal.nD Cert.QueryRefIdeal.τ).loc Cert.QueryRefIdeal.main_arg1) = m' ((c.tc : Thread Cert.QueryRefIdeal.nD Cert.QueryRefIdeal.τ).loc Cert.QueryRefIdeal.main_arg1)
          ∧ r.2.mem ((c.tc : Thread Cert.QueryRefIdeal.nD Cert.QueryRefIdeal.τ).loc Cert.QueryRefIdeal.main_arg2) = m' ((c.tc : Thread Cert.QueryRefIdeal.nD Cert.QueryRefIdeal.τ).loc Cert.QueryRefIdeal.main_arg2)
          ∧ r.2.mem ((c.tc : Thread Cert.QueryRefIdeal.nD Cert.QueryRefIdeal.τ).loc Cert.QueryRefIdeal.main_arg3) = m' ((c.tc : Thread Cert.QueryRefIdeal.nD Cert.QueryRefIdeal.τ).loc Cert.QueryRefIdeal.main_arg3)
          ∧ r.2.mem ((c.tc : Thread Cert.QueryRefIdeal.nD Cert.QueryRefIdeal.τ).loc Cert.QueryRefIdeal.main_arg4) = m' ((c.tc : Thread Cert.QueryRefIdeal.nD Cert.QueryRefIdeal.τ).loc Cert.QueryRefIdeal.main_arg4))

def preserves_EvenOut_EvenOutIdeal : Prop :=
  True

def algebraic_EvenOutIdeal_EvenOutRefIdeal [hEvenOutIdeal : Cert.EvenOutIdeal.Facts] [hEvenOutRefIdeal : Cert.EvenOutRefIdeal.Facts] : Prop :=
  ∀ (m : (ℓ : Loc Cert.EvenOutIdeal.nD Cert.EvenOutIdeal.τ Cert.EvenOutIdeal.sig) → Buf (Elt Ideal) ℓ) (g : Dev Cert.EvenOutIdeal.nD → PrngReg)
    (m' : (ℓ : Loc Cert.EvenOutRefIdeal.nD Cert.EvenOutRefIdeal.τ Cert.EvenOutRefIdeal.sig) → Buf (Elt Ideal) ℓ) (g' : Dev Cert.EvenOutRefIdeal.nD → PrngReg), Pre_EvenOutIdeal m →
    (∀ c : Dev Cert.EvenOutIdeal.nD,
      m' ((c.tc : Thread Cert.EvenOutRefIdeal.nD Cert.EvenOutRefIdeal.τ).loc Cert.EvenOutRefIdeal.main_arg0) = m ((c.tc : Thread Cert.EvenOutIdeal.nD Cert.EvenOutIdeal.τ).loc Cert.EvenOutIdeal.main_arg0)
      ∧ m' ((c.tc : Thread Cert.EvenOutRefIdeal.nD Cert.EvenOutRefIdeal.τ).loc Cert.EvenOutRefIdeal.main_arg1) = m ((c.tc : Thread Cert.EvenOutIdeal.nD Cert.EvenOutIdeal.τ).loc Cert.EvenOutIdeal.main_arg1)
      ∧ m' ((c.tc : Thread Cert.EvenOutRefIdeal.nD Cert.EvenOutRefIdeal.τ).loc Cert.EvenOutRefIdeal.main_arg2) = m ((c.tc : Thread Cert.EvenOutIdeal.nD Cert.EvenOutIdeal.τ).loc Cert.EvenOutIdeal.main_arg2)
      ∧ m' ((c.tc : Thread Cert.EvenOutRefIdeal.nD Cert.EvenOutRefIdeal.τ).loc Cert.EvenOutRefIdeal.main_arg3) = m ((c.tc : Thread Cert.EvenOutIdeal.nD Cert.EvenOutIdeal.τ).loc Cert.EvenOutIdeal.main_arg3)
      ∧ m' ((c.tc : Thread Cert.EvenOutRefIdeal.nD Cert.EvenOutRefIdeal.τ).loc Cert.EvenOutRefIdeal.main_arg4) = m ((c.tc : Thread Cert.EvenOutIdeal.nD Cert.EvenOutIdeal.τ).loc Cert.EvenOutIdeal.main_arg4)) →
    ∃ (v0 : (c : Dev Cert.EvenOutIdeal.nD) → Buf (Elt Ideal) ((c.tc : Thread Cert.EvenOutIdeal.nD Cert.EvenOutIdeal.τ).loc Cert.EvenOutIdeal.main_v4)),
      θ_run (Cert.EvenOutIdeal.defs (F := Ideal)) (onTc (τ := Cert.EvenOutIdeal.τ) (Cert.EvenOutIdeal.main (F := Ideal))) ⟨m, fun _ => 0, g⟩ (fun r => ∀ c : Dev Cert.EvenOutIdeal.nD,
          r.2.mem ((c.tc : Thread Cert.EvenOutIdeal.nD Cert.EvenOutIdeal.τ).loc Cert.EvenOutIdeal.main_v4) = v0 c
          ∧ r.2.mem ((c.tc : Thread Cert.EvenOutIdeal.nD Cert.EvenOutIdeal.τ).loc Cert.EvenOutIdeal.main_arg0) = m ((c.tc : Thread Cert.EvenOutIdeal.nD Cert.EvenOutIdeal.τ).loc Cert.EvenOutIdeal.main_arg0)
          ∧ r.2.mem ((c.tc : Thread Cert.EvenOutIdeal.nD Cert.EvenOutIdeal.τ).loc Cert.EvenOutIdeal.main_arg1) = m ((c.tc : Thread Cert.EvenOutIdeal.nD Cert.EvenOutIdeal.τ).loc Cert.EvenOutIdeal.main_arg1)
          ∧ r.2.mem ((c.tc : Thread Cert.EvenOutIdeal.nD Cert.EvenOutIdeal.τ).loc Cert.EvenOutIdeal.main_arg2) = m ((c.tc : Thread Cert.EvenOutIdeal.nD Cert.EvenOutIdeal.τ).loc Cert.EvenOutIdeal.main_arg2)
          ∧ r.2.mem ((c.tc : Thread Cert.EvenOutIdeal.nD Cert.EvenOutIdeal.τ).loc Cert.EvenOutIdeal.main_arg3) = m ((c.tc : Thread Cert.EvenOutIdeal.nD Cert.EvenOutIdeal.τ).loc Cert.EvenOutIdeal.main_arg3)
          ∧ r.2.mem ((c.tc : Thread Cert.EvenOutIdeal.nD Cert.EvenOutIdeal.τ).loc Cert.EvenOutIdeal.main_arg4) = m ((c.tc : Thread Cert.EvenOutIdeal.nD Cert.EvenOutIdeal.τ).loc Cert.EvenOutIdeal.main_arg4))
      ∧ θ_run (Cert.EvenOutRefIdeal.defs (F := Ideal)) (onTc (τ := Cert.EvenOutRefIdeal.τ) (Cert.EvenOutRefIdeal.main (F := Ideal))) ⟨m', fun _ => 0, g'⟩ (fun r => ∀ c : Dev Cert.EvenOutRefIdeal.nD,
          r.2.mem ((c.tc : Thread Cert.EvenOutRefIdeal.nD Cert.EvenOutRefIdeal.τ).loc Cert.EvenOutRefIdeal.main_v6) = v0 c
          ∧ r.2.mem ((c.tc : Thread Cert.EvenOutRefIdeal.nD Cert.EvenOutRefIdeal.τ).loc Cert.EvenOutRefIdeal.main_arg0) = m' ((c.tc : Thread Cert.EvenOutRefIdeal.nD Cert.EvenOutRefIdeal.τ).loc Cert.EvenOutRefIdeal.main_arg0)
          ∧ r.2.mem ((c.tc : Thread Cert.EvenOutRefIdeal.nD Cert.EvenOutRefIdeal.τ).loc Cert.EvenOutRefIdeal.main_arg1) = m' ((c.tc : Thread Cert.EvenOutRefIdeal.nD Cert.EvenOutRefIdeal.τ).loc Cert.EvenOutRefIdeal.main_arg1)
          ∧ r.2.mem ((c.tc : Thread Cert.EvenOutRefIdeal.nD Cert.EvenOutRefIdeal.τ).loc Cert.EvenOutRefIdeal.main_arg2) = m' ((c.tc : Thread Cert.EvenOutRefIdeal.nD Cert.EvenOutRefIdeal.τ).loc Cert.EvenOutRefIdeal.main_arg2)
          ∧ r.2.mem ((c.tc : Thread Cert.EvenOutRefIdeal.nD Cert.EvenOutRefIdeal.τ).loc Cert.EvenOutRefIdeal.main_arg3) = m' ((c.tc : Thread Cert.EvenOutRefIdeal.nD Cert.EvenOutRefIdeal.τ).loc Cert.EvenOutRefIdeal.main_arg3)
          ∧ r.2.mem ((c.tc : Thread Cert.EvenOutRefIdeal.nD Cert.EvenOutRefIdeal.τ).loc Cert.EvenOutRefIdeal.main_arg4) = m' ((c.tc : Thread Cert.EvenOutRefIdeal.nD Cert.EvenOutRefIdeal.τ).loc Cert.EvenOutRefIdeal.main_arg4))

def preserves_OddOut_OddOutIdeal : Prop :=
  True

def algebraic_OddOutIdeal_OddOutRefIdeal [hOddOutIdeal : Cert.OddOutIdeal.Facts] [hOddOutRefIdeal : Cert.OddOutRefIdeal.Facts] : Prop :=
  ∀ (m : (ℓ : Loc Cert.OddOutIdeal.nD Cert.OddOutIdeal.τ Cert.OddOutIdeal.sig) → Buf (Elt Ideal) ℓ) (g : Dev Cert.OddOutIdeal.nD → PrngReg)
    (m' : (ℓ : Loc Cert.OddOutRefIdeal.nD Cert.OddOutRefIdeal.τ Cert.OddOutRefIdeal.sig) → Buf (Elt Ideal) ℓ) (g' : Dev Cert.OddOutRefIdeal.nD → PrngReg), Pre_OddOutIdeal m →
    (∀ c : Dev Cert.OddOutIdeal.nD,
      m' ((c.tc : Thread Cert.OddOutRefIdeal.nD Cert.OddOutRefIdeal.τ).loc Cert.OddOutRefIdeal.main_arg0) = m ((c.tc : Thread Cert.OddOutIdeal.nD Cert.OddOutIdeal.τ).loc Cert.OddOutIdeal.main_arg0)
      ∧ m' ((c.tc : Thread Cert.OddOutRefIdeal.nD Cert.OddOutRefIdeal.τ).loc Cert.OddOutRefIdeal.main_arg1) = m ((c.tc : Thread Cert.OddOutIdeal.nD Cert.OddOutIdeal.τ).loc Cert.OddOutIdeal.main_arg1)
      ∧ m' ((c.tc : Thread Cert.OddOutRefIdeal.nD Cert.OddOutRefIdeal.τ).loc Cert.OddOutRefIdeal.main_arg2) = m ((c.tc : Thread Cert.OddOutIdeal.nD Cert.OddOutIdeal.τ).loc Cert.OddOutIdeal.main_arg2)
      ∧ m' ((c.tc : Thread Cert.OddOutRefIdeal.nD Cert.OddOutRefIdeal.τ).loc Cert.OddOutRefIdeal.main_arg3) = m ((c.tc : Thread Cert.OddOutIdeal.nD Cert.OddOutIdeal.τ).loc Cert.OddOutIdeal.main_arg3)) →
    ∃ (v0 : (c : Dev Cert.OddOutIdeal.nD) → Buf (Elt Ideal) ((c.tc : Thread Cert.OddOutIdeal.nD Cert.OddOutIdeal.τ).loc Cert.OddOutIdeal.main_v2)),
      θ_run (Cert.OddOutIdeal.defs (F := Ideal)) (onTc (τ := Cert.OddOutIdeal.τ) (Cert.OddOutIdeal.main (F := Ideal))) ⟨m, fun _ => 0, g⟩ (fun r => ∀ c : Dev Cert.OddOutIdeal.nD,
          r.2.mem ((c.tc : Thread Cert.OddOutIdeal.nD Cert.OddOutIdeal.τ).loc Cert.OddOutIdeal.main_v2) = v0 c
          ∧ r.2.mem ((c.tc : Thread Cert.OddOutIdeal.nD Cert.OddOutIdeal.τ).loc Cert.OddOutIdeal.main_arg0) = m ((c.tc : Thread Cert.OddOutIdeal.nD Cert.OddOutIdeal.τ).loc Cert.OddOutIdeal.main_arg0)
          ∧ r.2.mem ((c.tc : Thread Cert.OddOutIdeal.nD Cert.OddOutIdeal.τ).loc Cert.OddOutIdeal.main_arg1) = m ((c.tc : Thread Cert.OddOutIdeal.nD Cert.OddOutIdeal.τ).loc Cert.OddOutIdeal.main_arg1)
          ∧ r.2.mem ((c.tc : Thread Cert.OddOutIdeal.nD Cert.OddOutIdeal.τ).loc Cert.OddOutIdeal.main_arg2) = m ((c.tc : Thread Cert.OddOutIdeal.nD Cert.OddOutIdeal.τ).loc Cert.OddOutIdeal.main_arg2)
          ∧ r.2.mem ((c.tc : Thread Cert.OddOutIdeal.nD Cert.OddOutIdeal.τ).loc Cert.OddOutIdeal.main_arg3) = m ((c.tc : Thread Cert.OddOutIdeal.nD Cert.OddOutIdeal.τ).loc Cert.OddOutIdeal.main_arg3))
      ∧ θ_run (Cert.OddOutRefIdeal.defs (F := Ideal)) (onTc (τ := Cert.OddOutRefIdeal.τ) (Cert.OddOutRefIdeal.main (F := Ideal))) ⟨m', fun _ => 0, g'⟩ (fun r => ∀ c : Dev Cert.OddOutRefIdeal.nD,
          r.2.mem ((c.tc : Thread Cert.OddOutRefIdeal.nD Cert.OddOutRefIdeal.τ).loc Cert.OddOutRefIdeal.main_v5) = v0 c
          ∧ r.2.mem ((c.tc : Thread Cert.OddOutRefIdeal.nD Cert.OddOutRefIdeal.τ).loc Cert.OddOutRefIdeal.main_arg0) = m' ((c.tc : Thread Cert.OddOutRefIdeal.nD Cert.OddOutRefIdeal.τ).loc Cert.OddOutRefIdeal.main_arg0)
          ∧ r.2.mem ((c.tc : Thread Cert.OddOutRefIdeal.nD Cert.OddOutRefIdeal.τ).loc Cert.OddOutRefIdeal.main_arg1) = m' ((c.tc : Thread Cert.OddOutRefIdeal.nD Cert.OddOutRefIdeal.τ).loc Cert.OddOutRefIdeal.main_arg1)
          ∧ r.2.mem ((c.tc : Thread Cert.OddOutRefIdeal.nD Cert.OddOutRefIdeal.τ).loc Cert.OddOutRefIdeal.main_arg2) = m' ((c.tc : Thread Cert.OddOutRefIdeal.nD Cert.OddOutRefIdeal.τ).loc Cert.OddOutRefIdeal.main_arg2)
          ∧ r.2.mem ((c.tc : Thread Cert.OddOutRefIdeal.nD Cert.OddOutRefIdeal.τ).loc Cert.OddOutRefIdeal.main_arg3) = m' ((c.tc : Thread Cert.OddOutRefIdeal.nD Cert.OddOutRefIdeal.τ).loc Cert.OddOutRefIdeal.main_arg3))

def preserves_Gdn_GdnIdeal : Prop :=
  True

def algebraic_GdnIdeal_GdnRefIdeal_pre_finite_keys [hGdnIdeal : Cert.GdnIdeal.Facts] [hGdnRefIdeal : Cert.GdnRefIdeal.Facts] [hPre_finite_keys : Cert.Pre_finite_keys.Facts] : Prop :=
  ∀ (m : (ℓ : Loc Cert.GdnIdeal.nD Cert.GdnIdeal.τ Cert.GdnIdeal.sig) → Buf (Elt Ideal) ℓ) (g : Dev Cert.GdnIdeal.nD → PrngReg)
    (m' : (ℓ : Loc Cert.GdnRefIdeal.nD Cert.GdnRefIdeal.τ Cert.GdnRefIdeal.sig) → Buf (Elt Ideal) ℓ) (g' : Dev Cert.GdnRefIdeal.nD → PrngReg), Pre_GdnIdeal_finite_keys m →
    (∀ c : Dev Cert.GdnIdeal.nD,
      m' ((c.tc : Thread Cert.GdnRefIdeal.nD Cert.GdnRefIdeal.τ).loc Cert.GdnRefIdeal.main_arg0) = m ((c.tc : Thread Cert.GdnIdeal.nD Cert.GdnIdeal.τ).loc Cert.GdnIdeal.main_arg0)
      ∧ m' ((c.tc : Thread Cert.GdnRefIdeal.nD Cert.GdnRefIdeal.τ).loc Cert.GdnRefIdeal.main_arg1) = m ((c.tc : Thread Cert.GdnIdeal.nD Cert.GdnIdeal.τ).loc Cert.GdnIdeal.main_arg1)
      ∧ m' ((c.tc : Thread Cert.GdnRefIdeal.nD Cert.GdnRefIdeal.τ).loc Cert.GdnRefIdeal.main_arg2) = m ((c.tc : Thread Cert.GdnIdeal.nD Cert.GdnIdeal.τ).loc Cert.GdnIdeal.main_arg2)
      ∧ m' ((c.tc : Thread Cert.GdnRefIdeal.nD Cert.GdnRefIdeal.τ).loc Cert.GdnRefIdeal.main_arg3) = m ((c.tc : Thread Cert.GdnIdeal.nD Cert.GdnIdeal.τ).loc Cert.GdnIdeal.main_arg3)
      ∧ m' ((c.tc : Thread Cert.GdnRefIdeal.nD Cert.GdnRefIdeal.τ).loc Cert.GdnRefIdeal.main_arg4) = m ((c.tc : Thread Cert.GdnIdeal.nD Cert.GdnIdeal.τ).loc Cert.GdnIdeal.main_arg4)) →
    ∃ (v0 : (c : Dev Cert.GdnIdeal.nD) → Buf (Elt Ideal) ((c.tc : Thread Cert.GdnIdeal.nD Cert.GdnIdeal.τ).loc Cert.GdnIdeal.main_v9_0)) (v1 : (c : Dev Cert.GdnIdeal.nD) → Buf (Elt Ideal) ((c.tc : Thread Cert.GdnIdeal.nD Cert.GdnIdeal.τ).loc Cert.GdnIdeal.main_v9_1)),
      θ_run (Cert.GdnIdeal.defs (F := Ideal)) (onTc (τ := Cert.GdnIdeal.τ) (Cert.GdnIdeal.main (F := Ideal))) ⟨m, fun _ => 0, g⟩ (fun r => ∀ c : Dev Cert.GdnIdeal.nD,
          r.2.mem ((c.tc : Thread Cert.GdnIdeal.nD Cert.GdnIdeal.τ).loc Cert.GdnIdeal.main_v9_0) = v0 c
          ∧ r.2.mem ((c.tc : Thread Cert.GdnIdeal.nD Cert.GdnIdeal.τ).loc Cert.GdnIdeal.main_v9_1) = v1 c
          ∧ r.2.mem ((c.tc : Thread Cert.GdnIdeal.nD Cert.GdnIdeal.τ).loc Cert.GdnIdeal.main_arg0) = m ((c.tc : Thread Cert.GdnIdeal.nD Cert.GdnIdeal.τ).loc Cert.GdnIdeal.main_arg0)
          ∧ r.2.mem ((c.tc : Thread Cert.GdnIdeal.nD Cert.GdnIdeal.τ).loc Cert.GdnIdeal.main_arg1) = m ((c.tc : Thread Cert.GdnIdeal.nD Cert.GdnIdeal.τ).loc Cert.GdnIdeal.main_arg1)
          ∧ r.2.mem ((c.tc : Thread Cert.GdnIdeal.nD Cert.GdnIdeal.τ).loc Cert.GdnIdeal.main_arg2) = m ((c.tc : Thread Cert.GdnIdeal.nD Cert.GdnIdeal.τ).loc Cert.GdnIdeal.main_arg2)
          ∧ r.2.mem ((c.tc : Thread Cert.GdnIdeal.nD Cert.GdnIdeal.τ).loc Cert.GdnIdeal.main_arg3) = m ((c.tc : Thread Cert.GdnIdeal.nD Cert.GdnIdeal.τ).loc Cert.GdnIdeal.main_arg3)
          ∧ r.2.mem ((c.tc : Thread Cert.GdnIdeal.nD Cert.GdnIdeal.τ).loc Cert.GdnIdeal.main_arg4) = m ((c.tc : Thread Cert.GdnIdeal.nD Cert.GdnIdeal.τ).loc Cert.GdnIdeal.main_arg4))
      ∧ θ_run (Cert.GdnRefIdeal.defs (F := Ideal)) (onTc (τ := Cert.GdnRefIdeal.τ) (Cert.GdnRefIdeal.main (F := Ideal))) ⟨m', fun _ => 0, g'⟩ (fun r => ∀ c : Dev Cert.GdnRefIdeal.nD,
          r.2.mem ((c.tc : Thread Cert.GdnRefIdeal.nD Cert.GdnRefIdeal.τ).loc Cert.GdnRefIdeal.main_v493) = v0 c
          ∧ r.2.mem ((c.tc : Thread Cert.GdnRefIdeal.nD Cert.GdnRefIdeal.τ).loc Cert.GdnRefIdeal.main_v494) = v1 c
          ∧ r.2.mem ((c.tc : Thread Cert.GdnRefIdeal.nD Cert.GdnRefIdeal.τ).loc Cert.GdnRefIdeal.main_arg0) = m' ((c.tc : Thread Cert.GdnRefIdeal.nD Cert.GdnRefIdeal.τ).loc Cert.GdnRefIdeal.main_arg0)
          ∧ r.2.mem ((c.tc : Thread Cert.GdnRefIdeal.nD Cert.GdnRefIdeal.τ).loc Cert.GdnRefIdeal.main_arg1) = m' ((c.tc : Thread Cert.GdnRefIdeal.nD Cert.GdnRefIdeal.τ).loc Cert.GdnRefIdeal.main_arg1)
          ∧ r.2.mem ((c.tc : Thread Cert.GdnRefIdeal.nD Cert.GdnRefIdeal.τ).loc Cert.GdnRefIdeal.main_arg2) = m' ((c.tc : Thread Cert.GdnRefIdeal.nD Cert.GdnRefIdeal.τ).loc Cert.GdnRefIdeal.main_arg2)
          ∧ r.2.mem ((c.tc : Thread Cert.GdnRefIdeal.nD Cert.GdnRefIdeal.τ).loc Cert.GdnRefIdeal.main_arg3) = m' ((c.tc : Thread Cert.GdnRefIdeal.nD Cert.GdnRefIdeal.τ).loc Cert.GdnRefIdeal.main_arg3)
          ∧ r.2.mem ((c.tc : Thread Cert.GdnRefIdeal.nD Cert.GdnRefIdeal.τ).loc Cert.GdnRefIdeal.main_arg4) = m' ((c.tc : Thread Cert.GdnRefIdeal.nD Cert.GdnRefIdeal.τ).loc Cert.GdnRefIdeal.main_arg4))

def Claim : Prop :=
  ∃ (hSwa : Cert.Swa.Facts) (hSwaIdeal : Cert.SwaIdeal.Facts) (hSwaRefIdeal : Cert.SwaRefIdeal.Facts) (hEvenIn : Cert.EvenIn.Facts) (hEvenInIdeal : Cert.EvenInIdeal.Facts) (hEvenInRefIdeal : Cert.EvenInRefIdeal.Facts) (hOddIn : Cert.OddIn.Facts) (hOddInIdeal : Cert.OddInIdeal.Facts) (hOddInRefIdeal : Cert.OddInRefIdeal.Facts) (hQuery : Cert.Query.Facts) (hQueryIdeal : Cert.QueryIdeal.Facts) (hQueryRefIdeal : Cert.QueryRefIdeal.Facts) (hEvenOut : Cert.EvenOut.Facts) (hEvenOutIdeal : Cert.EvenOutIdeal.Facts) (hEvenOutRefIdeal : Cert.EvenOutRefIdeal.Facts) (hOddOut : Cert.OddOut.Facts) (hOddOutIdeal : Cert.OddOutIdeal.Facts) (hOddOutRefIdeal : Cert.OddOutRefIdeal.Facts) (hGdn : Cert.Gdn.Facts) (hGdnIdeal : Cert.GdnIdeal.Facts) (hGdnRefIdeal : Cert.GdnRefIdeal.Facts) (hPre_finite_scores : Cert.Pre_finite_scores.Facts) (hPre_finite_keys : Cert.Pre_finite_keys.Facts),
    quiescent_Swa (hSwa := hSwa)
    ∧ quiescent_SwaIdeal (hSwaIdeal := hSwaIdeal)
    ∧ quiescent_SwaIdeal_pre_finite_scores (hSwaIdeal := hSwaIdeal) (hPre_finite_scores := hPre_finite_scores)
    ∧ quiescent_SwaRefIdeal (hSwaRefIdeal := hSwaRefIdeal)
    ∧ quiescent_SwaRefIdeal_pre_finite_scores (hSwaRefIdeal := hSwaRefIdeal) (hPre_finite_scores := hPre_finite_scores)
    ∧ quiescent_EvenIn (hEvenIn := hEvenIn)
    ∧ quiescent_EvenInIdeal (hEvenInIdeal := hEvenInIdeal)
    ∧ quiescent_EvenInRefIdeal (hEvenInRefIdeal := hEvenInRefIdeal)
    ∧ quiescent_OddIn (hOddIn := hOddIn)
    ∧ quiescent_OddInIdeal (hOddInIdeal := hOddInIdeal)
    ∧ quiescent_OddInRefIdeal (hOddInRefIdeal := hOddInRefIdeal)
    ∧ quiescent_Query (hQuery := hQuery)
    ∧ quiescent_QueryIdeal (hQueryIdeal := hQueryIdeal)
    ∧ quiescent_QueryRefIdeal (hQueryRefIdeal := hQueryRefIdeal)
    ∧ quiescent_EvenOut (hEvenOut := hEvenOut)
    ∧ quiescent_EvenOutIdeal (hEvenOutIdeal := hEvenOutIdeal)
    ∧ quiescent_EvenOutRefIdeal (hEvenOutRefIdeal := hEvenOutRefIdeal)
    ∧ quiescent_OddOut (hOddOut := hOddOut)
    ∧ quiescent_OddOutIdeal (hOddOutIdeal := hOddOutIdeal)
    ∧ quiescent_OddOutRefIdeal (hOddOutRefIdeal := hOddOutRefIdeal)
    ∧ quiescent_Gdn (hGdn := hGdn)
    ∧ quiescent_GdnIdeal (hGdnIdeal := hGdnIdeal)
    ∧ quiescent_GdnIdeal_pre_finite_keys (hGdnIdeal := hGdnIdeal) (hPre_finite_keys := hPre_finite_keys)
    ∧ quiescent_GdnRefIdeal (hGdnRefIdeal := hGdnRefIdeal)
    ∧ quiescent_GdnRefIdeal_pre_finite_keys (hGdnRefIdeal := hGdnRefIdeal) (hPre_finite_keys := hPre_finite_keys)
    ∧ preserves_Swa_SwaIdeal
    ∧ algebraic_SwaIdeal_SwaRefIdeal_pre_finite_scores (hSwaIdeal := hSwaIdeal) (hSwaRefIdeal := hSwaRefIdeal) (hPre_finite_scores := hPre_finite_scores)
    ∧ preserves_EvenIn_EvenInIdeal
    ∧ algebraic_EvenInIdeal_EvenInRefIdeal (hEvenInIdeal := hEvenInIdeal) (hEvenInRefIdeal := hEvenInRefIdeal)
    ∧ preserves_OddIn_OddInIdeal
    ∧ algebraic_OddInIdeal_OddInRefIdeal (hOddInIdeal := hOddInIdeal) (hOddInRefIdeal := hOddInRefIdeal)
    ∧ preserves_Query_QueryIdeal
    ∧ algebraic_QueryIdeal_QueryRefIdeal (hQueryIdeal := hQueryIdeal) (hQueryRefIdeal := hQueryRefIdeal)
    ∧ preserves_EvenOut_EvenOutIdeal
    ∧ algebraic_EvenOutIdeal_EvenOutRefIdeal (hEvenOutIdeal := hEvenOutIdeal) (hEvenOutRefIdeal := hEvenOutRefIdeal)
    ∧ preserves_OddOut_OddOutIdeal
    ∧ algebraic_OddOutIdeal_OddOutRefIdeal (hOddOutIdeal := hOddOutIdeal) (hOddOutRefIdeal := hOddOutRefIdeal)
    ∧ preserves_Gdn_GdnIdeal
    ∧ algebraic_GdnIdeal_GdnRefIdeal_pre_finite_keys (hGdnIdeal := hGdnIdeal) (hGdnRefIdeal := hGdnRefIdeal) (hPre_finite_keys := hPre_finite_keys)
-- ==== Pre_finite_keys.lean ====
abbrev S8x2048x4608 : Shape := ⟨3, ![8, 2048, 4608]⟩
abbrev S8x2048x7168 : Shape := ⟨3, ![8, 2048, 7168]⟩
abbrev S2x12 : Shape := ⟨2, ![2, 12]⟩
abbrev S2x8x12x128x128 : Shape := ⟨5, ![2, 8, 12, 128, 128]⟩
abbrev S8x2048x1536 : Shape := ⟨3, ![8, 2048, 1536]⟩
abbrev S_ : Shape := ⟨0, ![]⟩

class Facts : Prop where
  slices_S8x2048x4608_S8x2048x1536_0_0_1536 : S8x2048x4608.Slices ![0, 0, 1536] S8x2048x1536
  bcast_S_S8x2048x1536 : S_.BroadcastsInDim S8x2048x1536 (![] : Fin 0 → Fin S8x2048x1536.rank)

variable [Facts]

def fn {F : FTy → Type} [FloatOps F] (main_arg0 : FVec F S8x2048x4608 .f32) (main_arg1 : FVec F S8x2048x7168 .f32) (main_arg2 : FVec F S2x12 .f32) (main_arg3 : FVec F S2x12 .f32) (main_arg4 : FVec F S2x8x12x128x128 .f32) : IVec S8x2048x1536 1 :=
  let main_v0 : FVec F S8x2048x1536 .f32 := (extractStridedSlice S8x2048x1536 ![0, 0, 1536] · slices_S8x2048x4608_S8x2048x1536_0_0_1536) main_arg0
  let main_v1 : FVec F S8x2048x1536 .f32 := Host.absf main_v0
  let main_cst : FVec F S_ .f32 := constant S_ .f32 0x7F800000#32
  let main_v2 : FVec F S8x2048x1536 .f32 := broadcastInDim S8x2048x1536 ![] bcast_S_S8x2048x1536 main_cst
  let main_v3 : IVec S8x2048x1536 1 := cmpf .olt main_v1 main_v2
  main_v3
-- ==== Pre_finite_scores.lean ====
abbrev S8x2048x2560 : Shape := ⟨3, ![8, 2048, 2560]⟩
abbrev S8x256x512 : Shape := ⟨3, ![8, 256, 512]⟩
abbrev S32 : Shape := ⟨1, ![32]⟩
abbrev S8x2048x2304 : Shape := ⟨3, ![8, 2048, 2304]⟩
abbrev S_ : Shape := ⟨0, ![]⟩
abbrev S8x256x256 : Shape := ⟨3, ![8, 256, 256]⟩

class Facts : Prop where
  slices_S8x2048x2560_S8x2048x2304_0_0_0 : S8x2048x2560.Slices ![0, 0, 0] S8x2048x2304
  bcast_S_S8x2048x2304 : S_.BroadcastsInDim S8x2048x2304 (![] : Fin 0 → Fin S8x2048x2304.rank)
  slices_S8x256x512_S8x256x256_0_0_0 : S8x256x512.Slices ![0, 0, 0] S8x256x256
  bcast_S_S8x256x256 : S_.BroadcastsInDim S8x256x256 (![] : Fin 0 → Fin S8x256x256.rank)
  bcast_S_S32 : S_.BroadcastsInDim S32 (![] : Fin 0 → Fin S32.rank)

variable [Facts]

def fn {F : FTy → Type} [FloatOps F] (main_arg0 : FVec F S8x2048x2560 .f32) (main_arg1 : FVec F S8x256x512 .f32) (main_arg2 : FVec F S32 .f32) : IVec S8x2048x2304 1 × IVec S8x256x256 1 × IVec S32 1 :=
  let main_v0 : FVec F S8x2048x2304 .f32 := (extractStridedSlice S8x2048x2304 ![0, 0, 0] · slices_S8x2048x2560_S8x2048x2304_0_0_0) main_arg0
  let main_v1 : FVec F S8x2048x2304 .f32 := Host.absf main_v0
  let main_cst : FVec F S_ .f32 := constant S_ .f32 0x7F800000#32
  let main_v2 : FVec F S8x2048x2304 .f32 := broadcastInDim S8x2048x2304 ![] bcast_S_S8x2048x2304 main_cst
  let main_v3 : IVec S8x2048x2304 1 := cmpf .olt main_v1 main_v2
  let main_v4 : FVec F S8x256x256 .f32 := (extractStridedSlice S8x256x256 ![0, 0, 0] · slices_S8x256x512_S8x256x256_0_0_0) main_arg1
  let main_v5 : FVec F S8x256x256 .f32 := Host.absf main_v4
  let main_cst_0 : FVec F S_ .f32 := constant S_ .f32 0x7F800000#32
  let main_v6 : FVec F S8x256x256 .f32 := broadcastInDim S8x256x256 ![] bcast_S_S8x256x256 main_cst_0
  let main_v7 : IVec S8x256x256 1 := cmpf .olt main_v5 main_v6
  let main_v8 : FVec F S32 .f32 := Host.absf main_arg2
  let main_cst_1 : FVec F S_ .f32 := constant S_ .f32 0x7F800000#32
  let main_v9 : FVec F S32 .f32 := broadcastInDim S32 ![] bcast_S_S32 main_cst_1
  let main_v10 : IVec S32 1 := cmpf .olt main_v8 main_v9
  (main_v3, main_v7, main_v10)
-- ==== Swa.lean ====
abbrev S8x2048x2560 : Shape := ⟨3, ![8, 2048, 2560]⟩
abbrev S8x256x512 : Shape := ⟨3, ![8, 256, 512]⟩
abbrev S32 : Shape := ⟨1, ![32]⟩
abbrev S8x2048x2048 : Shape := ⟨3, ![8, 2048, 2048]⟩
abbrev S1x128x2048 : Shape := ⟨3, ![1, 128, 2048]⟩
abbrev S1x2048x256 : Shape := ⟨3, ![1, 2048, 256]⟩
abbrev S1x256x256 : Shape := ⟨3, ![1, 256, 256]⟩
abbrev S128x384 : Shape := ⟨2, ![128, 384]⟩
abbrev S1x128x64 : Shape := ⟨3, ![1, 128, 64]⟩
abbrev S128x64 : Shape := ⟨2, ![128, 64]⟩
abbrev S1024x64 : Shape := ⟨2, ![1024, 64]⟩
abbrev S1x256x64 : Shape := ⟨3, ![1, 256, 64]⟩
abbrev S256x64 : Shape := ⟨2, ![256, 64]⟩
abbrev S1024x256 : Shape := ⟨2, ![1024, 256]⟩
abbrev S1x384x64 : Shape := ⟨3, ![1, 384, 64]⟩
abbrev S384x64 : Shape := ⟨2, ![384, 64]⟩
abbrev S1024x384 : Shape := ⟨2, ![1024, 384]⟩
abbrev S1 : Shape := ⟨1, ![1]⟩
abbrev S128x256 : Shape := ⟨2, ![128, 256]⟩
abbrev S128 : Shape := ⟨1, ![128]⟩
abbrev S128x1 : Shape := ⟨2, ![128, 1]⟩
abbrev S128x128 : Shape := ⟨2, ![128, 128]⟩
abbrev S1x128x128 : Shape := ⟨3, ![1, 128, 128]⟩

abbrev nBuf : Space → Nat
  | .hbm => 4
  | .vmem => 12
  | .smem => 1
  | _ => 0

abbrev bufTy : (tb : Table) → Fin (tcTables nBuf tb) → BufTy
  | .hbm, ⟨0, _⟩ => ⟨S8x2048x2560, .f32⟩
  | .hbm, ⟨1, _⟩ => ⟨S8x256x512, .f32⟩
  | .hbm, ⟨2, _⟩ => ⟨S32, .f32⟩
  | .hbm, ⟨3, _⟩ => ⟨S8x2048x2048, .bf16⟩
  | .local _ .vmem, ⟨0, _⟩ => ⟨S1x128x2048, .f32⟩
  | .local _ .vmem, ⟨1, _⟩ => ⟨S1x128x2048, .f32⟩
  | .local _ .vmem, ⟨2, _⟩ => ⟨S1x2048x256, .f32⟩
  | .local _ .vmem, ⟨3, _⟩ => ⟨S1x2048x256, .f32⟩
  | .local _ .vmem, ⟨4, _⟩ => ⟨S1x2048x256, .f32⟩
  | .local _ .vmem, ⟨5, _⟩ => ⟨S1x2048x256, .f32⟩
  | .local _ .vmem, ⟨6, _⟩ => ⟨S1x256x256, .f32⟩
  | .local _ .vmem, ⟨7, _⟩ => ⟨S1x256x256, .f32⟩
  | .local _ .vmem, ⟨8, _⟩ => ⟨S1x256x256, .f32⟩
  | .local _ .vmem, ⟨9, _⟩ => ⟨S1x256x256, .f32⟩
  | .local _ .vmem, ⟨10, _⟩ => ⟨S1x128x2048, .bf16⟩
  | .local _ .vmem, ⟨11, _⟩ => ⟨S1x128x2048, .bf16⟩
  | .local _ .smem, ⟨0, _⟩ => ⟨S32, .f32⟩
  | _, _ => ⟨S8x2048x2560, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .smem, ⟨0, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![8, 16], ![false, false]⟩

def k0_mult1 (i : grid0.Coords) : BitVec 32 :=
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  v3
def k0_off1 (i : grid0.Coords) : Fin 3 → Nat :=
  let c0_25 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v41 : Index := Scalar.indexCast v4
  let c0_26 : Index := 0#32
  ![0, v41.toNat, 0]
def k0_off2 (i : grid0.Coords) : Fin 3 → Nat :=
  let c0_124 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v386 : Index := Scalar.indexCast v4
  let c64_125 : Index := 64#32
  ![0, v386.toNat, 64]
def k0_off3 (i : grid0.Coords) : Fin 3 → Nat :=
  let c0_222 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v731 : Index := Scalar.indexCast v4
  let c128_223 : Index := 128#32
  ![0, v731.toNat, 128]
def k0_off4 (i : grid0.Coords) : Fin 3 → Nat :=
  let c0_320 : Index := 0#32
  let c1664_i32 : BitVec 32 := 1664#32
  let c0_i32 : BitVec 32 := 0#32
  let arg1 : BitVec 32 := BitVec.ofNat 32 (i 1).val
  let c128_i32 : BitVec 32 := 128#32
  let v0 : BitVec 32 := Scalar.muli arg1 c128_i32
  let c128_i32_0 : BitVec 32 := 128#32
  let v1 : BitVec 32 := Scalar.subi v0 c128_i32_0
  let v2 : BitVec 32 := Scalar.maxsi c0_i32 v1
  let v3 : BitVec 32 := Scalar.minsi c1664_i32 v2
  let v4 : BitVec 32 := v3
  let v1076 : Index := Scalar.indexCast v4
  let c192_321 : Index := 192#32
  ![0, v1076.toNat, 192]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c8_i32 : BitVec 32 := 8#32
  let c0_i32_0 : BitVec 32 := 0#32
  ![arg0.toNat, c0_i32.toNat, c8_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c9_i32 : BitVec 32 := 9#32
  let c0_i32_0 : BitVec 32 := 0#32
  ![arg0.toNat, c0_i32.toNat, c9_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c1_i32 : BitVec 32 := 1#32
  let c0_i32_0 : BitVec 32 := 0#32
  ![arg0.toNat, c0_i32.toNat, c1_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S32 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x128x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x256x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== SwaRefIdeal.lean ====
abbrev S8x2048x2560 : Shape := ⟨3, ![8, 2048, 2560]⟩
abbrev S8x256x512 : Shape := ⟨3, ![8, 256, 512]⟩
abbrev S32 : Shape := ⟨1, ![32]⟩
abbrev S8x2048x2048 : Shape := ⟨3, ![8, 2048, 2048]⟩
abbrev S8x2048x4x8x64 : Shape := ⟨5, ![8, 2048, 4, 8, 64]⟩
abbrev S8x2048x256 : Shape := ⟨3, ![8, 2048, 256]⟩
abbrev S8x2048x4x64 : Shape := ⟨4, ![8, 2048, 4, 64]⟩
abbrev S8x256x256 : Shape := ⟨3, ![8, 256, 256]⟩
abbrev S8x256x4x64 : Shape := ⟨4, ![8, 256, 4, 64]⟩
abbrev S4x8 : Shape := ⟨2, ![4, 8]⟩
abbrev S2048 : Shape := ⟨1, ![2048]⟩
abbrev S2048x1 : Shape := ⟨2, ![2048, 1]⟩
abbrev S1x2048 : Shape := ⟨2, ![1, 2048]⟩
abbrev S2048x2048 : Shape := ⟨2, ![2048, 2048]⟩
abbrev S_ : Shape := ⟨0, ![]⟩
abbrev S8x4x256x2048x8 : Shape := ⟨5, ![8, 4, 256, 2048, 8]⟩
abbrev S8x4x8x2048x256 : Shape := ⟨5, ![8, 4, 8, 2048, 256]⟩
abbrev S8x4x2048x2048x8 : Shape := ⟨5, ![8, 4, 2048, 2048, 8]⟩
abbrev S8x4x8x2048x2048 : Shape := ⟨5, ![8, 4, 8, 2048, 2048]⟩
abbrev S1x4x8x1x1 : Shape := ⟨5, ![1, 4, 8, 1, 1]⟩
abbrev S8x4x8x2048x1 : Shape := ⟨5, ![8, 4, 8, 2048, 1]⟩
abbrev S8x4x8x2048x2305 : Shape := ⟨5, ![8, 4, 8, 2048, 2305]⟩
abbrev S8x4x8x2048 : Shape := ⟨4, ![8, 4, 8, 2048]⟩
abbrev S8x4x64x8x2048 : Shape := ⟨5, ![8, 4, 64, 8, 2048]⟩

abbrev nBuf : Space → Nat
  | .hbm => 65
  | .vmem => 0
  | .smem => 0
  | _ => 0

abbrev bufTy : (tb : Table) → Fin (tcTables nBuf tb) → BufTy
  | .hbm, ⟨0, _⟩ => ⟨S8x2048x2560, .f32⟩
  | .hbm, ⟨1, _⟩ => ⟨S8x256x512, .f32⟩
  | .hbm, ⟨2, _⟩ => ⟨S32, .f32⟩
  | .hbm, ⟨3, _⟩ => ⟨S8x2048x2048, .f32⟩
  | .hbm, ⟨4, _⟩ => ⟨S8x2048x4x8x64, .f32⟩
  | .hbm, ⟨5, _⟩ => ⟨S8x2048x256, .f32⟩
  | .hbm, ⟨6, _⟩ => ⟨S8x2048x4x64, .f32⟩
  | .hbm, ⟨7, _⟩ => ⟨S8x2048x256, .f32⟩
  | .hbm, ⟨8, _⟩ => ⟨S8x2048x4x64, .f32⟩
  | .hbm, ⟨9, _⟩ => ⟨S8x256x256, .f32⟩
  | .hbm, ⟨10, _⟩ => ⟨S8x256x4x64, .f32⟩
  | .hbm, ⟨11, _⟩ => ⟨S8x256x256, .f32⟩
  | .hbm, ⟨12, _⟩ => ⟨S8x256x4x64, .f32⟩
  | .hbm, ⟨13, _⟩ => ⟨S4x8, .f32⟩
  | .hbm, ⟨14, _⟩ => ⟨S2048, .i32⟩
  | .hbm, ⟨15, _⟩ => ⟨S2048x1, .i32⟩
  | .hbm, ⟨16, _⟩ => ⟨S1x2048, .i32⟩
  | .hbm, ⟨17, _⟩ => ⟨S2048x2048, .i32⟩
  | .hbm, ⟨18, _⟩ => ⟨S2048x2048, .i32⟩
  | .hbm, ⟨19, _⟩ => ⟨S2048x2048, .i32⟩
  | .hbm, ⟨20, _⟩ => ⟨S2048x2048, .i32⟩
  | .hbm, ⟨21, _⟩ => ⟨S_, .i32⟩
  | .hbm, ⟨22, _⟩ => ⟨S2048x2048, .i32⟩
  | .hbm, ⟨23, _⟩ => ⟨S2048x2048, .i1⟩
  | .hbm, ⟨24, _⟩ => ⟨S8x4x256x2048x8, .f32⟩
  | .hbm, ⟨25, _⟩ => ⟨S8x4x8x2048x256, .f32⟩
  | .hbm, ⟨26, _⟩ => ⟨S_, .f32⟩
  | .hbm, ⟨27, _⟩ => ⟨S8x4x8x2048x256, .f32⟩
  | .hbm, ⟨28, _⟩ => ⟨S8x4x8x2048x256, .f32⟩
  | .hbm, ⟨29, _⟩ => ⟨S8x4x2048x2048x8, .f32⟩
  | .hbm, ⟨30, _⟩ => ⟨S8x4x8x2048x2048, .f32⟩
  | .hbm, ⟨31, _⟩ => ⟨S_, .f32⟩
  | .hbm, ⟨32, _⟩ => ⟨S8x4x8x2048x2048, .f32⟩
  | .hbm, ⟨33, _⟩ => ⟨S8x4x8x2048x2048, .f32⟩
  | .hbm, ⟨34, _⟩ => ⟨S_, .f32⟩
  | .hbm, ⟨35, _⟩ => ⟨S_, .f32⟩
  | .hbm, ⟨36, _⟩ => ⟨S8x4x8x2048x2048, .i1⟩
  | .hbm, ⟨37, _⟩ => ⟨S8x4x8x2048x2048, .f32⟩
  | .hbm, ⟨38, _⟩ => ⟨S8x4x8x2048x2048, .f32⟩
  | .hbm, ⟨39, _⟩ => ⟨S1x4x8x1x1, .f32⟩
  | .hbm, ⟨40, _⟩ => ⟨S8x4x8x2048x1, .f32⟩
  | .hbm, ⟨41, _⟩ => ⟨S8x4x8x2048x2305, .f32⟩
  | .hbm, ⟨42, _⟩ => ⟨S_, .f32⟩
  | .hbm, ⟨43, _⟩ => ⟨S8x4x8x2048, .f32⟩
  | .hbm, ⟨44, _⟩ => ⟨S_, .f32⟩
  | .hbm, ⟨45, _⟩ => ⟨S8x4x8x2048, .f32⟩
  | .hbm, ⟨46, _⟩ => ⟨S8x4x8x2048, .f32⟩
  | .hbm, ⟨47, _⟩ => ⟨S8x4x8x2048x1, .f32⟩
  | .hbm, ⟨48, _⟩ => ⟨S8x4x8x2048x2305, .f32⟩
  | .hbm, ⟨49, _⟩ => ⟨S8x4x8x2048x2305, .f32⟩
  | .hbm, ⟨50, _⟩ => ⟨S8x4x8x2048x2305, .f32⟩
  | .hbm, ⟨51, _⟩ => ⟨S_, .f32⟩
  | .hbm, ⟨52, _⟩ => ⟨S8x4x8x2048, .f32⟩
  | .hbm, ⟨53, _⟩ => ⟨S8x4x8x2048x1, .f32⟩
  | .hbm, ⟨54, _⟩ => ⟨S8x4x8x2048x2305, .f32⟩
  | .hbm, ⟨55, _⟩ => ⟨S8x4x8x2048x2305, .f32⟩
  | .hbm, ⟨56, _⟩ => ⟨S8x4x8x2048x256, .f32⟩
  | .hbm, ⟨57, _⟩ => ⟨S8x4x64x8x2048, .f32⟩
  | .hbm, ⟨58, _⟩ => ⟨S8x2048x4x8x64, .f32⟩
  | .hbm, ⟨59, _⟩ => ⟨S8x4x8x2048x2048, .f32⟩
  | .hbm, ⟨60, _⟩ => ⟨S8x4x64x8x2048, .f32⟩
  | .hbm, ⟨61, _⟩ => ⟨S8x2048x4x8x64, .f32⟩
  | .hbm, ⟨62, _⟩ => ⟨S8x2048x4x8x64, .f32⟩
  | .hbm, ⟨63, _⟩ => ⟨S8x2048x2048, .f32⟩
  | .hbm, ⟨64, _⟩ => ⟨S8x2048x2048, .bf16⟩
  | _, _ => ⟨S8x2048x2560, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_c : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_cst_0 : Ref sig .tc := ⟨.hbm, 31, rfl⟩
abbrev main_v26 : Ref sig .tc := ⟨.hbm, 32, rfl⟩
abbrev main_v27 : Ref sig .tc := ⟨.hbm, 33, rfl⟩
abbrev main_cst_1 : Ref sig .tc := ⟨.hbm, 34, rfl⟩
abbrev main_call0_v0 : Ref sig .tc := ⟨.hbm, 35, rfl⟩
abbrev main_call0_v1 : Ref sig .tc := ⟨.hbm, 36, rfl⟩
abbrev main_call0_v2 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_cst_2 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_cst_4 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩

abbrev nD : Nat := 1
abbrev τ : Topo := Topo.v7x

variable {F : FTy → Type} [FloatOps F]
-- ==== EvenIn.lean ====
abbrev S8x2048x2048 : Shape := ⟨3, ![8, 2048, 2048]⟩
abbrev S2048 : Shape := ⟨1, ![2048]⟩
abbrev S8x2048 : Shape := ⟨2, ![8, 2048]⟩
abbrev S2048x6704 : Shape := ⟨2, ![2048, 6704]⟩
abbrev S2048x48 : Shape := ⟨2, ![2048, 48]⟩
abbrev S_ : Shape := ⟨0, ![]⟩
abbrev S2048x104 : Shape := ⟨2, ![2048, 104]⟩
abbrev S2048x12 : Shape := ⟨2, ![2048, 12]⟩
abbrev S2048x128 : Shape := ⟨2, ![2048, 128]⟩
abbrev S2048x256 : Shape := ⟨2, ![2048, 256]⟩
abbrev S2048x6144 : Shape := ⟨2, ![2048, 6144]⟩
abbrev S2048x512 : Shape := ⟨2, ![2048, 512]⟩
abbrev S2048x7168 : Shape := ⟨2, ![2048, 7168]⟩
abbrev S1x2048 : Shape := ⟨2, ![1, 2048]⟩
abbrev S8x1x2048 : Shape := ⟨3, ![8, 1, 2048]⟩
abbrev S8x2048x7168 : Shape := ⟨3, ![8, 2048, 7168]⟩
abbrev S1x512x2048 : Shape := ⟨3, ![1, 512, 2048]⟩
abbrev S1x1x2048 : Shape := ⟨3, ![1, 1, 2048]⟩
abbrev S1x512x512 : Shape := ⟨3, ![1, 512, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 24
  | .vmem => 12
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6704, .f32⟩
  | .hbm, ⟨5, _⟩ => ⟨S2048x48, .f32⟩
  | .hbm, ⟨6, _⟩ => ⟨S_, .f32⟩
  | .hbm, ⟨7, _⟩ => ⟨S2048x104, .f32⟩
  | .hbm, ⟨8, _⟩ => ⟨S2048x12, .f32⟩
  | .hbm, ⟨9, _⟩ => ⟨S2048x12, .f32⟩
  | .hbm, ⟨10, _⟩ => ⟨S2048x128, .f32⟩
  | .hbm, ⟨11, _⟩ => ⟨S2048x12, .f32⟩
  | .hbm, ⟨12, _⟩ => ⟨S2048x12, .f32⟩
  | .hbm, ⟨13, _⟩ => ⟨S2048x128, .f32⟩
  | .hbm, ⟨14, _⟩ => ⟨S_, .f32⟩
  | .hbm, ⟨15, _⟩ => ⟨S2048x256, .f32⟩
  | .hbm, ⟨16, _⟩ => ⟨S2048x6144, .f32⟩
  | .hbm, ⟨17, _⟩ => ⟨S2048x512, .f32⟩
  | .hbm, ⟨18, _⟩ => ⟨S2048x7168, .f32⟩
  | .hbm, ⟨19, _⟩ => ⟨S2048x7168, .bf16⟩
  | .hbm, ⟨20, _⟩ => ⟨S1x2048, .f32⟩
  | .hbm, ⟨21, _⟩ => ⟨S8x1x2048, .f32⟩
  | .hbm, ⟨22, _⟩ => ⟨S8x1x2048, .f32⟩
  | .hbm, ⟨23, _⟩ => ⟨S8x2048x7168, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512x512, .f32⟩
  | .local _ .vmem, ⟨10, _⟩ => ⟨S1x512x512, .f32⟩
  | .local _ .vmem, ⟨11, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨3, ![8, 4, 14], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]
-- ==== EvenInRefIdeal.lean ====
abbrev S8x2048x2048 : Shape := ⟨3, ![8, 2048, 2048]⟩
abbrev S2048 : Shape := ⟨1, ![2048]⟩
abbrev S8x2048 : Shape := ⟨2, ![8, 2048]⟩
abbrev S2048x6704 : Shape := ⟨2, ![2048, 6704]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x2048x6704 : Shape := ⟨3, ![8, 2048, 6704]⟩
abbrev S8x2048x6144 : Shape := ⟨3, ![8, 2048, 6144]⟩
abbrev S8x2048x48 : Shape := ⟨3, ![8, 2048, 48]⟩
abbrev S8x2048x512 : Shape := ⟨3, ![8, 2048, 512]⟩
abbrev S8x2048x12 : Shape := ⟨3, ![8, 2048, 12]⟩
abbrev S8x2048x104 : Shape := ⟨3, ![8, 2048, 104]⟩
abbrev S8x2048x256 : Shape := ⟨3, ![8, 2048, 256]⟩
abbrev S8x2048x7168 : Shape := ⟨3, ![8, 2048, 7168]⟩

abbrev nBuf : Space → Nat
  | .hbm => 45
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x6704, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x6704, .f32⟩
  | .hbm, ⟨31, _⟩ => ⟨S8x2048x6144, .f32⟩
  | .hbm, ⟨32, _⟩ => ⟨S8x2048x48, .f32⟩
  | .hbm, ⟨33, _⟩ => ⟨S8x2048x512, .f32⟩
  | .hbm, ⟨34, _⟩ => ⟨S8x2048x12, .f32⟩
  | .hbm, ⟨35, _⟩ => ⟨S8x2048x12, .f32⟩
  | .hbm, ⟨36, _⟩ => ⟨S8x2048x12, .f32⟩
  | .hbm, ⟨37, _⟩ => ⟨S8x2048x12, .f32⟩
  | .hbm, ⟨38, _⟩ => ⟨S_, .f32⟩
  | .hbm, ⟨39, _⟩ => ⟨S8x2048x104, .f32⟩
  | .hbm, ⟨40, _⟩ => ⟨S_, .f32⟩
  | .hbm, ⟨41, _⟩ => ⟨S8x2048x104, .f32⟩
  | .hbm, ⟨42, _⟩ => ⟨S_, .f32⟩
  | .hbm, ⟨43, _⟩ => ⟨S8x2048x256, .f32⟩
  | .hbm, ⟨44, _⟩ => ⟨S8x2048x7168, .f32⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_cst_3 : Ref sig .tc := ⟨.hbm, 38, rfl⟩
abbrev main_v29 : Ref sig .tc := ⟨.hbm, 39, rfl⟩
abbrev main_cst_4 : Ref sig .tc := ⟨.hbm, 40, rfl⟩
abbrev main_v30 : Ref sig .tc := ⟨.hbm, 41, rfl⟩
abbrev main_cst_5 : Ref sig .tc := ⟨.hbm, 42, rfl⟩
abbrev main_v31 : Ref sig .tc := ⟨.hbm, 43, rfl⟩
abbrev main_v32 : Ref sig .tc := ⟨.hbm, 44, rfl⟩

abbrev nD : Nat := 1
abbrev τ : Topo := Topo.v7x

variable {F : FTy → Type} [FloatOps F]
-- ==== OddIn.lean ====
abbrev S8x2048x2048 : Shape := ⟨3, ![8, 2048, 2048]⟩
abbrev S2048 : Shape := ⟨1, ![2048]⟩
abbrev S8x2048 : Shape := ⟨2, ![8, 2048]⟩
abbrev S2048x2560 : Shape := ⟨2, ![2048, 2560]⟩
abbrev S32 : Shape := ⟨1, ![32]⟩
abbrev S32x1 : Shape := ⟨2, ![32, 1]⟩
abbrev S32x64 : Shape := ⟨2, ![32, 64]⟩
abbrev S64 : Shape := ⟨1, ![64]⟩
abbrev S1x64 : Shape := ⟨2, ![1, 64]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S1x2048x1x64 : Shape := ⟨4, ![1, 2048, 1, 64]⟩
abbrev S1x2048x2x64 : Shape := ⟨4, ![1, 2048, 2, 64]⟩
abbrev S2048x128 : Shape := ⟨2, ![2048, 128]⟩
abbrev S1x2048 : Shape := ⟨2, ![1, 2048]⟩
abbrev S8x1x2048 : Shape := ⟨3, ![8, 1, 2048]⟩
abbrev S8x2048x2560 : Shape := ⟨3, ![8, 2048, 2560]⟩
abbrev S1x512x2048 : Shape := ⟨3, ![1, 512, 2048]⟩
abbrev S1x1x2048 : Shape := ⟨3, ![1, 1, 2048]⟩
abbrev S2048x256 : Shape := ⟨2, ![2048, 256]⟩
abbrev S512x128 : Shape := ⟨2, ![512, 128]⟩
abbrev S1x512x256 : Shape := ⟨3, ![1, 512, 256]⟩
abbrev S512x2048 : Shape := ⟨2, ![512, 2048]⟩
abbrev S512 : Shape := ⟨1, ![512]⟩
abbrev S512x1 : Shape := ⟨2, ![512, 1]⟩
abbrev S512x256 : Shape := ⟨2, ![512, 256]⟩
abbrev S1x512x128 : Shape := ⟨3, ![1, 512, 128]⟩

abbrev nBuf : Space → Nat
  | .hbm => 54
  | .vmem => 16
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x2560, .f32⟩
  | .hbm, ⟨5, _⟩ => ⟨S2048x2560, .bf16⟩
  | .hbm, ⟨6, _⟩ => ⟨S32, .i32⟩
  | .hbm, ⟨7, _⟩ => ⟨S32x1, .i32⟩
  | .hbm, ⟨8, _⟩ => ⟨S32x64, .i32⟩
  | .hbm, ⟨9, _⟩ => ⟨S2048, .i32⟩
  | .hbm, ⟨10, _⟩ => ⟨S2048, .f32⟩
  | .hbm, ⟨11, _⟩ => ⟨S64, .i32⟩
  | .hbm, ⟨12, _⟩ => ⟨S1x64, .i32⟩
  | .hbm, ⟨13, _⟩ => ⟨S32x64, .i32⟩
  | .hbm, ⟨14, _⟩ => ⟨S2048, .i32⟩
  | .hbm, ⟨15, _⟩ => ⟨S2048, .f32⟩
  | .hbm, ⟨16, _⟩ => ⟨S16, .f32⟩
  | .hbm, ⟨17, _⟩ => ⟨S16, .f32⟩
  | .hbm, ⟨18, _⟩ => ⟨S_, .f32⟩
  | .hbm, ⟨19, _⟩ => ⟨S16, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S2048x1, .f32⟩
  | .hbm, ⟨25, _⟩ => ⟨S1x16, .f32⟩
  | .hbm, ⟨26, _⟩ => ⟨S2048x16, .f32⟩
  | .hbm, ⟨27, _⟩ => ⟨S2048x16, .f32⟩
  | .hbm, ⟨28, _⟩ => ⟨S2048x16, .f32⟩
  | .hbm, ⟨29, _⟩ => ⟨S2048x1, .f32⟩
  | .hbm, ⟨30, _⟩ => ⟨S1x16, .f32⟩
  | .hbm, ⟨31, _⟩ => ⟨S2048x16, .f32⟩
  | .hbm, ⟨32, _⟩ => ⟨S2048x16, .f32⟩
  | .hbm, ⟨33, _⟩ => ⟨S2048x16, .f32⟩
  | .hbm, ⟨34, _⟩ => ⟨S2048x16, .f32⟩
  | .hbm, ⟨35, _⟩ => ⟨S2048x16, .f32⟩
  | .hbm, ⟨36, _⟩ => ⟨S2048x64, .f32⟩
  | .hbm, ⟨37, _⟩ => ⟨S2048x16, .f32⟩
  | .hbm, ⟨38, _⟩ => ⟨S2048x16, .f32⟩
  | .hbm, ⟨39, _⟩ => ⟨S2048x16, .f32⟩
  | .hbm, ⟨40, _⟩ => ⟨S2048x16, .f32⟩
  | .hbm, ⟨41, _⟩ => ⟨S2048x16, .f32⟩
  | .hbm, ⟨42, _⟩ => ⟨S2048x16, .f32⟩
  | .hbm, ⟨43, _⟩ => ⟨S2048x64, .f32⟩
  | .hbm, ⟨44, _⟩ => ⟨S1x2048x1x64, .f32⟩
  | .hbm, ⟨45, _⟩ => ⟨S1x2048x2x64, .f32⟩
  | .hbm, ⟨46, _⟩ => ⟨S2048x128, .f32⟩
  | .hbm, ⟨47, _⟩ => ⟨S1x2048x1x64, .f32⟩
  | .hbm, ⟨48, _⟩ => ⟨S1x2048x2x64, .f32⟩
  | .hbm, ⟨49, _⟩ => ⟨S2048x128, .f32⟩
  | .hbm, ⟨50, _⟩ => ⟨S1x2048, .f32⟩
  | .hbm, ⟨51, _⟩ => ⟨S8x1x2048, .f32⟩
  | .hbm, ⟨52, _⟩ => ⟨S8x1x2048, .f32⟩
  | .hbm, ⟨53, _⟩ => ⟨S8x2048x2560, .f32⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x256, .bf16⟩
  | .local _ .vmem, ⟨8, _⟩ => ⟨S2048x256, .bf16⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S1x512x256, .f32⟩
  | .local _ .vmem, ⟨14, _⟩ => ⟨S1x512x256, .f32⟩
  | .local _ .vmem, ⟨15, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩
abbrev main_v40 : Ref sig .tc := ⟨.hbm, 47, rfl⟩
abbrev main_v41 : Ref sig .tc := ⟨.hbm, 48, rfl⟩
abbrev main_v42 : Ref sig .tc := ⟨.hbm, 49, rfl⟩
abbrev main_v43 : Ref sig .tc := ⟨.hbm, 50, rfl⟩
abbrev main_v44 : Ref sig .tc := ⟨.hbm, 51, rfl⟩
abbrev main_v45 : Ref sig .tc := ⟨.hbm, 52, rfl⟩
abbrev main_v46 : Ref sig .tc := ⟨.hbm, 53, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg7_1 : Ref sig .tc := ⟨.vmem, 14, rfl⟩
abbrev cc0_scratch0 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem7_1 : DmaSem sig := 14

abbrev nD : Nat := 1
abbrev τ : Topo := Topo.v7x

variable {F : FTy → Type} [FloatOps F]

abbrev grid0 : Pipeline.Grid := ⟨3, ![8, 4, 10], ![false, false, false]⟩

def k0_cond2 (i : grid0.Coords) : BitVec 1 :=
  let arg2 : BitVec 32 := BitVec.ofNat 32 (i 2).val
  let c9_i32 : BitVec 32 := 9#32
  let v7 : BitVec 1 := Scalar.cmpi .slt arg2 c9_i32
  let v8 : BitVec 32 := Scalar.extui v7
  let c0_i32_4 : BitVec 32 := 0#32
  let v9 : BitVec 1 := Scalar.cmpi .ne v8 c0_i32_4
  v9

def k0_cond3 (i : grid0.Coords) : BitVec 1 :=
  let arg2 : BitVec 32 := BitVec.ofNat 32 (i 2).val
  let c9_i32_5 : BitVec 32 := 9#32
  let v10 : BitVec 1 := Scalar.cmpi .sge arg2 c9_i32_5
  let v11 : BitVec 32 := Scalar.extui v10
  let c0_i32_6 : BitVec 32 := 0#32
  let v12 : BitVec 1 := Scalar.cmpi .ne v11 c0_i32_6
  v12

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_7 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true, false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]
-- ==== OddInRefIdeal.lean ====
abbrev S8x2048x2048 : Shape := ⟨3, ![8, 2048, 2048]⟩
abbrev S2048 : Shape := ⟨1, ![2048]⟩
abbrev S8x2048 : Shape := ⟨2, ![8, 2048]⟩
abbrev S2048x2560 : Shape := ⟨2, ![2048, 2560]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩
abbrev S8x2048x2560 : Shape := ⟨3, ![8, 2048, 2560]⟩
abbrev S32 : Shape := ⟨1, ![32]⟩
abbrev S32x1 : Shape := ⟨2, ![32, 1]⟩
abbrev S32x64 : Shape := ⟨2, ![32, 64]⟩
abbrev S64 : Shape := ⟨1, ![64]⟩
abbrev S1x64 : Shape := ⟨2, ![1, 64]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x32 : Shape := ⟨2, ![2048, 32]⟩
abbrev S8x2048x32x64 : Shape := ⟨4, ![8, 2048, 32, 64]⟩
abbrev S2048x1x32 : Shape := ⟨3, ![2048, 1, 32]⟩
abbrev S8x2048x32x32 : Shape := ⟨4, ![8, 2048, 32, 32]⟩
abbrev S2048x1x16 : Shape := ⟨3, ![2048, 1, 16]⟩
abbrev S8x2048x32x16 : Shape := ⟨4, ![8, 2048, 32, 16]⟩
abbrev S1x2048x1x16 : Shape := ⟨4, ![1, 2048, 1, 16]⟩
abbrev S8x2048x256 : Shape := ⟨3, ![8, 2048, 256]⟩
abbrev S8x2048x4x64 : Shape := ⟨4, ![8, 2048, 4, 64]⟩
abbrev S8x2048x4x32 : Shape := ⟨4, ![8, 2048, 4, 32]⟩
abbrev S8x2048x4x16 : Shape := ⟨4, ![8, 2048, 4, 16]⟩

abbrev nBuf : Space → Nat
  | .hbm => 156
  | .vmem => 0
  | .smem => 0
  | _ => 0

abbrev hbmTy0_0 (i : Nat) : BufTy := match i % 128 with
  | 0 => ⟨S8x2048x2048, .f32⟩
  | 1 => ⟨S2048, .f32⟩
  | 2 => ⟨S8x2048, .f32⟩
  | 3 => ⟨S8x2048, .f32⟩
  | 4 => ⟨S2048x2560, .f32⟩
  | 5 => ⟨S8x2048x2048, .f32⟩
  | 6 => ⟨S_, .f32⟩
  | 7 => ⟨S8x2048, .f32⟩
  | 8 => ⟨S8x2048x1, .f32⟩
  | 9 => ⟨S_, .f32⟩
  | 10 => ⟨S8x2048x1, .f32⟩
  | 11 => ⟨S8x2048x1, .f32⟩
  | 12 => ⟨S_, .f32⟩
  | 13 => ⟨S8x2048x1, .f32⟩
  | 14 => ⟨S8x2048x1, .f32⟩
  | 15 => ⟨S8x2048x1, .f32⟩
  | 16 => ⟨S8x2048x2048, .f32⟩
  | 17 => ⟨S8x2048x2048, .f32⟩
  | 18 => ⟨S1x1x2048, .f32⟩
  | 19 => ⟨S8x2048x2048, .f32⟩
  | 20 => ⟨S8x2048x2048, .f32⟩
  | 21 => ⟨S8x1x2048, .f32⟩
  | 22 => ⟨S_, .f32⟩
  | 23 => ⟨S8x1x2048, .f32⟩
  | 24 => ⟨S8x1x2048, .f32⟩
  | 25 => ⟨S8x2048x2048, .f32⟩
  | 26 => ⟨S8x2048x2048, .f32⟩
  | 27 => ⟨S8x1x2048, .f32⟩
  | 28 => ⟨S8x2048x2048, .f32⟩
  | 29 => ⟨S8x2048x2048, .f32⟩
  | 30 => ⟨S8x2048x2560, .f32⟩
  | 31 => ⟨S32, .i32⟩
  | 32 => ⟨S32x1, .i32⟩
  | 33 => ⟨S32x64, .i32⟩
  | 34 => ⟨S2048, .i32⟩
  | 35 => ⟨S2048, .f32⟩
  | 36 => ⟨S64, .i32⟩
  | 37 => ⟨S1x64, .i32⟩
  | 38 => ⟨S32x64, .i32⟩
  | 39 => ⟨S2048, .i32⟩
  | 40 => ⟨S2048, .f32⟩
  | 41 => ⟨S16, .f32⟩
  | 42 => ⟨S16, .f32⟩
  | 43 => ⟨S_, .f32⟩
  | 44 => ⟨S16, .f32⟩
  | 45 => ⟨S16, .f32⟩
  | 46 => ⟨S_, .f32⟩
  | 47 => ⟨S16, .f32⟩
  | 48 => ⟨S16, .f32⟩
  | 49 => ⟨S2048x1, .f32⟩
  | 50 => ⟨S1x16, .f32⟩
  | 51 => ⟨S2048x16, .f32⟩
  | 52 => ⟨S2048x16, .f32⟩
  | 53 => ⟨S2048x16, .f32⟩
  | 54 => ⟨S2048x1, .f32⟩
  | 55 => ⟨S1x16, .f32⟩
  | 56 => ⟨S2048x16, .f32⟩
  | 57 => ⟨S2048x16, .f32⟩
  | 58 => ⟨S2048x16, .f32⟩
  | 59 => ⟨S2048x32, .f32⟩
  | 60 => ⟨S2048x32, .f32⟩
  | 61 => ⟨S2048x32, .f32⟩
  | 62 => ⟨S8x2048x2048, .f32⟩
  | 63 => ⟨S8x2048x32x64, .f32⟩
  | 64 => ⟨S2048x1x32, .f32⟩
  | 65 => ⟨S2048x1x32, .f32⟩
  | 66 => ⟨S8x2048x32x32, .f32⟩
  | 67 => ⟨S2048x1x16, .f32⟩
  | 68 => ⟨S2048x1x16, .f32⟩
  | 69 => ⟨S8x2048x32x16, .f32⟩
  | 70 => ⟨S8x2048x32x16, .f32⟩
  | 71 => ⟨S1x2048x1x16, .f32⟩
  | 72 => ⟨S8x2048x32x16, .f32⟩
  | 73 => ⟨S8x2048x32x16, .f32⟩
  | 74 => ⟨S1x2048x1x16, .f32⟩
  | 75 => ⟨S8x2048x32x16, .f32⟩
  | 76 => ⟨S8x2048x32x16, .f32⟩
  | 77 => ⟨S8x2048x32x16, .f32⟩
  | 78 => ⟨S1x2048x1x16, .f32⟩
  | 79 => ⟨S8x2048x32x16, .f32⟩
  | 80 => ⟨S8x2048x32x16, .f32⟩
  | 81 => ⟨S1x2048x1x16, .f32⟩
  | 82 => ⟨S8x2048x32x16, .f32⟩
  | 83 => ⟨S8x2048x32x16, .f32⟩
  | 84 => ⟨S8x2048x32x16, .f32⟩
  | 85 => ⟨S8x2048x32x32, .f32⟩
  | 86 => ⟨S8x2048x32x32, .f32⟩
  | 87 => ⟨S2048x1x16, .f32⟩
  | 88 => ⟨S2048x1x16, .f32⟩
  | 89 => ⟨S8x2048x32x16, .f32⟩
  | 90 => ⟨S8x2048x32x16, .f32⟩
  | 91 => ⟨S1x2048x1x16, .f32⟩
  | 92 => ⟨S8x2048x32x16, .f32⟩
  | 93 => ⟨S8x2048x32x16, .f32⟩
  | 94 => ⟨S1x2048x1x16, .f32⟩
  | 95 => ⟨S8x2048x32x16, .f32⟩
  | 96 => ⟨S8x2048x32x16, .f32⟩
  | 97 => ⟨S8x2048x32x16, .f32⟩
  | 98 => ⟨S1x2048x1x16, .f32⟩
  | 99 => ⟨S8x2048x32x16, .f32⟩
  | 100 => ⟨S8x2048x32x16, .f32⟩
  | 101 => ⟨S1x2048x1x16, .f32⟩
  | 102 => ⟨S8x2048x32x16, .f32⟩
  | 103 => ⟨S8x2048x32x16, .f32⟩
  | 104 => ⟨S8x2048x32x16, .f32⟩
  | 105 => ⟨S8x2048x32x32, .f32⟩
  | 106 => ⟨S8x2048x32x64, .f32⟩
  | 107 => ⟨S8x2048x2048, .f32⟩
  | 108 => ⟨S8x2048x256, .f32⟩
  | 109 => ⟨S8x2048x4x64, .f32⟩
  | 110 => ⟨S2048x1x32, .f32⟩
  | 111 => ⟨S2048x1x32, .f32⟩
  | 112 => ⟨S8x2048x4x32, .f32⟩
  | 113 => ⟨S2048x1x16, .f32⟩
  | 114 => ⟨S2048x1x16, .f32⟩
  | 115 => ⟨S8x2048x4x16, .f32⟩
  | 116 => ⟨S8x2048x4x16, .f32⟩
  | 117 => ⟨S1x2048x1x16, .f32⟩
  | 118 => ⟨S8x2048x4x16, .f32⟩
  | 119 => ⟨S8x2048x4x16, .f32⟩
  | 120 => ⟨S1x2048x1x16, .f32⟩
  | 121 => ⟨S8x2048x4x16, .f32⟩
  | 122 => ⟨S8x2048x4x16, .f32⟩
  | 123 => ⟨S8x2048x4x16, .f32⟩
  | 124 => ⟨S1x2048x1x16, .f32⟩
  | 125 => ⟨S8x2048x4x16, .f32⟩
  | 126 => ⟨S8x2048x4x16, .f32⟩
  | 127 => ⟨S1x2048x1x16, .f32⟩
  | _ => ⟨S8x2048x2048, .f32⟩

abbrev hbmTy0_1 (i : Nat) : BufTy := match i % 128 with
  | 0 => ⟨S8x2048x4x16, .f32⟩
  | 1 => ⟨S8x2048x4x16, .f32⟩
  | 2 => ⟨S8x2048x4x16, .f32⟩
  | 3 => ⟨S8x2048x4x32, .f32⟩
  | 4 => ⟨S8x2048x4x32, .f32⟩
  | 5 => ⟨S2048x1x16, .f32⟩
  | 6 => ⟨S2048x1x16, .f32⟩
  | 7 => ⟨S8x2048x4x16, .f32⟩
  | 8 => ⟨S8x2048x4x16, .f32⟩
  | 9 => ⟨S1x2048x1x16, .f32⟩
  | 10 => ⟨S8x2048x4x16, .f32⟩
  | 11 => ⟨S8x2048x4x16, .f32⟩
  | 12 => ⟨S1x2048x1x16, .f32⟩
  | 13 => ⟨S8x2048x4x16, .f32⟩
  | 14 => ⟨S8x2048x4x16, .f32⟩
  | 15 => ⟨S8x2048x4x16, .f32⟩
  | 16 => ⟨S1x2048x1x16, .f32⟩
  | 17 => ⟨S8x2048x4x16, .f32⟩
  | 18 => ⟨S8x2048x4x16, .f32⟩
  | 19 => ⟨S1x2048x1x16, .f32⟩
  | 20 => ⟨S8x2048x4x16, .f32⟩
  | 21 => ⟨S8x2048x4x16, .f32⟩
  | 22 => ⟨S8x2048x4x16, .f32⟩
  | 23 => ⟨S8x2048x4x32, .f32⟩
  | 24 => ⟨S8x2048x4x64, .f32⟩
  | 25 => ⟨S8x2048x256, .f32⟩
  | 26 => ⟨S8x2048x256, .f32⟩
  | 27 => ⟨S8x2048x2560, .f32⟩
  | _ => ⟨S8x2048x2048, .f32⟩

abbrev hbmTy (i : Nat) : BufTy := match i / 128 with
  | 0 => hbmTy0_0 i
  | 1 => hbmTy0_1 i
  | _ => ⟨S8x2048x2048, .f32⟩

abbrev bufTy : (tb : Table) → Fin (tcTables nBuf tb) → BufTy
  | .hbm, ⟨i, _⟩ => hbmTy i
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_cst_3 : Ref sig .tc := ⟨.hbm, 43, rfl⟩
abbrev main_v34 : Ref sig .tc := ⟨.hbm, 44, rfl⟩
abbrev main_v35 : Ref sig .tc := ⟨.hbm, 45, rfl⟩
abbrev main_cst_4 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_v56 : Ref sig .tc := ⟨.hbm, 67, rfl⟩
abbrev main_v57 : Ref sig .tc := ⟨.hbm, 68, rfl⟩
abbrev main_v58 : Ref sig .tc := ⟨.hbm, 69, rfl⟩
abbrev main_v59 : Ref sig .tc := ⟨.hbm, 70, rfl⟩
abbrev main_v60 : Ref sig .tc := ⟨.hbm, 71, rfl⟩
abbrev main_v61 : Ref sig .tc := ⟨.hbm, 72, rfl⟩
abbrev main_v62 : Ref sig .tc := ⟨.hbm, 73, rfl⟩
abbrev main_v63 : Ref sig .tc := ⟨.hbm, 74, rfl⟩
abbrev main_v64 : Ref sig .tc := ⟨.hbm, 75, rfl⟩
abbrev main_v65 : Ref sig .tc := ⟨.hbm, 76, rfl⟩
abbrev main_v66 : Ref sig .tc := ⟨.hbm, 77, rfl⟩
abbrev main_v67 : Ref sig .tc := ⟨.hbm, 78, rfl⟩
abbrev main_v68 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩
abbrev main_v77 : Ref sig .tc := ⟨.hbm, 88, rfl⟩
abbrev main_v78 : Ref sig .tc := ⟨.hbm, 89, rfl⟩
abbrev main_v79 : Ref sig .tc := ⟨.hbm, 90, rfl⟩
abbrev main_v80 : Ref sig .tc := ⟨.hbm, 91, rfl⟩
abbrev main_v81 : Ref sig .tc := ⟨.hbm, 92, rfl⟩
abbrev main_v82 : Ref sig .tc := ⟨.hbm, 93, rfl⟩
abbrev main_v83 : Ref sig .tc := ⟨.hbm, 94, rfl⟩
abbrev main_v84 : Ref sig .tc := ⟨.hbm, 95, rfl⟩
abbrev main_v85 : Ref sig .tc := ⟨.hbm, 96, rfl⟩
abbrev main_v86 : Ref sig .tc := ⟨.hbm, 97, rfl⟩
abbrev main_v87 : Ref sig .tc := ⟨.hbm, 98, rfl⟩
abbrev main_v88 : Ref sig .tc := ⟨.hbm, 99, rfl⟩
abbrev main_v89 : Ref sig .tc := ⟨.hbm, 100, rfl⟩
abbrev main_v90 : Ref sig .tc := ⟨.hbm, 101, rfl⟩
abbrev main_v91 : Ref sig .tc := ⟨.hbm, 102, rfl⟩
abbrev main_v92 : Ref sig .tc := ⟨.hbm, 103, rfl⟩
abbrev main_v93 : Ref sig .tc := ⟨.hbm, 104, rfl⟩
abbrev main_v94 : Ref sig .tc := ⟨.hbm, 105, rfl⟩
abbrev main_v95 : Ref sig .tc := ⟨.hbm, 106, rfl⟩
abbrev main_v96 : Ref sig .tc := ⟨.hbm, 107, rfl⟩
abbrev main_v97 : Ref sig .tc := ⟨.hbm, 108, rfl⟩
abbrev main_v98 : Ref sig .tc := ⟨.hbm, 109, rfl⟩
abbrev main_v99 : Ref sig .tc := ⟨.hbm, 110, rfl⟩
abbrev main_v100 : Ref sig .tc := ⟨.hbm, 111, rfl⟩
abbrev main_v101 : Ref sig .tc := ⟨.hbm, 112, rfl⟩
abbrev main_v102 : Ref sig .tc := ⟨.hbm, 113, rfl⟩
abbrev main_v103 : Ref sig .tc := ⟨.hbm, 114, rfl⟩
abbrev main_v104 : Ref sig .tc := ⟨.hbm, 115, rfl⟩
abbrev main_v105 : Ref sig .tc := ⟨.hbm, 116, rfl⟩
abbrev main_v106 : Ref sig .tc := ⟨.hbm, 117, rfl⟩
abbrev main_v107 : Ref sig .tc := ⟨.hbm, 118, rfl⟩
abbrev main_v108 : Ref sig .tc := ⟨.hbm, 119, rfl⟩
abbrev main_v109 : Ref sig .tc := ⟨.hbm, 120, rfl⟩
abbrev main_v110 : Ref sig .tc := ⟨.hbm, 121, rfl⟩
abbrev main_v111 : Ref sig .tc := ⟨.hbm, 122, rfl⟩
abbrev main_v112 : Ref sig .tc := ⟨.hbm, 123, rfl⟩
abbrev main_v113 : Ref sig .tc := ⟨.hbm, 124, rfl⟩
abbrev main_v114 : Ref sig .tc := ⟨.hbm, 125, rfl⟩
abbrev main_v115 : Ref sig .tc := ⟨.hbm, 126, rfl⟩
abbrev main_v116 : Ref sig .tc := ⟨.hbm, 127, rfl⟩
abbrev main_v117 : Ref sig .tc := ⟨.hbm, 128, rfl⟩
abbrev main_v118 : Ref sig .tc := ⟨.hbm, 129, rfl⟩
abbrev main_v119 : Ref sig .tc := ⟨.hbm, 130, rfl⟩
abbrev main_v120 : Ref sig .tc := ⟨.hbm, 131, rfl⟩
abbrev main_v121 : Ref sig .tc := ⟨.hbm, 132, rfl⟩
abbrev main_v122 : Ref sig .tc := ⟨.hbm, 133, rfl⟩
abbrev main_v123 : Ref sig .tc := ⟨.hbm, 134, rfl⟩
abbrev main_v124 : Ref sig .tc := ⟨.hbm, 135, rfl⟩
abbrev main_v125 : Ref sig .tc := ⟨.hbm, 136, rfl⟩
abbrev main_v126 : Ref sig .tc := ⟨.hbm, 137, rfl⟩
abbrev main_v127 : Ref sig .tc := ⟨.hbm, 138, rfl⟩
abbrev main_v128 : Ref sig .tc := ⟨.hbm, 139, rfl⟩
abbrev main_v129 : Ref sig .tc := ⟨.hbm, 140, rfl⟩
abbrev main_v130 : Ref sig .tc := ⟨.hbm, 141, rfl⟩
abbrev main_v131 : Ref sig .tc := ⟨.hbm, 142, rfl⟩
abbrev main_v132 : Ref sig .tc := ⟨.hbm, 143, rfl⟩
abbrev main_v133 : Ref sig .tc := ⟨.hbm, 144, rfl⟩
abbrev main_v134 : Ref sig .tc := ⟨.hbm, 145, rfl⟩
abbrev main_v135 : Ref sig .tc := ⟨.hbm, 146, rfl⟩
abbrev main_v136 : Ref sig .tc := ⟨.hbm, 147, rfl⟩
abbrev main_v137 : Ref sig .tc := ⟨.hbm, 148, rfl⟩
abbrev main_v138 : Ref sig .tc := ⟨.hbm, 149, rfl⟩
abbrev main_v139 : Ref sig .tc := ⟨.hbm, 150, rfl⟩
abbrev main_v140 : Ref sig .tc := ⟨.hbm, 151, rfl⟩
abbrev main_v141 : Ref sig .tc := ⟨.hbm, 152, rfl⟩
abbrev main_v142 : Ref sig .tc := ⟨.hbm, 153, rfl⟩
abbrev main_v143 : Ref sig .tc := ⟨.hbm, 154, rfl⟩
abbrev main_v144 : Ref sig .tc := ⟨.hbm, 155, rfl⟩

abbrev nD : Nat := 1
abbrev τ : Topo := Topo.v7x

variable {F : FTy → Type} [FloatOps F]
-- ==== Query.lean ====
abbrev S8x2048x2048 : Shape := ⟨3, ![8, 2048, 2048]⟩
abbrev S2048 : Shape := ⟨1, ![2048]⟩
abbrev S8x2048 : Shape := ⟨2, ![8, 2048]⟩
abbrev S2048x2048 : Shape := ⟨2, ![2048, 2048]⟩
abbrev S1x2048 : Shape := ⟨2, ![1, 2048]⟩
abbrev S8x1x2048 : Shape := ⟨3, ![8, 1, 2048]⟩
abbrev S1x512x2048 : Shape := ⟨3, ![1, 512, 2048]⟩
abbrev S1x1x2048 : Shape := ⟨3, ![1, 1, 2048]⟩
abbrev S2048x512 : Shape := ⟨2, ![2048, 512]⟩
abbrev S1x512x512 : Shape := ⟨3, ![1, 512, 512]⟩
abbrev S512x2048 : Shape := ⟨2, ![512, 2048]⟩
abbrev S512 : Shape := ⟨1, ![512]⟩
abbrev S512x1 : Shape := ⟨2, ![512, 1]⟩
abbrev S512x512 : Shape := ⟨2, ![512, 512]⟩

abbrev nBuf : Space → Nat
  | .hbm => 11
  | .vmem => 14
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x2048, .f32⟩
  | .hbm, ⟨5, _⟩ => ⟨S2048x2048, .bf16⟩
  | .hbm, ⟨6, _⟩ => ⟨S1x2048, .f32⟩
  | .hbm, ⟨7, _⟩ => ⟨S8x1x2048, .f32⟩
  | .hbm, ⟨8, _⟩ => ⟨S8x1x2048, .f32⟩
  | .hbm, ⟨9, _⟩ => ⟨S8x2048x2048, .f32⟩
  | .hbm, ⟨10, _⟩ => ⟨S8x2048x2048, .bf16⟩
  | .local _ .vmem, ⟨0, _⟩ => ⟨S1x512x2048, .f32⟩
  | .local _ .vmem, ⟨1, _⟩ => ⟨S1x512x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x512, .bf16⟩
  | .local _ .vmem, ⟨8, _⟩ => ⟨S2048x512, .bf16⟩
  | .local _ .vmem, ⟨9, _⟩ => ⟨S1x512x512, .f32⟩
  | .local _ .vmem, ⟨10, _⟩ => ⟨S1x512x512, .f32⟩
  | .local _ .vmem, ⟨11, _⟩ => ⟨S1x512x2048, .bf16⟩
  | .local _ .vmem, ⟨12, _⟩ => ⟨S1x512x2048, .bf16⟩
  | .local _ .vmem, ⟨13, _⟩ => ⟨S512x2048, .bf16⟩
  | _, _ => ⟨S8x2048x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨3, ![8, 4, 4], ![false, false, false]⟩

def k0_cond1 (i : grid0.Coords) : BitVec 1 :=
  let arg2 : BitVec 32 := BitVec.ofNat 32 (i 2).val
  let c0_i32 : BitVec 32 := 0#32
  let v0 : BitVec 1 := Scalar.cmpi .eq arg2 c0_i32
  let v1 : BitVec 32 := Scalar.extui v0
  let c0_i32_0 : BitVec 32 := 0#32
  let v2 : BitVec 1 := Scalar.cmpi .ne v1 c0_i32_0
  v2

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage0_0 : Fin 2 → Memref sig .tc .vmem S1x512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S2048x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, false, true]

abbrev stage0_5 : Fin 2 → Memref sig .tc .vmem S1x512x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S1x512x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]
-- ==== QueryRefIdeal.lean ====
abbrev S8x2048x2048 : Shape := ⟨3, ![8, 2048, 2048]⟩
abbrev S2048 : Shape := ⟨1, ![2048]⟩
abbrev S8x2048 : Shape := ⟨2, ![8, 2048]⟩
abbrev S2048x2048 : Shape := ⟨2, ![2048, 2048]⟩
abbrev S_ : Shape := ⟨0, ![]⟩
abbrev S8x2048x1 : Shape := ⟨3, ![8, 2048, 1]⟩
abbrev S1x1x2048 : Shape := ⟨3, ![1, 1, 2048]⟩
abbrev S8x1x2048 : Shape := ⟨3, ![8, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S8x2048x2048, .f32⟩
  | .hbm, ⟨1, _⟩ => ⟨S2048, .f32⟩
  | .hbm, ⟨2, _⟩ => ⟨S8x2048, .f32⟩
  | .hbm, ⟨3, _⟩ => ⟨S8x2048, .f32⟩
  | .hbm, ⟨4, _⟩ => ⟨S2048x2048, .f32⟩
  | .hbm, ⟨5, _⟩ => ⟨S8x2048x2048, .f32⟩
  | .hbm, ⟨6, _⟩ => ⟨S_, .f32⟩
  | .hbm, ⟨7, _⟩ => ⟨S8x2048, .f32⟩
  | .hbm, ⟨8, _⟩ => ⟨S8x2048x1, .f32⟩
  | .hbm, ⟨9, _⟩ => ⟨S_, .f32⟩
  | .hbm, ⟨10, _⟩ => ⟨S8x2048x1, .f32⟩
  | .hbm, ⟨11, _⟩ => ⟨S8x2048x1, .f32⟩
  | .hbm, ⟨12, _⟩ => ⟨S_, .f32⟩
  | .hbm, ⟨13, _⟩ => ⟨S8x2048x1, .f32⟩
  | .hbm, ⟨14, _⟩ => ⟨S8x2048x1, .f32⟩
  | .hbm, ⟨15, _⟩ => ⟨S8x2048x1, .f32⟩
  | .hbm, ⟨16, _⟩ => ⟨S8x2048x2048, .f32⟩
  | .hbm, ⟨17, _⟩ => ⟨S8x2048x2048, .f32⟩
  | .hbm, ⟨18, _⟩ => ⟨S1x1x2048, .f32⟩
  | .hbm, ⟨19, _⟩ => ⟨S8x2048x2048, .f32⟩
  | .hbm, ⟨20, _⟩ => ⟨S8x2048x2048, .f32⟩
  | .hbm, ⟨21, _⟩ => ⟨S8x1x2048, .f32⟩
  | .hbm, ⟨22, _⟩ => ⟨S_, .f32⟩
  | .hbm, ⟨23, _⟩ => ⟨S8x1x2048, .f32⟩
  | .hbm, ⟨24, _⟩ => ⟨S8x1x2048, .f32⟩
  | .hbm, ⟨25, _⟩ => ⟨S8x2048x2048, .f32⟩
  | .hbm, ⟨26, _⟩ => ⟨S8x2048x2048, .f32⟩
  | .hbm, ⟨27, _⟩ => ⟨S8x1x2048, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .bf16⟩
  | _, _ => ⟨S8x2048x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩

abbrev nD : Nat := 1
abbrev τ : Topo := Topo.v7x

variable {F : FTy → Type} [FloatOps F]
-- ==== EvenOut.lean ====
abbrev S8x2048x1536 : Shape := ⟨3, ![8, 2048, 1536]⟩
abbrev S8x2048x512 : Shape := ⟨3, ![8, 2048, 512]⟩
abbrev S2048x2048 : Shape := ⟨2, ![2048, 2048]⟩
abbrev S8x2048x2048 : Shape := ⟨3, ![8, 2048, 2048]⟩
abbrev S8x2048 : Shape := ⟨2, ![8, 2048]⟩
abbrev S1536x2048 : Shape := ⟨2, ![1536, 2048]⟩
abbrev S512x2048 : Shape := ⟨2, ![512, 2048]⟩
abbrev S8x1x2048 : Shape := ⟨3, ![8, 1, 2048]⟩
abbrev S1x1024x1536 : Shape := ⟨3, ![1, 1024, 1536]⟩
abbrev S1x1024x512 : Shape := ⟨3, ![1, 1024, 512]⟩
abbrev S1536x512 : Shape := ⟨2, ![1536, 512]⟩
abbrev S512x512 : Shape := ⟨2, ![512, 512]⟩
abbrev S1x1x512 : Shape := ⟨3, ![1, 1, 512]⟩
abbrev S1024x1536 : Shape := ⟨2, ![1024, 1536]⟩
abbrev S1024x512 : Shape := ⟨2, ![1024, 512]⟩
abbrev S1x512 : Shape := ⟨2, ![1, 512]⟩

abbrev nBuf : Space → Nat
  | .hbm => 10
  | .vmem => 14
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x512, .bf16⟩
  | .hbm, ⟨2, _⟩ => ⟨S2048x2048, .f32⟩
  | .hbm, ⟨3, _⟩ => ⟨S8x2048x2048, .f32⟩
  | .hbm, ⟨4, _⟩ => ⟨S8x2048, .f32⟩
  | .hbm, ⟨5, _⟩ => ⟨S2048x2048, .bf16⟩
  | .hbm, ⟨6, _⟩ => ⟨S1536x2048, .bf16⟩
  | .hbm, ⟨7, _⟩ => ⟨S512x2048, .bf16⟩
  | .hbm, ⟨8, _⟩ => ⟨S8x1x2048, .f32⟩
  | .hbm, ⟨9, _⟩ => ⟨S8x2048x2048, .f32⟩
  | .local _ .vmem, ⟨0, _⟩ => ⟨S1x1024x1536, .bf16⟩
  | .local _ .vmem, ⟨1, _⟩ => ⟨S1x1024x1536, .bf16⟩
  | .local _ .vmem, ⟨2, _⟩ => ⟨S1x1024x512, .bf16⟩
  | .local _ .vmem, ⟨3, _⟩ => ⟨S1x1024x512, .bf16⟩
  | .local _ .vmem, ⟨4, _⟩ => ⟨S1536x512, .bf16⟩
  | .local _ .vmem, ⟨5, _⟩ => ⟨S1536x512, .bf16⟩
  | .local _ .vmem, ⟨6, _⟩ => ⟨S512x512, .bf16⟩
  | .local _ .vmem, ⟨7, _⟩ => ⟨S512x512, .bf16⟩
  | .local _ .vmem, ⟨8, _⟩ => ⟨S1x1024x512, .f32⟩
  | .local _ .vmem, ⟨9, _⟩ => ⟨S1x1024x512, .f32⟩
  | .local _ .vmem, ⟨10, _⟩ => ⟨S1x1x512, .f32⟩
  | .local _ .vmem, ⟨11, _⟩ => ⟨S1x1x512, .f32⟩
  | .local _ .vmem, ⟨12, _⟩ => ⟨S1x1024x512, .f32⟩
  | .local _ .vmem, ⟨13, _⟩ => ⟨S1x1024x512, .f32⟩
  | _, _ => ⟨S8x2048x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_6 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1536x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, false, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, true]

abbrev stage0_6 : Fin 2 → Memref sig .tc .vmem S1x1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]
-- ==== EvenOutRefIdeal.lean ====
abbrev S8x2048x1536 : Shape := ⟨3, ![8, 2048, 1536]⟩
abbrev S8x2048x512 : Shape := ⟨3, ![8, 2048, 512]⟩
abbrev S2048x2048 : Shape := ⟨2, ![2048, 2048]⟩
abbrev S8x2048x2048 : Shape := ⟨3, ![8, 2048, 2048]⟩
abbrev S8x2048 : Shape := ⟨2, ![8, 2048]⟩
abbrev S8x1x2048 : Shape := ⟨3, ![8, 1, 2048]⟩

abbrev nBuf : Space → Nat
  | .hbm => 12
  | .vmem => 0
  | .smem => 0
  | _ => 0

abbrev bufTy : (tb : Table) → Fin (tcTables nBuf tb) → BufTy
  | .hbm, ⟨0, _⟩ => ⟨S8x2048x1536, .bf16⟩
  | .hbm, ⟨1, _⟩ => ⟨S8x2048x512, .bf16⟩
  | .hbm, ⟨2, _⟩ => ⟨S2048x2048, .f32⟩
  | .hbm, ⟨3, _⟩ => ⟨S8x2048x2048, .f32⟩
  | .hbm, ⟨4, _⟩ => ⟨S8x2048, .f32⟩
  | .hbm, ⟨5, _⟩ => ⟨S8x2048x2048, .bf16⟩
  | .hbm, ⟨6, _⟩ => ⟨S8x2048x2048, .f32⟩
  | .hbm, ⟨7, _⟩ => ⟨S8x1x2048, .f32⟩
  | .hbm, ⟨8, _⟩ => ⟨S8x2048x2048, .f32⟩
  | .hbm, ⟨9, _⟩ => ⟨S8x2048x2048, .f32⟩
  | .hbm, ⟨10, _⟩ => ⟨S8x2048x2048, .f32⟩
  | .hbm, ⟨11, _⟩ => ⟨S8x2048x2048, .f32⟩
  | _, _ => ⟨S8x2048x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩

abbrev nD : Nat := 1
abbrev τ : Topo := Topo.v7x

variable {F : FTy → Type} [FloatOps F]
-- ==== OddOut.lean ====
abbrev S8x2048x2048 : Shape := ⟨3, ![8, 2048, 2048]⟩
abbrev S2048x2048 : Shape := ⟨2, ![2048, 2048]⟩
abbrev S8x2048 : Shape := ⟨2, ![8, 2048]⟩
abbrev S8x1x2048 : Shape := ⟨3, ![8, 1, 2048]⟩
abbrev S1x1024x2048 : Shape := ⟨3, ![1, 1024, 2048]⟩
abbrev S2048x512 : Shape := ⟨2, ![2048, 512]⟩
abbrev S1x1024x512 : Shape := ⟨3, ![1, 1024, 512]⟩
abbrev S1x1x512 : Shape := ⟨3, ![1, 1, 512]⟩
abbrev S1024x2048 : Shape := ⟨2, ![1024, 2048]⟩
abbrev S1024x512 : Shape := ⟨2, ![1024, 512]⟩
abbrev S1x512 : Shape := ⟨2, ![1, 512]⟩

abbrev nBuf : Space → Nat
  | .hbm => 7
  | .vmem => 10
  | .smem => 0
  | _ => 0

abbrev bufTy : (tb : Table) → Fin (tcTables nBuf tb) → BufTy
  | .hbm, ⟨0, _⟩ => ⟨S8x2048x2048, .bf16⟩
  | .hbm, ⟨1, _⟩ => ⟨S2048x2048, .f32⟩
  | .hbm, ⟨2, _⟩ => ⟨S8x2048x2048, .f32⟩
  | .hbm, ⟨3, _⟩ => ⟨S8x2048, .f32⟩
  | .hbm, ⟨4, _⟩ => ⟨S2048x2048, .bf16⟩
  | .hbm, ⟨5, _⟩ => ⟨S8x1x2048, .f32⟩
  | .hbm, ⟨6, _⟩ => ⟨S8x2048x2048, .f32⟩
  | .local _ .vmem, ⟨0, _⟩ => ⟨S1x1024x2048, .bf16⟩
  | .local _ .vmem, ⟨1, _⟩ => ⟨S1x1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1x1024x512, .f32⟩
  | .local _ .vmem, ⟨5, _⟩ => ⟨S1x1024x512, .f32⟩
  | .local _ .vmem, ⟨6, _⟩ => ⟨S1x1x512, .f32⟩
  | .local _ .vmem, ⟨7, _⟩ => ⟨S1x1x512, .f32⟩
  | .local _ .vmem, ⟨8, _⟩ => ⟨S1x1024x512, .f32⟩
  | .local _ .vmem, ⟨9, _⟩ => ⟨S1x1024x512, .f32⟩
  | _, _ => ⟨S8x2048x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![8, 2, 4], ![false, false, false]⟩

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S1x1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, false, true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]
-- ==== OddOutRefIdeal.lean ====
abbrev S8x2048x2048 : Shape := ⟨3, ![8, 2048, 2048]⟩
abbrev S2048x2048 : Shape := ⟨2, ![2048, 2048]⟩
abbrev S8x2048 : Shape := ⟨2, ![8, 2048]⟩
abbrev S8x1x2048 : Shape := ⟨3, ![8, 1, 2048]⟩

abbrev nBuf : Space → Nat
  | .hbm => 10
  | .vmem => 0
  | .smem => 0
  | _ => 0

abbrev bufTy : (tb : Table) → Fin (tcTables nBuf tb) → BufTy
  | .hbm, ⟨0, _⟩ => ⟨S8x2048x2048, .bf16⟩
  | .hbm, ⟨1, _⟩ => ⟨S2048x2048, .f32⟩
  | .hbm, ⟨2, _⟩ => ⟨S8x2048x2048, .f32⟩
  | .hbm, ⟨3, _⟩ => ⟨S8x2048, .f32⟩
  | .hbm, ⟨4, _⟩ => ⟨S8x1x2048, .f32⟩
  | .hbm, ⟨5, _⟩ => ⟨S8x2048x2048, .f32⟩
  | .hbm, ⟨6, _⟩ => ⟨S8x2048x2048, .f32⟩
  | .hbm, ⟨7, _⟩ => ⟨S8x2048x2048, .f32⟩
  | .hbm, ⟨8, _⟩ => ⟨S8x2048x2048, .f32⟩
  | .hbm, ⟨9, _⟩ => ⟨S8x2048x2048, .f32⟩
  | _, _ => ⟨S8x2048x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Gdn.lean ====
abbrev S8x2048x4608 : Shape := ⟨3, ![8, 2048, 4608]⟩
abbrev S8x2048x7168 : Shape := ⟨3, ![8, 2048, 7168]⟩
abbrev S2x12 : Shape := ⟨2, ![2, 12]⟩
abbrev S2x8x12x128x128 : Shape := ⟨5, ![2, 8, 12, 128, 128]⟩
abbrev S_ : Shape := ⟨0, ![]⟩
abbrev S2x104 : Shape := ⟨2, ![2, 104]⟩
abbrev S2x128 : Shape := ⟨2, ![2, 128]⟩
abbrev S2x1x128 : Shape := ⟨3, ![2, 1, 128]⟩
abbrev S2x8x2048x1536 : Shape := ⟨4, ![2, 8, 2048, 1536]⟩
abbrev S1x64x1536 : Shape := ⟨3, ![1, 64, 1536]⟩
abbrev S1x64x128 : Shape := ⟨3, ![1, 64, 128]⟩
abbrev S1x1x128 : Shape := ⟨3, ![1, 1, 128]⟩
abbrev S1x1x12x128x128 : Shape := ⟨5, ![1, 1, 12, 128, 128]⟩
abbrev S1x1x64x1536 : Shape := ⟨4, ![1, 1, 64, 1536]⟩
abbrev S12x128x128 : Shape := ⟨3, ![12, 128, 128]⟩
abbrev S64x128 : Shape := ⟨2, ![64, 128]⟩
abbrev S1x128 : Shape := ⟨2, ![1, 128]⟩
abbrev S64x64 : Shape := ⟨2, ![64, 64]⟩
abbrev S128 : Shape := ⟨1, ![128]⟩
abbrev S128x64 : Shape := ⟨2, ![128, 64]⟩
abbrev S64x1 : Shape := ⟨2, ![64, 1]⟩
abbrev S1x64 : Shape := ⟨2, ![1, 64]⟩
abbrev S1x128x128 : Shape := ⟨3, ![1, 128, 128]⟩
abbrev S128x128 : Shape := ⟨2, ![128, 128]⟩
abbrev S1x1x64x128 : Shape := ⟨4, ![1, 1, 64, 128]⟩
abbrev S1x1 : Shape := ⟨2, ![1, 1]⟩

abbrev nBuf : Space → Nat
  | .hbm => 20
  | .vmem => 19
  | .smem => 0
  | _ => 0

abbrev bufTy : (tb : Table) → Fin (tcTables nBuf tb) → BufTy
  | .hbm, ⟨0, _⟩ => ⟨S8x2048x4608, .f32⟩
  | .hbm, ⟨1, _⟩ => ⟨S8x2048x7168, .f32⟩
  | .hbm, ⟨2, _⟩ => ⟨S2x12, .f32⟩
  | .hbm, ⟨3, _⟩ => ⟨S2x12, .f32⟩
  | .hbm, ⟨4, _⟩ => ⟨S2x8x12x128x128, .f32⟩
  | .hbm, ⟨5, _⟩ => ⟨S2x12, .f32⟩
  | .hbm, ⟨6, _⟩ => ⟨S_, .f32⟩
  | .hbm, ⟨7, _⟩ => ⟨S2x12, .f32⟩
  | .hbm, ⟨8, _⟩ => ⟨S_, .f32⟩
  | .hbm, ⟨9, _⟩ => ⟨S2x104, .f32⟩
  | .hbm, ⟨10, _⟩ => ⟨S2x128, .f32⟩
  | .hbm, ⟨11, _⟩ => ⟨S2x1x128, .f32⟩
  | .hbm, ⟨12, _⟩ => ⟨S_, .f32⟩
  | .hbm, ⟨13, _⟩ => ⟨S2x12, .f32⟩
  | .hbm, ⟨14, _⟩ => ⟨S_, .f32⟩
  | .hbm, ⟨15, _⟩ => ⟨S2x104, .f32⟩
  | .hbm, ⟨16, _⟩ => ⟨S2x128, .f32⟩
  | .hbm, ⟨17, _⟩ => ⟨S2x1x128, .f32⟩
  | .hbm, ⟨18, _⟩ => ⟨S2x8x2048x1536, .f32⟩
  | .hbm, ⟨19, _⟩ => ⟨S2x8x12x128x128, .f32⟩
  | .local _ .vmem, ⟨0, _⟩ => ⟨S1x64x1536, .f32⟩
  | .local _ .vmem, ⟨1, _⟩ => ⟨S1x64x1536, .f32⟩
  | .local _ .vmem, ⟨2, _⟩ => ⟨S1x64x1536, .f32⟩
  | .local _ .vmem, ⟨3, _⟩ => ⟨S1x64x1536, .f32⟩
  | .local _ .vmem, ⟨4, _⟩ => ⟨S1x64x1536, .f32⟩
  | .local _ .vmem, ⟨5, _⟩ => ⟨S1x64x1536, .f32⟩
  | .local _ .vmem, ⟨6, _⟩ => ⟨S1x64x128, .f32⟩
  | .local _ .vmem, ⟨7, _⟩ => ⟨S1x64x128, .f32⟩
  | .local _ .vmem, ⟨8, _⟩ => ⟨S1x1x128, .f32⟩
  | .local _ .vmem, ⟨9, _⟩ => ⟨S1x1x128, .f32⟩
  | .local _ .vmem, ⟨10, _⟩ => ⟨S1x1x128, .f32⟩
  | .local _ .vmem, ⟨11, _⟩ => ⟨S1x1x128, .f32⟩
  | .local _ .vmem, ⟨12, _⟩ => ⟨S1x1x12x128x128, .f32⟩
  | .local _ .vmem, ⟨13, _⟩ => ⟨S1x1x12x128x128, .f32⟩
  | .local _ .vmem, ⟨14, _⟩ => ⟨S1x1x64x1536, .f32⟩
  | .local _ .vmem, ⟨15, _⟩ => ⟨S1x1x64x1536, .f32⟩
  | .local _ .vmem, ⟨16, _⟩ => ⟨S1x1x12x128x128, .f32⟩
  | .local _ .vmem, ⟨17, _⟩ => ⟨S1x1x12x128x128, .f32⟩
  | .local _ .vmem, ⟨18, _⟩ => ⟨S12x128x128, .f32⟩
  | _, _ => ⟨S8x2048x4608, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_cst_2 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9_0 : Ref sig .tc := ⟨.hbm, 18, rfl⟩
abbrev main_v9_1 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![2, 8, 32], ![false, false, false]⟩

def k0_cond2 (i : grid0.Coords) : BitVec 1 :=
  let arg2 : BitVec 32 := BitVec.ofNat 32 (i 2).val
  let c31_i32 : BitVec 32 := 31#32
  let v1180 : BitVec 1 := Scalar.cmpi .eq arg2 c31_i32
  let v1181 : BitVec 32 := Scalar.extui v1180
  let c0_i32_488 : BitVec 32 := 0#32
  let v1182 : BitVec 1 := Scalar.cmpi .ne v1181 c0_i32_488
  v1182

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  let c0_i32_0 : BitVec 32 := 0#32
  ![arg1.toNat, v3.toNat, c0_i32.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c1_i32 : BitVec 32 := 1#32
  let c0_i32 : BitVec 32 := 0#32
  ![arg1.toNat, v3.toNat, c1_i32.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c2_i32_0 : BitVec 32 := 2#32
  let c0_i32 : BitVec 32 := 0#32
  ![arg1.toNat, v3.toNat, c2_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c52_i32 : BitVec 32 := 52#32
  let v4 : BitVec 32 := Scalar.addi c52_i32 arg0
  let c0_i32 : BitVec 32 := 0#32
  ![arg1.toNat, v3.toNat, v4.toNat]

def cc0_transform_4 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli c2_i32 arg2
  let c31_i32 : BitVec 32 := 31#32
  let v1 : BitVec 32 := Scalar.subi c31_i32 v0
  let v2 : BitVec 32 := Scalar.muli arg0 v1
  let v3 : BitVec 32 := Scalar.addi arg2 v2
  let c0_i32 : BitVec 32 := 0#32
  let c0_i32_0 : BitVec 32 := 0#32
  ![arg0.toNat, arg1.toNat, v3.toNat, c0_i32.toNat]

def cc0_transform_8 (i : grid0.Coords) : Fin 5 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  let c0_i32_2 : BitVec 32 := 0#32
  ![arg0.toNat, arg1.toNat, c0_i32.toNat, c0_i32_0.toNat, c0_i32_1.toNat]

abbrev stage0_0 : Fin 2 → Memref sig .tc .vmem S1x64x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x64x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x64x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S1x64x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S1x1x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false, false]

abbrev stage0_6 : Fin 2 → Memref sig .tc .vmem S1x1x12x128x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, false]

abbrev stage0_7 : Fin 2 → Memref sig .tc .vmem S1x1x64x1536 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true, true]

abbrev stage0_8 : Fin 2 → Memref sig .tc .vmem S1x1x12x128x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, false]
-- ==== GdnRefIdeal.lean ====
abbrev S8x2048x4608 : Shape := ⟨3, ![8, 2048, 4608]⟩
abbrev S8x2048x7168 : Shape := ⟨3, ![8, 2048, 7168]⟩
abbrev S2x12 : Shape := ⟨2, ![2, 12]⟩
abbrev S2x8x12x128x128 : Shape := ⟨5, ![2, 8, 12, 128, 128]⟩
abbrev S8x2048x1536 : Shape := ⟨3, ![8, 2048, 1536]⟩
abbrev S8x2048x12x128 : Shape := ⟨4, ![8, 2048, 12, 128]⟩
abbrev S8x2048x24 : Shape := ⟨3, ![8, 2048, 24]⟩
abbrev S16x2048x24 : Shape := ⟨3, ![16, 2048, 24]⟩
abbrev S16x2048x12 : Shape := ⟨3, ![16, 2048, 12]⟩
abbrev S_ : Shape := ⟨0, ![]⟩
abbrev S2x1x1x12 : Shape := ⟨4, ![2, 1, 1, 12]⟩
abbrev S2x8x2048x12 : Shape := ⟨4, ![2, 8, 2048, 12]⟩
abbrev S16x2048x12x128 : Shape := ⟨4, ![16, 2048, 12, 128]⟩
abbrev S16x32x64x12x128 : Shape := ⟨5, ![16, 32, 64, 12, 128]⟩
abbrev S16x12x32x64x128 : Shape := ⟨5, ![16, 12, 32, 64, 128]⟩
abbrev S16x32x64x12 : Shape := ⟨4, ![16, 32, 64, 12]⟩
abbrev S16x12x32x64 : Shape := ⟨4, ![16, 12, 32, 64]⟩
abbrev S64 : Shape := ⟨1, ![64]⟩
abbrev S64x1 : Shape := ⟨2, ![64, 1]⟩
abbrev S1x64 : Shape := ⟨2, ![1, 64]⟩
abbrev S64x64 : Shape := ⟨2, ![64, 64]⟩
abbrev S16x12x32x64x1 : Shape := ⟨5, ![16, 12, 32, 64, 1]⟩
abbrev S16x12x32x1x64 : Shape := ⟨5, ![16, 12, 32, 1, 64]⟩
abbrev S16x12x32x64x64 : Shape := ⟨5, ![16, 12, 32, 64, 64]⟩
abbrev S16x12x32x1 : Shape := ⟨4, ![16, 12, 32, 1]⟩
abbrev S16x12x32x128x64 : Shape := ⟨5, ![16, 12, 32, 128, 64]⟩
abbrev S16x12x32x1x1 : Shape := ⟨5, ![16, 12, 32, 1, 1]⟩
abbrev S16x12x128x128 : Shape := ⟨4, ![16, 12, 128, 128]⟩
abbrev S32x16x12x64x128 : Shape := ⟨5, ![32, 16, 12, 64, 128]⟩
abbrev S32x16x12x64x64 : Shape := ⟨5, ![32, 16, 12, 64, 64]⟩
abbrev S32x16x12x1x1 : Shape := ⟨5, ![32, 16, 12, 1, 1]⟩
abbrev S32x16x12x128x64 : Shape := ⟨5, ![32, 16, 12, 128, 64]⟩
abbrev S1x16x12x64x128 : Shape := ⟨5, ![1, 16, 12, 64, 128]⟩
abbrev S16x12x64x128 : Shape := ⟨4, ![16, 12, 64, 128]⟩
abbrev S1x16x12x64x64 : Shape := ⟨5, ![1, 16, 12, 64, 64]⟩
abbrev S16x12x64x64 : Shape := ⟨4, ![16, 12, 64, 64]⟩
abbrev S1x16x12x1x1 : Shape := ⟨5, ![1, 16, 12, 1, 1]⟩
abbrev S16x12x1x1 : Shape := ⟨4, ![16, 12, 1, 1]⟩
abbrev S1x16x12x128x64 : Shape := ⟨5, ![1, 16, 12, 128, 64]⟩
abbrev S16x12x128x64 : Shape := ⟨4, ![16, 12, 128, 64]⟩
abbrev S2x8x2048x1536 : Shape := ⟨4, ![2, 8, 2048, 1536]⟩

abbrev nBuf : Space → Nat
  | .hbm => 725
  | .vmem => 0
  | .smem => 0
  | _ => 0

abbrev hbmTy0_0 (i : Nat) : BufTy := match i % 128 with
  | 0 => ⟨S8x2048x4608, .f32⟩
  | 1 => ⟨S8x2048x7168, .f32⟩
  | 2 => ⟨S2x12, .f32⟩
  | 3 => ⟨S2x12, .f32⟩
  | 4 => ⟨S2x8x12x128x128, .f32⟩
  | 5 => ⟨S8x2048x1536, .f32⟩
  | 6 => ⟨S8x2048x12x128, .f32⟩
  | 7 => ⟨S8x2048x1536, .f32⟩
  | 8 => ⟨S8x2048x12x128, .f32⟩
  | 9 => ⟨S8x2048x1536, .f32⟩
  | 10 => ⟨S8x2048x12x128, .f32⟩
  | 11 => ⟨S8x2048x24, .f32⟩
  | 12 => ⟨S8x2048x24, .f32⟩
  | 13 => ⟨S8x2048x24, .f32⟩
  | 14 => ⟨S16x2048x24, .f32⟩
  | 15 => ⟨S16x2048x12, .f32⟩
  | 16 => ⟨S16x2048x12, .f32⟩
  | 17 => ⟨S16x2048x12, .f32⟩
  | 18 => ⟨S_, .f32⟩
  | 19 => ⟨S16x2048x12, .f32⟩
  | 20 => ⟨S16x2048x12, .f32⟩
  | 21 => ⟨S_, .f32⟩
  | 22 => ⟨S16x2048x12, .f32⟩
  | 23 => ⟨S16x2048x12, .f32⟩
  | 24 => ⟨S2x12, .f32⟩
  | 25 => ⟨S2x12, .f32⟩
  | 26 => ⟨S2x1x1x12, .f32⟩
  | 27 => ⟨S2x8x2048x12, .f32⟩
  | 28 => ⟨S16x2048x12, .f32⟩
  | 29 => ⟨S16x2048x12, .f32⟩
  | 30 => ⟨S2x1x1x12, .f32⟩
  | 31 => ⟨S2x8x2048x12, .f32⟩
  | 32 => ⟨S16x2048x12, .f32⟩
  | 33 => ⟨S16x2048x12, .f32⟩
  | 34 => ⟨S_, .f32⟩
  | 35 => ⟨S16x2048x12, .f32⟩
  | 36 => ⟨S16x2048x12, .f32⟩
  | 37 => ⟨S16x2048x12, .f32⟩
  | 38 => ⟨S16x2048x12, .f32⟩
  | 39 => ⟨S16x2048x12, .i1⟩
  | 40 => ⟨S16x2048x12, .f32⟩
  | 41 => ⟨S16x2048x12, .f32⟩
  | 42 => ⟨S16x2048x12, .f32⟩
  | 43 => ⟨S16x2048x12, .f32⟩
  | 44 => ⟨S16x2048x12, .f32⟩
  | 45 => ⟨S16x2048x12, .f32⟩
  | 46 => ⟨S16x2048x12, .f32⟩
  | 47 => ⟨S16x2048x12, .f32⟩
  | 48 => ⟨S16x2048x12, .f32⟩
  | 49 => ⟨S8x2048x12x128, .f32⟩
  | 50 => ⟨S16x2048x12x128, .f32⟩
  | 51 => ⟨S8x2048x12x128, .f32⟩
  | 52 => ⟨S16x2048x12x128, .f32⟩
  | 53 => ⟨S8x2048x12x128, .f32⟩
  | 54 => ⟨S16x2048x12x128, .f32⟩
  | 55 => ⟨S16x32x64x12x128, .f32⟩
  | 56 => ⟨S16x12x32x64x128, .f32⟩
  | 57 => ⟨S16x32x64x12x128, .f32⟩
  | 58 => ⟨S16x12x32x64x128, .f32⟩
  | 59 => ⟨S16x32x64x12x128, .f32⟩
  | 60 => ⟨S16x12x32x64x128, .f32⟩
  | 61 => ⟨S16x32x64x12, .f32⟩
  | 62 => ⟨S16x12x32x64, .f32⟩
  | 63 => ⟨S_, .f32⟩
  | 64 => ⟨S_, .f32⟩
  | 65 => ⟨S16x12x32x64, .f32⟩
  | 66 => ⟨S16x32x64x12, .f32⟩
  | 67 => ⟨S16x12x32x64, .f32⟩
  | 68 => ⟨S64, .i32⟩
  | 69 => ⟨S64x1, .i32⟩
  | 70 => ⟨S1x64, .i32⟩
  | 71 => ⟨S64x64, .i32⟩
  | 72 => ⟨S64x64, .i32⟩
  | 73 => ⟨S64x64, .i1⟩
  | 74 => ⟨S64x64, .i32⟩
  | 75 => ⟨S64x64, .i32⟩
  | 76 => ⟨S64x64, .i1⟩
  | 77 => ⟨S16x12x32x64x1, .f32⟩
  | 78 => ⟨S16x12x32x1x64, .f32⟩
  | 79 => ⟨S16x12x32x64x64, .f32⟩
  | 80 => ⟨S16x12x32x64x64, .f32⟩
  | 81 => ⟨S16x12x32x64x64, .f32⟩
  | 82 => ⟨S_, .f32⟩
  | 83 => ⟨S_, .f32⟩
  | 84 => ⟨S16x12x32x64x64, .i1⟩
  | 85 => ⟨S16x12x32x64x64, .f32⟩
  | 86 => ⟨S16x12x32x64x64, .f32⟩
  | 87 => ⟨S16x12x32x64x64, .f32⟩
  | 88 => ⟨S16x12x32x64x1, .f32⟩
  | 89 => ⟨S16x12x32x64x128, .f32⟩
  | 90 => ⟨S16x12x32x64x128, .f32⟩
  | 91 => ⟨S16x12x32x64x1, .f32⟩
  | 92 => ⟨S16x12x32x64x128, .f32⟩
  | 93 => ⟨S16x12x32x64x128, .f32⟩
  | 94 => ⟨S16x12x32x64x64, .f32⟩
  | 95 => ⟨S16x12x32x64x64, .f32⟩
  | 96 => ⟨S_, .f32⟩
  | 97 => ⟨S_, .f32⟩
  | 98 => ⟨S16x12x32x64x64, .i1⟩
  | 99 => ⟨S16x12x32x64x64, .f32⟩
  | 100 => ⟨S16x12x32x64x64, .f32⟩
  | 101 => ⟨S64x64, .i32⟩
  | 102 => ⟨S64x64, .i32⟩
  | 103 => ⟨S64x64, .i1⟩
  | 104 => ⟨S_, .f32⟩
  | 105 => ⟨S_, .f32⟩
  | 106 => ⟨S64x64, .f32⟩
  | 107 => ⟨S64x64, .f32⟩
  | 108 => ⟨S64x64, .f32⟩
  | 109 => ⟨S16x12x32x64x64, .f32⟩
  | 110 => ⟨S_, .i32⟩
  | 111 => ⟨S64x1, .i32⟩
  | 112 => ⟨S64x1, .i1⟩
  | 113 => ⟨S16x12x32x64x64, .f32⟩
  | 114 => ⟨S16x12x32x64x64, .f32⟩
  | 115 => ⟨S16x12x32x64x64, .f32⟩
  | 116 => ⟨S16x12x32x64x64, .f32⟩
  | 117 => ⟨S16x12x32x64x64, .i1⟩
  | 118 => ⟨S16x12x32x64x64, .f32⟩
  | 119 => ⟨S_, .i32⟩
  | 120 => ⟨S64x1, .i32⟩
  | 121 => ⟨S64x1, .i1⟩
  | 122 => ⟨S16x12x32x64x64, .f32⟩
  | 123 => ⟨S16x12x32x64x64, .f32⟩
  | 124 => ⟨S16x12x32x64x64, .f32⟩
  | 125 => ⟨S16x12x32x64x64, .i1⟩
  | 126 => ⟨S16x12x32x64x64, .f32⟩
  | 127 => ⟨S_, .i32⟩
  | _ => ⟨S8x2048x4608, .f32⟩

abbrev hbmTy0_1 (i : Nat) : BufTy := match i % 128 with
  | 0 => ⟨S64x1, .i32⟩
  | 1 => ⟨S64x1, .i1⟩
  | 2 => ⟨S16x12x32x64x64, .f32⟩
  | 3 => ⟨S16x12x32x64x64, .f32⟩
  | 4 => ⟨S16x12x32x64x64, .f32⟩
  | 5 => ⟨S16x12x32x64x64, .i1⟩
  | 6 => ⟨S16x12x32x64x64, .f32⟩
  | 7 => ⟨S_, .i32⟩
  | 8 => ⟨S64x1, .i32⟩
  | 9 => ⟨S64x1, .i1⟩
  | 10 => ⟨S16x12x32x64x64, .f32⟩
  | 11 => ⟨S16x12x32x64x64, .f32⟩
  | 12 => ⟨S16x12x32x64x64, .f32⟩
  | 13 => ⟨S16x12x32x64x64, .i1⟩
  | 14 => ⟨S16x12x32x64x64, .f32⟩
  | 15 => ⟨S_, .i32⟩
  | 16 => ⟨S64x1, .i32⟩
  | 17 => ⟨S64x1, .i1⟩
  | 18 => ⟨S16x12x32x64x64, .f32⟩
  | 19 => ⟨S16x12x32x64x64, .f32⟩
  | 20 => ⟨S16x12x32x64x64, .f32⟩
  | 21 => ⟨S16x12x32x64x64, .i1⟩
  | 22 => ⟨S16x12x32x64x64, .f32⟩
  | 23 => ⟨S_, .i32⟩
  | 24 => ⟨S64x1, .i32⟩
  | 25 => ⟨S64x1, .i1⟩
  | 26 => ⟨S16x12x32x64x64, .f32⟩
  | 27 => ⟨S16x12x32x64x64, .f32⟩
  | 28 => ⟨S16x12x32x64x64, .f32⟩
  | 29 => ⟨S16x12x32x64x64, .i1⟩
  | 30 => ⟨S16x12x32x64x64, .f32⟩
  | 31 => ⟨S_, .i32⟩
  | 32 => ⟨S64x1, .i32⟩
  | 33 => ⟨S64x1, .i1⟩
  | 34 => ⟨S16x12x32x64x64, .f32⟩
  | 35 => ⟨S16x12x32x64x64, .f32⟩
  | 36 => ⟨S16x12x32x64x64, .f32⟩
  | 37 => ⟨S16x12x32x64x64, .i1⟩
  | 38 => ⟨S16x12x32x64x64, .f32⟩
  | 39 => ⟨S_, .i32⟩
  | 40 => ⟨S64x1, .i32⟩
  | 41 => ⟨S64x1, .i1⟩
  | 42 => ⟨S16x12x32x64x64, .f32⟩
  | 43 => ⟨S16x12x32x64x64, .f32⟩
  | 44 => ⟨S16x12x32x64x64, .f32⟩
  | 45 => ⟨S16x12x32x64x64, .i1⟩
  | 46 => ⟨S16x12x32x64x64, .f32⟩
  | 47 => ⟨S_, .i32⟩
  | 48 => ⟨S64x1, .i32⟩
  | 49 => ⟨S64x1, .i1⟩
  | 50 => ⟨S16x12x32x64x64, .f32⟩
  | 51 => ⟨S16x12x32x64x64, .f32⟩
  | 52 => ⟨S16x12x32x64x64, .f32⟩
  | 53 => ⟨S16x12x32x64x64, .i1⟩
  | 54 => ⟨S16x12x32x64x64, .f32⟩
  | 55 => ⟨S_, .i32⟩
  | 56 => ⟨S64x1, .i32⟩
  | 57 => ⟨S64x1, .i1⟩
  | 58 => ⟨S16x12x32x64x64, .f32⟩
  | 59 => ⟨S16x12x32x64x64, .f32⟩
  | 60 => ⟨S16x12x32x64x64, .f32⟩
  | 61 => ⟨S16x12x32x64x64, .i1⟩
  | 62 => ⟨S16x12x32x64x64, .f32⟩
  | 63 => ⟨S_, .i32⟩
  | 64 => ⟨S64x1, .i32⟩
  | 65 => ⟨S64x1, .i1⟩
  | 66 => ⟨S16x12x32x64x64, .f32⟩
  | 67 => ⟨S16x12x32x64x64, .f32⟩
  | 68 => ⟨S16x12x32x64x64, .f32⟩
  | 69 => ⟨S16x12x32x64x64, .i1⟩
  | 70 => ⟨S16x12x32x64x64, .f32⟩
  | 71 => ⟨S_, .i32⟩
  | 72 => ⟨S64x1, .i32⟩
  | 73 => ⟨S64x1, .i1⟩
  | 74 => ⟨S16x12x32x64x64, .f32⟩
  | 75 => ⟨S16x12x32x64x64, .f32⟩
  | 76 => ⟨S16x12x32x64x64, .f32⟩
  | 77 => ⟨S16x12x32x64x64, .i1⟩
  | 78 => ⟨S16x12x32x64x64, .f32⟩
  | 79 => ⟨S_, .i32⟩
  | 80 => ⟨S64x1, .i32⟩
  | 81 => ⟨S64x1, .i1⟩
  | 82 => ⟨S16x12x32x64x64, .f32⟩
  | 83 => ⟨S16x12x32x64x64, .f32⟩
  | 84 => ⟨S16x12x32x64x64, .f32⟩
  | 85 => ⟨S16x12x32x64x64, .i1⟩
  | 86 => ⟨S16x12x32x64x64, .f32⟩
  | 87 => ⟨S_, .i32⟩
  | 88 => ⟨S64x1, .i32⟩
  | 89 => ⟨S64x1, .i1⟩
  | 90 => ⟨S16x12x32x64x64, .f32⟩
  | 91 => ⟨S16x12x32x64x64, .f32⟩
  | 92 => ⟨S16x12x32x64x64, .f32⟩
  | 93 => ⟨S16x12x32x64x64, .i1⟩
  | 94 => ⟨S16x12x32x64x64, .f32⟩
  | 95 => ⟨S_, .i32⟩
  | 96 => ⟨S64x1, .i32⟩
  | 97 => ⟨S64x1, .i1⟩
  | 98 => ⟨S16x12x32x64x64, .f32⟩
  | 99 => ⟨S16x12x32x64x64, .f32⟩
  | 100 => ⟨S16x12x32x64x64, .f32⟩
  | 101 => ⟨S16x12x32x64x64, .i1⟩
  | 102 => ⟨S16x12x32x64x64, .f32⟩
  | 103 => ⟨S_, .i32⟩
  | 104 => ⟨S64x1, .i32⟩
  | 105 => ⟨S64x1, .i1⟩
  | 106 => ⟨S16x12x32x64x64, .f32⟩
  | 107 => ⟨S16x12x32x64x64, .f32⟩
  | 108 => ⟨S16x12x32x64x64, .f32⟩
  | 109 => ⟨S16x12x32x64x64, .i1⟩
  | 110 => ⟨S16x12x32x64x64, .f32⟩
  | 111 => ⟨S_, .i32⟩
  | 112 => ⟨S64x1, .i32⟩
  | 113 => ⟨S64x1, .i1⟩
  | 114 => ⟨S16x12x32x64x64, .f32⟩
  | 115 => ⟨S16x12x32x64x64, .f32⟩
  | 116 => ⟨S16x12x32x64x64, .f32⟩
  | 117 => ⟨S16x12x32x64x64, .i1⟩
  | 118 => ⟨S16x12x32x64x64, .f32⟩
  | 119 => ⟨S_, .i32⟩
  | 120 => ⟨S64x1, .i32⟩
  | 121 => ⟨S64x1, .i1⟩
  | 122 => ⟨S16x12x32x64x64, .f32⟩
  | 123 => ⟨S16x12x32x64x64, .f32⟩
  | 124 => ⟨S16x12x32x64x64, .f32⟩
  | 125 => ⟨S16x12x32x64x64, .i1⟩
  | 126 => ⟨S16x12x32x64x64, .f32⟩
  | 127 => ⟨S_, .i32⟩
  | _ => ⟨S8x2048x4608, .f32⟩

abbrev hbmTy0_2 (i : Nat) : BufTy := match i % 128 with
  | 0 => ⟨S64x1, .i32⟩
  | 1 => ⟨S64x1, .i1⟩
  | 2 => ⟨S16x12x32x64x64, .f32⟩
  | 3 => ⟨S16x12x32x64x64, .f32⟩
  | 4 => ⟨S16x12x32x64x64, .f32⟩
  | 5 => ⟨S16x12x32x64x64, .i1⟩
  | 6 => ⟨S16x12x32x64x64, .f32⟩
  | 7 => ⟨S_, .i32⟩
  | 8 => ⟨S64x1, .i32⟩
  | 9 => ⟨S64x1, .i1⟩
  | 10 => ⟨S16x12x32x64x64, .f32⟩
  | 11 => ⟨S16x12x32x64x64, .f32⟩
  | 12 => ⟨S16x12x32x64x64, .f32⟩
  | 13 => ⟨S16x12x32x64x64, .i1⟩
  | 14 => ⟨S16x12x32x64x64, .f32⟩
  | 15 => ⟨S_, .i32⟩
  | 16 => ⟨S64x1, .i32⟩
  | 17 => ⟨S64x1, .i1⟩
  | 18 => ⟨S16x12x32x64x64, .f32⟩
  | 19 => ⟨S16x12x32x64x64, .f32⟩
  | 20 => ⟨S16x12x32x64x64, .f32⟩
  | 21 => ⟨S16x12x32x64x64, .i1⟩
  | 22 => ⟨S16x12x32x64x64, .f32⟩
  | 23 => ⟨S_, .i32⟩
  | 24 => ⟨S64x1, .i32⟩
  | 25 => ⟨S64x1, .i1⟩
  | 26 => ⟨S16x12x32x64x64, .f32⟩
  | 27 => ⟨S16x12x32x64x64, .f32⟩
  | 28 => ⟨S16x12x32x64x64, .f32⟩
  | 29 => ⟨S16x12x32x64x64, .i1⟩
  | 30 => ⟨S16x12x32x64x64, .f32⟩
  | 31 => ⟨S_, .i32⟩
  | 32 => ⟨S64x1, .i32⟩
  | 33 => ⟨S64x1, .i1⟩
  | 34 => ⟨S16x12x32x64x64, .f32⟩
  | 35 => ⟨S16x12x32x64x64, .f32⟩
  | 36 => ⟨S16x12x32x64x64, .f32⟩
  | 37 => ⟨S16x12x32x64x64, .i1⟩
  | 38 => ⟨S16x12x32x64x64, .f32⟩
  | 39 => ⟨S_, .i32⟩
  | 40 => ⟨S64x1, .i32⟩
  | 41 => ⟨S64x1, .i1⟩
  | 42 => ⟨S16x12x32x64x64, .f32⟩
  | 43 => ⟨S16x12x32x64x64, .f32⟩
  | 44 => ⟨S16x12x32x64x64, .f32⟩
  | 45 => ⟨S16x12x32x64x64, .i1⟩
  | 46 => ⟨S16x12x32x64x64, .f32⟩
  | 47 => ⟨S_, .i32⟩
  | 48 => ⟨S64x1, .i32⟩
  | 49 => ⟨S64x1, .i1⟩
  | 50 => ⟨S16x12x32x64x64, .f32⟩
  | 51 => ⟨S16x12x32x64x64, .f32⟩
  | 52 => ⟨S16x12x32x64x64, .f32⟩
  | 53 => ⟨S16x12x32x64x64, .i1⟩
  | 54 => ⟨S16x12x32x64x64, .f32⟩
  | 55 => ⟨S_, .i32⟩
  | 56 => ⟨S64x1, .i32⟩
  | 57 => ⟨S64x1, .i1⟩
  | 58 => ⟨S16x12x32x64x64, .f32⟩
  | 59 => ⟨S16x12x32x64x64, .f32⟩
  | 60 => ⟨S16x12x32x64x64, .f32⟩
  | 61 => ⟨S16x12x32x64x64, .i1⟩
  | 62 => ⟨S16x12x32x64x64, .f32⟩
  | 63 => ⟨S_, .i32⟩
  | 64 => ⟨S64x1, .i32⟩
  | 65 => ⟨S64x1, .i1⟩
  | 66 => ⟨S16x12x32x64x64, .f32⟩
  | 67 => ⟨S16x12x32x64x64, .f32⟩
  | 68 => ⟨S16x12x32x64x64, .f32⟩
  | 69 => ⟨S16x12x32x64x64, .i1⟩
  | 70 => ⟨S16x12x32x64x64, .f32⟩
  | 71 => ⟨S_, .i32⟩
  | 72 => ⟨S64x1, .i32⟩
  | 73 => ⟨S64x1, .i1⟩
  | 74 => ⟨S16x12x32x64x64, .f32⟩
  | 75 => ⟨S16x12x32x64x64, .f32⟩
  | 76 => ⟨S16x12x32x64x64, .f32⟩
  | 77 => ⟨S16x12x32x64x64, .i1⟩
  | 78 => ⟨S16x12x32x64x64, .f32⟩
  | 79 => ⟨S_, .i32⟩
  | 80 => ⟨S64x1, .i32⟩
  | 81 => ⟨S64x1, .i1⟩
  | 82 => ⟨S16x12x32x64x64, .f32⟩
  | 83 => ⟨S16x12x32x64x64, .f32⟩
  | 84 => ⟨S16x12x32x64x64, .f32⟩
  | 85 => ⟨S16x12x32x64x64, .i1⟩
  | 86 => ⟨S16x12x32x64x64, .f32⟩
  | 87 => ⟨S_, .i32⟩
  | 88 => ⟨S64x1, .i32⟩
  | 89 => ⟨S64x1, .i1⟩
  | 90 => ⟨S16x12x32x64x64, .f32⟩
  | 91 => ⟨S16x12x32x64x64, .f32⟩
  | 92 => ⟨S16x12x32x64x64, .f32⟩
  | 93 => ⟨S16x12x32x64x64, .i1⟩
  | 94 => ⟨S16x12x32x64x64, .f32⟩
  | 95 => ⟨S_, .i32⟩
  | 96 => ⟨S64x1, .i32⟩
  | 97 => ⟨S64x1, .i1⟩
  | 98 => ⟨S16x12x32x64x64, .f32⟩
  | 99 => ⟨S16x12x32x64x64, .f32⟩
  | 100 => ⟨S16x12x32x64x64, .f32⟩
  | 101 => ⟨S16x12x32x64x64, .i1⟩
  | 102 => ⟨S16x12x32x64x64, .f32⟩
  | 103 => ⟨S_, .i32⟩
  | 104 => ⟨S64x1, .i32⟩
  | 105 => ⟨S64x1, .i1⟩
  | 106 => ⟨S16x12x32x64x64, .f32⟩
  | 107 => ⟨S16x12x32x64x64, .f32⟩
  | 108 => ⟨S16x12x32x64x64, .f32⟩
  | 109 => ⟨S16x12x32x64x64, .i1⟩
  | 110 => ⟨S16x12x32x64x64, .f32⟩
  | 111 => ⟨S_, .i32⟩
  | 112 => ⟨S64x1, .i32⟩
  | 113 => ⟨S64x1, .i1⟩
  | 114 => ⟨S16x12x32x64x64, .f32⟩
  | 115 => ⟨S16x12x32x64x64, .f32⟩
  | 116 => ⟨S16x12x32x64x64, .f32⟩
  | 117 => ⟨S16x12x32x64x64, .i1⟩
  | 118 => ⟨S16x12x32x64x64, .f32⟩
  | 119 => ⟨S_, .i32⟩
  | 120 => ⟨S64x1, .i32⟩
  | 121 => ⟨S64x1, .i1⟩
  | 122 => ⟨S16x12x32x64x64, .f32⟩
  | 123 => ⟨S16x12x32x64x64, .f32⟩
  | 124 => ⟨S16x12x32x64x64, .f32⟩
  | 125 => ⟨S16x12x32x64x64, .i1⟩
  | 126 => ⟨S16x12x32x64x64, .f32⟩
  | 127 => ⟨S_, .i32⟩
  | _ => ⟨S8x2048x4608, .f32⟩

abbrev hbmTy0_3 (i : Nat) : BufTy := match i % 128 with
  | 0 => ⟨S64x1, .i32⟩
  | 1 => ⟨S64x1, .i1⟩
  | 2 => ⟨S16x12x32x64x64, .f32⟩
  | 3 => ⟨S16x12x32x64x64, .f32⟩
  | 4 => ⟨S16x12x32x64x64, .f32⟩
  | 5 => ⟨S16x12x32x64x64, .i1⟩
  | 6 => ⟨S16x12x32x64x64, .f32⟩
  | 7 => ⟨S_, .i32⟩
  | 8 => ⟨S64x1, .i32⟩
  | 9 => ⟨S64x1, .i1⟩
  | 10 => ⟨S16x12x32x64x64, .f32⟩
  | 11 => ⟨S16x12x32x64x64, .f32⟩
  | 12 => ⟨S16x12x32x64x64, .f32⟩
  | 13 => ⟨S16x12x32x64x64, .i1⟩
  | 14 => ⟨S16x12x32x64x64, .f32⟩
  | 15 => ⟨S_, .i32⟩
  | 16 => ⟨S64x1, .i32⟩
  | 17 => ⟨S64x1, .i1⟩
  | 18 => ⟨S16x12x32x64x64, .f32⟩
  | 19 => ⟨S16x12x32x64x64, .f32⟩
  | 20 => ⟨S16x12x32x64x64, .f32⟩
  | 21 => ⟨S16x12x32x64x64, .i1⟩
  | 22 => ⟨S16x12x32x64x64, .f32⟩
  | 23 => ⟨S_, .i32⟩
  | 24 => ⟨S64x1, .i32⟩
  | 25 => ⟨S64x1, .i1⟩
  | 26 => ⟨S16x12x32x64x64, .f32⟩
  | 27 => ⟨S16x12x32x64x64, .f32⟩
  | 28 => ⟨S16x12x32x64x64, .f32⟩
  | 29 => ⟨S16x12x32x64x64, .i1⟩
  | 30 => ⟨S16x12x32x64x64, .f32⟩
  | 31 => ⟨S_, .i32⟩
  | 32 => ⟨S64x1, .i32⟩
  | 33 => ⟨S64x1, .i1⟩
  | 34 => ⟨S16x12x32x64x64, .f32⟩
  | 35 => ⟨S16x12x32x64x64, .f32⟩
  | 36 => ⟨S16x12x32x64x64, .f32⟩
  | 37 => ⟨S16x12x32x64x64, .i1⟩
  | 38 => ⟨S16x12x32x64x64, .f32⟩
  | 39 => ⟨S_, .i32⟩
  | 40 => ⟨S64x1, .i32⟩
  | 41 => ⟨S64x1, .i1⟩
  | 42 => ⟨S16x12x32x64x64, .f32⟩
  | 43 => ⟨S16x12x32x64x64, .f32⟩
  | 44 => ⟨S16x12x32x64x64, .f32⟩
  | 45 => ⟨S16x12x32x64x64, .i1⟩
  | 46 => ⟨S16x12x32x64x64, .f32⟩
  | 47 => ⟨S_, .i32⟩
  | 48 => ⟨S64x1, .i32⟩
  | 49 => ⟨S64x1, .i1⟩
  | 50 => ⟨S16x12x32x64x64, .f32⟩
  | 51 => ⟨S16x12x32x64x64, .f32⟩
  | 52 => ⟨S16x12x32x64x64, .f32⟩
  | 53 => ⟨S16x12x32x64x64, .i1⟩
  | 54 => ⟨S16x12x32x64x64, .f32⟩
  | 55 => ⟨S_, .i32⟩
  | 56 => ⟨S64x1, .i32⟩
  | 57 => ⟨S64x1, .i1⟩
  | 58 => ⟨S16x12x32x64x64, .f32⟩
  | 59 => ⟨S16x12x32x64x64, .f32⟩
  | 60 => ⟨S16x12x32x64x64, .f32⟩
  | 61 => ⟨S16x12x32x64x64, .i1⟩
  | 62 => ⟨S16x12x32x64x64, .f32⟩
  | 63 => ⟨S_, .i32⟩
  | 64 => ⟨S64x1, .i32⟩
  | 65 => ⟨S64x1, .i1⟩
  | 66 => ⟨S16x12x32x64x64, .f32⟩
  | 67 => ⟨S16x12x32x64x64, .f32⟩
  | 68 => ⟨S16x12x32x64x64, .f32⟩
  | 69 => ⟨S16x12x32x64x64, .i1⟩
  | 70 => ⟨S16x12x32x64x64, .f32⟩
  | 71 => ⟨S_, .i32⟩
  | 72 => ⟨S64x1, .i32⟩
  | 73 => ⟨S64x1, .i1⟩
  | 74 => ⟨S16x12x32x64x64, .f32⟩
  | 75 => ⟨S16x12x32x64x64, .f32⟩
  | 76 => ⟨S16x12x32x64x64, .f32⟩
  | 77 => ⟨S16x12x32x64x64, .i1⟩
  | 78 => ⟨S16x12x32x64x64, .f32⟩
  | 79 => ⟨S_, .i32⟩
  | 80 => ⟨S64x1, .i32⟩
  | 81 => ⟨S64x1, .i1⟩
  | 82 => ⟨S16x12x32x64x64, .f32⟩
  | 83 => ⟨S16x12x32x64x64, .f32⟩
  | 84 => ⟨S16x12x32x64x64, .f32⟩
  | 85 => ⟨S16x12x32x64x64, .i1⟩
  | 86 => ⟨S16x12x32x64x64, .f32⟩
  | 87 => ⟨S_, .i32⟩
  | 88 => ⟨S64x1, .i32⟩
  | 89 => ⟨S64x1, .i1⟩
  | 90 => ⟨S16x12x32x64x64, .f32⟩
  | 91 => ⟨S16x12x32x64x64, .f32⟩
  | 92 => ⟨S16x12x32x64x64, .f32⟩
  | 93 => ⟨S16x12x32x64x64, .i1⟩
  | 94 => ⟨S16x12x32x64x64, .f32⟩
  | 95 => ⟨S_, .i32⟩
  | 96 => ⟨S64x1, .i32⟩
  | 97 => ⟨S64x1, .i1⟩
  | 98 => ⟨S16x12x32x64x64, .f32⟩
  | 99 => ⟨S16x12x32x64x64, .f32⟩
  | 100 => ⟨S16x12x32x64x64, .f32⟩
  | 101 => ⟨S16x12x32x64x64, .i1⟩
  | 102 => ⟨S16x12x32x64x64, .f32⟩
  | 103 => ⟨S_, .i32⟩
  | 104 => ⟨S64x1, .i32⟩
  | 105 => ⟨S64x1, .i1⟩
  | 106 => ⟨S16x12x32x64x64, .f32⟩
  | 107 => ⟨S16x12x32x64x64, .f32⟩
  | 108 => ⟨S16x12x32x64x64, .f32⟩
  | 109 => ⟨S16x12x32x64x64, .i1⟩
  | 110 => ⟨S16x12x32x64x64, .f32⟩
  | 111 => ⟨S_, .i32⟩
  | 112 => ⟨S64x1, .i32⟩
  | 113 => ⟨S64x1, .i1⟩
  | 114 => ⟨S16x12x32x64x64, .f32⟩
  | 115 => ⟨S16x12x32x64x64, .f32⟩
  | 116 => ⟨S16x12x32x64x64, .f32⟩
  | 117 => ⟨S16x12x32x64x64, .i1⟩
  | 118 => ⟨S16x12x32x64x64, .f32⟩
  | 119 => ⟨S_, .i32⟩
  | 120 => ⟨S64x1, .i32⟩
  | 121 => ⟨S64x1, .i1⟩
  | 122 => ⟨S16x12x32x64x64, .f32⟩
  | 123 => ⟨S16x12x32x64x64, .f32⟩
  | 124 => ⟨S16x12x32x64x64, .f32⟩
  | 125 => ⟨S16x12x32x64x64, .i1⟩
  | 126 => ⟨S16x12x32x64x64, .f32⟩
  | 127 => ⟨S_, .i32⟩
  | _ => ⟨S8x2048x4608, .f32⟩

abbrev hbmTy0_4 (i : Nat) : BufTy := match i % 128 with
  | 0 => ⟨S64x1, .i32⟩
  | 1 => ⟨S64x1, .i1⟩
  | 2 => ⟨S16x12x32x64x64, .f32⟩
  | 3 => ⟨S16x12x32x64x64, .f32⟩
  | 4 => ⟨S16x12x32x64x64, .f32⟩
  | 5 => ⟨S16x12x32x64x64, .i1⟩
  | 6 => ⟨S16x12x32x64x64, .f32⟩
  | 7 => ⟨S_, .i32⟩
  | 8 => ⟨S64x1, .i32⟩
  | 9 => ⟨S64x1, .i1⟩
  | 10 => ⟨S16x12x32x64x64, .f32⟩
  | 11 => ⟨S16x12x32x64x64, .f32⟩
  | 12 => ⟨S16x12x32x64x64, .f32⟩
  | 13 => ⟨S16x12x32x64x64, .i1⟩
  | 14 => ⟨S16x12x32x64x64, .f32⟩
  | 15 => ⟨S_, .i32⟩
  | 16 => ⟨S64x1, .i32⟩
  | 17 => ⟨S64x1, .i1⟩
  | 18 => ⟨S16x12x32x64x64, .f32⟩
  | 19 => ⟨S16x12x32x64x64, .f32⟩
  | 20 => ⟨S16x12x32x64x64, .f32⟩
  | 21 => ⟨S16x12x32x64x64, .i1⟩
  | 22 => ⟨S16x12x32x64x64, .f32⟩
  | 23 => ⟨S_, .i32⟩
  | 24 => ⟨S64x1, .i32⟩
  | 25 => ⟨S64x1, .i1⟩
  | 26 => ⟨S16x12x32x64x64, .f32⟩
  | 27 => ⟨S16x12x32x64x64, .f32⟩
  | 28 => ⟨S16x12x32x64x64, .f32⟩
  | 29 => ⟨S16x12x32x64x64, .i1⟩
  | 30 => ⟨S16x12x32x64x64, .f32⟩
  | 31 => ⟨S_, .i32⟩
  | 32 => ⟨S64x1, .i32⟩
  | 33 => ⟨S64x1, .i1⟩
  | 34 => ⟨S16x12x32x64x64, .f32⟩
  | 35 => ⟨S16x12x32x64x64, .f32⟩
  | 36 => ⟨S16x12x32x64x64, .f32⟩
  | 37 => ⟨S16x12x32x64x64, .i1⟩
  | 38 => ⟨S16x12x32x64x64, .f32⟩
  | 39 => ⟨S_, .i32⟩
  | 40 => ⟨S64x1, .i32⟩
  | 41 => ⟨S64x1, .i1⟩
  | 42 => ⟨S16x12x32x64x64, .f32⟩
  | 43 => ⟨S16x12x32x64x64, .f32⟩
  | 44 => ⟨S16x12x32x64x64, .f32⟩
  | 45 => ⟨S16x12x32x64x64, .i1⟩
  | 46 => ⟨S16x12x32x64x64, .f32⟩
  | 47 => ⟨S_, .i32⟩
  | 48 => ⟨S64x1, .i32⟩
  | 49 => ⟨S64x1, .i1⟩
  | 50 => ⟨S16x12x32x64x64, .f32⟩
  | 51 => ⟨S16x12x32x64x64, .f32⟩
  | 52 => ⟨S16x12x32x64x64, .f32⟩
  | 53 => ⟨S16x12x32x64x64, .i1⟩
  | 54 => ⟨S16x12x32x64x64, .f32⟩
  | 55 => ⟨S_, .i32⟩
  | 56 => ⟨S64x1, .i32⟩
  | 57 => ⟨S64x1, .i1⟩
  | 58 => ⟨S16x12x32x64x64, .f32⟩
  | 59 => ⟨S16x12x32x64x64, .f32⟩
  | 60 => ⟨S16x12x32x64x64, .f32⟩
  | 61 => ⟨S16x12x32x64x64, .i1⟩
  | 62 => ⟨S16x12x32x64x64, .f32⟩
  | 63 => ⟨S_, .i32⟩
  | 64 => ⟨S64x1, .i32⟩
  | 65 => ⟨S64x1, .i1⟩
  | 66 => ⟨S16x12x32x64x64, .f32⟩
  | 67 => ⟨S16x12x32x64x64, .f32⟩
  | 68 => ⟨S16x12x32x64x64, .f32⟩
  | 69 => ⟨S16x12x32x64x64, .i1⟩
  | 70 => ⟨S16x12x32x64x64, .f32⟩
  | 71 => ⟨S_, .i32⟩
  | 72 => ⟨S64x1, .i32⟩
  | 73 => ⟨S64x1, .i1⟩
  | 74 => ⟨S16x12x32x64x64, .f32⟩
  | 75 => ⟨S16x12x32x64x64, .f32⟩
  | 76 => ⟨S16x12x32x64x64, .f32⟩
  | 77 => ⟨S16x12x32x64x64, .i1⟩
  | 78 => ⟨S16x12x32x64x64, .f32⟩
  | 79 => ⟨S_, .i32⟩
  | 80 => ⟨S64x1, .i32⟩
  | 81 => ⟨S64x1, .i1⟩
  | 82 => ⟨S16x12x32x64x64, .f32⟩
  | 83 => ⟨S16x12x32x64x64, .f32⟩
  | 84 => ⟨S16x12x32x64x64, .f32⟩
  | 85 => ⟨S16x12x32x64x64, .i1⟩
  | 86 => ⟨S16x12x32x64x64, .f32⟩
  | 87 => ⟨S_, .i32⟩
  | 88 => ⟨S64x1, .i32⟩
  | 89 => ⟨S64x1, .i1⟩
  | 90 => ⟨S16x12x32x64x64, .f32⟩
  | 91 => ⟨S16x12x32x64x64, .f32⟩
  | 92 => ⟨S16x12x32x64x64, .f32⟩
  | 93 => ⟨S16x12x32x64x64, .i1⟩
  | 94 => ⟨S16x12x32x64x64, .f32⟩
  | 95 => ⟨S_, .i32⟩
  | 96 => ⟨S64x1, .i32⟩
  | 97 => ⟨S64x1, .i1⟩
  | 98 => ⟨S16x12x32x64x64, .f32⟩
  | 99 => ⟨S16x12x32x64x64, .f32⟩
  | 100 => ⟨S16x12x32x64x64, .f32⟩
  | 101 => ⟨S16x12x32x64x64, .i1⟩
  | 102 => ⟨S16x12x32x64x64, .f32⟩
  | 103 => ⟨S16x12x32x64x128, .f32⟩
  | 104 => ⟨S16x12x32x64, .f32⟩
  | 105 => ⟨S16x12x32x64x1, .f32⟩
  | 106 => ⟨S16x12x32x64x128, .f32⟩
  | 107 => ⟨S16x12x32x64x128, .f32⟩
  | 108 => ⟨S16x12x32x64x128, .f32⟩
  | 109 => ⟨S16x12x32x64x64, .f32⟩
  | 110 => ⟨S16x12x32x64x64, .f32⟩
  | 111 => ⟨S_, .f32⟩
  | 112 => ⟨S_, .f32⟩
  | 113 => ⟨S16x12x32x64x64, .i1⟩
  | 114 => ⟨S16x12x32x64x64, .f32⟩
  | 115 => ⟨S16x12x32x64x64, .f32⟩
  | 116 => ⟨S16x12x32x64, .f32⟩
  | 117 => ⟨S16x12x32x64x1, .f32⟩
  | 118 => ⟨S16x12x32x64x128, .f32⟩
  | 119 => ⟨S16x12x32x64x128, .f32⟩
  | 120 => ⟨S16x12x32x1, .f32⟩
  | 121 => ⟨S16x12x32x64, .f32⟩
  | 122 => ⟨S16x12x32x64, .f32⟩
  | 123 => ⟨S16x12x32x64, .f32⟩
  | 124 => ⟨S16x12x32x64x1, .f32⟩
  | 125 => ⟨S16x12x32x64x128, .f32⟩
  | 126 => ⟨S16x12x32x64x128, .f32⟩
  | 127 => ⟨S16x12x32x128x64, .f32⟩
  | _ => ⟨S8x2048x4608, .f32⟩

abbrev hbmTy0_5 (i : Nat) : BufTy := match i % 128 with
  | 0 => ⟨S16x12x32x1, .f32⟩
  | 1 => ⟨S16x12x32x1, .f32⟩
  | 2 => ⟨S16x12x32x1x1, .f32⟩
  | 3 => ⟨S16x12x128x128, .f32⟩
  | 4 => ⟨S32x16x12x64x128, .f32⟩
  | 5 => ⟨S32x16x12x64x128, .f32⟩
  | 6 => ⟨S32x16x12x64x128, .f32⟩
  | 7 => ⟨S32x16x12x64x64, .f32⟩
  | 8 => ⟨S32x16x12x1x1, .f32⟩
  | 9 => ⟨S32x16x12x128x64, .f32⟩
  | 10 => ⟨S_, .f32⟩
  | 11 => ⟨S32x16x12x64x128, .f32⟩
  | 12 => ⟨S_, .i32⟩
  | 13 => ⟨S32x16x12x64x128, .f32⟩
  | 14 => ⟨S32x16x12x64x128, .f32⟩
  | 15 => ⟨S32x16x12x64x128, .f32⟩
  | 16 => ⟨S32x16x12x64x64, .f32⟩
  | 17 => ⟨S32x16x12x1x1, .f32⟩
  | 18 => ⟨S32x16x12x128x64, .f32⟩
  | 19 => ⟨S_, .i32⟩
  | 20 => ⟨S16x12x128x128, .f32⟩
  | 21 => ⟨S32x16x12x64x128, .f32⟩
  | 22 => ⟨S_, .i32⟩
  | 23 => ⟨S_, .i1⟩
  | 24 => ⟨S_, .i32⟩
  | 25 => ⟨S_, .i32⟩
  | 26 => ⟨S_, .i32⟩
  | 27 => ⟨S_, .i32⟩
  | 28 => ⟨S1x16x12x64x128, .f32⟩
  | 29 => ⟨S16x12x64x128, .f32⟩
  | 30 => ⟨S_, .i32⟩
  | 31 => ⟨S_, .i32⟩
  | 32 => ⟨S_, .i32⟩
  | 33 => ⟨S_, .i32⟩
  | 34 => ⟨S1x16x12x64x128, .f32⟩
  | 35 => ⟨S16x12x64x128, .f32⟩
  | 36 => ⟨S_, .i32⟩
  | 37 => ⟨S_, .i32⟩
  | 38 => ⟨S_, .i32⟩
  | 39 => ⟨S_, .i32⟩
  | 40 => ⟨S1x16x12x64x128, .f32⟩
  | 41 => ⟨S16x12x64x128, .f32⟩
  | 42 => ⟨S_, .i32⟩
  | 43 => ⟨S_, .i32⟩
  | 44 => ⟨S_, .i32⟩
  | 45 => ⟨S_, .i32⟩
  | 46 => ⟨S1x16x12x64x64, .f32⟩
  | 47 => ⟨S16x12x64x64, .f32⟩
  | 48 => ⟨S_, .i32⟩
  | 49 => ⟨S_, .i32⟩
  | 50 => ⟨S_, .i32⟩
  | 51 => ⟨S_, .i32⟩
  | 52 => ⟨S1x16x12x1x1, .f32⟩
  | 53 => ⟨S16x12x1x1, .f32⟩
  | 54 => ⟨S_, .i32⟩
  | 55 => ⟨S_, .i32⟩
  | 56 => ⟨S_, .i32⟩
  | 57 => ⟨S_, .i32⟩
  | 58 => ⟨S1x16x12x128x64, .f32⟩
  | 59 => ⟨S16x12x128x64, .f32⟩
  | 60 => ⟨S16x12x64x128, .f32⟩
  | 61 => ⟨S16x12x64x128, .f32⟩
  | 62 => ⟨S16x12x128x128, .f32⟩
  | 63 => ⟨S16x12x128x128, .f32⟩
  | 64 => ⟨S16x12x128x128, .f32⟩
  | 65 => ⟨S16x12x128x128, .f32⟩
  | 66 => ⟨S16x12x64x128, .f32⟩
  | 67 => ⟨S16x12x64x128, .f32⟩
  | 68 => ⟨S16x12x64x128, .f32⟩
  | 69 => ⟨S1x16x12x64x128, .f32⟩
  | 70 => ⟨S_, .i32⟩
  | 71 => ⟨S_, .i32⟩
  | 72 => ⟨S_, .i32⟩
  | 73 => ⟨S_, .i32⟩
  | 74 => ⟨S32x16x12x64x128, .f32⟩
  | 75 => ⟨S_, .i32⟩
  | 76 => ⟨S_, .i32⟩
  | 77 => ⟨S16x32x64x12x128, .f32⟩
  | 78 => ⟨S16x2048x12x128, .f32⟩
  | 79 => ⟨S8x2048x12x128, .f32⟩
  | 80 => ⟨S8x2048x12x128, .f32⟩
  | 81 => ⟨S8x2048x12x128, .f32⟩
  | 82 => ⟨S16x2048x12x128, .f32⟩
  | 83 => ⟨S2x8x2048x1536, .f32⟩
  | 84 => ⟨S2x8x12x128x128, .f32⟩
  | _ => ⟨S8x2048x4608, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | _ => ⟨S8x2048x4608, .f32⟩

abbrev bufTy : (tb : Table) → Fin (tcTables nBuf tb) → BufTy
  | .hbm, ⟨i, _⟩ => hbmTy i
  | _, _ => ⟨S8x2048x4608, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst : Ref sig .tc := ⟨.hbm, 18, rfl⟩
abbrev main_v13 : Ref sig .tc := ⟨.hbm, 19, rfl⟩
abbrev main_v14 : Ref sig .tc := ⟨.hbm, 20, rfl⟩
abbrev main_cst_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_call1_cst : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_call1_v5 : Ref sig .tc := ⟨.hbm, 40, rfl⟩
abbrev main_call1_v6 : Ref sig .tc := ⟨.hbm, 41, rfl⟩
abbrev main_call1_v7 : Ref sig .tc := ⟨.hbm, 42, rfl⟩
abbrev main_call1_v8 : Ref sig .tc := ⟨.hbm, 43, rfl⟩
abbrev main_call1_v9 : Ref sig .tc := ⟨.hbm, 44, rfl⟩
abbrev main_call1_v10 : Ref sig .tc := ⟨.hbm, 45, rfl⟩
abbrev main_call1_v11 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_call5_call0_cst : Ref sig .tc := ⟨.hbm, 63, rfl⟩
abbrev main_call5_call0_v0 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_cst_1 : Ref sig .tc := ⟨.hbm, 82, rfl⟩
abbrev main_call6_v0 : Ref sig .tc := ⟨.hbm, 83, rfl⟩
abbrev main_call6_v1 : Ref sig .tc := ⟨.hbm, 84, rfl⟩
abbrev main_call6_v2 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_cst_2 : Ref sig .tc := ⟨.hbm, 96, rfl⟩
abbrev main_call7_v0 : Ref sig .tc := ⟨.hbm, 97, rfl⟩
abbrev main_call7_v1 : Ref sig .tc := ⟨.hbm, 98, rfl⟩
abbrev main_call7_v2 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_3 : Ref sig .tc := ⟨.hbm, 104, rfl⟩
abbrev main_cst_4 : Ref sig .tc := ⟨.hbm, 105, rfl⟩
abbrev main_call8_v0 : Ref sig .tc := ⟨.hbm, 106, rfl⟩
abbrev main_call8_v1 : Ref sig .tc := ⟨.hbm, 107, rfl⟩
abbrev main_v74 : Ref sig .tc := ⟨.hbm, 108, rfl⟩
abbrev main_v75 : Ref sig .tc := ⟨.hbm, 109, rfl⟩
abbrev main_c : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_call9_v0 : Ref sig .tc := ⟨.hbm, 116, rfl⟩
abbrev main_call9_v1 : Ref sig .tc := ⟨.hbm, 117, rfl⟩
abbrev main_v81 : Ref sig .tc := ⟨.hbm, 118, rfl⟩
abbrev main_c_5 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_call10_v0 : Ref sig .tc := ⟨.hbm, 125, rfl⟩
abbrev main_v87 : Ref sig .tc := ⟨.hbm, 126, rfl⟩
abbrev main_c_6 : Ref sig .tc := ⟨.hbm, 127, rfl⟩
abbrev main_v88 : Ref sig .tc := ⟨.hbm, 128, rfl⟩
abbrev main_v89 : Ref sig .tc := ⟨.hbm, 129, rfl⟩
abbrev main_v90 : Ref sig .tc := ⟨.hbm, 130, rfl⟩
abbrev main_v91 : Ref sig .tc := ⟨.hbm, 131, rfl⟩
abbrev main_v92 : Ref sig .tc := ⟨.hbm, 132, rfl⟩
abbrev main_call11_v0 : Ref sig .tc := ⟨.hbm, 133, rfl⟩
abbrev main_v93 : Ref sig .tc := ⟨.hbm, 134, rfl⟩
abbrev main_c_7 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_v97 : Ref sig .tc := ⟨.hbm, 139, rfl⟩
abbrev main_v98 : Ref sig .tc := ⟨.hbm, 140, rfl⟩
abbrev main_call12_v0 : Ref sig .tc := ⟨.hbm, 141, rfl⟩
abbrev main_v99 : Ref sig .tc := ⟨.hbm, 142, rfl⟩
abbrev main_c_8 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_v104 : Ref sig .tc := ⟨.hbm, 148, rfl⟩
abbrev main_call13_v0 : Ref sig .tc := ⟨.hbm, 149, rfl⟩
abbrev main_v105 : Ref sig .tc := ⟨.hbm, 150, rfl⟩
abbrev main_c_9 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_call14_v0 : Ref sig .tc := ⟨.hbm, 157, rfl⟩
abbrev main_v111 : Ref sig .tc := ⟨.hbm, 158, rfl⟩
abbrev main_c_10 : Ref sig .tc := ⟨.hbm, 159, rfl⟩
abbrev main_v112 : Ref sig .tc := ⟨.hbm, 160, rfl⟩
abbrev main_v113 : Ref sig .tc := ⟨.hbm, 161, rfl⟩
abbrev main_v114 : Ref sig .tc := ⟨.hbm, 162, rfl⟩
abbrev main_v115 : Ref sig .tc := ⟨.hbm, 163, rfl⟩
abbrev main_v116 : Ref sig .tc := ⟨.hbm, 164, rfl⟩
abbrev main_call15_v0 : Ref sig .tc := ⟨.hbm, 165, rfl⟩
abbrev main_v117 : Ref sig .tc := ⟨.hbm, 166, rfl⟩
abbrev main_c_11 : Ref sig .tc := ⟨.hbm, 167, rfl⟩
abbrev main_v118 : Ref sig .tc := ⟨.hbm, 168, rfl⟩
abbrev main_v119 : Ref sig .tc := ⟨.hbm, 169, rfl⟩
abbrev main_v120 : Ref sig .tc := ⟨.hbm, 170, rfl⟩
abbrev main_v121 : Ref sig .tc := ⟨.hbm, 171, rfl⟩
abbrev main_v122 : Ref sig .tc := ⟨.hbm, 172, rfl⟩
abbrev main_call16_v0 : Ref sig .tc := ⟨.hbm, 173, rfl⟩
abbrev main_v123 : Ref sig .tc := ⟨.hbm, 174, rfl⟩
abbrev main_c_12 : Ref sig .tc := ⟨.hbm, 175, rfl⟩
abbrev main_v124 : Ref sig .tc := ⟨.hbm, 176, rfl⟩
abbrev main_v125 : Ref sig .tc := ⟨.hbm, 177, rfl⟩
abbrev main_v126 : Ref sig .tc := ⟨.hbm, 178, rfl⟩
abbrev main_v127 : Ref sig .tc := ⟨.hbm, 179, rfl⟩
abbrev main_v128 : Ref sig .tc := ⟨.hbm, 180, rfl⟩
abbrev main_call17_v0 : Ref sig .tc := ⟨.hbm, 181, rfl⟩
abbrev main_v129 : Ref sig .tc := ⟨.hbm, 182, rfl⟩
abbrev main_c_13 : Ref sig .tc := ⟨.hbm, 183, rfl⟩
abbrev main_v130 : Ref sig .tc := ⟨.hbm, 184, rfl⟩
abbrev main_v131 : Ref sig .tc := ⟨.hbm, 185, rfl⟩
abbrev main_v132 : Ref sig .tc := ⟨.hbm, 186, rfl⟩
abbrev main_v133 : Ref sig .tc := ⟨.hbm, 187, rfl⟩
abbrev main_v134 : Ref sig .tc := ⟨.hbm, 188, rfl⟩
abbrev main_call18_v0 : Ref sig .tc := ⟨.hbm, 189, rfl⟩
abbrev main_v135 : Ref sig .tc := ⟨.hbm, 190, rfl⟩
abbrev main_c_14 : Ref sig .tc := ⟨.hbm, 191, rfl⟩
abbrev main_v136 : Ref sig .tc := ⟨.hbm, 192, rfl⟩
abbrev main_v137 : Ref sig .tc := ⟨.hbm, 193, rfl⟩
abbrev main_v138 : Ref sig .tc := ⟨.hbm, 194, rfl⟩
abbrev main_v139 : Ref sig .tc := ⟨.hbm, 195, rfl⟩
abbrev main_v140 : Ref sig .tc := ⟨.hbm, 196, rfl⟩
abbrev main_call19_v0 : Ref sig .tc := ⟨.hbm, 197, rfl⟩
abbrev main_v141 : Ref sig .tc := ⟨.hbm, 198, rfl⟩
abbrev main_c_15 : Ref sig .tc := ⟨.hbm, 199, rfl⟩
abbrev main_v142 : Ref sig .tc := ⟨.hbm, 200, rfl⟩
abbrev main_v143 : Ref sig .tc := ⟨.hbm, 201, rfl⟩
abbrev main_v144 : Ref sig .tc := ⟨.hbm, 202, rfl⟩
abbrev main_v145 : Ref sig .tc := ⟨.hbm, 203, rfl⟩
abbrev main_v146 : Ref sig .tc := ⟨.hbm, 204, rfl⟩
abbrev main_call20_v0 : Ref sig .tc := ⟨.hbm, 205, rfl⟩
abbrev main_v147 : Ref sig .tc := ⟨.hbm, 206, rfl⟩
abbrev main_c_16 : Ref sig .tc := ⟨.hbm, 207, rfl⟩
abbrev main_v148 : Ref sig .tc := ⟨.hbm, 208, rfl⟩
abbrev main_v149 : Ref sig .tc := ⟨.hbm, 209, rfl⟩
abbrev main_v150 : Ref sig .tc := ⟨.hbm, 210, rfl⟩
abbrev main_v151 : Ref sig .tc := ⟨.hbm, 211, rfl⟩
abbrev main_v152 : Ref sig .tc := ⟨.hbm, 212, rfl⟩
abbrev main_call21_v0 : Ref sig .tc := ⟨.hbm, 213, rfl⟩
abbrev main_v153 : Ref sig .tc := ⟨.hbm, 214, rfl⟩
abbrev main_c_17 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_v158 : Ref sig .tc := ⟨.hbm, 220, rfl⟩
abbrev main_call22_v0 : Ref sig .tc := ⟨.hbm, 221, rfl⟩
abbrev main_v159 : Ref sig .tc := ⟨.hbm, 222, rfl⟩
abbrev main_c_18 : Ref sig .tc := ⟨.hbm, 223, rfl⟩
abbrev main_v160 : Ref sig .tc := ⟨.hbm, 224, rfl⟩
abbrev main_v161 : Ref sig .tc := ⟨.hbm, 225, rfl⟩
abbrev main_v162 : Ref sig .tc := ⟨.hbm, 226, rfl⟩
abbrev main_v163 : Ref sig .tc := ⟨.hbm, 227, rfl⟩
abbrev main_v164 : Ref sig .tc := ⟨.hbm, 228, rfl⟩
abbrev main_call23_v0 : Ref sig .tc := ⟨.hbm, 229, rfl⟩
abbrev main_v165 : Ref sig .tc := ⟨.hbm, 230, rfl⟩
abbrev main_c_19 : Ref sig .tc := ⟨.hbm, 231, rfl⟩
abbrev main_v166 : Ref sig .tc := ⟨.hbm, 232, rfl⟩
abbrev main_v167 : Ref sig .tc := ⟨.hbm, 233, rfl⟩
abbrev main_v168 : Ref sig .tc := ⟨.hbm, 234, rfl⟩
abbrev main_v169 : Ref sig .tc := ⟨.hbm, 235, rfl⟩
abbrev main_v170 : Ref sig .tc := ⟨.hbm, 236, rfl⟩
abbrev main_call24_v0 : Ref sig .tc := ⟨.hbm, 237, rfl⟩
abbrev main_v171 : Ref sig .tc := ⟨.hbm, 238, rfl⟩
abbrev main_c_20 : Ref sig .tc := ⟨.hbm, 239, rfl⟩
abbrev main_v172 : Ref sig .tc := ⟨.hbm, 240, rfl⟩
abbrev main_v173 : Ref sig .tc := ⟨.hbm, 241, rfl⟩
abbrev main_v174 : Ref sig .tc := ⟨.hbm, 242, rfl⟩
abbrev main_v175 : Ref sig .tc := ⟨.hbm, 243, rfl⟩
abbrev main_v176 : Ref sig .tc := ⟨.hbm, 244, rfl⟩
abbrev main_call25_v0 : Ref sig .tc := ⟨.hbm, 245, rfl⟩
abbrev main_v177 : Ref sig .tc := ⟨.hbm, 246, rfl⟩
abbrev main_c_21 : Ref sig .tc := ⟨.hbm, 247, rfl⟩
abbrev main_v178 : Ref sig .tc := ⟨.hbm, 248, rfl⟩
abbrev main_v179 : Ref sig .tc := ⟨.hbm, 249, rfl⟩
abbrev main_v180 : Ref sig .tc := ⟨.hbm, 250, rfl⟩
abbrev main_v181 : Ref sig .tc := ⟨.hbm, 251, rfl⟩
abbrev main_v182 : Ref sig .tc := ⟨.hbm, 252, rfl⟩
abbrev main_call26_v0 : Ref sig .tc := ⟨.hbm, 253, rfl⟩
abbrev main_v183 : Ref sig .tc := ⟨.hbm, 254, rfl⟩
abbrev main_c_22 : Ref sig .tc := ⟨.hbm, 255, rfl⟩
abbrev main_v184 : Ref sig .tc := ⟨.hbm, 256, rfl⟩
abbrev main_v185 : Ref sig .tc := ⟨.hbm, 257, rfl⟩
abbrev main_v186 : Ref sig .tc := ⟨.hbm, 258, rfl⟩
abbrev main_v187 : Ref sig .tc := ⟨.hbm, 259, rfl⟩
abbrev main_v188 : Ref sig .tc := ⟨.hbm, 260, rfl⟩
abbrev main_call27_v0 : Ref sig .tc := ⟨.hbm, 261, rfl⟩
abbrev main_v189 : Ref sig .tc := ⟨.hbm, 262, rfl⟩
abbrev main_c_23 : Ref sig .tc := ⟨.hbm, 263, rfl⟩
abbrev main_v190 : Ref sig .tc := ⟨.hbm, 264, rfl⟩
abbrev main_v191 : Ref sig .tc := ⟨.hbm, 265, rfl⟩
abbrev main_v192 : Ref sig .tc := ⟨.hbm, 266, rfl⟩
abbrev main_v193 : Ref sig .tc := ⟨.hbm, 267, rfl⟩
abbrev main_v194 : Ref sig .tc := ⟨.hbm, 268, rfl⟩
abbrev main_call28_v0 : Ref sig .tc := ⟨.hbm, 269, rfl⟩
abbrev main_v195 : Ref sig .tc := ⟨.hbm, 270, rfl⟩
abbrev main_c_24 : Ref sig .tc := ⟨.hbm, 271, rfl⟩
abbrev main_v196 : Ref sig .tc := ⟨.hbm, 272, rfl⟩
abbrev main_v197 : Ref sig .tc := ⟨.hbm, 273, rfl⟩
abbrev main_v198 : Ref sig .tc := ⟨.hbm, 274, rfl⟩
abbrev main_v199 : Ref sig .tc := ⟨.hbm, 275, rfl⟩
abbrev main_v200 : Ref sig .tc := ⟨.hbm, 276, rfl⟩
abbrev main_call29_v0 : Ref sig .tc := ⟨.hbm, 277, rfl⟩
abbrev main_v201 : Ref sig .tc := ⟨.hbm, 278, rfl⟩
abbrev main_c_25 : Ref sig .tc := ⟨.hbm, 279, rfl⟩
abbrev main_v202 : Ref sig .tc := ⟨.hbm, 280, rfl⟩
abbrev main_v203 : Ref sig .tc := ⟨.hbm, 281, rfl⟩
abbrev main_v204 : Ref sig .tc := ⟨.hbm, 282, rfl⟩
abbrev main_v205 : Ref sig .tc := ⟨.hbm, 283, rfl⟩
abbrev main_v206 : Ref sig .tc := ⟨.hbm, 284, rfl⟩
abbrev main_call30_v0 : Ref sig .tc := ⟨.hbm, 285, rfl⟩
abbrev main_v207 : Ref sig .tc := ⟨.hbm, 286, rfl⟩
abbrev main_c_26 : Ref sig .tc := ⟨.hbm, 287, rfl⟩
abbrev main_v208 : Ref sig .tc := ⟨.hbm, 288, rfl⟩
abbrev main_v209 : Ref sig .tc := ⟨.hbm, 289, rfl⟩
abbrev main_v210 : Ref sig .tc := ⟨.hbm, 290, rfl⟩
abbrev main_v211 : Ref sig .tc := ⟨.hbm, 291, rfl⟩
abbrev main_v212 : Ref sig .tc := ⟨.hbm, 292, rfl⟩
abbrev main_call31_v0 : Ref sig .tc := ⟨.hbm, 293, rfl⟩
abbrev main_v213 : Ref sig .tc := ⟨.hbm, 294, rfl⟩
abbrev main_c_27 : Ref sig .tc := ⟨.hbm, 295, rfl⟩
abbrev main_v214 : Ref sig .tc := ⟨.hbm, 296, rfl⟩
abbrev main_v215 : Ref sig .tc := ⟨.hbm, 297, rfl⟩
abbrev main_v216 : Ref sig .tc := ⟨.hbm, 298, rfl⟩
abbrev main_v217 : Ref sig .tc := ⟨.hbm, 299, rfl⟩
abbrev main_v218 : Ref sig .tc := ⟨.hbm, 300, rfl⟩
abbrev main_call32_v0 : Ref sig .tc := ⟨.hbm, 301, rfl⟩
abbrev main_v219 : Ref sig .tc := ⟨.hbm, 302, rfl⟩
abbrev main_c_28 : Ref sig .tc := ⟨.hbm, 303, rfl⟩
abbrev main_v220 : Ref sig .tc := ⟨.hbm, 304, rfl⟩
abbrev main_v221 : Ref sig .tc := ⟨.hbm, 305, rfl⟩
abbrev main_v222 : Ref sig .tc := ⟨.hbm, 306, rfl⟩
abbrev main_v223 : Ref sig .tc := ⟨.hbm, 307, rfl⟩
abbrev main_v224 : Ref sig .tc := ⟨.hbm, 308, rfl⟩
abbrev main_call33_v0 : Ref sig .tc := ⟨.hbm, 309, rfl⟩
abbrev main_v225 : Ref sig .tc := ⟨.hbm, 310, rfl⟩
abbrev main_c_29 : Ref sig .tc := ⟨.hbm, 311, rfl⟩
abbrev main_v226 : Ref sig .tc := ⟨.hbm, 312, rfl⟩
abbrev main_v227 : Ref sig .tc := ⟨.hbm, 313, rfl⟩
abbrev main_v228 : Ref sig .tc := ⟨.hbm, 314, rfl⟩
abbrev main_v229 : Ref sig .tc := ⟨.hbm, 315, rfl⟩
abbrev main_v230 : Ref sig .tc := ⟨.hbm, 316, rfl⟩
abbrev main_call34_v0 : Ref sig .tc := ⟨.hbm, 317, rfl⟩
abbrev main_v231 : Ref sig .tc := ⟨.hbm, 318, rfl⟩
abbrev main_c_30 : Ref sig .tc := ⟨.hbm, 319, rfl⟩
abbrev main_v232 : Ref sig .tc := ⟨.hbm, 320, rfl⟩
abbrev main_v233 : Ref sig .tc := ⟨.hbm, 321, rfl⟩
abbrev main_v234 : Ref sig .tc := ⟨.hbm, 322, rfl⟩
abbrev main_v235 : Ref sig .tc := ⟨.hbm, 323, rfl⟩
abbrev main_v236 : Ref sig .tc := ⟨.hbm, 324, rfl⟩
abbrev main_call35_v0 : Ref sig .tc := ⟨.hbm, 325, rfl⟩
abbrev main_v237 : Ref sig .tc := ⟨.hbm, 326, rfl⟩
abbrev main_c_31 : Ref sig .tc := ⟨.hbm, 327, rfl⟩
abbrev main_v238 : Ref sig .tc := ⟨.hbm, 328, rfl⟩
abbrev main_v239 : Ref sig .tc := ⟨.hbm, 329, rfl⟩
abbrev main_v240 : Ref sig .tc := ⟨.hbm, 330, rfl⟩
abbrev main_v241 : Ref sig .tc := ⟨.hbm, 331, rfl⟩
abbrev main_v242 : Ref sig .tc := ⟨.hbm, 332, rfl⟩
abbrev main_call36_v0 : Ref sig .tc := ⟨.hbm, 333, rfl⟩
abbrev main_v243 : Ref sig .tc := ⟨.hbm, 334, rfl⟩
abbrev main_c_32 : Ref sig .tc := ⟨.hbm, 335, rfl⟩
abbrev main_v244 : Ref sig .tc := ⟨.hbm, 336, rfl⟩
abbrev main_v245 : Ref sig .tc := ⟨.hbm, 337, rfl⟩
abbrev main_v246 : Ref sig .tc := ⟨.hbm, 338, rfl⟩
abbrev main_v247 : Ref sig .tc := ⟨.hbm, 339, rfl⟩
abbrev main_v248 : Ref sig .tc := ⟨.hbm, 340, rfl⟩
abbrev main_call37_v0 : Ref sig .tc := ⟨.hbm, 341, rfl⟩
abbrev main_v249 : Ref sig .tc := ⟨.hbm, 342, rfl⟩
abbrev main_c_33 : Ref sig .tc := ⟨.hbm, 343, rfl⟩
abbrev main_v250 : Ref sig .tc := ⟨.hbm, 344, rfl⟩
abbrev main_v251 : Ref sig .tc := ⟨.hbm, 345, rfl⟩
abbrev main_v252 : Ref sig .tc := ⟨.hbm, 346, rfl⟩
abbrev main_v253 : Ref sig .tc := ⟨.hbm, 347, rfl⟩
abbrev main_v254 : Ref sig .tc := ⟨.hbm, 348, rfl⟩
abbrev main_call38_v0 : Ref sig .tc := ⟨.hbm, 349, rfl⟩
abbrev main_v255 : Ref sig .tc := ⟨.hbm, 350, rfl⟩
abbrev main_c_34 : Ref sig .tc := ⟨.hbm, 351, rfl⟩
abbrev main_v256 : Ref sig .tc := ⟨.hbm, 352, rfl⟩
abbrev main_v257 : Ref sig .tc := ⟨.hbm, 353, rfl⟩
abbrev main_v258 : Ref sig .tc := ⟨.hbm, 354, rfl⟩
abbrev main_v259 : Ref sig .tc := ⟨.hbm, 355, rfl⟩
abbrev main_v260 : Ref sig .tc := ⟨.hbm, 356, rfl⟩
abbrev main_call39_v0 : Ref sig .tc := ⟨.hbm, 357, rfl⟩
abbrev main_v261 : Ref sig .tc := ⟨.hbm, 358, rfl⟩
abbrev main_c_35 : Ref sig .tc := ⟨.hbm, 359, rfl⟩
abbrev main_v262 : Ref sig .tc := ⟨.hbm, 360, rfl⟩
abbrev main_v263 : Ref sig .tc := ⟨.hbm, 361, rfl⟩
abbrev main_v264 : Ref sig .tc := ⟨.hbm, 362, rfl⟩
abbrev main_v265 : Ref sig .tc := ⟨.hbm, 363, rfl⟩
abbrev main_v266 : Ref sig .tc := ⟨.hbm, 364, rfl⟩
abbrev main_call40_v0 : Ref sig .tc := ⟨.hbm, 365, rfl⟩
abbrev main_v267 : Ref sig .tc := ⟨.hbm, 366, rfl⟩
abbrev main_c_36 : Ref sig .tc := ⟨.hbm, 367, rfl⟩
abbrev main_v268 : Ref sig .tc := ⟨.hbm, 368, rfl⟩
abbrev main_v269 : Ref sig .tc := ⟨.hbm, 369, rfl⟩
abbrev main_v270 : Ref sig .tc := ⟨.hbm, 370, rfl⟩
abbrev main_v271 : Ref sig .tc := ⟨.hbm, 371, rfl⟩
abbrev main_v272 : Ref sig .tc := ⟨.hbm, 372, rfl⟩
abbrev main_call41_v0 : Ref sig .tc := ⟨.hbm, 373, rfl⟩
abbrev main_v273 : Ref sig .tc := ⟨.hbm, 374, rfl⟩
abbrev main_c_37 : Ref sig .tc := ⟨.hbm, 375, rfl⟩
abbrev main_v274 : Ref sig .tc := ⟨.hbm, 376, rfl⟩
abbrev main_v275 : Ref sig .tc := ⟨.hbm, 377, rfl⟩
abbrev main_v276 : Ref sig .tc := ⟨.hbm, 378, rfl⟩
abbrev main_v277 : Ref sig .tc := ⟨.hbm, 379, rfl⟩
abbrev main_v278 : Ref sig .tc := ⟨.hbm, 380, rfl⟩
abbrev main_call42_v0 : Ref sig .tc := ⟨.hbm, 381, rfl⟩
abbrev main_v279 : Ref sig .tc := ⟨.hbm, 382, rfl⟩
abbrev main_c_38 : Ref sig .tc := ⟨.hbm, 383, rfl⟩
abbrev main_v280 : Ref sig .tc := ⟨.hbm, 384, rfl⟩
abbrev main_v281 : Ref sig .tc := ⟨.hbm, 385, rfl⟩
abbrev main_v282 : Ref sig .tc := ⟨.hbm, 386, rfl⟩
abbrev main_v283 : Ref sig .tc := ⟨.hbm, 387, rfl⟩
abbrev main_v284 : Ref sig .tc := ⟨.hbm, 388, rfl⟩
abbrev main_call43_v0 : Ref sig .tc := ⟨.hbm, 389, rfl⟩
abbrev main_v285 : Ref sig .tc := ⟨.hbm, 390, rfl⟩
abbrev main_c_39 : Ref sig .tc := ⟨.hbm, 391, rfl⟩
abbrev main_v286 : Ref sig .tc := ⟨.hbm, 392, rfl⟩
abbrev main_v287 : Ref sig .tc := ⟨.hbm, 393, rfl⟩
abbrev main_v288 : Ref sig .tc := ⟨.hbm, 394, rfl⟩
abbrev main_v289 : Ref sig .tc := ⟨.hbm, 395, rfl⟩
abbrev main_v290 : Ref sig .tc := ⟨.hbm, 396, rfl⟩
abbrev main_call44_v0 : Ref sig .tc := ⟨.hbm, 397, rfl⟩
abbrev main_v291 : Ref sig .tc := ⟨.hbm, 398, rfl⟩
abbrev main_c_40 : Ref sig .tc := ⟨.hbm, 399, rfl⟩
abbrev main_v292 : Ref sig .tc := ⟨.hbm, 400, rfl⟩
abbrev main_v293 : Ref sig .tc := ⟨.hbm, 401, rfl⟩
abbrev main_v294 : Ref sig .tc := ⟨.hbm, 402, rfl⟩
abbrev main_v295 : Ref sig .tc := ⟨.hbm, 403, rfl⟩
abbrev main_v296 : Ref sig .tc := ⟨.hbm, 404, rfl⟩
abbrev main_call45_v0 : Ref sig .tc := ⟨.hbm, 405, rfl⟩
abbrev main_v297 : Ref sig .tc := ⟨.hbm, 406, rfl⟩
abbrev main_c_41 : Ref sig .tc := ⟨.hbm, 407, rfl⟩
abbrev main_v298 : Ref sig .tc := ⟨.hbm, 408, rfl⟩
abbrev main_v299 : Ref sig .tc := ⟨.hbm, 409, rfl⟩
abbrev main_v300 : Ref sig .tc := ⟨.hbm, 410, rfl⟩
abbrev main_v301 : Ref sig .tc := ⟨.hbm, 411, rfl⟩
abbrev main_v302 : Ref sig .tc := ⟨.hbm, 412, rfl⟩
abbrev main_call46_v0 : Ref sig .tc := ⟨.hbm, 413, rfl⟩
abbrev main_v303 : Ref sig .tc := ⟨.hbm, 414, rfl⟩
abbrev main_c_42 : Ref sig .tc := ⟨.hbm, 415, rfl⟩
abbrev main_v304 : Ref sig .tc := ⟨.hbm, 416, rfl⟩
abbrev main_v305 : Ref sig .tc := ⟨.hbm, 417, rfl⟩
abbrev main_v306 : Ref sig .tc := ⟨.hbm, 418, rfl⟩
abbrev main_v307 : Ref sig .tc := ⟨.hbm, 419, rfl⟩
abbrev main_v308 : Ref sig .tc := ⟨.hbm, 420, rfl⟩
abbrev main_call47_v0 : Ref sig .tc := ⟨.hbm, 421, rfl⟩
abbrev main_v309 : Ref sig .tc := ⟨.hbm, 422, rfl⟩
abbrev main_c_43 : Ref sig .tc := ⟨.hbm, 423, rfl⟩
abbrev main_v310 : Ref sig .tc := ⟨.hbm, 424, rfl⟩
abbrev main_v311 : Ref sig .tc := ⟨.hbm, 425, rfl⟩
abbrev main_v312 : Ref sig .tc := ⟨.hbm, 426, rfl⟩
abbrev main_v313 : Ref sig .tc := ⟨.hbm, 427, rfl⟩
abbrev main_v314 : Ref sig .tc := ⟨.hbm, 428, rfl⟩
abbrev main_call48_v0 : Ref sig .tc := ⟨.hbm, 429, rfl⟩
abbrev main_v315 : Ref sig .tc := ⟨.hbm, 430, rfl⟩
abbrev main_c_44 : Ref sig .tc := ⟨.hbm, 431, rfl⟩
abbrev main_v316 : Ref sig .tc := ⟨.hbm, 432, rfl⟩
abbrev main_v317 : Ref sig .tc := ⟨.hbm, 433, rfl⟩
abbrev main_v318 : Ref sig .tc := ⟨.hbm, 434, rfl⟩
abbrev main_v319 : Ref sig .tc := ⟨.hbm, 435, rfl⟩
abbrev main_v320 : Ref sig .tc := ⟨.hbm, 436, rfl⟩
abbrev main_call49_v0 : Ref sig .tc := ⟨.hbm, 437, rfl⟩
abbrev main_v321 : Ref sig .tc := ⟨.hbm, 438, rfl⟩
abbrev main_c_45 : Ref sig .tc := ⟨.hbm, 439, rfl⟩
abbrev main_v322 : Ref sig .tc := ⟨.hbm, 440, rfl⟩
abbrev main_v323 : Ref sig .tc := ⟨.hbm, 441, rfl⟩
abbrev main_v324 : Ref sig .tc := ⟨.hbm, 442, rfl⟩
abbrev main_v325 : Ref sig .tc := ⟨.hbm, 443, rfl⟩
abbrev main_v326 : Ref sig .tc := ⟨.hbm, 444, rfl⟩
abbrev main_call50_v0 : Ref sig .tc := ⟨.hbm, 445, rfl⟩
abbrev main_v327 : Ref sig .tc := ⟨.hbm, 446, rfl⟩
abbrev main_c_46 : Ref sig .tc := ⟨.hbm, 447, rfl⟩
abbrev main_v328 : Ref sig .tc := ⟨.hbm, 448, rfl⟩
abbrev main_v329 : Ref sig .tc := ⟨.hbm, 449, rfl⟩
abbrev main_v330 : Ref sig .tc := ⟨.hbm, 450, rfl⟩
abbrev main_v331 : Ref sig .tc := ⟨.hbm, 451, rfl⟩
abbrev main_v332 : Ref sig .tc := ⟨.hbm, 452, rfl⟩
abbrev main_call51_v0 : Ref sig .tc := ⟨.hbm, 453, rfl⟩
abbrev main_v333 : Ref sig .tc := ⟨.hbm, 454, rfl⟩
abbrev main_c_47 : Ref sig .tc := ⟨.hbm, 455, rfl⟩
abbrev main_v334 : Ref sig .tc := ⟨.hbm, 456, rfl⟩
abbrev main_v335 : Ref sig .tc := ⟨.hbm, 457, rfl⟩
abbrev main_v336 : Ref sig .tc := ⟨.hbm, 458, rfl⟩
abbrev main_v337 : Ref sig .tc := ⟨.hbm, 459, rfl⟩
abbrev main_v338 : Ref sig .tc := ⟨.hbm, 460, rfl⟩
abbrev main_call52_v0 : Ref sig .tc := ⟨.hbm, 461, rfl⟩
abbrev main_v339 : Ref sig .tc := ⟨.hbm, 462, rfl⟩
abbrev main_c_48 : Ref sig .tc := ⟨.hbm, 463, rfl⟩
abbrev main_v340 : Ref sig .tc := ⟨.hbm, 464, rfl⟩
abbrev main_v341 : Ref sig .tc := ⟨.hbm, 465, rfl⟩
abbrev main_v342 : Ref sig .tc := ⟨.hbm, 466, rfl⟩
abbrev main_v343 : Ref sig .tc := ⟨.hbm, 467, rfl⟩
abbrev main_v344 : Ref sig .tc := ⟨.hbm, 468, rfl⟩
abbrev main_call53_v0 : Ref sig .tc := ⟨.hbm, 469, rfl⟩
abbrev main_v345 : Ref sig .tc := ⟨.hbm, 470, rfl⟩
abbrev main_c_49 : Ref sig .tc := ⟨.hbm, 471, rfl⟩
abbrev main_v346 : Ref sig .tc := ⟨.hbm, 472, rfl⟩
abbrev main_v347 : Ref sig .tc := ⟨.hbm, 473, rfl⟩
abbrev main_v348 : Ref sig .tc := ⟨.hbm, 474, rfl⟩
abbrev main_v349 : Ref sig .tc := ⟨.hbm, 475, rfl⟩
abbrev main_v350 : Ref sig .tc := ⟨.hbm, 476, rfl⟩
abbrev main_call54_v0 : Ref sig .tc := ⟨.hbm, 477, rfl⟩
abbrev main_v351 : Ref sig .tc := ⟨.hbm, 478, rfl⟩
abbrev main_c_50 : Ref sig .tc := ⟨.hbm, 479, rfl⟩
abbrev main_v352 : Ref sig .tc := ⟨.hbm, 480, rfl⟩
abbrev main_v353 : Ref sig .tc := ⟨.hbm, 481, rfl⟩
abbrev main_v354 : Ref sig .tc := ⟨.hbm, 482, rfl⟩
abbrev main_v355 : Ref sig .tc := ⟨.hbm, 483, rfl⟩
abbrev main_v356 : Ref sig .tc := ⟨.hbm, 484, rfl⟩
abbrev main_call55_v0 : Ref sig .tc := ⟨.hbm, 485, rfl⟩
abbrev main_v357 : Ref sig .tc := ⟨.hbm, 486, rfl⟩
abbrev main_c_51 : Ref sig .tc := ⟨.hbm, 487, rfl⟩
abbrev main_v358 : Ref sig .tc := ⟨.hbm, 488, rfl⟩
abbrev main_v359 : Ref sig .tc := ⟨.hbm, 489, rfl⟩
abbrev main_v360 : Ref sig .tc := ⟨.hbm, 490, rfl⟩
abbrev main_v361 : Ref sig .tc := ⟨.hbm, 491, rfl⟩
abbrev main_v362 : Ref sig .tc := ⟨.hbm, 492, rfl⟩
abbrev main_call56_v0 : Ref sig .tc := ⟨.hbm, 493, rfl⟩
abbrev main_v363 : Ref sig .tc := ⟨.hbm, 494, rfl⟩
abbrev main_c_52 : Ref sig .tc := ⟨.hbm, 495, rfl⟩
abbrev main_v364 : Ref sig .tc := ⟨.hbm, 496, rfl⟩
abbrev main_v365 : Ref sig .tc := ⟨.hbm, 497, rfl⟩
abbrev main_v366 : Ref sig .tc := ⟨.hbm, 498, rfl⟩
abbrev main_v367 : Ref sig .tc := ⟨.hbm, 499, rfl⟩
abbrev main_v368 : Ref sig .tc := ⟨.hbm, 500, rfl⟩
abbrev main_call57_v0 : Ref sig .tc := ⟨.hbm, 501, rfl⟩
abbrev main_v369 : Ref sig .tc := ⟨.hbm, 502, rfl⟩
abbrev main_c_53 : Ref sig .tc := ⟨.hbm, 503, rfl⟩
abbrev main_v370 : Ref sig .tc := ⟨.hbm, 504, rfl⟩
abbrev main_v371 : Ref sig .tc := ⟨.hbm, 505, rfl⟩
abbrev main_v372 : Ref sig .tc := ⟨.hbm, 506, rfl⟩
abbrev main_v373 : Ref sig .tc := ⟨.hbm, 507, rfl⟩
abbrev main_v374 : Ref sig .tc := ⟨.hbm, 508, rfl⟩
abbrev main_call58_v0 : Ref sig .tc := ⟨.hbm, 509, rfl⟩
abbrev main_v375 : Ref sig .tc := ⟨.hbm, 510, rfl⟩
abbrev main_c_54 : Ref sig .tc := ⟨.hbm, 511, rfl⟩
abbrev main_v376 : Ref sig .tc := ⟨.hbm, 512, rfl⟩
abbrev main_v377 : Ref sig .tc := ⟨.hbm, 513, rfl⟩
abbrev main_v378 : Ref sig .tc := ⟨.hbm, 514, rfl⟩
abbrev main_v379 : Ref sig .tc := ⟨.hbm, 515, rfl⟩
abbrev main_v380 : Ref sig .tc := ⟨.hbm, 516, rfl⟩
abbrev main_call59_v0 : Ref sig .tc := ⟨.hbm, 517, rfl⟩
abbrev main_v381 : Ref sig .tc := ⟨.hbm, 518, rfl⟩
abbrev main_c_55 : Ref sig .tc := ⟨.hbm, 519, rfl⟩
abbrev main_v382 : Ref sig .tc := ⟨.hbm, 520, rfl⟩
abbrev main_v383 : Ref sig .tc := ⟨.hbm, 521, rfl⟩
abbrev main_v384 : Ref sig .tc := ⟨.hbm, 522, rfl⟩
abbrev main_v385 : Ref sig .tc := ⟨.hbm, 523, rfl⟩
abbrev main_v386 : Ref sig .tc := ⟨.hbm, 524, rfl⟩
abbrev main_call60_v0 : Ref sig .tc := ⟨.hbm, 525, rfl⟩
abbrev main_v387 : Ref sig .tc := ⟨.hbm, 526, rfl⟩
abbrev main_c_56 : Ref sig .tc := ⟨.hbm, 527, rfl⟩
abbrev main_v388 : Ref sig .tc := ⟨.hbm, 528, rfl⟩
abbrev main_v389 : Ref sig .tc := ⟨.hbm, 529, rfl⟩
abbrev main_v390 : Ref sig .tc := ⟨.hbm, 530, rfl⟩
abbrev main_v391 : Ref sig .tc := ⟨.hbm, 531, rfl⟩
abbrev main_v392 : Ref sig .tc := ⟨.hbm, 532, rfl⟩
abbrev main_call61_v0 : Ref sig .tc := ⟨.hbm, 533, rfl⟩
abbrev main_v393 : Ref sig .tc := ⟨.hbm, 534, rfl⟩
abbrev main_c_57 : Ref sig .tc := ⟨.hbm, 535, rfl⟩
abbrev main_v394 : Ref sig .tc := ⟨.hbm, 536, rfl⟩
abbrev main_v395 : Ref sig .tc := ⟨.hbm, 537, rfl⟩
abbrev main_v396 : Ref sig .tc := ⟨.hbm, 538, rfl⟩
abbrev main_v397 : Ref sig .tc := ⟨.hbm, 539, rfl⟩
abbrev main_v398 : Ref sig .tc := ⟨.hbm, 540, rfl⟩
abbrev main_call62_v0 : Ref sig .tc := ⟨.hbm, 541, rfl⟩
abbrev main_v399 : Ref sig .tc := ⟨.hbm, 542, rfl⟩
abbrev main_c_58 : Ref sig .tc := ⟨.hbm, 543, rfl⟩
abbrev main_v400 : Ref sig .tc := ⟨.hbm, 544, rfl⟩
abbrev main_v401 : Ref sig .tc := ⟨.hbm, 545, rfl⟩
abbrev main_v402 : Ref sig .tc := ⟨.hbm, 546, rfl⟩
abbrev main_v403 : Ref sig .tc := ⟨.hbm, 547, rfl⟩
abbrev main_v404 : Ref sig .tc := ⟨.hbm, 548, rfl⟩
abbrev main_call63_v0 : Ref sig .tc := ⟨.hbm, 549, rfl⟩
abbrev main_v405 : Ref sig .tc := ⟨.hbm, 550, rfl⟩
abbrev main_c_59 : Ref sig .tc := ⟨.hbm, 551, rfl⟩
abbrev main_v406 : Ref sig .tc := ⟨.hbm, 552, rfl⟩
abbrev main_v407 : Ref sig .tc := ⟨.hbm, 553, rfl⟩
abbrev main_v408 : Ref sig .tc := ⟨.hbm, 554, rfl⟩
abbrev main_v409 : Ref sig .tc := ⟨.hbm, 555, rfl⟩
abbrev main_v410 : Ref sig .tc := ⟨.hbm, 556, rfl⟩
abbrev main_call64_v0 : Ref sig .tc := ⟨.hbm, 557, rfl⟩
abbrev main_v411 : Ref sig .tc := ⟨.hbm, 558, rfl⟩
abbrev main_c_60 : Ref sig .tc := ⟨.hbm, 559, rfl⟩
abbrev main_v412 : Ref sig .tc := ⟨.hbm, 560, rfl⟩
abbrev main_v413 : Ref sig .tc := ⟨.hbm, 561, rfl⟩
abbrev main_v414 : Ref sig .tc := ⟨.hbm, 562, rfl⟩
abbrev main_v415 : Ref sig .tc := ⟨.hbm, 563, rfl⟩
abbrev main_v416 : Ref sig .tc := ⟨.hbm, 564, rfl⟩
abbrev main_call65_v0 : Ref sig .tc := ⟨.hbm, 565, rfl⟩
abbrev main_v417 : Ref sig .tc := ⟨.hbm, 566, rfl⟩
abbrev main_c_61 : Ref sig .tc := ⟨.hbm, 567, rfl⟩
abbrev main_v418 : Ref sig .tc := ⟨.hbm, 568, rfl⟩
abbrev main_v419 : Ref sig .tc := ⟨.hbm, 569, rfl⟩
abbrev main_v420 : Ref sig .tc := ⟨.hbm, 570, rfl⟩
abbrev main_v421 : Ref sig .tc := ⟨.hbm, 571, rfl⟩
abbrev main_v422 : Ref sig .tc := ⟨.hbm, 572, rfl⟩
abbrev main_call66_v0 : Ref sig .tc := ⟨.hbm, 573, rfl⟩
abbrev main_v423 : Ref sig .tc := ⟨.hbm, 574, rfl⟩
abbrev main_c_62 : Ref sig .tc := ⟨.hbm, 575, rfl⟩
abbrev main_v424 : Ref sig .tc := ⟨.hbm, 576, rfl⟩
abbrev main_v425 : Ref sig .tc := ⟨.hbm, 577, rfl⟩
abbrev main_v426 : Ref sig .tc := ⟨.hbm, 578, rfl⟩
abbrev main_v427 : Ref sig .tc := ⟨.hbm, 579, rfl⟩
abbrev main_v428 : Ref sig .tc := ⟨.hbm, 580, rfl⟩
abbrev main_call67_v0 : Ref sig .tc := ⟨.hbm, 581, rfl⟩
abbrev main_v429 : Ref sig .tc := ⟨.hbm, 582, rfl⟩
abbrev main_c_63 : Ref sig .tc := ⟨.hbm, 583, rfl⟩
abbrev main_v430 : Ref sig .tc := ⟨.hbm, 584, rfl⟩
abbrev main_v431 : Ref sig .tc := ⟨.hbm, 585, rfl⟩
abbrev main_v432 : Ref sig .tc := ⟨.hbm, 586, rfl⟩
abbrev main_v433 : Ref sig .tc := ⟨.hbm, 587, rfl⟩
abbrev main_v434 : Ref sig .tc := ⟨.hbm, 588, rfl⟩
abbrev main_call68_v0 : Ref sig .tc := ⟨.hbm, 589, rfl⟩
abbrev main_v435 : Ref sig .tc := ⟨.hbm, 590, rfl⟩
abbrev main_c_64 : Ref sig .tc := ⟨.hbm, 591, rfl⟩
abbrev main_v436 : Ref sig .tc := ⟨.hbm, 592, rfl⟩
abbrev main_v437 : Ref sig .tc := ⟨.hbm, 593, rfl⟩
abbrev main_v438 : Ref sig .tc := ⟨.hbm, 594, rfl⟩
abbrev main_v439 : Ref sig .tc := ⟨.hbm, 595, rfl⟩
abbrev main_v440 : Ref sig .tc := ⟨.hbm, 596, rfl⟩
abbrev main_call69_v0 : Ref sig .tc := ⟨.hbm, 597, rfl⟩
abbrev main_v441 : Ref sig .tc := ⟨.hbm, 598, rfl⟩
abbrev main_c_65 : Ref sig .tc := ⟨.hbm, 599, rfl⟩
abbrev main_v442 : Ref sig .tc := ⟨.hbm, 600, rfl⟩
abbrev main_v443 : Ref sig .tc := ⟨.hbm, 601, rfl⟩
abbrev main_v444 : Ref sig .tc := ⟨.hbm, 602, rfl⟩
abbrev main_v445 : Ref sig .tc := ⟨.hbm, 603, rfl⟩
abbrev main_v446 : Ref sig .tc := ⟨.hbm, 604, rfl⟩
abbrev main_call70_v0 : Ref sig .tc := ⟨.hbm, 605, rfl⟩
abbrev main_v447 : Ref sig .tc := ⟨.hbm, 606, rfl⟩
abbrev main_c_66 : Ref sig .tc := ⟨.hbm, 607, rfl⟩
abbrev main_v448 : Ref sig .tc := ⟨.hbm, 608, rfl⟩
abbrev main_v449 : Ref sig .tc := ⟨.hbm, 609, rfl⟩
abbrev main_v450 : Ref sig .tc := ⟨.hbm, 610, rfl⟩
abbrev main_v451 : Ref sig .tc := ⟨.hbm, 611, rfl⟩
abbrev main_v452 : Ref sig .tc := ⟨.hbm, 612, rfl⟩
abbrev main_call71_v0 : Ref sig .tc := ⟨.hbm, 613, rfl⟩
abbrev main_v453 : Ref sig .tc := ⟨.hbm, 614, rfl⟩
abbrev main_v454 : Ref sig .tc := ⟨.hbm, 615, rfl⟩
abbrev main_v455 : Ref sig .tc := ⟨.hbm, 616, rfl⟩
abbrev main_v456 : Ref sig .tc := ⟨.hbm, 617, rfl⟩
abbrev main_v457 : Ref sig .tc := ⟨.hbm, 618, rfl⟩
abbrev main_v458 : Ref sig .tc := ⟨.hbm, 619, rfl⟩
abbrev main_v459 : Ref sig .tc := ⟨.hbm, 620, rfl⟩
abbrev main_v460 : Ref sig .tc := ⟨.hbm, 621, rfl⟩
abbrev main_v461 : Ref sig .tc := ⟨.hbm, 622, rfl⟩
abbrev main_cst_67 : Ref sig .tc := ⟨.hbm, 623, rfl⟩
abbrev main_call72_v0 : Ref sig .tc := ⟨.hbm, 624, rfl⟩
abbrev main_call72_v1 : Ref sig .tc := ⟨.hbm, 625, rfl⟩
abbrev main_call72_v2 : Ref sig .tc := ⟨.hbm, 626, rfl⟩
abbrev main_v462 : Ref sig .tc := ⟨.hbm, 627, rfl⟩
abbrev main_v463 : Ref sig .tc := ⟨.hbm, 628, rfl⟩
abbrev main_v464 : Ref sig .tc := ⟨.hbm, 629, rfl⟩
abbrev main_v465 : Ref sig .tc := ⟨.hbm, 630, rfl⟩
abbrev main_v466 : Ref sig .tc := ⟨.hbm, 631, rfl⟩
abbrev main_v467 : Ref sig .tc := ⟨.hbm, 632, rfl⟩
abbrev main_v468 : Ref sig .tc := ⟨.hbm, 633, rfl⟩
abbrev main_v469 : Ref sig .tc := ⟨.hbm, 634, rfl⟩
abbrev main_v470 : Ref sig .tc := ⟨.hbm, 635, rfl⟩
abbrev main_v471 : Ref sig .tc := ⟨.hbm, 636, rfl⟩
abbrev main_v472 : Ref sig .tc := ⟨.hbm, 637, rfl⟩
abbrev main_v473 : Ref sig .tc := ⟨.hbm, 638, rfl⟩
abbrev main_v474 : Ref sig .tc := ⟨.hbm, 639, rfl⟩
abbrev main_v475 : Ref sig .tc := ⟨.hbm, 640, rfl⟩
abbrev main_v476 : Ref sig .tc := ⟨.hbm, 641, rfl⟩
abbrev main_v477 : Ref sig .tc := ⟨.hbm, 642, rfl⟩
abbrev main_v478 : Ref sig .tc := ⟨.hbm, 643, rfl⟩
abbrev main_v479 : Ref sig .tc := ⟨.hbm, 644, rfl⟩
abbrev main_v480 : Ref sig .tc := ⟨.hbm, 645, rfl⟩
abbrev main_v481 : Ref sig .tc := ⟨.hbm, 646, rfl⟩
abbrev main_v482 : Ref sig .tc := ⟨.hbm, 647, rfl⟩
abbrev main_v483 : Ref sig .tc := ⟨.hbm, 648, rfl⟩
abbrev main_v484 : Ref sig .tc := ⟨.hbm, 649, rfl⟩
abbrev main_cst_68 : Ref sig .tc := ⟨.hbm, 650, rfl⟩
abbrev main_v485 : Ref sig .tc := ⟨.hbm, 651, rfl⟩
abbrev main_c_69 : Ref sig .tc := ⟨.hbm, 652, rfl⟩
abbrev main_v486_0 : Ref sig .tc := ⟨.hbm, 653, rfl⟩
abbrev main_v486_1 : Ref sig .tc := ⟨.hbm, 654, rfl⟩
abbrev main_v486_2 : Ref sig .tc := ⟨.hbm, 655, rfl⟩
abbrev main_v486_3 : Ref sig .tc := ⟨.hbm, 656, rfl⟩
abbrev main_v486_4 : Ref sig .tc := ⟨.hbm, 657, rfl⟩
abbrev main_v486_5 : Ref sig .tc := ⟨.hbm, 658, rfl⟩
abbrev main_v486_6 : Ref sig .tc := ⟨.hbm, 659, rfl⟩
abbrev main_v486_7 : Ref sig .tc := ⟨.hbm, 660, rfl⟩
abbrev main_v486_8 : Ref sig .tc := ⟨.hbm, 661, rfl⟩
abbrev main_while0c_c_78 : Ref sig .tc := ⟨.hbm, 662, rfl⟩
abbrev main_while0c_v495 : Ref sig .tc := ⟨.hbm, 663, rfl⟩
abbrev main_while0b_call73_c : Ref sig .tc := ⟨.hbm, 664, rfl⟩
abbrev main_while0b_call73_c_0 : Ref sig .tc := ⟨.hbm, 665, rfl⟩
abbrev main_while0b_call73_c_1 : Ref sig .tc := ⟨.hbm, 666, rfl⟩
abbrev main_while0b_call73_c_2 : Ref sig .tc := ⟨.hbm, 667, rfl⟩
abbrev main_while0b_call73_v0 : Ref sig .tc := ⟨.hbm, 668, rfl⟩
abbrev main_while0b_v495 : Ref sig .tc := ⟨.hbm, 669, rfl⟩
abbrev main_while0b_call74_c : Ref sig .tc := ⟨.hbm, 670, rfl⟩
abbrev main_while0b_call74_c_0 : Ref sig .tc := ⟨.hbm, 671, rfl⟩
abbrev main_while0b_call74_c_1 : Ref sig .tc := ⟨.hbm, 672, rfl⟩
abbrev main_while0b_call74_c_2 : Ref sig .tc := ⟨.hbm, 673, rfl⟩
abbrev main_while0b_call74_v0 : Ref sig .tc := ⟨.hbm, 674, rfl⟩
abbrev main_while0b_v496 : Ref sig .tc := ⟨.hbm, 675, rfl⟩
abbrev main_while0b_call75_c : Ref sig .tc := ⟨.hbm, 676, rfl⟩
abbrev main_while0b_call75_c_0 : Ref sig .tc := ⟨.hbm, 677, rfl⟩
abbrev main_while0b_call75_c_1 : Ref sig .tc := ⟨.hbm, 678, rfl⟩
abbrev main_while0b_call75_c_2 : Ref sig .tc := ⟨.hbm, 679, rfl⟩
abbrev main_while0b_call75_v0 : Ref sig .tc := ⟨.hbm, 680, rfl⟩
abbrev main_while0b_v497 : Ref sig .tc := ⟨.hbm, 681, rfl⟩
abbrev main_while0b_call76_c : Ref sig .tc := ⟨.hbm, 682, rfl⟩
abbrev main_while0b_call76_c_0 : Ref sig .tc := ⟨.hbm, 683, rfl⟩
abbrev main_while0b_call76_c_1 : Ref sig .tc := ⟨.hbm, 684, rfl⟩
abbrev main_while0b_call76_c_2 : Ref sig .tc := ⟨.hbm, 685, rfl⟩
abbrev main_while0b_call76_v0 : Ref sig .tc := ⟨.hbm, 686, rfl⟩
abbrev main_while0b_v498 : Ref sig .tc := ⟨.hbm, 687, rfl⟩
abbrev main_while0b_call77_c : Ref sig .tc := ⟨.hbm, 688, rfl⟩
abbrev main_while0b_call77_c_0 : Ref sig .tc := ⟨.hbm, 689, rfl⟩
abbrev main_while0b_call77_c_1 : Ref sig .tc := ⟨.hbm, 690, rfl⟩
abbrev main_while0b_call77_c_2 : Ref sig .tc := ⟨.hbm, 691, rfl⟩
abbrev main_while0b_call77_v0 : Ref sig .tc := ⟨.hbm, 692, rfl⟩
abbrev main_while0b_v499 : Ref sig .tc := ⟨.hbm, 693, rfl⟩
abbrev main_while0b_call78_c : Ref sig .tc := ⟨.hbm, 694, rfl⟩
abbrev main_while0b_call78_c_0 : Ref sig .tc := ⟨.hbm, 695, rfl⟩
abbrev main_while0b_call78_c_1 : Ref sig .tc := ⟨.hbm, 696, rfl⟩
abbrev main_while0b_call78_c_2 : Ref sig .tc := ⟨.hbm, 697, rfl⟩
abbrev main_while0b_call78_v0 : Ref sig .tc := ⟨.hbm, 698, rfl⟩
abbrev main_while0b_v500 : Ref sig .tc := ⟨.hbm, 699, rfl⟩
abbrev main_while0b_v501 : Ref sig .tc := ⟨.hbm, 700, rfl⟩
abbrev main_while0b_v502 : Ref sig .tc := ⟨.hbm, 701, rfl⟩
abbrev main_while0b_v503 : Ref sig .tc := ⟨.hbm, 702, rfl⟩
abbrev main_while0b_v504 : Ref sig .tc := ⟨.hbm, 703, rfl⟩
abbrev main_while0b_v505 : Ref sig .tc := ⟨.hbm, 704, rfl⟩
abbrev main_while0b_v506 : Ref sig .tc := ⟨.hbm, 705, rfl⟩
abbrev main_while0b_v507 : Ref sig .tc := ⟨.hbm, 706, rfl⟩
abbrev main_while0b_v508 : Ref sig .tc := ⟨.hbm, 707, rfl⟩
abbrev main_while0b_v509 : Ref sig .tc := ⟨.hbm, 708, rfl⟩
abbrev main_while0b_call79_v0 : Ref sig .tc := ⟨.hbm, 709, rfl⟩
abbrev main_while0b_call79_c : Ref sig .tc := ⟨.hbm, 710, rfl⟩
abbrev main_while0b_call79_c_0 : Ref sig .tc := ⟨.hbm, 711, rfl⟩
abbrev main_while0b_call79_c_1 : Ref sig .tc := ⟨.hbm, 712, rfl⟩
abbrev main_while0b_call79_c_2 : Ref sig .tc := ⟨.hbm, 713, rfl⟩
abbrev main_while0b_v510 : Ref sig .tc := ⟨.hbm, 714, rfl⟩
abbrev main_while0b_c_78 : Ref sig .tc := ⟨.hbm, 715, rfl⟩
abbrev main_while0b_v511 : Ref sig .tc := ⟨.hbm, 716, rfl⟩
abbrev main_v487 : Ref sig .tc := ⟨.hbm, 717, rfl⟩
abbrev main_v488 : Ref sig .tc := ⟨.hbm, 718, rfl⟩
abbrev main_v489 : Ref sig .tc := ⟨.hbm, 719, rfl⟩
abbrev main_v490 : Ref sig .tc := ⟨.hbm, 720, rfl⟩
abbrev main_v491 : Ref sig .tc := ⟨.hbm, 721, rfl⟩
abbrev main_v492 : Ref sig .tc := ⟨.hbm, 722, rfl⟩
abbrev main_v493 : Ref sig .tc := ⟨.hbm, 723, rfl⟩
abbrev main_v494 : Ref sig .tc := ⟨.hbm, 724, rfl⟩

abbrev nD : Nat := 1
abbrev τ : Topo := Topo.v7x

variable {F : FTy → Type} [FloatOps F]

abbrev main_while0_count : Scf.Loop 32 := ⟨0#32, 32#32, 1#32⟩
-- ==== Proof.AttnHead.lean ====
/-
  The attention kernel's body, said once. The printed body spells each of its 32 heads out on its own, cut at
  different places; here one head is one function of the head's number, and the sixteen stores of a grid point are
  sixteen instances of one store.
-/
module

public import proofs.«01_k».proof.Proof.Gen.SwaIdeal.Value

@[expose] public section

set_option maxRecDepth 16384

noncomputable section

namespace Cert.SwaIdeal.Attn

open Idealize.ShloMosaic Idealize.ShloMosaic.TcCoe Idealize.SL.Sem
open Idealize.ShloMosaic.Tactic
open Idealize.ShloMosaic.Pipeline (Dat)
open Cert.SwaIdeal Cert.SwaIdeal.Gen

variable {F : FTy → Type} [FloatOps F]

/-- Where the window of keys of grid point `i` begins, as the body computes it: one block before the queries' own,
    kept inside the sequence. -/
def base (i : grid0.Coords) : Nat :=
  BitVec.toNat (Scalar.indexCast (Scalar.minsi (1664#32)
    (Scalar.maxsi (0#32) (Scalar.subi (Scalar.muli (BitVec.ofNat 32 ↑(i 1)) 128#32) 128#32))))

/-- In numbers: `128·n − 128`, at least 0 and at most 1664, for the point's block `n`. -/
theorem base_eq (i : grid0.Coords) : base i = min 1664 (128 * (i 1).val - 128) := by
  have key : ∀ n < 16, BitVec.toNat (Scalar.indexCast (Scalar.minsi (1664#32)
    (Scalar.maxsi (0#32) (Scalar.subi (Scalar.muli (BitVec.ofNat 32 n) 128#32) 128#32)))) = min 1664 (128 * n - 128) := by
    decide
  exact key _ (i 1).isLt

theorem inb_q (h : Nat) (hh : h < 32) : ∀ a, (![0, 0, 64 * h] : Fin 3 → Nat) a + (![1, 128, 64] : Fin 3 → Nat) a ≤ S1x128x2048.size a := by
  intro a; fin_cases a <;> simp [S1x128x2048]; omega

theorem inb_c (g : Nat) (hg : g < 4) : ∀ a, (![0, 0, 64 * g] : Fin 3 → Nat) a + (![1, 256, 64] : Fin 3 → Nat) a ≤ S1x256x256.size a := by
  intro a; fin_cases a <;> simp [S1x256x256]; omega

theorem inb_w (i : grid0.Coords) (g : Nat) (hg : g < 4) :
    ∀ a, (![0, base i, 64 * g] : Fin 3 → Nat) a + (![1, 384, 64] : Fin 3 → Nat) a ≤ S1x2048x256.size a := by
  have := base_eq i
  intro a; fin_cases a <;> simp [S1x2048x256] <;> omega

theorem inb_o (n : Nat) (hn : n < 16) : ∀ a, (![0, 0, 128 * n] : Fin 3 → Nat) a + (![1, 128, 128] : Fin 3 → Nat) a ≤ S1x128x2048.size a := by
  intro a; fin_cases a <;> simp [S1x128x2048]; omega

theorem inb_s (h : Nat) (hh : h < 32) : ∀ a, (![h] : Fin 1 → Nat) a + (![1] : Fin 1 → Nat) a ≤ S32.size a := by
  intro a; fin_cases a; simp [S32]; omega

/-- The 64 query columns of head `h`. -/
def qh (x1 : Vec F S1x128x2048 .f32) (h : Nat) (hh : h < 32) : FVec F S128x64 .f32 :=
  shapeCast S128x64 (View.ld x1 (Rect.unit ![0, 0, 64 * h] ![1, 128, 64] (inb_q h hh))) shapeCasts_S1x128x64_S128x64

/-- The queries of the eight heads of key group `g`, one head below the other. -/
def qMat (x1 : Vec F S1x128x2048 .f32) (g : Nat) (hg : g < 4) : FVec F S1024x64 .f32 :=
  concatenate S1024x64 0
    [⟨S128x64, qh x1 (8 * g + 0) (by omega)⟩, ⟨S128x64, qh x1 (8 * g + 1) (by omega)⟩,
     ⟨S128x64, qh x1 (8 * g + 2) (by omega)⟩, ⟨S128x64, qh x1 (8 * g + 3) (by omega)⟩,
     ⟨S128x64, qh x1 (8 * g + 4) (by omega)⟩, ⟨S128x64, qh x1 (8 * g + 5) (by omega)⟩,
     ⟨S128x64, qh x1 (8 * g + 6) (by omega)⟩, ⟨S128x64, qh x1 (8 * g + 7) (by omega)⟩]
    concatenates_S128x64_S128x64_S128x64_S128x64_S128x64_S128x64_S128x64_S128x64_S1024x64_d0

/-- The 64 columns of key group `g` of a context block (keys or values). -/
def ctxMat (x : Vec F S1x256x256 .f32) (g : Nat) (hg : g < 4) : FVec F S256x64 .f32 :=
  shapeCast S256x64 (View.ld x (Rect.unit ![0, 0, 64 * g] ![1, 256, 64] (inb_c g hg))) shapeCasts_S1x256x64_S256x64

/-- The same of the window's 384 rows of the sequence. -/
def winMat (i : grid0.Coords) (x : Vec F S1x2048x256 .f32) (g : Nat) (hg : g < 4) : FVec F S384x64 .f32 :=
  shapeCast S384x64 (View.ld x (Rect.unit ![0, base i, 64 * g] ![1, 384, 64] (inb_w i g hg))) shapeCasts_S1x384x64_S384x64

/-- Scores of a group's queries against the context keys, scaled. -/
def scC (Q : FVec F S1024x64 .f32) (k : FVec F S256x64 .f32) : FVec F S1024x256 .f32 :=
  mulf (matmul dot_S1024x64_S256x64_S1024x256_1_1_0_0_n_n none (truncf .bf16 Q bitsLt_bf16_f32) (truncf .bf16 k bitsLt_bf16_f32)
      (constant S1024x256 .f32 0x00000000#32))
    (broadcast S1024x256 (Scalar.ofBits .f32 0x3E000000#32))

/-- Scores of a group's queries against the window's keys, scaled; not yet masked. -/
def scW (Q : FVec F S1024x64 .f32) (k : FVec F S384x64 .f32) : FVec F S1024x384 .f32 :=
  mulf (matmul dot_S1024x64_S384x64_S1024x384_1_1_0_0_n_n none (truncf .bf16 Q bitsLt_bf16_f32) (truncf .bf16 k bitsLt_bf16_f32)
      (constant S1024x384 .f32 0x00000000#32))
    (broadcast S1024x384 (Scalar.ofBits .f32 0x3E000000#32))

/-- Rows `128·j …` of the context scores exist. -/
theorem slC (j : Nat) (hj : j < 8) : S1024x256.Slices ![128 * j, 0] S128x256 := by
  have key : ∀ n < 8, S1024x256.Slices ![128 * n, 0] S128x256 := by decide
  exact key j hj
theorem slW (j : Nat) (hj : j < 8) : S1024x384.Slices ![128 * j, 0] S128x384 := by
  have key : ∀ n < 8, S1024x384.Slices ![128 * n, 0] S128x384 := by decide
  exact key j hj

/-- The running maximum of a row: the context scores, the sink, the masked window scores. -/
def mx (lc : FVec F S128x256 .f32) (lw : FVec F S128x384 .f32) (sk : Elt F .f32) : FVec F S128x1 .f32 :=
  maximumf (maximumf (shapeCast S128x1 (multiReduction .maximumf [1] S128 lc 0xFF800000#32 reduces_S128x256_S128 (.inl rfl) rfl)
      shapeCasts_S128_S128x1) (broadcast S128x1 sk))
    (shapeCast S128x1 (multiReduction .maximumf [1] S128 lw 0xFF800000#32 reduces_S128x384_S128 (.inl rfl) rfl) shapeCasts_S128_S128x1)

/-- The unnormalised weights. -/
def pC (lc : FVec F S128x256 .f32) (m : FVec F S128x1 .f32) : FVec F S128x256 .f32 :=
  exp (subf lc (broadcastTo S128x256 m broadcasts_S128x1_S128x256))
def pW (lw : FVec F S128x384 .f32) (m : FVec F S128x1 .f32) : FVec F S128x384 .f32 :=
  exp (subf lw (broadcastTo S128x384 m broadcasts_S128x1_S128x384))

/-- The sum of a row's weights, the sink's among them. -/
def den (pc : FVec F S128x256 .f32) (pw : FVec F S128x384 .f32) (m : FVec F S128x1 .f32) (sk : Elt F .f32) : FVec F S128x1 .f32 :=
  addf (addf (shapeCast S128x1 (multiReduction .add [1] S128 pc 0x00000000#32 reduces_S128x256_S128 (.inl rfl) rfl) shapeCasts_S128_S128x1)
      (exp (subf (broadcast S128x1 sk) m)))
    (shapeCast S128x1 (multiReduction .add [1] S128 pw 0x00000000#32 reduces_S128x384_S128 (.inl rfl) rfl) shapeCasts_S128_S128x1)

/-- The weighted values over the sum of the weights. -/
def mix (pc : FVec F S128x256 .f32) (pw : FVec F S128x384 .f32) (dn : FVec F S128x1 .f32) (vc : FVec F S256x64 .f32)
    (vw : FVec F S384x64 .f32) : FVec F S128x64 .f32 :=
  divf (addf (matmul dot_S128x256_S256x64_S128x64_1_0_0_1_n_n none (truncf .bf16 pc bitsLt_bf16_f32) (truncf .bf16 vc bitsLt_bf16_f32)
        (constant S128x64 .f32 0x00000000#32))
      (matmul dot_S128x384_S384x64_S128x64_1_0_0_1_n_n none (truncf .bf16 pw bitsLt_bf16_f32) (truncf .bf16 vw bitsLt_bf16_f32)
        (constant S128x64 .f32 0x00000000#32)))
    (broadcastTo S128x64 dn broadcasts_S128x1_S128x64)

/-- One head from its scores. -/
def headOf (lc : FVec F S128x256 .f32) (lw : FVec F S128x384 .f32) (sk : Elt F .f32) (vc : FVec F S256x64 .f32)
    (vw : FVec F S384x64 .f32) : FVec F S128x64 .f32 :=
  mix (pC lc (mx lc lw sk)) (pW lw (mx lc lw sk)) (den (pC lc (mx lc lw sk)) (pW lw (mx lc lw sk)) (mx lc lw sk) sk) vc vw

/-- Head `8·g + j` of a grid point, from the point's blocks. -/
def head (i : grid0.Coords) (x0 : Vec F S32 .f32) (x1 : Vec F S1x128x2048 .f32) (x2 x3 : Vec F S1x2048x256 .f32)
    (x4 x5 : Vec F S1x256x256 .f32) (g j : Nat) (hg : g < 4) (hj : j < 8) : FVec F S128x64 .f32 :=
  headOf (extractStridedSlice S128x256 ![128 * j, 0] (scC (qMat x1 g hg) (ctxMat x4 g hg)) (slC j hj))
    (select (k0_pay3 i) (extractStridedSlice S128x384 ![128 * j, 0] (scW (qMat x1 g hg) (winMat i x2 g hg)) (slW j hj))
      (broadcast S128x384 (Scalar.ofBits .f32 0xFF800000#32)))
    (View.ld x0 (Rect.unit ![8 * g + j] ![1] (inb_s (8 * g + j) (by omega)))
      (Shape.Idx.first (show 0 < (⟨1, ![1]⟩ : Shape).numel by decide)))
    (ctxMat x5 g hg) (winMat i x3 g hg)

/-- Two heads side by side, as the body stores them. -/
def pair (a b : FVec F S128x64 .f32) : FVec F S1x128x128 .bf16 :=
  shapeCast S1x128x128 (truncf .bf16 (concatenate S128x128 1 [⟨S128x64, a⟩, ⟨S128x64, b⟩] concatenates_S128x64_S128x64_S128x128_d1) bitsLt_bf16_f32)
    shapeCasts_S128x128_S1x128x128

/-- The store of heads `8·g + 2·p` and the next. -/
def piece (i : grid0.Coords) (x0 : Vec F S32 .f32) (x1 : Vec F S1x128x2048 .f32) (x2 x3 : Vec F S1x2048x256 .f32)
    (x4 x5 : Vec F S1x256x256 .f32) (g p : Nat) (hg : g < 4) (hp : p < 4) : View.Piece (Elt F) S1x128x2048 .bf16 :=
  ⟨Rect.unit ![0, 0, 128 * (4 * g + p)] ![1, 128, 128] (inb_o (4 * g + p) (by omega)),
    pair (head i x0 x1 x2 x3 x4 x5 g (2 * p) hg (by omega)) (head i x0 x1 x2 x3 x4 x5 g (2 * p + 1) hg (by omega))⟩

theorem out_eq (c : Dev nD) (i : grid0.Coords) (arg2 : Memref sig .tc .smem S32 .f32) (harg2 : arg2.IsWhole) (arg3 : Memref sig .tc .vmem S1x128x2048 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x256x256 .f32) (harg6 : arg6.IsWhole) (arg7 : Memref sig .tc .vmem S1x256x256 .f32) (harg7 : arg7.IsWhole) (arg8 : Memref sig .tc .vmem S1x128x2048 .bf16) (harg8 : arg8.IsWhole)
    (x0 : Vec F S32 .f32) (x1 : Vec F S1x128x2048 .f32) (x2 : Vec F S1x2048x256 .f32) (x3 : Vec F S1x2048x256 .f32) (x4 : Vec F S1x256x256 .f32) (x5 : Vec F S1x256x256 .f32) :
    out0_A_6 c i arg2 harg2 arg3 harg3 arg4 harg4 arg5 harg5 arg6 harg6 arg7 harg7 arg8 harg8 x0 x1 x2 x3 x4 x5
      = View.canon
        [piece i x0 x1 x2 x3 x4 x5 3 3 (by decide) (by decide), piece i x0 x1 x2 x3 x4 x5 3 2 (by decide) (by decide),
         piece i x0 x1 x2 x3 x4 x5 3 1 (by decide) (by decide), piece i x0 x1 x2 x3 x4 x5 3 0 (by decide) (by decide),
         piece i x0 x1 x2 x3 x4 x5 2 3 (by decide) (by decide), piece i x0 x1 x2 x3 x4 x5 2 2 (by decide) (by decide),
         piece i x0 x1 x2 x3 x4 x5 2 1 (by decide) (by decide), piece i x0 x1 x2 x3 x4 x5 2 0 (by decide) (by decide),
         piece i x0 x1 x2 x3 x4 x5 1 3 (by decide) (by decide), piece i x0 x1 x2 x3 x4 x5 1 2 (by decide) (by decide),
         piece i x0 x1 x2 x3 x4 x5 1 1 (by decide) (by decide), piece i x0 x1 x2 x3 x4 x5 1 0 (by decide) (by decide),
         piece i x0 x1 x2 x3 x4 x5 0 3 (by decide) (by decide), piece i x0 x1 x2 x3 x4 x5 0 2 (by decide) (by decide),
         piece i x0 x1 x2 x3 x4 x5 0 1 (by decide) (by decide), piece i x0 x1 x2 x3 x4 x5 0 0 (by decide) (by decide)] := by
  unfold out0_A_6
  rw [View.read_writes_eq_canon _ _ _ (cover0_A_6 c i arg2 harg2 arg3 harg3 arg4 harg4 arg5 harg5 arg6 harg6 arg7 harg7 arg8 harg8 x0 x1 x2 x3 x4 x5)]
  unfold kernelRun0_A
  dsimp only
  sl_unfold_words
  simp only [View.readAt_eq_ld, harg2.read_unread, harg3.read_unread, harg4.read_unread, harg5.read_unread, harg6.read_unread, harg7.read_unread]
  congr 1
  repeat' (apply congrArg₂ List.cons)
  all_goals rfl
end Cert.SwaIdeal.Attn
-- ==== Proof.AttnRead.lean ====
module

public import proofs.«01_k».proof.Proof.AttnHead
public import Idealize.ShloMosaic.Lib.Pointwise

@[expose] public section

set_option maxRecDepth 16384

noncomputable section

namespace Cert.SwaIdeal.Attn

open Idealize.ShloMosaic Idealize.ShloMosaic.TcCoe Idealize.SL.Sem
open Cert.SwaIdeal Cert.SwaIdeal.Gen

/-- The −∞ pattern. -/
theorem ofBits_neg_inf : Ideal.ofBits .f32 0xFF800000#32 = ⊥ := by simp [Ideal.ofBits, Ideal.ieee]

theorem mx_apply (lc : FVec Ideal S128x256 .f32) (lw : FVec Ideal S128x384 .f32) (sk : Elt Ideal .f32) (r : Fin 128) (z : Fin 1) :
    mx lc lw sk (ix2 r z) = max (max (Finset.univ.sup fun s : Fin 256 => lc (ix2 r s)) sk) (Finset.univ.sup fun s : Fin 384 => lw (ix2 r s)) := by
  unfold mx
  pointwise
  rfl

theorem pC_apply (lc : FVec Ideal S128x256 .f32) (m : FVec Ideal S128x1 .f32) (r : Fin 128) (s : Fin 256) :
    pC lc m (ix2 r s) = Ideal.exp (lc (ix2 r s) - m (ix2 r 0)) := by
  unfold pC
  pointwise
theorem pW_apply (lc : FVec Ideal S128x384 .f32) (m : FVec Ideal S128x1 .f32) (r : Fin 128) (s : Fin 384) :
    pW lc m (ix2 r s) = Ideal.exp (lc (ix2 r s) - m (ix2 r 0)) := by
  unfold pW
  pointwise
theorem den_apply (pc : FVec Ideal S128x256 .f32) (pw : FVec Ideal S128x384 .f32) (m : FVec Ideal S128x1 .f32) (sk : Elt Ideal .f32) (r : Fin 128) (z : Fin 1) :
    den pc pw m sk (ix2 r z) = (∑ s : Fin 256, pc (ix2 r s)) + Ideal.exp (sk - m (ix2 r z)) + ∑ s : Fin 384, pw (ix2 r s) := by
  unfold den
  pointwise
theorem mix_apply (pc : FVec Ideal S128x256 .f32) (pw : FVec Ideal S128x384 .f32) (dn : FVec Ideal S128x1 .f32) (vc : FVec Ideal S256x64 .f32)
    (vw : FVec Ideal S384x64 .f32) (r : Fin 128) (d : Fin 64) :
    mix pc pw dn vc vw (ix2 r d) = Ideal.div ((∑ s : Fin 256, pc (ix2 r s) * vc (ix2 s d)) + ∑ s : Fin 384, pw (ix2 r s) * vw (ix2 s d)) (dn (ix2 r 0)) := by
  unfold mix
  pointwise
theorem scC_apply (Q : FVec Ideal S1024x64 .f32) (k : FVec Ideal S256x64 .f32) (r : Fin 1024) (s : Fin 256) :
    scC Q k (ix2 r s) = (∑ d : Fin 64, Q (ix2 r d) * k (ix2 s d)) * Ideal.ofBits .f32 0x3E000000#32 := by
  unfold scC
  pointwise
theorem scW_apply (Q : FVec Ideal S1024x64 .f32) (k : FVec Ideal S384x64 .f32) (r : Fin 1024) (s : Fin 384) :
    scW Q k (ix2 r s) = (∑ d : Fin 64, Q (ix2 r d) * k (ix2 s d)) * Ideal.ofBits .f32 0x3E000000#32 := by
  unfold scW
  pointwise
theorem pair_lt (a b : FVec Ideal S128x64 .f32) (r : Fin 128) (z : Fin 1) (d : Fin 128) :
    pair a b (ix3 z r d) = if h : d.val < 64 then a (ix2 r ⟨d.val, h⟩) else b (ix2 r ⟨d.val - 64, by omega⟩) := by
  unfold pair
  pointwise

/-! ## The blocks, read at an index -/

/-- One leading slice of a block, its unit axis dropped, read at an index: the block where the slice's offsets say. -/
theorem cut_apply {n0 n1 n2 a b : Nat} (x : (⟨3, ![n0, n1, n2]⟩ : Shape).Idx → EReal) (off : Fin 3 → Nat)
    (inb : ∀ k, off k + (![1, a, b] : Fin 3 → Nat) k ≤ (⟨3, ![n0, n1, n2]⟩ : Shape).size k)
    (h : (⟨3, ![1, a, b]⟩ : Shape).ShapeCasts ⟨2, ![a, b]⟩) (r : Fin a) (d : Fin b) (k : (⟨3, ![n0, n1, n2]⟩ : Shape).Idx)
    (h0 : (k 0).val = off 0) (h1 : (k 1).val = off 1 + r.val) (h2 : (k 2).val = off 2 + d.val) :
    shapeCast ⟨2, ![a, b]⟩ (View.ld (Val := Elt Ideal) (e' := .f32) x (Rect.unit (s := ⟨3, ![n0, n1, n2]⟩) off ![1, a, b] inb)) h (ix2 r d) = x k := by
  rw [View.ld_unit]
  refine (shapeCast_dropUnit_apply ![a, b] _ h (ix2 r d)).trans (congrArg x (funext fun q => Fin.ext ?_))
  match q with
  | ⟨0, _⟩ => exact h0.symm
  | ⟨1, _⟩ => exact h1.symm
  | ⟨2, _⟩ => exact h2.symm

theorem qh_apply (x1 : Vec Ideal S1x128x2048 .f32) (h : Nat) (hh : h < 32) (r : Fin 128) (d : Fin 64) :
    qh x1 h hh (ix2 r d) = x1 (ix3 0 r ⟨64 * h + d.val, by omega⟩) :=
  cut_apply x1 _ (inb_q h hh) _ r d _ rfl (by simp) rfl

theorem ctxMat_apply (x : Vec Ideal S1x256x256 .f32) (g : Nat) (hg : g < 4) (s : Fin 256) (d : Fin 64) :
    ctxMat x g hg (ix2 s d) = x (ix3 0 s ⟨64 * g + d.val, by omega⟩) :=
  cut_apply x _ (inb_c g hg) _ s d _ rfl (by simp) rfl

theorem base_le (i : grid0.Coords) : base i ≤ 1664 := by rw [base_eq]; omega

theorem winMat_apply (i : grid0.Coords) (x : Vec Ideal S1x2048x256 .f32) (g : Nat) (hg : g < 4) (s : Fin 384) (d : Fin 64) :
    winMat i x g hg (ix2 s d) = x (ix3 0 ⟨base i + s.val, by have := base_le i; omega⟩ ⟨64 * g + d.val, by omega⟩) :=
  cut_apply x _ (inb_w i g hg) _ s d _ rfl rfl rfl

theorem qMat_apply (x1 : Vec Ideal S1x128x2048 .f32) (g : Nat) (hg : g < 4) (j : Nat) (hj : j < 8) (r : Fin 128) (d : Fin 64) :
    qMat x1 g hg (ix2 ⟨128 * j + r.val, by omega⟩ d) = x1 (ix3 0 r ⟨64 * (8 * g + j) + d.val, by omega⟩) := by
  unfold qMat
  have hj' : j = 0 ∨ j = 1 ∨ j = 2 ∨ j = 3 ∨ j = 4 ∨ j = 5 ∨ j = 6 ∨ j = 7 := by omega
  rcases hj' with rfl | rfl | rfl | rfl | rfl | rfl | rfl | rfl
  all_goals
    rw [← qh_apply x1 _ (by omega) r d]
    pointwise
    repeat rw [dif_neg (by omega)]
    try rw [dif_pos (by omega)]
    try exact congrArg (fun q => qh x1 _ _ (ix2 q d)) (Fin.ext (by show _ = r.val; dsimp only; omega))

/-! ## One head at an index -/

/-- A query's score against a key, scaled. -/
def score (q k : Fin 64 → EReal) : EReal := (∑ d : Fin 64, q d * k d) * Ideal.ofBits .f32 0x3E000000#32

/-- A row of attention whose softmax ranges over a sink, the keys `ι` and the keys `κ`: the values weighted by the
    exponentials, over the sum of the exponentials. -/
def row {ι κ : Type} [Fintype ι] [Fintype κ] (lc : ι → EReal) (lw : κ → EReal) (sk : EReal) (vc : ι → EReal) (vw : κ → EReal) : EReal :=
  let m := max (max (Finset.univ.sup lc) sk) (Finset.univ.sup lw)
  Ideal.div ((∑ s, Ideal.exp (lc s - m) * vc s) + ∑ s, Ideal.exp (lw s - m) * vw s)
    ((∑ s, Ideal.exp (lc s - m)) + Ideal.exp (sk - m) + ∑ s, Ideal.exp (lw s - m))

theorem headOf_apply (lc : FVec Ideal S128x256 .f32) (lw : FVec Ideal S128x384 .f32) (sk : Elt Ideal .f32) (vc : FVec Ideal S256x64 .f32)
    (vw : FVec Ideal S384x64 .f32) (r : Fin 128) (d : Fin 64) :
    headOf lc lw sk vc vw (ix2 r d)
      = row (fun s : Fin 256 => lc (ix2 r s)) (fun s : Fin 384 => lw (ix2 r s)) sk (fun s => vc (ix2 s d)) (fun s => vw (ix2 s d)) := by
  unfold headOf row
  simp only [mix_apply, den_apply, pC_apply, pW_apply, mx_apply]

/-- Two positions of the sequence are at most 128 apart as words when they are as numbers. -/
theorem near_words (a b : Nat) (ha : a < 2048) (hb : b < 2048) :
    IntOp.cmpi .sle (IntOp.absi (IntOp.subi (BitVec.ofNat 32 a) (BitVec.ofNat 32 b))) 128#32 = 1#1 ↔ a ≤ b + 128 ∧ b ≤ a + 128 := by
  have up : ∀ d < 2048, (IntOp.cmpi .sle (IntOp.absi (BitVec.ofNat 32 d)) 128#32 = 1#1 ↔ d ≤ 128) := by decide +kernel
  have dn : ∀ d < 2048, (IntOp.cmpi .sle (IntOp.absi (- BitVec.ofNat 32 d)) 128#32 = 1#1 ↔ d ≤ 128) := by decide +kernel
  rcases Nat.le_total b a with h | h
  · have e : IntOp.subi (BitVec.ofNat 32 a) (BitVec.ofNat 32 b) = BitVec.ofNat 32 (a - b) := by
      show BitVec.ofNat 32 a - BitVec.ofNat 32 b = _
      apply BitVec.eq_of_toNat_eq; simp only [BitVec.toNat_sub, BitVec.toNat_ofNat]; omega
    rw [e, up _ (by omega)]; omega
  · have e : IntOp.subi (BitVec.ofNat 32 a) (BitVec.ofNat 32 b) = - BitVec.ofNat 32 (b - a) := by
      show BitVec.ofNat 32 a - BitVec.ofNat 32 b = _
      apply BitVec.eq_of_toNat_eq; simp only [BitVec.toNat_sub, BitVec.toNat_neg, BitVec.toNat_ofNat]; omega
    rw [e, dn _ (by omega)]; omega

/-- The band, in numbers: query `128·n + r` reads key `base + s` when they are at most 128 apart. -/
theorem band_apply (i : grid0.Coords) (r : Fin 128) (s : Fin 384) :
    k0_pay3 i (ix2 r s) = 1#1 ↔ (128 * (i 1).val + r.val ≤ base i + s.val + 128 ∧ base i + s.val ≤ 128 * (i 1).val + r.val + 128) := by
  have hb := base_le i
  have hn : (i 1).val < 16 := (i 1).isLt
  rw [← near_words _ _ (by omega) (by omega)]
  have eb : Scalar.minsi (1664#32) (Scalar.maxsi (0#32) (Scalar.subi (Scalar.muli (BitVec.ofNat 32 (i 1).val) 128#32) 128#32))
      = BitVec.ofNat 32 (base i) := by
    have key : ∀ n < 16, Scalar.minsi (1664#32) (Scalar.maxsi (0#32) (Scalar.subi (Scalar.muli (BitVec.ofNat 32 n) 128#32) 128#32))
      = BitVec.ofNat 32 (min 1664 (128 * n - 128)) := by decide
    rw [base_eq]; exact key _ hn
  have ea : IntOp.addi (Scalar.muli (BitVec.ofNat 32 (i 1).val) 128#32) (BitVec.ofNat 32 r.val)
      = BitVec.ofNat 32 (128 * (i 1).val + r.val) := by
    show BitVec.ofNat 32 (i 1).val * 128#32 + BitVec.ofNat 32 r.val = _
    apply BitVec.eq_of_toNat_eq; simp only [BitVec.toNat_add, BitVec.toNat_mul, BitVec.toNat_ofNat]; omega
  have ec : IntOp.addi (BitVec.ofNat 32 (base i)) (BitVec.ofNat 32 s.val) = BitVec.ofNat 32 (base i + s.val) := by
    show BitVec.ofNat 32 (base i) + BitVec.ofNat 32 s.val = _
    apply BitVec.eq_of_toNat_eq; simp only [BitVec.toNat_add, BitVec.toNat_ofNat]; omega
  rw [← ea, ← ec, ← eb]
  unfold k0_pay3
  dsimp only
  pointwise

theorem head_apply (i : grid0.Coords) (x0 : Vec Ideal S32 .f32) (x1 : Vec Ideal S1x128x2048 .f32) (x2 x3 : Vec Ideal S1x2048x256 .f32)
    (x4 x5 : Vec Ideal S1x256x256 .f32) (g j : Nat) (hg : g < 4) (hj : j < 8) (r : Fin 128) (d : Fin 64) :
    head i x0 x1 x2 x3 x4 x5 g j hg hj (ix2 r d)
      = row (fun s : Fin 256 => score (fun e => x1 (ix3 0 r ⟨64 * (8 * g + j) + e.val, by omega⟩)) (fun e => x4 (ix3 0 s ⟨64 * g + e.val, by omega⟩)))
          (fun s : Fin 384 => if 128 * (i 1).val + r.val ≤ base i + s.val + 128 ∧ base i + s.val ≤ 128 * (i 1).val + r.val + 128
            then score (fun e => x1 (ix3 0 r ⟨64 * (8 * g + j) + e.val, by omega⟩))
              (fun e => x2 (ix3 0 ⟨base i + s.val, by have := base_le i; omega⟩ ⟨64 * g + e.val, by omega⟩))
            else ⊥)
          (x0 (ix1 ⟨8 * g + j, by omega⟩))
          (fun s => x5 (ix3 0 s ⟨64 * g + d.val, by omega⟩))
          (fun s => x3 (ix3 0 ⟨base i + s.val, by have := base_le i; omega⟩ ⟨64 * g + d.val, by omega⟩)) := by
  unfold head
  rw [headOf_apply]
  have e0 : ∀ s : Fin 256, extractStridedSlice S128x256 ![128 * j, 0] (scC (qMat x1 g hg) (ctxMat x4 g hg)) (slC j hj) (ix2 r s)
      = scC (qMat x1 g hg) (ctxMat x4 g hg) (ix2 ⟨128 * j + r.val, by omega⟩ s) := by
    intro s; pointwise
  have e1 : ∀ s : Fin 384, extractStridedSlice S128x384 ![128 * j, 0] (scW (qMat x1 g hg) (winMat i x2 g hg)) (slW j hj) (ix2 r s)
      = scW (qMat x1 g hg) (winMat i x2 g hg) (ix2 ⟨128 * j + r.val, by omega⟩ s) := by
    intro s; pointwise
  have e2 : View.ld x0 (Rect.unit ![8 * g + j] ![1] (inb_s (8 * g + j) (by omega)))
      (Shape.Idx.first (show 0 < (⟨1, ![1]⟩ : Shape).numel by decide)) = x0 (ix1 ⟨8 * g + j, by omega⟩) := by
    pointwise
  have e3 : ∀ (a b : FVec Ideal S128x384 .f32) (s : Fin 384), select (k0_pay3 i) a b (ix2 r s) =
      if 128 * (i 1).val + r.val ≤ base i + s.val + 128 ∧ base i + s.val ≤ 128 * (i 1).val + r.val + 128 then a (ix2 r s) else b (ix2 r s) := by
    intro a b s
    by_cases h : k0_pay3 i (ix2 r s) = 1#1
    · rw [if_pos ((band_apply i r s).mp h)]; show (if k0_pay3 i (ix2 r s) = 1#1 then _ else _) = _; rw [if_pos h]
    · rw [if_neg (fun h' => h ((band_apply i r s).mpr h'))]; show (if k0_pay3 i (ix2 r s) = 1#1 then _ else _) = _; rw [if_neg h]
  have e4 : ∀ s : Fin 384, (broadcast S128x384 (Scalar.ofBits (F := Ideal) .f32 0xFF800000#32) : FVec Ideal S128x384 .f32) (ix2 r s) = ⊥ :=
    fun s => ofBits_neg_inf
  simp only [e0, e3, e1, e2, e4, scC_apply, scW_apply, qMat_apply x1 g hg j hj, ctxMat_apply, winMat_apply]
  rfl
end Cert.SwaIdeal.Attn
-- ==== Proof.AttnValue.lean ====
module

public import proofs.«01_k».proof.Proof.AttnRead
public import proofs.«01_k».proof.Proof.Gen.SwaIdeal.Value
public import Idealize.ShloMosaic.Lib.Pipeline.Value

@[expose] public section

set_option maxRecDepth 16384

noncomputable section

namespace Cert.SwaIdeal.Attn

open Idealize.ShloMosaic Idealize.ShloMosaic.TcCoe Idealize.SL.Sem
open Cert.SwaIdeal Cert.SwaIdeal.Gen

variable (m : (ℓ : Loc nD τ sig) → Buf (Elt Ideal) ℓ)

/-- Where each window's block lies at point `t`: the batch row `t / 16`, the query block `t % 16`, and the column block
    of the array that the window takes. -/
theorem idx_facts : ∀ t : Fin cfg0.N,
    (win0_1.index t 0 = t.val / 16 ∧ win0_1.index t 1 = t.val % 16 ∧ win0_1.index t 2 = 0)
    ∧ (win0_2.index t 0 = t.val / 16 ∧ win0_2.index t 1 = 0 ∧ win0_2.index t 2 = 8)
    ∧ (win0_3.index t 0 = t.val / 16 ∧ win0_3.index t 1 = 0 ∧ win0_3.index t 2 = 9)
    ∧ (win0_4.index t 0 = t.val / 16 ∧ win0_4.index t 1 = 0 ∧ win0_4.index t 2 = 0)
    ∧ (win0_5.index t 0 = t.val / 16 ∧ win0_5.index t 1 = 0 ∧ win0_5.index t 2 = 1)
    ∧ (win0_6.index t 0 = t.val / 16 ∧ win0_6.index t 1 = t.val % 16 ∧ win0_6.index t 2 = 0)
    ∧ (grid0.coords t 1).val = t.val % 16 ∧ win0_0.index t 0 = 0 := by decide +kernel

theorem lt128 (t : Fin cfg0.N) : t.val < 128 := Nat.lt_of_lt_of_eq t.isLt N_0

/-- The batch row of point `t`. -/
def bOf (t : Fin cfg0.N) : Fin 8 := ⟨t.val / 16, by have := lt128 t; omega⟩

theorem iblk2_apply (c : Dev nD) (t : Fin cfg0.N) (z : Fin 1) (s : Fin 2048) (e : Fin 256) :
    iblk m c 2 t (ix3 z s e) = m ((c : Thread nD τ).loc main_arg0) (ix3 (bOf t) s ⟨2048 + e.val, by omega⟩) := by
  obtain ⟨-, ⟨h0, h1, h2⟩, -⟩ := idx_facts t
  rw [← V_main_arg0 m c]
  refine congrArg (V m c main_arg0) (funext fun a => Fin.ext ?_)
  match a with
  | ⟨0, _⟩ => show win0_2.index t 0 * 1 + 1 * z.val = t.val / 16; omega
  | ⟨1, _⟩ => show win0_2.index t 1 * 2048 + 1 * s.val = s.val; omega
  | ⟨2, _⟩ => show win0_2.index t 2 * 256 + 1 * e.val = 2048 + e.val; omega

theorem X0_1_apply (c : Dev nD) (t : Fin cfg0.N) (z : Fin 1) (r : Fin 128) (e : Fin 2048) :
    X0_1 m c t (ix3 z r e) = m ((c : Thread nD τ).loc main_arg0)
      (ix3 (bOf t) ⟨128 * (t.val % 16) + r.val, by omega⟩ ⟨e.val, by omega⟩) := by
  obtain ⟨⟨h0, h1, h2⟩, -⟩ := idx_facts t
  rw [← V_main_arg0 m c]
  unfold X0_1 Pipeline.Window.fill
  rw [dif_pos (moved0_1 t _)]
  refine congrArg (V m c main_arg0) (funext fun a => Fin.ext ?_)
  match a with
  | ⟨0, _⟩ => show win0_1.index t 0 * 1 + 1 * z.val = t.val / 16; omega
  | ⟨1, _⟩ => show win0_1.index t 1 * 128 + 1 * r.val = 128 * (t.val % 16) + r.val; omega
  | ⟨2, _⟩ => show win0_1.index t 2 * 2048 + 1 * e.val = e.val; omega

theorem iblk3_apply (c : Dev nD) (t : Fin cfg0.N) (z : Fin 1) (s : Fin 2048) (e : Fin 256) :
    iblk m c 3 t (ix3 z s e) = m ((c : Thread nD τ).loc main_arg0) (ix3 (bOf t) s ⟨2304 + e.val, by omega⟩) := by
  obtain ⟨-, -, ⟨h0, h1, h2⟩, -⟩ := idx_facts t
  rw [← V_main_arg0 m c]
  refine congrArg (V m c main_arg0) (funext fun a => Fin.ext ?_)
  match a with
  | ⟨0, _⟩ => show win0_3.index t 0 * 1 + 1 * z.val = t.val / 16; omega
  | ⟨1, _⟩ => show win0_3.index t 1 * 2048 + 1 * s.val = s.val; omega
  | ⟨2, _⟩ => show win0_3.index t 2 * 256 + 1 * e.val = 2304 + e.val; omega

theorem iblk4_apply (c : Dev nD) (t : Fin cfg0.N) (z : Fin 1) (s : Fin 256) (e : Fin 256) :
    iblk m c 4 t (ix3 z s e) = m ((c : Thread nD τ).loc main_arg1) (ix3 (bOf t) s ⟨e.val, by omega⟩) := by
  obtain ⟨-, -, -, ⟨h0, h1, h2⟩, -⟩ := idx_facts t
  rw [← V_main_arg1 m c]
  refine congrArg (V m c main_arg1) (funext fun a => Fin.ext ?_)
  match a with
  | ⟨0, _⟩ => show win0_4.index t 0 * 1 + 1 * z.val = t.val / 16; omega
  | ⟨1, _⟩ => show win0_4.index t 1 * 256 + 1 * s.val = s.val; omega
  | ⟨2, _⟩ => show win0_4.index t 2 * 256 + 1 * e.val = e.val; omega

theorem iblk5_apply (c : Dev nD) (t : Fin cfg0.N) (z : Fin 1) (s : Fin 256) (e : Fin 256) :
    iblk m c 5 t (ix3 z s e) = m ((c : Thread nD τ).loc main_arg1) (ix3 (bOf t) s ⟨256 + e.val, by omega⟩) := by
  obtain ⟨-, -, -, -, ⟨h0, h1, h2⟩, -⟩ := idx_facts t
  rw [← V_main_arg1 m c]
  refine congrArg (V m c main_arg1) (funext fun a => Fin.ext ?_)
  match a with
  | ⟨0, _⟩ => show win0_5.index t 0 * 1 + 1 * z.val = t.val / 16; omega
  | ⟨1, _⟩ => show win0_5.index t 1 * 256 + 1 * s.val = s.val; omega
  | ⟨2, _⟩ => show win0_5.index t 2 * 256 + 1 * e.val = 256 + e.val; omega

theorem iblk0_apply (c : Dev nD) (t : Fin cfg0.N) (h : Fin 32) :
    iblk m c 0 t (ix1 h) = m ((c : Thread nD τ).loc main_arg2) (ix1 h) := by
  obtain ⟨-, -, -, -, -, -, -, h0⟩ := idx_facts t
  rw [← V_main_arg2 m c]
  refine congrArg (V m c main_arg2) (funext fun a => Fin.ext ?_)
  match a with
  | ⟨0, _⟩ => show win0_0.index t 0 * 32 + 1 * h.val = h.val; omega

/-- The attention, as a function of whole arrays: head `h` of query `l` in batch row `b`, value column `d`. The softmax
    ranges over the head's sink, the context's keys and the keys of the sequence that lie at most 128 away. -/
def attn (qkv : S8x2048x2560.Idx → EReal) (ckv : S8x256x512.Idx → EReal) (sinks : S32.Idx → EReal)
    (b : Fin 8) (l : Fin 2048) (h : Fin 32) (d : Fin 64) : EReal :=
  row (fun s : Fin 256 => score (fun e => qkv (ix3 b l ⟨64 * h.val + e.val, by omega⟩)) (fun e => ckv (ix3 b s ⟨64 * (h.val / 8) + e.val, by omega⟩)))
    (fun s : Fin 2048 => if l.val ≤ s.val + 128 ∧ s.val ≤ l.val + 128
      then score (fun e => qkv (ix3 b l ⟨64 * h.val + e.val, by omega⟩)) (fun e => qkv (ix3 b s ⟨2048 + (64 * (h.val / 8) + e.val), by omega⟩))
      else ⊥)
    (sinks (ix1 h))
    (fun s => ckv (ix3 b s ⟨256 + (64 * (h.val / 8) + d.val), by omega⟩))
    (fun s => qkv (ix3 b s ⟨2304 + (64 * (h.val / 8) + d.val), by omega⟩))

/-- The attention's whole result: column `64·h + d` of a row is value column `d` of head `h`. -/
def att (qkv : S8x2048x2560.Idx → EReal) (ckv : S8x256x512.Idx → EReal) (sinks : S32.Idx → EReal) : S8x2048x2048.Idx → EReal :=
  fun y => attn qkv ckv sinks (y 0) (y 1) ⟨(y 2).val / 64, by have : (y 2).val < 2048 := (y 2).isLt; omega⟩ ⟨(y 2).val % 64, by omega⟩

/-- Keys that carry the score `-inf` leave a row of attention as it is: a row over a window of 384 keys is the row over
    the whole sequence, when every key outside the window is masked. -/
theorem row_window (b : Nat) (hb : b + 384 ≤ 2048) (lc : Fin 256 → EReal) (sk : EReal) (vc : Fin 256 → EReal) (L W : Fin 2048 → EReal)
    (hL : ∀ s : Fin 2048, ¬ (b ≤ s.val ∧ s.val < b + 384) → L s = ⊥) :
    row lc (fun s : Fin 384 => L ⟨b + s.val, by omega⟩) sk vc (fun s : Fin 384 => W ⟨b + s.val, by omega⟩) = row lc L sk vc W := by
  have hinj : Function.Injective (fun s : Fin 384 => (⟨b + s.val, by omega⟩ : Fin 2048)) := by
    intro s s' h; have := congrArg Fin.val h; dsimp only at this; exact Fin.ext (by omega)
  have hout : ∀ s : Fin 2048, s ∉ Set.range (fun s : Fin 384 => (⟨b + s.val, by omega⟩ : Fin 2048)) → L s = ⊥ := by
    intro s hs
    refine hL s fun h => hs ⟨⟨s.val - b, by omega⟩, Fin.ext ?_⟩
    show b + (s.val - b) = s.val; omega
  have hsup : Finset.univ.sup (fun s : Fin 384 => L ⟨b + s.val, by omega⟩) = Finset.univ.sup L := by
    apply le_antisymm
    · exact Finset.sup_le fun s _ => Finset.le_sup (f := L) (Finset.mem_univ _)
    · refine Finset.sup_le fun s _ => ?_
      by_cases h : s ∈ Set.range (fun s : Fin 384 => (⟨b + s.val, by omega⟩ : Fin 2048))
      · obtain ⟨s', rfl⟩ := h
        exact Finset.le_sup (f := fun s : Fin 384 => L ⟨b + s.val, by omega⟩) (Finset.mem_univ s')
      · rw [hout s h]; exact bot_le
  have hz : ∀ M, Ideal.exp (⊥ - M) = 0 := fun M => by rw [EReal.bot_sub]; rfl
  unfold row
  simp only [hsup]
  generalize max (max (Finset.univ.sup lc) sk) (Finset.univ.sup L) = M
  have h1 : (∑ s : Fin 384, Ideal.exp (L ⟨b + s.val, by omega⟩ - M) * W ⟨b + s.val, by omega⟩) = ∑ s, Ideal.exp (L s - M) * W s :=
    Fintype.sum_of_injective _ hinj _ _ (fun s hs => by rw [hout s hs, hz, zero_mul]) (fun s => rfl)
  have h2 : (∑ s : Fin 384, Ideal.exp (L ⟨b + s.val, by omega⟩ - M)) = ∑ s, Ideal.exp (L s - M) :=
    Fintype.sum_of_injective _ hinj _ _ (fun s hs => by rw [hout s hs, hz]) (fun s => rfl)
  rw [h1, h2]

/-- A head's result at point `t`'s blocks is the attention of the arrays. -/
theorem head_att (c : Dev nD) (t : Fin cfg0.N) (g j : Nat) (hg : g < 4) (hj : j < 8) (r : Fin 128) (d : Fin 64) (l : Fin 2048) (h : Fin 32)
    (hl : l.val = 128 * (t.val % 16) + r.val) (hh : h.val = 8 * g + j) :
    head (grid0.coords t) (iblk m c 0 t) (X0_1 m c t) (iblk m c 2 t) (iblk m c 3 t) (iblk m c 4 t) (iblk m c 5 t) g j hg hj (ix2 r d)
      = attn (m ((c : Thread nD τ).loc main_arg0)) (m ((c : Thread nD τ).loc main_arg1)) (m ((c : Thread nD τ).loc main_arg2)) (bOf t) l h d := by
  have hb := base_le (grid0.coords t)
  have hbe := base_eq (grid0.coords t)
  have hi : (grid0.coords t 1).val = t.val % 16 := (idx_facts t).2.2.2.2.2.2.1
  have hgh : (8 * g + j) / 8 = g := by omega
  have lt : 8 * g + j < 32 := by omega
  obtain rfl : h = ⟨8 * g + j, lt⟩ := Fin.ext hh
  rw [head_apply]
  unfold attn
  rw [← row_window (base (grid0.coords t)) (by omega)]
  · simp only [iblk2_apply, iblk3_apply, iblk4_apply, iblk5_apply, iblk0_apply, X0_1_apply, hi, hgh, ← hl, Fin.eta]
  · intro s hs
    rw [if_neg]
    rw [hi] at hbe
    omega

/-- The block of the attention that point `t` is to write. -/
def attBlk (c : Dev nD) (t : Fin cfg0.N) : S1x128x2048.Idx → EReal := fun y =>
  attn (m ((c : Thread nD τ).loc main_arg0)) (m ((c : Thread nD τ).loc main_arg1)) (m ((c : Thread nD τ).loc main_arg2)) (bOf t)
    ⟨128 * (t.val % 16) + (y 1).val, by have : (y 1).val < 128 := (y 1).isLt; omega⟩
    ⟨(y 2).val / 64, by have : (y 2).val < 2048 := (y 2).isLt; omega⟩ ⟨(y 2).val % 64, by omega⟩

/-- Where a store's own index lies in the output block. -/
theorem piece_emb (i : grid0.Coords) (x0 : Vec Ideal S32 .f32) (x1 : Vec Ideal S1x128x2048 .f32) (x2 x3 : Vec Ideal S1x2048x256 .f32)
    (x4 x5 : Vec Ideal S1x256x256 .f32) (g p : Nat) (hg : g < 4) (hp : p < 4) (z : Fin 1) (r : Fin 128) (d : Fin 128) :
    (piece i x0 x1 x2 x3 x4 x5 g p hg hp).1.emb (ix3 z r d) = (ix3 z r ⟨128 * (4 * g + p) + d.val, by omega⟩ : S1x128x2048.Idx) := by
  funext a
  apply Fin.ext
  match a with
  | ⟨0, _⟩ => show 0 + 1 * z.val = z.val; omega
  | ⟨1, _⟩ => show 0 + 1 * r.val = r.val; omega
  | ⟨2, _⟩ => show 128 * (4 * g + p) + 1 * d.val = 128 * (4 * g + p) + d.val; omega

/-- The pair of heads a store writes is its part of the attention. -/
theorem pair_att (c : Dev nD) (t : Fin cfg0.N) (g p : Nat) (hg : g < 4) (hp : p < 4) (z : Fin 1) (r : Fin 128) (d : Fin 128) :
    pair (head (grid0.coords t) (iblk m c 0 t) (X0_1 m c t) (iblk m c 2 t) (iblk m c 3 t) (iblk m c 4 t) (iblk m c 5 t) g (2 * p) hg (by omega))
        (head (grid0.coords t) (iblk m c 0 t) (X0_1 m c t) (iblk m c 2 t) (iblk m c 3 t) (iblk m c 4 t) (iblk m c 5 t) g (2 * p + 1) hg (by omega))
        (ix3 z r d)
      = attBlk m c t (ix3 z r ⟨128 * (4 * g + p) + d.val, by omega⟩) := by
  rw [pair_lt]
  show _ = attn _ _ _ (bOf t) ⟨128 * (t.val % 16) + r.val, _⟩ ⟨(128 * (4 * g + p) + d.val) / 64, _⟩ ⟨(128 * (4 * g + p) + d.val) % 64, _⟩
  split
  · rename_i h
    refine (head_att m c t g (2 * p) hg (by omega) r ⟨d.val, h⟩ _ _ rfl
      (show (128 * (4 * g + p) + d.val) / 64 = 8 * g + 2 * p by omega)).trans (congrArg _ (Fin.ext ?_))
    show d.val = (128 * (4 * g + p) + d.val) % 64
    omega
  · rename_i h
    refine (head_att m c t g (2 * p + 1) hg (by omega) r ⟨d.val - 64, by omega⟩ _ _ rfl
      (show (128 * (4 * g + p) + d.val) / 64 = 8 * g + (2 * p + 1) by omega)).trans (congrArg _ (Fin.ext ?_))
    show d.val - 64 = (128 * (4 * g + p) + d.val) % 64
    omega

/-- Each of the sixteen stores writes its part of that block. -/
theorem piece_att (c : Dev nD) (t : Fin cfg0.N) (g p : Nat) (hg : g < 4) (hp : p < 4)
    (x : (piece (grid0.coords t) (iblk m c 0 t) (X0_1 m c t) (iblk m c 2 t) (iblk m c 3 t) (iblk m c 4 t) (iblk m c 5 t) g p hg hp).1.shape.Idx) :
    (piece (grid0.coords t) (iblk m c 0 t) (X0_1 m c t) (iblk m c 2 t) (iblk m c 3 t) (iblk m c 4 t) (iblk m c 5 t) g p hg hp).2 x
      = attBlk m c t ((piece (grid0.coords t) (iblk m c 0 t) (X0_1 m c t) (iblk m c 2 t) (iblk m c 3 t) (iblk m c 4 t) (iblk m c 5 t) g p hg hp).1.emb x) := by
  obtain ⟨z, r, d, rfl⟩ : ∃ (z : Fin 1) (r : Fin 128) (d : Fin 128), x = ix3 z r d := ⟨x 0, x 1, x 2, eq_ix3 x⟩
  rw [piece_emb]
  exact pair_att m c t g p hg hp z r d

/-- An index of the output block lies in the store of its column pair. -/
theorem mem_piece (i : grid0.Coords) (x0 : Vec Ideal S32 .f32) (x1 : Vec Ideal S1x128x2048 .f32) (x2 x3 : Vec Ideal S1x2048x256 .f32)
    (x4 x5 : Vec Ideal S1x256x256 .f32) (g p : Nat) (hg : g < 4) (hp : p < 4) (y : S1x128x2048.Idx) (hy : (y 2).val / 128 = 4 * g + p) :
    y ∈ (piece i x0 x1 x2 x3 x4 x5 g p hg hp).1.set := by
  have key : y ∈ (Rect.unit (s := S1x128x2048) ![0, 0, 128 * (4 * g + p)] ![1, 128, 128] (inb_o (4 * g + p) (by omega))).set ↔ _ := Rect.mem_set_unit
  refine key.mpr ?_
  intro a
  match a with
  | ⟨0, _⟩ => exact ⟨Nat.zero_le _, by have : (y 0).val < 1 := (y 0).isLt; show (y 0).val < 0 + 1; omega⟩
  | ⟨1, _⟩ => exact ⟨Nat.zero_le _, by have : (y 1).val < 128 := (y 1).isLt; show (y 1).val < 0 + 128; omega⟩
  | ⟨2, _⟩ => exact ⟨by show 128 * (4 * g + p) ≤ (y 2).val; omega, by show (y 2).val < 128 * (4 * g + p) + 128; omega⟩

/-- What point `t` leaves in the output's staging buffer. -/
theorem out_att (c : Dev nD) (t : Fin cfg0.N) :
    out0_A_6 c (grid0.coords t) (ms0_0 t) (hs0_0 t) (ms0_1 t) (hs0_1 t) (ms0_2 t) (hs0_2 t) (ms0_3 t) (hs0_3 t) (ms0_4 t) (hs0_4 t)
      (ms0_5 t) (hs0_5 t) (ms0_6 t) (hs0_6 t) (iblk m c 0 t) (X0_1 m c t) (iblk m c 2 t) (iblk m c 3 t) (iblk m c 4 t) (iblk m c 5 t)
      = attBlk m c t := by
  rw [out_eq]
  funext y
  refine View.canon_apply_of_pieces (Val := Elt Ideal) (e := .bf16) (attBlk m c t) _ ?_ y ?_
  · iterate 16 refine List.forall_mem_cons.mpr ⟨fun x => piece_att m c t _ _ _ _ x, ?_⟩
    exact fun p hp => absurd hp (List.not_mem_nil)
  · have h2 : (y 2).val < 2048 := (y 2).isLt
    have key : ∀ q < 16, (y 2).val / 128 = q → _ := fun q hq hy => hy
    obtain ⟨g, hg, p, hp, hgp⟩ : ∃ g, ∃ _ : g < 4, ∃ p, ∃ _ : p < 4, (y 2).val / 128 = 4 * g + p :=
      ⟨(y 2).val / 128 / 4, by omega, (y 2).val / 128 % 4, by omega, by omega⟩
    refine ⟨piece (grid0.coords t) (iblk m c 0 t) (X0_1 m c t) (iblk m c 2 t) (iblk m c 3 t) (iblk m c 4 t) (iblk m c 5 t) g p hg hp, ?_,
      mem_piece _ _ _ _ _ _ _ g p hg hp y hgp⟩
    match g, hg, p, hp with
    | 0, _, 0, _ | 0, _, 1, _ | 0, _, 2, _ | 0, _, 3, _ | 1, _, 0, _ | 1, _, 1, _ | 1, _, 2, _ | 1, _, 3, _
    | 2, _, 0, _ | 2, _, 1, _ | 2, _, 2, _ | 2, _, 3, _ | 3, _, 0, _ | 3, _, 1, _ | 3, _, 2, _ | 3, _, 3, _ =>
      simp only [List.mem_cons, true_or, or_true]

/-- What point `t` writes back is its block of the attention. -/
theorem flushed_att (c : Dev nD) (t : Fin cfg0.N) : (dats m 0 c).flushed 6 t
    = ((cfg0.win 6).blk t).view.read (Elt Ideal)
        (att (m ((c : Thread nD τ).loc main_arg0)) (m ((c : Thread nD τ).loc main_arg1)) (m ((c : Thread nD τ).loc main_arg2))) := by
  rw [Value.flushed6_A, out_att]
  obtain ⟨-, -, -, -, -, ⟨h0, h1, h2⟩, -⟩ := idx_facts t
  funext y
  obtain ⟨z, r, e, rfl⟩ : ∃ (z : Fin 1) (r : Fin 128) (e : Fin 2048), y = ix3 z r e := ⟨y 0, y 1, y 2, eq_ix3 y⟩
  show attn _ _ _ (bOf t) _ _ _ = attn _ _ _ _ _ _ _
  congr 1
  · exact Fin.ext (by show t.val / 16 = win0_6.index t 0 * 1 + 1 * z.val; omega)
  · exact Fin.ext (by show 128 * (t.val % 16) + r.val = win0_6.index t 1 * 128 + 1 * r.val; omega)
  · exact Fin.ext (by show e.val / 64 = (win0_6.index t 2 * 2048 + 1 * e.val) / 64; rw [h2]; omega)
  · exact Fin.ext (by show e.val % 64 = (win0_6.index t 2 * 2048 + 1 * e.val) % 64; rw [h2]; omega)

/-- Every element of the result lies in the block of its batch row and query block. -/
theorem cover_att (y : S8x2048x2048.Idx) : ∃ t : Fin cfg0.N, (cfg0.win 6).flush t = true ∧ y ∈ ((cfg0.win 6).blk t).view.set := by
  have y0 : (y 0).val < 8 := (y 0).isLt
  have y1 : (y 1).val < 2048 := (y 1).isLt
  have y2 : (y 2).val < 2048 := (y 2).isLt
  have ht : 16 * (y 0).val + (y 1).val / 128 < cfg0.N := by rw [show cfg0.N = 128 from N_0]; omega
  refine ⟨⟨_, ht⟩, flush0_6 _, ?_⟩
  obtain ⟨-, -, -, -, -, ⟨h0, h1, h2⟩, -⟩ := idx_facts ⟨_, ht⟩
  show y ∈ ((View.whole main_v0).slice (win0_6.rect ⟨_, ht⟩)).set
  rw [View.set_slice_whole, Rect.mem_set_unit]
  dsimp only at h0 h1 h2
  intro a
  match a with
  | ⟨0, _⟩ => show win0_6.index _ 0 * 1 ≤ (y 0).val ∧ (y 0).val < win0_6.index _ 0 * 1 + 1; rw [h0]; omega
  | ⟨1, _⟩ => show win0_6.index _ 1 * 128 ≤ (y 1).val ∧ (y 1).val < win0_6.index _ 1 * 128 + 128; rw [h1]; omega
  | ⟨2, _⟩ => show win0_6.index _ 2 * 2048 ≤ (y 2).val ∧ (y 2).val < win0_6.index _ 2 * 2048 + 2048; rw [h2]; omega

/-- The attention program's run: its result is the attention of its arguments, which it leaves as they were. -/
theorem run_att (ρ : Dev nD → PrngReg) : θ_run defs (onTc (τ := τ) (main (F := Ideal))) ⟨m, fun _ => 0, ρ⟩ fun r => ∀ c : Dev nD,
      r.2.mem ((c : Thread nD τ).loc main_v0)
        = att (m ((c : Thread nD τ).loc main_arg0)) (m ((c : Thread nD τ).loc main_arg1)) (m ((c : Thread nD τ).loc main_arg2))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans ((dats m 0 c).arrAt_eq_of_cover 6 _ (fun t _ => flushed_att m c t) cover_att),
    (h c).2⟩) (Value.run_blocks m ρ)

end Cert.SwaIdeal.Attn
-- ==== Proof.AttnRef.lean ====
module

public import proofs.«01_k».proof.Proof.AttnRead
public import proofs.«01_k».proof.Proof.Gen.SwaRefIdeal.Read
public import Idealize.ShloMosaic.Lib.Pointwise

@[expose] public section

set_option maxRecDepth 16384

noncomputable section

namespace Cert.SwaRefIdeal.Attn

open Idealize.ShloMosaic Idealize.ShloMosaic.TcCoe Idealize.SL.Sem
open Cert.SwaRefIdeal Cert.SwaRefIdeal.Gen Cert.SwaRefIdeal.Read
open Cert.SwaIdeal.Attn (score row near_words)

variable (qkv : (⟨S8x2048x2560, .f32⟩ : BufTy).Contents (Elt Ideal)) (ckv : (⟨S8x256x512, .f32⟩ : BufTy).Contents (Elt Ideal))
  (sinks : (⟨S32, .f32⟩ : BufTy).Contents (Elt Ideal))

theorem q_apply (b : Fin 8) (l : Fin 2048) (g : Fin 4) (j : Fin 8) (e : Fin 64) :
    val_main_v1 (F := Ideal) qkv (ix5 b l g j e) = qkv (ix3 b l ⟨64 * (8 * g.val + j.val) + e.val, by omega⟩) := by
  rw [val_main_v1_apply, val_main_v0_apply]
  refine congrArg qkv (funext fun a => Fin.ext ?_)
  match a with
  | ⟨0, _⟩ => simp; omega
  | ⟨1, _⟩ => simp; omega
  | ⟨2, _⟩ => simp; omega

theorem wk_apply (b : Fin 8) (s : Fin 2048) (g : Fin 4) (e : Fin 64) :
    val_main_v3 (F := Ideal) qkv (ix4 b s g e) = qkv (ix3 b s ⟨2048 + (64 * g.val + e.val), by omega⟩) := by
  rw [val_main_v3_apply, val_main_v2_apply]
  refine congrArg qkv (funext fun a => Fin.ext ?_)
  match a with
  | ⟨0, _⟩ => simp; omega
  | ⟨1, _⟩ => simp; omega
  | ⟨2, _⟩ => simp; omega

theorem wv_apply (b : Fin 8) (s : Fin 2048) (g : Fin 4) (e : Fin 64) :
    val_main_v5 (F := Ideal) qkv (ix4 b s g e) = qkv (ix3 b s ⟨2304 + (64 * g.val + e.val), by omega⟩) := by
  rw [val_main_v5_apply, val_main_v4_apply]
  refine congrArg qkv (funext fun a => Fin.ext ?_)
  match a with
  | ⟨0, _⟩ => simp; omega
  | ⟨1, _⟩ => simp; omega
  | ⟨2, _⟩ => simp; omega

theorem ck_apply (b : Fin 8) (s : Fin 256) (g : Fin 4) (e : Fin 64) :
    val_main_v7 (F := Ideal) ckv (ix4 b s g e) = ckv (ix3 b s ⟨64 * g.val + e.val, by omega⟩) := by
  rw [val_main_v7_apply, val_main_v6_apply]
  refine congrArg ckv (funext fun a => Fin.ext ?_)
  match a with
  | ⟨0, _⟩ => simp; omega
  | ⟨1, _⟩ => simp; omega
  | ⟨2, _⟩ => simp; omega

theorem cv_apply (b : Fin 8) (s : Fin 256) (g : Fin 4) (e : Fin 64) :
    val_main_v9 (F := Ideal) ckv (ix4 b s g e) = ckv (ix3 b s ⟨256 + (64 * g.val + e.val), by omega⟩) := by
  rw [val_main_v9_apply, val_main_v8_apply]
  refine congrArg ckv (funext fun a => Fin.ext ?_)
  match a with
  | ⟨0, _⟩ => simp; omega
  | ⟨1, _⟩ => simp; omega
  | ⟨2, _⟩ => simp; omega

theorem sc_apply (b : Fin 8) (g : Fin 4) (j : Fin 8) (l : Fin 2048) (s : Fin 256) :
    val_main_v23 (F := Ideal) qkv ckv (ix5 b g j l s)
      = score (fun e => qkv (ix3 b l ⟨64 * (8 * g.val + j.val) + e.val, by omega⟩)) (fun e => ckv (ix3 b s ⟨64 * g.val + e.val, by omega⟩)) := by
  rw [val_main_v23_apply, val_main_v22_apply, val_main_v21_apply, val_main_v20_apply]
  unfold score
  refine congrArg (· * _) (Finset.sum_congr rfl fun e _ => ?_)
  rw [mul_comm]
  refine congrArg₂ (· * ·) (Eq.trans ?_ (q_apply qkv b l g j e)) (Eq.trans ?_ (ck_apply ckv b s g e))
  · exact congrArg _ (funext fun a => match a with | ⟨0, _⟩ => rfl | ⟨1, _⟩ => rfl | ⟨2, _⟩ => rfl | ⟨3, _⟩ => rfl | ⟨4, _⟩ => rfl)
  · exact congrArg _ (funext fun a => match a with | ⟨0, _⟩ => rfl | ⟨1, _⟩ => rfl | ⟨2, _⟩ => rfl | ⟨3, _⟩ => rfl)

theorem near_apply (l s : Fin 2048) : val_main_v19 (F := Ideal) (ix2 l s) = 1#1 ↔ l.val ≤ s.val + 128 ∧ s.val ≤ l.val + 128 := by
  rw [val_main_v19_apply, val_main_v18_apply, val_main_v17_apply, val_main_v16_apply, val_main_v15_apply, val_main_v14_apply, val_main_v13_apply,
    val_main_v12_apply, val_main_v11_apply, val_main_v11_apply]
  exact near_words l.val s.val l.isLt s.isLt

theorem sw_apply (b : Fin 8) (g : Fin 4) (j : Fin 8) (l : Fin 2048) (s : Fin 2048) :
    val_main_v28 (F := Ideal) qkv (ix5 b g j l s)
      = if l.val ≤ s.val + 128 ∧ s.val ≤ l.val + 128 then score (fun e => qkv (ix3 b l ⟨64 * (8 * g.val + j.val) + e.val, by omega⟩))
         (fun e => qkv (ix3 b s ⟨2048 + (64 * g.val + e.val), by omega⟩)) else ⊥ := by
  have e : val_main_v27 (F := Ideal) qkv (ix5 b g j l s) = score (fun e => qkv (ix3 b l ⟨64 * (8 * g.val + j.val) + e.val, by omega⟩))
         (fun e => qkv (ix3 b s ⟨2048 + (64 * g.val + e.val), by omega⟩)) := by
    rw [val_main_v27_apply, val_main_v26_apply, val_main_v25_apply, val_main_v24_apply]
    unfold score
    refine congrArg (· * _) (Finset.sum_congr rfl fun e _ => ?_)
    rw [mul_comm]
    refine congrArg₂ (· * ·) (Eq.trans ?_ (q_apply qkv b l g j e)) (Eq.trans ?_ (wk_apply qkv b s g e))
    · exact congrArg _ (funext fun a => match a with | ⟨0, _⟩ => rfl | ⟨1, _⟩ => rfl | ⟨2, _⟩ => rfl | ⟨3, _⟩ => rfl | ⟨4, _⟩ => rfl)
    · exact congrArg _ (funext fun a => match a with | ⟨0, _⟩ => rfl | ⟨1, _⟩ => rfl | ⟨2, _⟩ => rfl | ⟨3, _⟩ => rfl)
  rw [val_main_v28_apply, e]
  have e1 : val_main_call0_v1 (F := Ideal) (ix5 b g j l s) = val_main_v19 (F := Ideal) (ix2 l s) := by
    rw [val_main_call0_v1_apply]
    exact congrArg _ (funext fun a => match a with | ⟨0, _⟩ => rfl | ⟨1, _⟩ => rfl)
  have e2 : val_main_call0_v2 (F := Ideal) (ix5 b g j l s) = (⊥ : EReal) := Cert.SwaIdeal.Attn.ofBits_neg_inf
  rw [e1, e2]
  by_cases h : val_main_v19 (F := Ideal) (ix2 l s) = 1#1
  · rw [if_pos ((near_apply l s).mp h), h]; rfl
  · rw [if_neg (fun h' => h ((near_apply l s).mpr h'))]; exact if_neg h

theorem sk_apply (b : Fin 8) (g : Fin 4) (j : Fin 8) (l : Fin 2048) (z : Fin 1) :
    val_main_v30 (F := Ideal) sinks (ix5 b g j l z) = sinks (ix1 ⟨8 * g.val + j.val, by omega⟩) := by
  rw [val_main_v30_apply, val_main_v29_apply, val_main_v10_apply]
  refine congrArg sinks (funext fun a => Fin.ext ?_)
  match a with
  | ⟨0, _⟩ => simp; omega

/-- The logits of one softmax row of the reference: the sink's, then the context's keys, then the sequence's. -/
def logit (b : Fin 8) (g : Fin 4) (j : Fin 8) (l : Fin 2048) (k : Fin 2305) : EReal :=
  if h : k.val < 1 then sinks (ix1 ⟨8 * g.val + j.val, by omega⟩)
  else if h : k.val - 1 < 256 then
    score (fun e => qkv (ix3 b l ⟨64 * (8 * g.val + j.val) + e.val, by omega⟩)) (fun e => ckv (ix3 b ⟨k.val - 1, h⟩ ⟨64 * g.val + e.val, by omega⟩))
  else if l.val ≤ (k.val - 1 - 256) + 128 ∧ (k.val - 1 - 256) ≤ l.val + 128 then
    score (fun e => qkv (ix3 b l ⟨64 * (8 * g.val + j.val) + e.val, by omega⟩))
      (fun e => qkv (ix3 b ⟨k.val - 1 - 256, by omega⟩ ⟨2048 + (64 * g.val + e.val), by omega⟩))
  else ⊥

theorem cat_apply (p : FVec Ideal S8x4x8x2048x1 .f32) (q : FVec Ideal S8x4x8x2048x256 .f32) (r : FVec Ideal S8x4x8x2048x2048 .f32)
    (b : Fin 8) (g : Fin 4) (j : Fin 8) (l : Fin 2048) (k : Fin 2305) :
    concatenate S8x4x8x2048x2305 4 [⟨S8x4x8x2048x1, p⟩, ⟨S8x4x8x2048x256, q⟩, ⟨S8x4x8x2048x2048, r⟩]
        concatenates_S8x4x8x2048x1_S8x4x8x2048x256_S8x4x8x2048x2048_S8x4x8x2048x2305_d4 (ix5 b g j l k)
      = if h : k.val < 1 then p (ix5 b g j l ⟨k.val, h⟩)
        else if h : k.val - 1 < 256 then q (ix5 b g j l ⟨k.val - 1, h⟩) else r (ix5 b g j l ⟨k.val - 1 - 256, by omega⟩) := by
  pointwise

theorem logit_apply (b : Fin 8) (g : Fin 4) (j : Fin 8) (l : Fin 2048) (k : Fin 2305) :
    val_main_v31 (F := Ideal) qkv ckv sinks (ix5 b g j l k) = logit qkv ckv sinks b g j l k := by
  unfold val_main_v31 logit
  refine (cat_apply _ _ _ b g j l k).trans ?_
  simp only [sk_apply, sc_apply, sw_apply]

theorem max_apply (p : FVec Ideal S8x4x8x2048x2305 .f32) (b : Fin 8) (g : Fin 4) (j : Fin 8) (l : Fin 2048) :
    Host.reduce FloatOps.maximumf p (val_main_cst_2 (F := Ideal)) reducesTo_S8x4x8x2048x2305_S8x4x8x2048_d4 h_S_ (ix4 b g j l)
      = Finset.univ.sup fun k : Fin 2305 => p (ix5 b g j l k) := by
  pointwise
  rw [show val_main_cst_2 (F := Ideal) (Shape.Idx.first h_S_) = (⊥ : EReal) from Cert.SwaIdeal.Attn.ofBits_neg_inf]
  rfl

/-- The exponentials of a row, the row's greatest logit taken off. -/
theorem ex_apply (b : Fin 8) (g : Fin 4) (j : Fin 8) (l : Fin 2048) (k : Fin 2305) :
    val_main_v38 (F := Ideal) qkv ckv sinks (ix5 b g j l k)
      = Ideal.exp (logit qkv ckv sinks b g j l k - Finset.univ.sup (logit qkv ckv sinks b g j l)) := by
  have hm : val_main_v36 (F := Ideal) qkv ckv sinks (ix5 b g j l k) = Finset.univ.sup (logit qkv ckv sinks b g j l) := by
    rw [val_main_v36_apply, val_main_v35_apply, val_main_v34_apply, val_main_v33_apply]
    have e : val_main_v32 (F := Ideal) qkv ckv sinks (ix4 b g j l) = Finset.univ.sup (logit qkv ckv sinks b g j l) := by
      unfold val_main_v32
      rw [max_apply]
      simp only [logit_apply]
    have hi : idx_main_v35 (idx_main_v36 (ix5 b g j l k)) = ix4 b g j l :=
      funext fun a => match a with | ⟨0, _⟩ => rfl | ⟨1, _⟩ => rfl | ⟨2, _⟩ => rfl | ⟨3, _⟩ => rfl
    rw [hi, e]
    show max (Ideal.ofBits .f32 0xFF800000#32) _ = _
    rw [Cert.SwaIdeal.Attn.ofBits_neg_inf]
    exact bot_sup_eq _
  rw [val_main_v38_apply, val_main_v37_apply, logit_apply, hm]
  rfl

/-- A row's weights: the exponentials over their sum. -/
theorem wt_apply (b : Fin 8) (g : Fin 4) (j : Fin 8) (l : Fin 2048) (k : Fin 2305) :
    val_main_v42 (F := Ideal) qkv ckv sinks (ix5 b g j l k)
      = Ideal.div (Ideal.exp (logit qkv ckv sinks b g j l k - Finset.univ.sup (logit qkv ckv sinks b g j l)))
          (∑ k' : Fin 2305, Ideal.exp (logit qkv ckv sinks b g j l k' - Finset.univ.sup (logit qkv ckv sinks b g j l))) := by
  rw [val_main_v42_apply, val_main_v41_apply, val_main_v40_apply, val_main_v39_apply, ex_apply]
  have h0 : val_main_cst_4 (F := Ideal) (Shape.Idx.first h_S_) = (0 : EReal) := by
    show Ideal.ofBits .f32 0#32 = 0
    pointwise
  rw [h0, zero_add]
  refine congrArg (Ideal.div _) (Finset.sum_congr rfl fun k' _ => ?_)
  rw [← ex_apply]
  exact congrArg _ (funext fun a => match a with | ⟨0, _⟩ => rfl | ⟨1, _⟩ => rfl | ⟨2, _⟩ => rfl | ⟨3, _⟩ => rfl | ⟨4, _⟩ => rfl)

/-- The reference's result, read at a row, a head and a value column. -/
theorem res_apply (b : Fin 8) (l : Fin 2048) (h : Fin 32) (d : Fin 64) (y : S8x2048x2048.Idx) (h0 : (y 0).val = b.val) (h1 : (y 1).val = l.val)
    (h2 : (y 2).val = 64 * h.val + d.val) (g : Fin 4) (j : Fin 8) (hg : g.val = h.val / 8) (hj : j.val = h.val % 8) :
    val_main_v51 (F := Ideal) qkv ckv sinks y
      = (∑ s : Fin 256, ckv (ix3 b s ⟨256 + (64 * g.val + d.val), by omega⟩)
            * val_main_v42 (F := Ideal) qkv ckv sinks (ix5 b g j l ⟨1 + s.val, by omega⟩))
        + ∑ s : Fin 2048, qkv (ix3 b s ⟨2304 + (64 * g.val + d.val), by omega⟩)
            * val_main_v42 (F := Ideal) qkv ckv sinks (ix5 b g j l ⟨257 + s.val, by omega⟩) := by
  rw [val_main_v51_apply, val_main_v50_apply, val_main_v49_apply]
  have hi : idx_main_v50 y = ix5 b l g j d := funext fun a => Fin.ext (by
    match a with
    | ⟨0, _⟩ => simp; omega
    | ⟨1, _⟩ => simp; omega
    | ⟨2, _⟩ => simp; omega
    | ⟨3, _⟩ => simp; omega
    | ⟨4, _⟩ => simp; omega)
  rw [hi, val_main_v45_apply, val_main_v48_apply, val_main_v44_apply, val_main_v47_apply]
  refine congrArg₂ (· + ·) (Finset.sum_congr rfl fun s _ => ?_) (Finset.sum_congr rfl fun s _ => ?_)
  · rw [val_main_v43_apply]
    refine congrArg₂ (· * ·) (Eq.trans ?_ (cv_apply ckv b s g d)) ?_
    · exact congrArg _ (funext fun a => match a with | ⟨0, _⟩ => rfl | ⟨1, _⟩ => rfl | ⟨2, _⟩ => rfl | ⟨3, _⟩ => rfl)
    · exact congrArg _ (funext fun a => match a with | ⟨0, _⟩ => rfl | ⟨1, _⟩ => rfl | ⟨2, _⟩ => rfl | ⟨3, _⟩ => rfl | ⟨4, _⟩ => rfl)
  · rw [val_main_v46_apply]
    refine congrArg₂ (· * ·) (Eq.trans ?_ (wv_apply qkv b s g d)) ?_
    · exact congrArg _ (funext fun a => match a with | ⟨0, _⟩ => rfl | ⟨1, _⟩ => rfl | ⟨2, _⟩ => rfl | ⟨3, _⟩ => rfl)
    · exact congrArg _ (funext fun a => match a with | ⟨0, _⟩ => rfl | ⟨1, _⟩ => rfl | ⟨2, _⟩ => rfl | ⟨3, _⟩ => rfl | ⟨4, _⟩ => rfl)

/-- A finite sum times a factor that is neither negative nor infinite, term by term. -/
theorem sum_scaled {ι : Type} (s : Finset ι) (f : ι → EReal) (x : EReal) (h0 : 0 ≤ x) (h1 : x ≠ ⊤) : (∑ i ∈ s, f i) * x = ∑ i ∈ s, f i * x := by
  classical
  induction s using Finset.induction_on with
  | empty => simp
  | insert a s ha ih => rw [Finset.sum_insert ha, Finset.sum_insert ha, EReal.right_distrib_of_nonneg_of_ne_top h0 h1, ih]

/-- A sum over the 2305 logits, parted into the sink, the context's keys and the sequence's. -/
theorem sum_parts (f : Fin 2305 → EReal) :
    ∑ k, f k = (∑ s : Fin 256, f ⟨1 + s.val, by omega⟩) + f ⟨0, by omega⟩ + ∑ s : Fin 2048, f ⟨257 + s.val, by omega⟩ := by
  have e : ∑ k : Fin 2305, f k = ∑ k : Fin (1 + 256 + 2048), f ⟨k.val, k.isLt⟩ := rfl
  rw [e, Fin.sum_univ_add, Fin.sum_univ_add]
  refine congrArg₂ (· + ·) ?_ rfl
  rw [add_comm]
  refine congrArg₂ (· + ·) rfl ?_
  rw [Fin.sum_univ_one]; rfl

/-- and the greatest of them. -/
theorem sup_parts (f : Fin 2305 → EReal) :
    Finset.univ.sup f = max (max (Finset.univ.sup fun s : Fin 256 => f ⟨1 + s.val, by omega⟩) (f ⟨0, by omega⟩))
      (Finset.univ.sup fun s : Fin 2048 => f ⟨257 + s.val, by omega⟩) := by
  apply le_antisymm
  · refine Finset.sup_le fun k _ => ?_
    rcases Nat.lt_or_ge k.val 1 with h | h
    · have : k = ⟨0, by omega⟩ := Fin.ext (by show k.val = 0; omega)
      rw [this]; exact le_max_of_le_left (le_max_right _ _)
    · rcases Nat.lt_or_ge k.val 257 with h' | h'
      · have : k = ⟨1 + (⟨k.val - 1, by omega⟩ : Fin 256).val, by dsimp only; omega⟩ := Fin.ext (by show k.val = 1 + (k.val - 1); omega)
        rw [this]
        exact le_max_of_le_left (le_max_of_le_left (Finset.le_sup (f := fun s : Fin 256 => f ⟨1 + s.val, by omega⟩) (Finset.mem_univ (α := Fin 256) ⟨k.val - 1, by omega⟩)))
      · have : k = ⟨257 + (⟨k.val - 257, by omega⟩ : Fin 2048).val, by dsimp only; omega⟩ := Fin.ext (by show k.val = 257 + (k.val - 257); omega)
        rw [this]
        exact le_max_of_le_right (Finset.le_sup (f := fun s : Fin 2048 => f ⟨257 + s.val, by omega⟩) (Finset.mem_univ (α := Fin 2048) ⟨k.val - 257, by omega⟩))
  · refine max_le (max_le (Finset.sup_le fun s _ => ?_) ?_) (Finset.sup_le fun s _ => ?_)
    all_goals exact Finset.le_sup (f := f) (Finset.mem_univ _)

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

theorem exp_pos {x : EReal} (h : x ≠ ⊥) : 0 < Ideal.exp x := by
  induction x with
  | bot => exact absurd rfl h
  | top => exact EReal.zero_lt_top
  | coe r => show (0 : EReal) < ((Real.exp r : ℝ) : EReal); exact_mod_cast Real.exp_pos r

theorem inv_nonneg (x : EReal) (h : 0 ≤ x) : 0 ≤ x⁻¹ := EReal.inv_nonneg_of_nonneg h

theorem inv_ne_top (x : EReal) : x⁻¹ ≠ ⊤ := by
  induction x with
  | bot => rw [EReal.inv_bot]; exact EReal.zero_ne_top
  | top => rw [EReal.inv_top]; exact EReal.zero_ne_top
  | coe r => rw [← EReal.coe_inv]; exact EReal.coe_ne_top _

/-- The weighted sum of values, each weight divided by the sum of the exponentials, is the weighted sum by the exponentials, divided once — when the
    sink's logit is a real number and no logit is `+inf`, so that the sum of the exponentials is not zero. -/
theorem row_parts (f : Fin 2305 → EReal) (vc : Fin 256 → EReal) (vw : Fin 2048 → EReal) (hb : f ⟨0, by omega⟩ ≠ ⊥) (ht : ∀ k, f k ≠ ⊤) :
    (∑ s : Fin 256, vc s * Ideal.div (Ideal.exp (f ⟨1 + s.val, by omega⟩ - Finset.univ.sup f)) (∑ k, Ideal.exp (f k - Finset.univ.sup f)))
        + ∑ s : Fin 2048, vw s * Ideal.div (Ideal.exp (f ⟨257 + s.val, by omega⟩ - Finset.univ.sup f)) (∑ k, Ideal.exp (f k - Finset.univ.sup f))
      = row (fun s : Fin 256 => f ⟨1 + s.val, by omega⟩) (fun s : Fin 2048 => f ⟨257 + s.val, by omega⟩) (f ⟨0, by omega⟩) vc vw := by
  unfold row
  dsimp only
  rw [← sup_parts]
  have hM : Finset.univ.sup f ≠ ⊤ := by
    intro h
    obtain ⟨k, -, hk⟩ := Finset.exists_mem_eq_sup Finset.univ ⟨⟨0, by omega⟩, Finset.mem_univ _⟩ f
    exact ht k (hk ▸ h)
  generalize Finset.univ.sup f = M at hM ⊢
  rw [← sum_parts (fun k => Ideal.exp (f k - M))]
  have hpos : 0 < ∑ k, Ideal.exp (f k - M) := by
    refine lt_of_lt_of_le (exp_pos (x := f ⟨0, by omega⟩ - M) ?_)
      (Finset.single_le_sum (f := fun k => Ideal.exp (f k - M)) (fun k _ => exp_nonneg _) (Finset.mem_univ _))
    intro h
    rw [sub_eq_add_neg, EReal.add_eq_bot_iff, EReal.neg_eq_bot_iff] at h
    rcases h with h | h
    · exact hb h
    · exact hM h
  generalize (∑ k, Ideal.exp (f k - M)) = D at hpos ⊢
  have hd : ∀ x, Ideal.div x D = x * D⁻¹ := fun x => by unfold Ideal.div; rw [if_neg hpos.ne']
  simp only [hd]
  rw [EReal.right_distrib_of_nonneg_of_ne_top (inv_nonneg D hpos.le) (inv_ne_top D),
    sum_scaled _ _ _ (inv_nonneg D hpos.le) (inv_ne_top D), sum_scaled _ _ _ (inv_nonneg D hpos.le) (inv_ne_top D)]
  refine congrArg₂ (· + ·) (Finset.sum_congr rfl fun s _ => ?_) (Finset.sum_congr rfl fun s _ => ?_)
  · rw [← mul_assoc, mul_comm (vc s)]
  · rw [← mul_assoc, mul_comm (vw s)]

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A score of real queries and real keys is not `+inf`. -/
theorem score_ne_top (q k : Fin 64 → EReal) (hq : ∀ e, q e ≠ ⊤ ∧ q e ≠ ⊥) (hk : ∀ e, k e ≠ ⊤ ∧ k e ≠ ⊥) : score q k ≠ ⊤ := by
  have h0 : ∃ r : ℝ, Ideal.ofBits .f32 0x3E000000#32 = (r : EReal) := ⟨_, rfl⟩
  obtain ⟨r, hr⟩ := h0
  unfold score
  rw [hr]
  have hs : (∑ d : Fin 64, q d * k d) = ((∑ d : Fin 64, (q d).toReal * (k d).toReal : ℝ) : EReal) := by
    rw [coe_sum]
    refine Finset.sum_congr rfl fun d _ => ?_
    rw [EReal.coe_mul, EReal.coe_toReal (hq d).1 (hq d).2, EReal.coe_toReal (hk d).1 (hk d).2]
  rw [hs, ← EReal.coe_mul]
  exact EReal.coe_ne_top _

end Cert.SwaRefIdeal.Attn
-- ==== Proof.Attention.lean ====
/-
  The attention: over the reals the kernel and the reference are the same function of their arguments.

  The kernel computes, for each block of 128 queries and each head, the exponentials of the scores against the context's
  256 keys and against a window of 384 keys of the sequence, in which the band of 128 keys on either side lies whole
  (AttnHead, AttnRead: the stores of one grid point; AttnValue: the whole result). The reference takes the softmax over
  all 2305 logits at once, divides every weight by the sum and only then weights the values (AttnRef). The two agree
  where the sum of the exponentials is not zero: where the scores and the sink are real numbers.
-/
module

public import proofs.«01_k».proof.Defs
public import proofs.«01_k».proof.Proof.AttnValue
public import proofs.«01_k».proof.Proof.AttnRef
public import proofs.«01_k».proof.Proof.Gen.Swa.Frame
public import proofs.«01_k».proof.Proof.Gen.Pre_finite_scores
public import Idealize.ShloMosaic.Lib.Quiescent

@[expose] public section

set_option maxRecDepth 16384

noncomputable section

namespace Cert.Attention

open Idealize.ShloMosaic Idealize.ShloMosaic.TcCoe Idealize.SL.Sem

open Cert.Pre_finite_scores (S8x2048x2560 S8x256x512 S32)
open Cert.SwaIdeal.Attn (att attn row score)
open Cert.SwaRefIdeal.Attn

/-- A number whose magnitude is below a bound is real. -/
theorem real_of_lt {x b : EReal} (h : BitVec.ofBool (decide (max x (-x) < b)) = 1#1) : x ≠ ⊤ ∧ x ≠ ⊥ := by
  have hlt : max x (-x) < b := by
    by_contra hn
    rw [decide_eq_false hn] at h
    exact absurd h (by decide)
  refine ⟨fun e => ?_, fun e => ?_⟩
  · subst e; exact absurd (lt_of_le_of_lt (le_max_left _ _) hlt) not_top_lt
  · subst e; exact absurd (lt_of_le_of_lt (le_max_right _ _) hlt) (by rw [EReal.neg_bot]; exact not_top_lt)

section Reals

variable (a : FVec Ideal S8x2048x2560 .f32) (b : FVec Ideal S8x256x512 .f32) (s : FVec Ideal S32 .f32)

theorem real_qk (h : (Cert.Pre_finite_scores.fn (F := Ideal) a b s).1 = fun _ => 1#1) (x : Fin 8) (y : Fin 2048) (z : Fin 2560) (hz : z.val < 2304) :
    a (ix3 x y z) ≠ ⊤ ∧ a (ix3 x y z) ≠ ⊥ := by
  have e : (Cert.Pre_finite_scores.fn (F := Ideal) a b s).1 (ix3 x y (⟨z.val, hz⟩ : Fin 2304))
      = BitVec.ofBool (decide (max (a (ix3 x y z)) (-(a (ix3 x y z))) < Ideal.ofBits FTy.f32 2139095040#32)) := by
    unfold Cert.Pre_finite_scores.fn
    dsimp only
    pointwise
    rfl
  exact real_of_lt (e.symm.trans (congrFun h _))

theorem real_ck (h : (Cert.Pre_finite_scores.fn (F := Ideal) a b s).2.1 = fun _ => 1#1) (x : Fin 8) (y : Fin 256) (z : Fin 512) (hz : z.val < 256) :
    b (ix3 x y z) ≠ ⊤ ∧ b (ix3 x y z) ≠ ⊥ := by
  have e : (Cert.Pre_finite_scores.fn (F := Ideal) a b s).2.1 (ix3 x y (⟨z.val, hz⟩ : Fin 256))
      = BitVec.ofBool (decide (max (b (ix3 x y z)) (-(b (ix3 x y z))) < Ideal.ofBits FTy.f32 2139095040#32)) := by
    unfold Cert.Pre_finite_scores.fn
    dsimp only
    pointwise
    rfl
  exact real_of_lt (e.symm.trans (congrFun h _))

theorem real_sink (h : (Cert.Pre_finite_scores.fn (F := Ideal) a b s).2.2 = fun _ => 1#1) (x : Fin 32) :
    s (ix1 x) ≠ ⊤ ∧ s (ix1 x) ≠ ⊥ := by
  have e : (Cert.Pre_finite_scores.fn (F := Ideal) a b s).2.2 (ix1 x)
      = BitVec.ofBool (decide (max (s (ix1 x)) (-(s (ix1 x))) < Ideal.ofBits FTy.f32 2139095040#32)) := by
    unfold Cert.Pre_finite_scores.fn
    dsimp only
    pointwise
    rfl
  exact real_of_lt (e.symm.trans (congrFun h _))

/-- The reference's result is the attention. -/
theorem ref_eq (h1 : (Cert.Pre_finite_scores.fn (F := Ideal) a b s).1 = fun _ => 1#1)
    (h2 : (Cert.Pre_finite_scores.fn (F := Ideal) a b s).2.1 = fun _ => 1#1)
    (h3 : (Cert.Pre_finite_scores.fn (F := Ideal) a b s).2.2 = fun _ => 1#1) :
    Cert.SwaRefIdeal.Read.val_main_v51 (F := Ideal) a b s = att a b s := by
  funext y
  have y0 : (y 0).val < 8 := (y 0).isLt
  have y1 : (y 1).val < 2048 := (y 1).isLt
  have y2 : (y 2).val < 2048 := (y 2).isLt
  rw [res_apply a b s ⟨(y 0).val, y0⟩ ⟨(y 1).val, y1⟩ ⟨(y 2).val / 64, by omega⟩ ⟨(y 2).val % 64, by omega⟩ y rfl rfl (by dsimp only; omega)
    ⟨(y 2).val / 64 / 8, by omega⟩ ⟨(y 2).val / 64 % 8, by omega⟩ rfl rfl]
  simp only [wt_apply]
  have hsc : ∀ (x : Fin 8) (l : Fin 2048) (n : Nat) (hn : n < 32) (t : Fin 256) (g : Nat) (hg : g < 4),
      score (fun e => a (ix3 x l ⟨64 * n + e.val, by omega⟩)) (fun e => b (ix3 x t ⟨64 * g + e.val, by omega⟩)) ≠ ⊤ := fun x l n hn t g hg =>
    score_ne_top _ _ (fun e => real_qk a b s h1 _ _ _ (by dsimp only; omega)) (fun e => real_ck a b s h2 _ _ _ (by dsimp only; omega))
  have hsw : ∀ (x : Fin 8) (l : Fin 2048) (n : Nat) (hn : n < 32) (t : Fin 2048) (g : Nat) (hg : g < 4),
      score (fun e => a (ix3 x l ⟨64 * n + e.val, by omega⟩)) (fun e => a (ix3 x t ⟨2048 + (64 * g + e.val), by omega⟩)) ≠ ⊤ := fun x l n hn t g hg =>
    score_ne_top _ _ (fun e => real_qk a b s h1 _ _ _ (by dsimp only; omega)) (fun e => real_qk a b s h1 _ _ _ (by dsimp only; omega))
  rw [row_parts (logit a b s _ _ _ _)
    (fun t : Fin 256 => b (ix3 ⟨(y 0).val, y0⟩ t ⟨256 + (64 * ((y 2).val / 64 / 8) + (y 2).val % 64), by omega⟩))
    (fun t : Fin 2048 => a (ix3 ⟨(y 0).val, y0⟩ t ⟨2304 + (64 * ((y 2).val / 64 / 8) + (y 2).val % 64), by omega⟩))]
  · unfold att attn
    have hh : 8 * ((y 2).val / 64 / 8) + (y 2).val / 64 % 8 = (y 2).val / 64 := by omega
    have l0 : logit a b s ⟨(y 0).val, y0⟩ ⟨(y 2).val / 64 / 8, by omega⟩ ⟨(y 2).val / 64 % 8, by omega⟩ ⟨(y 1).val, y1⟩ ⟨0, by omega⟩
        = s (ix1 ⟨(y 2).val / 64, by omega⟩) := by
      unfold logit
      rw [dif_pos (show (0 : Nat) < 1 by omega)]
      simp only [hh]
    have lc : ∀ t : Fin 256, logit a b s ⟨(y 0).val, y0⟩ ⟨(y 2).val / 64 / 8, by omega⟩ ⟨(y 2).val / 64 % 8, by omega⟩ ⟨(y 1).val, y1⟩ ⟨1 + t.val, by omega⟩
        = score (fun e => a (ix3 ⟨(y 0).val, y0⟩ ⟨(y 1).val, y1⟩ ⟨64 * ((y 2).val / 64) + e.val, by omega⟩))
          (fun e => b (ix3 ⟨(y 0).val, y0⟩ t ⟨64 * ((y 2).val / 64 / 8) + e.val, by omega⟩)) := by
      intro t
      have e1 : 1 + t.val - 1 = t.val := by omega
      unfold logit
      rw [dif_neg (by dsimp only; omega), dif_pos (by dsimp only; omega)]
      simp only [hh, e1]
    have lw : ∀ t : Fin 2048, logit a b s ⟨(y 0).val, y0⟩ ⟨(y 2).val / 64 / 8, by omega⟩ ⟨(y 2).val / 64 % 8, by omega⟩ ⟨(y 1).val, y1⟩ ⟨257 + t.val, by omega⟩
        = if (y 1).val ≤ t.val + 128 ∧ t.val ≤ (y 1).val + 128 then
            score (fun e => a (ix3 ⟨(y 0).val, y0⟩ ⟨(y 1).val, y1⟩ ⟨64 * ((y 2).val / 64) + e.val, by omega⟩))
              (fun e => a (ix3 ⟨(y 0).val, y0⟩ t ⟨2048 + (64 * ((y 2).val / 64 / 8) + e.val), by omega⟩)) else ⊥ := by
      intro t
      have e1 : 257 + t.val - 1 - 256 = t.val := by omega
      unfold logit
      rw [dif_neg (by dsimp only; omega), dif_neg (by dsimp only; omega)]
      simp only [hh, e1]
    simp only [l0, lc, lw]
    rfl
  · unfold logit
    rw [dif_pos (show (0 : Nat) < 1 by omega)]
    exact (real_sink a b s h3 _).2
  · intro k
    unfold logit
    split
    · exact (real_sink a b s h3 _).1
    · split
      · exact hsc _ _ _ (by omega) _ _ (by omega)
      · split
        · exact hsw _ _ _ (by omega) _ _ (by omega)
        · exact bot_ne_top

end Reals

/-- The reference's run, its argument arrays kept and every semaphore at zero. -/
theorem ref_frame : Cert.quiescent_SwaRefIdeal := fun m ρ _ =>
  (θ_run Cert.SwaRefIdeal.defs _ _).mono
    (fun r h => ⟨fun c => (h c).2, Idealize.ShloMosaic.sem_eq_zero_of_no_sems (by decide) r.2⟩)
    (Cert.SwaRefIdeal.Value.run (F := Ideal) m ρ)

/-- The attention kernel and its reference have the same result. -/
theorem algebraic : Cert.algebraic_SwaIdeal_SwaRefIdeal_pre_finite_scores := by
  intro m ρ m' ρ' hpre hagree
  refine ⟨fun c => att (m ((c.tc : Thread _ Cert.SwaIdeal.τ).loc Cert.SwaIdeal.main_arg0)) (m ((c.tc : Thread _ Cert.SwaIdeal.τ).loc Cert.SwaIdeal.main_arg1))
    (m ((c.tc : Thread _ Cert.SwaIdeal.τ).loc Cert.SwaIdeal.main_arg2)), Cert.SwaIdeal.Attn.run_att m ρ, ?_⟩
  refine (θ_run Cert.SwaRefIdeal.defs _ _).mono (fun r h c => ⟨(h c).1.trans ?_, (h c).2⟩) (Cert.SwaRefIdeal.Value.run (F := Ideal) m' ρ')
  obtain ⟨a0, a1, a2⟩ := hagree c
  rw [Cert.SwaRefIdeal.Read.val_main_v51_eq, a0, a1, a2]
  exact ref_eq _ _ _ (hpre c).1 (hpre c).2.1 (hpre c).2.2

end Cert.Attention
-- ==== Proof.Modulate.lean ====
/- The modulated root-mean-square norm of a row, and its product with a column: shared by the three projections into the layers. -/
module

public import Idealize.ShloMosaic.Lib.Pipeline.Value
public import Idealize.ShloMosaic.Lib.Pointwise

@[expose] public section

noncomputable section

namespace Cert.Modulate

open Idealize.ShloMosaic

/-- An element of a row divided by its root mean square, times the gain, times one plus the scale, plus the shift. -/
def mod (x g sh sc : Fin 2048 → EReal) (k : Fin 2048) : EReal :=
  x k * Ideal.rsqrt (Ideal.div (∑ j, x j * x j) (Ideal.ofBits FTy.f32 1157627904#32) + Ideal.ofBits FTy.f32 897988541#32) * g k * (1 + sc k) + sh k

/-- The product of the modulated row with a column. -/
def dot (x g sh sc w : Fin 2048 → EReal) : EReal := ∑ k, mod x g sh sc k * w k

/-- The modulated norm of a row of an array of eight sequences. -/
def normed (x : (⟨3, ![8, 2048, 2048]⟩ : Shape).Idx → EReal) (g : (⟨1, ![2048]⟩ : Shape).Idx → EReal) (sh sc : (⟨2, ![8, 2048]⟩ : Shape).Idx → EReal) (b : Fin 8) (l k : Fin 2048) : EReal :=
  mod (fun j => x (ix3 b l j)) (fun j => g (ix1 j)) (fun j => sh (ix2 b j)) (fun j => sc (ix2 b j)) k

end Cert.Modulate
-- ==== Proof.InEven.lean ====
/- The even layers' input projection: the modulated norm of the rows times the weight, whose columns the kernel is handed regrouped. -/
module

public import proofs.«01_k».proof.Defs
public import proofs.«01_k».proof.Proof.Modulate
public import proofs.«01_k».proof.Proof.Gen.EvenIn.Frame
public import proofs.«01_k».proof.Proof.Gen.EvenInIdeal.Value
public import proofs.«01_k».proof.Proof.Gen.EvenInRefIdeal.Read
public import Idealize.ShloMosaic.Lib.Pipeline.Value
public import Idealize.ShloMosaic.Lib.Pointwise
public import Idealize.ShloMosaic.Lib.VecWindow
public import Idealize.ShloMosaic.Lib.Quiescent

@[expose] public section

set_option maxRecDepth 16384

noncomputable section

namespace Cert.EvenInIdeal.Proj

open Idealize.ShloMosaic Idealize.ShloMosaic.TcCoe Idealize.SL.Sem
open Cert.EvenInIdeal Cert.EvenInIdeal.Gen
open Cert.Modulate (mod normed)

variable (m : (ℓ : Loc nD τ sig) → Buf (Elt Ideal) ℓ)

/-- The origin of a block of three axes. -/
theorem hz3 : (![0, 0, 0] : Fin 3 → Nat) = fun _ => 0 := funext fun a => by fin_cases a <;> rfl
/-- The origin of a block of two axes. -/
theorem hz2 : (![0, 0] : Fin 2 → Nat) = fun _ => 0 := funext fun a => by fin_cases a <;> rfl

variable (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x512x512 .f32) (harg8 : arg8.IsWhole) (arg9 : Memref sig .tc .vmem S512x2048 .bf16) (harg9 : arg9.IsWhole)
    (x0 : Vec Ideal S1x512x2048 .f32) (x1 : Vec Ideal S1x2048 .f32) (x2 : Vec Ideal S1x1x2048 .f32) (x3 : Vec Ideal S1x1x2048 .f32) (x4 : Vec Ideal S2048x512 .bf16) (xs0 : Vec Ideal S512x2048 .bf16)

/-- At the first column block, what a point leaves in the output's staging buffer is the product of the norm just computed with the weight block. -/
theorem out_A (h : cond0_0 i) : out0_A_5 c i arg3 harg3 arg4 harg4 arg5 harg5 arg6 harg6 arg7 harg7 arg8 harg8 arg9 harg9 h x0 x1 x2 x3 x4 = k0_pay2 (k0_pay1 x0 x1 x3 x2) x4 := by
  unfold out0_A_5
  rw [View.read_writes_eq_canon _ _ _ (cover0_A_5 c i arg3 harg3 arg4 harg4 arg5 harg5 arg6 harg6 arg7 harg7 arg8 harg8 arg9 harg9 h x0 x1 x2 x3 x4)]
  unfold kernelRun0_A
  dsimp only
  sl_unfold_words
  simp only [View.readAt_eq_ld, harg3.read_unread, harg4.read_unread, harg5.read_unread, harg6.read_unread, harg7.read_unread]
  rw [View.canon_unit_zero hz3, View.ld_unit_zero hz3, View.ld_unit_zero hz2, View.ld_unit_zero hz3, View.ld_unit_zero hz3, View.ld_unit_zero hz2]
  exact congrArg (fun a => k0_pay2 a x4) (View.readCov_full _ _ _ _ _)
/-- At the first column block the scratch is left holding the modulated norm of the rows. -/
theorem sout_A (h : cond0_0 i) : sout0_A_0 c i arg3 harg3 arg4 harg4 arg5 harg5 arg6 harg6 arg7 harg7 arg8 harg8 arg9 harg9 h x0 x1 x2 x3 x4 = k0_pay1 x0 x1 x3 x2 := by
  unfold sout0_A_0
  rw [View.read_writes_eq_canon _ _ _ (scover0_A_0 c i arg3 harg3 arg4 harg4 arg5 harg5 arg6 harg6 arg7 harg7 arg8 harg8 arg9 harg9 h x0 x1 x2 x3 x4)]
  unfold kernelRun0_A
  dsimp only
  sl_unfold_words
  simp only [View.readAt_eq_ld, harg3.read_unread, harg4.read_unread, harg5.read_unread, harg6.read_unread, harg7.read_unread]
  rw [View.canon_unit_zero hz2, View.ld_unit_zero hz3, View.ld_unit_zero hz2, View.ld_unit_zero hz3, View.ld_unit_zero hz3]
/-- At the other column blocks the product is with the norm kept in the scratch. -/
theorem out_B (h : ¬cond0_0 i) : out0_B_5 c i arg3 harg3 arg4 harg4 arg5 harg5 arg6 harg6 arg7 harg7 arg8 harg8 arg9 harg9 h x0 x1 x2 x3 x4 xs0 = k0_pay2 xs0 x4 := by
  unfold out0_B_5
  rw [View.read_writes_eq_canon _ _ _ (cover0_B_5 c i arg3 harg3 arg4 harg4 arg5 harg5 arg6 harg6 arg7 harg7 arg8 harg8 arg9 harg9 h x0 x1 x2 x3 x4 xs0)]
  unfold kernelRun0_B
  dsimp only
  sl_unfold_words
  simp only [View.readAt_eq_ld, harg3.read_unread, harg4.read_unread, harg5.read_unread, harg6.read_unread, harg7.read_unread, harg9.read_unread]
  rw [View.canon_unit_zero hz3, View.ld_unit_zero hz2, View.ld_unit_zero hz2]

/-- The column of the weight that a column of the result multiplies, none where the result is zero. -/
def src (n : Fin 7168) : Option (Fin 6704) :=
  if h : n.val < 6144 then some ⟨n.val, by omega⟩
  else if h : n.val < 6656 then some ⟨n.val + 48, by omega⟩
  else if h : n.val < 6668 then some ⟨n.val - 512, by omega⟩
  else if h : n.val < 6680 then some ⟨n.val - 500, by omega⟩
  else if h : n.val < 6784 then none
  else if h : n.val < 6796 then some ⟨n.val - 628, by omega⟩
  else if h : n.val < 6808 then some ⟨n.val - 616, by omega⟩
  else none

/-- Four columns of coefficients, zeros after them. -/
def pair (a b : (⟨S2048x12, .f32⟩ : BufTy).Contents (Elt Ideal)) (z : (⟨S2048x104, .f32⟩ : BufTy).Contents (Elt Ideal)) : (⟨S2048x128, .f32⟩ : BufTy).Contents (Elt Ideal) :=
  concatenate S2048x128 1 [⟨S2048x12, a⟩, ⟨S2048x12, b⟩, ⟨S2048x104, z⟩] concatenates_S2048x12_S2048x12_S2048x104_S2048x128_d1
/-- The coefficient columns of the weight. -/
def coef (w : (⟨S2048x6704, .f32⟩ : BufTy).Contents (Elt Ideal)) : (⟨S2048x48, .f32⟩ : BufTy).Contents (Elt Ideal) := (extractStridedSlice S2048x48 ![0, 6144] · slices_S2048x6704_S2048x48_0_6144) w
/-- The zero columns after the coefficients. -/
def zeros : (⟨S2048x104, .f32⟩ : BufTy).Contents (Elt Ideal) := broadcastInDim S2048x104 ![] bcast_S_S2048x104 (constant (F := Ideal) S_ .f32 0x00000000#32)
/-- The first half of the coefficients, padded. -/
def fwd (w : (⟨S2048x48, .f32⟩ : BufTy).Contents (Elt Ideal)) : (⟨S2048x128, .f32⟩ : BufTy).Contents (Elt Ideal) :=
  pair ((extractStridedSlice S2048x12 ![0, 0] · slices_S2048x48_S2048x12_0_0) w) ((extractStridedSlice S2048x12 ![0, 24] · slices_S2048x48_S2048x12_0_24) w) zeros
/-- The second half of the coefficients, padded. -/
def bwd (w : (⟨S2048x48, .f32⟩ : BufTy).Contents (Elt Ideal)) : (⟨S2048x128, .f32⟩ : BufTy).Contents (Elt Ideal) :=
  pair ((extractStridedSlice S2048x12 ![0, 12] · slices_S2048x48_S2048x12_0_12) w) ((extractStridedSlice S2048x12 ![0, 36] · slices_S2048x48_S2048x12_0_36) w) zeros
/-- The weight's columns as the kernel is handed them. -/
def pack (w : (⟨S2048x6704, .f32⟩ : BufTy).Contents (Elt Ideal)) : (⟨S2048x7168, .f32⟩ : BufTy).Contents (Elt Ideal) :=
  concatenate S2048x7168 1 [⟨S2048x6144, (extractStridedSlice S2048x6144 ![0, 0] · slices_S2048x6704_S2048x6144_0_0) w⟩, ⟨S2048x512, (extractStridedSlice S2048x512 ![0, 6192] · slices_S2048x6704_S2048x512_0_6192) w⟩,
    ⟨S2048x128, fwd (coef w)⟩, ⟨S2048x128, bwd (coef w)⟩, ⟨S2048x256, (broadcastInDim S2048x256 ![] bcast_S_S2048x256 (constant (F := Ideal) S_ .f32 0x00000000#32) : (⟨S2048x256, .f32⟩ : BufTy).Contents (Elt Ideal))⟩]
    concatenates_S2048x6144_S2048x512_S2048x128_S2048x128_S2048x256_S2048x7168_d1

/-- The weight buffer at the kernel's start. -/
theorem V_pack : V m c main_v12 = pack (m ((c : Thread nD τ).loc main_arg4)) := by
  show StableHlo.after hostOps0 (fun b => m (c, b)) main_v12 = _
  unfold hostOps0
  after_results_simp
  rfl
/-- The column groups set side by side are the columns of the weight that `src` names. -/
theorem regroup (f : Fin 6704 → EReal) (n : Fin 7168) :
    (if h : n.val < 6144 then f ⟨n.val, by omega⟩
      else if h : n.val - 6144 < 512 then f ⟨6192 + (n.val - 6144), by omega⟩
      else if h : n.val - 6144 - 512 < 128 then
        (if h : n.val - 6144 - 512 < 12 then f ⟨6144 + (n.val - 6144 - 512), by omega⟩
          else if h : n.val - 6144 - 512 - 12 < 12 then f ⟨6144 + (24 + (n.val - 6144 - 512 - 12)), by omega⟩ else 0)
      else if h : n.val - 6144 - 512 - 128 < 128 then
        (if h : n.val - 6144 - 512 - 128 < 12 then f ⟨6144 + (12 + (n.val - 6144 - 512 - 128)), by omega⟩
          else if h : n.val - 6144 - 512 - 128 - 12 < 12 then f ⟨6144 + (36 + (n.val - 6144 - 512 - 128 - 12)), by omega⟩ else 0)
      else 0) = (src n).elim 0 f := by
  have hv : ∀ (a a' : Nat) (ha : a < 6704) (ha' : a' < 6704), a = a' → f ⟨a, ha⟩ = f ⟨a', ha'⟩ := by
    intro a a' ha ha' e
    subst e
    rfl
  unfold src
  split_ifs <;> try simp only [Option.elim_some, Option.elim_none]
  all_goals first | omega | exact hv _ _ _ _ (by omega)

/-- The weight buffer, element by element. -/
theorem V_w (k : Fin 2048) (n : Fin 7168) : V m c main_v12 (ix2 k n) = (src n).elim (0 : EReal) fun j => (m ((c : Thread nD τ).loc main_arg4) (ix2 k j) : EReal) := by
  rw [V_pack]
  generalize m ((c : Thread nD τ).loc main_arg4) = w
  show pack w (ix2 k n) = _
  unfold pack fwd bwd pair coef zeros
  pointwise
  exact regroup (fun j => w (ix2 k j)) n

/-- The gain, as the kernel is handed it. -/
theorem V_gain (z : Fin 1) (k : Fin 2048) : V m c main_v13 (ix2 z k) = m ((c : Thread nD τ).loc main_arg1) (ix1 k) := by
  have h : V m c main_v13 = (fun x => shapeCast S1x2048 x shapeCasts_S2048_S1x2048 : (⟨S2048, .f32⟩ : BufTy).Contents (Elt Ideal) → (⟨S1x2048, .f32⟩ : BufTy).Contents (Elt Ideal))
      (m ((c : Thread nD τ).loc main_arg1)) := by
    show StableHlo.after hostOps0 (fun b => m (c, b)) main_v13 = _
    unfold hostOps0
    after_results_simp
    rfl
  rw [h]
  dsimp only
  pointwise
/-- The shift, a row of one for each batch row. -/
theorem V_shift (b : Fin 8) (z : Fin 1) (k : Fin 2048) : V m c main_v14 (ix3 b z k) = m ((c : Thread nD τ).loc main_arg2) (ix2 b k) := by
  have h : V m c main_v14 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg2)) := by
    show StableHlo.after hostOps0 (fun b => m (c, b)) main_v14 = _
    unfold hostOps0
    after_results_simp
    rfl
  rw [h]
  dsimp only
  pointwise
/-- The scale, a row of one for each batch row. -/
theorem V_scale (b : Fin 8) (z : Fin 1) (k : Fin 2048) : V m c main_v15 (ix3 b z k) = m ((c : Thread nD τ).loc main_arg3) (ix2 b k) := by
  have h : V m c main_v15 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg3)) := by
    show StableHlo.after hostOps0 (fun b => m (c, b)) main_v15 = _
    unfold hostOps0
    after_results_simp
    rfl
  rw [h]
  dsimp only
  pointwise

/-- The block each point works on. -/
theorem idx_facts : ∀ t : Fin cfg0.N,
    (win0_0.index t 0 = t.val / 56 ∧ win0_0.index t 1 = t.val / 14 % 4 ∧ win0_0.index t 2 = 0)
    ∧ (win0_1.index t 0 = 0 ∧ win0_1.index t 1 = 0)
    ∧ (win0_2.index t 0 = t.val / 56 ∧ win0_2.index t 1 = 0 ∧ win0_2.index t 2 = 0)
    ∧ (win0_3.index t 0 = t.val / 56 ∧ win0_3.index t 1 = 0 ∧ win0_3.index t 2 = 0)
    ∧ (win0_4.index t 0 = 0 ∧ win0_4.index t 1 = t.val % 14)
    ∧ (win0_5.index t 0 = t.val / 56 ∧ win0_5.index t 1 = t.val / 14 % 4 ∧ win0_5.index t 2 = t.val % 14) := by decide +kernel

/-- The grid has 448 points. -/
theorem lt448 (t : Fin cfg0.N) : t.val < 448 := Nat.lt_of_lt_of_eq t.isLt N_0

/-- The batch row of a point. -/
def bOf (n : Nat) (h : n < cfg0.N) : Fin 8 := ⟨n / 56, by have := lt448 ⟨n, h⟩; dsimp only at this; omega⟩
/-- The row of the result that a row of a point's block is. -/
def row (n : Nat) (r : Fin 512) : Fin 2048 := ⟨512 * (n / 14 % 4) + r.val, by omega⟩
/-- The column of the result that a column of a point's block is. -/
def col (n : Nat) (j : Fin 512) : Fin 7168 := ⟨512 * (n % 14) + j.val, by omega⟩

/-- A point's block of the rows, element by element. -/
theorem iblk0_apply (t : Fin cfg0.N) (z : Fin 1) (r : Fin 512) (k : Fin 2048) :
    iblk m c 0 t (ix3 z r k) = m ((c : Thread nD τ).loc main_arg0) (ix3 (bOf t.val t.isLt) (row t.val r) k) := by
  obtain ⟨⟨h0, h1, h2⟩, -⟩ := idx_facts t
  rw [← V_main_arg0 m c]
  refine congrArg (V m c main_arg0) (funext fun a => Fin.ext ?_)
  match a with
  | ⟨0, _⟩ => show win0_0.index t 0 * 1 + 1 * z.val = t.val / 56; omega
  | ⟨1, _⟩ => show win0_0.index t 1 * 512 + 1 * r.val = 512 * (t.val / 14 % 4) + r.val; omega
  | ⟨2, _⟩ => show win0_0.index t 2 * 2048 + 1 * k.val = k.val; omega
/-- A point's block of the gain, element by element. -/
theorem iblk1_apply (t : Fin cfg0.N) (z : Fin 1) (k : Fin 2048) : iblk m c 1 t (ix2 z k) = m ((c : Thread nD τ).loc main_arg1) (ix1 k) := by
  obtain ⟨-, ⟨h0, h1⟩, -⟩ := idx_facts t
  rw [← V_gain m c 0]
  refine congrArg (V m c main_v13) (funext fun a => Fin.ext ?_)
  match a with
  | ⟨0, _⟩ => show win0_1.index t 0 * 1 + 1 * z.val = 0; omega
  | ⟨1, _⟩ => show win0_1.index t 1 * 2048 + 1 * k.val = k.val; omega
/-- A point's block of the shift, element by element. -/
theorem iblk2_apply (t : Fin cfg0.N) (z y : Fin 1) (k : Fin 2048) :
    iblk m c 2 t (ix3 z y k) = m ((c : Thread nD τ).loc main_arg2) (ix2 (bOf t.val t.isLt) k) := by
  obtain ⟨-, -, ⟨h0, h1, h2⟩, -⟩ := idx_facts t
  rw [← V_shift m c _ 0]
  refine congrArg (V m c main_v14) (funext fun a => Fin.ext ?_)
  match a with
  | ⟨0, _⟩ => show win0_2.index t 0 * 1 + 1 * z.val = t.val / 56; omega
  | ⟨1, _⟩ => show win0_2.index t 1 * 1 + 1 * y.val = 0; omega
  | ⟨2, _⟩ => show win0_2.index t 2 * 2048 + 1 * k.val = k.val; omega
/-- A point's block of the scale, element by element. -/
theorem iblk3_apply (t : Fin cfg0.N) (z y : Fin 1) (k : Fin 2048) :
    iblk m c 3 t (ix3 z y k) = m ((c : Thread nD τ).loc main_arg3) (ix2 (bOf t.val t.isLt) k) := by
  obtain ⟨-, -, -, ⟨h0, h1, h2⟩, -⟩ := idx_facts t
  rw [← V_scale m c _ 0]
  refine congrArg (V m c main_v15) (funext fun a => Fin.ext ?_)
  match a with
  | ⟨0, _⟩ => show win0_3.index t 0 * 1 + 1 * z.val = t.val / 56; omega
  | ⟨1, _⟩ => show win0_3.index t 1 * 1 + 1 * y.val = 0; omega
  | ⟨2, _⟩ => show win0_3.index t 2 * 2048 + 1 * k.val = k.val; omega
/-- A point's block of the weight, element by element. -/
theorem iblk4_apply (t : Fin cfg0.N) (k : Fin 2048) (j : Fin 512) :
    iblk m c 4 t (ix2 k j) = (src (col t.val j)).elim (0 : EReal) fun j => (m ((c : Thread nD τ).loc main_arg4) (ix2 k j) : EReal) := by
  obtain ⟨-, -, -, -, ⟨h0, h1⟩, -⟩ := idx_facts t
  rw [← V_w m c]
  refine congrArg (V m c main_v12) (funext fun a => Fin.ext ?_)
  match a with
  | ⟨0, _⟩ => show win0_4.index t 0 * 2048 + 1 * k.val = k.val; omega
  | ⟨1, _⟩ => show win0_4.index t 1 * 512 + 1 * j.val = 512 * (t.val % 14) + j.val; omega

/-- The norm a point's rows get, element by element. -/
theorem pay1_apply (x : Vec Ideal S1x512x2048 .f32) (g : Vec Ideal S1x2048 .f32) (sc sh : Vec Ideal S1x1x2048 .f32) (r : Fin 512) (k : Fin 2048) :
    k0_pay1 x g sc sh (ix2 r k) = mod (fun j => x (ix3 0 r j)) (fun j => g (ix2 0 j)) (fun j => sh (ix3 0 0 j)) (fun j => sc (ix3 0 0 j)) k := by
  unfold k0_pay1
  pointwise
  rfl
/-- The product with the weight block, element by element. -/
theorem pay2_apply (a : Vec Ideal S512x2048 .bf16) (w : Vec Ideal S2048x512 .bf16) (z : Fin 1) (r n : Fin 512) :
    k0_pay2 a w (ix3 z r n) = (∑ k : Fin 2048, a (ix2 r k) * w (ix2 k n) : EReal) := by
  unfold k0_pay2
  pointwise

/-- The norm computed at a point from its blocks. -/
theorem pay1_blk (t : Fin cfg0.N) (r : Fin 512) (k : Fin 2048) :
    k0_pay1 (iblk m c 0 t) (iblk m c 1 t) (iblk m c 3 t) (iblk m c 2 t) (ix2 r k)
      = normed (m ((c : Thread nD τ).loc main_arg0)) (m ((c : Thread nD τ).loc main_arg1)) (m ((c : Thread nD τ).loc main_arg2)) (m ((c : Thread nD τ).loc main_arg3))
        (bOf t.val t.isLt) (row t.val r) k := by
  refine (pay1_apply _ _ _ _ r k).trans ?_
  simp only [iblk0_apply, iblk1_apply, iblk2_apply, iblk3_apply]
  rfl

/-- After every point the scratch holds the modulated norm of the point's rows. -/
theorem scr_eq (n : Nat) : ∀ (h : n < cfg0.N) (r : Fin 512) (k : Fin 2048), (outsAt0 m c n h).2 (ix2 r k)
      = normed (m ((c : Thread nD τ).loc main_arg0)) (m ((c : Thread nD τ).loc main_arg1)) (m ((c : Thread nD τ).loc main_arg2)) (m ((c : Thread nD τ).loc main_arg3))
        (bOf n h) (row n r) k := by
  induction n using Nat.strong_induction_on with
  | _ n ih =>
    intro h r k
    by_cases h0 : n % 14 = 0
    · rw [outsAt0_A m c ⟨n, h⟩ h0]
      dsimp only
      rw [sout_A]
      exact pay1_blk m c ⟨n, h⟩ r k
    · rw [outsAt0_B m c ⟨n, h⟩ h0]
      dsimp only
      refine (ih (n - 1) (by omega) (by omega) r k).trans ?_
      congr 1
      · exact Fin.ext (by show (n - 1) / 56 = n / 56; omega)
      · exact Fin.ext (by show 512 * ((n - 1) / 14 % 4) + r.val = 512 * (n / 14 % 4) + r.val; omega)

/-- An element of the result: the normed row times the column of the weight, zero where there is none. -/
def proj (x : S8x2048x2048.Idx → EReal) (g : S2048.Idx → EReal) (sh sc : S8x2048.Idx → EReal) (w : S2048x6704.Idx → EReal) (b : Fin 8) (l : Fin 2048) (n : Fin 7168) : EReal :=
  ∑ k : Fin 2048, normed x g sh sc b l k * (src n).elim 0 fun j => w (ix2 k j)

/-- The result as a whole array. -/
def res : S8x2048x7168.Idx → EReal := fun i =>
  proj (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- What a point leaves in the output's staging buffer, element by element. -/
theorem out_apply (t : Fin cfg0.N) (z : Fin 1) (r n : Fin 512) : (outsAt0 m c t.val t.isLt).1 (ix3 z r n)
      = proj (m ((c : Thread nD τ).loc main_arg0)) (m ((c : Thread nD τ).loc main_arg1)) (m ((c : Thread nD τ).loc main_arg2))
    (m ((c : Thread nD τ).loc main_arg3)) (m ((c : Thread nD τ).loc main_arg4)) (bOf t.val t.isLt) (row t.val r) (col t.val n) := by
  by_cases h0 : t.val % 14 = 0
  · rw [outsAt0_A m c t h0]
    dsimp only
    rw [out_A]
    refine (pay2_apply _ _ z r n).trans ?_
    simp only [pay1_blk, iblk4_apply]
    rfl
  · have hs := scr_eq m c (t.val - 1) (Nat.lt_of_le_of_lt (Nat.sub_le _ _) t.isLt) r
    rw [outsAt0_B m c t h0]
    dsimp only
    rw [out_B]
    refine (pay2_apply _ _ z r n).trans ?_
    simp only [hs, iblk4_apply]
    have e1 : bOf (t.val - 1) (Nat.lt_of_le_of_lt (Nat.sub_le _ _) t.isLt) = bOf t.val t.isLt := Fin.ext (by show (t.val - 1) / 56 = t.val / 56; omega)
    have e2 : row (t.val - 1) r = row t.val r := Fin.ext (by show 512 * ((t.val - 1) / 14 % 4) + r.val = 512 * (t.val / 14 % 4) + r.val; omega)
    rw [e1, e2]
    rfl

/-- What a point writes back is its block of the result. -/
theorem flushed_res (t : Fin cfg0.N) : (dats m 0 c).flushed 5 t = ((cfg0.win 5).blk t).view.read (Elt Ideal) (res m c) := by
  rw [Value.flushed5]
  obtain ⟨-, -, -, -, -, ⟨h0, h1, h2⟩⟩ := idx_facts t
  funext y
  obtain ⟨z, r, n, rfl⟩ : ∃ (z : Fin 1) (r : Fin 512) (n : Fin 512), y = ix3 z r n := ⟨y 0, y 1, y 2, eq_ix3 y⟩
  refine (out_apply m c t z r n).trans ?_
  show proj _ _ _ _ _ (bOf t.val t.isLt) (row t.val r) (col t.val n) = proj _ _ _ _ _ _ _ _
  congr 1
  · exact Fin.ext (by show t.val / 56 = win0_5.index t 0 * 1 + 1 * z.val; omega)
  · exact Fin.ext (by show 512 * (t.val / 14 % 4) + r.val = win0_5.index t 1 * 512 + 1 * r.val; omega)
  · exact Fin.ext (by show 512 * (t.val % 14) + n.val = win0_5.index t 2 * 512 + 1 * n.val; omega)

/-- Every element of the result lies in some point's block. -/
theorem cover_res (y : S8x2048x7168.Idx) : ∃ t : Fin cfg0.N, (cfg0.win 5).flush t = true ∧ y ∈ ((cfg0.win 5).blk t).view.set := by
  have y0 : (y 0).val < 8 := (y 0).isLt
  have y1 : (y 1).val < 2048 := (y 1).isLt
  have y2 : (y 2).val < 7168 := (y 2).isLt
  have ht : 56 * (y 0).val + 14 * ((y 1).val / 512) + (y 2).val / 512 < cfg0.N := by rw [show cfg0.N = 448 from N_0]; omega
  refine ⟨⟨_, ht⟩, flush0_5 _, ?_⟩
  obtain ⟨-, -, -, -, -, ⟨h0, h1, h2⟩⟩ := idx_facts ⟨_, ht⟩
  show y ∈ ((View.whole main_v16).slice (win0_5.rect ⟨_, ht⟩)).set
  rw [View.set_slice_whole, Rect.mem_set_unit]
  dsimp only at h0 h1 h2
  intro a
  match a with
  | ⟨0, _⟩ => show win0_5.index _ 0 * 1 ≤ (y 0).val ∧ (y 0).val < win0_5.index _ 0 * 1 + 1; rw [h0]; omega
  | ⟨1, _⟩ => show win0_5.index _ 1 * 512 ≤ (y 1).val ∧ (y 1).val < win0_5.index _ 1 * 512 + 512; rw [h1]; omega
  | ⟨2, _⟩ => show win0_5.index _ 2 * 512 ≤ (y 2).val ∧ (y 2).val < win0_5.index _ 2 * 512 + 512; rw [h2]; omega

/-- The program's run: its result is the projection of its arguments, which it leaves as they were. -/
theorem run_res (ρ : Dev nD → PrngReg) : θ_run defs (onTc (τ := τ) (main (F := Ideal))) ⟨m, fun _ => 0, ρ⟩ fun r => ∀ c : Dev nD,
      r.2.mem ((c : Thread nD τ).loc main_v16) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 5 _ (fun t _ => flushed_res m c t) cover_res),
    (h c).2⟩) (Value.run_blocks m ρ)
end Cert.EvenInIdeal.Proj

namespace Cert.InEven

open Idealize.ShloMosaic Idealize.ShloMosaic.TcCoe Idealize.SL.Sem
open Cert.EvenInRefIdeal Cert.EvenInRefIdeal.Read
open Cert.Modulate (normed)
open Cert.EvenInIdeal.Proj (src proj res run_res)

variable (x : (⟨S8x2048x2048, .f32⟩ : BufTy).Contents (Elt Ideal)) (g : (⟨S2048, .f32⟩ : BufTy).Contents (Elt Ideal)) (sh sc : (⟨S8x2048, .f32⟩ : BufTy).Contents (Elt Ideal)) (w : (⟨S2048x6704, .f32⟩ : BufTy).Contents (Elt Ideal)) (b : Fin 8)

/-- The reference's modulated norm. -/
theorem ref_mod (l k : Fin 2048) : val_main_v20 (F := Ideal) x g sh sc (ix3 b l k) = normed x g sh sc b l k := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl

/-- The reference's product with a column of the weight. -/
theorem ref_dot (l : Fin 2048) (n : Fin 6704) : val_main_v21 (F := Ideal) x g sh sc w (ix3 b l n) = ∑ k : Fin 2048, normed x g sh sc b l k * w (ix2 k n) := by
  rw [val_main_v21_apply]
  have e2 : ∀ k, lidx_main_v21 (ix3 b l n) k = ix3 b l k := fun k => funext fun a => match a with | ⟨0, _⟩ => rfl | ⟨1, _⟩ => rfl | ⟨2, _⟩ => rfl
  have e3 : ∀ k, ridx_main_v21 (ix3 b l n) k = ix2 k n := fun k => funext fun a => match a with | ⟨0, _⟩ => rfl | ⟨1, _⟩ => rfl
  simp only [e2, e3, ref_mod]

/-- The product with no column is zero. -/
theorem proj_none (l : Fin 2048) (n : Fin 7168) (h : src n = none) : proj x g sh sc w b l n = 0 := by
  unfold proj
  rw [h]
  exact Finset.sum_eq_zero fun k _ => mul_zero _

/-- The product with a column. -/
theorem proj_some (l : Fin 2048) (n : Fin 7168) (j : Fin 6704) (h : src n = some j) : proj x g sh sc w b l n = val_main_v21 (F := Ideal) x g sh sc w (ix3 b l j) := by
  rw [ref_dot]
  unfold proj
  rw [h]
  rfl

/-- The reference's nine pieces set side by side are the columns the kernel's weight was regrouped to. -/
theorem regroup (f : Fin 6704 → EReal) (n : Fin 7168) :
    (if h : n.val < 6144 then f ⟨n.val, by omega⟩
      else if h : n.val - 6144 < 512 then f ⟨6192 + (n.val - 6144), by omega⟩
      else if h : n.val - 6144 - 512 < 12 then f ⟨6144 + (n.val - 6144 - 512), by omega⟩
      else if h : n.val - 6144 - 512 - 12 < 12 then f ⟨6144 + (24 + (n.val - 6144 - 512 - 12)), by omega⟩
      else if h : n.val - 6144 - 512 - 12 - 12 < 104 then 0
      else if h : n.val - 6144 - 512 - 12 - 12 - 104 < 12 then f ⟨6144 + (12 + (n.val - 6144 - 512 - 12 - 12 - 104)), by omega⟩
      else if h : n.val - 6144 - 512 - 12 - 12 - 104 - 12 < 12 then f ⟨6144 + (36 + (n.val - 6144 - 512 - 12 - 12 - 104 - 12)), by omega⟩
      else if h : n.val - 6144 - 512 - 12 - 12 - 104 - 12 - 12 < 104 then 0 else 0) = (src n).elim 0 f := by
  have hv : ∀ (a a' : Nat) (ha : a < 6704) (ha' : a' < 6704), a = a' → f ⟨a, ha⟩ = f ⟨a', ha'⟩ := by
    intro a a' ha ha' e
    subst e
    rfl
  unfold src
  split_ifs <;> try simp only [Option.elim_some, Option.elim_none]
  all_goals first | omega | exact hv _ _ _ _ (by omega)

/-- The reference's result is the projection. -/
theorem ref_eq (l : Fin 2048) (n : Fin 7168) : val_main_v32 (F := Ideal) x g sh sc w (ix3 b l n) = proj x g sh sc w b l n := by
  have hp : proj x g sh sc w b l n = (src n).elim (0 : EReal) fun j => (val_main_v21 (F := Ideal) x g sh sc w (ix3 b l j) : EReal) := by
    rcases h : src n with _ | j
    · exact proj_none x g sh sc w b l n h
    · exact proj_some x g sh sc w b l n j h
  rw [hp]
  unfold val_main_v32 val_main_v31 val_main_v30 val_main_v29 val_main_v28 val_main_v27 val_main_v26 val_main_v25 val_main_v24 val_main_v23 val_main_v22 val_main_cst_3 val_main_cst_4 val_main_cst_5
  pointwise
  exact regroup (fun j => val_main_v21 (F := Ideal) x g sh sc w (ix3 b l j)) n

/-- The reference's run, its argument arrays kept and every semaphore at zero. -/
theorem ref_frame : Cert.quiescent_EvenInRefIdeal := fun m ρ _ =>
  (θ_run Cert.EvenInRefIdeal.defs _ _).mono
    (fun r h => ⟨fun c => (h c).2, Idealize.ShloMosaic.sem_eq_zero_of_no_sems (by decide) r.2⟩)
    (Cert.EvenInRefIdeal.Value.run (F := Ideal) m ρ)

/-- The projection and its reference have the same result. -/
theorem algebraic : Cert.algebraic_EvenInIdeal_EvenInRefIdeal := by
  intro m ρ m' ρ' _ hagree
  refine ⟨fun c => res m c, run_res m ρ, ?_⟩
  refine (θ_run Cert.EvenInRefIdeal.defs _ _).mono (fun r h c => ⟨(h c).1.trans ?_, (h c).2⟩) (Cert.EvenInRefIdeal.Value.run (F := Ideal) m' ρ')
  obtain ⟨a0, a1, a2, a3, a4⟩ := hagree c
  rw [val_main_v32_eq, a0, a1, a2, a3, a4]
  funext i
  obtain ⟨b, l, n, rfl⟩ : ∃ (b : Fin 8) (l : Fin 2048) (n : Fin 7168), i = ix3 b l n := ⟨i 0, i 1, i 2, eq_ix3 i⟩
  exact ref_eq _ _ _ _ _ b l n

end Cert.InEven
-- ==== Proof.Rope.lean ====
/- The rotary position tables of the odd layers' projection and the rotation of the columns, read from the kernel's host side and from the reference. -/
module

public import proofs.«01_k».proof.Defs
public import proofs.«01_k».proof.Proof.Modulate
public import proofs.«01_k».proof.Proof.Gen.OddInIdeal.Value
public import proofs.«01_k».proof.Proof.Gen.OddInRefIdeal.Read
public import Idealize.ShloMosaic.Lib.Pipeline.Value
public import Idealize.ShloMosaic.Lib.Pointwise
public import Idealize.ShloMosaic.Lib.VecWindow
public import Idealize.ShloMosaic.Lib.Quiescent

@[expose] public section

set_option maxRecDepth 16384

noncomputable section

namespace Cert.Rope

open Idealize.ShloMosaic Idealize.ShloMosaic.TcCoe Idealize.SL.Sem

/-- The frequency of a lane. -/
def freq (i : Nat) : EReal :=
  Ideal.pow (Ideal.ofBits FTy.f32 1176256512#32) (Ideal.div (-FloatOps.sitofp (F := Ideal) FTy.f32 (BitVec.ofNat 32 i)) (Ideal.ofBits FTy.f32 1098907648#32))

/-- The angle of a token in a lane: its row of the picture in the first sixteen, its column in the rest. -/
def ang (l d : Nat) : EReal :=
  if d < 16 then FloatOps.sitofp (F := Ideal) FTy.f32 (BitVec.ofNat 32 (l / 64)) * freq d
  else FloatOps.sitofp (F := Ideal) FTy.f32 (BitVec.ofNat 32 (l % 64)) * freq (d - 16)

/-- The lane of a column: sixteen frequencies for each half of a head. -/
def lane (n : Nat) : Nat := if n % 64 < 32 then n % 16 else 16 + n % 16

/-- The factor of a column itself. -/
def cosAt (l n : Nat) : EReal := Ideal.cos (ang l (lane n))
/-- The factor of the column it is turned with, negative in the first half of a pair. -/
def sinAt (l n : Nat) : EReal := if n % 32 < 16 then -Ideal.sin (ang l (lane n)) else Ideal.sin (ang l (lane n))

/-- The column a column is turned with. -/
def mate (n : Fin 2560) : Fin 2560 := if h : n.val % 32 < 16 then ⟨n.val + 16, by omega⟩ else ⟨n.val - 16, by omega⟩

/-- A row's queries and keys turned by the token's angles, its values left. -/
def turned (p : Fin 2560 → EReal) (l : Nat) (n : Fin 2560) : EReal :=
  if n.val < 2304 then p n * cosAt l n.val + p (mate n) * sinAt l n.val else p n

section Kernel
open Cert.OddInIdeal Cert.OddInIdeal.Gen

/-- The kernel's frequencies. -/
def kfreq : (⟨S16, .f32⟩ : BufTy).Contents (Elt Ideal) :=
  Host.powf (F := Ideal) (broadcastInDim S16 ![] bcast_S_S16 (constant (F := Ideal) S_ .f32 0x461C4000#32))
    (Host.divf (F := Ideal) (Host.negf (F := Ideal) (sitofp (F := Ideal) .f32 (iotaInDim S16 32 0))) (broadcastInDim S16 ![] bcast_S_S16 (constant (F := Ideal) S_ .f32 0x41800000#32)))
/-- The picture row of each token. -/
def krow : (⟨S2048, .f32⟩ : BufTy).Contents (Elt Ideal) :=
  sitofp (F := Ideal) .f32 (shapeCast S2048 (broadcastInDim S32x64 ![0, 1] bcast_S32x1_S32x64_0_1 (broadcastInDim S32x1 ![0] bcast_S32_S32x1_0 (iotaInDim S32 32 0))) shapeCasts_S32x64_S2048)
/-- The picture column of each token. -/
def kcol : (⟨S2048, .f32⟩ : BufTy).Contents (Elt Ideal) :=
  sitofp (F := Ideal) .f32 (shapeCast S2048 (broadcastInDim S32x64 ![0, 1] bcast_S1x64_S32x64_0_1 (broadcastInDim S1x64 ![1] bcast_S64_S1x64_1 (iotaInDim S64 32 0))) shapeCasts_S32x64_S2048)
/-- The angles from one of the two positions. -/
def kang (p : (⟨S2048, .f32⟩ : BufTy).Contents (Elt Ideal)) : (⟨S2048x16, .f32⟩ : BufTy).Contents (Elt Ideal) :=
  mulf (F := Ideal) (φ := .f32) (broadcastInDim S2048x16 ![0, 1] bcast_S2048x1_S2048x16_0_1 (broadcastInDim S2048x1 ![0] bcast_S2048_S2048x1_0 p))
    (broadcastInDim S2048x16 ![0, 1] bcast_S1x16_S2048x16_0_1 (broadcastInDim S1x16 ![1] bcast_S16_S1x16_1 kfreq))
/-- Four groups of sixteen lanes, set side by side twice. -/
def ktab (a b u v : (⟨S2048x16, .f32⟩ : BufTy).Contents (Elt Ideal)) : (⟨S2048x128, .f32⟩ : BufTy).Contents (Elt Ideal) :=
  shapeCast S2048x128 (broadcastInDim S1x2048x2x64 ![0, 1, 2, 3] bcast_S1x2048x1x64_S1x2048x2x64_0_1_2_3
    (shapeCast S1x2048x1x64 (concatenate S2048x64 1 [⟨S2048x16, a⟩, ⟨S2048x16, b⟩, ⟨S2048x16, u⟩, ⟨S2048x16, v⟩] concatenates_S2048x16_S2048x16_S2048x16_S2048x16_S2048x64_d1 : (⟨S2048x64, .f32⟩ : BufTy).Contents (Elt Ideal))
      shapeCasts_S2048x64_S1x2048x1x64)) shapeCasts_S1x2048x2x64_S2048x128

variable (m : (ℓ : Loc nD τ sig) → Buf (Elt Ideal) ℓ) (c : Dev nD)

/-- The cosine table the kernel is handed. -/
theorem V_cos : V m c main_v39 = ktab (Host.cos (F := Ideal) (φ := .f32) (kang krow)) (Host.cos (F := Ideal) (φ := .f32) (kang krow)) (Host.cos (F := Ideal) (φ := .f32) (kang kcol)) (Host.cos (F := Ideal) (φ := .f32) (kang kcol)) := by
  show StableHlo.after hostOps0 (fun b => m (c, b)) main_v39 = _
  unfold hostOps0
  after_results_simp
  rfl
/-- The signed sine table the kernel is handed. -/
theorem V_sin : V m c main_v42 = ktab (Host.negf (F := Ideal) (φ := .f32) (Host.sin (F := Ideal) (φ := .f32) (kang krow))) (Host.sin (F := Ideal) (φ := .f32) (kang krow)) (Host.negf (F := Ideal) (φ := .f32) (Host.sin (F := Ideal) (φ := .f32) (kang kcol))) (Host.sin (F := Ideal) (φ := .f32) (kang kcol)) := by
  show StableHlo.after hostOps0 (fun b => m (c, b)) main_v42 = _
  unfold hostOps0
  after_results_simp
  rfl

/-- The angle a row position gives. -/
theorem krow_ang (l : Fin 2048) (i : Fin 16) : kang krow (ix2 l i) = ang l.val i.val := by
  unfold kang krow kfreq ang freq
  rw [if_pos i.isLt]
  pointwise
/-- The angle a column position gives. -/
theorem kcol_ang (l : Fin 2048) (i : Fin 16) : kang kcol (ix2 l i) = ang l.val (16 + i.val) := by
  unfold kang kcol kfreq ang freq
  rw [if_neg (by omega), Nat.add_sub_cancel_left]
  pointwise

/-- The lane a table column reads. -/
theorem ktab_apply (a b u v : (⟨S2048x16, .f32⟩ : BufTy).Contents (Elt Ideal)) (l : Fin 2048) (n : Fin 128) (A B U W : Nat → EReal)
    (ha : ∀ i : Fin 16, a (ix2 l i) = A i.val) (hb : ∀ i : Fin 16, b (ix2 l i) = B i.val) (hu : ∀ i : Fin 16, u (ix2 l i) = U i.val) (hv : ∀ i : Fin 16, v (ix2 l i) = W i.val) :
    ktab a b u v (ix2 l n) = if n.val % 64 < 16 then A (n.val % 16) else if n.val % 64 < 32 then B (n.val % 16) else if n.val % 64 < 48 then U (n.val % 16) else W (n.val % 16) := by
  unfold ktab
  pointwise
  simp only [ha, hb, hu, hv]
  split_ifs <;> first | omega | (congr 1; omega)

/-- The cosine table, element by element. -/
theorem V_cos_apply (l : Fin 2048) (n : Fin 128) : V m c main_v39 (ix2 l n) = cosAt l.val n.val := by
  rw [V_cos]
  refine (ktab_apply _ _ _ _ l n (fun i => Ideal.cos (ang l.val i)) (fun i => Ideal.cos (ang l.val i)) (fun i => Ideal.cos (ang l.val (16 + i))) (fun i => Ideal.cos (ang l.val (16 + i)))
    (fun i => congrArg Ideal.cos (krow_ang l i)) (fun i => congrArg Ideal.cos (krow_ang l i)) (fun i => congrArg Ideal.cos (kcol_ang l i)) (fun i => congrArg Ideal.cos (kcol_ang l i))).trans ?_
  unfold cosAt lane
  dsimp only
  split_ifs <;> first | omega | rfl
/-- The signed sine table, element by element. -/
theorem V_sin_apply (l : Fin 2048) (n : Fin 128) : V m c main_v42 (ix2 l n) = sinAt l.val n.val := by
  rw [V_sin]
  refine (ktab_apply _ _ _ _ l n (fun i => -Ideal.sin (ang l.val i)) (fun i => Ideal.sin (ang l.val i)) (fun i => -Ideal.sin (ang l.val (16 + i))) (fun i => Ideal.sin (ang l.val (16 + i)))
    (fun i => congrArg (fun z => -Ideal.sin z) (krow_ang l i)) (fun i => congrArg Ideal.sin (krow_ang l i)) (fun i => congrArg (fun z => -Ideal.sin z) (kcol_ang l i)) (fun i => congrArg Ideal.sin (kcol_ang l i))).trans ?_
  unfold sinAt lane
  dsimp only
  split_ifs <;> first | omega | rfl
end Kernel

section Reference
open Cert.OddInRefIdeal Cert.OddInRefIdeal.Read

/-- The reference's angles. -/
theorem ref_ang (l : Fin 2048) (d : Fin 32) : val_main_v48 (F := Ideal) (ix2 l d) = ang l.val d.val := by
  unfold val_main_v48 val_main_v42 val_main_v47 val_main_v46 val_main_v45 val_main_v44 val_main_v43 val_main_v41 val_main_v40 val_main_v39 val_main_v38
    val_main_v37 val_main_v36 val_main_v35 val_main_v34 val_main_v33 val_main_v32 val_main_v31 val_main_v30 val_main_v29 val_main_v28 val_main_v27 val_main_v26 val_main_v25 val_main_v24 val_main_v23 val_main_v22 val_main_cst_3 val_main_cst_4 ang freq
  pointwise
  split_ifs <;> rfl

variable (x : (⟨S8x2048x2048, .f32⟩ : BufTy).Contents (Elt Ideal)) (g : (⟨S2048, .f32⟩ : BufTy).Contents (Elt Ideal)) (sh sc : (⟨S8x2048, .f32⟩ : BufTy).Contents (Elt Ideal)) (w : (⟨S2048x2560, .f32⟩ : BufTy).Contents (Elt Ideal)) (b : Fin 8)

/-- A column in the first half of its pair, as the reference turns it. -/
theorem turned_first (f : Fin 2560 → EReal) (l : Nat) (n i j : Fin 2560) (d : Nat) (h : n.val < 2304) (h1 : n.val % 32 < 16) (hi : i.val = n.val) (hj : j.val = n.val + 16) (hd : d = lane n.val) :
    f i * Ideal.cos (ang l d) - f j * Ideal.sin (ang l d) = turned f l n := by
  obtain rfl : i = n := Fin.ext hi
  unfold turned cosAt sinAt mate
  rw [if_pos h, if_pos h1, dif_pos h1, ← hd, sub_eq_add_neg, mul_neg]
  exact congrArg (fun z => _ + -(f z * _)) (Fin.ext hj)
/-- A column in the second half of its pair, as the reference turns it. -/
theorem turned_second (f : Fin 2560 → EReal) (l : Nat) (n i j : Fin 2560) (d : Nat) (h : n.val < 2304) (h1 : ¬n.val % 32 < 16) (hi : i.val = n.val) (hj : j.val = n.val - 16) (hd : d = lane n.val) :
    f i * Ideal.cos (ang l d) + f j * Ideal.sin (ang l d) = turned f l n := by
  obtain rfl : i = n := Fin.ext hi
  unfold turned cosAt sinAt mate
  rw [if_pos h, if_neg h1, dif_neg h1, ← hd]
  exact congrArg (fun z => _ + f z * _) (Fin.ext hj)
/-- A column of the values. -/
theorem turned_value (f : Fin 2560 → EReal) (l : Nat) (n i : Fin 2560) (h : ¬n.val < 2304) (hi : i.val = n.val) : f i = turned f l n := by
  obtain rfl : i = n := Fin.ext hi
  unfold turned
  rw [if_neg h]

/-- The reference's turned queries, keys and values. -/
theorem ref_turned (l : Fin 2048) (n : Fin 2560) : val_main_v144 (F := Ideal) x g sh sc w (ix3 b l n) = turned (fun j => val_main_v21 (F := Ideal) x g sh sc w (ix3 b l j)) l.val n := by
  unfold val_main_v144 val_main_v143 val_main_v142 val_main_v141 val_main_v140 val_main_v139 val_main_v138 val_main_v137 val_main_v136 val_main_v135 val_main_v134 val_main_v133 val_main_v132 val_main_v131 val_main_v130 val_main_v129 val_main_v128 val_main_v127 val_main_v126 val_main_v125 val_main_v124 val_main_v123 val_main_v122 val_main_v121 val_main_v120 val_main_v119 val_main_v118 val_main_v117 val_main_v116 val_main_v115 val_main_v114 val_main_v113 val_main_v112 val_main_v111 val_main_v110 val_main_v109 val_main_v108 val_main_v107 val_main_v106 val_main_v105 val_main_v104 val_main_v103 val_main_v102 val_main_v101 val_main_v100 val_main_v99 val_main_v98 val_main_v97 val_main_v96 val_main_v95 val_main_v94 val_main_v93 val_main_v92 val_main_v91 val_main_v90 val_main_v89 val_main_v88 val_main_v87 val_main_v86 val_main_v85 val_main_v84 val_main_v83 val_main_v82 val_main_v81 val_main_v80 val_main_v79 val_main_v78 val_main_v77 val_main_v76 val_main_v75 val_main_v74 val_main_v73 val_main_v72 val_main_v71 val_main_v70 val_main_v69 val_main_v68 val_main_v67 val_main_v66 val_main_v65 val_main_v64 val_main_v63 val_main_v62 val_main_v61 val_main_v60 val_main_v59 val_main_v58 val_main_v57 val_main_v56 val_main_v55 val_main_v54 val_main_v53 val_main_v52 val_main_v51 val_main_v50 val_main_v49
  pointwise
  simp only [ref_ang]
  split_ifs
  all_goals first
    | exact turned_first (fun j => val_main_v21 (F := Ideal) x g sh sc w (ix3 b l j)) l.val n _ _ _ (by omega) (by omega) (by dsimp only; omega) (by dsimp only; omega) (by unfold lane; split_ifs <;> omega)
    | exact turned_second (fun j => val_main_v21 (F := Ideal) x g sh sc w (ix3 b l j)) l.val n _ _ _ (by omega) (by omega) (by dsimp only; omega) (by dsimp only; omega) (by unfold lane; split_ifs <;> omega)
    | exact turned_value (fun j => val_main_v21 (F := Ideal) x g sh sc w (ix3 b l j)) l.val n _ (by omega) (by dsimp only; omega)
end Reference

end Cert.Rope
-- ==== Proof.InOdd.lean ====
/- The odd layers' input projection: the modulated norm of the rows times the weight, the queries and keys turned by the rotary angles. -/
module

public import proofs.«01_k».proof.Defs
public import proofs.«01_k».proof.Proof.Modulate
public import proofs.«01_k».proof.Proof.Rope
public import proofs.«01_k».proof.Proof.Gen.OddIn.Frame
public import proofs.«01_k».proof.Proof.Gen.OddInIdeal.Value
public import proofs.«01_k».proof.Proof.Gen.OddInRefIdeal.Read
public import Idealize.ShloMosaic.Lib.Pipeline.Value
public import Idealize.ShloMosaic.Lib.Pointwise
public import Idealize.ShloMosaic.Lib.VecWindow
public import Idealize.ShloMosaic.Lib.Quiescent

@[expose] public section

set_option maxRecDepth 16384

noncomputable section

namespace Cert.OddInIdeal.Proj

open Idealize.ShloMosaic Idealize.ShloMosaic.TcCoe Idealize.SL.Sem
open Cert.OddInIdeal Cert.OddInIdeal.Gen
open Cert.Modulate (mod normed)
open Cert.Rope (turned cosAt sinAt mate V_cos_apply V_sin_apply)

/-- The origin of a block of three axes. -/
theorem hz3 : (![0, 0, 0] : Fin 3 → Nat) = fun _ => 0 := funext fun a => by fin_cases a <;> rfl
/-- The origin of a block of two axes. -/
theorem hz2 : (![0, 0] : Fin 2 → Nat) = fun _ => 0 := funext fun a => by fin_cases a <;> rfl

variable (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x256 .bf16) (harg7 : arg7.IsWhole) (arg8 : Memref sig .tc .vmem S512x128 .f32) (harg8 : arg8.IsWhole) (arg9 : Memref sig .tc .vmem S512x128 .f32) (harg9 : arg9.IsWhole) (arg10 : Memref sig .tc .vmem S1x512x256 .f32) (harg10 : arg10.IsWhole) (arg11 : Memref sig .tc .vmem S512x2048 .bf16) (harg11 : arg11.IsWhole)
    (x0 : Vec Ideal S1x512x2048 .f32) (x1 : Vec Ideal S1x2048 .f32) (x2 : Vec Ideal S1x1x2048 .f32) (x3 : Vec Ideal S1x1x2048 .f32) (x4 : Vec Ideal S2048x256 .bf16) (x5 : Vec Ideal S512x128 .f32) (x6 : Vec Ideal S512x128 .f32) (xs0 : Vec Ideal S512x2048 .bf16)

/-- The two halves of a block lie in it. -/
theorem inb_o (n : Nat) (hn : n < 2) : ∀ a, (![0, 0, 128 * n] : Fin 3 → Nat) a + (![1, 512, 128] : Fin 3 → Nat) a ≤ S1x512x256.size a := by
  intro a; fin_cases a <;> simp [S1x512x256]; omega

/-- The first 128 columns a point stores. -/
def pc0 (a : Vec Ideal S512x2048 .bf16) (w : Vec Ideal S2048x256 .bf16) (cs sn : Vec Ideal S512x128 .f32) : Vec Ideal S1x512x128 .f32 := k0_pay7 (k0_pay2 a w) cs sn
/-- The second 128 columns a point stores. -/
def pc1 (a : Vec Ideal S512x2048 .bf16) (w : Vec Ideal S2048x256 .bf16) (cs sn : Vec Ideal S512x128 .f32) : Vec Ideal S1x512x128 .f32 :=
  k0_pay3 (k0_pay6 sn) (k0_pay9 (k0_pay2 a w) cs) (iota .tc S512x128 32 [1] iota_S512x128_d1_w32) (k0_pay10 (k0_pay2 a w)) (k0_pay11 (k0_pay2 a w)) 32#32 (Scalar.cmpi .eq 32#32 0#32)

/-- A point's two stores, each of half the columns. -/
def halves (a : Vec Ideal S512x2048 .bf16) (w : Vec Ideal S2048x256 .bf16) (cs sn : Vec Ideal S512x128 .f32) : List (View.Piece (Elt Ideal) S1x512x256 .f32) :=
  [⟨Rect.unit ![0, 0, 128 * 1] ![1, 512, 128] (inb_o 1 (by decide)), pc1 a w cs sn⟩, ⟨Rect.unit ![0, 0, 128 * 0] ![1, 512, 128] (inb_o 0 (by decide)), pc0 a w cs sn⟩]

/-- At the first column block a point stores the two turned halves, from the norm just computed. -/
theorem out_A (h0 : cond0_0 i) (h1 : cond0_1 i) (h2 : ¬cond0_2 i) : out0_A_7 c i arg3 harg3 arg4 harg4 arg5 harg5 arg6 harg6 arg7 harg7 arg8 harg8 arg9 harg9 arg10 harg10 arg11 harg11 h0 h1 h2 x0 x1 x2 x3 x4 x5 x6 = View.canon (halves (k0_pay1 x0 x1 x3 x2) x4 x5 x6) := by
  unfold out0_A_7
  rw [View.read_writes_eq_canon _ _ _ (cover0_A_7 c i arg3 harg3 arg4 harg4 arg5 harg5 arg6 harg6 arg7 harg7 arg8 harg8 arg9 harg9 arg10 harg10 arg11 harg11 h0 h1 h2 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread]
  have e0 : View.ld x0 (Rect.unit ![0, 0, 0] ![1, 512, 2048] inb_S1x512x2048_S1x512x2048_0_0_0) = x0 := View.ld_unit_zero hz3 _ _
  have e1 : View.ld x1 (Rect.unit ![0, 0] ![1, 2048] inb_S1x2048_S1x2048_0_0) = x1 := View.ld_unit_zero hz2 _ _
  have e2 : View.ld x2 (Rect.unit ![0, 0, 0] ![1, 1, 2048] inb_S1x1x2048_S1x1x2048_0_0_0) = x2 := View.ld_unit_zero hz3 _ _
  have e3 : View.ld x3 (Rect.unit ![0, 0, 0] ![1, 1, 2048] inb_S1x1x2048_S1x1x2048_0_0_0) = x3 := View.ld_unit_zero hz3 _ _
  have e4 : View.ld x4 (Rect.unit ![0, 0] ![2048, 256] inb_S2048x256_S2048x256_0_0) = x4 := View.ld_unit_zero hz2 _ _
  have e5 : View.ld x5 (Rect.unit ![0, 0] ![512, 128] inb_S512x128_S512x128_0_0) = x5 := View.ld_unit_zero hz2 _ _
  have e6 : View.ld x6 (Rect.unit ![0, 0] ![512, 128] inb_S512x128_S512x128_0_0) = x6 := View.ld_unit_zero hz2 _ _
  rw [e0, e1, e2, e3, e4, e5, e6, View.readCov_full]
  rfl
/-- At the other turned column blocks the norm is the one kept in the scratch. -/
theorem out_B (h0 : ¬cond0_0 i) (h1 : cond0_1 i) (h2 : ¬cond0_2 i) : out0_B_7 c i arg3 harg3 arg4 harg4 arg5 harg5 arg6 harg6 arg7 harg7 arg8 harg8 arg9 harg9 arg10 harg10 arg11 harg11 h0 h1 h2 x0 x1 x2 x3 x4 x5 x6 xs0 = View.canon (halves xs0 x4 x5 x6) := by
  unfold out0_B_7
  rw [View.read_writes_eq_canon _ _ _ (cover0_B_7 c i arg3 harg3 arg4 harg4 arg5 harg5 arg6 harg6 arg7 harg7 arg8 harg8 arg9 harg9 arg10 harg10 arg11 harg11 h0 h1 h2 x0 x1 x2 x3 x4 x5 x6 xs0)]
  unfold kernelRun0_B
  dsimp only
  sl_unfold_words
  simp only [View.readAt_eq_ld, harg3.read_unread, harg4.read_unread, harg5.read_unread, harg6.read_unread, harg7.read_unread, harg8.read_unread, harg9.read_unread, harg11.read_unread]
  have es : View.ld xs0 (Rect.unit ![0, 0] ![512, 2048] inb_S512x2048_S512x2048_0_0) = xs0 := View.ld_unit_zero hz2 _ _
  have e4 : View.ld x4 (Rect.unit ![0, 0] ![2048, 256] inb_S2048x256_S2048x256_0_0) = x4 := View.ld_unit_zero hz2 _ _
  have e5 : View.ld x5 (Rect.unit ![0, 0] ![512, 128] inb_S512x128_S512x128_0_0) = x5 := View.ld_unit_zero hz2 _ _
  have e6 : View.ld x6 (Rect.unit ![0, 0] ![512, 128] inb_S512x128_S512x128_0_0) = x6 := View.ld_unit_zero hz2 _ _
  rw [es, e4, e5, e6]
  rfl
/-- At the first column block the scratch is left holding the modulated norm of the rows. -/
theorem sout_A (h0 : cond0_0 i) (h1 : cond0_1 i) (h2 : ¬cond0_2 i) : sout0_A_0 c i arg3 harg3 arg4 harg4 arg5 harg5 arg6 harg6 arg7 harg7 arg8 harg8 arg9 harg9 arg10 harg10 arg11 harg11 h0 h1 h2 x0 x1 x2 x3 x4 x5 x6 = k0_pay1 x0 x1 x3 x2 := by
  unfold sout0_A_0
  rw [View.read_writes_eq_canon _ _ _ (scover0_A_0 c i arg3 harg3 arg4 harg4 arg5 harg5 arg6 harg6 arg7 harg7 arg8 harg8 arg9 harg9 arg10 harg10 arg11 harg11 h0 h1 h2 x0 x1 x2 x3 x4 x5 x6)]
  unfold kernelRun0_A
  dsimp only
  sl_unfold_words
  simp only [View.readAt_eq_ld, harg3.read_unread, harg4.read_unread, harg5.read_unread, harg6.read_unread, harg7.read_unread, harg8.read_unread, harg9.read_unread]
  rw [View.canon_unit_zero hz2, View.ld_unit_zero hz3, View.ld_unit_zero hz2, View.ld_unit_zero hz3, View.ld_unit_zero hz3]
/-- At the last column block, the values, the product is stored as it is. -/
theorem out_C (h0 : ¬cond0_0 i) (h1 : ¬cond0_1 i) (h2 : cond0_2 i) : out0_C_7 c i arg3 harg3 arg4 harg4 arg5 harg5 arg6 harg6 arg7 harg7 arg8 harg8 arg9 harg9 arg10 harg10 arg11 harg11 h0 h1 h2 x0 x1 x2 x3 x4 x5 x6 xs0 = k0_pay4 xs0 x4 := by
  unfold out0_C_7
  rw [View.read_writes_eq_canon _ _ _ (cover0_C_7 c i arg3 harg3 arg4 harg4 arg5 harg5 arg6 harg6 arg7 harg7 arg8 harg8 arg9 harg9 arg10 harg10 arg11 harg11 h0 h1 h2 x0 x1 x2 x3 x4 x5 x6 xs0)]
  unfold kernelRun0_C
  dsimp only
  sl_unfold_words
  simp only [View.readAt_eq_ld, harg3.read_unread, harg4.read_unread, harg5.read_unread, harg6.read_unread, harg7.read_unread, harg8.read_unread, harg9.read_unread, harg11.read_unread]
  rw [View.canon_unit_zero hz3, View.ld_unit_zero hz2, View.ld_unit_zero hz2]

/-- The mask bit of a lane. -/
def bit (n : Nat) : BitVec 1 :=
  IntOp.cmpi .slt (Scalar.select
    (IntOp.andi
      (IntOp.xori (IntOp.cmpi .slt (IntOp.remsi .vector (BitVec.ofNat 32 n) (Scalar.select (Scalar.cmpi .eq 32#32 0#32) 1#32 32#32)) 0#32)
        (Scalar.cmpi .slt (Scalar.select (Scalar.cmpi .eq 32#32 0#32) 1#32 32#32) 0#32))
      (IntOp.cmpi .ne (IntOp.remsi .vector (BitVec.ofNat 32 n) (Scalar.select (Scalar.cmpi .eq 32#32 0#32) 1#32 32#32)) 0#32))
    (IntOp.addi (IntOp.remsi .vector (BitVec.ofNat 32 n) (Scalar.select (Scalar.cmpi .eq 32#32 0#32) 1#32 32#32)) (Scalar.select (Scalar.cmpi .eq 32#32 0#32) 1#32 32#32))
    (IntOp.remsi .vector (BitVec.ofNat 32 n) (Scalar.select (Scalar.cmpi .eq 32#32 0#32) 1#32 32#32))) 16#32

/-- It is set in the first half of each pair. -/
theorem bit_eq : ∀ n : Fin 128, bit n.val = if n.val % 32 < 16 then 1#1 else 0#1 := by decide +kernel

/-- A choice by the mask bit. -/
theorem sel_bit (n : Fin 128) (a b : EReal) : Scalar.select (bit n.val) a b = if n.val % 32 < 16 then a else b := by
  rw [bit_eq]
  split_ifs <;> rfl

/-- The column of a block a column is turned with. -/
def bmate (n : Fin 256) : Fin 256 := if h : n.val % 32 < 16 then ⟨n.val + 16, by omega⟩ else ⟨n.val - 16, by omega⟩

/-- A block's product turned by its tables. -/
def turnBlk (p : Vec Ideal S512x256 .f32) (cs sn : Vec Ideal S512x128 .f32) (r : Fin 512) (n : Fin 256) : EReal :=
  p (ix2 r n) * cs (ix2 r ⟨n.val % 128, by omega⟩) + p (ix2 r (bmate n)) * sn (ix2 r ⟨n.val % 128, by omega⟩)

/-- An element of a turned block, from the columns read. -/
theorem turn_of (p : Vec Ideal S512x256 .f32) (cs sn : Vec Ideal S512x128 .f32) (r : Fin 512) (N i j j' : Fin 256) (n : Fin 128) (hn : N.val % 128 = n.val) (hi : i.val = N.val)
    (hj : n.val % 32 < 16 → j.val = N.val + 16) (hj' : ¬n.val % 32 < 16 → j'.val = N.val - 16) :
    p (ix2 r i) * cs (ix2 r n) + (if n.val % 32 < 16 then p (ix2 r j) else p (ix2 r j')) * sn (ix2 r n) = turnBlk p cs sn r N := by
  obtain rfl : i = N := Fin.ext hi
  have e : (⟨i.val % 128, by omega⟩ : Fin 128) = n := Fin.ext hn
  have e2 : (if n.val % 32 < 16 then p (ix2 r j) else p (ix2 r j')) = p (ix2 r (bmate i)) := by
    unfold bmate
    by_cases h : n.val % 32 < 16
    · rw [if_pos h, dif_pos (by omega)]
      exact congrArg (fun q => p (ix2 r q)) (Fin.ext (hj h))
    · rw [if_neg h, dif_neg (by omega)]
      exact congrArg (fun q => p (ix2 r q)) (Fin.ext (hj' h))
  unfold turnBlk
  rw [e, e2]

/-- The first half's elements. -/
theorem pc0_apply (a : Vec Ideal S512x2048 .bf16) (w : Vec Ideal S2048x256 .bf16) (cs sn : Vec Ideal S512x128 .f32) (z : Fin 1) (r : Fin 512) (n : Fin 128) :
    pc0 a w cs sn (ix3 z r n) = turnBlk (k0_pay2 a w) cs sn r ⟨128 * 0 + n.val, by omega⟩ := by
  unfold pc0 k0_pay7 k0_pay5 k0_pay6
  pointwise
  refine (congrArg (fun q => _ + q * _) (sel_bit n _ _)).trans ?_
  exact turn_of _ cs sn r _ _ _ _ n (by dsimp only; omega) (by dsimp only <;> omega) (fun h => by dsimp only; omega) (fun h => by dsimp only; omega)
/-- The second half's elements. -/
theorem pc1_apply (a : Vec Ideal S512x2048 .bf16) (w : Vec Ideal S2048x256 .bf16) (cs sn : Vec Ideal S512x128 .f32) (z : Fin 1) (r : Fin 512) (n : Fin 128) :
    pc1 a w cs sn (ix3 z r n) = turnBlk (k0_pay2 a w) cs sn r ⟨128 * 1 + n.val, by omega⟩ := by
  unfold pc1 k0_pay3 k0_pay6 k0_pay9 k0_pay10 k0_pay11 k0_pay8 k0_pay5
  pointwise
  refine (congrArg (fun q => _ + q * _) (sel_bit n _ _)).trans ?_
  exact turn_of _ cs sn r _ _ _ _ n (by dsimp only; omega) (by dsimp only <;> omega) (fun h => by dsimp only; omega) (fun h => by dsimp only; omega)

/-- Where a half's element lies in the block. -/
theorem half_emb (k : Nat) (hk : k < 2) (z : Fin 1) (r : Fin 512) (d : Fin 128) :
    (Rect.unit (s := S1x512x256) ![0, 0, 128 * k] ![1, 512, 128] (inb_o k hk)).emb (ix3 z r d) = (ix3 z r ⟨128 * k + d.val, by omega⟩ : S1x512x256.Idx) := by
  funext a
  apply Fin.ext
  match a with
  | ⟨0, _⟩ => show 0 + 1 * z.val = z.val; omega
  | ⟨1, _⟩ => show 0 + 1 * r.val = r.val; omega
  | ⟨2, _⟩ => show 128 * k + 1 * d.val = 128 * k + d.val; omega
/-- A column lies in the half it is of. -/
theorem mem_half (k : Nat) (hk : k < 2) (y : S1x512x256.Idx) (hy : (y 2).val / 128 = k) : y ∈ (Rect.unit (s := S1x512x256) ![0, 0, 128 * k] ![1, 512, 128] (inb_o k hk)).set := by
  refine Rect.mem_set_unit.mpr ?_
  intro a
  match a with
  | ⟨0, _⟩ => exact ⟨Nat.zero_le _, by have : (y 0).val < 1 := (y 0).isLt; show (y 0).val < 0 + 1; omega⟩
  | ⟨1, _⟩ => exact ⟨Nat.zero_le _, by have : (y 1).val < 512 := (y 1).isLt; show (y 1).val < 0 + 512; omega⟩
  | ⟨2, _⟩ => exact ⟨by show 128 * k ≤ (y 2).val; omega, by show (y 2).val < 128 * k + 128; omega⟩

/-- The two halves together are the turned block. -/
theorem halves_apply (a : Vec Ideal S512x2048 .bf16) (w : Vec Ideal S2048x256 .bf16) (cs sn : Vec Ideal S512x128 .f32) (z : Fin 1) (r : Fin 512) (n : Fin 256) :
    View.canon (halves a w cs sn) (ix3 z r n) = turnBlk (k0_pay2 a w) cs sn r n := by
  refine View.canon_apply_of_pieces (Val := Elt Ideal) (e := .f32) (fun y : S1x512x256.Idx => turnBlk (k0_pay2 a w) cs sn (y 1) (y 2)) _ ?_ (ix3 z r n) ?_
  · unfold halves
    refine List.forall_mem_cons.mpr ⟨fun x => ?_, List.forall_mem_cons.mpr ⟨fun x => ?_, fun p hp => absurd hp (List.not_mem_nil)⟩⟩
    · obtain ⟨z, r, d, rfl⟩ : ∃ (z : Fin 1) (r : Fin 512) (d : Fin 128), x = ix3 z r d := ⟨x 0, x 1, x 2, eq_ix3 x⟩
      dsimp only
      rw [half_emb 1 (by decide)]
      exact pc1_apply a w cs sn z r d
    · obtain ⟨z, r, d, rfl⟩ : ∃ (z : Fin 1) (r : Fin 512) (d : Fin 128), x = ix3 z r d := ⟨x 0, x 1, x 2, eq_ix3 x⟩
      dsimp only
      rw [half_emb 0 (by decide)]
      exact pc0_apply a w cs sn z r d
  · by_cases h : n.val < 128
    · exact ⟨_, List.mem_cons_of_mem _ List.mem_cons_self, mem_half 0 (by decide) _ (by show n.val / 128 = 0; omega)⟩
    · exact ⟨_, List.mem_cons_self, mem_half 1 (by decide) _ (by show n.val / 128 = 1; omega)⟩

variable (m : (ℓ : Loc nD τ sig) → Buf (Elt Ideal) ℓ)

/-- The weight buffer, element by element. -/
theorem V_w (k : Fin 2048) (n : Fin 2560) : V m c main_v0 (ix2 k n) = m ((c : Thread nD τ).loc main_arg4) (ix2 k n) := by
  have h : V m c main_v0 = ((truncf (F := Ideal) (φ := .f32) .bf16 · bitsLt_bf16_f32) : (⟨S2048x2560, .f32⟩ : BufTy).Contents (Elt Ideal) → (⟨S2048x2560, .bf16⟩ : BufTy).Contents (Elt Ideal)) (m ((c : Thread nD τ).loc main_arg4)) := by
    show StableHlo.after hostOps0 (fun b => m (c, b)) main_v0 = _
    unfold hostOps0
    after_results_simp
  rw [h]
  rfl

/-- The gain, as the kernel is handed it. -/
theorem V_gain (z : Fin 1) (k : Fin 2048) : V m c main_v43 (ix2 z k) = m ((c : Thread nD τ).loc main_arg1) (ix1 k) := by
  have h : V m c main_v43 = (fun x => shapeCast S1x2048 x shapeCasts_S2048_S1x2048 : (⟨S2048, .f32⟩ : BufTy).Contents (Elt Ideal) → (⟨S1x2048, .f32⟩ : BufTy).Contents (Elt Ideal))
      (m ((c : Thread nD τ).loc main_arg1)) := by
    show StableHlo.after hostOps0 (fun b => m (c, b)) main_v43 = _
    unfold hostOps0
    after_results_simp
    rfl
  rw [h]
  dsimp only
  pointwise
/-- The shift, a row of one for each batch row. -/
theorem V_shift (b : Fin 8) (z : Fin 1) (k : Fin 2048) : V m c main_v44 (ix3 b z k) = m ((c : Thread nD τ).loc main_arg2) (ix2 b k) := by
  have h : V m c main_v44 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg2)) := by
    show StableHlo.after hostOps0 (fun b => m (c, b)) main_v44 = _
    unfold hostOps0
    after_results_simp
    rfl
  rw [h]
  dsimp only
  pointwise
/-- The scale, a row of one for each batch row. -/
theorem V_scale (b : Fin 8) (z : Fin 1) (k : Fin 2048) : V m c main_v45 (ix3 b z k) = m ((c : Thread nD τ).loc main_arg3) (ix2 b k) := by
  have h : V m c main_v45 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg3)) := by
    show StableHlo.after hostOps0 (fun b => m (c, b)) main_v45 = _
    unfold hostOps0
    after_results_simp
    rfl
  rw [h]
  dsimp only
  pointwise

/-- The block each point works on. -/
theorem idx_facts : ∀ t : Fin cfg0.N,
    (win0_0.index t 0 = t.val / 40 ∧ win0_0.index t 1 = t.val / 10 % 4 ∧ win0_0.index t 2 = 0)
    ∧ (win0_1.index t 0 = 0 ∧ win0_1.index t 1 = 0)
    ∧ (win0_2.index t 0 = t.val / 40 ∧ win0_2.index t 1 = 0 ∧ win0_2.index t 2 = 0)
    ∧ (win0_3.index t 0 = t.val / 40 ∧ win0_3.index t 1 = 0 ∧ win0_3.index t 2 = 0)
    ∧ (win0_4.index t 0 = 0 ∧ win0_4.index t 1 = t.val % 10)
    ∧ (win0_7.index t 0 = t.val / 40 ∧ win0_7.index t 1 = t.val / 10 % 4 ∧ win0_7.index t 2 = t.val % 10)
    ∧ (win0_5.index t 0 = t.val / 10 % 4 ∧ win0_5.index t 1 = 0)
    ∧ (win0_6.index t 0 = t.val / 10 % 4 ∧ win0_6.index t 1 = 0) := by decide +kernel

/-- The grid has 320 points. -/
theorem lt320 (t : Fin cfg0.N) : t.val < 320 := Nat.lt_of_lt_of_eq t.isLt N_0

/-- The batch row of a point. -/
def bOf (n : Nat) (h : n < cfg0.N) : Fin 8 := ⟨n / 40, by have := lt320 ⟨n, h⟩; dsimp only at this; omega⟩
/-- The row of the result that a row of a point's block is. -/
def row (n : Nat) (r : Fin 512) : Fin 2048 := ⟨512 * (n / 10 % 4) + r.val, by omega⟩
/-- The column of the result that a column of a point's block is. -/
def col (n : Nat) (j : Fin 256) : Fin 2560 := ⟨256 * (n % 10) + j.val, by omega⟩

/-- A point's block of the rows, element by element. -/
theorem iblk0_apply (t : Fin cfg0.N) (z : Fin 1) (r : Fin 512) (k : Fin 2048) :
    iblk m c 0 t (ix3 z r k) = m ((c : Thread nD τ).loc main_arg0) (ix3 (bOf t.val t.isLt) (row t.val r) k) := by
  obtain ⟨⟨h0, h1, h2⟩, -⟩ := idx_facts t
  rw [← V_main_arg0 m c]
  refine congrArg (V m c main_arg0) (funext fun a => Fin.ext ?_)
  match a with
  | ⟨0, _⟩ => show win0_0.index t 0 * 1 + 1 * z.val = t.val / 40; omega
  | ⟨1, _⟩ => show win0_0.index t 1 * 512 + 1 * r.val = 512 * (t.val / 10 % 4) + r.val; omega
  | ⟨2, _⟩ => show win0_0.index t 2 * 2048 + 1 * k.val = k.val; omega
/-- A point's block of the gain, element by element. -/
theorem iblk1_apply (t : Fin cfg0.N) (z : Fin 1) (k : Fin 2048) : iblk m c 1 t (ix2 z k) = m ((c : Thread nD τ).loc main_arg1) (ix1 k) := by
  obtain ⟨-, ⟨h0, h1⟩, -⟩ := idx_facts t
  rw [← V_gain c m 0]
  refine congrArg (V m c main_v43) (funext fun a => Fin.ext ?_)
  match a with
  | ⟨0, _⟩ => show win0_1.index t 0 * 1 + 1 * z.val = 0; omega
  | ⟨1, _⟩ => show win0_1.index t 1 * 2048 + 1 * k.val = k.val; omega
/-- A point's block of the shift, element by element. -/
theorem iblk2_apply (t : Fin cfg0.N) (z y : Fin 1) (k : Fin 2048) :
    iblk m c 2 t (ix3 z y k) = m ((c : Thread nD τ).loc main_arg2) (ix2 (bOf t.val t.isLt) k) := by
  obtain ⟨-, -, ⟨h0, h1, h2⟩, -⟩ := idx_facts t
  rw [← V_shift c m _ 0]
  refine congrArg (V m c main_v44) (funext fun a => Fin.ext ?_)
  match a with
  | ⟨0, _⟩ => show win0_2.index t 0 * 1 + 1 * z.val = t.val / 40; omega
  | ⟨1, _⟩ => show win0_2.index t 1 * 1 + 1 * y.val = 0; omega
  | ⟨2, _⟩ => show win0_2.index t 2 * 2048 + 1 * k.val = k.val; omega
/-- A point's block of the scale, element by element. -/
theorem iblk3_apply (t : Fin cfg0.N) (z y : Fin 1) (k : Fin 2048) :
    iblk m c 3 t (ix3 z y k) = m ((c : Thread nD τ).loc main_arg3) (ix2 (bOf t.val t.isLt) k) := by
  obtain ⟨-, -, -, ⟨h0, h1, h2⟩, -⟩ := idx_facts t
  rw [← V_scale c m _ 0]
  refine congrArg (V m c main_v45) (funext fun a => Fin.ext ?_)
  match a with
  | ⟨0, _⟩ => show win0_3.index t 0 * 1 + 1 * z.val = t.val / 40; omega
  | ⟨1, _⟩ => show win0_3.index t 1 * 1 + 1 * y.val = 0; omega
  | ⟨2, _⟩ => show win0_3.index t 2 * 2048 + 1 * k.val = k.val; omega
/-- A point's block of the weight, element by element. -/
theorem iblk4_apply (t : Fin cfg0.N) (k : Fin 2048) (j : Fin 256) : iblk m c 4 t (ix2 k j) = m ((c : Thread nD τ).loc main_arg4) (ix2 k (col t.val j)) := by
  obtain ⟨-, -, -, -, ⟨h0, h1⟩, -⟩ := idx_facts t
  rw [← V_w c m]
  refine congrArg (V m c main_v0) (funext fun a => Fin.ext ?_)
  match a with
  | ⟨0, _⟩ => show win0_4.index t 0 * 2048 + 1 * k.val = k.val; omega
  | ⟨1, _⟩ => show win0_4.index t 1 * 256 + 1 * j.val = 256 * (t.val % 10) + j.val; omega
/-- A point's block of the cosines, element by element. -/
theorem iblk5_apply (t : Fin cfg0.N) (r : Fin 512) (j : Fin 128) : iblk m c 5 t (ix2 r j) = cosAt (row t.val r).val j.val := by
  obtain ⟨-, -, -, -, -, -, ⟨h0, h1⟩, -⟩ := idx_facts t
  rw [← V_cos_apply m c]
  refine congrArg (V m c main_v39) (funext fun a => Fin.ext ?_)
  match a with
  | ⟨0, _⟩ => show win0_5.index t 0 * 512 + 1 * r.val = 512 * (t.val / 10 % 4) + r.val; omega
  | ⟨1, _⟩ => show win0_5.index t 1 * 128 + 1 * j.val = j.val; omega
/-- A point's block of the signed sines, element by element. -/
theorem iblk6_apply (t : Fin cfg0.N) (r : Fin 512) (j : Fin 128) : iblk m c 6 t (ix2 r j) = sinAt (row t.val r).val j.val := by
  obtain ⟨-, -, -, -, -, -, -, ⟨h0, h1⟩⟩ := idx_facts t
  rw [← V_sin_apply m c]
  refine congrArg (V m c main_v42) (funext fun a => Fin.ext ?_)
  match a with
  | ⟨0, _⟩ => show win0_6.index t 0 * 512 + 1 * r.val = 512 * (t.val / 10 % 4) + r.val; omega
  | ⟨1, _⟩ => show win0_6.index t 1 * 128 + 1 * j.val = j.val; omega

/-- The norm a point's rows get, element by element. -/
theorem pay1_apply (x : Vec Ideal S1x512x2048 .f32) (g : Vec Ideal S1x2048 .f32) (sc sh : Vec Ideal S1x1x2048 .f32) (r : Fin 512) (k : Fin 2048) :
    k0_pay1 x g sc sh (ix2 r k) = mod (fun j => x (ix3 0 r j)) (fun j => g (ix2 0 j)) (fun j => sh (ix3 0 0 j)) (fun j => sc (ix3 0 0 j)) k := by
  unfold k0_pay1
  pointwise
  rfl
/-- The product with the weight block, element by element. -/
theorem pay2_apply (a : Vec Ideal S512x2048 .bf16) (w : Vec Ideal S2048x256 .bf16) (r : Fin 512) (n : Fin 256) :
    k0_pay2 a w (ix2 r n) = (∑ k : Fin 2048, a (ix2 r k) * w (ix2 k n) : EReal) := by
  unfold k0_pay2
  pointwise
/-- The product stored as it is. -/
theorem pay4_apply (a : Vec Ideal S512x2048 .bf16) (w : Vec Ideal S2048x256 .bf16) (z : Fin 1) (r : Fin 512) (n : Fin 256) : k0_pay4 a w (ix3 z r n) = k0_pay2 a w (ix2 r n) := by
  unfold k0_pay4
  pointwise

/-- The norm computed at a point from its blocks. -/
theorem pay1_blk (t : Fin cfg0.N) (r : Fin 512) (k : Fin 2048) :
    k0_pay1 (iblk m c 0 t) (iblk m c 1 t) (iblk m c 3 t) (iblk m c 2 t) (ix2 r k)
      = normed (m ((c : Thread nD τ).loc main_arg0)) (m ((c : Thread nD τ).loc main_arg1)) (m ((c : Thread nD τ).loc main_arg2)) (m ((c : Thread nD τ).loc main_arg3))
        (bOf t.val t.isLt) (row t.val r) k := by
  refine (pay1_apply _ _ _ _ r k).trans ?_
  simp only [iblk0_apply, iblk1_apply, iblk2_apply, iblk3_apply]
  rfl

/-- After every point the scratch holds the modulated norm of the point's rows. -/
theorem scr_eq (n : Nat) : ∀ (h : n < cfg0.N) (r : Fin 512) (k : Fin 2048), (outsAt0 m c n h).2 (ix2 r k)
      = normed (m ((c : Thread nD τ).loc main_arg0)) (m ((c : Thread nD τ).loc main_arg1)) (m ((c : Thread nD τ).loc main_arg2)) (m ((c : Thread nD τ).loc main_arg3))
        (bOf n h) (row n r) k := by
  induction n using Nat.strong_induction_on with
  | _ n ih =>
    intro h r k
    by_cases h0 : n % 10 = 0
    · rw [outsAt0_A m c ⟨n, h⟩ h0 (by dsimp only; omega) (by dsimp only; omega)]
      dsimp only
      rw [sout_A]
      exact pay1_blk c m ⟨n, h⟩ r k
    · have key : (outsAt0 m c n h).2 = (outsAt0 m c (n - 1) (by omega)).2 := by
        by_cases h2 : n % 10 = 9
        · rw [outsAt0_C m c ⟨n, h⟩ h0 (by dsimp only; omega) h2]
          rfl
        · rw [outsAt0_B m c ⟨n, h⟩ h0 (by dsimp only; omega) h2]
          rfl
      rw [key]
      refine (ih (n - 1) (by omega) (by omega) r k).trans ?_
      congr 1
      · exact Fin.ext (by show (n - 1) / 40 = n / 40; omega)
      · exact Fin.ext (by show 512 * ((n - 1) / 10 % 4) + r.val = 512 * (n / 10 % 4) + r.val; omega)

/-- A row of the projection: the normed row times the weight's columns. -/
def prod (x : S8x2048x2048.Idx → EReal) (g : S2048.Idx → EReal) (sh sc : S8x2048.Idx → EReal) (w : S2048x2560.Idx → EReal) (b : Fin 8) (l : Fin 2048) (n : Fin 2560) : EReal :=
  ∑ k : Fin 2048, normed x g sh sc b l k * w (ix2 k n)

/-- An element of the result: the row of the projection, its queries and keys turned. -/
def proj (x : S8x2048x2048.Idx → EReal) (g : S2048.Idx → EReal) (sh sc : S8x2048.Idx → EReal) (w : S2048x2560.Idx → EReal) (b : Fin 8) (l : Fin 2048) (n : Fin 2560) : EReal :=
  turned (prod x g sh sc w b l) l.val n

/-- The result as a whole array. -/
def res : S8x2048x2560.Idx → EReal := fun i =>
  proj (m ((c : Thread nD τ).loc main_arg0)) (m ((c : Thread nD τ).loc main_arg1)) (m ((c : Thread nD τ).loc main_arg2)) (m ((c : Thread nD τ).loc main_arg3)) (m ((c : Thread nD τ).loc main_arg4)) (i 0) (i 1) (i 2)

/-- A block's column factor is the column's. -/
theorem cosAt_mod (l a : Nat) (n : Nat) (h : n % 64 = a % 64) : cosAt l n = cosAt l a := by
  have e : Cert.Rope.lane n = Cert.Rope.lane a := by unfold Cert.Rope.lane; split_ifs <;> omega
  unfold cosAt
  rw [e]
/-- A block's factor of the mate is the column's. -/
theorem sinAt_mod (l a : Nat) (n : Nat) (h : n % 64 = a % 64) : sinAt l n = sinAt l a := by
  have e : Cert.Rope.lane n = Cert.Rope.lane a := by unfold Cert.Rope.lane; split_ifs <;> omega
  unfold sinAt
  rw [e, show n % 32 = a % 32 from by omega]

/-- A turned block is its part of the turned rows. -/
theorem turn_blk (t : Fin cfg0.N) (a : Vec Ideal S512x2048 .bf16) (r : Fin 512) (n : Fin 256) (h : t.val % 10 ≤ 8)
    (ha : ∀ k : Fin 2048, a (ix2 r k) = normed (m ((c : Thread nD τ).loc main_arg0)) (m ((c : Thread nD τ).loc main_arg1)) (m ((c : Thread nD τ).loc main_arg2)) (m ((c : Thread nD τ).loc main_arg3)) (bOf t.val t.isLt) (row t.val r) k) :
    turnBlk (k0_pay2 a (iblk m c 4 t)) (iblk m c 5 t) (iblk m c 6 t) r n = proj (m ((c : Thread nD τ).loc main_arg0)) (m ((c : Thread nD τ).loc main_arg1)) (m ((c : Thread nD τ).loc main_arg2)) (m ((c : Thread nD τ).loc main_arg3)) (m ((c : Thread nD τ).loc main_arg4)) (bOf t.val t.isLt) (row t.val r) (col t.val n) := by
  have hp : ∀ n' : Fin 256, k0_pay2 a (iblk m c 4 t) (ix2 r n') = prod (m ((c : Thread nD τ).loc main_arg0)) (m ((c : Thread nD τ).loc main_arg1)) (m ((c : Thread nD τ).loc main_arg2)) (m ((c : Thread nD τ).loc main_arg3)) (m ((c : Thread nD τ).loc main_arg4)) (bOf t.val t.isLt) (row t.val r) (col t.val n') := fun n' => by
    refine (pay2_apply _ _ r n').trans ?_
    simp only [ha, iblk4_apply]
    rfl
  have hm : col t.val (bmate n) = mate (col t.val n) := by
    unfold bmate mate col
    apply Fin.ext
    dsimp only
    split_ifs <;> dsimp only <;> omega
  have hc : (col t.val n).val = 256 * (t.val % 10) + n.val := rfl
  unfold turnBlk proj turned
  rw [if_pos (by omega), hp, hp, iblk5_apply, iblk6_apply, hm, cosAt_mod _ (col t.val n).val _ (by dsimp only; omega), sinAt_mod _ (col t.val n).val _ (by dsimp only; omega)]

/-- What a point leaves in the output's staging buffer, element by element. -/
theorem out_apply (t : Fin cfg0.N) (z : Fin 1) (r : Fin 512) (n : Fin 256) : (outsAt0 m c t.val t.isLt).1 (ix3 z r n) = proj (m ((c : Thread nD τ).loc main_arg0)) (m ((c : Thread nD τ).loc main_arg1)) (m ((c : Thread nD τ).loc main_arg2)) (m ((c : Thread nD τ).loc main_arg3)) (m ((c : Thread nD τ).loc main_arg4)) (bOf t.val t.isLt) (row t.val r) (col t.val n) := by
  by_cases h0 : t.val % 10 = 0
  · rw [outsAt0_A m c t h0 (by omega) (by omega)]
    dsimp only
    rw [out_A]
    exact (halves_apply _ _ _ _ z r n).trans (turn_blk c m t _ r n (by omega) (pay1_blk c m t r))
  · have hs := scr_eq c m (t.val - 1) (Nat.lt_of_le_of_lt (Nat.sub_le _ _) t.isLt) r
    have e1 : bOf (t.val - 1) (Nat.lt_of_le_of_lt (Nat.sub_le _ _) t.isLt) = bOf t.val t.isLt := Fin.ext (by show (t.val - 1) / 40 = t.val / 40; omega)
    have e2 : row (t.val - 1) r = row t.val r := Fin.ext (by show 512 * ((t.val - 1) / 10 % 4) + r.val = 512 * (t.val / 10 % 4) + r.val; omega)
    rw [e1, e2] at hs
    by_cases h2 : t.val % 10 = 9
    · rw [outsAt0_C m c t h0 (by omega) h2]
      dsimp only
      rw [out_C]
      refine (pay4_apply _ _ z r n).trans ((pay2_apply _ _ r n).trans ?_)
      simp only [hs, iblk4_apply]
      have hc : (col t.val n).val = 256 * (t.val % 10) + n.val := rfl
      unfold proj turned
      rw [if_neg (by omega)]
      rfl
    · rw [outsAt0_B m c t h0 (by omega) h2]
      dsimp only
      rw [out_B]
      exact (halves_apply _ _ _ _ z r n).trans (turn_blk c m t _ r n (by omega) hs)

/-- What a point writes back is its block of the result. -/
theorem flushed_res (t : Fin cfg0.N) : (dats m 0 c).flushed 7 t = ((cfg0.win 7).blk t).view.read (Elt Ideal) (res c m) := by
  rw [Value.flushed7]
  obtain ⟨-, -, -, -, -, ⟨h0, h1, h2⟩, -, -⟩ := idx_facts t
  funext y
  obtain ⟨z, r, n, rfl⟩ : ∃ (z : Fin 1) (r : Fin 512) (n : Fin 256), y = ix3 z r n := ⟨y 0, y 1, y 2, eq_ix3 y⟩
  refine (out_apply c m t z r n).trans ?_
  show proj _ _ _ _ _ (bOf t.val t.isLt) (row t.val r) (col t.val n) = proj _ _ _ _ _ _ _ _
  congr 1
  · exact Fin.ext (by show t.val / 40 = win0_7.index t 0 * 1 + 1 * z.val; omega)
  · exact Fin.ext (by show 512 * (t.val / 10 % 4) + r.val = win0_7.index t 1 * 512 + 1 * r.val; omega)
  · exact Fin.ext (by show 256 * (t.val % 10) + n.val = win0_7.index t 2 * 256 + 1 * n.val; omega)

/-- Every element of the result lies in some point's block. -/
theorem cover_res (y : S8x2048x2560.Idx) : ∃ t : Fin cfg0.N, (cfg0.win 7).flush t = true ∧ y ∈ ((cfg0.win 7).blk t).view.set := by
  have y0 : (y 0).val < 8 := (y 0).isLt
  have y1 : (y 1).val < 2048 := (y 1).isLt
  have y2 : (y 2).val < 2560 := (y 2).isLt
  have ht : 40 * (y 0).val + 10 * ((y 1).val / 512) + (y 2).val / 256 < cfg0.N := by rw [show cfg0.N = 320 from N_0]; omega
  refine ⟨⟨_, ht⟩, flush0_7 _, ?_⟩
  obtain ⟨-, -, -, -, -, ⟨h0, h1, h2⟩, -, -⟩ := idx_facts ⟨_, ht⟩
  show y ∈ ((View.whole main_v46).slice (win0_7.rect ⟨_, ht⟩)).set
  rw [View.set_slice_whole, Rect.mem_set_unit]
  dsimp only at h0 h1 h2
  intro a
  match a with
  | ⟨0, _⟩ => show win0_7.index _ 0 * 1 ≤ (y 0).val ∧ (y 0).val < win0_7.index _ 0 * 1 + 1; rw [h0]; omega
  | ⟨1, _⟩ => show win0_7.index _ 1 * 512 ≤ (y 1).val ∧ (y 1).val < win0_7.index _ 1 * 512 + 512; rw [h1]; omega
  | ⟨2, _⟩ => show win0_7.index _ 2 * 256 ≤ (y 2).val ∧ (y 2).val < win0_7.index _ 2 * 256 + 256; rw [h2]; omega

/-- The program's run: its result is the projection of its arguments, which it leaves as they were. -/
theorem run_res (ρ : Dev nD → PrngReg) : θ_run defs (onTc (τ := τ) (main (F := Ideal))) ⟨m, fun _ => 0, ρ⟩ fun r => ∀ c : Dev nD,
      r.2.mem ((c : Thread nD τ).loc main_v46) = res c m
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 7 _ (fun t _ => flushed_res c m t) cover_res),
    (h c).2⟩) (Value.run_blocks m ρ)
end Cert.OddInIdeal.Proj

namespace Cert.InOdd

open Idealize.ShloMosaic Idealize.ShloMosaic.TcCoe Idealize.SL.Sem
open Cert.OddInRefIdeal Cert.OddInRefIdeal.Read
open Cert.Modulate (normed)
open Cert.OddInIdeal.Proj (proj res run_res)

variable (x : (⟨S8x2048x2048, .f32⟩ : BufTy).Contents (Elt Ideal)) (g : (⟨S2048, .f32⟩ : BufTy).Contents (Elt Ideal)) (sh sc : (⟨S8x2048, .f32⟩ : BufTy).Contents (Elt Ideal)) (w : (⟨S2048x2560, .f32⟩ : BufTy).Contents (Elt Ideal)) (b : Fin 8)

/-- The reference's modulated norm. -/
theorem ref_mod (l k : Fin 2048) : val_main_v20 (F := Ideal) x g sh sc (ix3 b l k) = normed x g sh sc b l k := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl

/-- The reference's product with a column of the weight. -/
theorem ref_dot (l : Fin 2048) (n : Fin 2560) : val_main_v21 (F := Ideal) x g sh sc w (ix3 b l n) = ∑ k : Fin 2048, normed x g sh sc b l k * w (ix2 k n) := by
  rw [val_main_v21_apply]
  have e2 : ∀ k, lidx_main_v21 (ix3 b l n) k = ix3 b l k := fun k => funext fun a => match a with | ⟨0, _⟩ => rfl | ⟨1, _⟩ => rfl | ⟨2, _⟩ => rfl
  have e3 : ∀ k, ridx_main_v21 (ix3 b l n) k = ix2 k n := fun k => funext fun a => match a with | ⟨0, _⟩ => rfl | ⟨1, _⟩ => rfl
  simp only [e2, e3, ref_mod]

/-- The reference's result is the projection with its queries and keys turned. -/
theorem ref_eq (l : Fin 2048) (n : Fin 2560) : val_main_v144 (F := Ideal) x g sh sc w (ix3 b l n) = proj x g sh sc w b l n := by
  rw [Cert.Rope.ref_turned]
  simp only [ref_dot]
  rfl

/-- The reference's run, its argument arrays kept and every semaphore at zero. -/
theorem ref_frame : Cert.quiescent_OddInRefIdeal := fun m ρ _ =>
  (θ_run Cert.OddInRefIdeal.defs _ _).mono
    (fun r h => ⟨fun c => (h c).2, Idealize.ShloMosaic.sem_eq_zero_of_no_sems (by decide) r.2⟩)
    (Cert.OddInRefIdeal.Value.run (F := Ideal) m ρ)

/-- The projection and its reference have the same result. -/
theorem algebraic : Cert.algebraic_OddInIdeal_OddInRefIdeal := by
  intro m ρ m' ρ' _ hagree
  refine ⟨fun c => res c m, run_res m ρ, ?_⟩
  refine (θ_run Cert.OddInRefIdeal.defs _ _).mono (fun r h c => ⟨(h c).1.trans ?_, (h c).2⟩) (Cert.OddInRefIdeal.Value.run (F := Ideal) m' ρ')
  obtain ⟨a0, a1, a2, a3, a4⟩ := hagree c
  rw [val_main_v144_eq, a0, a1, a2, a3, a4]
  funext i
  obtain ⟨b, l, n, rfl⟩ : ∃ (b : Fin 8) (l : Fin 2048) (n : Fin 2560), i = ix3 b l n := ⟨i 0, i 1, i 2, eq_ix3 i⟩
  exact ref_eq _ _ _ _ _ b l n

end Cert.InOdd
-- ==== Proof.QueryFrame.lean ====
/- The query projection's run: what its two results' blocks and the kept norm hold after each grid point, and the frame. -/
module

public import proofs.«01_k».proof.Proof.Gen.QueryIdeal.Frame
public import proofs.«01_k».proof.Proof.Gen.QueryIdeal.Skeleton
public import Idealize.ShloMosaic.Lib.Claim
public import Idealize.ShloMosaic.Lib.Pipeline.Value
public import Idealize.ShloMosaic.Lib.VecWindow
public import Idealize.ShloMosaic.Lib.Quiescent

@[expose] public section

set_option maxRecDepth 16384

noncomputable section

namespace Cert.QueryIdeal.Body

open Cert.QueryIdeal Cert.QueryIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The origin of a block of three axes. -/
theorem hz3 : (![0, 0, 0] : Fin 3 → Nat) = fun _ => 0 := funext fun a => by fin_cases a <;> rfl
/-- The origin of a block of two axes. -/
theorem hz2 : (![0, 0] : Fin 2 → Nat) = fun _ => 0 := funext fun a => by fin_cases a <;> rfl

/-- The norm is computed at the first column block: every fourth point. -/
theorem first_iff : ∀ t : Fin cfg0.N, k0_cond1 (grid0.coords t) = 1#1 ↔ t.val % 4 = 0 :=
  (fun t => by
    have ht : t.val < 128 := Nat.lt_of_lt_of_eq t.isLt N_0
    have e0 : (grid0.coords t 0).val = t.val / 16 % 8 := Pipeline.Grid.coords_val t 0 (by decide) rfl
    have e1 : (grid0.coords t 1).val = t.val / 4 % 4 := Pipeline.Grid.coords_val t 1 (by decide) rfl
    have e2 : (grid0.coords t 2).val = t.val / 1 % 4 := Pipeline.Grid.coords_val t 2 (by decide) rfl
    unfold k0_cond1
    simp only [e0, e1, e2]
    word_cmp
   : ∀ t : Fin grid0.N, k0_cond1 (grid0.coords t) = 1#1 ↔ t.val % 4 = 0)

section Run

variable (c : Dev nD) (i : grid0.Coords) (arg3 : Memref sig .tc .vmem S1x512x2048 .f32) (harg3 : arg3.IsWhole) (arg4 : Memref sig .tc .vmem S1x2048 .f32) (harg4 : arg4.IsWhole) (arg5 : Memref sig .tc .vmem S1x1x2048 .f32) (harg5 : arg5.IsWhole) (arg6 : Memref sig .tc .vmem S1x1x2048 .f32) (harg6 : arg6.IsWhole) (arg7 : Memref sig .tc .vmem S2048x512 .bf16) (harg7 : arg7.IsWhole) (arg8 : Memref sig .tc .vmem S1x512x512 .f32) (harg8 : arg8.IsWhole) (arg9 : Memref sig .tc .vmem S1x512x2048 .bf16) (harg9 : arg9.IsWhole) (arg10 : Memref sig .tc .vmem S512x2048 .bf16) (harg10 : arg10.IsWhole)
    (x0 : Vec F S1x512x2048 .f32) (x1 : Vec F S1x2048 .f32) (x2 : Vec F S1x1x2048 .f32) (x3 : Vec F S1x1x2048 .f32) (x4 : Vec F S2048x512 .bf16)

set_option maxHeartbeats 1000000 in
/-- The body at a first column block: the norm goes to the scratch and to the second result's block, its product with the weight block to the first's. -/
theorem run_first (h : k0_cond1 i = 1#1) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
          ∗ owns (c : Thread nD τ) arg8 fullShare (k0_pay4 (k0_pay2 x0 x1 x3 x2) x4) ∗ owns (c : Thread nD τ) arg9 fullShare (k0_pay3 x0 x1 x3 x2) ∗ owns (c : Thread nD τ) arg10 fullShare (k0_pay2 x0 x1 x3 x2)) -∗ K ⟨⟩))
      ⊢ wp frame (wpE (defs₀ (F := F)) Variants.none c none) E (cc0_mod_matmul i arg3 harg3 arg4 harg4 arg5 harg5 arg6 harg6 arg7 harg7 arg8 harg8 arg9 harg9 arg10 harg10) K := by
  simp only [cc0_mod_matmul_eq_skeleton]; unfold cc0_mod_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
  obtain rfl := harg3.eq_unread hf0; obtain rfl := harg4.eq_unread hf1; obtain rfl := harg5.eq_unread hf2; obtain rfl := harg6.eq_unread hf3; obtain rfl := harg7.eq_unread hf4
  sl_exec (disch := first | sl_exact h)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [View.read_writes_eq_canon _ _ _ (View.cover_of_tiledL _ S1x512x512.size (by sl_kernel_rfl))]
    sl_unfold_words
    simp only [View.readAt_eq_ld, harg3.read_unread, harg4.read_unread, harg5.read_unread, harg6.read_unread, harg7.read_unread]
    rw [View.canon_unit_zero hz3, View.ld_unit_zero hz3, View.ld_unit_zero hz2, View.ld_unit_zero hz3, View.ld_unit_zero hz3, View.ld_unit_zero hz2]
    exact congrArg (fun a => k0_pay4 a x4) (View.readCov_full _ _ _ _ _)
  isplitl [H6]
  · iexists _; isplitr
    swap; · iexact H6
    ipureintro
    rw [View.read_writes_eq_canon _ _ _ (View.cover_of_tiledL _ S1x512x2048.size (by sl_kernel_rfl))]
    sl_unfold_words
    simp only [View.readAt_eq_ld, harg3.read_unread, harg4.read_unread, harg5.read_unread, harg6.read_unread, harg7.read_unread]
    rw [View.canon_unit_zero hz3, View.ld_unit_zero hz3, View.ld_unit_zero hz2, View.ld_unit_zero hz3, View.ld_unit_zero hz3]
  iexists _; isplitr
  swap; · iexact HS0
  ipureintro
  rw [View.read_writes_eq_canon _ _ _ (View.cover_of_tiledL _ S512x2048.size (by sl_kernel_rfl))]
  sl_unfold_words
  simp only [View.readAt_eq_ld, harg3.read_unread, harg4.read_unread, harg5.read_unread, harg6.read_unread, harg7.read_unread]
  rw [View.canon_unit_zero hz2, View.ld_unit_zero hz3, View.ld_unit_zero hz2, View.ld_unit_zero hz3, View.ld_unit_zero hz3]

set_option maxHeartbeats 1000000 in
/-- The body at the other column blocks: only the first result's block is stored, the kept norm's product with the weight block. -/
theorem run_rest (h : ¬k0_cond1 i = 1#1) (y : Vec F S1x512x2048 .bf16) (s : Vec F S512x2048 .bf16) (E : Set ℕ) (K : PUnit → sProp 𝕄) :
    iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
        ∗ (∃ d, owns (c : Thread nD τ) arg8 fullShare d) ∗ owns (c : Thread nD τ) arg9 fullShare y ∗ owns (c : Thread nD τ) arg10 fullShare s
        ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4
          ∗ owns (c : Thread nD τ) arg8 fullShare (k0_pay4 s x4) ∗ owns (c : Thread nD τ) arg9 fullShare y ∗ owns (c : Thread nD τ) arg10 fullShare s) -∗ K ⟨⟩))
      ⊢ wp frame (wpE (defs₀ (F := F)) Variants.none c none) E (cc0_mod_matmul i arg3 harg3 arg4 harg4 arg5 harg5 arg6 harg6 arg7 harg7 arg8 harg8 arg9 harg9 arg10 harg10) K := by
  simp only [cc0_mod_matmul_eq_skeleton]; unfold cc0_mod_matmul_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
  obtain rfl := harg3.eq_unread hf0; obtain rfl := harg4.eq_unread hf1; obtain rfl := harg5.eq_unread hf2; obtain rfl := harg6.eq_unread hf3; obtain rfl := harg7.eq_unread hf4; obtain rfl := harg9.eq_unread hf6; obtain rfl := harg10.eq_unread hfs0
  sl_exec (disch := first | sl_exact h)
  sl_step
  iapply Hk
  isplitl [H0]
  · iexists _; isplitr; · ipureintro; exact harg3.read_unread _
    iexact H0
  isplitl [H1]
  · iexists _; isplitr; · ipureintro; exact harg4.read_unread _
    iexact H1
  isplitl [H2]
  · iexists _; isplitr; · ipureintro; exact harg5.read_unread _
    iexact H2
  isplitl [H3]
  · iexists _; isplitr; · ipureintro; exact harg6.read_unread _
    iexact H3
  isplitl [H4]
  · iexists _; isplitr; · ipureintro; exact harg7.read_unread _
    iexact H4
  isplitl [H5]
  · iexists _; isplitr
    swap; · iexact H5
    ipureintro
    rw [View.read_writes_eq_canon _ _ _ (View.cover_of_tiledL _ S1x512x512.size (by sl_kernel_rfl))]
    sl_unfold_words
    simp only [View.readAt_eq_ld, harg7.read_unread, harg10.read_unread]
    rw [View.canon_unit_zero hz3, View.ld_unit_zero hz2, View.ld_unit_zero hz2]
  isplitl [H6]
  · iexists _; isplitr; · ipureintro; exact harg9.read_unread _
    iexact H6
  iexists _; isplitr; · ipureintro; exact harg10.read_unread _
  iexact HS0

end Run

/-- Each window's staging buffer at a point, whole. -/
abbrev ms0_0 (t : Fin cfg0.N) : Memref sig .tc .vmem S1x512x2048 .f32 := win0_0.stage (cfg0.slots t 0)
abbrev ms0_1 (t : Fin cfg0.N) : Memref sig .tc .vmem S1x2048 .f32 := win0_1.stage (cfg0.slots t 1)
abbrev ms0_2 (t : Fin cfg0.N) : Memref sig .tc .vmem S1x1x2048 .f32 := win0_2.stage (cfg0.slots t 2)
abbrev ms0_3 (t : Fin cfg0.N) : Memref sig .tc .vmem S1x1x2048 .f32 := win0_3.stage (cfg0.slots t 3)
abbrev ms0_4 (t : Fin cfg0.N) : Memref sig .tc .vmem S2048x512 .bf16 := win0_4.stage (cfg0.slots t 4)
abbrev ms0_5 (t : Fin cfg0.N) : Memref sig .tc .vmem S1x512x512 .f32 := win0_5.stage (cfg0.slots t 5)
abbrev ms0_6 (t : Fin cfg0.N) : Memref sig .tc .vmem S1x512x2048 .bf16 := win0_6.stage (cfg0.slots t 6)
/-- The scratch that keeps the norm between points. -/
abbrev scr : Memref sig .tc .vmem S512x2048 .bf16 := Memref.whole cc0_scratch0

/-- What the region lends besides the windows: the scratch, and the generator's register. -/
theorem lent_eq (c : Dev nD) :
    (Pipeline.ΦA spec0 c : sProp 𝕄) = iprop(iprop((∃ d, owns (c : Thread nD τ) scr fullShare d)) ∗ (∃ r, prngReg c r)) := by
  unfold Pipeline.ΦA; rw [scopedRest0_eq]; simp only [scr, owns_whole]; try rfl

/-- The point at which the norm of a point's rows was computed: the first column block of the same row block. -/
def start (t : Fin cfg0.N) : Fin cfg0.N := ⟨t.val - t.val % 4, Nat.lt_of_le_of_lt (Nat.sub_le _ _) t.isLt⟩

/-- At a first column block it is the point itself. -/
theorem start_first (t : Fin cfg0.N) (h : t.val % 4 = 0) : start t = t := Fin.ext (by unfold start; dsimp only; omega)
/-- At the other column blocks it is the point before's. -/
theorem start_rest (t : Fin cfg0.N) (h : ¬t.val % 4 = 0) : start ⟨t.val - 1, Nat.lt_of_le_of_lt (Nat.sub_le _ _) t.isLt⟩ = start t :=
  Fin.ext (by unfold start; dsimp only; omega)

/-- The scratch after a point. -/
def kept (c : Dev nD) (t : Fin cfg0.N) : Vec F S512x2048 .bf16 := k0_pay2 (iblk m c 0 (start t)) (iblk m c 1 (start t)) (iblk m c 3 (start t)) (iblk m c 2 (start t))
/-- The second result's block after a point. -/
def rows (c : Dev nD) (t : Fin cfg0.N) : Vec F S1x512x2048 .bf16 := k0_pay3 (iblk m c 0 (start t)) (iblk m c 1 (start t)) (iblk m c 3 (start t)) (iblk m c 2 (start t))
/-- The first result's block after a point. -/
def prod (c : Dev nD) (t : Fin cfg0.N) : Vec F S1x512x512 .f32 := k0_pay4 (kept m c t) (iblk m c 4 t)

theorem kept_first (c : Dev nD) (t : Fin cfg0.N) (h : t.val % 4 = 0) : kept m c t = k0_pay2 (iblk m c 0 t) (iblk m c 1 t) (iblk m c 3 t) (iblk m c 2 t) := by
  unfold kept; rw [start_first t h]
theorem rows_first (c : Dev nD) (t : Fin cfg0.N) (h : t.val % 4 = 0) : rows m c t = k0_pay3 (iblk m c 0 t) (iblk m c 1 t) (iblk m c 3 t) (iblk m c 2 t) := by
  unfold rows; rw [start_first t h]
theorem kept_rest (c : Dev nD) (t : Fin cfg0.N) (h : ¬t.val % 4 = 0) : kept m c ⟨t.val - 1, Nat.lt_of_le_of_lt (Nat.sub_le _ _) t.isLt⟩ = kept m c t := by
  unfold kept; rw [start_rest t h]
theorem rows_rest (c : Dev nD) (t : Fin cfg0.N) (h : ¬t.val % 4 = 0) : rows m c ⟨t.val - 1, Nat.lt_of_le_of_lt (Nat.sub_le _ _) t.isLt⟩ = rows m c t := by
  unfold rows; rw [start_rest t h]

/-- What is held between points: before the first the scratch at anything, afterwards at the norm the point before left. -/
def between (c : Dev nD) : (n : ℕ) → n ≤ cfg0.N → sProp 𝕄
  | 0, _ => Pipeline.ΦA spec0 c
  | n + 1, hn => iprop(iprop(owns (c : Thread nD τ) scr fullShare (kept m c ⟨n, hn⟩)) ∗ (∃ r, prngReg c r))

theorem between_zero (c : Dev nD) (n : ℕ) (h : n ≤ cfg0.N) (hz : n = 0) : between m c n h = Pipeline.ΦA spec0 c := by
  subst hz; rfl
theorem between_succ (c : Dev nD) (n : ℕ) (hn : n < cfg0.N) :
    between m c (n + 1) hn = iprop(iprop(owns (c : Thread nD τ) scr fullShare (kept m c ⟨n, hn⟩)) ∗ (∃ r, prngReg c r)) := rfl
theorem between_pos (c : Dev nD) (n : ℕ) (h : n ≤ cfg0.N) (hz : n ≠ 0) :
    between m c n h = iprop(iprop(owns (c : Thread nD τ) scr fullShare (kept m c ⟨n - 1, by omega⟩)) ∗ (∃ r, prngReg c r)) := by
  cases n with
  | zero => exact absurd rfl hz
  | succ n => rfl

/-- The pipeline's proof data: the inputs' blocks stay, the outputs' are as named above. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => prod m c t
    | ⟨6, _⟩ => rows m c t
  Φ t := between m c t.val (Nat.le_of_lt_succ t.isLt)
  q _ := fullShare
  owed _ := 0

theorem A_eq (c : Dev nD) (w : Fin cfg0.W) : (dats m 0 c).A w = V m c (Pipeline.arrRef spec0 w) := by
  dsimp only [dats]
theorem between_castSucc (c : Dev nD) (t : Fin cfg0.N) : (dats m 0 c).Φ t.castSucc = between m c t.val (Nat.le_of_lt t.isLt) := by
  dsimp only [dats]; exact Pipeline.Dat.Φ_castSucc (between m c) t

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = prod m c t := by dsimp only [dats]
theorem after0_6 (c : Dev nD) (t : Fin cfg0.N) : (dats m 0 c).after 6 t = rows m c t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
/-- The second result's block is left alone past the first column block. -/
theorem idle_iff (t : Fin cfg0.N) : cfg0.idle 6 (cfg0.grid.coords t) = true ↔ ¬t.val % 4 = 0 := by
  show (!(k0_cond1 (grid0.coords t) == 1#1)) = true ↔ _
  rw [← first_iff t, Bool.not_eq_true', beq_eq_false_iff_ne]
/-- Past the first column block the second result's block still holds what the first column block stored: nothing was written back between. -/
theorem before0_6 (c : Dev nD) (d) (n : ℕ) : ∀ (hn : n < cfg0.N), ¬n % 4 = 0 → (dats m 0 c).before 6 ⟨n, hn⟩ d = rows m c ⟨n, hn⟩ := by
  induction n with
  | zero => intro _ h; exact absurd (Nat.zero_mod 4) h
  | succ n ih =>
    intro hn h
    have hf : (cfg0.win 6).flush ⟨n, Nat.lt_of_succ_lt hn⟩ = false :=
      Bool.eq_false_iff.mpr fun e => by have := (flush0_6 _).mp e; dsimp only at this; omega
    have hb : (dats m 0 c).before 6 ⟨n + 1, hn⟩ d = (dats m 0 c).left 6 ⟨n, Nat.lt_of_succ_lt hn⟩ d := by
      refine ((dats m 0 c).before_of_pos 6 ⟨n + 1, hn⟩ (Nat.succ_ne_zero n) ((cfg0.win 6).fetch_out rfl _) d).trans ?_
      exact (congrArg (fun b => if b = true then d else _) hf).trans (if_neg Bool.false_ne_true)
    rw [hb, ← rows_rest m c ⟨n + 1, hn⟩ h]
    unfold Dat.left
    by_cases h0 : n % 4 = 0
    · have hi : cfg0.idle 6 (cfg0.grid.coords ⟨n, Nat.lt_of_succ_lt hn⟩) = false := Bool.eq_false_iff.mpr fun e => (idle_iff _).mp e h0
      rw [hi]
      dsimp only
      unfold Dat.kept
      rw [Idealize.ShloMosaic.Pipeline.fill_of_clip_none (cfg := cfg0) 6 _ (fun _ => rfl) d ((dats m 0 c).after 6 _), Window.fill_cut, after0_6]
      rfl
    · have hi : cfg0.idle 6 (cfg0.grid.coords ⟨n, Nat.lt_of_succ_lt hn⟩) = true := (idle_iff _).mpr h0
      rw [hi]
      exact ih _ h0

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))
/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ (dats m 0 c).leavesExact 6 t)
/-- The second result's block, left at its rows, is what the pipeline expects of it. -/
theorem leaves6 (c : Dev nD) (t : Fin cfg0.N) : owns (c : Thread nD τ) (ms0_6 t) fullShare (rows m c t) ⊢ (dats m 0 c).leavesExact 6 t := by
  by_cases h0 : t.val % 4 = 0
  · have hi : cfg0.idle 6 (cfg0.grid.coords t) = false := Bool.eq_false_iff.mpr fun e => (idle_iff _).mp e h0
    unfold Dat.leavesExact
    rw [hi]
    dsimp only
    rw [after0_6]
  · have hi : cfg0.idle 6 (cfg0.grid.coords t) = true := (idle_iff _).mpr h0
    by_cases h3 : t.val % 4 = 3
    · unfold Dat.leavesExact
      rw [hi, (flush0_6 t).mpr h3]
      dsimp only
      rw [after0_6]
    · rw [(dats m 0 c).leavesExact_idle 6 t hi (Bool.eq_false_iff.mpr fun e => h3 ((flush0_6 t).mp e))]
      iintro H
      iexists (rows m c t)
      rw [before0_6 m c _ t.val t.isLt h0]
      iexact H

/-- Whatever is held between points, the scratch is owned at something. -/
theorem between_any (c : Dev nD) (n : ℕ) (h : n ≤ cfg0.N) :
    between m c n h ⊢ iprop(iprop((∃ d, owns (c : Thread nD τ) scr fullShare d)) ∗ (∃ r, prngReg c r)) := by
  by_cases hz : n = 0
  · rw [between_zero m c _ _ hz, lent_eq]
  · rw [between_pos m c _ _ hz]
    iintro ⟨HS0, Hg⟩
    isplitl [HS0]
    · iexists _; iexact HS0
    iexact Hg

set_option maxHeartbeats 1600000 in
/-- The body at any point. -/
theorem body_at (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl,
    after0_0, after0_1, after0_2, after0_3, after0_4, after0_5]
  rw [show (dats m 0 c).Φ t.succ = between m c (t.val + 1) t.isLt from rfl, between_succ, between_castSucc m c t]
  by_cases h0 : t.val % 4 = 0
  · unfold prod
    rw [show (⟨t.val, t.isLt⟩ : Fin cfg0.N) = t from rfl, kept_first m c t h0]
    refine triple_restated (P := iprop(iprop(iprop((∃ d, owns (c : Thread nD τ) scr fullShare d)) ∗ (∃ r, prngReg c r)) ∗ _)) ?_ rfl (sep_mono (between_any m c _ _) .rfl) (fun _ => .rfl)
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_first c (grid0.coords t) _ _ _ _ _ _ _ _ _ _ _ _ _ _ _ _ (iblk m c 0 t) (iblk m c 1 t) (iblk m c 2 t) (iblk m c 3 t) (iblk m c 4 t) ((first_iff t).mpr h0) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t)
    rw [rows_first m c t h0]
    iexact H6
  · simp only [before0_6 m c _ t.val t.isLt h0]
    unfold prod
    rw [between_pos m c _ _ (by omega), kept_rest m c t h0, show (⟨t.val, t.isLt⟩ : Fin cfg0.N) = t from rfl]
    iintro ⟨⟨HS0, Hg⟩, Ho, ⟨%d0, H0⟩, ⟨%d1, H1⟩, ⟨%d2, H2⟩, ⟨%d3, H3⟩, ⟨%d4, H4⟩, ⟨%d5, H5⟩, ⟨%d6, H6⟩⟩
    iapply (run_rest c (grid0.coords t) _ _ _ _ _ _ _ _ _ _ _ _ _ _ _ _ (iblk m c 0 t) (iblk m c 1 t) (iblk m c 2 t) (iblk m c 3 t) (iblk m c 4 t) (fun h => h0 ((first_iff t).mp h)) (rows m c t) (kept m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iapply (leaves6 m c t)
    iexact H6

/-- The body table's row at a point is the body. -/
theorem table_row (t : Fin cfg0.N) : defs₀ (F := F) .tc cfg0.body (cfg0.bodyArgs t (cfg0.slots t)) = bodyAt0 t := by
  unfold defs₀; rw [Defs.onTc_tc]

/-- The pipeline's obligation on the body, at every point. -/
theorem obligation (c : Dev nD) : BodyObligation (dats (F := F) m 0 c) (defs₀ (F := F)) Variants.none () Set.univ := fun t => by
  rw [bigSep_W0, bigSep_W0, table_row]
  exact triple_restated (body_at m c t) rfl .rfl fun _ => .rfl

/-- What the region is entered with, -/
theorem entered (c : Dev nD) : Pipeline.ΦA spec0 c ⊢ (dats m 0 c).Φ 0 := by
  rw [show (dats m 0 c).Φ 0 = between m c 0 (Nat.zero_le _) from rfl, between_zero m c 0 _ rfl]
/-- and left with. -/
theorem left (c : Dev nD) : (dats m 0 c).Φ (Fin.last cfg0.N) ⊢ Pipeline.ΦA spec0 c := by
  rw [show (dats m 0 c).Φ (Fin.last cfg0.N) = between m c (Fin.last cfg0.N).val (Nat.le_of_lt_succ (Fin.last cfg0.N).isLt) from rfl, lent_eq]
  exact between_any m c _ _

set_option backward.isDefEq.respectTransparency.types false in
/-- The program's run, with every counter at zero at its end. -/
theorem run_end : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (obligation m c).loose) (hshare := fun c => (dats m 0 c).share_full fun _ => rfl)
    (howed := fun _ _ => rfl) (V := V m) (hmain := hmain m Variants.none) (hA := A_eq m) (hin := entered m) (hout := left m)

/-- The run, each array at what the proof data gives. -/
theorem run_post : θ_run defs (onTc (τ := τ) (main (F := F))) (s₀ m ρ) (Pipeline.FramePost cfgs (dats m) 0 (V m)) :=
  (θ_run defs _ _).mono (fun _ h => h.1) (run_end m ρ)

/-- The frame: every execution ends, with the arguments as they were and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (frame_of m ρ (dats m) (A_eq m) (run_post m ρ)) ((θ_run defs _ _).mono (fun _ h => h.2) (run_end m ρ))

end Cert.QueryIdeal.Body

end
-- ==== Proof.InQuery.lean ====
/- The query projection: the modulated norm of the rows, returned beside its product with the weight. -/
module

public import proofs.«01_k».proof.Defs
public import proofs.«01_k».proof.Proof.Modulate
public import proofs.«01_k».proof.Proof.QueryBits
public import proofs.«01_k».proof.Proof.QueryFrame
public import proofs.«01_k».proof.Proof.Gen.QueryRefIdeal.Read
public import Idealize.ShloMosaic.Lib.Pointwise

@[expose] public section

set_option maxRecDepth 16384

noncomputable section

namespace Cert.QueryIdeal.Proj

open Idealize.ShloMosaic Idealize.ShloMosaic.TcCoe Idealize.SL.Sem
open Cert.QueryIdeal Cert.QueryIdeal.Gen Cert.QueryIdeal.Body
open Cert.Modulate (normed)

variable (m : (ℓ : Loc nD τ sig) → Buf (Elt Ideal) ℓ) (c : Dev nD)

/-- The weight, its rounding the identity on reals. -/
theorem V_w (k n : Fin 2048) : V m c main_v0 (ix2 k n) = m ((c : Thread nD τ).loc main_arg4) (ix2 k n) := by
  have h : V m c main_v0 = truncf (F := Ideal) (φ := .f32) .bf16 (m ((c : Thread nD τ).loc main_arg4)) bitsLt_bf16_f32 := by
    show StableHlo.after hostOps0 (fun b => m (c, b)) main_v0 = _
    unfold hostOps0
    after_results_simp
  rw [h]
  rfl

/-- The gain, as the kernel is handed it. -/
theorem V_gain (z : Fin 1) (k : Fin 2048) : V m c main_v1 (ix2 z k) = m ((c : Thread nD τ).loc main_arg1) (ix1 k) := by
  have h : V m c main_v1 = (fun x => shapeCast S1x2048 x shapeCasts_S2048_S1x2048 : (⟨S2048, .f32⟩ : BufTy).Contents (Elt Ideal) → (⟨S1x2048, .f32⟩ : BufTy).Contents (Elt Ideal))
      (m ((c : Thread nD τ).loc main_arg1)) := by
    show StableHlo.after hostOps0 (fun b => m (c, b)) main_v1 = _
    unfold hostOps0
    after_results_simp
    rfl
  rw [h]
  dsimp only
  pointwise
/-- The shift, a row of one for each batch row. -/
theorem V_shift (b : Fin 8) (z : Fin 1) (k : Fin 2048) : V m c main_v2 (ix3 b z k) = m ((c : Thread nD τ).loc main_arg2) (ix2 b k) := by
  have h : V m c main_v2 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg2)) := by
    show StableHlo.after hostOps0 (fun b => m (c, b)) main_v2 = _
    unfold hostOps0
    after_results_simp
    rfl
  rw [h]
  dsimp only
  pointwise
/-- The scale, a row of one for each batch row. -/
theorem V_scale (b : Fin 8) (z : Fin 1) (k : Fin 2048) : V m c main_v3 (ix3 b z k) = m ((c : Thread nD τ).loc main_arg3) (ix2 b k) := by
  have h : V m c main_v3 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg3)) := by
    show StableHlo.after hostOps0 (fun b => m (c, b)) main_v3 = _
    unfold hostOps0
    after_results_simp
    rfl
  rw [h]
  dsimp only
  pointwise

/-- The block each point works on. -/
theorem idx_facts : ∀ t : Fin cfg0.N,
    (win0_0.index t 0 = t.val / 16 ∧ win0_0.index t 1 = t.val / 4 % 4 ∧ win0_0.index t 2 = 0)
    ∧ (win0_1.index t 0 = 0 ∧ win0_1.index t 1 = 0)
    ∧ (win0_2.index t 0 = t.val / 16 ∧ win0_2.index t 1 = 0 ∧ win0_2.index t 2 = 0)
    ∧ (win0_3.index t 0 = t.val / 16 ∧ win0_3.index t 1 = 0 ∧ win0_3.index t 2 = 0)
    ∧ (win0_4.index t 0 = 0 ∧ win0_4.index t 1 = t.val % 4)
    ∧ (win0_5.index t 0 = t.val / 16 ∧ win0_5.index t 1 = t.val / 4 % 4 ∧ win0_5.index t 2 = t.val % 4)
    ∧ (win0_6.index t 0 = t.val / 16 ∧ win0_6.index t 1 = t.val / 4 % 4 ∧ win0_6.index t 2 = 0) := by decide +kernel

/-- The grid has 128 points. -/
theorem lt128 (t : Fin cfg0.N) : t.val < 128 := Nat.lt_of_lt_of_eq t.isLt N_0

/-- The batch row of a point. -/
def bOf (t : Fin cfg0.N) : Fin 8 := ⟨t.val / 16, by have := lt128 t; omega⟩
/-- The row of the results that a row of a point's block is. -/
def row (t : Fin cfg0.N) (r : Fin 512) : Fin 2048 := ⟨512 * (t.val / 4 % 4) + r.val, by omega⟩
/-- The column of the product that a column of a point's block is. -/
def col (t : Fin cfg0.N) (j : Fin 512) : Fin 2048 := ⟨512 * (t.val % 4) + j.val, by omega⟩

/-- The norm's point works on the same batch row -/
theorem bOf_start (t : Fin cfg0.N) : bOf (start t) = bOf t := Fin.ext (by show (t.val - t.val % 4) / 16 = t.val / 16; omega)
/-- and the same rows. -/
theorem row_start (t : Fin cfg0.N) (r : Fin 512) : row (start t) r = row t r :=
  Fin.ext (by show 512 * ((t.val - t.val % 4) / 4 % 4) + r.val = 512 * (t.val / 4 % 4) + r.val; omega)

/-- A point's block of the rows, element by element. -/
theorem iblk0_apply (t : Fin cfg0.N) (z : Fin 1) (r : Fin 512) (k : Fin 2048) :
    iblk m c 0 t (ix3 z r k) = m ((c : Thread nD τ).loc main_arg0) (ix3 (bOf t) (row t r) k) := by
  obtain ⟨⟨h0, h1, h2⟩, -⟩ := idx_facts t
  rw [← V_main_arg0 m c]
  refine congrArg (V m c main_arg0) (funext fun a => Fin.ext ?_)
  match a with
  | ⟨0, _⟩ => show win0_0.index t 0 * 1 + 1 * z.val = t.val / 16; omega
  | ⟨1, _⟩ => show win0_0.index t 1 * 512 + 1 * r.val = 512 * (t.val / 4 % 4) + r.val; omega
  | ⟨2, _⟩ => show win0_0.index t 2 * 2048 + 1 * k.val = k.val; omega
/-- A point's block of the gain, element by element. -/
theorem iblk1_apply (t : Fin cfg0.N) (z : Fin 1) (k : Fin 2048) : iblk m c 1 t (ix2 z k) = m ((c : Thread nD τ).loc main_arg1) (ix1 k) := by
  obtain ⟨-, ⟨h0, h1⟩, -⟩ := idx_facts t
  rw [← V_gain m c 0]
  refine congrArg (V m c main_v1) (funext fun a => Fin.ext ?_)
  match a with
  | ⟨0, _⟩ => show win0_1.index t 0 * 1 + 1 * z.val = 0; omega
  | ⟨1, _⟩ => show win0_1.index t 1 * 2048 + 1 * k.val = k.val; omega
/-- A point's block of the shift, element by element. -/
theorem iblk2_apply (t : Fin cfg0.N) (z y : Fin 1) (k : Fin 2048) :
    iblk m c 2 t (ix3 z y k) = m ((c : Thread nD τ).loc main_arg2) (ix2 (bOf t) k) := by
  obtain ⟨-, -, ⟨h0, h1, h2⟩, -⟩ := idx_facts t
  rw [← V_shift m c _ 0]
  refine congrArg (V m c main_v2) (funext fun a => Fin.ext ?_)
  match a with
  | ⟨0, _⟩ => show win0_2.index t 0 * 1 + 1 * z.val = t.val / 16; omega
  | ⟨1, _⟩ => show win0_2.index t 1 * 1 + 1 * y.val = 0; omega
  | ⟨2, _⟩ => show win0_2.index t 2 * 2048 + 1 * k.val = k.val; omega
/-- A point's block of the scale, element by element. -/
theorem iblk3_apply (t : Fin cfg0.N) (z y : Fin 1) (k : Fin 2048) :
    iblk m c 3 t (ix3 z y k) = m ((c : Thread nD τ).loc main_arg3) (ix2 (bOf t) k) := by
  obtain ⟨-, -, -, ⟨h0, h1, h2⟩, -⟩ := idx_facts t
  rw [← V_scale m c _ 0]
  refine congrArg (V m c main_v3) (funext fun a => Fin.ext ?_)
  match a with
  | ⟨0, _⟩ => show win0_3.index t 0 * 1 + 1 * z.val = t.val / 16; omega
  | ⟨1, _⟩ => show win0_3.index t 1 * 1 + 1 * y.val = 0; omega
  | ⟨2, _⟩ => show win0_3.index t 2 * 2048 + 1 * k.val = k.val; omega
/-- A point's block of the weight, element by element. -/
theorem iblk4_apply (t : Fin cfg0.N) (k : Fin 2048) (j : Fin 512) :
    iblk m c 4 t (ix2 k j) = m ((c : Thread nD τ).loc main_arg4) (ix2 k (col t j)) := by
  obtain ⟨-, -, -, -, ⟨h0, h1⟩, -⟩ := idx_facts t
  rw [← V_w m c]
  refine congrArg (V m c main_v0) (funext fun a => Fin.ext ?_)
  match a with
  | ⟨0, _⟩ => show win0_4.index t 0 * 2048 + 1 * k.val = k.val; omega
  | ⟨1, _⟩ => show win0_4.index t 1 * 512 + 1 * j.val = 512 * (t.val % 4) + j.val; omega

/-- The norm a point's rows get, element by element. -/
theorem norm_apply (x : Vec Ideal S1x512x2048 .f32) (g : Vec Ideal S1x2048 .f32) (sc sh : Vec Ideal S1x1x2048 .f32) (r : Fin 512) (k : Fin 2048) :
    k0_pay1 x g sc sh (ix2 r k) = Cert.Modulate.mod (fun j => x (ix3 0 r j)) (fun j => g (ix2 0 j)) (fun j => sh (ix3 0 0 j)) (fun j => sc (ix3 0 0 j)) k := by
  unfold k0_pay1
  pointwise
  rfl
/-- The norm computed at a point from its blocks. -/
theorem norm_blk (t : Fin cfg0.N) (r : Fin 512) (k : Fin 2048) :
    k0_pay1 (iblk m c 0 t) (iblk m c 1 t) (iblk m c 3 t) (iblk m c 2 t) (ix2 r k)
      = normed (m ((c : Thread nD τ).loc main_arg0)) (m ((c : Thread nD τ).loc main_arg1)) (m ((c : Thread nD τ).loc main_arg2)) (m ((c : Thread nD τ).loc main_arg3))
        (bOf t) (row t r) k := by
  refine (norm_apply _ _ _ _ r k).trans ?_
  simp only [iblk0_apply, iblk1_apply, iblk2_apply, iblk3_apply]
  rfl

/-- The second result as a whole array: the modulated norm. -/
def nrm : S8x2048x2048.Idx → EReal := fun i =>
  normed (m ((c : Thread nD τ).loc main_arg0)) (m ((c : Thread nD τ).loc main_arg1)) (m ((c : Thread nD τ).loc main_arg2)) (m ((c : Thread nD τ).loc main_arg3)) (i 0) (i 1) (i 2)
/-- The first result as a whole array: the norm times the weight. -/
def res : S8x2048x2048.Idx → EReal := fun i => ∑ k : Fin 2048, nrm m c (ix3 (i 0) (i 1) k) * m ((c : Thread nD τ).loc main_arg4) (ix2 k (i 2))

/-- The scratch, element by element. -/
theorem kept_apply (t : Fin cfg0.N) (r : Fin 512) (k : Fin 2048) : kept m c t (ix2 r k) = nrm m c (ix3 (bOf t) (row t r) k) := by
  unfold kept
  have h : ∀ (x : Vec Ideal S1x512x2048 .f32) (g : Vec Ideal S1x2048 .f32) (sc sh : Vec Ideal S1x1x2048 .f32), k0_pay2 x g sc sh (ix2 r k) = k0_pay1 x g sc sh (ix2 r k) := by
    intro x g sc sh
    unfold k0_pay2
    generalize k0_pay1 x g sc sh = y
    pointwise
  rw [h, norm_blk, bOf_start, row_start]
  rfl
/-- The second result's block, element by element. -/
theorem rows_apply (t : Fin cfg0.N) (z : Fin 1) (r : Fin 512) (k : Fin 2048) : rows m c t (ix3 z r k) = nrm m c (ix3 (bOf t) (row t r) k) := by
  unfold rows
  have h : ∀ (x : Vec Ideal S1x512x2048 .f32) (g : Vec Ideal S1x2048 .f32) (sc sh : Vec Ideal S1x1x2048 .f32), k0_pay3 x g sc sh (ix3 z r k) = k0_pay1 x g sc sh (ix2 r k) := by
    intro x g sc sh
    unfold k0_pay3
    generalize k0_pay1 x g sc sh = y
    pointwise
  rw [h, norm_blk, bOf_start, row_start]
  rfl
/-- The first result's block, element by element. -/
theorem prod_apply (t : Fin cfg0.N) (z : Fin 1) (r n : Fin 512) : prod m c t (ix3 z r n) = res m c (ix3 (bOf t) (row t r) (col t n)) := by
  unfold prod
  have h : ∀ (a : Vec Ideal S512x2048 .bf16) (w : Vec Ideal S2048x512 .bf16), k0_pay4 a w (ix3 z r n) = (∑ k : Fin 2048, a (ix2 r k) * w (ix2 k n) : EReal) := by
    intro a w
    unfold k0_pay4
    pointwise
  refine (h _ _).trans ?_
  simp only [kept_apply, iblk4_apply]
  rfl

/-- What a point writes back of the first result is its block of it. -/
theorem flushed_res (t : Fin cfg0.N) : (dats m 0 c).flushed 5 t = ((cfg0.win 5).blk t).view.read (Elt Ideal) (res m c) := by
  show (cfg0.win 5).cut (grid0.coords t) ((dats m 0 c).after 5 t) = _
  rw [after0_5]
  obtain ⟨-, -, -, -, -, ⟨h0, h1, h2⟩, -⟩ := idx_facts t
  funext y
  obtain ⟨z, r, n, rfl⟩ : ∃ (z : Fin 1) (r : Fin 512) (n : Fin 512), y = ix3 z r n := ⟨y 0, y 1, y 2, eq_ix3 y⟩
  refine (prod_apply m c t z r n).trans (congrArg (res m c) (funext fun a => Fin.ext ?_))
  match a with
  | ⟨0, _⟩ => show t.val / 16 = win0_5.index t 0 * 1 + 1 * z.val; omega
  | ⟨1, _⟩ => show 512 * (t.val / 4 % 4) + r.val = win0_5.index t 1 * 512 + 1 * r.val; omega
  | ⟨2, _⟩ => show 512 * (t.val % 4) + n.val = win0_5.index t 2 * 512 + 1 * n.val; omega
/-- What a point writes back of the second result is its block of it. -/
theorem flushed_nrm (t : Fin cfg0.N) : (dats m 0 c).flushed 6 t = ((cfg0.win 6).blk t).view.read (Elt Ideal) (nrm m c) := by
  show (cfg0.win 6).cut (grid0.coords t) ((dats m 0 c).after 6 t) = _
  rw [after0_6]
  obtain ⟨-, -, -, -, -, -, ⟨h0, h1, h2⟩⟩ := idx_facts t
  funext y
  obtain ⟨z, r, k, rfl⟩ : ∃ (z : Fin 1) (r : Fin 512) (k : Fin 2048), y = ix3 z r k := ⟨y 0, y 1, y 2, eq_ix3 y⟩
  refine (rows_apply m c t z r k).trans (congrArg (nrm m c) (funext fun a => Fin.ext ?_))
  match a with
  | ⟨0, _⟩ => show t.val / 16 = win0_6.index t 0 * 1 + 1 * z.val; omega
  | ⟨1, _⟩ => show 512 * (t.val / 4 % 4) + r.val = win0_6.index t 1 * 512 + 1 * r.val; omega
  | ⟨2, _⟩ => show k.val = win0_6.index t 2 * 2048 + 1 * k.val; omega

/-- Every element of the first result lies in some point's block. -/
theorem cover_res (y : S8x2048x2048.Idx) : ∃ t : Fin cfg0.N, (cfg0.win 5).flush t = true ∧ y ∈ ((cfg0.win 5).blk t).view.set := by
  have y0 : (y 0).val < 8 := (y 0).isLt
  have y1 : (y 1).val < 2048 := (y 1).isLt
  have y2 : (y 2).val < 2048 := (y 2).isLt
  have ht : 16 * (y 0).val + 4 * ((y 1).val / 512) + (y 2).val / 512 < cfg0.N := by rw [show cfg0.N = 128 from N_0]; omega
  refine ⟨⟨_, ht⟩, flush0_5 _, ?_⟩
  obtain ⟨-, -, -, -, -, ⟨h0, h1, h2⟩, -⟩ := idx_facts ⟨_, ht⟩
  show y ∈ ((View.whole main_v4_0).slice (win0_5.rect ⟨_, ht⟩)).set
  rw [View.set_slice_whole, Rect.mem_set_unit]
  dsimp only at h0 h1 h2
  intro a
  match a with
  | ⟨0, _⟩ => show win0_5.index _ 0 * 1 ≤ (y 0).val ∧ (y 0).val < win0_5.index _ 0 * 1 + 1; rw [h0]; omega
  | ⟨1, _⟩ => show win0_5.index _ 1 * 512 ≤ (y 1).val ∧ (y 1).val < win0_5.index _ 1 * 512 + 512; rw [h1]; omega
  | ⟨2, _⟩ => show win0_5.index _ 2 * 512 ≤ (y 2).val ∧ (y 2).val < win0_5.index _ 2 * 512 + 512; rw [h2]; omega
/-- Every element of the second result lies in the block some last column block writes back. -/
theorem cover_nrm (y : S8x2048x2048.Idx) : ∃ t : Fin cfg0.N, (cfg0.win 6).flush t = true ∧ y ∈ ((cfg0.win 6).blk t).view.set := by
  have y0 : (y 0).val < 8 := (y 0).isLt
  have y1 : (y 1).val < 2048 := (y 1).isLt
  have y2 : (y 2).val < 2048 := (y 2).isLt
  have ht : 16 * (y 0).val + 4 * ((y 1).val / 512) + 3 < cfg0.N := by rw [show cfg0.N = 128 from N_0]; omega
  refine ⟨⟨_, ht⟩, (flush0_6 _).mpr (by dsimp only; omega), ?_⟩
  obtain ⟨-, -, -, -, -, -, ⟨h0, h1, h2⟩⟩ := idx_facts ⟨_, ht⟩
  show y ∈ ((View.whole main_v4_1).slice (win0_6.rect ⟨_, ht⟩)).set
  rw [View.set_slice_whole, Rect.mem_set_unit]
  dsimp only at h0 h1 h2
  intro a
  match a with
  | ⟨0, _⟩ => show win0_6.index _ 0 * 1 ≤ (y 0).val ∧ (y 0).val < win0_6.index _ 0 * 1 + 1; rw [h0]; omega
  | ⟨1, _⟩ => show win0_6.index _ 1 * 512 ≤ (y 1).val ∧ (y 1).val < win0_6.index _ 1 * 512 + 512; rw [h1]; omega
  | ⟨2, _⟩ => show win0_6.index _ 2 * 2048 ≤ (y 2).val ∧ (y 2).val < win0_6.index _ 2 * 2048 + 2048; rw [h2]; omega

/-- The program's run: its results are the product and the norm, its arguments left as they were. -/
theorem run_res (ρ : Dev nD → PrngReg) : θ_run defs (onTc (τ := τ) (main (F := Ideal))) ⟨m, fun _ => 0, ρ⟩ fun r => ∀ c : Dev nD,
      r.2.mem ((c : Thread nD τ).loc main_v4_0) = res m c
      ∧ r.2.mem ((c : Thread nD τ).loc main_v4_1) = nrm m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨((h.1 c).1 5).trans ((dats m 0 c).arrAt_eq_of_cover 5 _ (fun t _ => flushed_res m c t) cover_res),
      ((h.1 c).1 6).trans ((dats m 0 c).arrAt_eq_of_cover 6 _ (fun t _ => flushed_nrm m c t) cover_nrm), h.2.1 c⟩)
    (θ_run_and (run_post m ρ) (frame m ρ))

end Cert.QueryIdeal.Proj

namespace Cert.InQuery

open Idealize.ShloMosaic Idealize.ShloMosaic.TcCoe Idealize.SL.Sem
open Cert.QueryRefIdeal Cert.QueryRefIdeal.Read
open Cert.Modulate (normed)
open Cert.QueryIdeal.Proj (res nrm run_res)

variable (x : (⟨S8x2048x2048, .f32⟩ : BufTy).Contents (Elt Ideal)) (g : (⟨S2048, .f32⟩ : BufTy).Contents (Elt Ideal)) (sh sc : (⟨S8x2048, .f32⟩ : BufTy).Contents (Elt Ideal)) (w : (⟨S2048x2048, .f32⟩ : BufTy).Contents (Elt Ideal)) (b : Fin 8)

/-- The reference's modulated norm. -/
theorem ref_mod (l k : Fin 2048) : val_main_v20 (F := Ideal) x g sh sc (ix3 b l k) = normed x g sh sc b l k := by
  unfold val_main_v20 val_main_v19 val_main_v18 val_main_v17 val_main_v16 val_main_v15 val_main_v14 val_main_v13 val_main_v12 val_main_v11 val_main_v10 val_main_v9 val_main_v8 val_main_v7 val_main_v6 val_main_v5 val_main_v4 val_main_v3 val_main_v2 val_main_v1 val_main_v0 val_main_cst val_main_cst_0 val_main_cst_1 val_main_cst_2
  pointwise
  rfl
/-- The reference's second result: the norm, its rounding the identity on reals. -/
theorem ref_nrm (l k : Fin 2048) : val_main_v22 (F := Ideal) x g sh sc (ix3 b l k) = normed x g sh sc b l k :=
  (val_main_v22_apply x g sh sc _).trans (ref_mod x g sh sc b l k)
/-- The reference's first result. -/
theorem ref_dot (l n : Fin 2048) : val_main_v21 (F := Ideal) x g sh sc w (ix3 b l n) = ∑ k : Fin 2048, normed x g sh sc b l k * w (ix2 k n) := by
  rw [val_main_v21_apply]
  have e2 : ∀ k, lidx_main_v21 (ix3 b l n) k = ix3 b l k := fun k => funext fun a => match a with | ⟨0, _⟩ => rfl | ⟨1, _⟩ => rfl | ⟨2, _⟩ => rfl
  have e3 : ∀ k, ridx_main_v21 (ix3 b l n) k = ix2 k n := fun k => funext fun a => match a with | ⟨0, _⟩ => rfl | ⟨1, _⟩ => rfl
  simp only [e2, e3, ref_mod]

/-- The reference's run, its argument arrays kept and every semaphore at zero. -/
theorem ref_frame : Cert.quiescent_QueryRefIdeal := fun m ρ _ =>
  (θ_run Cert.QueryRefIdeal.defs _ _).mono
    (fun r h => ⟨fun c => (h c).2.2, Idealize.ShloMosaic.sem_eq_zero_of_no_sems (by decide) r.2⟩)
    (Cert.QueryRefIdeal.Value.run (F := Ideal) m ρ)

/-- The projection and its reference have the same results. -/
theorem algebraic : Cert.algebraic_QueryIdeal_QueryRefIdeal := by
  intro m ρ m' ρ' _ hagree
  refine ⟨fun c => res m c, fun c => nrm m c, run_res m ρ, ?_⟩
  refine (θ_run Cert.QueryRefIdeal.defs _ _).mono (fun r h c => ⟨(h c).1.trans ?_, (h c).2.1.trans ?_, (h c).2.2⟩) (Cert.QueryRefIdeal.Value.run (F := Ideal) m' ρ')
  · obtain ⟨a0, a1, a2, a3, a4⟩ := hagree c
    rw [val_main_v21_eq, a0, a1, a2, a3, a4]
    funext i
    obtain ⟨b, l, n, rfl⟩ : ∃ (b : Fin 8) (l n : Fin 2048), i = ix3 b l n := ⟨i 0, i 1, i 2, eq_ix3 i⟩
    exact ref_dot _ _ _ _ _ b l n
  · obtain ⟨a0, a1, a2, a3, -⟩ := hagree c
    rw [val_main_v22_eq, a0, a1, a2, a3]
    funext i
    obtain ⟨b, l, k, rfl⟩ : ∃ (b : Fin 8) (l k : Fin 2048), i = ix3 b l k := ⟨i 0, i 1, i 2, eq_ix3 i⟩
    exact ref_nrm _ _ _ _ b l k

end Cert.InQuery
-- ==== Proof.OutEven.lean ====
/- The even layers' output projection: `x + gate · (y·w₁ + f·w₂)`, over the two parts of one weight. -/
module

public import proofs.«01_k».proof.Defs
public import proofs.«01_k».proof.Proof.Gen.EvenOut.Frame
public import proofs.«01_k».proof.Proof.Gen.EvenOutIdeal.Value
public import proofs.«01_k».proof.Proof.Gen.EvenOutRefIdeal.Read
public import Idealize.ShloMosaic.Lib.Pipeline.Value
public import Idealize.ShloMosaic.Lib.Pointwise
public import Idealize.ShloMosaic.Lib.Quiescent

@[expose] public section

set_option maxRecDepth 16384

noncomputable section

namespace Cert.EvenOutIdeal.Out

open Idealize.ShloMosaic Idealize.ShloMosaic.TcCoe Idealize.SL.Sem
open Cert.EvenOutIdeal Cert.EvenOutIdeal.Gen

variable (m : (ℓ : Loc nD τ sig) → Buf (Elt Ideal) ℓ)

/-- The residual projection: the residual plus the gate times the product of the two inputs with the two row blocks of the weight. -/
def proj (y : S8x2048x1536.Idx → EReal) (f : S8x2048x512.Idx → EReal) (w : S2048x2048.Idx → EReal) (x : S8x2048x2048.Idx → EReal)
    (gate : S8x2048.Idx → EReal) (b : Fin 8) (l n : Fin 2048) : EReal :=
  x (ix3 b l n) + gate (ix2 b n) * ((∑ k : Fin 1536, y (ix3 b l k) * w (ix2 ⟨k.val, by omega⟩ n))
    + ∑ k : Fin 512, f (ix3 b l k) * w (ix2 ⟨1536 + k.val, by omega⟩ n))

/-- The stored block, element by element. -/
theorem pay_apply (x0 : Vec Ideal S1x1024x1536 .bf16) (x2 : Vec Ideal S1536x512 .bf16) (x1 : Vec Ideal S1x1024x512 .bf16) (x3 : Vec Ideal S512x512 .bf16)
    (x4 : Vec Ideal S1x1024x512 .f32) (x5 : Vec Ideal S1x1x512 .f32) (z : Fin 1) (r : Fin 1024) (n : Fin 512) :
    k0_pay1 x0 x2 x1 x3 x4 x5 (ix3 z r n)
      = (x4 (ix3 0 r n) + x5 (ix3 0 0 n) * ((∑ k : Fin 1536, x0 (ix3 0 r k) * x2 (ix2 k n)) + ∑ k : Fin 512, x1 (ix3 0 r k) * x3 (ix2 k n)) : EReal) := by
  unfold k0_pay1
  pointwise

/-- The weight's first rows, as the kernel is handed them. -/
theorem V_w1 (c : Dev nD) (k : Fin 1536) (n : Fin 2048) : V m c main_v1 (ix2 k n) = m ((c : Thread nD τ).loc main_arg2) (ix2 ⟨k.val, by omega⟩ n) := by
  have h : V m c main_v1 = ((extractStridedSlice S1536x2048 ![0, 0] · slices_S2048x2048_S1536x2048_0_0) : (⟨S2048x2048, .bf16⟩ : BufTy).Contents (Elt Ideal) → (⟨S1536x2048, .bf16⟩ : BufTy).Contents (Elt Ideal))
      (m ((c : Thread nD τ).loc main_arg2)) := by
    show StableHlo.after hostOps0 (fun b => m (c, b)) main_v1 = _
    unfold hostOps0
    after_results_simp
    rfl
  rw [h]
  refine congrArg (m ((c : Thread nD τ).loc main_arg2)) (funext fun a => Fin.ext ?_)
  match a with
  | ⟨0, _⟩ => show 0 + k.val = k.val; omega
  | ⟨1, _⟩ => show 0 + n.val = n.val; omega
/-- The weight's last rows, as the kernel is handed them. -/
theorem V_w2 (c : Dev nD) (k : Fin 512) (n : Fin 2048) : V m c main_v2 (ix2 k n) = m ((c : Thread nD τ).loc main_arg2) (ix2 ⟨1536 + k.val, by omega⟩ n) := by
  have h : V m c main_v2 = ((extractStridedSlice S512x2048 ![1536, 0] · slices_S2048x2048_S512x2048_1536_0) : (⟨S2048x2048, .bf16⟩ : BufTy).Contents (Elt Ideal) → (⟨S512x2048, .bf16⟩ : BufTy).Contents (Elt Ideal))
      (m ((c : Thread nD τ).loc main_arg2)) := by
    show StableHlo.after hostOps0 (fun b => m (c, b)) main_v2 = _
    unfold hostOps0
    after_results_simp
    rfl
  rw [h]
  refine congrArg (m ((c : Thread nD τ).loc main_arg2)) (funext fun a => Fin.ext ?_)
  match a with
  | ⟨0, _⟩ => show 1536 + k.val = 1536 + k.val; omega
  | ⟨1, _⟩ => show 0 + n.val = n.val; omega
/-- The gate, a row of one for each batch row. -/
theorem V_gate (c : Dev nD) (b : Fin 8) (z : Fin 1) (n : Fin 2048) : V m c main_v3 (ix3 b z n) = m ((c : Thread nD τ).loc main_arg4) (ix2 b n) := by
  have h : V m c main_v3 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg4)) := by
    show StableHlo.after hostOps0 (fun b => m (c, b)) main_v3 = _
    unfold hostOps0
    after_results_simp
    rfl
  rw [h]
  dsimp only
  pointwise

/-- The block each point works on. -/
theorem idx_facts : ∀ t : Fin cfg0.N,
    (win0_0.index t 0 = t.val / 8 ∧ win0_0.index t 1 = t.val / 4 % 2 ∧ win0_0.index t 2 = 0)
    ∧ (win0_1.index t 0 = t.val / 8 ∧ win0_1.index t 1 = t.val / 4 % 2 ∧ win0_1.index t 2 = 0)
    ∧ (win0_2.index t 0 = 0 ∧ win0_2.index t 1 = t.val % 4)
    ∧ (win0_3.index t 0 = 0 ∧ win0_3.index t 1 = t.val % 4)
    ∧ (win0_4.index t 0 = t.val / 8 ∧ win0_4.index t 1 = t.val / 4 % 2 ∧ win0_4.index t 2 = t.val % 4)
    ∧ (win0_5.index t 0 = t.val / 8 ∧ win0_5.index t 1 = 0 ∧ win0_5.index t 2 = t.val % 4)
    ∧ (win0_6.index t 0 = t.val / 8 ∧ win0_6.index t 1 = t.val / 4 % 2 ∧ win0_6.index t 2 = t.val % 4) := by decide +kernel

/-- The grid has 64 points. -/
theorem lt64 (t : Fin cfg0.N) : t.val < 64 := Nat.lt_of_lt_of_eq t.isLt N_0

/-- The batch row of a point. -/
def bOf (t : Fin cfg0.N) : Fin 8 := ⟨t.val / 8, by have := lt64 t; omega⟩
/-- The row of the result that a row of a point's block is. -/
def row (t : Fin cfg0.N) (r : Fin 1024) : Fin 2048 := ⟨1024 * (t.val / 4 % 2) + r.val, by omega⟩
/-- The column of the result that a column of a point's block is. -/
def col (t : Fin cfg0.N) (n : Fin 512) : Fin 2048 := ⟨512 * (t.val % 4) + n.val, by omega⟩

/-- A point's block of the first input, element by element. -/
theorem iblk0_apply (c : Dev nD) (t : Fin cfg0.N) (z : Fin 1) (r : Fin 1024) (k : Fin 1536) :
    iblk m c 0 t (ix3 z r k) = m ((c : Thread nD τ).loc main_arg0) (ix3 (bOf t) (row t r) k) := by
  obtain ⟨⟨h0, h1, h2⟩, -⟩ := idx_facts t
  rw [← V_main_arg0 m c]
  refine congrArg (V m c main_arg0) (funext fun a => Fin.ext ?_)
  match a with
  | ⟨0, _⟩ => show win0_0.index t 0 * 1 + 1 * z.val = t.val / 8; omega
  | ⟨1, _⟩ => show win0_0.index t 1 * 1024 + 1 * r.val = 1024 * (t.val / 4 % 2) + r.val; omega
  | ⟨2, _⟩ => show win0_0.index t 2 * 1536 + 1 * k.val = k.val; omega
/-- A point's block of the second input, element by element. -/
theorem iblk1_apply (c : Dev nD) (t : Fin cfg0.N) (z : Fin 1) (r : Fin 1024) (k : Fin 512) :
    iblk m c 1 t (ix3 z r k) = m ((c : Thread nD τ).loc main_arg1) (ix3 (bOf t) (row t r) k) := by
  obtain ⟨-, ⟨h0, h1, h2⟩, -⟩ := idx_facts t
  rw [← V_main_arg1 m c]
  refine congrArg (V m c main_arg1) (funext fun a => Fin.ext ?_)
  match a with
  | ⟨0, _⟩ => show win0_1.index t 0 * 1 + 1 * z.val = t.val / 8; omega
  | ⟨1, _⟩ => show win0_1.index t 1 * 1024 + 1 * r.val = 1024 * (t.val / 4 % 2) + r.val; omega
  | ⟨2, _⟩ => show win0_1.index t 2 * 512 + 1 * k.val = k.val; omega
/-- A point's block of the weight's first rows, element by element. -/
theorem iblk2_apply (c : Dev nD) (t : Fin cfg0.N) (k : Fin 1536) (n : Fin 512) :
    iblk m c 2 t (ix2 k n) = m ((c : Thread nD τ).loc main_arg2) (ix2 ⟨k.val, by omega⟩ (col t n)) := by
  obtain ⟨-, -, ⟨h0, h1⟩, -⟩ := idx_facts t
  rw [← V_w1 m c]
  refine congrArg (V m c main_v1) (funext fun a => Fin.ext ?_)
  match a with
  | ⟨0, _⟩ => show win0_2.index t 0 * 1536 + 1 * k.val = k.val; omega
  | ⟨1, _⟩ => show win0_2.index t 1 * 512 + 1 * n.val = 512 * (t.val % 4) + n.val; omega
/-- A point's block of the weight's last rows, element by element. -/
theorem iblk3_apply (c : Dev nD) (t : Fin cfg0.N) (k : Fin 512) (n : Fin 512) :
    iblk m c 3 t (ix2 k n) = m ((c : Thread nD τ).loc main_arg2) (ix2 ⟨1536 + k.val, by omega⟩ (col t n)) := by
  obtain ⟨-, -, -, ⟨h0, h1⟩, -⟩ := idx_facts t
  rw [← V_w2 m c]
  refine congrArg (V m c main_v2) (funext fun a => Fin.ext ?_)
  match a with
  | ⟨0, _⟩ => show win0_3.index t 0 * 512 + 1 * k.val = k.val; omega
  | ⟨1, _⟩ => show win0_3.index t 1 * 512 + 1 * n.val = 512 * (t.val % 4) + n.val; omega
/-- A point's block of the residual, element by element. -/
theorem iblk4_apply (c : Dev nD) (t : Fin cfg0.N) (z : Fin 1) (r : Fin 1024) (n : Fin 512) :
    iblk m c 4 t (ix3 z r n) = m ((c : Thread nD τ).loc main_arg3) (ix3 (bOf t) (row t r) (col t n)) := by
  obtain ⟨-, -, -, -, ⟨h0, h1, h2⟩, -⟩ := idx_facts t
  rw [← V_main_arg3 m c]
  refine congrArg (V m c main_arg3) (funext fun a => Fin.ext ?_)
  match a with
  | ⟨0, _⟩ => show win0_4.index t 0 * 1 + 1 * z.val = t.val / 8; omega
  | ⟨1, _⟩ => show win0_4.index t 1 * 1024 + 1 * r.val = 1024 * (t.val / 4 % 2) + r.val; omega
  | ⟨2, _⟩ => show win0_4.index t 2 * 512 + 1 * n.val = 512 * (t.val % 4) + n.val; omega
/-- A point's block of the gate, element by element. -/
theorem iblk5_apply (c : Dev nD) (t : Fin cfg0.N) (z y : Fin 1) (n : Fin 512) :
    iblk m c 5 t (ix3 z y n) = m ((c : Thread nD τ).loc main_arg4) (ix2 (bOf t) (col t n)) := by
  obtain ⟨-, -, -, -, -, ⟨h0, h1, h2⟩, -⟩ := idx_facts t
  rw [← V_gate m c (bOf t) 0]
  refine congrArg (V m c main_v3) (funext fun a => Fin.ext ?_)
  match a with
  | ⟨0, _⟩ => show win0_5.index t 0 * 1 + 1 * z.val = t.val / 8; omega
  | ⟨1, _⟩ => show win0_5.index t 1 * 1 + 1 * y.val = 0; omega
  | ⟨2, _⟩ => show win0_5.index t 2 * 512 + 1 * n.val = 512 * (t.val % 4) + n.val; omega

/-- The origin of a block of three axes. -/
theorem hz3 : (![0, 0, 0] : Fin 3 → Nat) = fun _ => 0 := funext fun a => by fin_cases a <;> rfl
/-- The origin of a block of two axes. -/
theorem hz2 : (![0, 0] : Fin 2 → Nat) = fun _ => 0 := funext fun a => by fin_cases a <;> rfl

/-- What a point leaves in the output's staging buffer is the stored block. -/
theorem out_eq (x0 : Vec Ideal S1x1024x1536 .bf16) (x1 : Vec Ideal S1x1024x512 .bf16) (x2 : Vec Ideal S1536x512 .bf16) (x3 : Vec Ideal S512x512 .bf16)
    (x4 : Vec Ideal S1x1024x512 .f32) (x5 : Vec Ideal S1x1x512 .f32) : out0_6 x0 x1 x2 x3 x4 x5 = k0_pay1 x0 x2 x1 x3 x4 x5 := by
  unfold out0_6
  rw [View.canon_unit_zero hz3]
  rw [View.ld_unit_zero hz3, View.ld_unit_zero hz2, View.ld_unit_zero hz3, View.ld_unit_zero hz2, View.ld_unit_zero hz3, View.ld_unit_zero hz3]

/-- The result as a whole array. -/
def res (c : Dev nD) : S8x2048x2048.Idx → EReal := fun i =>
  proj (m ((c : Thread nD τ).loc main_arg0)) (m ((c : Thread nD τ).loc main_arg1)) (m ((c : Thread nD τ).loc main_arg2))
    (m ((c : Thread nD τ).loc main_arg3)) (m ((c : Thread nD τ).loc main_arg4)) (i 0) (i 1) (i 2)

/-- What a point writes back is its block of the result. -/
theorem flushed_res (c : Dev nD) (t : Fin cfg0.N) : (dats m 0 c).flushed 6 t = ((cfg0.win 6).blk t).view.read (Elt Ideal) (res m c) := by
  rw [Value.flushed6, out_eq]
  obtain ⟨-, -, -, -, -, -, ⟨h0, h1, h2⟩⟩ := idx_facts t
  funext y
  obtain ⟨z, r, n, rfl⟩ : ∃ (z : Fin 1) (r : Fin 1024) (n : Fin 512), y = ix3 z r n := ⟨y 0, y 1, y 2, eq_ix3 y⟩
  refine (pay_apply _ _ _ _ _ _ z r n).trans ?_
  simp only [iblk0_apply, iblk1_apply, iblk2_apply, iblk3_apply, iblk4_apply, iblk5_apply]
  show proj _ _ _ _ _ (bOf t) (row t r) (col t n) = proj _ _ _ _ _ _ _ _
  congr 1
  · exact Fin.ext (by show t.val / 8 = win0_6.index t 0 * 1 + 1 * z.val; omega)
  · exact Fin.ext (by show 1024 * (t.val / 4 % 2) + r.val = win0_6.index t 1 * 1024 + 1 * r.val; omega)
  · exact Fin.ext (by show 512 * (t.val % 4) + n.val = win0_6.index t 2 * 512 + 1 * n.val; omega)

/-- Every element of the result lies in some point's block. -/
theorem cover_res (y : S8x2048x2048.Idx) : ∃ t : Fin cfg0.N, (cfg0.win 6).flush t = true ∧ y ∈ ((cfg0.win 6).blk t).view.set := by
  have y0 : (y 0).val < 8 := (y 0).isLt
  have y1 : (y 1).val < 2048 := (y 1).isLt
  have y2 : (y 2).val < 2048 := (y 2).isLt
  have ht : 8 * (y 0).val + 4 * ((y 1).val / 1024) + (y 2).val / 512 < cfg0.N := by rw [show cfg0.N = 64 from N_0]; omega
  refine ⟨⟨_, ht⟩, flush0_6 _, ?_⟩
  obtain ⟨-, -, -, -, -, -, ⟨h0, h1, h2⟩⟩ := idx_facts ⟨_, ht⟩
  show y ∈ ((View.whole main_v4).slice (win0_6.rect ⟨_, ht⟩)).set
  rw [View.set_slice_whole, Rect.mem_set_unit]
  dsimp only at h0 h1 h2
  intro a
  match a with
  | ⟨0, _⟩ => show win0_6.index _ 0 * 1 ≤ (y 0).val ∧ (y 0).val < win0_6.index _ 0 * 1 + 1; rw [h0]; omega
  | ⟨1, _⟩ => show win0_6.index _ 1 * 1024 ≤ (y 1).val ∧ (y 1).val < win0_6.index _ 1 * 1024 + 1024; rw [h1]; omega
  | ⟨2, _⟩ => show win0_6.index _ 2 * 512 ≤ (y 2).val ∧ (y 2).val < win0_6.index _ 2 * 512 + 512; rw [h2]; omega

/-- The program's run: its result is the residual projection of its arguments, which it leaves as they were. -/
theorem run_res (ρ : Dev nD → PrngReg) : θ_run defs (onTc (τ := τ) (main (F := Ideal))) ⟨m, fun _ => 0, ρ⟩ fun r => ∀ c : Dev nD,
      r.2.mem ((c : Thread nD τ).loc main_v4) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 6 _ (fun t _ => flushed_res m c t) cover_res),
    (h c).2⟩) (Value.run_blocks m ρ)
end Cert.EvenOutIdeal.Out

namespace Cert.OutEven

open Idealize.ShloMosaic Idealize.ShloMosaic.TcCoe Idealize.SL.Sem
open Cert.EvenOutRefIdeal Cert.EvenOutRefIdeal.Read
open Cert.EvenOutIdeal.Out (proj res run_res)

/-- A sum over the 2048 rows is the sum over the first 1536 and the sum over the last 512. -/
theorem sum_split (f : Fin 2048 → EReal) : ∑ k : Fin 2048, f k = (∑ k : Fin 1536, f ⟨k.val, by omega⟩) + ∑ k : Fin 512, f ⟨1536 + k.val, by omega⟩ :=
  Fin.sum_univ_add (a := 1536) (b := 512) f

variable (y : (⟨S8x2048x1536, .bf16⟩ : BufTy).Contents (Elt Ideal)) (f : (⟨S8x2048x512, .bf16⟩ : BufTy).Contents (Elt Ideal))

/-- The reference joins its two inputs along the columns. -/
theorem cat_left (b : Fin 8) (l : Fin 2048) (k : Fin 1536) : val_main_v0 (F := Ideal) y f (ix3 b l ⟨k.val, by omega⟩) = y (ix3 b l k) := by
  unfold val_main_v0
  pointwise
/-- Its last columns are the second input. -/
theorem cat_right (b : Fin 8) (l : Fin 2048) (k : Fin 512) : val_main_v0 (F := Ideal) y f (ix3 b l ⟨1536 + k.val, by omega⟩) = f (ix3 b l k) := by
  unfold val_main_v0
  pointwise

/-- The reference's result is the residual projection. -/
theorem ref_eq (w : (⟨S2048x2048, .f32⟩ : BufTy).Contents (Elt Ideal)) (x : (⟨S8x2048x2048, .f32⟩ : BufTy).Contents (Elt Ideal))
    (gate : (⟨S8x2048, .f32⟩ : BufTy).Contents (Elt Ideal)) (b : Fin 8) (l n : Fin 2048) :
    val_main_v6 (F := Ideal) y f w x gate (ix3 b l n) = proj y f w x gate b l n := by
  unfold proj
  rw [val_main_v6_apply, val_main_v5_apply, val_main_v4_apply, val_main_v2_apply, val_main_v3_apply, sum_split]
  have e1 : idx_main_v2 (idx_main_v4 (ix3 b l n)) = ix2 b n := funext fun a => match a with | ⟨0, _⟩ => rfl | ⟨1, _⟩ => rfl
  have e2 : ∀ k, lidx_main_v3 (ix3 b l n) k = ix3 b l k := fun k => funext fun a => match a with | ⟨0, _⟩ => rfl | ⟨1, _⟩ => rfl | ⟨2, _⟩ => rfl
  have e3 : ∀ k, ridx_main_v3 (ix3 b l n) k = ix2 k n := fun k => funext fun a => match a with | ⟨0, _⟩ => rfl | ⟨1, _⟩ => rfl
  simp only [e1, e2, e3, val_main_v1_apply, Ideal.extf_def, cat_left, cat_right]
  rfl

/-- The reference's run, its argument arrays kept and every semaphore at zero. -/
theorem ref_frame : Cert.quiescent_EvenOutRefIdeal := fun m ρ _ =>
  (θ_run Cert.EvenOutRefIdeal.defs _ _).mono
    (fun r h => ⟨fun c => (h c).2, Idealize.ShloMosaic.sem_eq_zero_of_no_sems (by decide) r.2⟩)
    (Cert.EvenOutRefIdeal.Value.run (F := Ideal) m ρ)

/-- The projection and its reference have the same result. -/
theorem algebraic : Cert.algebraic_EvenOutIdeal_EvenOutRefIdeal := by
  intro m ρ m' ρ' _ hagree
  refine ⟨fun c => res m c, run_res m ρ, ?_⟩
  refine (θ_run Cert.EvenOutRefIdeal.defs _ _).mono (fun r h c => ⟨(h c).1.trans ?_, (h c).2⟩) (Cert.EvenOutRefIdeal.Value.run (F := Ideal) m' ρ')
  obtain ⟨a0, a1, a2, a3, a4⟩ := hagree c
  rw [val_main_v6_eq, a0, a1, a2, a3, a4]
  funext i
  obtain ⟨b, l, n, rfl⟩ : ∃ (b : Fin 8) (l n : Fin 2048), i = ix3 b l n := ⟨i 0, i 1, i 2, eq_ix3 i⟩
  exact ref_eq _ _ _ _ _ b l n

end Cert.OutEven
-- ==== Proof.OutOdd.lean ====
/- The odd layers' output projection: `x + gate · (y·w)`. -/
module

public import proofs.«01_k».proof.Defs
public import proofs.«01_k».proof.Proof.Gen.OddOut.Frame
public import proofs.«01_k».proof.Proof.Gen.OddOutIdeal.Value
public import proofs.«01_k».proof.Proof.Gen.OddOutRefIdeal.Read
public import Idealize.ShloMosaic.Lib.Pipeline.Value
public import Idealize.ShloMosaic.Lib.Pointwise
public import Idealize.ShloMosaic.Lib.Quiescent

@[expose] public section

set_option maxRecDepth 16384

noncomputable section

namespace Cert.OddOutIdeal.Out

open Idealize.ShloMosaic Idealize.ShloMosaic.TcCoe Idealize.SL.Sem
open Cert.OddOutIdeal Cert.OddOutIdeal.Gen

variable (m : (ℓ : Loc nD τ sig) → Buf (Elt Ideal) ℓ)

/-- The residual projection: the residual plus the gate times the product of the input with the weight. -/
def proj (y : S8x2048x2048.Idx → EReal) (w : S2048x2048.Idx → EReal) (x : S8x2048x2048.Idx → EReal)
    (gate : S8x2048.Idx → EReal) (b : Fin 8) (l n : Fin 2048) : EReal :=
  x (ix3 b l n) + gate (ix2 b n) * ∑ k : Fin 2048, y (ix3 b l k) * w (ix2 k n)

/-- The stored block, element by element. -/
theorem pay_apply (x0 : Vec Ideal S1x1024x2048 .bf16) (x1 : Vec Ideal S2048x512 .bf16)
    (x2 : Vec Ideal S1x1024x512 .f32) (x3 : Vec Ideal S1x1x512 .f32) (z : Fin 1) (r : Fin 1024) (n : Fin 512) :
    k0_pay1 x0 x1 x2 x3 (ix3 z r n)
      = (x2 (ix3 0 r n) + x3 (ix3 0 0 n) * ∑ k : Fin 2048, x0 (ix3 0 r k) * x1 (ix2 k n) : EReal) := by
  unfold k0_pay1
  pointwise

/-- The weight, as the kernel is handed it. -/
theorem V_w (c : Dev nD) (k n : Fin 2048) : V m c main_v0 (ix2 k n) = m ((c : Thread nD τ).loc main_arg1) (ix2 k n) := by
  show StableHlo.after hostOps0 (fun b => m (c, b)) main_v0 (ix2 k n) = _
  unfold hostOps0
  after_results_simp
  rfl
/-- The gate, a row of one for each batch row. -/
theorem V_gate (c : Dev nD) (b : Fin 8) (z : Fin 1) (n : Fin 2048) : V m c main_v1 (ix3 b z n) = m ((c : Thread nD τ).loc main_arg3) (ix2 b n) := by
  have h : V m c main_v1 = (fun x => shapeCast S8x1x2048 x shapeCasts_S8x2048_S8x1x2048 : (⟨S8x2048, .f32⟩ : BufTy).Contents (Elt Ideal) → (⟨S8x1x2048, .f32⟩ : BufTy).Contents (Elt Ideal))
      (m ((c : Thread nD τ).loc main_arg3)) := by
    show StableHlo.after hostOps0 (fun b => m (c, b)) main_v1 = _
    unfold hostOps0
    after_results_simp
    rfl
  rw [h]
  dsimp only
  pointwise

/-- The block each point works on. -/
theorem idx_facts : ∀ t : Fin cfg0.N,
    (win0_0.index t 0 = t.val / 8 ∧ win0_0.index t 1 = t.val / 4 % 2 ∧ win0_0.index t 2 = 0)
    ∧ (win0_1.index t 0 = 0 ∧ win0_1.index t 1 = t.val % 4)
    ∧ (win0_2.index t 0 = t.val / 8 ∧ win0_2.index t 1 = t.val / 4 % 2 ∧ win0_2.index t 2 = t.val % 4)
    ∧ (win0_3.index t 0 = t.val / 8 ∧ win0_3.index t 1 = 0 ∧ win0_3.index t 2 = t.val % 4)
    ∧ (win0_4.index t 0 = t.val / 8 ∧ win0_4.index t 1 = t.val / 4 % 2 ∧ win0_4.index t 2 = t.val % 4) := by decide +kernel

/-- The grid has 64 points. -/
theorem lt64 (t : Fin cfg0.N) : t.val < 64 := Nat.lt_of_lt_of_eq t.isLt N_0

/-- The batch row of a point. -/
def bOf (t : Fin cfg0.N) : Fin 8 := ⟨t.val / 8, by have := lt64 t; omega⟩
/-- The row of the result that a row of a point's block is. -/
def row (t : Fin cfg0.N) (r : Fin 1024) : Fin 2048 := ⟨1024 * (t.val / 4 % 2) + r.val, by omega⟩
/-- The column of the result that a column of a point's block is. -/
def col (t : Fin cfg0.N) (n : Fin 512) : Fin 2048 := ⟨512 * (t.val % 4) + n.val, by omega⟩

/-- A point's block of the first input, element by element. -/
theorem iblk0_apply (c : Dev nD) (t : Fin cfg0.N) (z : Fin 1) (r : Fin 1024) (k : Fin 2048) :
    iblk m c 0 t (ix3 z r k) = m ((c : Thread nD τ).loc main_arg0) (ix3 (bOf t) (row t r) k) := by
  obtain ⟨⟨h0, h1, h2⟩, -⟩ := idx_facts t
  rw [← V_main_arg0 m c]
  refine congrArg (V m c main_arg0) (funext fun a => Fin.ext ?_)
  match a with
  | ⟨0, _⟩ => show win0_0.index t 0 * 1 + 1 * z.val = t.val / 8; omega
  | ⟨1, _⟩ => show win0_0.index t 1 * 1024 + 1 * r.val = 1024 * (t.val / 4 % 2) + r.val; omega
  | ⟨2, _⟩ => show win0_0.index t 2 * 2048 + 1 * k.val = k.val; omega
/-- A point's block of the weight, element by element. -/
theorem iblk1_apply (c : Dev nD) (t : Fin cfg0.N) (k : Fin 2048) (n : Fin 512) :
    iblk m c 1 t (ix2 k n) = m ((c : Thread nD τ).loc main_arg1) (ix2 k (col t n)) := by
  obtain ⟨-, ⟨h0, h1⟩, -⟩ := idx_facts t
  rw [← V_w m c]
  refine congrArg (V m c main_v0) (funext fun a => Fin.ext ?_)
  match a with
  | ⟨0, _⟩ => show win0_1.index t 0 * 2048 + 1 * k.val = k.val; omega
  | ⟨1, _⟩ => show win0_1.index t 1 * 512 + 1 * n.val = 512 * (t.val % 4) + n.val; omega
/-- A point's block of the residual, element by element. -/
theorem iblk2_apply (c : Dev nD) (t : Fin cfg0.N) (z : Fin 1) (r : Fin 1024) (n : Fin 512) :
    iblk m c 2 t (ix3 z r n) = m ((c : Thread nD τ).loc main_arg2) (ix3 (bOf t) (row t r) (col t n)) := by
  obtain ⟨-, -, ⟨h0, h1, h2⟩, -⟩ := idx_facts t
  rw [← V_main_arg2 m c]
  refine congrArg (V m c main_arg2) (funext fun a => Fin.ext ?_)
  match a with
  | ⟨0, _⟩ => show win0_2.index t 0 * 1 + 1 * z.val = t.val / 8; omega
  | ⟨1, _⟩ => show win0_2.index t 1 * 1024 + 1 * r.val = 1024 * (t.val / 4 % 2) + r.val; omega
  | ⟨2, _⟩ => show win0_2.index t 2 * 512 + 1 * n.val = 512 * (t.val % 4) + n.val; omega
/-- A point's block of the gate, element by element. -/
theorem iblk3_apply (c : Dev nD) (t : Fin cfg0.N) (z y : Fin 1) (n : Fin 512) :
    iblk m c 3 t (ix3 z y n) = m ((c : Thread nD τ).loc main_arg3) (ix2 (bOf t) (col t n)) := by
  obtain ⟨-, -, -, ⟨h0, h1, h2⟩, -⟩ := idx_facts t
  rw [← V_gate m c (bOf t) 0]
  refine congrArg (V m c main_v1) (funext fun a => Fin.ext ?_)
  match a with
  | ⟨0, _⟩ => show win0_3.index t 0 * 1 + 1 * z.val = t.val / 8; omega
  | ⟨1, _⟩ => show win0_3.index t 1 * 1 + 1 * y.val = 0; omega
  | ⟨2, _⟩ => show win0_3.index t 2 * 512 + 1 * n.val = 512 * (t.val % 4) + n.val; omega

/-- The origin of a block of three axes. -/
theorem hz3 : (![0, 0, 0] : Fin 3 → Nat) = fun _ => 0 := funext fun a => by fin_cases a <;> rfl
/-- The origin of a block of two axes. -/
theorem hz2 : (![0, 0] : Fin 2 → Nat) = fun _ => 0 := funext fun a => by fin_cases a <;> rfl

/-- What a point leaves in the output's staging buffer is the stored block. -/
theorem out_eq (x0 : Vec Ideal S1x1024x2048 .bf16) (x1 : Vec Ideal S2048x512 .bf16)
    (x2 : Vec Ideal S1x1024x512 .f32) (x3 : Vec Ideal S1x1x512 .f32) : out0_4 x0 x1 x2 x3 = k0_pay1 x0 x1 x2 x3 := by
  unfold out0_4
  rw [View.canon_unit_zero hz3]
  rw [View.ld_unit_zero hz3, View.ld_unit_zero hz2, View.ld_unit_zero hz3, View.ld_unit_zero hz3]

/-- The result as a whole array. -/
def res (c : Dev nD) : S8x2048x2048.Idx → EReal := fun i =>
  proj (m ((c : Thread nD τ).loc main_arg0)) (m ((c : Thread nD τ).loc main_arg1))
    (m ((c : Thread nD τ).loc main_arg2)) (m ((c : Thread nD τ).loc main_arg3)) (i 0) (i 1) (i 2)

/-- What a point writes back is its block of the result. -/
theorem flushed_res (c : Dev nD) (t : Fin cfg0.N) : (dats m 0 c).flushed 4 t = ((cfg0.win 4).blk t).view.read (Elt Ideal) (res m c) := by
  rw [Value.flushed4, out_eq]
  obtain ⟨-, -, -, -, ⟨h0, h1, h2⟩⟩ := idx_facts t
  funext y
  obtain ⟨z, r, n, rfl⟩ : ∃ (z : Fin 1) (r : Fin 1024) (n : Fin 512), y = ix3 z r n := ⟨y 0, y 1, y 2, eq_ix3 y⟩
  refine (pay_apply _ _ _ _ z r n).trans ?_
  simp only [iblk0_apply, iblk1_apply, iblk2_apply, iblk3_apply]
  show proj _ _ _ _ (bOf t) (row t r) (col t n) = proj _ _ _ _ _ _ _
  congr 1
  · exact Fin.ext (by show t.val / 8 = win0_4.index t 0 * 1 + 1 * z.val; omega)
  · exact Fin.ext (by show 1024 * (t.val / 4 % 2) + r.val = win0_4.index t 1 * 1024 + 1 * r.val; omega)
  · exact Fin.ext (by show 512 * (t.val % 4) + n.val = win0_4.index t 2 * 512 + 1 * n.val; omega)

/-- Every element of the result lies in some point's block. -/
theorem cover_res (y : S8x2048x2048.Idx) : ∃ t : Fin cfg0.N, (cfg0.win 4).flush t = true ∧ y ∈ ((cfg0.win 4).blk t).view.set := by
  have y0 : (y 0).val < 8 := (y 0).isLt
  have y1 : (y 1).val < 2048 := (y 1).isLt
  have y2 : (y 2).val < 2048 := (y 2).isLt
  have ht : 8 * (y 0).val + 4 * ((y 1).val / 1024) + (y 2).val / 512 < cfg0.N := by rw [show cfg0.N = 64 from N_0]; omega
  refine ⟨⟨_, ht⟩, flush0_4 _, ?_⟩
  obtain ⟨-, -, -, -, ⟨h0, h1, h2⟩⟩ := idx_facts ⟨_, ht⟩
  show y ∈ ((View.whole main_v2).slice (win0_4.rect ⟨_, ht⟩)).set
  rw [View.set_slice_whole, Rect.mem_set_unit]
  dsimp only at h0 h1 h2
  intro a
  match a with
  | ⟨0, _⟩ => show win0_4.index _ 0 * 1 ≤ (y 0).val ∧ (y 0).val < win0_4.index _ 0 * 1 + 1; rw [h0]; omega
  | ⟨1, _⟩ => show win0_4.index _ 1 * 1024 ≤ (y 1).val ∧ (y 1).val < win0_4.index _ 1 * 1024 + 1024; rw [h1]; omega
  | ⟨2, _⟩ => show win0_4.index _ 2 * 512 ≤ (y 2).val ∧ (y 2).val < win0_4.index _ 2 * 512 + 512; rw [h2]; omega

/-- The program's run: its result is the residual projection of its arguments, which it leaves as they were. -/
theorem run_res (ρ : Dev nD → PrngReg) : θ_run defs (onTc (τ := τ) (main (F := Ideal))) ⟨m, fun _ => 0, ρ⟩ fun r => ∀ c : Dev nD,
      r.2.mem ((c : Thread nD τ).loc main_v2) = res m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans ((dats m 0 c).arrAt_eq_of_cover 4 _ (fun t _ => flushed_res m c t) cover_res),
    (h c).2⟩) (Value.run_blocks m ρ)
end Cert.OddOutIdeal.Out

namespace Cert.OutOdd

open Idealize.ShloMosaic Idealize.ShloMosaic.TcCoe Idealize.SL.Sem
open Cert.OddOutRefIdeal Cert.OddOutRefIdeal.Read
open Cert.OddOutIdeal.Out (proj res run_res)

/-- The reference's result is the residual projection. -/
theorem ref_eq (y : (⟨S8x2048x2048, .bf16⟩ : BufTy).Contents (Elt Ideal)) (w : (⟨S2048x2048, .f32⟩ : BufTy).Contents (Elt Ideal))
    (x : (⟨S8x2048x2048, .f32⟩ : BufTy).Contents (Elt Ideal)) (gate : (⟨S8x2048, .f32⟩ : BufTy).Contents (Elt Ideal)) (b : Fin 8) (l n : Fin 2048) :
    val_main_v5 (F := Ideal) y w x gate (ix3 b l n) = proj y w x gate b l n := by
  unfold proj
  rw [val_main_v5_apply, val_main_v4_apply, val_main_v3_apply, val_main_v0_apply, val_main_v2_apply]
  have e1 : idx_main_v0 (idx_main_v3 (ix3 b l n)) = ix2 b n := funext fun a => match a with | ⟨0, _⟩ => rfl | ⟨1, _⟩ => rfl
  have e2 : ∀ k, lidx_main_v2 (ix3 b l n) k = ix3 b l k := fun k => funext fun a => match a with | ⟨0, _⟩ => rfl | ⟨1, _⟩ => rfl | ⟨2, _⟩ => rfl
  have e3 : ∀ k, ridx_main_v2 (ix3 b l n) k = ix2 k n := fun k => funext fun a => match a with | ⟨0, _⟩ => rfl | ⟨1, _⟩ => rfl
  simp only [e1, e2, e3, val_main_v1_apply, Ideal.extf_def]
  rfl

/-- The reference's run, its argument arrays kept and every semaphore at zero. -/
theorem ref_frame : Cert.quiescent_OddOutRefIdeal := fun m ρ _ =>
  (θ_run Cert.OddOutRefIdeal.defs _ _).mono
    (fun r h => ⟨fun c => (h c).2, Idealize.ShloMosaic.sem_eq_zero_of_no_sems (by decide) r.2⟩)
    (Cert.OddOutRefIdeal.Value.run (F := Ideal) m ρ)

/-- The projection and its reference have the same result. -/
theorem algebraic : Cert.algebraic_OddOutIdeal_OddOutRefIdeal := by
  intro m ρ m' ρ' _ hagree
  refine ⟨fun c => res m c, run_res m ρ, ?_⟩
  refine (θ_run Cert.OddOutRefIdeal.defs _ _).mono (fun r h c => ⟨(h c).1.trans ?_, (h c).2⟩) (Cert.OddOutRefIdeal.Value.run (F := Ideal) m' ρ')
  obtain ⟨a0, a1, a2, a3⟩ := hagree c
  rw [val_main_v5_eq, a0, a1, a2, a3]
  funext i
  obtain ⟨b, l, n, rfl⟩ : ∃ (b : Fin 8) (l n : Fin 2048), i = ix3 b l n := ⟨i 0, i 1, i 2, eq_ix3 i⟩
  exact ref_eq _ _ _ _ b l n

end Cert.OutOdd
-- ==== Proof.GdnHead.lean ====
/-
  The recurrence's body, said once. The printed body spells each of its 12 heads out on its own, cut at different
  places; here one head is one function of the head's number, and the stores of a grid point are instances of two.
-/
module

public import proofs.«01_k».proof.Proof.Gen.GdnIdeal.Frame

@[expose] public section

set_option maxRecDepth 16384

noncomputable section

namespace Cert.GdnIdeal.Rec

open Idealize.ShloMosaic Idealize.ShloMosaic.TcCoe Idealize.SL.Sem
open Idealize.ShloMosaic.Tactic
open Idealize.ShloMosaic.Pipeline (Dat)
open Cert.GdnIdeal Cert.GdnIdeal.Gen

variable {F : FTy → Type} [FloatOps F]

theorem inb_x (h : Nat) (hh : h < 12) : ∀ a, (![0, 0, 128 * h] : Fin 3 → Nat) a + (![1, 64, 128] : Fin 3 → Nat) a ≤ S1x64x1536.size a := by
  intro a; fin_cases a <;> simp [S1x64x1536]; omega

theorem inb_o (h : Nat) (hh : h < 12) : ∀ a, (![0, 0, 0, 128 * h] : Fin 4 → Nat) a + (![1, 1, 64, 128] : Fin 4 → Nat) a ≤ S1x1x64x1536.size a := by
  intro a; fin_cases a <;> simp [S1x1x64x1536]; omega

theorem inb_s (h : Nat) (hh : h < 12) : ∀ a, (![h, 0, 0] : Fin 3 → Nat) a + (![1, 128, 128] : Fin 3 → Nat) a ≤ S12x128x128.size a := by
  intro a; fin_cases a <;> simp [S12x128x128]; omega

theorem sl_b (h : Nat) (hh : h < 12) : S64x128.Slices ![0, h] S64x1 := by
  have key : ∀ n < 12, S64x128.Slices ![0, n] S64x1 := by decide
  exact key h hh
theorem sl_c (h : Nat) (hh : h < 12) : S64x128.Slices ![0, 12 + h] S64x1 := by
  have key : ∀ n < 12, S64x128.Slices ![0, 12 + n] S64x1 := by decide
  exact key h hh
theorem sl_r (h : Nat) (hh : h < 12) : S128x64.Slices ![12 + h, 0] S1x64 := by
  have key : ∀ n < 12, S128x64.Slices ![12 + n, 0] S1x64 := by decide
  exact key h hh
theorem sl_1 (h : Nat) (hh : h < 12) : S1x128.Slices ![0, 12 + h] S1x1 := by
  have key : ∀ n < 12, S1x128.Slices ![0, 12 + n] S1x1 := by decide
  exact key h hh

/-- The 128 columns of head `h` of a block of 64 rows (queries, keys or values). -/
def cols (x : Vec F S1x64x1536 .f32) (h : Nat) (hh : h < 12) : FVec F S64x128 .f32 :=
  shapeCast S64x128 (View.ld x (Rect.unit ![0, 0, 128 * h] ![1, 64, 128] (inb_x h hh))) shapeCasts_S1x64x128_S64x128

/-- Head `h` of the carried state. -/
def stOf (s : Vec F S12x128x128 .f32) (h : Nat) (hh : h < 12) : FVec F S128x128 .f32 :=
  shapeCast S128x128 (View.ld s (Rect.unit ![h, 0, 0] ![1, 128, 128] (inb_s h hh))) shapeCasts_S1x128x128_S128x128

/-- Column `h` (the step sizes) and column `12 + h` (the decays) of a block of 64 rows. -/
def cb (x : FVec F S64x128 .f32) (h : Nat) (hh : h < 12) : FVec F S64x1 .f32 := extractStridedSlice S64x1 ![0, h] x (sl_b h hh)
def cg (x : FVec F S64x128 .f32) (h : Nat) (hh : h < 12) : FVec F S64x1 .f32 := extractStridedSlice S64x1 ![0, 12 + h] x (sl_c h hh)

/-- Each row times its own number. -/
def scl (x : FVec F S64x128 .f32) (b : FVec F S64x1 .f32) : FVec F S64x128 .f32 := mulf x (broadcastTo S64x128 b broadcasts_S64x1_S64x128)

/-- The decay from one row of the chunk to another. -/
def dec (g : FVec F S64x128 .f32) (w : IVec S64x64 32) (h : Nat) (hh : h < 12) : FVec F S64x64 .f32 :=
  exp (select (k0_pay8 w) (subf (broadcastTo S64x64 (cg (k0_pay10 g w) h hh) broadcasts_S64x1_S64x64)
      (broadcastTo S64x64 (extractStridedSlice S1x64 ![12 + h, 0] (k0_pay12 g w) (sl_r h hh)) broadcasts_S1x64_S64x64))
    (broadcast S64x64 (Scalar.ofBits .f32 0xFF800000#32)))

/-- Rows against rows. -/
def gram (a b : FVec F S64x128 .f32) : FVec F S64x64 .f32 :=
  matmul dot_S64x128_S64x128_S64x64_1_1_0_0_n_n none (truncf .bf16 a bitsLt_bf16_f32) (truncf .bf16 b bitsLt_bf16_f32) (constant S64x64 .f32 0x00000000#32)

/-- Decayed products of rows against rows, kept where the mask says. -/
def maskd (m : IVec S64x64 1) (a b : FVec F S64x128 .f32) (d : FVec F S64x64 .f32) : FVec F S64x64 .f32 :=
  select m (mulf (gram a b) d) (broadcast S64x64 (Scalar.ofBits .f32 0x00000000#32))

/-- A square matrix applied to 64 rows, and 64 rows applied to the state. -/
def app (t : FVec F S64x64 .f32) (x : FVec F S64x128 .f32) : FVec F S64x128 .f32 :=
  matmul dot_S64x64_S64x128_S64x128_1_0_0_1_n_n none (truncf .bf16 t bitsLt_bf16_f32) (truncf .bf16 x bitsLt_bf16_f32) (constant S64x128 .f32 0x00000000#32)
def rd (x : FVec F S64x128 .f32) (s : FVec F S128x128 .f32) : FVec F S64x128 .f32 :=
  matmul dot_S64x128_S128x128_S64x128_1_0_0_1_n_n none (truncf .bf16 x bitsLt_bf16_f32) (truncf .bf16 s bitsLt_bf16_f32) (constant S64x128 .f32 0x00000000#32)

/-- The inverse of one plus the strictly triangular matrix `l`, by doubling. -/
def inv (l : FVec F S64x64 .f32) : FVec F S64x64 .f32 := k0_pay25 l k0_pay24

variable (w : IVec S64x64 32) (q k v b g : FVec F S64x128 .f32) (s : FVec F S128x128 .f32) (h : Nat) (hh : h < 12)

def tri : FVec F S64x64 .f32 := inv (maskd (k0_pay9 w) (scl k (cb b h hh)) k (dec g w h hh))

/-- What the chunk's rows write into the state. -/
def vnew : FVec F S64x128 .f32 :=
  subf (app (tri w k b g h hh) (scl v (cb b h hh)))
    (rd (app (tri w k b g h hh) (scl (scl k (cb b h hh)) (cg (k0_pay13 g w) h hh))) s)

/-- What the head returns of the chunk, and the state it leaves. -/
def hout : FVec F S64x128 .f32 :=
  addf (rd (scl q (cg (k0_pay13 g w) h hh)) s) (app (maskd (k0_pay8 w) q k (dec g w h hh)) (vnew w k v b g s h hh))
def hst : FVec F S128x128 .f32 :=
  addf (mulf s (broadcastTo S128x128 (extractStridedSlice S1x1 ![0, 12 + h] (k0_pay15 g) (sl_1 h hh)) broadcasts_S1x1_S128x128))
    (matmul dot_S64x128_S64x128_S128x128_0_0_1_1_n_n none (truncf .bf16 (scl k (cg (k0_pay14 g w) h hh)) bitsLt_bf16_f32)
      (truncf .bf16 (vnew w k v b g s h hh) bitsLt_bf16_f32) (constant S128x128 .f32 0x00000000#32))

end Cert.GdnIdeal.Rec

namespace Cert.GdnIdeal.Rec

open Idealize.ShloMosaic Idealize.ShloMosaic.TcCoe Idealize.SL.Sem
open Idealize.ShloMosaic.Tactic
open Cert.GdnIdeal Cert.GdnIdeal.Gen

variable {F : FTy → Type} [FloatOps F]

/-- The two stores of head `h` of a grid point. -/
def po (i : grid0.Coords) (x0 x1 x2 : Vec F S1x64x1536 .f32) (x3 : Vec F S1x64x128 .f32) (x4 x5 : Vec F S1x1x128 .f32)
    (s : Vec F S12x128x128 .f32) (h : Nat) (hh : h < 12) : View.Piece (Elt F) S1x1x64x1536 .f32 :=
  ⟨Rect.unit ![0, 0, 0, 128 * h] ![1, 1, 64, 128] (inb_o h hh),
    shapeCast S1x1x64x128 (hout (k0_pay7 i) (cols x0 h hh) (cols x1 h hh) (cols x2 h hh) (k0_pay5 x3) (k0_pay6 x3 x4 x5) (stOf s h hh) h hh)
      shapeCasts_S64x128_S1x1x64x128⟩
def ps (i : grid0.Coords) (x1 x2 : Vec F S1x64x1536 .f32) (x3 : Vec F S1x64x128 .f32) (x4 x5 : Vec F S1x1x128 .f32)
    (s : Vec F S12x128x128 .f32) (h : Nat) (hh : h < 12) : View.Piece (Elt F) S12x128x128 .f32 :=
  ⟨Rect.unit ![h, 0, 0] ![1, 128, 128] (inb_s h hh),
    shapeCast S1x128x128 (hst (k0_pay7 i) (cols x1 h hh) (cols x2 h hh) (k0_pay5 x3) (k0_pay6 x3 x4 x5) (stOf s h hh) h hh)
      shapeCasts_S128x128_S1x128x128⟩

/-- A whole point's stores. -/
def pos (i : grid0.Coords) (x0 x1 x2 : Vec F S1x64x1536 .f32) (x3 : Vec F S1x64x128 .f32) (x4 x5 : Vec F S1x1x128 .f32)
    (s : Vec F S12x128x128 .f32) : List (View.Piece (Elt F) S1x1x64x1536 .f32) :=
  [po i x0 x1 x2 x3 x4 x5 s 11 (by decide), po i x0 x1 x2 x3 x4 x5 s 10 (by decide), po i x0 x1 x2 x3 x4 x5 s 9 (by decide), po i x0 x1 x2 x3 x4 x5 s 8 (by decide), po i x0 x1 x2 x3 x4 x5 s 7 (by decide), po i x0 x1 x2 x3 x4 x5 s 6 (by decide), po i x0 x1 x2 x3 x4 x5 s 5 (by decide), po i x0 x1 x2 x3 x4 x5 s 4 (by decide), po i x0 x1 x2 x3 x4 x5 s 3 (by decide), po i x0 x1 x2 x3 x4 x5 s 2 (by decide), po i x0 x1 x2 x3 x4 x5 s 1 (by decide), po i x0 x1 x2 x3 x4 x5 s 0 (by decide)]
def pss (i : grid0.Coords) (x1 x2 : Vec F S1x64x1536 .f32) (x3 : Vec F S1x64x128 .f32) (x4 x5 : Vec F S1x1x128 .f32)
    (s : Vec F S12x128x128 .f32) : List (View.Piece (Elt F) S12x128x128 .f32) :=
  [ps i x1 x2 x3 x4 x5 s 11 (by decide), ps i x1 x2 x3 x4 x5 s 10 (by decide), ps i x1 x2 x3 x4 x5 s 9 (by decide), ps i x1 x2 x3 x4 x5 s 8 (by decide), ps i x1 x2 x3 x4 x5 s 7 (by decide), ps i x1 x2 x3 x4 x5 s 6 (by decide), ps i x1 x2 x3 x4 x5 s 5 (by decide), ps i x1 x2 x3 x4 x5 s 4 (by decide), ps i x1 x2 x3 x4 x5 s 3 (by decide), ps i x1 x2 x3 x4 x5 s 2 (by decide), ps i x1 x2 x3 x4 x5 s 1 (by decide), ps i x1 x2 x3 x4 x5 s 0 (by decide)]

end Cert.GdnIdeal.Rec

end
-- ==== Proof.GdnMath.lean ====
/-
  The gated delta rule on functions of plain indices: one chunk of 64 rows of one head, in the order of the sequence.
  The inverse of one plus a strictly lower triangular matrix is reached in two ways: by doubling (the kernel's) and by
  substitution row after row (the reference's); both give the one solution of `X = 1 - M X`.
-/
module

public import Idealize.ShloMosaic.PureOps.Ideal
public import Mathlib.LinearAlgebra.Matrix.Defs
public import Mathlib.Data.Matrix.Mul

@[expose] public section

noncomputable section

namespace Cert.GdnMath

open Idealize.ShloMosaic

/-! ## Real numbers among the extended ones -/

/-- `x` is a real number. -/
def Real' (x : EReal) : Prop := ∃ r : ℝ, x = r

theorem Real'.of (r : ℝ) : Real' r := ⟨r, rfl⟩
theorem Real'.add {x y : EReal} : Real' x → Real' y → Real' (x + y) := by
  rintro ⟨r, rfl⟩ ⟨s, rfl⟩; exact ⟨r + s, (EReal.coe_add r s).symm⟩
theorem Real'.mul {x y : EReal} : Real' x → Real' y → Real' (x * y) := by
  rintro ⟨r, rfl⟩ ⟨s, rfl⟩; exact ⟨r * s, (EReal.coe_mul r s).symm⟩
theorem Real'.neg {x : EReal} : Real' x → Real' (-x) := by
  rintro ⟨r, rfl⟩; exact ⟨-r, (EReal.coe_neg r).symm⟩
theorem Real'.sub {x y : EReal} : Real' x → Real' y → Real' (x - y) := by
  rintro ⟨r, rfl⟩ ⟨s, rfl⟩; exact ⟨r - s, (EReal.coe_sub r s).symm⟩
theorem Real'.exp {x : EReal} : Real' x → Real' (Ideal.exp x) := by
  rintro ⟨r, rfl⟩; exact ⟨Real.exp r, rfl⟩
theorem Real'.zero : Real' 0 := ⟨0, EReal.coe_zero.symm⟩
theorem Real'.max {x y : EReal} (hx : Real' x) (hy : Real' y) : Real' (max x y) := by
  rcases max_choice x y with h | h <;> rw [h] <;> assumption
theorem Real'.sum {ι : Type} (s : Finset ι) (f : ι → EReal) (h : ∀ i, Real' (f i)) : Real' (∑ i ∈ s, f i) := by
  classical
  induction s using Finset.induction_on with
  | empty => rw [Finset.sum_empty]; exact Real'.zero
  | insert a s ha ih => rw [Finset.sum_insert ha]; exact (h a).add ih
theorem Real'.coe {x : EReal} (h : Real' x) : x = (x.toReal : EReal) := by
  obtain ⟨r, rfl⟩ := h; rw [EReal.toReal_coe]
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-! ## The gates -/

/-- The step size: the logistic function. -/
def lgs (x : EReal) : EReal := Ideal.div 1 (1 + Ideal.exp (-x))

/-- The softplus. -/
def sp (x : EReal) : EReal := max x 0 + Ideal.log1p (Ideal.exp (-(max x (-x))))

/-- The decay's logarithm. -/
def gate (a x dt : EReal) : EReal := -(Ideal.exp a) * sp (x + dt)

/-- The step size is a real number whatever it is made of. -/
theorem lgs_real (x : EReal) : Real' (lgs x) := by
  unfold lgs
  induction x with
  | bot =>
    have h : (1 : EReal) + Ideal.exp (-⊥) = ⊤ := by
      rw [EReal.neg_bot]
      exact EReal.coe_add_top 1
    rw [h]
    exact ⟨0, by unfold Ideal.div; simp⟩
  | coe r =>
    have h : (1 : EReal) + Ideal.exp (-(r : EReal)) = ((1 + Real.exp (-r) : ℝ) : EReal) := by
      rw [← EReal.coe_neg, EReal.coe_add]; rfl
    rw [h, Ideal.div_coe (by positivity)]
    exact Real'.mul ⟨1, EReal.coe_one.symm⟩ ⟨_, rfl⟩
  | top =>
    have h : (1 : EReal) + Ideal.exp (-⊤) = ((1 : ℝ) : EReal) := by
      rw [EReal.neg_top]
      exact add_zero 1
    rw [h, Ideal.div_coe one_ne_zero]
    exact Real'.mul ⟨1, EReal.coe_one.symm⟩ ⟨_, rfl⟩

theorem exp_nonneg (x : EReal) : 0 ≤ Ideal.exp x := by
  induction x with
  | bot => exact le_refl (0 : EReal)
  | coe r => exact EReal.coe_nonneg.mpr (Real.exp_nonneg r)
  | top => exact le_top

theorem sp_nonneg (x : EReal) : 0 ≤ sp x := by
  unfold sp
  refine add_nonneg (le_max_right _ _) ?_
  unfold Ideal.log1p
  have h := exp_nonneg (-(max x (-x)))
  revert h
  generalize Ideal.exp (-(max x (-x))) = y
  intro h
  induction y with
  | bot => exact absurd h (by simp)
  | coe r =>
    have hr : 0 ≤ r := EReal.coe_nonneg.mp h
    have e : (1 : EReal) + (r : EReal) = ((1 + r : ℝ) : EReal) := by rw [EReal.coe_add]; rfl
    rw [e, Ideal.log_coe, if_neg (not_le.mpr (by positivity))]
    exact EReal.coe_nonneg.mpr (Real.log_nonneg (by linarith))
  | top =>
    rw [show (1 : EReal) + ⊤ = ⊤ from EReal.coe_add_top 1]
    exact le_top

/-- The decay's logarithm is never positive. -/
theorem gate_ne_top (a x dt : EReal) : gate a x dt ≠ ⊤ := by
  have h : gate a x dt ≤ 0 := by
    unfold gate
    rw [EReal.neg_mul, EReal.neg_le_zero]
    exact EReal.mul_nonneg (exp_nonneg a) (sp_nonneg _)
  exact fun e => absurd (e ▸ h) (by simp)

/-! ## The inverse -/

/-- A chunk's square matrices. -/
abbrev Mat := Matrix (Fin 64) (Fin 64) ℝ

/-- One doubling. -/
def rnd (x : Mat × Mat) : Mat × Mat := (x.1 + x.1 * x.2, x.2 * x.2)

/-- Five doublings of `1 - M`. -/
def dbl (M : Mat) : Mat := (rnd (rnd (rnd (rnd (rnd (1 + -M, -M * -M)))))).1

theorem rnd_inv (P : Mat) (x : Mat × Mat) (h : (1 - P) * x.1 = 1 - x.2) : (1 - P) * (rnd x).1 = 1 - (rnd x).2 := by
  show (1 - P) * (x.1 + x.1 * x.2) = 1 - x.2 * x.2
  rw [mul_add, ← mul_assoc, h]; noncomm_ring

theorem pow_lower (M : Mat) (hM : ∀ i j, ¬ j < i → M i j = 0) (k : ℕ) (i j : Fin 64) (h : ¬ j.val + k ≤ i.val) : (M ^ k) i j = 0 := by
  induction k generalizing i j with
  | zero => rw [pow_zero, Matrix.one_apply_ne]; rintro rfl; exact h (by omega)
  | succ k ih =>
    rw [pow_succ, Matrix.mul_apply]
    refine Finset.sum_eq_zero fun e _ => ?_
    by_cases he : j < e
    · rw [ih i e (by have : j.val < e.val := he; omega), zero_mul]
    · rw [hM e j he, mul_zero]

/-- The doubling solves the triangular system. -/
theorem dbl_eq (M : Mat) (hM : ∀ i j, ¬ j < i → M i j = 0) : dbl M = 1 - M * dbl M := by
  have h : (1 - -M) * dbl M = 1 - (rnd (rnd (rnd (rnd (rnd (1 + -M, -M * -M)))))).2 := by
    unfold dbl
    iterate 5 refine rnd_inv (-M) _ ?_
    show (1 - -M) * (1 + -M) = 1 - -M * -M
    noncomm_ring
  have h64 : (rnd (rnd (rnd (rnd (rnd (1 + -M, -M * -M)))))).2 = M ^ 64 := by
    show _ = M ^ 64
    simp only [rnd, neg_mul_neg, ← pow_two, ← pow_mul]
    exact Even.neg_pow (by decide) M
  have hz : M ^ 64 = 0 := by
    ext i j; exact pow_lower M hM 64 i j (by omega)
  rw [h64, hz, sub_zero, sub_neg_eq_add, add_mul, one_mul] at h
  exact eq_sub_of_add_eq h

/-- Renaming the rows and the columns alike renames the inverse's. -/
theorem dbl_submatrix (M : Mat) (ρ : Fin 64 ≃ Fin 64) : dbl (fun i j => M (ρ i) (ρ j)) = fun i j => dbl M (ρ i) (ρ j) := by
  have hm : ∀ A B : Mat, A.submatrix ρ ρ * B.submatrix ρ ρ = (A * B).submatrix ρ ρ := fun A B =>
    Matrix.submatrix_mul_equiv A B ρ ρ ρ
  have hr : ∀ x : Mat × Mat, rnd (x.1.submatrix ρ ρ, x.2.submatrix ρ ρ) = ((rnd x).1.submatrix ρ ρ, (rnd x).2.submatrix ρ ρ) := by
    intro x
    unfold rnd
    simp only [hm]
    rfl
  have h0 : (1 + -(M.submatrix ρ ρ), -(M.submatrix ρ ρ) * -(M.submatrix ρ ρ)) = ((1 + -M).submatrix ρ ρ, (-M * -M).submatrix ρ ρ) := by
    refine Prod.ext ?_ ?_
    · show 1 + -(M.submatrix ρ ρ) = (1 + -M).submatrix ρ ρ
      have h1 : ((1 : Mat).submatrix ρ ρ) = 1 := Matrix.submatrix_one_equiv ρ
      calc 1 + -(M.submatrix ρ ρ) = (1 : Mat).submatrix ρ ρ + -(M.submatrix ρ ρ) := by rw [h1]
        _ = _ := rfl
    · show -(M.submatrix ρ ρ) * -(M.submatrix ρ ρ) = (-M * -M).submatrix ρ ρ
      rw [neg_mul_neg, neg_mul_neg, hm]
  show dbl (M.submatrix ρ ρ) = (dbl M).submatrix ρ ρ
  unfold dbl
  rw [h0, hr (1 + -M, -M * -M), hr, hr, hr, hr]

/-- One row of the substitution: row `r` becomes the unit's row less the matrix times what stands. -/
def sub1 (L : Fin 64 → Fin 64 → EReal) (r : ℕ) (T : Fin 64 → Fin 64 → EReal) : Fin 64 → Fin 64 → EReal :=
  fun i j => if i.val = r then (if i = j then 1 else 0) - ∑ k, L i k * T k j else T i j

/-- The substitution's first `r` rows, from the unit. -/
def subst (L : Fin 64 → Fin 64 → EReal) : ℕ → Fin 64 → Fin 64 → EReal
  | 0 => fun i j => if i = j then 1 else 0
  | r + 1 => sub1 L (r + 1) (subst L r)

theorem one_coe (i j : Fin 64) : ((if i = j then 1 else 0 : EReal)) = (((1 : Mat) i j : ℝ) : EReal) := by
  rw [Matrix.one_apply]; split <;> simp

/-- The substitution reaches the same inverse. -/
theorem subst_eq (M : Mat) (hM : ∀ i j, ¬ j < i → M i j = 0) (r : ℕ) (i j : Fin 64) (hi : i.val ≤ r) :
    subst (fun i j => (M i j : EReal)) r i j = (dbl M i j : ℝ) := by
  have key : ∀ i j, dbl M i j = (1 : Mat) i j - ∑ k, M i k * dbl M k j := by
    intro i j
    conv_lhs => rw [dbl_eq M hM]
    rw [Matrix.sub_apply, Matrix.mul_apply]
  induction r generalizing i j with
  | zero =>
    rw [key, Finset.sum_eq_zero, sub_zero]
    · exact one_coe i j
    · intro k _; rw [hM i k (by intro h; have : k.val < i.val := h; omega), zero_mul]
  | succ r ih =>
    show (if i.val = r + 1 then _ else _) = _
    split
    · rename_i h
      rw [key, EReal.coe_sub, coe_sum, one_coe]
      refine congrArg (_ - ·) (Finset.sum_congr rfl fun k _ => ?_)
      show ((M i k : ℝ) : EReal) * _ = _
      by_cases hk : k < i
      · rw [ih k j (by have : k.val < i.val := hk; omega), EReal.coe_mul]
      · rw [hM i k hk, zero_mul, EReal.coe_zero, zero_mul]
    · exact ih i j (by omega)

/-! ## One chunk of one head -/

variable (Q K V : Fin 64 → Fin 128 → EReal) (B G : Fin 64 → EReal) (S : Fin 128 → Fin 128 → EReal)

/-- The running sum of the decays' logarithms, and the sum of them all. -/
def gc (i : Fin 64) : EReal := ∑ j, if j ≤ i then G j else 0
def gt : EReal := ∑ j, G j
def dec (i j : Fin 64) : EReal := Ideal.exp (if j ≤ i then gc G i - gc G j else ⊥)
/-- The strictly triangular products of keys. -/
def lm (i j : Fin 64) : EReal := if j < i then (∑ e, K i e * B i * K j e) * dec G i j else 0
def ti (i j : Fin 64) : EReal := (dbl (fun i j => (lm K B G i j).toReal) i j : ℝ)
def uu (i : Fin 64) (e : Fin 128) : EReal := ∑ k, ti K B G i k * (V k e * B k)
def ww (i : Fin 64) (f : Fin 128) : EReal := ∑ k, ti K B G i k * (K k f * B k * Ideal.exp (gc G k))
def att (i j : Fin 64) : EReal := if j ≤ i then (∑ e, Q i e * K j e) * dec G i j else 0
/-- What the chunk's rows write. -/
def vn (i : Fin 64) (e : Fin 128) : EReal := uu K V B G i e - ∑ f, ww K B G i f * S f e
/-- What they read, and the state they leave. -/
def oo (i : Fin 64) (e : Fin 128) : EReal :=
  (∑ f, Q i f * Ideal.exp (gc G i) * S f e) + ∑ k, att Q K G i k * vn K V B G S k e
def ss (f e : Fin 128) : EReal :=
  S f e * Ideal.exp (gt G) + ∑ i, K i f * Ideal.exp (gt G - gc G i) * vn K V B G S i e

theorem lm_lower (i j : Fin 64) (h : ¬ j < i) : (lm K B G i j).toReal = 0 := by
  unfold lm; rw [if_neg h, EReal.toReal_zero]

theorem sum_ne_top {ι : Type} (s : Finset ι) (f : ι → EReal) (h : ∀ i, f i ≠ ⊤) : ∑ i ∈ s, f i ≠ ⊤ := by
  classical
  induction s using Finset.induction_on with
  | empty => rw [Finset.sum_empty]; exact EReal.zero_ne_top
  | insert a s ha ih => rw [Finset.sum_insert ha]; exact EReal.add_ne_top (h a) ih

theorem gc_ne_top (hG : ∀ i, G i ≠ ⊤) (i : Fin 64) : gc G i ≠ ⊤ :=
  sum_ne_top _ _ fun j => by split; exacts [hG j, EReal.zero_ne_top]

/-- A row's decay since an earlier row is a real number: an infinite gate before the earlier row is before the later one too. -/
theorem dec_real (hG : ∀ i, G i ≠ ⊤) {i j : Fin 64} (hij : j ≤ i) : Real' (Ideal.exp (gc G i - gc G j)) := by
  by_cases hi : gc G i = ⊥
  · rw [hi, EReal.bot_sub]
    exact ⟨0, EReal.coe_zero.symm⟩
  · have hg : ∀ t ≤ i, Real' (G t) := fun t ht => by
      have h2 : G t ≠ ⊥ := fun e => hi (by
        unfold gc
        rw [← Finset.add_sum_erase _ _ (Finset.mem_univ t), if_pos ht, e, EReal.bot_add])
      exact ⟨(G t).toReal, (EReal.coe_toReal (hG t) h2).symm⟩
    have hr : ∀ k ≤ i, Real' (gc G k) := fun k hk => Real'.sum _ _ fun t => by
      split
      · rename_i h
        exact hg t (le_trans h hk)
      · exact Real'.zero
    exact ((hr i le_rfl).sub (hr j hij)).exp

theorem lm_real (hK : ∀ i e, Real' (K i e)) (hB : ∀ i, Real' (B i)) (hG : ∀ i, G i ≠ ⊤) (i j : Fin 64) : Real' (lm K B G i j) := by
  unfold lm
  split
  · rename_i h
    refine (Real'.sum _ _ fun e => ((hK i e).mul (hB i)).mul (hK j e)).mul ?_
    unfold dec
    rw [if_pos h.le]
    exact dec_real G hG h.le
  · exact Real'.zero

theorem lm_coe (hK : ∀ i e, Real' (K i e)) (hB : ∀ i, Real' (B i)) (hG : ∀ i, G i ≠ ⊤) :
    lm K B G = fun i j => ((lm K B G i j).toReal : EReal) := by
  funext i j; exact (lm_real K B G hK hB hG i j).coe

/-- The reference's way to the inverse. -/
theorem subst_ti (hK : ∀ i e, Real' (K i e)) (hB : ∀ i, Real' (B i)) (hG : ∀ i, G i ≠ ⊤) (i j : Fin 64) :
    subst (lm K B G) 63 i j = ti K B G i j := by
  rw [lm_coe K B G hK hB hG]
  exact subst_eq _ (lm_lower K B G) 63 i j (by omega)

end Cert.GdnMath

end
-- ==== Proof.GdnRead.lean ====
/-
  One head of the recurrence's body, read at an index: the chunk of `GdnMath` at the rows' places in the sequence. The
  body works on the rows as they lie, its masks turned round for the backward direction; `ρ` takes a row to its place.
-/
module

public import proofs.«01_k».proof.Proof.GdnHead
public import proofs.«01_k».proof.Proof.GdnMath
public import Idealize.ShloMosaic.Lib.Pointwise

@[expose] public section

set_option maxRecDepth 16384

noncomputable section

namespace Cert.GdnIdeal.Rec

open Idealize.ShloMosaic Idealize.ShloMosaic.TcCoe Idealize.SL.Sem
open Cert.GdnIdeal Cert.GdnIdeal.Gen Cert.GdnMath

/-! ## The gates -/

theorem pay5_apply (x : Vec Ideal S1x64x128 .f32) (a : Fin 64) (c : Fin 128) : k0_pay5 x (ix2 a c) = lgs (x (ix3 0 a c)) := by
  unfold k0_pay5 k0_pay4 lgs; dsimp only; pointwise
  rw [zero_sub]
theorem pay6_apply (x : Vec Ideal S1x64x128 .f32) (y z : Vec Ideal S1x1x128 .f32) (a : Fin 64) (c : Fin 128) :
    k0_pay6 x y z (ix2 a c) = -(y (ix3 0 0 c)) * sp (x (ix3 0 a c) + z (ix3 0 0 c)) := by
  unfold k0_pay6 k0_pay4 sp; dsimp only; pointwise
  rw [zero_sub, zero_sub]
  rfl

/-! ## The operations of a head at an index -/

theorem bit_real (x : BitVec 1) : (FloatOps.sitofp (F := Ideal) .f32 (BitVec.setWidth 32 x) : EReal) = if x = 1#1 then 1 else 0 := by
  have key : ∀ x : BitVec 1, ((BitVec.setWidth 32 x).toInt = if x = 1#1 then 1 else 0) := by decide
  show (((BitVec.setWidth 32 x).toInt : ℝ) : EReal) = _
  rw [key]; split <;> simp

theorem cb_apply (x : FVec Ideal S64x128 .f32) (h : Nat) (hh : h < 12) (i : Fin 64) (z : Fin 1) : cb x h hh (ix2 i z) = x (ix2 i ⟨h, by omega⟩) := by
  unfold cb; pointwise
theorem cg_apply (x : FVec Ideal S64x128 .f32) (h : Nat) (hh : h < 12) (i : Fin 64) (z : Fin 1) : cg x h hh (ix2 i z) = x (ix2 i ⟨12 + h, by omega⟩) := by
  unfold cg; pointwise
theorem scl_apply (x : FVec Ideal S64x128 .f32) (b : FVec Ideal S64x1 .f32) (i : Fin 64) (e : Fin 128) : scl x b (ix2 i e) = x (ix2 i e) * b (ix2 i 0) := by
  unfold scl; pointwise
theorem gram_apply (x y : FVec Ideal S64x128 .f32) (i j : Fin 64) : gram x y (ix2 i j) = ∑ e : Fin 128, x (ix2 i e) * y (ix2 j e) := by
  unfold gram; pointwise
theorem app_apply (t : FVec Ideal S64x64 .f32) (x : FVec Ideal S64x128 .f32) (i : Fin 64) (e : Fin 128) : app t x (ix2 i e) = ∑ k : Fin 64, t (ix2 i k) * x (ix2 k e) := by
  unfold app; pointwise
theorem rd_apply (x : FVec Ideal S64x128 .f32) (s : FVec Ideal S128x128 .f32) (i : Fin 64) (e : Fin 128) : rd x s (ix2 i e) = ∑ f : Fin 128, x (ix2 i f) * s (ix2 f e) := by
  unfold rd; pointwise
theorem maskd_apply (m : IVec S64x64 1) (a b : FVec Ideal S64x128 .f32) (d : FVec Ideal S64x64 .f32) (i j : Fin 64) :
    maskd m a b d (ix2 i j) = if m (ix2 i j) = 1#1 then (∑ e : Fin 128, a (ix2 i e) * b (ix2 j e)) * d (ix2 i j) else 0 := by
  rw [← gram_apply]
  unfold maskd; pointwise
  rfl

/-! ## The inverse -/

/-- One doubling, of blocks. -/
def rndB (x : FVec Ideal S64x64 .f32 × FVec Ideal S64x64 .f32) : FVec Ideal S64x64 .f32 × FVec Ideal S64x64 .f32 :=
  (addf x.1 (matmul dot_S64x64_S64x64_S64x64_1_0_0_1_n_n (some .fp32) x.1 x.2 (constant S64x64 .f32 0x00000000#32)),
    matmul dot_S64x64_S64x64_S64x64_1_0_0_1_n_n (some .fp32) x.2 x.2 (constant S64x64 .f32 0x00000000#32))

/-- The block holds the matrix. -/
def Holds (x : FVec Ideal S64x64 .f32) (A : Mat) : Prop := ∀ i j : Fin 64, x (ix2 i j) = (A i j : ℝ)

theorem mulB (x y : FVec Ideal S64x64 .f32) (A B : Mat) (hx : Holds x A) (hy : Holds y B) :
    Holds (matmul dot_S64x64_S64x64_S64x64_1_0_0_1_n_n (some .fp32) x y (constant S64x64 .f32 0x00000000#32)) (A * B) := by
  intro i j
  have h : matmul dot_S64x64_S64x64_S64x64_1_0_0_1_n_n (some .fp32) x y (constant S64x64 .f32 0x00000000#32) (ix2 i j)
      = ∑ k : Fin 64, x (ix2 i k) * y (ix2 k j) := by pointwise
  rw [h, Matrix.mul_apply, coe_sum]
  exact Finset.sum_congr rfl fun k _ => by rw [hx, hy, EReal.coe_mul]

theorem addB (x y : FVec Ideal S64x64 .f32) (A B : Mat) (hx : Holds x A) (hy : Holds y B) : Holds (addf x y) (A + B) := by
  intro i j
  show x (ix2 i j) + y (ix2 i j) = _
  rw [hx, hy, Matrix.add_apply, EReal.coe_add]

theorem rndB_holds (x : FVec Ideal S64x64 .f32 × FVec Ideal S64x64 .f32) (A : Mat × Mat) (h : Holds x.1 A.1 ∧ Holds x.2 A.2) :
    Holds (rndB x).1 (rnd A).1 ∧ Holds (rndB x).2 (rnd A).2 :=
  ⟨addB _ _ _ _ h.1 (mulB _ _ _ _ h.1 h.2), mulB _ _ _ _ h.2 h.2⟩

/-- Zero less the block, and the unit block. -/
def negB (l : FVec Ideal S64x64 .f32) : FVec Ideal S64x64 .f32 := subf (broadcast S64x64 (Scalar.ofBits .f32 0x00000000#32)) l
def oneB : FVec Ideal S64x64 .f32 := sitofp .f32 (extui 32 k0_pay24 natLt_1_32)

theorem negB_holds (l : FVec Ideal S64x64 .f32) (A : Mat) (h : Holds l A) : Holds (negB l) (-A) := by
  intro i j
  have e : negB l (ix2 i j) = 0 - l (ix2 i j) := by unfold negB; pointwise
  rw [e, h, zero_sub, Matrix.neg_apply, EReal.coe_neg]

theorem eye_key : ∀ a b : Fin 64, (IntOp.cmpi .eq (BitVec.ofNat 32 a.val) (BitVec.ofNat 32 b.val) = 1#1) ↔ a = b := by decide +kernel

theorem oneB_holds : Holds oneB 1 := by
  intro i j
  have e2 : k0_pay24 (ix2 i j) = IntOp.cmpi .eq (BitVec.ofNat 32 i.val) (BitVec.ofNat 32 j.val) := by
    unfold k0_pay24; dsimp only; pointwise
  have e : oneB (ix2 i j) = (FloatOps.sitofp (F := Ideal) .f32 (BitVec.setWidth 32 (k0_pay24 (ix2 i j))) : EReal) := rfl
  rw [e, bit_real, ← one_coe, e2]
  exact if_congr (eye_key i j) rfl rfl

theorem inv_eq (l : FVec Ideal S64x64 .f32) : inv l = (rndB (rndB (rndB (rndB (rndB (addf oneB (negB l),
      matmul dot_S64x64_S64x64_S64x64_1_0_0_1_n_n (some .fp32) (negB l) (negB l) (constant S64x64 .f32 0x00000000#32))))))).1 := by
  unfold inv k0_pay25 rndB oneB negB; rfl

theorem inv_holds (l : FVec Ideal S64x64 .f32) (A : Mat) (h : Holds l A) : Holds (inv l) (dbl A) := by
  rw [inv_eq]
  have hn := negB_holds l A h
  have h1 : Holds (addf oneB (negB l)) (1 + -A) := addB _ _ _ _ oneB_holds hn
  have h2 := mulB _ _ _ _ hn hn
  have r1 := rndB_holds (_, _) (_, _) ⟨h1, h2⟩
  have r2 := rndB_holds _ _ r1
  have r3 := rndB_holds _ _ r2
  have r4 := rndB_holds _ _ r3
  exact (rndB_holds _ _ r4).1

/-! ## A head -/

section head

variable (w : IVec S64x64 32) (q k v b g : FVec Ideal S64x128 .f32) (s : FVec Ideal S128x128 .f32) (h : Nat) (hh : h < 12)
  (ρ : Fin 64 ≃ Fin 64) (Q K V : Fin 64 → Fin 128 → EReal) (B G : Fin 64 → EReal) (S : Fin 128 → Fin 128 → EReal)

/-- The masks, in the order of the sequence. -/
structure Masks (w : IVec S64x64 32) (ρ : Fin 64 ≃ Fin 64) : Prop where
  ge : ∀ a b : Fin 64, k0_pay8 w (ix2 a b) = 1#1 ↔ ρ b ≤ ρ a
  gt : ∀ a b : Fin 64, k0_pay9 w (ix2 a b) = 1#1 ↔ ρ b < ρ a

variable (hw : Masks w ρ) (hq : ∀ i e, q (ix2 i e) = Q (ρ i) e) (hk : ∀ i e, k (ix2 i e) = K (ρ i) e) (hv : ∀ i e, v (ix2 i e) = V (ρ i) e)
  (hb : ∀ i, b (ix2 i ⟨h, by omega⟩) = B (ρ i)) (hg : ∀ i, g (ix2 i ⟨12 + h, by omega⟩) = G (ρ i)) (hs : ∀ f e, s (ix2 f e) = S f e)
  (hKr : ∀ i e, Real' (K i e)) (hBr : ∀ i, Real' (B i)) (hGr : ∀ i, G i ≠ ⊤)

include hw hg in
theorem gc_apply (i : Fin 64) : k0_pay10 g w (ix2 i ⟨12 + h, by omega⟩) = gc G (ρ i) := by
  have e : k0_pay10 g w (ix2 i ⟨12 + h, by omega⟩)
      = ∑ j : Fin 64, (FloatOps.sitofp (F := Ideal) .f32 (BitVec.setWidth 32 (k0_pay8 w (ix2 i j))) : EReal) * g (ix2 j ⟨12 + h, by omega⟩) := by
    unfold k0_pay10; pointwise
  rw [e]
  unfold gc
  refine Eq.trans ?_ (Equiv.sum_comp ρ (fun j => if j ≤ ρ i then G j else 0))
  refine Finset.sum_congr rfl fun j _ => ?_
  rw [bit_real, hg, ite_mul, one_mul, zero_mul]
  exact if_congr (hw.ge i j) rfl rfl

include hg in
theorem gt_apply (z : Fin 1) : k0_pay11 g (ix2 z ⟨12 + h, by omega⟩) = gt G := by
  have e : k0_pay11 g (ix2 z ⟨12 + h, by omega⟩) = ∑ j : Fin 64, g (ix2 j ⟨12 + h, by omega⟩) := by
    unfold k0_pay11; pointwise
  rw [e]
  unfold gt
  refine Eq.trans ?_ (Equiv.sum_comp ρ G)
  exact Finset.sum_congr rfl fun j _ => hg j

include hw hg in
theorem dec_apply (i j : Fin 64) : dec g w h hh (ix2 i j) = GdnMath.dec G (ρ i) (ρ j) := by
  have e : dec g w h hh (ix2 i j) = Ideal.exp
      (Scalar.select (k0_pay8 w (ix2 i j)) (k0_pay10 g w (ix2 i ⟨12 + h, by omega⟩) - k0_pay10 g w (ix2 j ⟨12 + h, by omega⟩)) ⊥) := by
    unfold dec cg k0_pay12; pointwise
    rw [show Ideal.ofBits .f32 0xFF800000#32 = ⊥ by simp [Ideal.ofBits, Ideal.ieee]]
  rw [e, gc_apply w g h hh ρ G hw hg, gc_apply w g h hh ρ G hw hg]
  unfold GdnMath.dec
  exact congrArg _ (if_congr (hw.ge i j) rfl rfl)

include hw hg in
theorem eg_apply (i : Fin 64) : k0_pay13 g w (ix2 i ⟨12 + h, by omega⟩) = Ideal.exp (gc G (ρ i)) := by
  rw [← gc_apply w g h hh ρ G hw hg]; rfl

include hw hg in
theorem er_apply (i : Fin 64) : k0_pay14 g w (ix2 i ⟨12 + h, by omega⟩) = Ideal.exp (gt G - gc G (ρ i)) := by
  rw [← gc_apply w g h hh ρ G hw hg, ← gt_apply g h hh ρ G hg 0]
  unfold k0_pay14; pointwise

include hw hk hb hg hKr hBr hGr in
theorem tri_apply (i j : Fin 64) : tri w k b g h hh (ix2 i j) = ti K B G (ρ i) (ρ j) := by
  unfold tri ti
  have hl : Holds (maskd (k0_pay9 w) (scl k (cb b h hh)) k (dec g w h hh)) (fun i j => (lm K B G (ρ i) (ρ j)).toReal) := by
    intro i j
    rw [← (lm_real K B G hKr hBr hGr (ρ i) (ρ j)).coe, maskd_apply]
    unfold lm
    rw [dec_apply w g h hh ρ G hw hg]
    simp only [scl_apply, cb_apply, hk, hb]
    exact if_congr (hw.gt i j) rfl rfl
  rw [inv_holds _ _ hl i j, dbl_submatrix (fun i j => (lm K B G i j).toReal) ρ]

include hw hk hv hb hg hs hKr hBr hGr in
theorem vnew_apply (i : Fin 64) (e : Fin 128) : vnew w k v b g s h hh (ix2 i e) = vn K V B G S (ρ i) e := by
  have e0 : ∀ x y : FVec Ideal S64x128 .f32, subf x y (ix2 i e) = x (ix2 i e) - y (ix2 i e) := fun _ _ => rfl
  unfold vnew vn uu ww
  rw [e0, app_apply, rd_apply]
  simp only [app_apply, scl_apply, cb_apply, cg_apply, tri_apply w k b g h hh ρ K B G hw hk hb hg hKr hBr hGr, eg_apply w g h hh ρ G hw hg, hk, hv, hb, hs]
  refine congrArg₂ (· - ·) (Equiv.sum_comp ρ (fun j => ti K B G (ρ i) j * (V j e * B j))) (Finset.sum_congr rfl fun f _ => ?_)
  exact congrArg (fun x : EReal => x * S f e) (Equiv.sum_comp ρ (fun j => ti K B G (ρ i) j * (K j f * B j * Ideal.exp (gc G j))))

include hw hq hk hv hb hg hs hKr hBr hGr in
theorem hout_apply (i : Fin 64) (e : Fin 128) : hout w q k v b g s h hh (ix2 i e) = oo Q K V B G S (ρ i) e := by
  have e0 : ∀ x y : FVec Ideal S64x128 .f32, addf x y (ix2 i e) = x (ix2 i e) + y (ix2 i e) := fun _ _ => rfl
  unfold hout oo att
  rw [e0, app_apply, rd_apply]
  simp only [scl_apply, cg_apply, maskd_apply, dec_apply w g h hh ρ G hw hg, eg_apply w g h hh ρ G hw hg,
    vnew_apply w k v b g s h hh ρ K V B G S hw hk hv hb hg hs hKr hBr hGr, hq, hk, hs, hw.ge]
  exact congrArg _ (Equiv.sum_comp ρ (fun j => (if j ≤ ρ i then (∑ e, Q (ρ i) e * K j e) * GdnMath.dec G (ρ i) j else 0) * vn K V B G S j e))

include hw hk hv hb hg hs hKr hBr hGr in
theorem hst_apply (f e : Fin 128) : hst w k v b g s h hh (ix2 f e) = ss K V B G S f e := by
  have e1 : hst w k v b g s h hh (ix2 f e) = s (ix2 f e) * Ideal.exp (k0_pay11 g (ix2 0 ⟨12 + h, by omega⟩))
      + ∑ i : Fin 64, scl k (cg (k0_pay14 g w) h hh) (ix2 i f) * vnew w k v b g s h hh (ix2 i e) := by
    unfold hst k0_pay15; pointwise
  rw [e1, gt_apply g h hh ρ G hg]
  unfold ss
  simp only [scl_apply, cg_apply, er_apply w g h hh ρ G hw hg,
    vnew_apply w k v b g s h hh ρ K V B G S hw hk hv hb hg hs hKr hBr hGr, hk, hs]
  exact congrArg _ (Equiv.sum_comp ρ (fun j => K j f * Ideal.exp (gt G - gc G j) * vn K V B G S j e))

end head

/-! ## The blocks -/

/-- A row's place in the chunk: the row itself, or for the backward direction its mirror. -/
def rho (d : Fin 2) : Fin 64 ≃ Fin 64 := if d = 0 then Equiv.refl _ else Fin.revPerm

theorem pay7_apply (i : grid0.Coords) (a b : Fin 64) : k0_pay7 i (ix2 a b)
    = IntOp.muli (IntOp.subi (BitVec.ofNat 32 a.val) (BitVec.ofNat 32 b.val)) (Scalar.subi 1#32 (Scalar.muli 2#32 (BitVec.ofNat 32 (i 0).val))) := by
  unfold k0_pay7; pointwise

theorem ge_key : ∀ (d : Fin 2) (a b : Fin 64), IntOp.cmpi .sge (IntOp.muli (IntOp.subi (BitVec.ofNat 32 a.val) (BitVec.ofNat 32 b.val))
    (Scalar.subi 1#32 (Scalar.muli 2#32 (BitVec.ofNat 32 d.val)))) 0#32 = 1#1 ↔ rho d b ≤ rho d a := by decide +kernel
theorem gt_key : ∀ (d : Fin 2) (a b : Fin 64), IntOp.cmpi .sgt (IntOp.muli (IntOp.subi (BitVec.ofNat 32 a.val) (BitVec.ofNat 32 b.val))
    (Scalar.subi 1#32 (Scalar.muli 2#32 (BitVec.ofNat 32 d.val)))) 0#32 = 1#1 ↔ rho d b < rho d a := by decide +kernel

theorem masks (i : grid0.Coords) (d : Fin 2) (hd : (i 0).val = d.val) : Masks (k0_pay7 i) (rho d) where
  ge a b := by
    have e : k0_pay8 (k0_pay7 i) (ix2 a b) = IntOp.cmpi .sge (k0_pay7 i (ix2 a b)) 0#32 := by unfold k0_pay8; pointwise
    rw [e, pay7_apply, hd]; exact ge_key d a b
  gt a b := by
    have e : k0_pay9 (k0_pay7 i) (ix2 a b) = IntOp.cmpi .sgt (k0_pay7 i (ix2 a b)) 0#32 := by unfold k0_pay9; pointwise
    rw [e, pay7_apply, hd]; exact gt_key d a b

/-- One leading slice of a block, its unit axis dropped, read at an index. -/
theorem cut_apply {n0 n1 n2 a b : Nat} (x : (⟨3, ![n0, n1, n2]⟩ : Shape).Idx → EReal) (off : Fin 3 → Nat)
    (inb : ∀ k, off k + (![1, a, b] : Fin 3 → Nat) k ≤ (⟨3, ![n0, n1, n2]⟩ : Shape).size k)
    (h : (⟨3, ![1, a, b]⟩ : Shape).ShapeCasts ⟨2, ![a, b]⟩) (r : Fin a) (d : Fin b) (k : (⟨3, ![n0, n1, n2]⟩ : Shape).Idx)
    (h0 : (k 0).val = off 0) (h1 : (k 1).val = off 1 + r.val) (h2 : (k 2).val = off 2 + d.val) :
    shapeCast ⟨2, ![a, b]⟩ (View.ld (Val := Elt Ideal) (e' := .f32) x (Rect.unit (s := ⟨3, ![n0, n1, n2]⟩) off ![1, a, b] inb)) h (ix2 r d) = x k := by
  rw [View.ld_unit]
  refine (shapeCast_dropUnit_apply ![a, b] _ h (ix2 r d)).trans (congrArg x (funext fun q => Fin.ext ?_))
  match q with
  | ⟨0, _⟩ => exact h0.symm
  | ⟨1, _⟩ => exact h1.symm
  | ⟨2, _⟩ => exact h2.symm

theorem cols_apply (x : Vec Ideal S1x64x1536 .f32) (h : Nat) (hh : h < 12) (i : Fin 64) (e : Fin 128) :
    cols x h hh (ix2 i e) = x (ix3 0 i ⟨128 * h + e.val, by omega⟩) :=
  cut_apply x _ (inb_x h hh) _ i e _ rfl (by simp) rfl
theorem stOf_apply (s : Vec Ideal S12x128x128 .f32) (h : Nat) (hh : h < 12) (f e : Fin 128) :
    stOf s h hh (ix2 f e) = s (ix3 ⟨h, hh⟩ f e) :=
  cut_apply s _ (inb_s h hh) _ f e _ rfl (by simp) (by simp)

end Cert.GdnIdeal.Rec

end
-- ==== Proof.GdnSpec.lean ====
/-
  The gated delta rule over whole arrays: both directions, every chunk, the state carried from chunk to chunk. The
  backward direction walks the sequence from its end.
-/
module

public import proofs.«01_k».proof.Proof.GdnMath
public import Idealize.ShloMosaic.Lib.Pointwise

@[expose] public section

noncomputable section

namespace Cert.GdnMath

open Idealize.ShloMosaic Idealize.ShloMosaic.TcCoe

/-- Where row `i` of chunk `n` of direction `d` lies in the sequence. -/
def place (d : Fin 2) (n : ℕ) (i : Fin 64) : Fin 2048 :=
  if d = 0 then ⟨(64 * n + i.val) % 2048, by omega⟩ else ⟨2047 - (64 * n + i.val) % 2048, by omega⟩

variable (X : (⟨3, ![8, 2048, 4608]⟩ : Shape).Idx → EReal) (P : (⟨3, ![8, 2048, 7168]⟩ : Shape).Idx → EReal)
  (A D : (⟨2, ![2, 12]⟩ : Shape).Idx → EReal) (S0 : (⟨5, ![2, 8, 12, 128, 128]⟩ : Shape).Idx → EReal)

/-- The queries, keys and values of a chunk, its step sizes and the logarithms of its decays. -/
def qs (d : Fin 2) (b : Fin 8) (h : Fin 12) (n : ℕ) (i : Fin 64) (e : Fin 128) : EReal := X (ix3 b (place d n i) ⟨128 * h.val + e.val, by omega⟩)
def ks (d : Fin 2) (b : Fin 8) (h : Fin 12) (n : ℕ) (i : Fin 64) (e : Fin 128) : EReal := X (ix3 b (place d n i) ⟨1536 + (128 * h.val + e.val), by omega⟩)
def vs (d : Fin 2) (b : Fin 8) (h : Fin 12) (n : ℕ) (i : Fin 64) (e : Fin 128) : EReal := X (ix3 b (place d n i) ⟨3072 + (128 * h.val + e.val), by omega⟩)
def bs (d : Fin 2) (b : Fin 8) (h : Fin 12) (n : ℕ) (i : Fin 64) : EReal := lgs (P (ix3 b (place d n i) ⟨6656 + 128 * d.val + h.val, by omega⟩))
def gs (d : Fin 2) (b : Fin 8) (h : Fin 12) (n : ℕ) (i : Fin 64) : EReal :=
  gate (A (ix2 d h)) (P (ix3 b (place d n i) ⟨6656 + 128 * d.val + (12 + h.val), by omega⟩)) (D (ix2 d h))

/-- The state before chunk `n`. -/
def st (d : Fin 2) (b : Fin 8) (h : Fin 12) : ℕ → Fin 128 → Fin 128 → EReal
  | 0 => fun f e => S0 (ix5 d b h f e)
  | n + 1 => ss (ks X d b h n) (vs X d b h n) (bs P d b h n) (gs P A D d b h n) (st d b h n)

/-- What chunk `n` returns. -/
def ou (d : Fin 2) (b : Fin 8) (h : Fin 12) (n : ℕ) (i : Fin 64) (e : Fin 128) : EReal :=
  oo (qs X d b h n) (ks X d b h n) (vs X d b h n) (bs P d b h n) (gs P A D d b h n) (st X P A D S0 d b h n) i e

/-- A row's place counted in its direction. -/
def turn (d : Fin 2) (l : Fin 2048) : ℕ := if d = 0 then l.val else 2047 - l.val

/-- The whole output and the last state. -/
def outA (y : (⟨4, ![2, 8, 2048, 1536]⟩ : Shape).Idx) : EReal :=
  ou X P A D S0 (y 0) (y 1) ⟨(y 3).val / 128, by have : (y 3).val < 1536 := (y 3).isLt; omega⟩ (turn (y 0) (y 2) / 64) ⟨turn (y 0) (y 2) % 64, by omega⟩
    ⟨(y 3).val % 128, by omega⟩
def stA (y : (⟨5, ![2, 8, 12, 128, 128]⟩ : Shape).Idx) : EReal := st X P A D S0 (y 0) (y 1) (y 2) 32 (y 3) (y 4)

/-- The precondition the inverse needs: the keys are real numbers. -/
structure Fine : Prop where
  k : ∀ (b : Fin 8) (l : Fin 2048) (c : Fin 1536), Real' (X (ix3 b l ⟨1536 + c.val, by omega⟩))

variable {X}

theorem Fine.ks (hf : Fine X) (d : Fin 2) (b : Fin 8) (h : Fin 12) (n : ℕ) (i : Fin 64) (e : Fin 128) : Real' (ks X d b h n i e) :=
  hf.k b (place d n i) ⟨128 * h.val + e.val, by omega⟩

variable {P A D}

theorem bs_real (d : Fin 2) (b : Fin 8) (h : Fin 12) (n : ℕ) (i : Fin 64) : Real' (bs P d b h n i) := lgs_real _
theorem gs_ne_top (d : Fin 2) (b : Fin 8) (h : Fin 12) (n : ℕ) (i : Fin 64) : gs P A D d b h n i ≠ ⊤ := gate_ne_top _ _ _

end Cert.GdnMath

end
-- ==== Proof.GdnStore.lean ====
/-
  What each grid point of the recurrence stores, as the lists of its heads' stores.
-/
module

public import proofs.«01_k».proof.Proof.GdnHead
public import Idealize.ShloMosaic.Lib.Pipeline.ReadBack

@[expose] public section

set_option maxRecDepth 16384

noncomputable section

namespace Cert.GdnIdeal.Rec

open Idealize.ShloMosaic Idealize.ShloMosaic.TcCoe Idealize.SL.Sem
open Idealize.ShloMosaic.Tactic
open Cert.GdnIdeal Cert.GdnIdeal.Gen

variable {F : FTy → Type} [FloatOps F]

theorem ld_x3 (x : Vec F S1x64x128 .f32) (h : ∀ a, (![0, 0, 0] : Fin 3 → Nat) a + (![1, 64, 128] : Fin 3 → Nat) a ≤ S1x64x128.size a) :
    View.ld x (Rect.unit ![0, 0, 0] ![1, 64, 128] h) = x :=
  View.ld_unit_zero (by funext a; fin_cases a <;> rfl) h x

theorem ld_x4 (x : Vec F S1x1x128 .f32) (h : ∀ a, (![0, 0, 0] : Fin 3 → Nat) a + (![1, 1, 128] : Fin 3 → Nat) a ≤ S1x1x128.size a) :
    View.ld x (Rect.unit ![0, 0, 0] ![1, 1, 128] h) = x :=
  View.ld_unit_zero (by funext a; fin_cases a <;> rfl) h x

theorem ld_x6 (x : Vec F S1x1x12x128x128 .f32) (h : ∀ a, (![0, 0, 0, 0, 0] : Fin 5 → Nat) a + (![1, 1, 12, 128, 128] : Fin 5 → Nat) a ≤ S1x1x12x128x128.size a) :
    View.ld x (Rect.unit ![0, 0, 0, 0, 0] ![1, 1, 12, 128, 128] h) = x :=
  View.ld_unit_zero (by funext a; fin_cases a <;> rfl) h x

theorem outB (c : Dev nD) (i : grid0.Coords) (arg3 : Memref sig .tc .vmem S1x64x1536 .f32) (harg3 : arg3.IsWhole) (arg4 : Memref sig .tc .vmem S1x64x1536 .f32) (harg4 : arg4.IsWhole) (arg5 : Memref sig .tc .vmem S1x64x1536 .f32) (harg5 : arg5.IsWhole) (arg6 : Memref sig .tc .vmem S1x64x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x12x128x128 .f32) (harg9 : arg9.IsWhole) (arg10 : Memref sig .tc .vmem S1x1x64x1536 .f32) (harg10 : arg10.IsWhole) (arg11 : Memref sig .tc .vmem S1x1x12x128x128 .f32) (harg11 : arg11.IsWhole) (arg12 : Memref sig .tc .vmem S12x128x128 .f32) (harg12 : arg12.IsWhole) (hc0 : ¬cond0_0 i) (hc1 : ¬cond0_1 i)
    (x0 : Vec F S1x64x1536 .f32) (x1 : Vec F S1x64x1536 .f32) (x2 : Vec F S1x64x1536 .f32) (x3 : Vec F S1x64x128 .f32) (x4 : Vec F S1x1x128 .f32) (x5 : Vec F S1x1x128 .f32) (x6 : Vec F S1x1x12x128x128 .f32) (xs0 : Vec F S12x128x128 .f32) :
    out0_B_7 c i arg3 harg3 arg4 harg4 arg5 harg5 arg6 harg6 arg7 harg7 arg8 harg8 arg9 harg9 arg10 harg10 arg11 harg11 arg12 harg12 hc0 hc1 x0 x1 x2 x3 x4 x5 x6 xs0 = View.canon (pos i x0 x1 x2 x3 x4 x5 xs0) := by
  unfold out0_B_7
  rw [View.read_writes_eq_canon _ _ _ (cover0_B_7 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B pos
  dsimp only
  sl_unfold_words
  simp only [View.readAt_eq_ld, harg3.read_unread, harg4.read_unread, harg5.read_unread, harg6.read_unread, harg7.read_unread, harg8.read_unread, harg9.read_unread, harg12.read_unread, ld_x3, ld_x4]
  congr 1
  repeat' (apply congrArg₂ List.cons)
  all_goals rfl

theorem stB (c : Dev nD) (i : grid0.Coords) (arg3 : Memref sig .tc .vmem S1x64x1536 .f32) (harg3 : arg3.IsWhole) (arg4 : Memref sig .tc .vmem S1x64x1536 .f32) (harg4 : arg4.IsWhole) (arg5 : Memref sig .tc .vmem S1x64x1536 .f32) (harg5 : arg5.IsWhole) (arg6 : Memref sig .tc .vmem S1x64x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x12x128x128 .f32) (harg9 : arg9.IsWhole) (arg10 : Memref sig .tc .vmem S1x1x64x1536 .f32) (harg10 : arg10.IsWhole) (arg11 : Memref sig .tc .vmem S1x1x12x128x128 .f32) (harg11 : arg11.IsWhole) (arg12 : Memref sig .tc .vmem S12x128x128 .f32) (harg12 : arg12.IsWhole) (hc0 : ¬cond0_0 i) (hc1 : ¬cond0_1 i)
    (x0 : Vec F S1x64x1536 .f32) (x1 : Vec F S1x64x1536 .f32) (x2 : Vec F S1x64x1536 .f32) (x3 : Vec F S1x64x128 .f32) (x4 : Vec F S1x1x128 .f32) (x5 : Vec F S1x1x128 .f32) (x6 : Vec F S1x1x12x128x128 .f32) (xs0 : Vec F S12x128x128 .f32) :
    sout0_B_0 c i arg3 harg3 arg4 harg4 arg5 harg5 arg6 harg6 arg7 harg7 arg8 harg8 arg9 harg9 arg10 harg10 arg11 harg11 arg12 harg12 hc0 hc1 x0 x1 x2 x3 x4 x5 x6 xs0 = View.canon (pss i x1 x2 x3 x4 x5 xs0) := by
  unfold sout0_B_0
  rw [View.read_writes_eq_canon _ _ _ (scover0_B_0 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_B pss
  dsimp only
  sl_unfold_words
  simp only [View.readAt_eq_ld, harg3.read_unread, harg4.read_unread, harg5.read_unread, harg6.read_unread, harg7.read_unread, harg8.read_unread, harg9.read_unread, harg12.read_unread, ld_x3, ld_x4]
  congr 1
  repeat' (apply congrArg₂ List.cons)
  all_goals rfl

theorem outC (c : Dev nD) (i : grid0.Coords) (arg3 : Memref sig .tc .vmem S1x64x1536 .f32) (harg3 : arg3.IsWhole) (arg4 : Memref sig .tc .vmem S1x64x1536 .f32) (harg4 : arg4.IsWhole) (arg5 : Memref sig .tc .vmem S1x64x1536 .f32) (harg5 : arg5.IsWhole) (arg6 : Memref sig .tc .vmem S1x64x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x12x128x128 .f32) (harg9 : arg9.IsWhole) (arg10 : Memref sig .tc .vmem S1x1x64x1536 .f32) (harg10 : arg10.IsWhole) (arg11 : Memref sig .tc .vmem S1x1x12x128x128 .f32) (harg11 : arg11.IsWhole) (arg12 : Memref sig .tc .vmem S12x128x128 .f32) (harg12 : arg12.IsWhole) (hc0 : ¬cond0_0 i) (hc1 : cond0_1 i)
    (x0 : Vec F S1x64x1536 .f32) (x1 : Vec F S1x64x1536 .f32) (x2 : Vec F S1x64x1536 .f32) (x3 : Vec F S1x64x128 .f32) (x4 : Vec F S1x1x128 .f32) (x5 : Vec F S1x1x128 .f32) (x6 : Vec F S1x1x12x128x128 .f32) (xs0 : Vec F S12x128x128 .f32) :
    out0_C_7 c i arg3 harg3 arg4 harg4 arg5 harg5 arg6 harg6 arg7 harg7 arg8 harg8 arg9 harg9 arg10 harg10 arg11 harg11 arg12 harg12 hc0 hc1 x0 x1 x2 x3 x4 x5 x6 xs0 = View.canon (pos i x0 x1 x2 x3 x4 x5 xs0) := by
  unfold out0_C_7
  rw [View.read_writes_eq_canon _ _ _ (cover0_C_7 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C pos
  dsimp only
  sl_unfold_words
  simp only [View.readAt_eq_ld, harg3.read_unread, harg4.read_unread, harg5.read_unread, harg6.read_unread, harg7.read_unread, harg8.read_unread, harg9.read_unread, harg12.read_unread, ld_x3, ld_x4]
  congr 1
  repeat' (apply congrArg₂ List.cons)
  all_goals rfl

theorem stC (c : Dev nD) (i : grid0.Coords) (arg3 : Memref sig .tc .vmem S1x64x1536 .f32) (harg3 : arg3.IsWhole) (arg4 : Memref sig .tc .vmem S1x64x1536 .f32) (harg4 : arg4.IsWhole) (arg5 : Memref sig .tc .vmem S1x64x1536 .f32) (harg5 : arg5.IsWhole) (arg6 : Memref sig .tc .vmem S1x64x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x12x128x128 .f32) (harg9 : arg9.IsWhole) (arg10 : Memref sig .tc .vmem S1x1x64x1536 .f32) (harg10 : arg10.IsWhole) (arg11 : Memref sig .tc .vmem S1x1x12x128x128 .f32) (harg11 : arg11.IsWhole) (arg12 : Memref sig .tc .vmem S12x128x128 .f32) (harg12 : arg12.IsWhole) (hc0 : ¬cond0_0 i) (hc1 : cond0_1 i)
    (x0 : Vec F S1x64x1536 .f32) (x1 : Vec F S1x64x1536 .f32) (x2 : Vec F S1x64x1536 .f32) (x3 : Vec F S1x64x128 .f32) (x4 : Vec F S1x1x128 .f32) (x5 : Vec F S1x1x128 .f32) (x6 : Vec F S1x1x12x128x128 .f32) (xs0 : Vec F S12x128x128 .f32) :
    out0_C_8 c i arg3 harg3 arg4 harg4 arg5 harg5 arg6 harg6 arg7 harg7 arg8 harg8 arg9 harg9 arg10 harg10 arg11 harg11 arg12 harg12 hc0 hc1 x0 x1 x2 x3 x4 x5 x6 xs0 = k0_pay2 (View.canon (pss i x1 x2 x3 x4 x5 xs0)) := by
  unfold out0_C_8
  rw [View.read_writes_eq_canon _ _ _ (cover0_C_8 c i arg3 harg3 arg4 harg4 arg5 harg5 arg6 harg6 arg7 harg7 arg8 harg8 arg9 harg9 arg10 harg10 arg11 harg11 arg12 harg12 hc0 hc1 x0 x1 x2 x3 x4 x5 x6 xs0)]
  unfold kernelRun0_C pss
  dsimp only
  sl_unfold_words
  simp only [View.readAt_eq_ld, harg3.read_unread, harg4.read_unread, harg5.read_unread, harg6.read_unread, harg7.read_unread, harg8.read_unread, harg9.read_unread, harg12.read_unread, ld_x3, ld_x4]
  rw [View.canon_unit_zero (by funext a; fin_cases a <;> rfl)]
  congr 1
  rw [View.readCov_eq_canon']
  refine (View.ld_unit_zero (S := S12x128x128) (by funext a; fin_cases a <;> rfl) inb_S12x128x128_S12x128x128_0_0_0 _).trans ?_
  congr 1
  repeat' (apply congrArg₂ List.cons)
  all_goals rfl

theorem rdfill {sig : RefSig} {κ : Kind} {sp : Space} (v : View sig κ sp S12x128x128 .f32) (Z : Vec F S12x128x128 .f32) (r : Rect S12x128x128)
    (inb : ∀ a, (![0, 0, 0] : Fin 3 → Nat) a + (![12, 128, 128] : Fin 3 → Nat) a ≤ S12x128x128.size a) :
    v.readCov (Val := Elt F) [⟨Rect.unit ![0, 0, 0] ![12, 128, 128] inb, Z⟩] r.toLoadRect = View.ld Z r :=
  View.readCov_fill v inb Z [] r (by intro a; fin_cases a <;> rfl)

theorem outA (c : Dev nD) (i : grid0.Coords) (arg3 : Memref sig .tc .vmem S1x64x1536 .f32) (harg3 : arg3.IsWhole) (arg4 : Memref sig .tc .vmem S1x64x1536 .f32) (harg4 : arg4.IsWhole) (arg5 : Memref sig .tc .vmem S1x64x1536 .f32) (harg5 : arg5.IsWhole) (arg6 : Memref sig .tc .vmem S1x64x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x12x128x128 .f32) (harg9 : arg9.IsWhole) (arg10 : Memref sig .tc .vmem S1x1x64x1536 .f32) (harg10 : arg10.IsWhole) (arg11 : Memref sig .tc .vmem S1x1x12x128x128 .f32) (harg11 : arg11.IsWhole) (arg12 : Memref sig .tc .vmem S12x128x128 .f32) (harg12 : arg12.IsWhole) (hc0 : cond0_0 i) (hc1 : ¬cond0_1 i)
    (x0 : Vec F S1x64x1536 .f32) (x1 : Vec F S1x64x1536 .f32) (x2 : Vec F S1x64x1536 .f32) (x3 : Vec F S1x64x128 .f32) (x4 : Vec F S1x1x128 .f32) (x5 : Vec F S1x1x128 .f32) (x6 : Vec F S1x1x12x128x128 .f32) :
    out0_A_7 c i arg3 harg3 arg4 harg4 arg5 harg5 arg6 harg6 arg7 harg7 arg8 harg8 arg9 harg9 arg10 harg10 arg11 harg11 arg12 harg12 hc0 hc1 x0 x1 x2 x3 x4 x5 x6 = View.canon (pos i x0 x1 x2 x3 x4 x5 (k0_pay3 x6)) := by
  unfold out0_A_7
  rw [View.read_writes_eq_canon _ _ _ (cover0_A_7 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A pos
  dsimp only
  sl_unfold_words
  simp (disch := decide) only [↓View.readCov_skip, View.readAt_eq_ld, harg3.read_unread, harg4.read_unread, harg5.read_unread, harg6.read_unread, harg7.read_unread, harg8.read_unread, harg9.read_unread, harg12.read_unread, ld_x3, ld_x4, ld_x6]
  simp (disch := decide) only [rdfill]
  congr 1
  repeat' (apply congrArg₂ List.cons)
  all_goals rfl

theorem stA (c : Dev nD) (i : grid0.Coords) (arg3 : Memref sig .tc .vmem S1x64x1536 .f32) (harg3 : arg3.IsWhole) (arg4 : Memref sig .tc .vmem S1x64x1536 .f32) (harg4 : arg4.IsWhole) (arg5 : Memref sig .tc .vmem S1x64x1536 .f32) (harg5 : arg5.IsWhole) (arg6 : Memref sig .tc .vmem S1x64x128 .f32) (harg6 : arg6.IsWhole) (arg7 : Memref sig .tc .vmem S1x1x128 .f32) (harg7 : arg7.IsWhole) (arg8 : Memref sig .tc .vmem S1x1x128 .f32) (harg8 : arg8.IsWhole) (arg9 : Memref sig .tc .vmem S1x1x12x128x128 .f32) (harg9 : arg9.IsWhole) (arg10 : Memref sig .tc .vmem S1x1x64x1536 .f32) (harg10 : arg10.IsWhole) (arg11 : Memref sig .tc .vmem S1x1x12x128x128 .f32) (harg11 : arg11.IsWhole) (arg12 : Memref sig .tc .vmem S12x128x128 .f32) (harg12 : arg12.IsWhole) (hc0 : cond0_0 i) (hc1 : ¬cond0_1 i)
    (x0 : Vec F S1x64x1536 .f32) (x1 : Vec F S1x64x1536 .f32) (x2 : Vec F S1x64x1536 .f32) (x3 : Vec F S1x64x128 .f32) (x4 : Vec F S1x1x128 .f32) (x5 : Vec F S1x1x128 .f32) (x6 : Vec F S1x1x12x128x128 .f32) :
    sout0_A_0 c i arg3 harg3 arg4 harg4 arg5 harg5 arg6 harg6 arg7 harg7 arg8 harg8 arg9 harg9 arg10 harg10 arg11 harg11 arg12 harg12 hc0 hc1 x0 x1 x2 x3 x4 x5 x6 = View.canon (pss i x1 x2 x3 x4 x5 (k0_pay3 x6) ++ [⟨Rect.unit ![0, 0, 0] ![12, 128, 128] inb_S12x128x128_S12x128x128_0_0_0, k0_pay3 x6⟩]) := by
  unfold sout0_A_0
  rw [View.read_writes_eq_canon _ _ _ (scover0_A_0 c i arg3 harg3 arg4 harg4 arg5 harg5 arg6 harg6 arg7 harg7 arg8 harg8 arg9 harg9 arg10 harg10 arg11 harg11 arg12 harg12 hc0 hc1 x0 x1 x2 x3 x4 x5 x6)]
  unfold kernelRun0_A
  dsimp only
  sl_unfold_words
  simp (disch := decide) only [↓View.readCov_skip, View.readAt_eq_ld, harg3.read_unread, harg4.read_unread, harg5.read_unread, harg6.read_unread, harg7.read_unread, harg8.read_unread, harg9.read_unread, harg12.read_unread, ld_x3, ld_x4, ld_x6]
  simp (disch := decide) only [rdfill]
  unfold pss
  simp only [List.cons_append, List.nil_append]
  congr 1
  repeat' (apply congrArg₂ List.cons)
  all_goals rfl

end Cert.GdnIdeal.Rec
end
-- ==== Proof.GdnPoint.lean ====
/-
  What one grid point of the recurrence leaves, when its blocks hold a chunk: the chunk's output and the next state.
-/
module

public import proofs.«01_k».proof.Proof.GdnRead
public import proofs.«01_k».proof.Proof.GdnSpec
public import proofs.«01_k».proof.Proof.GdnStore
public import Idealize.ShloMosaic.Lib.Pipeline.Value
public import Idealize.ShloMosaic.Lib.Pipeline.CanonAppend

@[expose] public section

set_option maxRecDepth 16384

noncomputable section

namespace Cert.GdnIdeal.Rec

open Idealize.ShloMosaic Idealize.ShloMosaic.TcCoe Idealize.SL.Sem
open Cert.GdnIdeal Cert.GdnIdeal.Gen Cert.GdnMath

section point

variable {X : (⟨3, ![8, 2048, 4608]⟩ : Shape).Idx → EReal} {P : (⟨3, ![8, 2048, 7168]⟩ : Shape).Idx → EReal}
  {A D : (⟨2, ![2, 12]⟩ : Shape).Idx → EReal} (S0 : (⟨5, ![2, 8, 12, 128, 128]⟩ : Shape).Idx → EReal) (hf : Fine X)
  (i : grid0.Coords) (x0 x1 x2 : Vec Ideal S1x64x1536 .f32) (x3 : Vec Ideal S1x64x128 .f32) (x4 x5 : Vec Ideal S1x1x128 .f32)
  (s : Vec Ideal S12x128x128 .f32) (d : Fin 2) (b : Fin 8) (n : ℕ)

/-- The blocks of a point hold chunk `n` of direction `d` of batch row `b`. -/
structure Chunk (X : (⟨3, ![8, 2048, 4608]⟩ : Shape).Idx → EReal) (P : (⟨3, ![8, 2048, 7168]⟩ : Shape).Idx → EReal)
    (A D : (⟨2, ![2, 12]⟩ : Shape).Idx → EReal) (i : grid0.Coords) (x0 x1 x2 : Vec Ideal S1x64x1536 .f32) (x3 : Vec Ideal S1x64x128 .f32)
    (x4 x5 : Vec Ideal S1x1x128 .f32) (d : Fin 2) (b : Fin 8) (n : ℕ) : Prop where
  dir : (i 0).val = d.val
  q : ∀ (r : Fin 64) (c : Fin 1536), x0 (ix3 0 r c) = X (ix3 b (place d n (rho d r)) ⟨c.val, by omega⟩)
  k : ∀ (r : Fin 64) (c : Fin 1536), x1 (ix3 0 r c) = X (ix3 b (place d n (rho d r)) ⟨1536 + c.val, by omega⟩)
  v : ∀ (r : Fin 64) (c : Fin 1536), x2 (ix3 0 r c) = X (ix3 b (place d n (rho d r)) ⟨3072 + c.val, by omega⟩)
  p : ∀ (r : Fin 64) (c : Fin 128), x3 (ix3 0 r c) = P (ix3 b (place d n (rho d r)) ⟨6656 + 128 * d.val + c.val, by omega⟩)
  a : ∀ h : Fin 12, x4 (ix3 0 0 ⟨12 + h.val, by omega⟩) = Ideal.exp (A (ix2 d h))
  t : ∀ h : Fin 12, x5 (ix3 0 0 ⟨12 + h.val, by omega⟩) = D (ix2 d h)

variable (hc : Chunk X P A D i x0 x1 x2 x3 x4 x5 d b n)
  (hs : ∀ (h : Fin 12) (f e : Fin 128), s (ix3 h f e) = st X P A D S0 d b h n f e)

include hf hc hs in
theorem hout_pt (h : Nat) (hh : h < 12) (r : Fin 64) (e : Fin 128) :
    hout (k0_pay7 i) (cols x0 h hh) (cols x1 h hh) (cols x2 h hh) (k0_pay5 x3) (k0_pay6 x3 x4 x5) (stOf s h hh) h hh (ix2 r e)
      = ou X P A D S0 d b ⟨h, hh⟩ n (rho d r) e := by
  refine hout_apply _ _ _ _ _ _ _ h hh (rho d) (qs X d b ⟨h, hh⟩ n) (ks X d b ⟨h, hh⟩ n) (vs X d b ⟨h, hh⟩ n) (bs P d b ⟨h, hh⟩ n)
    (gs P A D d b ⟨h, hh⟩ n) (st X P A D S0 d b ⟨h, hh⟩ n) (masks i d hc.dir) ?_ ?_ ?_ ?_ ?_ ?_ (hf.ks d b _ n) (bs_real d b _ n) (gs_ne_top d b _ n) r e
  · intro r e; rw [cols_apply, hc.q]; rfl
  · intro r e; rw [cols_apply, hc.k]; rfl
  · intro r e; rw [cols_apply, hc.v]; rfl
  · intro r; rw [pay5_apply, hc.p]; rfl
  · intro r; rw [pay6_apply, hc.p, hc.a ⟨h, hh⟩, hc.t ⟨h, hh⟩]; rfl
  · intro f e; rw [stOf_apply, hs]

include hf hc hs in
theorem hst_pt (h : Nat) (hh : h < 12) (f e : Fin 128) :
    hst (k0_pay7 i) (cols x1 h hh) (cols x2 h hh) (k0_pay5 x3) (k0_pay6 x3 x4 x5) (stOf s h hh) h hh (ix2 f e)
      = st X P A D S0 d b ⟨h, hh⟩ (n + 1) f e := by
  refine hst_apply _ _ _ _ _ _ h hh (rho d) (ks X d b ⟨h, hh⟩ n) (vs X d b ⟨h, hh⟩ n) (bs P d b ⟨h, hh⟩ n)
    (gs P A D d b ⟨h, hh⟩ n) (st X P A D S0 d b ⟨h, hh⟩ n) (masks i d hc.dir) ?_ ?_ ?_ ?_ ?_ (hf.ks d b _ n) (bs_real d b _ n) (gs_ne_top d b _ n) f e
  · intro r e; rw [cols_apply, hc.k]; rfl
  · intro r e; rw [cols_apply, hc.v]; rfl
  · intro r; rw [pay5_apply, hc.p]; rfl
  · intro r; rw [pay6_apply, hc.p, hc.a ⟨h, hh⟩, hc.t ⟨h, hh⟩]; rfl
  · intro f e; rw [stOf_apply, hs]

/-- The blocks a point is to leave. -/
def oBlk (X : (⟨3, ![8, 2048, 4608]⟩ : Shape).Idx → EReal) (P : (⟨3, ![8, 2048, 7168]⟩ : Shape).Idx → EReal)
    (A D : (⟨2, ![2, 12]⟩ : Shape).Idx → EReal) (S0 : (⟨5, ![2, 8, 12, 128, 128]⟩ : Shape).Idx → EReal) (d : Fin 2) (b : Fin 8) (n : ℕ) :
    S1x1x64x1536.Idx → EReal := fun y =>
  ou X P A D S0 d b ⟨(y 3).val / 128, by have : (y 3).val < 1536 := (y 3).isLt; omega⟩ n (rho d (y 2)) ⟨(y 3).val % 128, by omega⟩
def sBlk (X : (⟨3, ![8, 2048, 4608]⟩ : Shape).Idx → EReal) (P : (⟨3, ![8, 2048, 7168]⟩ : Shape).Idx → EReal)
    (A D : (⟨2, ![2, 12]⟩ : Shape).Idx → EReal) (S0 : (⟨5, ![2, 8, 12, 128, 128]⟩ : Shape).Idx → EReal) (d : Fin 2) (b : Fin 8) (n : ℕ) :
    S12x128x128.Idx → EReal := fun y => st X P A D S0 d b (y 0) (n + 1) (y 1) (y 2)

include hf hc hs in
theorem po_pt (h : Nat) (hh : h < 12) (x : (po i x0 x1 x2 x3 x4 x5 s h hh).1.shape.Idx) :
    (po i x0 x1 x2 x3 x4 x5 s h hh).2 x = oBlk X P A D S0 d b n ((po i x0 x1 x2 x3 x4 x5 s h hh).1.emb x) := by
  obtain ⟨z, y, r, e, rfl⟩ : ∃ (z y : Fin 1) (r : Fin 64) (e : Fin 128), x = ix4 z y r e := ⟨x 0, x 1, x 2, x 3, eq_ix4 x⟩
  have e1 : (po i x0 x1 x2 x3 x4 x5 s h hh).1.emb (ix4 z y r e) = (ix4 z y r ⟨128 * h + e.val, by omega⟩ : S1x1x64x1536.Idx) := by
    funext a
    apply Fin.ext
    match a with
    | ⟨0, _⟩ => show 0 + 1 * z.val = z.val; omega
    | ⟨1, _⟩ => show 0 + 1 * y.val = y.val; omega
    | ⟨2, _⟩ => show 0 + 1 * r.val = r.val; omega
    | ⟨3, _⟩ => show 128 * h + 1 * e.val = 128 * h + e.val; omega
  rw [e1]
  have e2 : (po i x0 x1 x2 x3 x4 x5 s h hh).2 (ix4 z y r e)
      = hout (k0_pay7 i) (cols x0 h hh) (cols x1 h hh) (cols x2 h hh) (k0_pay5 x3) (k0_pay6 x3 x4 x5) (stOf s h hh) h hh (ix2 r e) := by
    unfold po
    dsimp only
    generalize hout (k0_pay7 i) (cols x0 h hh) (cols x1 h hh) (cols x2 h hh) (k0_pay5 x3) (k0_pay6 x3 x4 x5) (stOf s h hh) h hh = w
    pointwise
  rw [e2, hout_pt S0 hf i x0 x1 x2 x3 x4 x5 s d b n hc hs]
  show ou X P A D S0 d b ⟨h, hh⟩ n (rho d r) e = ou X P A D S0 d b ⟨(128 * h + e.val) / 128, _⟩ n (rho d r) ⟨(128 * h + e.val) % 128, _⟩
  congr 1
  · exact Fin.ext (by show h = (128 * h + e.val) / 128; omega)
  · exact Fin.ext (by show e.val = (128 * h + e.val) % 128; omega)

include hf hc hs in
theorem ps_pt (h : Nat) (hh : h < 12) (x : (ps i x1 x2 x3 x4 x5 s h hh).1.shape.Idx) :
    (ps i x1 x2 x3 x4 x5 s h hh).2 x = sBlk X P A D S0 d b n ((ps i x1 x2 x3 x4 x5 s h hh).1.emb x) := by
  obtain ⟨z, f, e, rfl⟩ : ∃ (z : Fin 1) (f e : Fin 128), x = ix3 z f e := ⟨x 0, x 1, x 2, eq_ix3 x⟩
  have e1 : (ps i x1 x2 x3 x4 x5 s h hh).1.emb (ix3 z f e) = (ix3 ⟨h, hh⟩ f e : S12x128x128.Idx) := by
    funext a
    apply Fin.ext
    match a with
    | ⟨0, _⟩ => show h + 1 * z.val = h; omega
    | ⟨1, _⟩ => show 0 + 1 * f.val = f.val; omega
    | ⟨2, _⟩ => show 0 + 1 * e.val = e.val; omega
  rw [e1]
  have e2 : (ps i x1 x2 x3 x4 x5 s h hh).2 (ix3 z f e)
      = hst (k0_pay7 i) (cols x1 h hh) (cols x2 h hh) (k0_pay5 x3) (k0_pay6 x3 x4 x5) (stOf s h hh) h hh (ix2 f e) := by
    unfold ps
    dsimp only
    generalize hst (k0_pay7 i) (cols x1 h hh) (cols x2 h hh) (k0_pay5 x3) (k0_pay6 x3 x4 x5) (stOf s h hh) h hh = w
    pointwise
  rw [e2, hst_pt S0 hf i x0 x1 x2 x3 x4 x5 s d b n hc hs]
  rfl

theorem mem_po (h : Nat) (hh : h < 12) (y : S1x1x64x1536.Idx) (hy : (y 3).val / 128 = h) : y ∈ (po i x0 x1 x2 x3 x4 x5 s h hh).1.set := by
  have key : y ∈ (Rect.unit (s := S1x1x64x1536) ![0, 0, 0, 128 * h] ![1, 1, 64, 128] (inb_o h hh)).set ↔ _ := Rect.mem_set_unit
  refine key.mpr ?_
  intro a
  match a with
  | ⟨0, _⟩ => exact ⟨Nat.zero_le _, by have : (y 0).val < 1 := (y 0).isLt; show (y 0).val < 0 + 1; omega⟩
  | ⟨1, _⟩ => exact ⟨Nat.zero_le _, by have : (y 1).val < 1 := (y 1).isLt; show (y 1).val < 0 + 1; omega⟩
  | ⟨2, _⟩ => exact ⟨Nat.zero_le _, by have : (y 2).val < 64 := (y 2).isLt; show (y 2).val < 0 + 64; omega⟩
  | ⟨3, _⟩ => exact ⟨by show 128 * h ≤ (y 3).val; omega, by show (y 3).val < 128 * h + 128; omega⟩

theorem mem_ps (h : Nat) (hh : h < 12) (y : S12x128x128.Idx) (hy : (y 0).val = h) : y ∈ (ps i x1 x2 x3 x4 x5 s h hh).1.set := by
  have key : y ∈ (Rect.unit (s := S12x128x128) ![h, 0, 0] ![1, 128, 128] (inb_s h hh)).set ↔ _ := Rect.mem_set_unit
  refine key.mpr ?_
  intro a
  match a with
  | ⟨0, _⟩ => exact ⟨by show h ≤ (y 0).val; omega, by show (y 0).val < h + 1; omega⟩
  | ⟨1, _⟩ => exact ⟨Nat.zero_le _, by have : (y 1).val < 128 := (y 1).isLt; show (y 1).val < 0 + 128; omega⟩
  | ⟨2, _⟩ => exact ⟨Nat.zero_le _, by have : (y 2).val < 128 := (y 2).isLt; show (y 2).val < 0 + 128; omega⟩

theorem po_mem (h : Nat) (hh : h < 12) : po i x0 x1 x2 x3 x4 x5 s h hh ∈ pos i x0 x1 x2 x3 x4 x5 s := by
  unfold pos
  match h, hh with
  | 0, _ | 1, _ | 2, _ | 3, _ | 4, _ | 5, _ | 6, _ | 7, _ | 8, _ | 9, _ | 10, _ | 11, _ => simp only [List.mem_cons, true_or, or_true]
theorem ps_mem (h : Nat) (hh : h < 12) : ps i x1 x2 x3 x4 x5 s h hh ∈ pss i x1 x2 x3 x4 x5 s := by
  unfold pss
  match h, hh with
  | 0, _ | 1, _ | 2, _ | 3, _ | 4, _ | 5, _ | 6, _ | 7, _ | 8, _ | 9, _ | 10, _ | 11, _ => simp only [List.mem_cons, true_or, or_true]

include hf hc hs in
/-- The output block of a point. -/
theorem canon_o : View.canon (Val := Elt Ideal) (pos i x0 x1 x2 x3 x4 x5 s) = oBlk X P A D S0 d b n := by
  funext y
  refine View.canon_apply_of_pieces (Val := Elt Ideal) (e := .f32) (oBlk X P A D S0 d b n) _ ?_ y ?_
  · unfold pos
    iterate 12 refine List.forall_mem_cons.mpr ⟨fun x => po_pt S0 hf i x0 x1 x2 x3 x4 x5 s d b n hc hs _ _ x, ?_⟩
    exact fun p hp => absurd hp List.not_mem_nil
  · have h3 : (y 3).val < 1536 := (y 3).isLt
    exact ⟨_, po_mem i x0 x1 x2 x3 x4 x5 s ((y 3).val / 128) (by omega), mem_po _ _ _ _ _ _ _ _ _ _ y rfl⟩

include hf hc hs in
/-- The state a point leaves, over anything its buffer held. -/
theorem canon_s (L : List (View.Piece (Elt Ideal) S12x128x128 .f32)) :
    View.canon (Val := Elt Ideal) (pss i x1 x2 x3 x4 x5 s ++ L) = sBlk X P A D S0 d b n := by
  funext y
  refine View.canon_append_of_pieces (Val := Elt Ideal) (e := .f32) (sBlk X P A D S0 d b n) L _ ?_ y ?_
  · unfold pss
    iterate 12 refine List.forall_mem_cons.mpr ⟨fun x => ps_pt S0 hf i x0 x1 x2 x3 x4 x5 s d b n hc hs _ _ x, ?_⟩
    exact fun p hp => absurd hp List.not_mem_nil
  · exact ⟨_, ps_mem i x1 x2 x3 x4 x5 s (y 0).val (y 0).isLt, mem_ps _ _ _ _ _ _ _ _ _ y rfl⟩

end point

end Cert.GdnIdeal.Rec

end
-- ==== Proof.GdnValue.lean ====
/-
  The recurrence's run: the state carried in the scratch is the gated delta rule's, by an induction over the grid's points.
-/
module

public import proofs.«01_k».proof.Proof.GdnPoint
public import proofs.«01_k».proof.Proof.Gen.GdnIdeal.Value
public import Idealize.ShloMosaic.Lib.VecWindow
public import Idealize.ShloMosaic.Lib.Quiescent

@[expose] public section

set_option maxRecDepth 16384

noncomputable section

namespace Cert.GdnIdeal.Rec

open Idealize.ShloMosaic Idealize.ShloMosaic.TcCoe Idealize.SL.Sem
open Cert.GdnIdeal Cert.GdnIdeal.Gen Cert.GdnMath

variable (m : (ℓ : Loc nD τ sig) → Buf (Elt Ideal) ℓ) (c : Dev nD)

/-- A per-head value of each direction, set after twelve zeros and padded to a row of lanes. -/
def padded (x : (⟨S2x12, .f32⟩ : BufTy).Contents (Elt Ideal)) : (⟨S2x1x128, .f32⟩ : BufTy).Contents (Elt Ideal) :=
  shapeCast S2x1x128 (concatenate S2x128 1 [⟨S2x12, (broadcastInDim S2x12 ![] bcast_S_S2x12 (constant (F := Ideal) S_ .f32 0x00000000#32) : (⟨S2x12, .f32⟩ : BufTy).Contents (Elt Ideal))⟩,
    ⟨S2x12, x⟩, ⟨S2x104, (broadcastInDim S2x104 ![] bcast_S_S2x104 (constant (F := Ideal) S_ .f32 0x00000000#32) : (⟨S2x104, .f32⟩ : BufTy).Contents (Elt Ideal))⟩]
    concatenates_S2x12_S2x12_S2x104_S2x128_d1) shapeCasts_S2x128_S2x1x128

theorem padded_apply (x : (⟨S2x12, .f32⟩ : BufTy).Contents (Elt Ideal)) (d : Fin 2) (z : Fin 1) (h : Fin 12) :
    padded x (ix3 d z ⟨12 + h.val, by omega⟩) = x (ix2 d h) := by
  unfold padded
  pointwise

theorem V_rate : V m c main_v4 = padded (Host.exp (F := Ideal) (φ := .f32) (m ((c : Thread nD τ).loc main_arg2))) := by
  show StableHlo.after hostOps0 (fun b => m (c, b)) main_v4 = _
  unfold hostOps0
  after_results_simp
  rfl
theorem V_bias : V m c main_v8 = padded (m ((c : Thread nD τ).loc main_arg3)) := by
  show StableHlo.after hostOps0 (fun b => m (c, b)) main_v8 = _
  unfold hostOps0
  after_results_simp
  rfl

/-- The block each point works on. -/
theorem idx_facts : ∀ t : Fin cfg0.N,
    (win0_0.index t 0 = t.val / 32 % 8 ∧ win0_0.index t 1 = (if t.val < 256 then t.val % 32 else 31 - t.val % 32) ∧ win0_0.index t 2 = 0)
    ∧ (win0_1.index t 0 = t.val / 32 % 8 ∧ win0_1.index t 1 = (if t.val < 256 then t.val % 32 else 31 - t.val % 32) ∧ win0_1.index t 2 = 1)
    ∧ (win0_2.index t 0 = t.val / 32 % 8 ∧ win0_2.index t 1 = (if t.val < 256 then t.val % 32 else 31 - t.val % 32) ∧ win0_2.index t 2 = 2)
    ∧ (win0_3.index t 0 = t.val / 32 % 8 ∧ win0_3.index t 1 = (if t.val < 256 then t.val % 32 else 31 - t.val % 32) ∧ win0_3.index t 2 = 52 + t.val / 256)
    ∧ (win0_4.index t 0 = t.val / 256 ∧ win0_4.index t 1 = 0 ∧ win0_4.index t 2 = 0)
    ∧ (win0_5.index t 0 = t.val / 256 ∧ win0_5.index t 1 = 0 ∧ win0_5.index t 2 = 0)
    ∧ (win0_6.index t 0 = t.val / 256 ∧ win0_6.index t 1 = t.val / 32 % 8 ∧ win0_6.index t 2 = 0 ∧ win0_6.index t 3 = 0 ∧ win0_6.index t 4 = 0)
    ∧ (win0_7.index t 0 = t.val / 256 ∧ win0_7.index t 1 = t.val / 32 % 8 ∧ win0_7.index t 2 = (if t.val < 256 then t.val % 32 else 31 - t.val % 32) ∧ win0_7.index t 3 = 0)
    ∧ (win0_8.index t 0 = t.val / 256 ∧ win0_8.index t 1 = t.val / 32 % 8 ∧ win0_8.index t 2 = 0 ∧ win0_8.index t 3 = 0 ∧ win0_8.index t 4 = 0)
    ∧ (grid0.coords t 0).val = t.val / 256 := by decide +kernel

/-- The grid has 512 points. -/
theorem lt512 (t : Fin cfg0.N) : t.val < 512 := Nat.lt_of_lt_of_eq t.isLt N_0

/-- The direction and the batch row of a point. -/
def dOf (n : ℕ) (h : n < cfg0.N) : Fin 2 := ⟨n / 256, by have := lt512 ⟨n, h⟩; dsimp only at this; omega⟩
def bOf (n : ℕ) : Fin 8 := ⟨n / 32 % 8, by omega⟩

/-- The place of a row of a point's block. -/
theorem place_val (n : ℕ) (h : n < cfg0.N) (r : Fin 64) :
    (place (dOf n h) (n % 32) (rho (dOf n h) r)).val = (if n < 256 then n % 32 else 31 - n % 32) * 64 + r.val := by
  have h5 := lt512 ⟨n, h⟩
  dsimp only at h5
  unfold place rho
  by_cases h1 : n < 256
  · have e : dOf n h = 0 := Fin.ext (by show n / 256 = 0; omega)
    rw [if_pos e, if_pos e, if_pos h1]
    show (64 * (n % 32) + r.val) % 2048 = _
    omega
  · have e : ¬dOf n h = 0 := fun e => by have := congrArg Fin.val e; replace this : n / 256 = 0 := this; omega
    rw [if_neg e, if_neg e, if_neg h1]
    have e2 : (Fin.revPerm r).val = 63 - r.val := by rw [Fin.revPerm_apply, Fin.val_rev]; omega
    show 2047 - (64 * (n % 32) + (Fin.revPerm r).val) % 2048 = _
    rw [e2]
    omega

/-- The blocks of a point hold its chunk. -/
theorem chunk (t : Fin cfg0.N) : Chunk (m ((c : Thread nD τ).loc main_arg0)) (m ((c : Thread nD τ).loc main_arg1)) (m ((c : Thread nD τ).loc main_arg2)) (m ((c : Thread nD τ).loc main_arg3))
    (grid0.coords t) (iblk m c 0 t) (iblk m c 1 t) (iblk m c 2 t) (iblk m c 3 t) (iblk m c 4 t) (iblk m c 5 t) (dOf t.val t.isLt) (bOf t.val) (t.val % 32) := by
  obtain ⟨⟨a0, a1, a2⟩, ⟨b0, b1, b2⟩, ⟨c0, c1, c2⟩, ⟨d0, d1, d2⟩, ⟨e0, e1, e2⟩, ⟨f0, f1, f2⟩, -, -, -, g⟩ := idx_facts t
  refine ⟨g, ?_, ?_, ?_, ?_, ?_, ?_⟩
  · intro r k
    have hp := place_val t.val t.isLt r
    rw [← V_main_arg0 m c]
    refine congrArg (V m c main_arg0) (funext fun a => Fin.ext ?_)
    match a with
    | ⟨0, _⟩ => show win0_0.index t 0 * 1 + 1 * 0 = t.val / 32 % 8; omega
    | ⟨1, _⟩ => show win0_0.index t 1 * 64 + 1 * r.val = _; exact (by rw [a1]; omega : _ = _).trans hp.symm
    | ⟨2, _⟩ => show win0_0.index t 2 * 1536 + 1 * k.val = k.val; omega
  · intro r k
    have hp := place_val t.val t.isLt r
    rw [← V_main_arg0 m c]
    refine congrArg (V m c main_arg0) (funext fun a => Fin.ext ?_)
    match a with
    | ⟨0, _⟩ => show win0_1.index t 0 * 1 + 1 * 0 = t.val / 32 % 8; omega
    | ⟨1, _⟩ => show win0_1.index t 1 * 64 + 1 * r.val = _; exact (by rw [b1]; omega : _ = _).trans hp.symm
    | ⟨2, _⟩ => show win0_1.index t 2 * 1536 + 1 * k.val = 1536 + k.val; omega
  · intro r k
    have hp := place_val t.val t.isLt r
    rw [← V_main_arg0 m c]
    refine congrArg (V m c main_arg0) (funext fun a => Fin.ext ?_)
    match a with
    | ⟨0, _⟩ => show win0_2.index t 0 * 1 + 1 * 0 = t.val / 32 % 8; omega
    | ⟨1, _⟩ => show win0_2.index t 1 * 64 + 1 * r.val = _; exact (by rw [c1]; omega : _ = _).trans hp.symm
    | ⟨2, _⟩ => show win0_2.index t 2 * 1536 + 1 * k.val = 3072 + k.val; omega
  · intro r k
    have hp := place_val t.val t.isLt r
    rw [← V_main_arg1 m c]
    refine congrArg (V m c main_arg1) (funext fun a => Fin.ext ?_)
    match a with
    | ⟨0, _⟩ => show win0_3.index t 0 * 1 + 1 * 0 = t.val / 32 % 8; omega
    | ⟨1, _⟩ => show win0_3.index t 1 * 64 + 1 * r.val = _; exact (by rw [d1]; omega : _ = _).trans hp.symm
    | ⟨2, _⟩ => show win0_3.index t 2 * 128 + 1 * k.val = 6656 + 128 * (t.val / 256) + k.val; omega
  · intro h
    have e : V m c main_v4 (ix3 (dOf t.val t.isLt) 0 ⟨12 + h.val, by omega⟩) = Ideal.exp (m ((c : Thread nD τ).loc main_arg2) (ix2 (dOf t.val t.isLt) h)) := by
      rw [V_rate]
      exact (padded_apply _ _ _ _).trans rfl
    refine Eq.trans ?_ e
    refine congrArg (V m c main_v4) (funext fun a => Fin.ext ?_)
    match a with
    | ⟨0, _⟩ => show win0_4.index t 0 * 1 + 1 * 0 = t.val / 256; omega
    | ⟨1, _⟩ => show win0_4.index t 1 * 1 + 1 * 0 = 0; omega
    | ⟨2, _⟩ => show win0_4.index t 2 * 128 + 1 * (12 + h.val) = 12 + h.val; omega
  · intro h
    have e : V m c main_v8 (ix3 (dOf t.val t.isLt) 0 ⟨12 + h.val, by omega⟩) = m ((c : Thread nD τ).loc main_arg3) (ix2 (dOf t.val t.isLt) h) := by
      rw [V_bias]
      exact padded_apply _ _ _ _
    refine Eq.trans ?_ e
    refine congrArg (V m c main_v8) (funext fun a => Fin.ext ?_)
    match a with
    | ⟨0, _⟩ => show win0_5.index t 0 * 1 + 1 * 0 = t.val / 256; omega
    | ⟨1, _⟩ => show win0_5.index t 1 * 1 + 1 * 0 = 0; omega
    | ⟨2, _⟩ => show win0_5.index t 2 * 128 + 1 * (12 + h.val) = 12 + h.val; omega

/-- The state a sequence starts with, as its first point stores it. -/
theorem start_apply (t : Fin cfg0.N) (h : Fin 12) (f e : Fin 128) :
    k0_pay3 (iblk m c 6 t) (ix3 h f e) = m ((c : Thread nD τ).loc main_arg4) (ix5 (dOf t.val t.isLt) (bOf t.val) h f e) := by
  obtain ⟨-, -, -, -, -, -, ⟨h0, h1, h2, h3, h4⟩, -⟩ := idx_facts t
  have e1 : k0_pay3 (iblk m c 6 t) (ix3 h f e) = iblk m c 6 t (ix5 0 0 h f e) := by
    generalize iblk m c 6 t = x
    unfold k0_pay3
    pointwise
  rw [e1, ← V_main_arg4 m c]
  refine congrArg (V m c main_arg4) (funext fun a => Fin.ext ?_)
  match a with
  | ⟨0, _⟩ => show win0_6.index t 0 * 1 + 1 * 0 = t.val / 256; omega
  | ⟨1, _⟩ => show win0_6.index t 1 * 1 + 1 * 0 = t.val / 32 % 8; omega
  | ⟨2, _⟩ => show win0_6.index t 2 * 12 + 1 * h.val = h.val; omega
  | ⟨3, _⟩ => show win0_6.index t 3 * 128 + 1 * f.val = f.val; omega
  | ⟨4, _⟩ => show win0_6.index t 4 * 128 + 1 * e.val = e.val; omega

/-- The states a program's arguments give, by point. -/
abbrev stP (d : Fin 2) (b : Fin 8) (h : Fin 12) (n : ℕ) (f e : Fin 128) : EReal :=
  st (m ((c : Thread nD τ).loc main_arg0)) (m ((c : Thread nD τ).loc main_arg1)) (m ((c : Thread nD τ).loc main_arg2)) (m ((c : Thread nD τ).loc main_arg3)) (m ((c : Thread nD τ).loc main_arg4)) d b h n f e

variable (hf : Fine (m ((c : Thread nD τ).loc main_arg0)))

include hf in
/-- After every point but a sequence's last the scratch holds the state after the point's chunk. -/
theorem scr_eq (n : ℕ) : ∀ (h : n < cfg0.N), ¬n % 32 = 31 → (outsAt0 m c n h).2.2
      = sBlk (m ((c : Thread nD τ).loc main_arg0)) (m ((c : Thread nD τ).loc main_arg1)) (m ((c : Thread nD τ).loc main_arg2)) (m ((c : Thread nD τ).loc main_arg3)) (m ((c : Thread nD τ).loc main_arg4))
        (dOf n h) (bOf n) (n % 32) := by
  induction n using Nat.strong_induction_on with
  | _ n ih =>
    intro h h1
    by_cases h0 : n % 32 = 0
    · rw [outsAt0_A m c ⟨n, h⟩ h0 h1]
      dsimp only
      rw [stA]
      refine canon_s (m ((c : Thread nD τ).loc main_arg4)) hf _ _ _ _ _ _ _ _ _ _ _ (chunk m c ⟨n, h⟩) ?_ _
      intro g f e
      rw [start_apply]
      show _ = st _ _ _ _ _ _ _ _ (n % 32) _ _
      rw [h0]
      rfl
    · have hp := ih (n - 1) (by omega) (by omega) (by omega)
      rw [outsAt0_B m c ⟨n, h⟩ h0 h1]
      dsimp only
      rw [stB, ← List.append_nil (pss _ _ _ _ _ _ _)]
      refine canon_s (m ((c : Thread nD τ).loc main_arg4)) hf _ _ _ _ _ _ _ _ _ _ _ (chunk m c ⟨n, h⟩) ?_ _
      intro g f e
      rw [hp]
      have e1 : dOf (n - 1) (by omega) = dOf n h := Fin.ext (by show (n - 1) / 256 = n / 256; omega)
      have e2 : bOf (n - 1) = bOf n := Fin.ext (by show (n - 1) / 32 % 8 = n / 32 % 8; omega)
      rw [e1, e2]
      show st _ _ _ _ _ _ _ _ ((n - 1) % 32 + 1) _ _ = st _ _ _ _ _ _ _ _ (n % 32) _ _
      rw [show (n - 1) % 32 + 1 = n % 32 by omega]
      rfl

include hf in
/-- The state a point past a sequence's first reads. -/
theorem before (t : Fin cfg0.N) (h0 : ¬t.val % 32 = 0) (g : Fin 12) (f e : Fin 128) :
    (outsAt0 m c (t.val - 1) (Nat.lt_of_le_of_lt (Nat.sub_le _ _) t.isLt)).2.2 (ix3 g f e) = stP m c (dOf t.val t.isLt) (bOf t.val) g (t.val % 32) f e := by
  rw [scr_eq m c hf (t.val - 1) _ (by omega)]
  have e1 : dOf (t.val - 1) (Nat.lt_of_le_of_lt (Nat.sub_le _ _) t.isLt) = dOf t.val t.isLt := Fin.ext (by show (t.val - 1) / 256 = t.val / 256; omega)
  have e2 : bOf (t.val - 1) = bOf t.val := Fin.ext (by show (t.val - 1) / 32 % 8 = t.val / 32 % 8; omega)
  rw [e1, e2]
  show st _ _ _ _ _ _ _ _ ((t.val - 1) % 32 + 1) _ _ = st _ _ _ _ _ _ _ _ (t.val % 32) _ _
  rw [show (t.val - 1) % 32 + 1 = t.val % 32 by omega]
  rfl

include hf in
/-- What a point leaves in the output's staging buffer. -/
theorem out_eq (t : Fin cfg0.N) : (outsAt0 m c t.val t.isLt).1
      = oBlk (m ((c : Thread nD τ).loc main_arg0)) (m ((c : Thread nD τ).loc main_arg1)) (m ((c : Thread nD τ).loc main_arg2)) (m ((c : Thread nD τ).loc main_arg3)) (m ((c : Thread nD τ).loc main_arg4))
        (dOf t.val t.isLt) (bOf t.val) (t.val % 32) := by
  by_cases h0 : t.val % 32 = 0
  · rw [outsAt0_A m c t h0 (by omega)]
    dsimp only
    rw [outA]
    refine canon_o (m ((c : Thread nD τ).loc main_arg4)) hf _ _ _ _ _ _ _ _ _ _ _ (chunk m c t) ?_
    intro g f e
    rw [start_apply, h0]
    rfl
  · by_cases h1 : t.val % 32 = 31
    · have hb := before m c hf t h0
      rw [outsAt0_C m c t h0 h1]
      dsimp only
      rw [outC]
      exact canon_o (m ((c : Thread nD τ).loc main_arg4)) hf _ _ _ _ _ _ _ _ _ _ _ (chunk m c t) hb
    · have hb := before m c hf t h0
      rw [outsAt0_B m c t h0 h1]
      dsimp only
      rw [outB]
      exact canon_o (m ((c : Thread nD τ).loc main_arg4)) hf _ _ _ _ _ _ _ _ _ _ _ (chunk m c t) hb

include hf in
/-- What a sequence's last point leaves in the state's staging buffer. -/
theorem last_apply (t : Fin cfg0.N) (h1 : t.val % 32 = 31) (y z : Fin 1) (g : Fin 12) (f e : Fin 128) :
    (outsAt0 m c t.val t.isLt).2.1 (ix5 y z g f e) = stP m c (dOf t.val t.isLt) (bOf t.val) g 32 f e := by
  have hb := before m c hf t (by omega)
  rw [outsAt0_C m c t (by omega) h1]
  dsimp only
  rw [stC, ← List.append_nil (pss _ _ _ _ _ _ _), canon_s (m ((c : Thread nD τ).loc main_arg4)) hf _ _ _ _ _ _ _ _ _ _ _ (chunk m c t) hb, h1]
  show k0_pay2 (F := Ideal) (fun y => stP m c (dOf t.val t.isLt) (bOf t.val) (y 0) (31 + 1) (y 1) (y 2)) (ix5 y z g f e) = _
  unfold k0_pay2
  pointwise

/-- The two results as whole arrays. -/
def resO : S2x8x2048x1536.Idx → EReal :=
  Cert.GdnMath.outA (m ((c : Thread nD τ).loc main_arg0)) (m ((c : Thread nD τ).loc main_arg1)) (m ((c : Thread nD τ).loc main_arg2)) (m ((c : Thread nD τ).loc main_arg3)) (m ((c : Thread nD τ).loc main_arg4))
def resS : S2x8x12x128x128.Idx → EReal :=
  Cert.GdnMath.stA (m ((c : Thread nD τ).loc main_arg0)) (m ((c : Thread nD τ).loc main_arg1)) (m ((c : Thread nD τ).loc main_arg2)) (m ((c : Thread nD τ).loc main_arg3)) (m ((c : Thread nD τ).loc main_arg4))

/-- A row's turn and its chunk, from its point. -/
theorem turn_val (n : ℕ) (h : n < cfg0.N) (r : Fin 64) (l : Fin 2048) (hl : l.val = (if n < 256 then n % 32 else 31 - n % 32) * 64 + r.val) :
    turn (dOf n h) l = 64 * (n % 32) + (rho (dOf n h) r).val := by
  have h5 := lt512 ⟨n, h⟩
  dsimp only at h5
  unfold turn rho
  by_cases h1 : n < 256
  · have e : dOf n h = 0 := Fin.ext (by show n / 256 = 0; omega)
    rw [if_pos h1] at hl
    rw [if_pos e, if_pos e, hl]
    show _ = 64 * (n % 32) + r.val
    omega
  · have e : ¬dOf n h = 0 := fun e => by have := congrArg Fin.val e; replace this : n / 256 = 0 := this; omega
    have e2 : (Fin.revPerm r).val = 63 - r.val := by rw [Fin.revPerm_apply, Fin.val_rev]; omega
    rw [if_neg h1] at hl
    rw [if_neg e, if_neg e, hl, e2]
    omega

include hf in
/-- What a point writes back is its block of the output. -/
theorem flushed_o (t : Fin cfg0.N) : (dats m 0 c).flushed 7 t = ((cfg0.win 7).blk t).view.read (Elt Ideal) (resO m c) := by
  rw [Value.flushed7, out_eq m c hf t]
  obtain ⟨-, -, -, -, -, -, -, ⟨h0, h1, h2, h3⟩, -⟩ := idx_facts t
  have h5 := lt512 t
  funext y
  obtain ⟨z, x, r, k, rfl⟩ : ∃ (z x : Fin 1) (r : Fin 64) (k : Fin 1536), y = ix4 z x r k := ⟨y 0, y 1, y 2, y 3, eq_ix4 y⟩
  have hv := turn_val t.val t.isLt r ⟨(if t.val < 256 then t.val % 32 else 31 - t.val % 32) * 64 + r.val, by split <;> omega⟩ rfl
  have hr := (rho (dOf t.val t.isLt) r).isLt
  have e0 : ((cfg0.win 7).blk t).view.emb (ix4 z x r k) = (ix4 (dOf t.val t.isLt) (bOf t.val)
      ⟨(if t.val < 256 then t.val % 32 else 31 - t.val % 32) * 64 + r.val, by split <;> omega⟩ k : S2x8x2048x1536.Idx) := by
    funext a
    apply Fin.ext
    match a with
    | ⟨0, _⟩ => show win0_7.index t 0 * 1 + 1 * z.val = t.val / 256; omega
    | ⟨1, _⟩ => show win0_7.index t 1 * 1 + 1 * x.val = t.val / 32 % 8; omega
    | ⟨2, _⟩ => show win0_7.index t 2 * 64 + 1 * r.val = _ * 64 + r.val; rw [h2]; omega
    | ⟨3, _⟩ => show win0_7.index t 3 * 1536 + 1 * k.val = k.val; omega
  show _ = resO m c (((cfg0.win 7).blk t).view.emb (ix4 z x r k))
  rw [e0]
  show ou _ _ _ _ _ (dOf t.val t.isLt) (bOf t.val) ⟨k.val / 128, _⟩ (t.val % 32) (rho (dOf t.val t.isLt) r) ⟨k.val % 128, _⟩
    = ou _ _ _ _ _ (dOf t.val t.isLt) (bOf t.val) ⟨k.val / 128, _⟩ (turn (dOf t.val t.isLt) ⟨_, _⟩ / 64) ⟨turn (dOf t.val t.isLt) ⟨_, _⟩ % 64, _⟩ ⟨k.val % 128, _⟩
  congr 1
  · rw [hv]; omega
  · exact Fin.ext (by show _ = turn _ _ % 64; rw [hv]; omega)

include hf in
/-- What a sequence's last point writes back is its block of the states. -/
theorem flushed_s (t : Fin cfg0.N) (ht : (cfg0.win 8).flush t = true) : (dats m 0 c).flushed 8 t = ((cfg0.win 8).blk t).view.read (Elt Ideal) (resS m c) := by
  rw [Value.flushed8]
  have h1 := (flush0_8 t).mp ht
  obtain ⟨-, -, -, -, -, -, -, -, ⟨h0, h2, h3, h4, h6⟩, -⟩ := idx_facts t
  funext y
  obtain ⟨z, x, g, f, e, rfl⟩ : ∃ (z x : Fin 1) (g : Fin 12) (f e : Fin 128), y = ix5 z x g f e := ⟨y 0, y 1, y 2, y 3, y 4, eq_ix5 y⟩
  refine (last_apply m c hf t h1 z x g f e).trans ?_
  have e0 : ((cfg0.win 8).blk t).view.emb (ix5 z x g f e) = (ix5 (dOf t.val t.isLt) (bOf t.val) g f e : S2x8x12x128x128.Idx) := by
    funext a
    apply Fin.ext
    match a with
    | ⟨0, _⟩ => show win0_8.index t 0 * 1 + 1 * z.val = t.val / 256; omega
    | ⟨1, _⟩ => show win0_8.index t 1 * 1 + 1 * x.val = t.val / 32 % 8; omega
    | ⟨2, _⟩ => show win0_8.index t 2 * 12 + 1 * g.val = g.val; omega
    | ⟨3, _⟩ => show win0_8.index t 3 * 128 + 1 * f.val = f.val; omega
    | ⟨4, _⟩ => show win0_8.index t 4 * 128 + 1 * e.val = e.val; omega
  show _ = resS m c (((cfg0.win 8).blk t).view.emb (ix5 z x g f e))
  rw [e0]
  rfl

/-- Every element of the output lies in some point's block. -/
theorem cover_o (y : S2x8x2048x1536.Idx) : ∃ t : Fin cfg0.N, (cfg0.win 7).flush t = true ∧ y ∈ ((cfg0.win 7).blk t).view.set := by
  have y0 : (y 0).val < 2 := (y 0).isLt
  have y1 : (y 1).val < 8 := (y 1).isLt
  have y2 : (y 2).val < 2048 := (y 2).isLt
  have y3 : (y 3).val < 1536 := (y 3).isLt
  have ht : 256 * (y 0).val + 32 * (y 1).val + (if (y 0).val = 0 then (y 2).val / 64 else 31 - (y 2).val / 64) < cfg0.N := by
    rw [show cfg0.N = 512 from N_0]; split <;> omega
  refine ⟨⟨_, ht⟩, flush0_7 _, ?_⟩
  obtain ⟨-, -, -, -, -, -, -, ⟨h0, h1, h2, h3⟩, -⟩ := idx_facts ⟨_, ht⟩
  show y ∈ ((View.whole main_v9_0).slice (win0_7.rect ⟨_, ht⟩)).set
  rw [View.set_slice_whole, Rect.mem_set_unit]
  dsimp only at h0 h1 h2
  intro a
  match a with
  | ⟨0, _⟩ => show win0_7.index _ 0 * 1 ≤ (y 0).val ∧ (y 0).val < win0_7.index _ 0 * 1 + 1; rw [h0]; split <;> omega
  | ⟨1, _⟩ => show win0_7.index _ 1 * 1 ≤ (y 1).val ∧ (y 1).val < win0_7.index _ 1 * 1 + 1; rw [h1]; split <;> omega
  | ⟨2, _⟩ => show win0_7.index _ 2 * 64 ≤ (y 2).val ∧ (y 2).val < win0_7.index _ 2 * 64 + 64; rw [h2]; split <;> split <;> omega
  | ⟨3, _⟩ => show win0_7.index _ 3 * 1536 ≤ (y 3).val ∧ (y 3).val < win0_7.index _ 3 * 1536 + 1536; rw [h3]; omega

/-- Every element of the states lies in some sequence's last point's block. -/
theorem cover_s (y : S2x8x12x128x128.Idx) : ∃ t : Fin cfg0.N, (cfg0.win 8).flush t = true ∧ y ∈ ((cfg0.win 8).blk t).view.set := by
  have y0 : (y 0).val < 2 := (y 0).isLt
  have y1 : (y 1).val < 8 := (y 1).isLt
  have y2 : (y 2).val < 12 := (y 2).isLt
  have y3 : (y 3).val < 128 := (y 3).isLt
  have y4 : (y 4).val < 128 := (y 4).isLt
  have ht : 256 * (y 0).val + 32 * (y 1).val + 31 < cfg0.N := by rw [show cfg0.N = 512 from N_0]; omega
  refine ⟨⟨_, ht⟩, (flush0_8 _).mpr (by dsimp only; omega), ?_⟩
  obtain ⟨-, -, -, -, -, -, -, -, ⟨h0, h1, h2, h3, h4⟩, -⟩ := idx_facts ⟨_, ht⟩
  show y ∈ ((View.whole main_v9_1).slice (win0_8.rect ⟨_, ht⟩)).set
  rw [View.set_slice_whole, Rect.mem_set_unit]
  dsimp only at h0 h1
  intro a
  match a with
  | ⟨0, _⟩ => show win0_8.index _ 0 * 1 ≤ (y 0).val ∧ (y 0).val < win0_8.index _ 0 * 1 + 1; rw [h0]; omega
  | ⟨1, _⟩ => show win0_8.index _ 1 * 1 ≤ (y 1).val ∧ (y 1).val < win0_8.index _ 1 * 1 + 1; rw [h1]; omega
  | ⟨2, _⟩ => show win0_8.index _ 2 * 12 ≤ (y 2).val ∧ (y 2).val < win0_8.index _ 2 * 12 + 12; rw [h2]; omega
  | ⟨3, _⟩ => show win0_8.index _ 3 * 128 ≤ (y 3).val ∧ (y 3).val < win0_8.index _ 3 * 128 + 128; rw [h3]; omega
  | ⟨4, _⟩ => show win0_8.index _ 4 * 128 ≤ (y 4).val ∧ (y 4).val < win0_8.index _ 4 * 128 + 128; rw [h4]; omega

/-- The program's run: its results are the recurrence's, and it leaves its arguments as they were. -/
theorem run_one (ρ : Dev nD → PrngReg) (hf : ∀ c : Dev nD, Fine (m ((c : Thread nD τ).loc main_arg0))) :
    θ_run defs (onTc (τ := τ) (main (F := Ideal))) ⟨m, fun _ => 0, ρ⟩ fun r => ∀ c : Dev nD,
      r.2.mem ((c : Thread nD τ).loc main_v9_0) = resO m c
      ∧ r.2.mem ((c : Thread nD τ).loc main_v9_1) = resS m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans ((dats m 0 c).arrAt_eq_of_cover 7 _ (fun t _ => flushed_o m c (hf c) t) cover_o),
    (h c).2.1.trans ((dats m 0 c).arrAt_eq_of_cover 8 _ (fun t ht => flushed_s m c (hf c) t ht) cover_s), (h c).2.2⟩) (Value.run_blocks m ρ)

end Cert.GdnIdeal.Rec

end
-- ==== Proof.GdnRefPre.lean ====
/-
  The recurrence's reference read stretch by stretch: what each array before its loop is made of, the triangular inverse's
  rows one after another.
-/
module

public import proofs.«01_k».proof.Proof.Gen.GdnRefIdeal.Run
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

/-- A real array's contents, an integer array's, a mask's. -/
abbrev Cn (s : Shape) : Type := (⟨s, .f32⟩ : BufTy).Contents (Elt Ideal)
abbrev Ci (s : Shape) : Type := (⟨s, .i32⟩ : BufTy).Contents (Elt Ideal)
abbrev Cb (s : Shape) : Type := (⟨s, .i1⟩ : BufTy).Contents (Elt Ideal)

variable (V : Valuation τ sig (Elt Ideal))

/-- The queries, by direction and head in chunks. -/
def rq (a0 : Cn S8x2048x4608) : Cn S16x12x32x64x128 :=
  (((transpose S16x12x32x64x128 [0, 3, 1, 2, 4] · transposes_S16x32x64x12x128_S16x12x32x64x128_0_3_1_2_4) : Cn S16x32x64x12x128 → Cn S16x12x32x64x128) (shapeCast S16x32x64x12x128 (((fun a b => concatenate S16x2048x12x128 0 [⟨S8x2048x12x128, a⟩, ⟨S8x2048x12x128, b⟩] concatenates_S8x2048x12x128_S8x2048x12x128_S16x2048x12x128_d0) : Cn S8x2048x12x128 → Cn S8x2048x12x128 → Cn S16x2048x12x128) (shapeCast S8x2048x12x128 (((extractStridedSlice S8x2048x1536 ![0, 0, 0] · slices_S8x2048x4608_S8x2048x1536_0_0_0) : Cn S8x2048x4608 → Cn S8x2048x1536) a0) shapeCasts_S8x2048x1536_S8x2048x12x128 : Cn S8x2048x12x128) (((Host.reverse [1]) : Cn S8x2048x12x128 → Cn S8x2048x12x128) (shapeCast S8x2048x12x128 (((extractStridedSlice S8x2048x1536 ![0, 0, 0] · slices_S8x2048x4608_S8x2048x1536_0_0_0) : Cn S8x2048x4608 → Cn S8x2048x1536) a0) shapeCasts_S8x2048x1536_S8x2048x12x128 : Cn S8x2048x12x128))) shapeCasts_S16x2048x12x128_S16x32x64x12x128 : Cn S16x32x64x12x128))

/-- The keys. -/
def rk (a0 : Cn S8x2048x4608) : Cn S16x12x32x64x128 :=
  (((transpose S16x12x32x64x128 [0, 3, 1, 2, 4] · transposes_S16x32x64x12x128_S16x12x32x64x128_0_3_1_2_4) : Cn S16x32x64x12x128 → Cn S16x12x32x64x128) (shapeCast S16x32x64x12x128 (((fun a b => concatenate S16x2048x12x128 0 [⟨S8x2048x12x128, a⟩, ⟨S8x2048x12x128, b⟩] concatenates_S8x2048x12x128_S8x2048x12x128_S16x2048x12x128_d0) : Cn S8x2048x12x128 → Cn S8x2048x12x128 → Cn S16x2048x12x128) (shapeCast S8x2048x12x128 (((extractStridedSlice S8x2048x1536 ![0, 0, 1536] · slices_S8x2048x4608_S8x2048x1536_0_0_1536) : Cn S8x2048x4608 → Cn S8x2048x1536) a0) shapeCasts_S8x2048x1536_S8x2048x12x128 : Cn S8x2048x12x128) (((Host.reverse [1]) : Cn S8x2048x12x128 → Cn S8x2048x12x128) (shapeCast S8x2048x12x128 (((extractStridedSlice S8x2048x1536 ![0, 0, 1536] · slices_S8x2048x4608_S8x2048x1536_0_0_1536) : Cn S8x2048x4608 → Cn S8x2048x1536) a0) shapeCasts_S8x2048x1536_S8x2048x12x128 : Cn S8x2048x12x128))) shapeCasts_S16x2048x12x128_S16x32x64x12x128 : Cn S16x32x64x12x128))

/-- The values. -/
def rv (a0 : Cn S8x2048x4608) : Cn S16x12x32x64x128 :=
  (((transpose S16x12x32x64x128 [0, 3, 1, 2, 4] · transposes_S16x32x64x12x128_S16x12x32x64x128_0_3_1_2_4) : Cn S16x32x64x12x128 → Cn S16x12x32x64x128) (shapeCast S16x32x64x12x128 (((fun a b => concatenate S16x2048x12x128 0 [⟨S8x2048x12x128, a⟩, ⟨S8x2048x12x128, b⟩] concatenates_S8x2048x12x128_S8x2048x12x128_S16x2048x12x128_d0) : Cn S8x2048x12x128 → Cn S8x2048x12x128 → Cn S16x2048x12x128) (shapeCast S8x2048x12x128 (((extractStridedSlice S8x2048x1536 ![0, 0, 3072] · slices_S8x2048x4608_S8x2048x1536_0_0_3072) : Cn S8x2048x4608 → Cn S8x2048x1536) a0) shapeCasts_S8x2048x1536_S8x2048x12x128 : Cn S8x2048x12x128) (((Host.reverse [1]) : Cn S8x2048x12x128 → Cn S8x2048x12x128) (shapeCast S8x2048x12x128 (((extractStridedSlice S8x2048x1536 ![0, 0, 3072] · slices_S8x2048x4608_S8x2048x1536_0_0_3072) : Cn S8x2048x4608 → Cn S8x2048x1536) a0) shapeCasts_S8x2048x1536_S8x2048x12x128 : Cn S8x2048x12x128))) shapeCasts_S16x2048x12x128_S16x32x64x12x128 : Cn S16x32x64x12x128))

/-- What the decays' softplus takes. -/
def rx (a1 : Cn S8x2048x7168) (a3 : Cn S2x12) : Cn S16x2048x12 :=
  ((addf (F := Ideal) (φ := .f32) : Cn S16x2048x12 → Cn S16x2048x12 → Cn S16x2048x12) (((extractStridedSlice S16x2048x12 ![0, 0, 12] · slices_S16x2048x24_S16x2048x12_0_0_12) : Cn S16x2048x24 → Cn S16x2048x12) (((fun a b => concatenate S16x2048x24 0 [⟨S8x2048x24, a⟩, ⟨S8x2048x24, b⟩] concatenates_S8x2048x24_S8x2048x24_S16x2048x24_d0) : Cn S8x2048x24 → Cn S8x2048x24 → Cn S16x2048x24) (((extractStridedSlice S8x2048x24 ![0, 0, 6656] · slices_S8x2048x7168_S8x2048x24_0_0_6656) : Cn S8x2048x7168 → Cn S8x2048x24) a1) (((Host.reverse [1]) : Cn S8x2048x24 → Cn S8x2048x24) (((extractStridedSlice S8x2048x24 ![0, 0, 6784] · slices_S8x2048x7168_S8x2048x24_0_0_6784) : Cn S8x2048x7168 → Cn S8x2048x24) a1)))) (shapeCast S16x2048x12 ((broadcastInDim S2x8x2048x12 ![0, 1, 2, 3] bcast_S2x1x1x12_S2x8x2048x12_0_1_2_3 : Cn S2x1x1x12 → Cn S2x8x2048x12) ((broadcastInDim S2x1x1x12 ![0, 3] bcast_S2x12_S2x1x1x12_0_3 : Cn S2x12 → Cn S2x1x1x12) a3)) shapeCasts_S2x8x2048x12_S16x2048x12 : Cn S16x2048x12))

/-- The softplus. -/
def rsp (x : Cn S16x2048x12) : Cn S16x2048x12 :=
  ((select : Cb S16x2048x12 → Cn S16x2048x12 → Cn S16x2048x12 → Cn S16x2048x12) (((cmpf (F := Ideal) (φ := .f32) .une) : Cn S16x2048x12 → Cn S16x2048x12 → Cb S16x2048x12) ((subf (F := Ideal) (φ := .f32) : Cn S16x2048x12 → Cn S16x2048x12 → Cn S16x2048x12) x (((broadcastInDim S16x2048x12 ![] bcast_S_S16x2048x12) : Cn S_ → Cn S16x2048x12) ((constant (F := Ideal) S_ .f32 0x00000000#32) : Cn S_))) ((subf (F := Ideal) (φ := .f32) : Cn S16x2048x12 → Cn S16x2048x12 → Cn S16x2048x12) x (((broadcastInDim S16x2048x12 ![] bcast_S_S16x2048x12) : Cn S_ → Cn S16x2048x12) ((constant (F := Ideal) S_ .f32 0x00000000#32) : Cn S_)))) ((addf (F := Ideal) (φ := .f32) : Cn S16x2048x12 → Cn S16x2048x12 → Cn S16x2048x12) x (((broadcastInDim S16x2048x12 ![] bcast_S_S16x2048x12) : Cn S_ → Cn S16x2048x12) ((constant (F := Ideal) S_ .f32 0x00000000#32) : Cn S_))) ((addf (F := Ideal) (φ := .f32) : Cn S16x2048x12 → Cn S16x2048x12 → Cn S16x2048x12) ((maximumf (F := Ideal) (φ := .f32) : Cn S16x2048x12 → Cn S16x2048x12 → Cn S16x2048x12) x (((broadcastInDim S16x2048x12 ![] bcast_S_S16x2048x12) : Cn S_ → Cn S16x2048x12) ((constant (F := Ideal) S_ .f32 0x00000000#32) : Cn S_))) ((Host.log1p (F := Ideal) (φ := .f32) : Cn S16x2048x12 → Cn S16x2048x12) ((Host.exp (F := Ideal) (φ := .f32) : Cn S16x2048x12 → Cn S16x2048x12) ((Host.negf (F := Ideal) (φ := .f32) : Cn S16x2048x12 → Cn S16x2048x12) ((Host.absf (F := Ideal) (φ := .f32) : Cn S16x2048x12 → Cn S16x2048x12) ((subf (F := Ideal) (φ := .f32) : Cn S16x2048x12 → Cn S16x2048x12 → Cn S16x2048x12) x (((broadcastInDim S16x2048x12 ![] bcast_S_S16x2048x12) : Cn S_ → Cn S16x2048x12) ((constant (F := Ideal) S_ .f32 0x00000000#32) : Cn S_)))))))))

/-- The decays' logarithms. -/
def rg (a2 : Cn S2x12) (y : Cn S16x2048x12) : Cn S16x12x32x64 :=
  (((transpose S16x12x32x64 [0, 3, 1, 2] · transposes_S16x32x64x12_S16x12x32x64_0_3_1_2) : Cn S16x32x64x12 → Cn S16x12x32x64) (shapeCast S16x32x64x12 ((mulf (F := Ideal) (φ := .f32) : Cn S16x2048x12 → Cn S16x2048x12 → Cn S16x2048x12) (shapeCast S16x2048x12 ((broadcastInDim S2x8x2048x12 ![0, 1, 2, 3] bcast_S2x1x1x12_S2x8x2048x12_0_1_2_3 : Cn S2x1x1x12 → Cn S2x8x2048x12) ((broadcastInDim S2x1x1x12 ![0, 3] bcast_S2x12_S2x1x1x12_0_3 : Cn S2x12 → Cn S2x1x1x12) ((Host.negf (F := Ideal) (φ := .f32) : Cn S2x12 → Cn S2x12) ((Host.exp (F := Ideal) (φ := .f32) : Cn S2x12 → Cn S2x12) a2)))) shapeCasts_S2x8x2048x12_S16x2048x12 : Cn S16x2048x12) y) shapeCasts_S16x2048x12_S16x32x64x12 : Cn S16x32x64x12))

/-- Their running sums in a chunk. -/
def rc (g : Cn S16x12x32x64) : Cn S16x12x32x64 :=
  (((fun x v => Host.reduceWindowAdd (F := Ideal) (φ := .f32) ![1, 1, 1, 64] ![1, 1, 1, 1] ![0, 0, 0, 63] ![0, 0, 0, 0] x v reduceWindows_S16x12x32x64_S16x12x32x64_w1s1p0_0_w1s1p0_0_w1s1p0_0_w64s1p63_0 h_S_) : Cn S16x12x32x64 → Cn S_ → Cn S16x12x32x64) g (((broadcastInDim S_ ![] bcast_S_S_) : Cn S_ → Cn S_) ((constant (F := Ideal) S_ .f32 0x00000000#32) : Cn S_)))

/-- The rows of a chunk as a column. -/
def rrow  : Ci S64x1 :=
  ((broadcastInDim S64x1 ![0] bcast_S64_S64x1_0 : Ci S64 → Ci S64x1) (iotaInDim S64 32 0))

/-- Rows at or past a column. -/
def rincl  : Cb S64x64 :=
  ((cmpi .sge : Ci S64x64 → Ci S64x64 → Cb S64x64) ((broadcastInDim S64x64 ![0, 1] bcast_S64x1_S64x64_0_1 : Ci S64x1 → Ci S64x64) ((broadcastInDim S64x1 ![0] bcast_S64_S64x1_0 : Ci S64 → Ci S64x1) (iotaInDim S64 32 0))) ((broadcastInDim S64x64 ![0, 1] bcast_S1x64_S64x64_0_1 : Ci S1x64 → Ci S64x64) ((broadcastInDim S1x64 ![1] bcast_S64_S1x64_1 : Ci S64 → Ci S1x64) (iotaInDim S64 32 0))))

/-- The decay from a column to a row. -/
def rd (c : Cn S16x12x32x64) : Cn S16x12x32x64x64 :=
  ((Host.exp (F := Ideal) (φ := .f32) : Cn S16x12x32x64x64 → Cn S16x12x32x64x64) ((select : Cb S16x12x32x64x64 → Cn S16x12x32x64x64 → Cn S16x12x32x64x64 → Cn S16x12x32x64x64) (((broadcastInDim S16x12x32x64x64 ![3, 4] bcast_S64x64_S16x12x32x64x64_3_4) : Cb S64x64 → Cb S16x12x32x64x64) rincl) ((subf (F := Ideal) (φ := .f32) : Cn S16x12x32x64x64 → Cn S16x12x32x64x64 → Cn S16x12x32x64x64) ((broadcastInDim S16x12x32x64x64 ![0, 1, 2, 3, 4] bcast_S16x12x32x64x1_S16x12x32x64x64_0_1_2_3_4 : Cn S16x12x32x64x1 → Cn S16x12x32x64x64) ((broadcastInDim S16x12x32x64x1 ![0, 1, 2, 3] bcast_S16x12x32x64_S16x12x32x64x1_0_1_2_3 : Cn S16x12x32x64 → Cn S16x12x32x64x1) c)) ((broadcastInDim S16x12x32x64x64 ![0, 1, 2, 3, 4] bcast_S16x12x32x1x64_S16x12x32x64x64_0_1_2_3_4 : Cn S16x12x32x1x64 → Cn S16x12x32x64x64) ((broadcastInDim S16x12x32x1x64 ![0, 1, 2, 4] bcast_S16x12x32x64_S16x12x32x1x64_0_1_2_4 : Cn S16x12x32x64 → Cn S16x12x32x1x64) c))) (((broadcastInDim S16x12x32x64x64 ![] bcast_S_S16x12x32x64x64) : Cn S_ → Cn S16x12x32x64x64) ((id : Cn S_ → Cn S_) (constant (F := Ideal) S_ .f32 0xFF800000#32)))))

/-- The keys times their step sizes. -/
def rkb (k : Cn S16x12x32x64x128) (b : Cn S16x12x32x64) : Cn S16x12x32x64x128 :=
  ((mulf (F := Ideal) (φ := .f32) : Cn S16x12x32x64x128 → Cn S16x12x32x64x128 → Cn S16x12x32x64x128) k ((broadcastInDim S16x12x32x64x128 ![0, 1, 2, 3, 4] bcast_S16x12x32x64x1_S16x12x32x64x128_0_1_2_3_4 : Cn S16x12x32x64x1 → Cn S16x12x32x64x128) ((broadcastInDim S16x12x32x64x1 ![0, 1, 2, 3] bcast_S16x12x32x64_S16x12x32x64x1_0_1_2_3 : Cn S16x12x32x64 → Cn S16x12x32x64x1) b)))

/-- The values times their step sizes. -/
def rvb (v : Cn S16x12x32x64x128) (b : Cn S16x12x32x64) : Cn S16x12x32x64x128 :=
  ((mulf (F := Ideal) (φ := .f32) : Cn S16x12x32x64x128 → Cn S16x12x32x64x128 → Cn S16x12x32x64x128) v ((broadcastInDim S16x12x32x64x128 ![0, 1, 2, 3, 4] bcast_S16x12x32x64x1_S16x12x32x64x128_0_1_2_3_4 : Cn S16x12x32x64x1 → Cn S16x12x32x64x128) ((broadcastInDim S16x12x32x64x1 ![0, 1, 2, 3] bcast_S16x12x32x64_S16x12x32x64x1_0_1_2_3 : Cn S16x12x32x64 → Cn S16x12x32x64x1) b)))

/-- The triangle to invert. -/
def rl (kb k : Cn S16x12x32x64x128) (dc : Cn S16x12x32x64x64) : Cn S16x12x32x64x64 :=
  ((select : Cb S16x12x32x64x64 → Cn S16x12x32x64x64 → Cn S16x12x32x64x64 → Cn S16x12x32x64x64) (((broadcastInDim S16x12x32x64x64 ![3, 4] bcast_S64x64_S16x12x32x64x64_3_4) : Cb S64x64 → Cb S16x12x32x64x64) ((cmpi .sgt : Ci S64x64 → Ci S64x64 → Cb S64x64) ((broadcastInDim S64x64 ![0, 1] bcast_S64x1_S64x64_0_1 : Ci S64x1 → Ci S64x64) ((broadcastInDim S64x1 ![0] bcast_S64_S64x1_0 : Ci S64 → Ci S64x1) (iotaInDim S64 32 0))) ((broadcastInDim S64x64 ![0, 1] bcast_S1x64_S64x64_0_1 : Ci S1x64 → Ci S64x64) ((broadcastInDim S1x64 ![1] bcast_S64_S1x64_1 : Ci S64 → Ci S1x64) (iotaInDim S64 32 0))))) ((mulf (F := Ideal) (φ := .f32) : Cn S16x12x32x64x64 → Cn S16x12x32x64x64 → Cn S16x12x32x64x64) (((fun l r => Host.dotGeneral (F := Ideal) (φ₁ := .f32) (φ₂ := .f32) dot_S16x12x32x64x128_S16x12x32x64x128_S16x12x32x64x64_4_4_3_3_012_012 none l r) : Cn S16x12x32x64x128 → Cn S16x12x32x64x128 → Cn S16x12x32x64x64) kb k) dc) (((broadcastInDim S16x12x32x64x64 ![] bcast_S_S16x12x32x64x64) : Cn S_ → Cn S16x12x32x64x64) ((id : Cn S_ → Cn S_) (constant (F := Ideal) S_ .f32 0x00000000#32))))

/-- The unit matrices. -/
def reye  : Cn S16x12x32x64x64 :=
  ((broadcastInDim S16x12x32x64x64 ![3, 4] bcast_S64x64_S16x12x32x64x64_3_4 : Cn S64x64 → Cn S16x12x32x64x64) ((select : Cb S64x64 → Cn S64x64 → Cn S64x64 → Cn S64x64) ((cmpi .eq : Ci S64x64 → Ci S64x64 → Cb S64x64) ((broadcastInDim S64x64 ![0, 1] bcast_S64x1_S64x64_0_1 : Ci S64x1 → Ci S64x64) ((broadcastInDim S64x1 ![0] bcast_S64_S64x1_0 : Ci S64 → Ci S64x1) (iotaInDim S64 32 0))) ((broadcastInDim S64x64 ![0, 1] bcast_S1x64_S64x64_0_1 : Ci S1x64 → Ci S64x64) ((broadcastInDim S1x64 ![1] bcast_S64_S1x64_1 : Ci S64 → Ci S1x64) (iotaInDim S64 32 0)))) (((broadcastInDim S64x64 ![] bcast_S_S64x64) : Cn S_ → Cn S64x64) (constant (F := Ideal) S_ .f32 0x3F800000#32)) (((broadcastInDim S64x64 ![] bcast_S_S64x64) : Cn S_ → Cn S64x64) (constant (F := Ideal) S_ .f32 0x00000000#32))))

/-- One row of the inverse. -/
def rstep (w : Ci S64x1) (l e : Cn S16x12x32x64x64) (r : BitVec 32) (t : Cn S16x12x32x64x64) : Cn S16x12x32x64x64 :=
  ((select : Cb S16x12x32x64x64 → Cn S16x12x32x64x64 → Cn S16x12x32x64x64 → Cn S16x12x32x64x64) (((broadcastInDim S16x12x32x64x64 ![3, 4] bcast_S64x1_S16x12x32x64x64_3_4) : Cb S64x1 → Cb S16x12x32x64x64) ((cmpi .eq : Ci S64x1 → Ci S64x1 → Cb S64x1) w ((broadcastInDim S64x1 ![] bcast_S_S64x1 : Ci S_ → Ci S64x1) (constantI S_ 32 r)))) ((subf (F := Ideal) (φ := .f32) : Cn S16x12x32x64x64 → Cn S16x12x32x64x64 → Cn S16x12x32x64x64) ((id : Cn S16x12x32x64x64 → Cn S16x12x32x64x64) e) (((fun l r => Host.dotGeneral (F := Ideal) (φ₁ := .f32) (φ₂ := .f32) dot_S16x12x32x64x64_S16x12x32x64x64_S16x12x32x64x64_4_3_3_4_012_012 none l r) : Cn S16x12x32x64x64 → Cn S16x12x32x64x64 → Cn S16x12x32x64x64) l t)) t)

/-- The writes before the state is taken off. -/
def ru (t : Cn S16x12x32x64x64) (vb : Cn S16x12x32x64x128) : Cn S32x16x12x64x128 :=
  (id (((transpose S32x16x12x64x128 [2, 0, 1, 3, 4] · transposes_S16x12x32x64x128_S32x16x12x64x128_2_0_1_3_4) : Cn S16x12x32x64x128 → Cn S32x16x12x64x128) (((fun l r => Host.dotGeneral (F := Ideal) (φ₁ := .f32) (φ₂ := .f32) dot_S16x12x32x64x64_S16x12x32x64x128_S16x12x32x64x128_4_3_3_4_012_012 none l r) : Cn S16x12x32x64x64 → Cn S16x12x32x64x128 → Cn S16x12x32x64x128) t vb)))

/-- What the state is taken off with. -/
def rw' (t : Cn S16x12x32x64x64) (kb : Cn S16x12x32x64x128) (c : Cn S16x12x32x64) : Cn S32x16x12x64x128 :=
  (id (((transpose S32x16x12x64x128 [2, 0, 1, 3, 4] · transposes_S16x12x32x64x128_S32x16x12x64x128_2_0_1_3_4) : Cn S16x12x32x64x128 → Cn S32x16x12x64x128) (((fun l r => Host.dotGeneral (F := Ideal) (φ₁ := .f32) (φ₂ := .f32) dot_S16x12x32x64x64_S16x12x32x64x128_S16x12x32x64x128_4_3_3_4_012_012 none l r) : Cn S16x12x32x64x64 → Cn S16x12x32x64x128 → Cn S16x12x32x64x128) t ((mulf (F := Ideal) (φ := .f32) : Cn S16x12x32x64x128 → Cn S16x12x32x64x128 → Cn S16x12x32x64x128) kb ((broadcastInDim S16x12x32x64x128 ![0, 1, 2, 3, 4] bcast_S16x12x32x64x1_S16x12x32x64x128_0_1_2_3_4 : Cn S16x12x32x64x1 → Cn S16x12x32x64x128) ((broadcastInDim S16x12x32x64x1 ![0, 1, 2, 3] bcast_S16x12x32x64_S16x12x32x64x1_0_1_2_3 : Cn S16x12x32x64 → Cn S16x12x32x64x1) ((Host.exp (F := Ideal) (φ := .f32) : Cn S16x12x32x64 → Cn S16x12x32x64) c)))))))

/-- The queries with their decays. -/
def rqg (q : Cn S16x12x32x64x128) (c : Cn S16x12x32x64) : Cn S32x16x12x64x128 :=
  (id (((transpose S32x16x12x64x128 [2, 0, 1, 3, 4] · transposes_S16x12x32x64x128_S32x16x12x64x128_2_0_1_3_4) : Cn S16x12x32x64x128 → Cn S32x16x12x64x128) ((mulf (F := Ideal) (φ := .f32) : Cn S16x12x32x64x128 → Cn S16x12x32x64x128 → Cn S16x12x32x64x128) q ((broadcastInDim S16x12x32x64x128 ![0, 1, 2, 3, 4] bcast_S16x12x32x64x1_S16x12x32x64x128_0_1_2_3_4 : Cn S16x12x32x64x1 → Cn S16x12x32x64x128) ((broadcastInDim S16x12x32x64x1 ![0, 1, 2, 3] bcast_S16x12x32x64_S16x12x32x64x1_0_1_2_3 : Cn S16x12x32x64 → Cn S16x12x32x64x1) ((Host.exp (F := Ideal) (φ := .f32) : Cn S16x12x32x64 → Cn S16x12x32x64) c))))))

/-- The chunk's own scores. -/
def ratt (q k : Cn S16x12x32x64x128) (dc : Cn S16x12x32x64x64) : Cn S32x16x12x64x64 :=
  (id (((transpose S32x16x12x64x64 [2, 0, 1, 3, 4] · transposes_S16x12x32x64x64_S32x16x12x64x64_2_0_1_3_4) : Cn S16x12x32x64x64 → Cn S32x16x12x64x64) ((select : Cb S16x12x32x64x64 → Cn S16x12x32x64x64 → Cn S16x12x32x64x64 → Cn S16x12x32x64x64) (((broadcastInDim S16x12x32x64x64 ![3, 4] bcast_S64x64_S16x12x32x64x64_3_4) : Cb S64x64 → Cb S16x12x32x64x64) rincl) ((mulf (F := Ideal) (φ := .f32) : Cn S16x12x32x64x64 → Cn S16x12x32x64x64 → Cn S16x12x32x64x64) (((fun l r => Host.dotGeneral (F := Ideal) (φ₁ := .f32) (φ₂ := .f32) dot_S16x12x32x64x128_S16x12x32x64x128_S16x12x32x64x64_4_4_3_3_012_012 none l r) : Cn S16x12x32x64x128 → Cn S16x12x32x64x128 → Cn S16x12x32x64x64) q k) dc) (((broadcastInDim S16x12x32x64x64 ![] bcast_S_S16x12x32x64x64) : Cn S_ → Cn S16x12x32x64x64) ((id : Cn S_ → Cn S_) (constant (F := Ideal) S_ .f32 0x00000000#32))))))

/-- The chunk's whole decay. -/
def rgl (c : Cn S16x12x32x64) : Cn S32x16x12x1x1 :=
  (id (((transpose S32x16x12x1x1 [2, 0, 1, 3, 4] · transposes_S16x12x32x1x1_S32x16x12x1x1_2_0_1_3_4) : Cn S16x12x32x1x1 → Cn S32x16x12x1x1) ((broadcastInDim S16x12x32x1x1 ![0, 1, 2, 3] bcast_S16x12x32x1_S16x12x32x1x1_0_1_2_3 : Cn S16x12x32x1 → Cn S16x12x32x1x1) ((Host.exp (F := Ideal) (φ := .f32) : Cn S16x12x32x1 → Cn S16x12x32x1) (((extractStridedSlice S16x12x32x1 ![0, 0, 0, 63] · slices_S16x12x32x64_S16x12x32x1_0_0_0_63) : Cn S16x12x32x64 → Cn S16x12x32x1) c)))))

/-- The keys with the decays after them. -/
def rkd (k : Cn S16x12x32x64x128) (c : Cn S16x12x32x64) : Cn S32x16x12x128x64 :=
  (id (((transpose S32x16x12x128x64 [2, 0, 1, 3, 4] · transposes_S16x12x32x128x64_S32x16x12x128x64_2_0_1_3_4) : Cn S16x12x32x128x64 → Cn S32x16x12x128x64) (((transpose S16x12x32x128x64 [0, 1, 2, 4, 3] · transposes_S16x12x32x64x128_S16x12x32x128x64_0_1_2_4_3) : Cn S16x12x32x64x128 → Cn S16x12x32x128x64) ((mulf (F := Ideal) (φ := .f32) : Cn S16x12x32x64x128 → Cn S16x12x32x64x128 → Cn S16x12x32x64x128) k ((broadcastInDim S16x12x32x64x128 ![0, 1, 2, 3, 4] bcast_S16x12x32x64x1_S16x12x32x64x128_0_1_2_3_4 : Cn S16x12x32x64x1 → Cn S16x12x32x64x128) ((broadcastInDim S16x12x32x64x1 ![0, 1, 2, 3] bcast_S16x12x32x64_S16x12x32x64x1_0_1_2_3 : Cn S16x12x32x64 → Cn S16x12x32x64x1) ((Host.exp (F := Ideal) (φ := .f32) : Cn S16x12x32x64 → Cn S16x12x32x64) ((subf (F := Ideal) (φ := .f32) : Cn S16x12x32x64 → Cn S16x12x32x64 → Cn S16x12x32x64) ((broadcastInDim S16x12x32x64 ![0, 1, 2, 3] bcast_S16x12x32x1_S16x12x32x64_0_1_2_3 : Cn S16x12x32x1 → Cn S16x12x32x64) (((extractStridedSlice S16x12x32x1 ![0, 0, 0, 63] · slices_S16x12x32x64_S16x12x32x1_0_0_0_63) : Cn S16x12x32x64 → Cn S16x12x32x1) c)) c))))))))

/-- The states the loop starts with. -/
def rs0 (a4 : Cn S2x8x12x128x128) : Cn S16x12x128x128 :=
  (id (shapeCast S16x12x128x128 a4 shapeCasts_S2x8x12x128x128_S16x12x128x128 : Cn S16x12x128x128))

/-- The output the loop starts with. -/
def ro0  : Cn S32x16x12x64x128 :=
  (id ((broadcastInDim S32x16x12x64x128 ![] bcast_S_S32x16x12x64x128 : Cn S_ → Cn S32x16x12x64x128) (constant (F := Ideal) S_ .f32 0x00000000#32)))

/-- The stretches up to the running sums, and from there to the triangle. -/
def pA : List (List (HloOp τ sig (Elt Ideal))) := [hostOps0, hostOps0_1, hostOps0_2, hostOps0_3, hostOps0_4, hostOps0_5, hostOps0_6, hostOps0_7, hostOps0_8, hostOps0_9, hostOps0_10, hostOps0_11]
def pB : List (List (HloOp τ sig (Elt Ideal))) := [hostOps0_12, hostOps0_13, hostOps0_14, hostOps0_15, hostOps0_16, hostOps0_17]

theorem A_v36 : afterL pA V (Proc.devRef .tc main_v36) = rq (V (Proc.devRef .tc main_arg0)) := by
  unfold pA
  simp only [afterL_cons, afterL_nil]
  after_reads_simp
  rfl

theorem A_v38 : afterL pA V (Proc.devRef .tc main_v38) = rk (V (Proc.devRef .tc main_arg0)) := by
  unfold pA
  simp only [afterL_cons, afterL_nil]
  after_reads_simp
  rfl

theorem A_v40 : afterL pA V (Proc.devRef .tc main_v40) = rv (V (Proc.devRef .tc main_arg0)) := by
  unfold pA
  simp only [afterL_cons, afterL_nil]
  after_reads_simp
  rfl

theorem A_v43 : afterL pA V (Proc.devRef .tc main_v43) = rc (rg (V (Proc.devRef .tc main_arg2)) (rsp (rx (V (Proc.devRef .tc main_arg1)) (V (Proc.devRef .tc main_arg3))))) := by
  unfold pA
  simp only [afterL_cons, afterL_nil]
  after_reads_simp
  rfl

/-- The step sizes before they are cut into chunks. -/
def rb0 (a1 : Cn S8x2048x7168) : Cn S16x2048x12 :=
  ((Host.divf (F := Ideal) (φ := .f32) : Cn S16x2048x12 → Cn S16x2048x12 → Cn S16x2048x12) ((broadcastInDim S16x2048x12 ![] bcast_S_S16x2048x12 : Cn S_ → Cn S16x2048x12) (constant (F := Ideal) S_ .f32 0x3F800000#32)) ((addf (F := Ideal) (φ := .f32) : Cn S16x2048x12 → Cn S16x2048x12 → Cn S16x2048x12) ((broadcastInDim S16x2048x12 ![] bcast_S_S16x2048x12 : Cn S_ → Cn S16x2048x12) (constant (F := Ideal) S_ .f32 0x3F800000#32)) ((Host.exp (F := Ideal) (φ := .f32) : Cn S16x2048x12 → Cn S16x2048x12) ((Host.negf (F := Ideal) (φ := .f32) : Cn S16x2048x12 → Cn S16x2048x12) (((extractStridedSlice S16x2048x12 ![0, 0, 0] · slices_S16x2048x24_S16x2048x12_0_0_0) : Cn S16x2048x24 → Cn S16x2048x12) (((fun a b => concatenate S16x2048x24 0 [⟨S8x2048x24, a⟩, ⟨S8x2048x24, b⟩] concatenates_S8x2048x24_S8x2048x24_S16x2048x24_d0) : Cn S8x2048x24 → Cn S8x2048x24 → Cn S16x2048x24) (((extractStridedSlice S8x2048x24 ![0, 0, 6656] · slices_S8x2048x7168_S8x2048x24_0_0_6656) : Cn S8x2048x7168 → Cn S8x2048x24) a1) (((Host.reverse [1]) : Cn S8x2048x24 → Cn S8x2048x24) (((extractStridedSlice S8x2048x24 ![0, 0, 6784] · slices_S8x2048x7168_S8x2048x24_0_0_6784) : Cn S8x2048x7168 → Cn S8x2048x24) a1))))))))

theorem A_v16 : afterL pA V (Proc.devRef .tc main_v16) = rb0 (V (Proc.devRef .tc main_arg1)) := by
  unfold pA
  simp only [afterL_cons, afterL_nil]
  after_reads_simp
  rfl

theorem A_arg4 : afterL pA V (Proc.devRef .tc main_arg4) = V (Proc.devRef .tc main_arg4) := by
  unfold pA
  simp only [afterL_cons, afterL_nil]
  after_reads_simp

/-- The step sizes in chunks. -/
def rb1 (b : Cn S16x2048x12) : Cn S16x12x32x64 :=
  (((transpose S16x12x32x64 [0, 3, 1, 2] · transposes_S16x32x64x12_S16x12x32x64_0_3_1_2) : Cn S16x32x64x12 → Cn S16x12x32x64) (shapeCast S16x32x64x12 b shapeCasts_S16x2048x12_S16x32x64x12 : Cn S16x32x64x12))

theorem B_v36 : afterL pB V (Proc.devRef .tc main_v36) = V (Proc.devRef .tc main_v36) := by
  unfold pB
  simp only [afterL_cons, afterL_nil]
  after_reads_simp

theorem B_v38 : afterL pB V (Proc.devRef .tc main_v38) = V (Proc.devRef .tc main_v38) := by
  unfold pB
  simp only [afterL_cons, afterL_nil]
  after_reads_simp

theorem B_v43 : afterL pB V (Proc.devRef .tc main_v43) = V (Proc.devRef .tc main_v43) := by
  unfold pB
  simp only [afterL_cons, afterL_nil]
  after_reads_simp

theorem B_arg4 : afterL pB V (Proc.devRef .tc main_arg4) = V (Proc.devRef .tc main_arg4) := by
  unfold pB
  simp only [afterL_cons, afterL_nil]
  after_reads_simp

theorem B_v47 : afterL pB V (Proc.devRef .tc main_v47) = rrow := by
  unfold pB
  simp only [afterL_cons, afterL_nil]
  after_reads_simp
  rfl

theorem B_v51 : afterL pB V (Proc.devRef .tc main_v51) = rincl := by
  unfold pB
  simp only [afterL_cons, afterL_nil]
  after_reads_simp
  rfl

theorem B_v61 : afterL pB V (Proc.devRef .tc main_v61) = rd (V (Proc.devRef .tc main_v43)) := by
  unfold pB
  simp only [afterL_cons, afterL_nil]
  after_reads_simp
  rfl

theorem B_v64 : afterL pB V (Proc.devRef .tc main_v64) = rkb (V (Proc.devRef .tc main_v38)) (rb1 (V (Proc.devRef .tc main_v16))) := by
  unfold pB
  simp only [afterL_cons, afterL_nil]
  after_reads_simp
  rfl

theorem B_v67 : afterL pB V (Proc.devRef .tc main_v67) = rvb (V (Proc.devRef .tc main_v40)) (rb1 (V (Proc.devRef .tc main_v16))) := by
  unfold pB
  simp only [afterL_cons, afterL_nil]
  after_reads_simp
  rfl

theorem B_v70 : afterL pB V (Proc.devRef .tc main_v70) = rl (rkb (V (Proc.devRef .tc main_v38)) (rb1 (V (Proc.devRef .tc main_v16)))) (V (Proc.devRef .tc main_v38)) (rd (V (Proc.devRef .tc main_v43))) := by
  unfold pB
  simp only [afterL_cons, afterL_nil]
  after_reads_simp
  rfl

/-- The unit matrix. -/
def reye0  : Cn S64x64 :=
  ((select : Cb S64x64 → Cn S64x64 → Cn S64x64 → Cn S64x64) ((cmpi .eq : Ci S64x64 → Ci S64x64 → Cb S64x64) ((broadcastInDim S64x64 ![0, 1] bcast_S64x1_S64x64_0_1 : Ci S64x1 → Ci S64x64) ((broadcastInDim S64x1 ![0] bcast_S64_S64x1_0 : Ci S64 → Ci S64x1) (iotaInDim S64 32 0))) ((broadcastInDim S64x64 ![0, 1] bcast_S1x64_S64x64_0_1 : Ci S1x64 → Ci S64x64) ((broadcastInDim S1x64 ![1] bcast_S64_S1x64_1 : Ci S64 → Ci S1x64) (iotaInDim S64 32 0)))) (((broadcastInDim S64x64 ![] bcast_S_S64x64) : Cn S_ → Cn S64x64) (constant (F := Ideal) S_ .f32 0x3F800000#32)) (((broadcastInDim S64x64 ![] bcast_S_S64x64) : Cn S_ → Cn S64x64) (constant (F := Ideal) S_ .f32 0x00000000#32)))

theorem B_v74 : afterL pB V (Proc.devRef .tc main_v74) = reye0 := by
  unfold pB
  simp only [afterL_cons, afterL_nil]
  after_reads_simp
  rfl

/-- The buffers the inverse's rows leave alone. -/
def keepL : List (Ref sig .tc) := [main_v75, main_v70, main_v47, main_v67, main_v64, main_v43, main_v36, main_v38, main_v61, main_v51, main_arg4]
def Kept (V V' : Valuation τ sig (Elt Ideal)) : Prop := ∀ r ∈ keepL, V' (Proc.devRef .tc r) = V (Proc.devRef .tc r)

theorem in75 : main_v75 ∈ keepL := by decide +kernel
theorem in70 : main_v70 ∈ keepL := by decide +kernel
theorem in47 : main_v47 ∈ keepL := by decide +kernel
theorem Kept.trans {V V' V'' : Valuation τ sig (Elt Ideal)} (h : Kept V V') (h' : Kept V' V'') : Kept V V'' := fun r hr => (h' r hr).trans (h r hr)
theorem kept_of {W : List (Ref sig .tc)} (ops : List (HloOp τ sig (Elt Ideal))) (V : Valuation τ sig (Elt Ideal))
    (hW : ops.Forall fun op => op.writes ⊆ (W.map (Proc.devRef (τ := τ) .tc)).toFinset) (hr : ∀ r ∈ keepL, r ∉ W) : Kept V (after ops V) :=
  fun r h => after_of_writes_sub ops V hW (hr r h)

theorem kept_one {V X : Valuation τ sig (Elt Ideal)} {W W' : List (Ref sig .tc)} (ops ops' : List (HloOp τ sig (Elt Ideal)))
    (hW : ops.Forall fun op => op.writes ⊆ (W.map (Proc.devRef (τ := τ) .tc)).toFinset)
    (hW' : ops'.Forall fun op => op.writes ⊆ (W'.map (Proc.devRef (τ := τ) .tc)).toFinset)
    (hr : ∀ r ∈ keepL, r ∉ W ∧ r ∉ W') (h : Kept V X) : Kept V (after ops' (after ops X)) :=
  h.trans ((kept_of ops X hW fun r k => (hr r k).1).trans (kept_of ops' _ hW' fun r k => (hr r k).2))

/-- The rows of the inverse found one after another. -/
def tri (w : Ci S64x1) (l : Cn S16x12x32x64x64) : ℕ → Cn S16x12x32x64x64
  | 0 => reye
  | r + 1 => rstep w l reye (BitVec.ofNat 32 (r + 1)) (tri w l r)
theorem tri_succ (w : Ci S64x1) (l : Cn S16x12x32x64x64) (r : ℕ) : tri w l (r + 1) = rstep w l reye (BitVec.ofNat 32 (r + 1)) (tri w l r) := rfl

/-- The stretches after the inverse. -/
def pC : List (List (HloOp τ sig (Elt Ideal))) := [hostOps0_144, hostOps0_145, hostOps0_146]

theorem C_v486_0 : afterL pC V (Proc.devRef .tc main_v486_0) = ru (V (Proc.devRef .tc main_v453)) (V (Proc.devRef .tc main_v67)) := by
  unfold pC
  simp only [afterL_cons, afterL_nil]
  after_reads_simp
  rfl

theorem C_v486_1 : afterL pC V (Proc.devRef .tc main_v486_1) = rw' (V (Proc.devRef .tc main_v453)) (V (Proc.devRef .tc main_v64)) (V (Proc.devRef .tc main_v43)) := by
  unfold pC
  simp only [afterL_cons, afterL_nil]
  after_reads_simp
  rfl

theorem C_v486_2 : afterL pC V (Proc.devRef .tc main_v486_2) = rqg (V (Proc.devRef .tc main_v36)) (V (Proc.devRef .tc main_v43)) := by
  unfold pC
  simp only [afterL_cons, afterL_nil]
  after_reads_simp
  rfl

theorem C_v486_4 : afterL pC V (Proc.devRef .tc main_v486_4) = rgl (V (Proc.devRef .tc main_v43)) := by
  unfold pC
  simp only [afterL_cons, afterL_nil]
  after_reads_simp
  rfl

theorem C_v486_5 : afterL pC V (Proc.devRef .tc main_v486_5) = rkd (V (Proc.devRef .tc main_v38)) (V (Proc.devRef .tc main_v43)) := by
  unfold pC
  simp only [afterL_cons, afterL_nil]
  after_reads_simp
  rfl

theorem C_v486_7 : afterL pC V (Proc.devRef .tc main_v486_7) = rs0 (V (Proc.devRef .tc main_arg4)) := by
  unfold pC
  simp only [afterL_cons, afterL_nil]
  after_reads_simp
  rfl

theorem C_v486_8 : afterL pC V (Proc.devRef .tc main_v486_8) = ro0 := by
  unfold pC
  simp only [afterL_cons, afterL_nil]
  after_reads_simp
  rfl

theorem C_v486_3 (h : V (Proc.devRef .tc main_v51) = rincl) : afterL pC V (Proc.devRef .tc main_v486_3) = ratt (V (Proc.devRef .tc main_v36)) (V (Proc.devRef .tc main_v38)) (V (Proc.devRef .tc main_v61)) := by
  unfold pC
  simp only [afterL_cons, afterL_nil]
  after_reads_simp
  rw [h]
  rfl

end Cert.GdnRefIdeal.Pre

end
-- ==== Proof.GdnRefRows1.lean ====
/-
  The rows of the triangular inverse, as the reference finds them: each from the rows before it (rows 1 to 16).
-/
module

public import proofs.«01_k».proof.Proof.Gen.GdnRefIdeal.Run
public import proofs.«01_k».proof.Proof.GdnRefPre
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

variable (V : Valuation τ sig (Elt Ideal))

theorem row_1 (h74 : V (Proc.devRef .tc main_v74) = reye0) :
    after hostOps0_19 (after hostOps0_18 V) (Proc.devRef .tc main_v75) = reye
    ∧ after hostOps0_19 (after hostOps0_18 V) (Proc.devRef .tc main_v81) = tri (V (Proc.devRef .tc main_v47)) (V (Proc.devRef .tc main_v70)) 1 := by
  refine ⟨?_, ?_⟩
  · after_reads_simp
    rw [h74]
    rfl
  · after_reads_simp
    rw [h74]
    rfl
theorem row_1_kept (r : Ref sig .tc) (hr : r ∈ keepL) (h : r ≠ main_v75) : after hostOps0_19 (after hostOps0_18 V) (Proc.devRef .tc r) = V (Proc.devRef .tc r) :=
  (after_of_writes_sub hostOps0_19 _ hostOps0_19_writes ((by decide +kernel : ∀ r ∈ keepL, r ∉ hostOps0_19_W) r hr)).trans
    (after_of_writes_sub hostOps0_18 V hostOps0_18_writes ((by decide +kernel : ∀ r ∈ keepL, r ≠ main_v75 → r ∉ hostOps0_18_W) r hr h))

variable {V} {X : Valuation τ sig (Elt Ideal)} (h1 : Kept V X) (h2 : V (Proc.devRef .tc main_v75) = reye)
include h1 h2

theorem row_2 (h3 : X (Proc.devRef .tc main_v81) = tri (V (Proc.devRef .tc main_v47)) (V (Proc.devRef .tc main_v70)) 1) :
    Kept V (after hostOps0_21 (after hostOps0_20 X)) ∧ after hostOps0_21 (after hostOps0_20 X) (Proc.devRef .tc main_v87) = tri (V (Proc.devRef .tc main_v47)) (V (Proc.devRef .tc main_v70)) 2 := by
  refine ⟨kept_one hostOps0_20 hostOps0_21 hostOps0_20_writes hostOps0_21_writes (by decide +kernel) h1, ?_⟩
  after_reads_simp
  rw [h3, h1 main_v75 in75, h1 main_v70 in70, h1 main_v47 in47, h2]
  refine Eq.trans ?_ (tri_succ _ _ 1).symm
  generalize tri (V (Proc.devRef .tc main_v47)) (V (Proc.devRef .tc main_v70)) 1 = T
  rfl

theorem row_3 (h3 : X (Proc.devRef .tc main_v87) = tri (V (Proc.devRef .tc main_v47)) (V (Proc.devRef .tc main_v70)) 2) :
    Kept V (after hostOps0_23 (after hostOps0_22 X)) ∧ after hostOps0_23 (after hostOps0_22 X) (Proc.devRef .tc main_v93) = tri (V (Proc.devRef .tc main_v47)) (V (Proc.devRef .tc main_v70)) 3 := by
  refine ⟨kept_one hostOps0_22 hostOps0_23 hostOps0_22_writes hostOps0_23_writes (by decide +kernel) h1, ?_⟩
  after_reads_simp
  rw [h3, h1 main_v75 in75, h1 main_v70 in70, h1 main_v47 in47, h2]
  refine Eq.trans ?_ (tri_succ _ _ 2).symm
  generalize tri (V (Proc.devRef .tc main_v47)) (V (Proc.devRef .tc main_v70)) 2 = T
  rfl

theorem row_4 (h3 : X (Proc.devRef .tc main_v93) = tri (V (Proc.devRef .tc main_v47)) (V (Proc.devRef .tc main_v70)) 3) :
    Kept V (after hostOps0_25 (after hostOps0_24 X)) ∧ after hostOps0_25 (after hostOps0_24 X) (Proc.devRef .tc main_v99) = tri (V (Proc.devRef .tc main_v47)) (V (Proc.devRef .tc main_v70)) 4 := by
  refine ⟨kept_one hostOps0_24 hostOps0_25 hostOps0_24_writes hostOps0_25_writes (by decide +kernel) h1, ?_⟩
  after_reads_simp
  rw [h3, h1 main_v75 in75, h1 main_v70 in70, h1 main_v47 in47, h2]
  refine Eq.trans ?_ (tri_succ _ _ 3).symm
  generalize tri (V (Proc.devRef .tc main_v47)) (V (Proc.devRef .tc main_v70)) 3 = T
  rfl

theorem row_5 (h3 : X (Proc.devRef .tc main_v99) = tri (V (Proc.devRef .tc main_v47)) (V (Proc.devRef .tc main_v70)) 4) :
    Kept V (after hostOps0_27 (after hostOps0_26 X)) ∧ after hostOps0_27 (after hostOps0_26 X) (Proc.devRef .tc main_v105) = tri (V (Proc.devRef .tc main_v47)) (V (Proc.devRef .tc main_v70)) 5 := by
  refine ⟨kept_one hostOps0_26 hostOps0_27 hostOps0_26_writes hostOps0_27_writes (by decide +kernel) h1, ?_⟩
  after_reads_simp
  rw [h3, h1 main_v75 in75, h1 main_v70 in70, h1 main_v47 in47, h2]
  refine Eq.trans ?_ (tri_succ _ _ 4).symm
  generalize tri (V (Proc.devRef .tc main_v47)) (V (Proc.devRef .tc main_v70)) 4 = T
  rfl

theorem row_6 (h3 : X (Proc.devRef .tc main_v105) = tri (V (Proc.devRef .tc main_v47)) (V (Proc.devRef .tc main_v70)) 5) :
    Kept V (after hostOps0_29 (after hostOps0_28 X)) ∧ after hostOps0_29 (after hostOps0_28 X) (Proc.devRef .tc main_v111) = tri (V (Proc.devRef .tc main_v47)) (V (Proc.devRef .tc main_v70)) 6 := by
  refine ⟨kept_one hostOps0_28 hostOps0_29 hostOps0_28_writes hostOps0_29_writes (by decide +kernel) h1, ?_⟩
  after_reads_simp
  rw [h3, h1 main_v75 in75, h1 main_v70 in70, h1 main_v47 in47, h2]
  refine Eq.trans ?_ (tri_succ _ _ 5).symm
  generalize tri (V (Proc.devRef .tc main_v47)) (V (Proc.devRef .tc main_v70)) 5 = T
  rfl

theorem row_7 (h3 : X (Proc.devRef .tc main_v111) = tri (V (Proc.devRef .tc main_v47)) (V (Proc.devRef .tc main_v70)) 6) :
    Kept V (after hostOps0_31 (after hostOps0_30 X)) ∧ after hostOps0_31 (after hostOps0_30 X) (Proc.devRef .tc main_v117) = tri (V (Proc.devRef .tc main_v47)) (V (Proc.devRef .tc main_v70)) 7 := by
  refine ⟨kept_one hostOps0_30 hostOps0_31 hostOps0_30_writes hostOps0_31_writes (by decide +kernel) h1, ?_⟩
  after_reads_simp
  rw [h3, h1 main_v75 in75, h1 main_v70 in70, h1 main_v47 in47, h2]
  refine Eq.trans ?_ (tri_succ _ _ 6).symm
  generalize tri (V (Proc.devRef .tc main_v47)) (V (Proc.devRef .tc main_v70)) 6 = T
  rfl

theorem row_8 (h3 : X (Proc.devRef .tc main_v117) = tri (V (Proc.devRef .tc main_v47)) (V (Proc.devRef .tc main_v70)) 7) :
    Kept V (after hostOps0_33 (after hostOps0_32 X)) ∧ after hostOps0_33 (after hostOps0_32 X) (Proc.devRef .tc main_v123) = tri (V (Proc.devRef .tc main_v47)) (V (Proc.devRef .tc main_v70)) 8 := by
  refine ⟨kept_one hostOps0_32 hostOps0_33 hostOps0_32_writes hostOps0_33_writes (by decide +kernel) h1, ?_⟩
  after_reads_simp
  rw [h3, h1 main_v75 in75, h1 main_v70 in70, h1 main_v47 in47, h2]
  refine Eq.trans ?_ (tri_succ _ _ 7).symm
  generalize tri (V (Proc.devRef .tc main_v47)) (V (Proc.devRef .tc main_v70)) 7 = T
  rfl

theorem row_9 (h3 : X (Proc.devRef .tc main_v123) = tri (V (Proc.devRef .tc main_v47)) (V (Proc.devRef .tc main_v70)) 8) :
    Kept V (after hostOps0_35 (after hostOps0_34 X)) ∧ after hostOps0_35 (after hostOps0_34 X) (Proc.devRef .tc main_v129) = tri (V (Proc.devRef .tc main_v47)) (V (Proc.devRef .tc main_v70)) 9 := by
  refine ⟨kept_one hostOps0_34 hostOps0_35 hostOps0_34_writes hostOps0_35_writes (by decide +kernel) h1, ?_⟩
  after_reads_simp
  rw [h3, h1 main_v75 in75, h1 main_v70 in70, h1 main_v47 in47, h2]
  refine Eq.trans ?_ (tri_succ _ _ 8).symm
  generalize tri (V (Proc.devRef .tc main_v47)) (V (Proc.devRef .tc main_v70)) 8 = T
  rfl

theorem row_10 (h3 : X (Proc.devRef .tc main_v129) = tri (V (Proc.devRef .tc main_v47)) (V (Proc.devRef .tc main_v70)) 9) :
    Kept V (after hostOps0_37 (after hostOps0_36 X)) ∧ after hostOps0_37 (after hostOps0_36 X) (Proc.devRef .tc main_v135) = tri (V (Proc.devRef .tc main_v47)) (V (Proc.devRef .tc main_v70)) 10 := by
  refine ⟨kept_one hostOps0_36 hostOps0_37 hostOps0_36_writes hostOps0_37_writes (by decide +kernel) h1, ?_⟩
  after_reads_simp
  rw [h3, h1 main_v75 in75, h1 main_v70 in70, h1 main_v47 in47, h2]
  refine Eq.trans ?_ (tri_succ _ _ 9).symm
  generalize tri (V (Proc.devRef .tc main_v47)) (V (Proc.devRef .tc main_v70)) 9 = T
  rfl

theorem row_11 (h3 : X (Proc.devRef .tc main_v135) = tri (V (Proc.devRef .tc main_v47)) (V (Proc.devRef .tc main_v70)) 10) :
    Kept V (after hostOps0_39 (after hostOps0_38 X)) ∧ after hostOps0_39 (after hostOps0_38 X) (Proc.devRef .tc main_v141) = tri (V (Proc.devRef .tc main_v47)) (V (Proc.devRef .tc main_v70)) 11 := by
  refine ⟨kept_one hostOps0_38 hostOps0_39 hostOps0_38_writes hostOps0_39_writes (by decide +kernel) h1, ?_⟩
  after_reads_simp
  rw [h3, h1 main_v75 in75, h1 main_v70 in70, h1 main_v47 in47, h2]
  refine Eq.trans ?_ (tri_succ _ _ 10).symm
  generalize tri (V (Proc.devRef .tc main_v47)) (V (Proc.devRef .tc main_v70)) 10 = T
  rfl

theorem row_12 (h3 : X (Proc.devRef .tc main_v141) = tri (V (Proc.devRef .tc main_v47)) (V (Proc.devRef .tc main_v70)) 11) :
    Kept V (after hostOps0_41 (after hostOps0_40 X)) ∧ after hostOps0_41 (after hostOps0_40 X) (Proc.devRef .tc main_v147) = tri (V (Proc.devRef .tc main_v47)) (V (Proc.devRef .tc main_v70)) 12 := by
  refine ⟨kept_one hostOps0_40 hostOps0_41 hostOps0_40_writes hostOps0_41_writes (by decide +kernel) h1, ?_⟩
  after_reads_simp
  rw [h3, h1 main_v75 in75, h1 main_v70 in70, h1 main_v47 in47, h2]
  refine Eq.trans ?_ (tri_succ _ _ 11).symm
  generalize tri (V (Proc.devRef .tc main_v47)) (V (Proc.devRef .tc main_v70)) 11 = T
  rfl

theorem row_13 (h3 : X (Proc.devRef .tc main_v147) = tri (V (Proc.devRef .tc main_v47)) (V (Proc.devRef .tc main_v70)) 12) :
    Kept V (after hostOps0_43 (after hostOps0_42 X)) ∧ after hostOps0_43 (after hostOps0_42 X) (Proc.devRef .tc main_v153) = tri (V (Proc.devRef .tc main_v47)) (V (Proc.devRef .tc main_v70)) 13 := by
  refine ⟨kept_one hostOps0_42 hostOps0_43 hostOps0_42_writes hostOps0_43_writes (by decide +kernel) h1, ?_⟩
  after_reads_simp
  rw [h3, h1 main_v75 in75, h1 main_v70 in70, h1 main_v47 in47, h2]
  refine Eq.trans ?_ (tri_succ _ _ 12).symm
  generalize tri (V (Proc.devRef .tc main_v47)) (V (Proc.devRef .tc main_v70)) 12 = T
  rfl

theorem row_14 (h3 : X (Proc.devRef .tc main_v153) = tri (V (Proc.devRef .tc main_v47)) (V (Proc.devRef .tc main_v70)) 13) :
    Kept V (after hostOps0_45 (after hostOps0_44 X)) ∧ after hostOps0_45 (after hostOps0_44 X) (Proc.devRef .tc main_v159) = tri (V (Proc.devRef .tc main_v47)) (V (Proc.devRef .tc main_v70)) 14 := by
  refine ⟨kept_one hostOps0_44 hostOps0_45 hostOps0_44_writes hostOps0_45_writes (by decide +kernel) h1, ?_⟩
  after_reads_simp
  rw [h3, h1 main_v75 in75, h1 main_v70 in70, h1 main_v47 in47, h2]
  refine Eq.trans ?_ (tri_succ _ _ 13).symm
  generalize tri (V (Proc.devRef .tc main_v47)) (V (Proc.devRef .tc main_v70)) 13 = T
  rfl

theorem row_15 (h3 : X (Proc.devRef .tc main_v159) = tri (V (Proc.devRef .tc main_v47)) (V (Proc.devRef .tc main_v70)) 14) :
    Kept V (after hostOps0_47 (after hostOps0_46 X)) ∧ after hostOps0_47 (after hostOps0_46 X) (Proc.devRef .tc main_v165) = tri (V (Proc.devRef .tc main_v47)) (V (Proc.devRef .tc main_v70)) 15 := by
  refine ⟨kept_one hostOps0_46 hostOps0_47 hostOps0_46_writes hostOps0_47_writes (by decide +kernel) h1, ?_⟩
  after_reads_simp
  rw [h3, h1 main_v75 in75, h1 main_v70 in70, h1 main_v47 in47, h2]
  refine Eq.trans ?_ (tri_succ _ _ 14).symm
  generalize tri (V (Proc.devRef .tc main_v47)) (V (Proc.devRef .tc main_v70)) 14 = T
  rfl

theorem row_16 (h3 : X (Proc.devRef .tc main_v165) = tri (V (Proc.devRef .tc main_v47)) (V (Proc.devRef .tc main_v70)) 15) :
    Kept V (after hostOps0_49 (after hostOps0_48 X)) ∧ after hostOps0_49 (after hostOps0_48 X) (Proc.devRef .tc main_v171) = tri (V (Proc.devRef .tc main_v47)) (V (Proc.devRef .tc main_v70)) 16 := by
  refine ⟨kept_one hostOps0_48 hostOps0_49 hostOps0_48_writes hostOps0_49_writes (by decide +kernel) h1, ?_⟩
  after_reads_simp
  rw [h3, h1 main_v75 in75, h1 main_v70 in70, h1 main_v47 in47, h2]
  refine Eq.trans ?_ (tri_succ _ _ 15).symm
  generalize tri (V (Proc.devRef .tc main_v47)) (V (Proc.devRef .tc main_v70)) 15 = T
  rfl

end Cert.GdnRefIdeal.Pre

end
-- ==== Proof.GdnRefRows2.lean ====
/-
  The rows of the triangular inverse, as the reference finds them: each from the rows before it (rows 17 to 32).
-/
module

public import proofs.«01_k».proof.Proof.Gen.GdnRefIdeal.Run
public import proofs.«01_k».proof.Proof.GdnRefPre
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

variable {V X : Valuation τ sig (Elt Ideal)} (h1 : Kept V X) (h2 : V (Proc.devRef .tc main_v75) = reye)
include h1 h2

theorem row_17 (h3 : X (Proc.devRef .tc main_v171) = tri (V (Proc.devRef .tc main_v47)) (V (Proc.devRef .tc main_v70)) 16) :
    Kept V (after hostOps0_51 (after hostOps0_50 X)) ∧ after hostOps0_51 (after hostOps0_50 X) (Proc.devRef .tc main_v177) = tri (V (Proc.devRef .tc main_v47)) (V (Proc.devRef .tc main_v70)) 17 := by
  refine ⟨kept_one hostOps0_50 hostOps0_51 hostOps0_50_writes hostOps0_51_writes (by decide +kernel) h1, ?_⟩
  after_reads_simp
  rw [h3, h1 main_v75 in75, h1 main_v70 in70, h1 main_v47 in47, h2]
  refine Eq.trans ?_ (tri_succ _ _ 16).symm
  generalize tri (V (Proc.devRef .tc main_v47)) (V (Proc.devRef .tc main_v70)) 16 = T
  rfl

theorem row_18 (h3 : X (Proc.devRef .tc main_v177) = tri (V (Proc.devRef .tc main_v47)) (V (Proc.devRef .tc main_v70)) 17) :
    Kept V (after hostOps0_53 (after hostOps0_52 X)) ∧ after hostOps0_53 (after hostOps0_52 X) (Proc.devRef .tc main_v183) = tri (V (Proc.devRef .tc main_v47)) (V (Proc.devRef .tc main_v70)) 18 := by
  refine ⟨kept_one hostOps0_52 hostOps0_53 hostOps0_52_writes hostOps0_53_writes (by decide +kernel) h1, ?_⟩
  after_reads_simp
  rw [h3, h1 main_v75 in75, h1 main_v70 in70, h1 main_v47 in47, h2]
  refine Eq.trans ?_ (tri_succ _ _ 17).symm
  generalize tri (V (Proc.devRef .tc main_v47)) (V (Proc.devRef .tc main_v70)) 17 = T
  rfl

theorem row_19 (h3 : X (Proc.devRef .tc main_v183) = tri (V (Proc.devRef .tc main_v47)) (V (Proc.devRef .tc main_v70)) 18) :
    Kept V (after hostOps0_55 (after hostOps0_54 X)) ∧ after hostOps0_55 (after hostOps0_54 X) (Proc.devRef .tc main_v189) = tri (V (Proc.devRef .tc main_v47)) (V (Proc.devRef .tc main_v70)) 19 := by
  refine ⟨kept_one hostOps0_54 hostOps0_55 hostOps0_54_writes hostOps0_55_writes (by decide +kernel) h1, ?_⟩
  after_reads_simp
  rw [h3, h1 main_v75 in75, h1 main_v70 in70, h1 main_v47 in47, h2]
  refine Eq.trans ?_ (tri_succ _ _ 18).symm
  generalize tri (V (Proc.devRef .tc main_v47)) (V (Proc.devRef .tc main_v70)) 18 = T
  rfl

theorem row_20 (h3 : X (Proc.devRef .tc main_v189) = tri (V (Proc.devRef .tc main_v47)) (V (Proc.devRef .tc main_v70)) 19) :
    Kept V (after hostOps0_57 (after hostOps0_56 X)) ∧ after hostOps0_57 (after hostOps0_56 X) (Proc.devRef .tc main_v195) = tri (V (Proc.devRef .tc main_v47)) (V (Proc.devRef .tc main_v70)) 20 := by
  refine ⟨kept_one hostOps0_56 hostOps0_57 hostOps0_56_writes hostOps0_57_writes (by decide +kernel) h1, ?_⟩
  after_reads_simp
  rw [h3, h1 main_v75 in75, h1 main_v70 in70, h1 main_v47 in47, h2]
  refine Eq.trans ?_ (tri_succ _ _ 19).symm
  generalize tri (V (Proc.devRef .tc main_v47)) (V (Proc.devRef .tc main_v70)) 19 = T
  rfl

theorem row_21 (h3 : X (Proc.devRef .tc main_v195) = tri (V (Proc.devRef .tc main_v47)) (V (Proc.devRef .tc main_v70)) 20) :
    Kept V (after hostOps0_59 (after hostOps0_58 X)) ∧ after hostOps0_59 (after hostOps0_58 X) (Proc.devRef .tc main_v201) = tri (V (Proc.devRef .tc main_v47)) (V (Proc.devRef .tc main_v70)) 21 := by
  refine ⟨kept_one hostOps0_58 hostOps0_59 hostOps0_58_writes hostOps0_59_writes (by decide +kernel) h1, ?_⟩
  after_reads_simp
  rw [h3, h1 main_v75 in75, h1 main_v70 in70, h1 main_v47 in47, h2]
  refine Eq.trans ?_ (tri_succ _ _ 20).symm
  generalize tri (V (Proc.devRef .tc main_v47)) (V (Proc.devRef .tc main_v70)) 20 = T
  rfl

theorem row_22 (h3 : X (Proc.devRef .tc main_v201) = tri (V (Proc.devRef .tc main_v47)) (V (Proc.devRef .tc main_v70)) 21) :
    Kept V (after hostOps0_61 (after hostOps0_60 X)) ∧ after hostOps0_61 (after hostOps0_60 X) (Proc.devRef .tc main_v207) = tri (V (Proc.devRef .tc main_v47)) (V (Proc.devRef .tc main_v70)) 22 := by
  refine ⟨kept_one hostOps0_60 hostOps0_61 hostOps0_60_writes hostOps0_61_writes (by decide +kernel) h1, ?_⟩
  after_reads_simp
  rw [h3, h1 main_v75 in75, h1 main_v70 in70, h1 main_v47 in47, h2]
  refine Eq.trans ?_ (tri_succ _ _ 21).symm
  generalize tri (V (Proc.devRef .tc main_v47)) (V (Proc.devRef .tc main_v70)) 21 = T
  rfl

theorem row_23 (h3 : X (Proc.devRef .tc main_v207) = tri (V (Proc.devRef .tc main_v47)) (V (Proc.devRef .tc main_v70)) 22) :
    Kept V (after hostOps0_63 (after hostOps0_62 X)) ∧ after hostOps0_63 (after hostOps0_62 X) (Proc.devRef .tc main_v213) = tri (V (Proc.devRef .tc main_v47)) (V (Proc.devRef .tc main_v70)) 23 := by
  refine ⟨kept_one hostOps0_62 hostOps0_63 hostOps0_62_writes hostOps0_63_writes (by decide +kernel) h1, ?_⟩
  after_reads_simp
  rw [h3, h1 main_v75 in75, h1 main_v70 in70, h1 main_v47 in47, h2]
  refine Eq.trans ?_ (tri_succ _ _ 22).symm
  generalize tri (V (Proc.devRef .tc main_v47)) (V (Proc.devRef .tc main_v70)) 22 = T
  rfl

theorem row_24 (h3 : X (Proc.devRef .tc main_v213) = tri (V (Proc.devRef .tc main_v47)) (V (Proc.devRef .tc main_v70)) 23) :
    Kept V (after hostOps0_65 (after hostOps0_64 X)) ∧ after hostOps0_65 (after hostOps0_64 X) (Proc.devRef .tc main_v219) = tri (V (Proc.devRef .tc main_v47)) (V (Proc.devRef .tc main_v70)) 24 := by
  refine ⟨kept_one hostOps0_64 hostOps0_65 hostOps0_64_writes hostOps0_65_writes (by decide +kernel) h1, ?_⟩
  after_reads_simp
  rw [h3, h1 main_v75 in75, h1 main_v70 in70, h1 main_v47 in47, h2]
  refine Eq.trans ?_ (tri_succ _ _ 23).symm
  generalize tri (V (Proc.devRef .tc main_v47)) (V (Proc.devRef .tc main_v70)) 23 = T
  rfl

theorem row_25 (h3 : X (Proc.devRef .tc main_v219) = tri (V (Proc.devRef .tc main_v47)) (V (Proc.devRef .tc main_v70)) 24) :
    Kept V (after hostOps0_67 (after hostOps0_66 X)) ∧ after hostOps0_67 (after hostOps0_66 X) (Proc.devRef .tc main_v225) = tri (V (Proc.devRef .tc main_v47)) (V (Proc.devRef .tc main_v70)) 25 := by
  refine ⟨kept_one hostOps0_66 hostOps0_67 hostOps0_66_writes hostOps0_67_writes (by decide +kernel) h1, ?_⟩
  after_reads_simp
  rw [h3, h1 main_v75 in75, h1 main_v70 in70, h1 main_v47 in47, h2]
  refine Eq.trans ?_ (tri_succ _ _ 24).symm
  generalize tri (V (Proc.devRef .tc main_v47)) (V (Proc.devRef .tc main_v70)) 24 = T
  rfl

theorem row_26 (h3 : X (Proc.devRef .tc main_v225) = tri (V (Proc.devRef .tc main_v47)) (V (Proc.devRef .tc main_v70)) 25) :
    Kept V (after hostOps0_69 (after hostOps0_68 X)) ∧ after hostOps0_69 (after hostOps0_68 X) (Proc.devRef .tc main_v231) = tri (V (Proc.devRef .tc main_v47)) (V (Proc.devRef .tc main_v70)) 26 := by
  refine ⟨kept_one hostOps0_68 hostOps0_69 hostOps0_68_writes hostOps0_69_writes (by decide +kernel) h1, ?_⟩
  after_reads_simp
  rw [h3, h1 main_v75 in75, h1 main_v70 in70, h1 main_v47 in47, h2]
  refine Eq.trans ?_ (tri_succ _ _ 25).symm
  generalize tri (V (Proc.devRef .tc main_v47)) (V (Proc.devRef .tc main_v70)) 25 = T
  rfl

theorem row_27 (h3 : X (Proc.devRef .tc main_v231) = tri (V (Proc.devRef .tc main_v47)) (V (Proc.devRef .tc main_v70)) 26) :
    Kept V (after hostOps0_71 (after hostOps0_70 X)) ∧ after hostOps0_71 (after hostOps0_70 X) (Proc.devRef .tc main_v237) = tri (V (Proc.devRef .tc main_v47)) (V (Proc.devRef .tc main_v70)) 27 := by
  refine ⟨kept_one hostOps0_70 hostOps0_71 hostOps0_70_writes hostOps0_71_writes (by decide +kernel) h1, ?_⟩
  after_reads_simp
  rw [h3, h1 main_v75 in75, h1 main_v70 in70, h1 main_v47 in47, h2]
  refine Eq.trans ?_ (tri_succ _ _ 26).symm
  generalize tri (V (Proc.devRef .tc main_v47)) (V (Proc.devRef .tc main_v70)) 26 = T
  rfl

theorem row_28 (h3 : X (Proc.devRef .tc main_v237) = tri (V (Proc.devRef .tc main_v47)) (V (Proc.devRef .tc main_v70)) 27) :
    Kept V (after hostOps0_73 (after hostOps0_72 X)) ∧ after hostOps0_73 (after hostOps0_72 X) (Proc.devRef .tc main_v243) = tri (V (Proc.devRef .tc main_v47)) (V (Proc.devRef .tc main_v70)) 28 := by
  refine ⟨kept_one hostOps0_72 hostOps0_73 hostOps0_72_writes hostOps0_73_writes (by decide +kernel) h1, ?_⟩
  after_reads_simp
  rw [h3, h1 main_v75 in75, h1 main_v70 in70, h1 main_v47 in47, h2]
  refine Eq.trans ?_ (tri_succ _ _ 27).symm
  generalize tri (V (Proc.devRef .tc main_v47)) (V (Proc.devRef .tc main_v70)) 27 = T
  rfl

theorem row_29 (h3 : X (Proc.devRef .tc main_v243) = tri (V (Proc.devRef .tc main_v47)) (V (Proc.devRef .tc main_v70)) 28) :
    Kept V (after hostOps0_75 (after hostOps0_74 X)) ∧ after hostOps0_75 (after hostOps0_74 X) (Proc.devRef .tc main_v249) = tri (V (Proc.devRef .tc main_v47)) (V (Proc.devRef .tc main_v70)) 29 := by
  refine ⟨kept_one hostOps0_74 hostOps0_75 hostOps0_74_writes hostOps0_75_writes (by decide +kernel) h1, ?_⟩
  after_reads_simp
  rw [h3, h1 main_v75 in75, h1 main_v70 in70, h1 main_v47 in47, h2]
  refine Eq.trans ?_ (tri_succ _ _ 28).symm
  generalize tri (V (Proc.devRef .tc main_v47)) (V (Proc.devRef .tc main_v70)) 28 = T
  rfl

theorem row_30 (h3 : X (Proc.devRef .tc main_v249) = tri (V (Proc.devRef .tc main_v47)) (V (Proc.devRef .tc main_v70)) 29) :
    Kept V (after hostOps0_77 (after hostOps0_76 X)) ∧ after hostOps0_77 (after hostOps0_76 X) (Proc.devRef .tc main_v255) = tri (V (Proc.devRef .tc main_v47)) (V (Proc.devRef .tc main_v70)) 30 := by
  refine ⟨kept_one hostOps0_76 hostOps0_77 hostOps0_76_writes hostOps0_77_writes (by decide +kernel) h1, ?_⟩
  after_reads_simp
  rw [h3, h1 main_v75 in75, h1 main_v70 in70, h1 main_v47 in47, h2]
  refine Eq.trans ?_ (tri_succ _ _ 29).symm
  generalize tri (V (Proc.devRef .tc main_v47)) (V (Proc.devRef .tc main_v70)) 29 = T
  rfl

theorem row_31 (h3 : X (Proc.devRef .tc main_v255) = tri (V (Proc.devRef .tc main_v47)) (V (Proc.devRef .tc main_v70)) 30) :
    Kept V (after hostOps0_79 (after hostOps0_78 X)) ∧ after hostOps0_79 (after hostOps0_78 X) (Proc.devRef .tc main_v261) = tri (V (Proc.devRef .tc main_v47)) (V (Proc.devRef .tc main_v70)) 31 := by
  refine ⟨kept_one hostOps0_78 hostOps0_79 hostOps0_78_writes hostOps0_79_writes (by decide +kernel) h1, ?_⟩
  after_reads_simp
  rw [h3, h1 main_v75 in75, h1 main_v70 in70, h1 main_v47 in47, h2]
  refine Eq.trans ?_ (tri_succ _ _ 30).symm
  generalize tri (V (Proc.devRef .tc main_v47)) (V (Proc.devRef .tc main_v70)) 30 = T
  rfl

theorem row_32 (h3 : X (Proc.devRef .tc main_v261) = tri (V (Proc.devRef .tc main_v47)) (V (Proc.devRef .tc main_v70)) 31) :
    Kept V (after hostOps0_81 (after hostOps0_80 X)) ∧ after hostOps0_81 (after hostOps0_80 X) (Proc.devRef .tc main_v267) = tri (V (Proc.devRef .tc main_v47)) (V (Proc.devRef .tc main_v70)) 32 := by
  refine ⟨kept_one hostOps0_80 hostOps0_81 hostOps0_80_writes hostOps0_81_writes (by decide +kernel) h1, ?_⟩
  after_reads_simp
  rw [h3, h1 main_v75 in75, h1 main_v70 in70, h1 main_v47 in47, h2]
  refine Eq.trans ?_ (tri_succ _ _ 31).symm
  generalize tri (V (Proc.devRef .tc main_v47)) (V (Proc.devRef .tc main_v70)) 31 = T
  rfl

end Cert.GdnRefIdeal.Pre

end
-- ==== Proof.GdnRefRows3.lean ====
/-
  The rows of the triangular inverse, as the reference finds them: each from the rows before it (rows 33 to 48).
-/
module

public import proofs.«01_k».proof.Proof.Gen.GdnRefIdeal.Run
public import proofs.«01_k».proof.Proof.GdnRefPre
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

variable {V X : Valuation τ sig (Elt Ideal)} (h1 : Kept V X) (h2 : V (Proc.devRef .tc main_v75) = reye)
include h1 h2

theorem row_33 (h3 : X (Proc.devRef .tc main_v267) = tri (V (Proc.devRef .tc main_v47)) (V (Proc.devRef .tc main_v70)) 32) :
    Kept V (after hostOps0_83 (after hostOps0_82 X)) ∧ after hostOps0_83 (after hostOps0_82 X) (Proc.devRef .tc main_v273) = tri (V (Proc.devRef .tc main_v47)) (V (Proc.devRef .tc main_v70)) 33 := by
  refine ⟨kept_one hostOps0_82 hostOps0_83 hostOps0_82_writes hostOps0_83_writes (by decide +kernel) h1, ?_⟩
  after_reads_simp
  rw [h3, h1 main_v75 in75, h1 main_v70 in70, h1 main_v47 in47, h2]
  refine Eq.trans ?_ (tri_succ _ _ 32).symm
  generalize tri (V (Proc.devRef .tc main_v47)) (V (Proc.devRef .tc main_v70)) 32 = T
  rfl

theorem row_34 (h3 : X (Proc.devRef .tc main_v273) = tri (V (Proc.devRef .tc main_v47)) (V (Proc.devRef .tc main_v70)) 33) :
    Kept V (after hostOps0_85 (after hostOps0_84 X)) ∧ after hostOps0_85 (after hostOps0_84 X) (Proc.devRef .tc main_v279) = tri (V (Proc.devRef .tc main_v47)) (V (Proc.devRef .tc main_v70)) 34 := by
  refine ⟨kept_one hostOps0_84 hostOps0_85 hostOps0_84_writes hostOps0_85_writes (by decide +kernel) h1, ?_⟩
  after_reads_simp
  rw [h3, h1 main_v75 in75, h1 main_v70 in70, h1 main_v47 in47, h2]
  refine Eq.trans ?_ (tri_succ _ _ 33).symm
  generalize tri (V (Proc.devRef .tc main_v47)) (V (Proc.devRef .tc main_v70)) 33 = T
  rfl

theorem row_35 (h3 : X (Proc.devRef .tc main_v279) = tri (V (Proc.devRef .tc main_v47)) (V (Proc.devRef .tc main_v70)) 34) :
    Kept V (after hostOps0_87 (after hostOps0_86 X)) ∧ after hostOps0_87 (after hostOps0_86 X) (Proc.devRef .tc main_v285) = tri (V (Proc.devRef .tc main_v47)) (V (Proc.devRef .tc main_v70)) 35 := by
  refine ⟨kept_one hostOps0_86 hostOps0_87 hostOps0_86_writes hostOps0_87_writes (by decide +kernel) h1, ?_⟩
  after_reads_simp
  rw [h3, h1 main_v75 in75, h1 main_v70 in70, h1 main_v47 in47, h2]
  refine Eq.trans ?_ (tri_succ _ _ 34).symm
  generalize tri (V (Proc.devRef .tc main_v47)) (V (Proc.devRef .tc main_v70)) 34 = T
  rfl

theorem row_36 (h3 : X (Proc.devRef .tc main_v285) = tri (V (Proc.devRef .tc main_v47)) (V (Proc.devRef .tc main_v70)) 35) :
    Kept V (after hostOps0_89 (after hostOps0_88 X)) ∧ after hostOps0_89 (after hostOps0_88 X) (Proc.devRef .tc main_v291) = tri (V (Proc.devRef .tc main_v47)) (V (Proc.devRef .tc main_v70)) 36 := by
  refine ⟨kept_one hostOps0_88 hostOps0_89 hostOps0_88_writes hostOps0_89_writes (by decide +kernel) h1, ?_⟩
  after_reads_simp
  rw [h3, h1 main_v75 in75, h1 main_v70 in70, h1 main_v47 in47, h2]
  refine Eq.trans ?_ (tri_succ _ _ 35).symm
  generalize tri (V (Proc.devRef .tc main_v47)) (V (Proc.devRef .tc main_v70)) 35 = T
  rfl

theorem row_37 (h3 : X (Proc.devRef .tc main_v291) = tri (V (Proc.devRef .tc main_v47)) (V (Proc.devRef .tc main_v70)) 36) :
    Kept V (after hostOps0_91 (after hostOps0_90 X)) ∧ after hostOps0_91 (after hostOps0_90 X) (Proc.devRef .tc main_v297) = tri (V (Proc.devRef .tc main_v47)) (V (Proc.devRef .tc main_v70)) 37 := by
  refine ⟨kept_one hostOps0_90 hostOps0_91 hostOps0_90_writes hostOps0_91_writes (by decide +kernel) h1, ?_⟩
  after_reads_simp
  rw [h3, h1 main_v75 in75, h1 main_v70 in70, h1 main_v47 in47, h2]
  refine Eq.trans ?_ (tri_succ _ _ 36).symm
  generalize tri (V (Proc.devRef .tc main_v47)) (V (Proc.devRef .tc main_v70)) 36 = T
  rfl

theorem row_38 (h3 : X (Proc.devRef .tc main_v297) = tri (V (Proc.devRef .tc main_v47)) (V (Proc.devRef .tc main_v70)) 37) :
    Kept V (after hostOps0_93 (after hostOps0_92 X)) ∧ after hostOps0_93 (after hostOps0_92 X) (Proc.devRef .tc main_v303) = tri (V (Proc.devRef .tc main_v47)) (V (Proc.devRef .tc main_v70)) 38 := by
  refine ⟨kept_one hostOps0_92 hostOps0_93 hostOps0_92_writes hostOps0_93_writes (by decide +kernel) h1, ?_⟩
  after_reads_simp
  rw [h3, h1 main_v75 in75, h1 main_v70 in70, h1 main_v47 in47, h2]
  refine Eq.trans ?_ (tri_succ _ _ 37).symm
  generalize tri (V (Proc.devRef .tc main_v47)) (V (Proc.devRef .tc main_v70)) 37 = T
  rfl

theorem row_39 (h3 : X (Proc.devRef .tc main_v303) = tri (V (Proc.devRef .tc main_v47)) (V (Proc.devRef .tc main_v70)) 38) :
    Kept V (after hostOps0_95 (after hostOps0_94 X)) ∧ after hostOps0_95 (after hostOps0_94 X) (Proc.devRef .tc main_v309) = tri (V (Proc.devRef .tc main_v47)) (V (Proc.devRef .tc main_v70)) 39 := by
  refine ⟨kept_one hostOps0_94 hostOps0_95 hostOps0_94_writes hostOps0_95_writes (by decide +kernel) h1, ?_⟩
  after_reads_simp
  rw [h3, h1 main_v75 in75, h1 main_v70 in70, h1 main_v47 in47, h2]
  refine Eq.trans ?_ (tri_succ _ _ 38).symm
  generalize tri (V (Proc.devRef .tc main_v47)) (V (Proc.devRef .tc main_v70)) 38 = T
  rfl

theorem row_40 (h3 : X (Proc.devRef .tc main_v309) = tri (V (Proc.devRef .tc main_v47)) (V (Proc.devRef .tc main_v70)) 39) :
    Kept V (after hostOps0_97 (after hostOps0_96 X)) ∧ after hostOps0_97 (after hostOps0_96 X) (Proc.devRef .tc main_v315) = tri (V (Proc.devRef .tc main_v47)) (V (Proc.devRef .tc main_v70)) 40 := by
  refine ⟨kept_one hostOps0_96 hostOps0_97 hostOps0_96_writes hostOps0_97_writes (by decide +kernel) h1, ?_⟩
  after_reads_simp
  rw [h3, h1 main_v75 in75, h1 main_v70 in70, h1 main_v47 in47, h2]
  refine Eq.trans ?_ (tri_succ _ _ 39).symm
  generalize tri (V (Proc.devRef .tc main_v47)) (V (Proc.devRef .tc main_v70)) 39 = T
  rfl

theorem row_41 (h3 : X (Proc.devRef .tc main_v315) = tri (V (Proc.devRef .tc main_v47)) (V (Proc.devRef .tc main_v70)) 40) :
    Kept V (after hostOps0_99 (after hostOps0_98 X)) ∧ after hostOps0_99 (after hostOps0_98 X) (Proc.devRef .tc main_v321) = tri (V (Proc.devRef .tc main_v47)) (V (Proc.devRef .tc main_v70)) 41 := by
  refine ⟨kept_one hostOps0_98 hostOps0_99 hostOps0_98_writes hostOps0_99_writes (by decide +kernel) h1, ?_⟩
  after_reads_simp
  rw [h3, h1 main_v75 in75, h1 main_v70 in70, h1 main_v47 in47, h2]
  refine Eq.trans ?_ (tri_succ _ _ 40).symm
  generalize tri (V (Proc.devRef .tc main_v47)) (V (Proc.devRef .tc main_v70)) 40 = T
  rfl

theorem row_42 (h3 : X (Proc.devRef .tc main_v321) = tri (V (Proc.devRef .tc main_v47)) (V (Proc.devRef .tc main_v70)) 41) :
    Kept V (after hostOps0_101 (after hostOps0_100 X)) ∧ after hostOps0_101 (after hostOps0_100 X) (Proc.devRef .tc main_v327) = tri (V (Proc.devRef .tc main_v47)) (V (Proc.devRef .tc main_v70)) 42 := by
  refine ⟨kept_one hostOps0_100 hostOps0_101 hostOps0_100_writes hostOps0_101_writes (by decide +kernel) h1, ?_⟩
  after_reads_simp
  rw [h3, h1 main_v75 in75, h1 main_v70 in70, h1 main_v47 in47, h2]
  refine Eq.trans ?_ (tri_succ _ _ 41).symm
  generalize tri (V (Proc.devRef .tc main_v47)) (V (Proc.devRef .tc main_v70)) 41 = T
  rfl

theorem row_43 (h3 : X (Proc.devRef .tc main_v327) = tri (V (Proc.devRef .tc main_v47)) (V (Proc.devRef .tc main_v70)) 42) :
    Kept V (after hostOps0_103 (after hostOps0_102 X)) ∧ after hostOps0_103 (after hostOps0_102 X) (Proc.devRef .tc main_v333) = tri (V (Proc.devRef .tc main_v47)) (V (Proc.devRef .tc main_v70)) 43 := by
  refine ⟨kept_one hostOps0_102 hostOps0_103 hostOps0_102_writes hostOps0_103_writes (by decide +kernel) h1, ?_⟩
  after_reads_simp
  rw [h3, h1 main_v75 in75, h1 main_v70 in70, h1 main_v47 in47, h2]
  refine Eq.trans ?_ (tri_succ _ _ 42).symm
  generalize tri (V (Proc.devRef .tc main_v47)) (V (Proc.devRef .tc main_v70)) 42 = T
  rfl

theorem row_44 (h3 : X (Proc.devRef .tc main_v333) = tri (V (Proc.devRef .tc main_v47)) (V (Proc.devRef .tc main_v70)) 43) :
    Kept V (after hostOps0_105 (after hostOps0_104 X)) ∧ after hostOps0_105 (after hostOps0_104 X) (Proc.devRef .tc main_v339) = tri (V (Proc.devRef .tc main_v47)) (V (Proc.devRef .tc main_v70)) 44 := by
  refine ⟨kept_one hostOps0_104 hostOps0_105 hostOps0_104_writes hostOps0_105_writes (by decide +kernel) h1, ?_⟩
  after_reads_simp
  rw [h3, h1 main_v75 in75, h1 main_v70 in70, h1 main_v47 in47, h2]
  refine Eq.trans ?_ (tri_succ _ _ 43).symm
  generalize tri (V (Proc.devRef .tc main_v47)) (V (Proc.devRef .tc main_v70)) 43 = T
  rfl

theorem row_45 (h3 : X (Proc.devRef .tc main_v339) = tri (V (Proc.devRef .tc main_v47)) (V (Proc.devRef .tc main_v70)) 44) :
    Kept V (after hostOps0_107 (after hostOps0_106 X)) ∧ after hostOps0_107 (after hostOps0_106 X) (Proc.devRef .tc main_v345) = tri (V (Proc.devRef .tc main_v47)) (V (Proc.devRef .tc main_v70)) 45 := by
  refine ⟨kept_one hostOps0_106 hostOps0_107 hostOps0_106_writes hostOps0_107_writes (by decide +kernel) h1, ?_⟩
  after_reads_simp
  rw [h3, h1 main_v75 in75, h1 main_v70 in70, h1 main_v47 in47, h2]
  refine Eq.trans ?_ (tri_succ _ _ 44).symm
  generalize tri (V (Proc.devRef .tc main_v47)) (V (Proc.devRef .tc main_v70)) 44 = T
  rfl

theorem row_46 (h3 : X (Proc.devRef .tc main_v345) = tri (V (Proc.devRef .tc main_v47)) (V (Proc.devRef .tc main_v70)) 45) :
    Kept V (after hostOps0_109 (after hostOps0_108 X)) ∧ after hostOps0_109 (after hostOps0_108 X) (Proc.devRef .tc main_v351) = tri (V (Proc.devRef .tc main_v47)) (V (Proc.devRef .tc main_v70)) 46 := by
  refine ⟨kept_one hostOps0_108 hostOps0_109 hostOps0_108_writes hostOps0_109_writes (by decide +kernel) h1, ?_⟩
  after_reads_simp
  rw [h3, h1 main_v75 in75, h1 main_v70 in70, h1 main_v47 in47, h2]
  refine Eq.trans ?_ (tri_succ _ _ 45).symm
  generalize tri (V (Proc.devRef .tc main_v47)) (V (Proc.devRef .tc main_v70)) 45 = T
  rfl

theorem row_47 (h3 : X (Proc.devRef .tc main_v351) = tri (V (Proc.devRef .tc main_v47)) (V (Proc.devRef .tc main_v70)) 46) :
    Kept V (after hostOps0_111 (after hostOps0_110 X)) ∧ after hostOps0_111 (after hostOps0_110 X) (Proc.devRef .tc main_v357) = tri (V (Proc.devRef .tc main_v47)) (V (Proc.devRef .tc main_v70)) 47 := by
  refine ⟨kept_one hostOps0_110 hostOps0_111 hostOps0_110_writes hostOps0_111_writes (by decide +kernel) h1, ?_⟩
  after_reads_simp
  rw [h3, h1 main_v75 in75, h1 main_v70 in70, h1 main_v47 in47, h2]
  refine Eq.trans ?_ (tri_succ _ _ 46).symm
  generalize tri (V (Proc.devRef .tc main_v47)) (V (Proc.devRef .tc main_v70)) 46 = T
  rfl

theorem row_48 (h3 : X (Proc.devRef .tc main_v357) = tri (V (Proc.devRef .tc main_v47)) (V (Proc.devRef .tc main_v70)) 47) :
    Kept V (after hostOps0_113 (after hostOps0_112 X)) ∧ after hostOps0_113 (after hostOps0_112 X) (Proc.devRef .tc main_v363) = tri (V (Proc.devRef .tc main_v47)) (V (Proc.devRef .tc main_v70)) 48 := by
  refine ⟨kept_one hostOps0_112 hostOps0_113 hostOps0_112_writes hostOps0_113_writes (by decide +kernel) h1, ?_⟩
  after_reads_simp
  rw [h3, h1 main_v75 in75, h1 main_v70 in70, h1 main_v47 in47, h2]
  refine Eq.trans ?_ (tri_succ _ _ 47).symm
  generalize tri (V (Proc.devRef .tc main_v47)) (V (Proc.devRef .tc main_v70)) 47 = T
  rfl

end Cert.GdnRefIdeal.Pre

end
-- ==== Proof.GdnRefRows4.lean ====
/-
  The rows of the triangular inverse, as the reference finds them: each from the rows before it (rows 49 to 63).
-/
module

public import proofs.«01_k».proof.Proof.Gen.GdnRefIdeal.Run
public import proofs.«01_k».proof.Proof.GdnRefPre
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

variable {V X : Valuation τ sig (Elt Ideal)} (h1 : Kept V X) (h2 : V (Proc.devRef .tc main_v75) = reye)
include h1 h2

theorem row_49 (h3 : X (Proc.devRef .tc main_v363) = tri (V (Proc.devRef .tc main_v47)) (V (Proc.devRef .tc main_v70)) 48) :
    Kept V (after hostOps0_115 (after hostOps0_114 X)) ∧ after hostOps0_115 (after hostOps0_114 X) (Proc.devRef .tc main_v369) = tri (V (Proc.devRef .tc main_v47)) (V (Proc.devRef .tc main_v70)) 49 := by
  refine ⟨kept_one hostOps0_114 hostOps0_115 hostOps0_114_writes hostOps0_115_writes (by decide +kernel) h1, ?_⟩
  after_reads_simp
  rw [h3, h1 main_v75 in75, h1 main_v70 in70, h1 main_v47 in47, h2]
  refine Eq.trans ?_ (tri_succ _ _ 48).symm
  generalize tri (V (Proc.devRef .tc main_v47)) (V (Proc.devRef .tc main_v70)) 48 = T
  rfl

theorem row_50 (h3 : X (Proc.devRef .tc main_v369) = tri (V (Proc.devRef .tc main_v47)) (V (Proc.devRef .tc main_v70)) 49) :
    Kept V (after hostOps0_117 (after hostOps0_116 X)) ∧ after hostOps0_117 (after hostOps0_116 X) (Proc.devRef .tc main_v375) = tri (V (Proc.devRef .tc main_v47)) (V (Proc.devRef .tc main_v70)) 50 := by
  refine ⟨kept_one hostOps0_116 hostOps0_117 hostOps0_116_writes hostOps0_117_writes (by decide +kernel) h1, ?_⟩
  after_reads_simp
  rw [h3, h1 main_v75 in75, h1 main_v70 in70, h1 main_v47 in47, h2]
  refine Eq.trans ?_ (tri_succ _ _ 49).symm
  generalize tri (V (Proc.devRef .tc main_v47)) (V (Proc.devRef .tc main_v70)) 49 = T
  rfl

theorem row_51 (h3 : X (Proc.devRef .tc main_v375) = tri (V (Proc.devRef .tc main_v47)) (V (Proc.devRef .tc main_v70)) 50) :
    Kept V (after hostOps0_119 (after hostOps0_118 X)) ∧ after hostOps0_119 (after hostOps0_118 X) (Proc.devRef .tc main_v381) = tri (V (Proc.devRef .tc main_v47)) (V (Proc.devRef .tc main_v70)) 51 := by
  refine ⟨kept_one hostOps0_118 hostOps0_119 hostOps0_118_writes hostOps0_119_writes (by decide +kernel) h1, ?_⟩
  after_reads_simp
  rw [h3, h1 main_v75 in75, h1 main_v70 in70, h1 main_v47 in47, h2]
  refine Eq.trans ?_ (tri_succ _ _ 50).symm
  generalize tri (V (Proc.devRef .tc main_v47)) (V (Proc.devRef .tc main_v70)) 50 = T
  rfl

theorem row_52 (h3 : X (Proc.devRef .tc main_v381) = tri (V (Proc.devRef .tc main_v47)) (V (Proc.devRef .tc main_v70)) 51) :
    Kept V (after hostOps0_121 (after hostOps0_120 X)) ∧ after hostOps0_121 (after hostOps0_120 X) (Proc.devRef .tc main_v387) = tri (V (Proc.devRef .tc main_v47)) (V (Proc.devRef .tc main_v70)) 52 := by
  refine ⟨kept_one hostOps0_120 hostOps0_121 hostOps0_120_writes hostOps0_121_writes (by decide +kernel) h1, ?_⟩
  after_reads_simp
  rw [h3, h1 main_v75 in75, h1 main_v70 in70, h1 main_v47 in47, h2]
  refine Eq.trans ?_ (tri_succ _ _ 51).symm
  generalize tri (V (Proc.devRef .tc main_v47)) (V (Proc.devRef .tc main_v70)) 51 = T
  rfl

theorem row_53 (h3 : X (Proc.devRef .tc main_v387) = tri (V (Proc.devRef .tc main_v47)) (V (Proc.devRef .tc main_v70)) 52) :
    Kept V (after hostOps0_123 (after hostOps0_122 X)) ∧ after hostOps0_123 (after hostOps0_122 X) (Proc.devRef .tc main_v393) = tri (V (Proc.devRef .tc main_v47)) (V (Proc.devRef .tc main_v70)) 53 := by
  refine ⟨kept_one hostOps0_122 hostOps0_123 hostOps0_122_writes hostOps0_123_writes (by decide +kernel) h1, ?_⟩
  after_reads_simp
  rw [h3, h1 main_v75 in75, h1 main_v70 in70, h1 main_v47 in47, h2]
  refine Eq.trans ?_ (tri_succ _ _ 52).symm
  generalize tri (V (Proc.devRef .tc main_v47)) (V (Proc.devRef .tc main_v70)) 52 = T
  rfl

theorem row_54 (h3 : X (Proc.devRef .tc main_v393) = tri (V (Proc.devRef .tc main_v47)) (V (Proc.devRef .tc main_v70)) 53) :
    Kept V (after hostOps0_125 (after hostOps0_124 X)) ∧ after hostOps0_125 (after hostOps0_124 X) (Proc.devRef .tc main_v399) = tri (V (Proc.devRef .tc main_v47)) (V (Proc.devRef .tc main_v70)) 54 := by
  refine ⟨kept_one hostOps0_124 hostOps0_125 hostOps0_124_writes hostOps0_125_writes (by decide +kernel) h1, ?_⟩
  after_reads_simp
  rw [h3, h1 main_v75 in75, h1 main_v70 in70, h1 main_v47 in47, h2]
  refine Eq.trans ?_ (tri_succ _ _ 53).symm
  generalize tri (V (Proc.devRef .tc main_v47)) (V (Proc.devRef .tc main_v70)) 53 = T
  rfl

theorem row_55 (h3 : X (Proc.devRef .tc main_v399) = tri (V (Proc.devRef .tc main_v47)) (V (Proc.devRef .tc main_v70)) 54) :
    Kept V (after hostOps0_127 (after hostOps0_126 X)) ∧ after hostOps0_127 (after hostOps0_126 X) (Proc.devRef .tc main_v405) = tri (V (Proc.devRef .tc main_v47)) (V (Proc.devRef .tc main_v70)) 55 := by
  refine ⟨kept_one hostOps0_126 hostOps0_127 hostOps0_126_writes hostOps0_127_writes (by decide +kernel) h1, ?_⟩
  after_reads_simp
  rw [h3, h1 main_v75 in75, h1 main_v70 in70, h1 main_v47 in47, h2]
  refine Eq.trans ?_ (tri_succ _ _ 54).symm
  generalize tri (V (Proc.devRef .tc main_v47)) (V (Proc.devRef .tc main_v70)) 54 = T
  rfl

theorem row_56 (h3 : X (Proc.devRef .tc main_v405) = tri (V (Proc.devRef .tc main_v47)) (V (Proc.devRef .tc main_v70)) 55) :
    Kept V (after hostOps0_129 (after hostOps0_128 X)) ∧ after hostOps0_129 (after hostOps0_128 X) (Proc.devRef .tc main_v411) = tri (V (Proc.devRef .tc main_v47)) (V (Proc.devRef .tc main_v70)) 56 := by
  refine ⟨kept_one hostOps0_128 hostOps0_129 hostOps0_128_writes hostOps0_129_writes (by decide +kernel) h1, ?_⟩
  after_reads_simp
  rw [h3, h1 main_v75 in75, h1 main_v70 in70, h1 main_v47 in47, h2]
  refine Eq.trans ?_ (tri_succ _ _ 55).symm
  generalize tri (V (Proc.devRef .tc main_v47)) (V (Proc.devRef .tc main_v70)) 55 = T
  rfl

theorem row_57 (h3 : X (Proc.devRef .tc main_v411) = tri (V (Proc.devRef .tc main_v47)) (V (Proc.devRef .tc main_v70)) 56) :
    Kept V (after hostOps0_131 (after hostOps0_130 X)) ∧ after hostOps0_131 (after hostOps0_130 X) (Proc.devRef .tc main_v417) = tri (V (Proc.devRef .tc main_v47)) (V (Proc.devRef .tc main_v70)) 57 := by
  refine ⟨kept_one hostOps0_130 hostOps0_131 hostOps0_130_writes hostOps0_131_writes (by decide +kernel) h1, ?_⟩
  after_reads_simp
  rw [h3, h1 main_v75 in75, h1 main_v70 in70, h1 main_v47 in47, h2]
  refine Eq.trans ?_ (tri_succ _ _ 56).symm
  generalize tri (V (Proc.devRef .tc main_v47)) (V (Proc.devRef .tc main_v70)) 56 = T
  rfl

theorem row_58 (h3 : X (Proc.devRef .tc main_v417) = tri (V (Proc.devRef .tc main_v47)) (V (Proc.devRef .tc main_v70)) 57) :
    Kept V (after hostOps0_133 (after hostOps0_132 X)) ∧ after hostOps0_133 (after hostOps0_132 X) (Proc.devRef .tc main_v423) = tri (V (Proc.devRef .tc main_v47)) (V (Proc.devRef .tc main_v70)) 58 := by
  refine ⟨kept_one hostOps0_132 hostOps0_133 hostOps0_132_writes hostOps0_133_writes (by decide +kernel) h1, ?_⟩
  after_reads_simp
  rw [h3, h1 main_v75 in75, h1 main_v70 in70, h1 main_v47 in47, h2]
  refine Eq.trans ?_ (tri_succ _ _ 57).symm
  generalize tri (V (Proc.devRef .tc main_v47)) (V (Proc.devRef .tc main_v70)) 57 = T
  rfl

theorem row_59 (h3 : X (Proc.devRef .tc main_v423) = tri (V (Proc.devRef .tc main_v47)) (V (Proc.devRef .tc main_v70)) 58) :
    Kept V (after hostOps0_135 (after hostOps0_134 X)) ∧ after hostOps0_135 (after hostOps0_134 X) (Proc.devRef .tc main_v429) = tri (V (Proc.devRef .tc main_v47)) (V (Proc.devRef .tc main_v70)) 59 := by
  refine ⟨kept_one hostOps0_134 hostOps0_135 hostOps0_134_writes hostOps0_135_writes (by decide +kernel) h1, ?_⟩
  after_reads_simp
  rw [h3, h1 main_v75 in75, h1 main_v70 in70, h1 main_v47 in47, h2]
  refine Eq.trans ?_ (tri_succ _ _ 58).symm
  generalize tri (V (Proc.devRef .tc main_v47)) (V (Proc.devRef .tc main_v70)) 58 = T
  rfl

theorem row_60 (h3 : X (Proc.devRef .tc main_v429) = tri (V (Proc.devRef .tc main_v47)) (V (Proc.devRef .tc main_v70)) 59) :
    Kept V (after hostOps0_137 (after hostOps0_136 X)) ∧ after hostOps0_137 (after hostOps0_136 X) (Proc.devRef .tc main_v435) = tri (V (Proc.devRef .tc main_v47)) (V (Proc.devRef .tc main_v70)) 60 := by
  refine ⟨kept_one hostOps0_136 hostOps0_137 hostOps0_136_writes hostOps0_137_writes (by decide +kernel) h1, ?_⟩
  after_reads_simp
  rw [h3, h1 main_v75 in75, h1 main_v70 in70, h1 main_v47 in47, h2]
  refine Eq.trans ?_ (tri_succ _ _ 59).symm
  generalize tri (V (Proc.devRef .tc main_v47)) (V (Proc.devRef .tc main_v70)) 59 = T
  rfl

theorem row_61 (h3 : X (Proc.devRef .tc main_v435) = tri (V (Proc.devRef .tc main_v47)) (V (Proc.devRef .tc main_v70)) 60) :
    Kept V (after hostOps0_139 (after hostOps0_138 X)) ∧ after hostOps0_139 (after hostOps0_138 X) (Proc.devRef .tc main_v441) = tri (V (Proc.devRef .tc main_v47)) (V (Proc.devRef .tc main_v70)) 61 := by
  refine ⟨kept_one hostOps0_138 hostOps0_139 hostOps0_138_writes hostOps0_139_writes (by decide +kernel) h1, ?_⟩
  after_reads_simp
  rw [h3, h1 main_v75 in75, h1 main_v70 in70, h1 main_v47 in47, h2]
  refine Eq.trans ?_ (tri_succ _ _ 60).symm
  generalize tri (V (Proc.devRef .tc main_v47)) (V (Proc.devRef .tc main_v70)) 60 = T
  rfl

theorem row_62 (h3 : X (Proc.devRef .tc main_v441) = tri (V (Proc.devRef .tc main_v47)) (V (Proc.devRef .tc main_v70)) 61) :
    Kept V (after hostOps0_141 (after hostOps0_140 X)) ∧ after hostOps0_141 (after hostOps0_140 X) (Proc.devRef .tc main_v447) = tri (V (Proc.devRef .tc main_v47)) (V (Proc.devRef .tc main_v70)) 62 := by
  refine ⟨kept_one hostOps0_140 hostOps0_141 hostOps0_140_writes hostOps0_141_writes (by decide +kernel) h1, ?_⟩
  after_reads_simp
  rw [h3, h1 main_v75 in75, h1 main_v70 in70, h1 main_v47 in47, h2]
  refine Eq.trans ?_ (tri_succ _ _ 61).symm
  generalize tri (V (Proc.devRef .tc main_v47)) (V (Proc.devRef .tc main_v70)) 61 = T
  rfl

theorem row_63 (h3 : X (Proc.devRef .tc main_v447) = tri (V (Proc.devRef .tc main_v47)) (V (Proc.devRef .tc main_v70)) 62) :
    Kept V (after hostOps0_143 (after hostOps0_142 X)) ∧ after hostOps0_143 (after hostOps0_142 X) (Proc.devRef .tc main_v453) = tri (V (Proc.devRef .tc main_v47)) (V (Proc.devRef .tc main_v70)) 63 := by
  refine ⟨kept_one hostOps0_142 hostOps0_143 hostOps0_142_writes hostOps0_143_writes (by decide +kernel) h1, ?_⟩
  after_reads_simp
  rw [h3, h1 main_v75 in75, h1 main_v70 in70, h1 main_v47 in47, h2]
  refine Eq.trans ?_ (tri_succ _ _ 62).symm
  generalize tri (V (Proc.devRef .tc main_v47)) (V (Proc.devRef .tc main_v70)) 62 = T
  rfl

end Cert.GdnRefIdeal.Pre

end
-- ==== Proof.GdnRefEntry.lean ====
/-
  What the reference's loop starts from, put together from its stretches and rows.
-/
module

public import proofs.«01_k».proof.Proof.Gen.GdnRefIdeal.Run
public import proofs.«01_k».proof.Proof.GdnRefRows1
public import proofs.«01_k».proof.Proof.GdnRefRows2
public import proofs.«01_k».proof.Proof.GdnRefRows3
public import proofs.«01_k».proof.Proof.GdnRefRows4
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

variable (V : Valuation τ sig (Elt Ideal))

/-- What the loop starts from, from the program's arguments. -/
structure Entry (V E : Valuation τ sig (Elt Ideal)) : Prop where
  v0 : E (Proc.devRef .tc main_v486_0) = ru (tri rrow (rl (rkb (rk (V (Proc.devRef .tc main_arg0))) (rb1 (rb0 (V (Proc.devRef .tc main_arg1))))) (rk (V (Proc.devRef .tc main_arg0))) (rd (rc (rg (V (Proc.devRef .tc main_arg2)) (rsp (rx (V (Proc.devRef .tc main_arg1)) (V (Proc.devRef .tc main_arg3)))))))) 63) (rvb (rv (V (Proc.devRef .tc main_arg0))) (rb1 (rb0 (V (Proc.devRef .tc main_arg1)))))
  v1 : E (Proc.devRef .tc main_v486_1) = rw' (tri rrow (rl (rkb (rk (V (Proc.devRef .tc main_arg0))) (rb1 (rb0 (V (Proc.devRef .tc main_arg1))))) (rk (V (Proc.devRef .tc main_arg0))) (rd (rc (rg (V (Proc.devRef .tc main_arg2)) (rsp (rx (V (Proc.devRef .tc main_arg1)) (V (Proc.devRef .tc main_arg3)))))))) 63) (rkb (rk (V (Proc.devRef .tc main_arg0))) (rb1 (rb0 (V (Proc.devRef .tc main_arg1))))) (rc (rg (V (Proc.devRef .tc main_arg2)) (rsp (rx (V (Proc.devRef .tc main_arg1)) (V (Proc.devRef .tc main_arg3))))))
  v2 : E (Proc.devRef .tc main_v486_2) = rqg (rq (V (Proc.devRef .tc main_arg0))) (rc (rg (V (Proc.devRef .tc main_arg2)) (rsp (rx (V (Proc.devRef .tc main_arg1)) (V (Proc.devRef .tc main_arg3))))))
  v3 : E (Proc.devRef .tc main_v486_3) = ratt (rq (V (Proc.devRef .tc main_arg0))) (rk (V (Proc.devRef .tc main_arg0))) (rd (rc (rg (V (Proc.devRef .tc main_arg2)) (rsp (rx (V (Proc.devRef .tc main_arg1)) (V (Proc.devRef .tc main_arg3)))))))
  v4 : E (Proc.devRef .tc main_v486_4) = rgl (rc (rg (V (Proc.devRef .tc main_arg2)) (rsp (rx (V (Proc.devRef .tc main_arg1)) (V (Proc.devRef .tc main_arg3))))))
  v5 : E (Proc.devRef .tc main_v486_5) = rkd (rk (V (Proc.devRef .tc main_arg0))) (rc (rg (V (Proc.devRef .tc main_arg2)) (rsp (rx (V (Proc.devRef .tc main_arg1)) (V (Proc.devRef .tc main_arg3))))))
  v7 : E (Proc.devRef .tc main_v486_7) = rs0 (V (Proc.devRef .tc main_arg4))
  v8 : E (Proc.devRef .tc main_v486_8) = ro0

theorem entry : Entry V (afterL preI V) := by
  have b1 : ∀ r ∈ keepL, r ≠ main_v75 → after hostOps0_19 (after hostOps0_18 (afterL pB (afterL pA V))) (Proc.devRef .tc r) = afterL pB (afterL pA V) (Proc.devRef .tc r) :=
    fun r hr h => row_1_kept _ r hr h
  obtain ⟨h2, t1⟩ := row_1 (afterL pB (afterL pA V)) (B_v74 _)
  have k1 : Kept (after hostOps0_19 (after hostOps0_18 (afterL pB (afterL pA V)))) (after hostOps0_19 (after hostOps0_18 (afterL pB (afterL pA V)))) := fun _ _ => rfl
  obtain ⟨k2, t2⟩ := row_2 k1 h2 t1
  obtain ⟨k3, t3⟩ := row_3 k2 h2 t2
  obtain ⟨k4, t4⟩ := row_4 k3 h2 t3
  obtain ⟨k5, t5⟩ := row_5 k4 h2 t4
  obtain ⟨k6, t6⟩ := row_6 k5 h2 t5
  obtain ⟨k7, t7⟩ := row_7 k6 h2 t6
  obtain ⟨k8, t8⟩ := row_8 k7 h2 t7
  obtain ⟨k9, t9⟩ := row_9 k8 h2 t8
  obtain ⟨k10, t10⟩ := row_10 k9 h2 t9
  obtain ⟨k11, t11⟩ := row_11 k10 h2 t10
  obtain ⟨k12, t12⟩ := row_12 k11 h2 t11
  obtain ⟨k13, t13⟩ := row_13 k12 h2 t12
  obtain ⟨k14, t14⟩ := row_14 k13 h2 t13
  obtain ⟨k15, t15⟩ := row_15 k14 h2 t14
  obtain ⟨k16, t16⟩ := row_16 k15 h2 t15
  obtain ⟨k17, t17⟩ := row_17 k16 h2 t16
  obtain ⟨k18, t18⟩ := row_18 k17 h2 t17
  obtain ⟨k19, t19⟩ := row_19 k18 h2 t18
  obtain ⟨k20, t20⟩ := row_20 k19 h2 t19
  obtain ⟨k21, t21⟩ := row_21 k20 h2 t20
  obtain ⟨k22, t22⟩ := row_22 k21 h2 t21
  obtain ⟨k23, t23⟩ := row_23 k22 h2 t22
  obtain ⟨k24, t24⟩ := row_24 k23 h2 t23
  obtain ⟨k25, t25⟩ := row_25 k24 h2 t24
  obtain ⟨k26, t26⟩ := row_26 k25 h2 t25
  obtain ⟨k27, t27⟩ := row_27 k26 h2 t26
  obtain ⟨k28, t28⟩ := row_28 k27 h2 t27
  obtain ⟨k29, t29⟩ := row_29 k28 h2 t28
  obtain ⟨k30, t30⟩ := row_30 k29 h2 t29
  obtain ⟨k31, t31⟩ := row_31 k30 h2 t30
  obtain ⟨k32, t32⟩ := row_32 k31 h2 t31
  obtain ⟨k33, t33⟩ := row_33 k32 h2 t32
  obtain ⟨k34, t34⟩ := row_34 k33 h2 t33
  obtain ⟨k35, t35⟩ := row_35 k34 h2 t34
  obtain ⟨k36, t36⟩ := row_36 k35 h2 t35
  obtain ⟨k37, t37⟩ := row_37 k36 h2 t36
  obtain ⟨k38, t38⟩ := row_38 k37 h2 t37
  obtain ⟨k39, t39⟩ := row_39 k38 h2 t38
  obtain ⟨k40, t40⟩ := row_40 k39 h2 t39
  obtain ⟨k41, t41⟩ := row_41 k40 h2 t40
  obtain ⟨k42, t42⟩ := row_42 k41 h2 t41
  obtain ⟨k43, t43⟩ := row_43 k42 h2 t42
  obtain ⟨k44, t44⟩ := row_44 k43 h2 t43
  obtain ⟨k45, t45⟩ := row_45 k44 h2 t44
  obtain ⟨k46, t46⟩ := row_46 k45 h2 t45
  obtain ⟨k47, t47⟩ := row_47 k46 h2 t46
  obtain ⟨k48, t48⟩ := row_48 k47 h2 t47
  obtain ⟨k49, t49⟩ := row_49 k48 h2 t48
  obtain ⟨k50, t50⟩ := row_50 k49 h2 t49
  obtain ⟨k51, t51⟩ := row_51 k50 h2 t50
  obtain ⟨k52, t52⟩ := row_52 k51 h2 t51
  obtain ⟨k53, t53⟩ := row_53 k52 h2 t52
  obtain ⟨k54, t54⟩ := row_54 k53 h2 t53
  obtain ⟨k55, t55⟩ := row_55 k54 h2 t54
  obtain ⟨k56, t56⟩ := row_56 k55 h2 t55
  obtain ⟨k57, t57⟩ := row_57 k56 h2 t56
  obtain ⟨k58, t58⟩ := row_58 k57 h2 t57
  obtain ⟨k59, t59⟩ := row_59 k58 h2 t58
  obtain ⟨k60, t60⟩ := row_60 k59 h2 t59
  obtain ⟨k61, t61⟩ := row_61 k60 h2 t60
  obtain ⟨k62, t62⟩ := row_62 k61 h2 t61
  obtain ⟨k63, t63⟩ := row_63 k62 h2 t62
  have e70 := b1 main_v70 (by decide +kernel) (by decide +kernel)
  have e47 := b1 main_v47 (by decide +kernel) (by decide +kernel)
  rw [e70, e47, B_v47, B_v70, A_v38, A_v16, A_v43] at t63
  have f67 := (k63 main_v67 (by decide +kernel)).trans (b1 main_v67 (by decide +kernel) (by decide +kernel))
  have f64 := (k63 main_v64 (by decide +kernel)).trans (b1 main_v64 (by decide +kernel) (by decide +kernel))
  have f43 := (k63 main_v43 (by decide +kernel)).trans (b1 main_v43 (by decide +kernel) (by decide +kernel))
  have f36 := (k63 main_v36 (by decide +kernel)).trans (b1 main_v36 (by decide +kernel) (by decide +kernel))
  have f38 := (k63 main_v38 (by decide +kernel)).trans (b1 main_v38 (by decide +kernel) (by decide +kernel))
  have f61 := (k63 main_v61 (by decide +kernel)).trans (b1 main_v61 (by decide +kernel) (by decide +kernel))
  have f51 := (k63 main_v51 (by decide +kernel)).trans (b1 main_v51 (by decide +kernel) (by decide +kernel))
  have fa4 := (k63 main_arg4 (by decide +kernel)).trans (b1 main_arg4 (by decide +kernel) (by decide +kernel))
  rw [B_v67, A_v40, A_v16] at f67
  rw [B_v64, A_v38, A_v16] at f64
  rw [B_v43, A_v43] at f43
  rw [B_v36, A_v36] at f36
  rw [B_v38, A_v38] at f38
  rw [B_v61, A_v43] at f61
  rw [B_v51] at f51
  rw [B_arg4, A_arg4] at fa4
  have g0 := (C_v486_0 _).trans (congrArg₂ ru t63 f67)
  have g1 := (C_v486_1 _).trans (congr (congrArg₂ rw' t63 f64) f43)
  have g2 := (C_v486_2 _).trans (congrArg₂ rqg f36 f43)
  have g3 := (C_v486_3 _ f51).trans (congr (congrArg₂ ratt f36 f38) f61)
  have g4 := (C_v486_4 _).trans (congrArg rgl f43)
  have g5 := (C_v486_5 _).trans (congrArg₂ rkd f38 f43)
  have g7 := (C_v486_7 _).trans (congrArg rs0 fa4)
  have G : Entry V (afterL pC _) := ⟨g0, g1, g2, g3, g4, g5, g7, C_v486_8 _⟩
  unfold pA pB pC at G
  simp only [afterL_cons, afterL_nil] at G ⊢
  exact G

end Cert.GdnRefIdeal.Pre

end
-- ==== Proof.GdnRefCut.lean ====
/-
  The reference's chunks: where its cut, turned and transposed arrays find their entries in the arguments.
-/
module

public import proofs.«01_k».proof.Proof.GdnRefPre
public import proofs.«01_k».proof.Proof.GdnSpec

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value Cert.GdnMath

/-- Direction `d` of batch row `b` among the sixteen sequences. -/
def bd (d : Fin 2) (b : Fin 8) : Fin 16 := ⟨8 * d.val + b.val, by omega⟩

/-- An array's chunks by head. -/
def chunked (y : Cn S16x2048x12x128) : Cn S16x12x32x64x128 :=
  transpose S16x12x32x64x128 [0, 3, 1, 2, 4] (shapeCast S16x32x64x12x128 y shapeCasts_S16x2048x12x128_S16x32x64x12x128) transposes_S16x32x64x12x128_S16x12x32x64x128_0_3_1_2_4
/-- An array and its turned copy. -/
def twice (x : Cn S8x2048x12x128) : Cn S16x2048x12x128 :=
  concatenate S16x2048x12x128 0 [⟨S8x2048x12x128, x⟩, ⟨S8x2048x12x128, (Host.reverse [1] x : Cn S8x2048x12x128)⟩] concatenates_S8x2048x12x128_S8x2048x12x128_S16x2048x12x128_d0

variable (d : Fin 2) (b : Fin 8) (h : Fin 12) (n : Fin 32) (i j : Fin 64) (e : Fin 128)

theorem place_lt : (place d n.val i).val = if d = 0 then n.val * 64 + i.val else 2047 - (n.val * 64 + i.val) := by
  unfold place
  split
  · show (64 * n.val + i.val) % 2048 = _; omega
  · show 2047 - (64 * n.val + i.val) % 2048 = _; omega

theorem chunked_apply (y : Cn S16x2048x12x128) (c : Fin 16) : chunked y (ix5 c h n i e) = y (ix4 c ⟨n.val * 64 + i.val, by omega⟩ h e) := by
  unfold chunked
  pointwise

theorem twice_apply (x : Cn S8x2048x12x128) : twice x (ix4 (bd d b) ⟨n.val * 64 + i.val, by omega⟩ h e) = x (ix4 b (place d n.val i) h e) := by
  have hp := place_lt d n i
  unfold twice
  pointwise
  split
  · next h1 =>
    have h1' : 8 * d.val + b.val < 8 := h1
    have e0 : d = 0 := Fin.ext (by show d.val = 0; omega)
    subst e0
    rw [if_pos rfl] at hp
    congr 1
    refine congrArg₂ (fun u v => ix4 u v h e) (Fin.ext ?_) (Fin.ext ?_)
    · show 8 * 0 + b.val = b.val; omega
    · exact hp.symm
  · next h1 =>
    have h1' : ¬8 * d.val + b.val < 8 := h1
    have e0 : d = 1 := Fin.ext (by show d.val = 1; omega)
    subst e0
    rw [if_neg (by decide)] at hp
    simp only [List.mem_singleton, if_neg (by decide : ¬(0 : Fin 4) = 1), if_neg (by decide : ¬(2 : Fin 4) = 1), if_neg (by decide : ¬(3 : Fin 4) = 1), if_true]
    congr 1
    refine congrArg₂ (fun u v => ix4 u v h e) (Fin.ext ?_) (Fin.ext ?_)
    · show 8 * 1 + b.val - 8 = b.val; omega
    · refine (congrArg Fin.val (if_pos trivial)).trans ?_
      rw [hp]; show 2048 - (n.val * 64 + i.val + 1) = _; omega
theorem rq_eq (a0 : Cn S8x2048x4608) : rq a0 = chunked (twice (shapeCast S8x2048x12x128 (extractStridedSlice S8x2048x1536 ![0, 0, 0] a0 slices_S8x2048x4608_S8x2048x1536_0_0_0 : Cn S8x2048x1536) shapeCasts_S8x2048x1536_S8x2048x12x128)) := rfl
theorem rk_eq (a0 : Cn S8x2048x4608) : rk a0 = chunked (twice (shapeCast S8x2048x12x128 (extractStridedSlice S8x2048x1536 ![0, 0, 1536] a0 slices_S8x2048x4608_S8x2048x1536_0_0_1536 : Cn S8x2048x1536) shapeCasts_S8x2048x1536_S8x2048x12x128)) := rfl
theorem rv_eq (a0 : Cn S8x2048x4608) : rv a0 = chunked (twice (shapeCast S8x2048x12x128 (extractStridedSlice S8x2048x1536 ![0, 0, 3072] a0 slices_S8x2048x4608_S8x2048x1536_0_0_3072 : Cn S8x2048x1536) shapeCasts_S8x2048x1536_S8x2048x12x128)) := rfl

theorem rq_apply (a0 : Cn S8x2048x4608) : rq a0 (ix5 (bd d b) h n i e) = qs a0 d b h n.val i e := by
  rw [rq_eq, chunked_apply, twice_apply]
  unfold qs
  generalize place d n.val i = p
  pointwise
  all_goals exact congrArg a0 (congrArg (ix3 b p) (Fin.ext (by dsimp only; omega)))
theorem rk_apply (a0 : Cn S8x2048x4608) : rk a0 (ix5 (bd d b) h n i e) = ks a0 d b h n.val i e := by
  rw [rk_eq, chunked_apply, twice_apply]
  unfold ks
  generalize place d n.val i = p
  pointwise
  all_goals exact congrArg a0 (congrArg (ix3 b p) (Fin.ext (by dsimp only; omega)))
theorem rv_apply (a0 : Cn S8x2048x4608) : rv a0 (ix5 (bd d b) h n i e) = vs a0 d b h n.val i e := by
  rw [rv_eq, chunked_apply, twice_apply]
  unfold vs
  generalize place d n.val i = p
  pointwise
  all_goals exact congrArg a0 (congrArg (ix3 b p) (Fin.ext (by dsimp only; omega)))

end Cert.GdnRefIdeal.Pre

end
-- ==== Proof.GdnRefRead.lean ====
/-
  What the reference's arrays before its loop read, entry by entry.
-/
module

public import proofs.«01_k».proof.Proof.GdnRefCut

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value Cert.GdnMath

/-- Choosing by a mask of rows at or past columns. -/
theorem choose_ge {α : Type} (i j : Fin 64) (x y : α) :
    Scalar.select (IntOp.cmpi .sge (BitVec.ofNat 32 i.val) (BitVec.ofNat 32 j.val)) x y = if j ≤ i then x else y := by
  have key : ∀ i j : Fin 64, IntOp.cmpi .sge (BitVec.ofNat 32 i.val) (BitVec.ofNat 32 j.val) = if j ≤ i then 1#1 else 0#1 := by decide +kernel
  rw [key]; split <;> rfl
/-- Choosing by a mask of rows past columns. -/
theorem choose_gt {α : Type} (i j : Fin 64) (x y : α) :
    Scalar.select (IntOp.cmpi .sgt (BitVec.ofNat 32 i.val) (BitVec.ofNat 32 j.val)) x y = if j < i then x else y := by
  have key : ∀ i j : Fin 64, IntOp.cmpi .sgt (BitVec.ofNat 32 i.val) (BitVec.ofNat 32 j.val) = if j < i then 1#1 else 0#1 := by decide +kernel
  rw [key]; split <;> rfl
/-- Choosing by a mask of one row or the diagonal. -/
theorem choose_eq {α : Type} (i j : Fin 64) (x y : α) :
    Scalar.select (IntOp.cmpi .eq (BitVec.ofNat 32 i.val) (BitVec.ofNat 32 j.val)) x y = if i = j then x else y := by
  have key : ∀ i j : Fin 64, IntOp.cmpi .eq (BitVec.ofNat 32 i.val) (BitVec.ofNat 32 j.val) = if i = j then 1#1 else 0#1 := by decide +kernel
  rw [key]; split <;> rfl

variable (c : Fin 16) (h : Fin 12) (n : Fin 32) (i j : Fin 64) (e f : Fin 128)

theorem rd_apply (g : Cn S16x12x32x64) :
    rd g (ix5 c h n i j) = Ideal.exp (if j ≤ i then g (ix4 c h n i) - g (ix4 c h n j) else ⊥) := by
  unfold rd rincl
  pointwise
  rw [choose_ge]
  have hb : Ideal.ofBits .f32 0xFF800000#32 = ⊥ := by simp [Ideal.ofBits, Ideal.ieee]
  have hb' : (id (constant (F := Ideal) S_ .f32 0xFF800000#32) : Cn S_) ix0 = ⊥ := hb
  first | rw [hb'] | rw [← hb]

theorem rkb_apply (k : Cn S16x12x32x64x128) (b : Cn S16x12x32x64) :
    rkb k b (ix5 c h n i e) = k (ix5 c h n i e) * b (ix4 c h n i) := by
  unfold rkb
  pointwise
theorem rvb_apply (k : Cn S16x12x32x64x128) (b : Cn S16x12x32x64) :
    rvb k b (ix5 c h n i e) = k (ix5 c h n i e) * b (ix4 c h n i) := by
  unfold rvb
  pointwise

theorem rl_apply (kb k : Cn S16x12x32x64x128) (dc : Cn S16x12x32x64x64) :
    rl kb k dc (ix5 c h n i j) = if j < i then (∑ x, kb (ix5 c h n i x) * k (ix5 c h n j x)) * dc (ix5 c h n i j) else 0 := by
  unfold rl
  pointwise
  rw [choose_gt]
  have hb' : (id (constant (F := Ideal) S_ .f32 0x00000000#32) : Cn S_) ix0 = 0 := Ideal.ofBits_zero_f32
  rw [hb']

theorem reye_apply : reye (ix5 c h n i j) = if i = j then 1 else 0 := by
  unfold reye
  pointwise
  rw [choose_eq]

theorem rstep_apply (l t : Cn S16x12x32x64x64) (r : Fin 64) :
    rstep rrow l reye (BitVec.ofNat 32 r.val) t (ix5 c h n i j)
      = if i = r then (if i = j then 1 else 0) - ∑ x, l (ix5 c h n i x) * t (ix5 c h n x j) else t (ix5 c h n i j) := by
  rw [← reye_apply c h n i j]
  generalize reye = y
  unfold rstep rrow
  simp only [id_eq]
  pointwise
  rw [choose_eq]

theorem ru_apply (t : Cn S16x12x32x64x64) (vb : Cn S16x12x32x64x128) :
    ru t vb (ix5 n c h i e) = ∑ x, t (ix5 c h n i x) * vb (ix5 c h n x e) := by
  unfold ru
  simp only [id_eq]
  pointwise

theorem rw'_apply (t : Cn S16x12x32x64x64) (kb : Cn S16x12x32x64x128) (g : Cn S16x12x32x64) :
    rw' t kb g (ix5 n c h i e) = ∑ x, t (ix5 c h n i x) * (kb (ix5 c h n x e) * Ideal.exp (g (ix4 c h n x))) := by
  unfold rw'
  simp only [id_eq]
  pointwise

theorem rqg_apply (q : Cn S16x12x32x64x128) (g : Cn S16x12x32x64) :
    rqg q g (ix5 n c h i e) = q (ix5 c h n i e) * Ideal.exp (g (ix4 c h n i)) := by
  unfold rqg
  simp only [id_eq]
  pointwise

theorem ratt_apply (q k : Cn S16x12x32x64x128) (dc : Cn S16x12x32x64x64) :
    ratt q k dc (ix5 n c h i j) = if j ≤ i then (∑ x, q (ix5 c h n i x) * k (ix5 c h n j x)) * dc (ix5 c h n i j) else 0 := by
  have hb' : (id (constant (F := Ideal) S_ .f32 0x00000000#32) : Cn S_) ix0 = 0 := Ideal.ofBits_zero_f32
  unfold ratt rincl
  simp only [id_eq]
  pointwise
  rw [choose_ge]

theorem rgl_apply (g : Cn S16x12x32x64) : rgl g (ix5 n c h 0 0) = Ideal.exp (g (ix4 c h n ⟨63, by decide⟩)) := by
  unfold rgl
  simp only [id_eq]
  pointwise

theorem rkd_apply (k : Cn S16x12x32x64x128) (g : Cn S16x12x32x64) :
    rkd k g (ix5 n c h e i) = k (ix5 c h n i e) * Ideal.exp (g (ix4 c h n ⟨63, by decide⟩) - g (ix4 c h n i)) := by
  unfold rkd
  simp only [id_eq]
  pointwise

theorem ro0_apply : ro0 (ix5 n c h i e) = 0 := by
  unfold ro0
  simp only [id_eq]
  pointwise

theorem rs0_apply (d : Fin 2) (b : Fin 8) (a4 : Cn S2x8x12x128x128) : rs0 a4 (ix4 (bd d b) h f e) = a4 (ix5 d b h f e) := by
  unfold rs0
  simp only [id_eq]
  pointwise
  refine congrArg a4 (congrArg₂ (fun u v => ix5 u v h f e) (Fin.ext ?_) (Fin.ext ?_))
  · show (8 * d.val + b.val) / 8 = d.val; omega
  · show (8 * d.val + b.val) % 8 = b.val; omega

end Cert.GdnRefIdeal.Pre

end
-- ==== Proof.GdnRefGate.lean ====
/-
  The reference's gates: the step sizes and the decays' logarithms, entry by entry.
-/
module

public import proofs.«01_k».proof.Proof.GdnRefCut

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value Cert.GdnMath

/-- The gates' columns of both directions, the second turned. -/
def gates (a1 : Cn S8x2048x7168) : Cn S16x2048x24 :=
  concatenate S16x2048x24 0 [⟨S8x2048x24, (extractStridedSlice S8x2048x24 ![0, 0, 6656] a1 slices_S8x2048x7168_S8x2048x24_0_0_6656 : Cn S8x2048x24)⟩, ⟨S8x2048x24, (Host.reverse [1] (extractStridedSlice S8x2048x24 ![0, 0, 6784] a1 slices_S8x2048x7168_S8x2048x24_0_0_6784 : Cn S8x2048x24) : Cn S8x2048x24)⟩] concatenates_S8x2048x24_S8x2048x24_S16x2048x24_d0

variable (d : Fin 2) (b : Fin 8) (h : Fin 12) (n : Fin 32) (i j : Fin 64)

theorem gates_apply (a1 : Cn S8x2048x7168) (c : Fin 24) :
    gates a1 (ix3 (bd d b) ⟨n.val * 64 + i.val, by omega⟩ c) = a1 (ix3 b (place d n.val i) ⟨6656 + 128 * d.val + c.val, by omega⟩) := by
  have hp := place_lt d n i
  unfold gates
  pointwise
  split
  · next h1 =>
    have h1' : 8 * d.val + b.val < 8 := h1
    have e0 : d = 0 := Fin.ext (by show d.val = 0; omega)
    subst e0
    rw [if_pos rfl] at hp
    congr 1
    have e1 : (⟨(bd 0 b).val, h1⟩ : Fin 8) = b := Fin.ext (by show 8 * 0 + b.val = b.val; omega)
    have e2 : (⟨n.val * 64 + i.val, by omega⟩ : Fin 2048) = place 0 n.val i := Fin.ext hp.symm
    exact congrArg₂ (fun u v => ix3 u v _) e1 e2
  · next h1 =>
    have h1' : ¬8 * d.val + b.val < 8 := h1
    have e0 : d = 1 := Fin.ext (by show d.val = 1; omega)
    subst e0
    rw [if_neg (by decide)] at hp
    simp only [List.mem_singleton, if_neg (by decide : ¬(0 : Fin 3) = 1), if_neg (by decide : ¬(2 : Fin 3) = 1), if_true]
    congr 1
    have e1 : (⟨(bd 1 b).val - 8, by omega⟩ : Fin 8) = b := Fin.ext (by show 8 * 1 + b.val - 8 = b.val; omega)
    have e2 : (⟨n.val * 64 + i.val, by omega⟩ : Fin 2048).rev = place 1 n.val i := Fin.ext (by rw [hp]; show 2048 - (n.val * 64 + i.val + 1) = _; omega)
    exact congrArg₂ (fun u v => ix3 u v _) e1 e2

/-- The step sizes from the gates' columns. -/
def sizes (y : Cn S16x2048x24) : Cn S16x2048x12 :=
  Host.divf (F := Ideal) (φ := .f32) ((broadcastInDim S16x2048x12 ![] bcast_S_S16x2048x12 : Cn S_ → Cn S16x2048x12) (constant (F := Ideal) S_ .f32 0x3F800000#32)) (addf (F := Ideal) (φ := .f32) ((broadcastInDim S16x2048x12 ![] bcast_S_S16x2048x12 : Cn S_ → Cn S16x2048x12) (constant (F := Ideal) S_ .f32 0x3F800000#32)) (Host.exp (F := Ideal) (φ := .f32) (Host.negf (F := Ideal) (φ := .f32) (extractStridedSlice S16x2048x12 ![0, 0, 0] y slices_S16x2048x24_S16x2048x12_0_0_0 : Cn S16x2048x12))))

theorem rb0_eq (a1 : Cn S8x2048x7168) : rb0 a1 = sizes (gates a1) := rfl

theorem sizes_apply (y : Cn S16x2048x24) (c : Fin 16) (l : Fin 2048) : sizes y (ix3 c l h) = lgs (y (ix3 c l ⟨h.val, by omega⟩)) := by
  unfold sizes lgs
  pointwise

theorem rb1_apply (y : Cn S16x2048x12) (c : Fin 16) : rb1 y (ix4 c h n i) = y (ix3 c ⟨n.val * 64 + i.val, by omega⟩ h) := by
  unfold rb1
  pointwise

theorem rb_bs (a1 : Cn S8x2048x7168) : rb1 (rb0 a1) (ix4 (bd d b) h n i) = bs a1 d b h n.val i := by
  rw [rb1_apply, rb0_eq, sizes_apply, gates_apply]
  rfl

/-- The decays' columns and their bias. -/
def biased (y : Cn S16x2048x24) (a3 : Cn S2x12) : Cn S16x2048x12 :=
  addf (F := Ideal) (φ := .f32) (extractStridedSlice S16x2048x12 ![0, 0, 12] y slices_S16x2048x24_S16x2048x12_0_0_12 : Cn S16x2048x12) (shapeCast S16x2048x12 ((broadcastInDim S2x8x2048x12 ![0, 1, 2, 3] bcast_S2x1x1x12_S2x8x2048x12_0_1_2_3 : Cn S2x1x1x12 → Cn S2x8x2048x12) ((broadcastInDim S2x1x1x12 ![0, 3] bcast_S2x12_S2x1x1x12_0_3 : Cn S2x12 → Cn S2x1x1x12) a3)) shapeCasts_S2x8x2048x12_S16x2048x12 : Cn S16x2048x12)

theorem rx_eq (a1 : Cn S8x2048x7168) (a3 : Cn S2x12) : rx a1 a3 = biased (gates a1) a3 := rfl

theorem half : (⟨(bd d b).val / 8, by omega⟩ : Fin 2) = d := Fin.ext (by show (8 * d.val + b.val) / 8 = d.val; omega)

theorem biased_apply (y : Cn S16x2048x24) (a3 : Cn S2x12) (l : Fin 2048) :
    biased y a3 (ix3 (bd d b) l h) = y (ix3 (bd d b) l ⟨12 + h.val, by omega⟩) + a3 (ix2 d h) := by
  have hh := half d b
  unfold biased
  pointwise
  exact congrArg (fun u => _ + a3 (ix2 u h)) hh

theorem rsp_apply (x : Cn S16x2048x12) (c : Fin 16) (l : Fin 2048) : rsp x (ix3 c l h) = sp (x (ix3 c l h)) := by
  unfold rsp sp
  pointwise
  rw [if_neg (fun h => h rfl)]
  rfl

theorem rg_apply (a2 : Cn S2x12) (y : Cn S16x2048x12) :
    rg a2 y (ix4 (bd d b) h n i) = -Ideal.exp (a2 (ix2 d h)) * y (ix3 (bd d b) ⟨n.val * 64 + i.val, by omega⟩ h) := by
  have hh := half d b
  unfold rg
  pointwise
  exact congrArg (fun u => -Ideal.exp (a2 (ix2 u h)) * _) hh

theorem rg_gs (a1 : Cn S8x2048x7168) (a2 a3 : Cn S2x12) :
    rg a2 (rsp (rx a1 a3)) (ix4 (bd d b) h n i) = gs a1 a2 a3 d b h n.val i := by
  rw [rg_apply, rsp_apply, rx_eq, biased_apply, gates_apply]
  rfl

end Cert.GdnRefIdeal.Pre

end
-- ==== Proof.GdnRefSums.lean ====
/-
  The reference's running sums inside a chunk.
-/
module

public import proofs.«01_k».proof.Proof.GdnRefPre
public import Idealize.ShloMosaic.Lib.Pointwise

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value

/-- Adding up a list from the left. -/
theorem foldl_sum {α : Type} (T : α → EReal) (l : List α) (a : EReal) : l.foldl (fun r n => r + T n) a = a + (l.map T).sum := by
  induction l generalizing a with
  | nil => simp
  | cons x l ih => rw [List.foldl_cons, ih, List.map_cons, List.sum_cons, add_assoc]

/-- The window: a whole chunk. -/
abbrev wd : Shape := ⟨4, ![1, 1, 1, 64]⟩

/-- Where the window's place `w` falls when it ends at `y`. -/
def spot (y : S16x12x32x64.Idx) (w : wd.Idx) (a : Fin 4) : ℕ := (y a).val * (![1, 1, 1, 1] : Fin 4 → ℕ) a + (w a).val

open Classical in
/-- What the window's place `w` holds. -/
def seen (g : Cn S16x12x32x64) (v : EReal) (y : S16x12x32x64.Idx) (w : wd.Idx) : EReal :=
  if hin : ∀ a : Fin 4, (![0, 0, 0, 63] : Fin 4 → ℕ) a ≤ spot y w a ∧ spot y w a - (![0, 0, 0, 63] : Fin 4 → ℕ) a < S16x12x32x64.size a then
    g (fun a => ⟨spot y w a - (![0, 0, 0, 63] : Fin 4 → ℕ) a, (hin a).2⟩) else v

theorem rc_fold (g : Cn S16x12x32x64) (y : S16x12x32x64.Idx) :
    rc g y = (List.finRange wd.numel).foldl (fun r q => r + seen g (Ideal.ofBits .f32 0x00000000#32) y (wd.rowMajor.symm q)) (Ideal.ofBits .f32 0x00000000#32) := by
  unfold rc
  show Host.reduceWindow (s := S16x12x32x64) (t := S16x12x32x64) (u := S_) (fun a b : EReal => a + b) ![1, 1, 1, 64] ![1, 1, 1, 1] ![0, 0, 0, 63] ![0, 0, 0, 0] g (fun _ => Ideal.ofBits .f32 0x00000000#32) reduceWindows_S16x12x32x64_S16x12x32x64_w1s1p0_0_w1s1p0_0_w1s1p0_0_w64s1p63_0 h_S_ y = _
  unfold Host.reduceWindow
  refine congrArg (fun F => List.foldl F _ _) (funext fun r => funext fun q => ?_)
  refine congrArg (r + ·) ?_
  unfold seen
  split <;> split
  · rfl
  · next h1 h2 => exact absurd h1 h2
  · next h1 h2 => exact absurd h2 h1
  · rfl

/-- The window's places by their last coordinate. -/
def places : Fin 64 ≃ wd.Idx where
  toFun k := ix4 (0 : Fin 1) (0 : Fin 1) (0 : Fin 1) k
  invFun w := w 3
  left_inv k := rfl
  right_inv w := by
    funext a
    match a with
    | ⟨0, _⟩ => exact Subsingleton.elim (α := Fin 1) _ _
    | ⟨1, _⟩ => exact Subsingleton.elim (α := Fin 1) _ _
    | ⟨2, _⟩ => exact Subsingleton.elim (α := Fin 1) _ _
    | ⟨3, _⟩ => rfl

theorem rc_apply (g : Cn S16x12x32x64) (c : Fin 16) (h : Fin 12) (n : Fin 32) (i : Fin 64) :
    rc g (ix4 c h n i) = ∑ j, if j ≤ i then g (ix4 c h n j) else 0 := by
  rw [rc_fold, Ideal.ofBits_zero_f32, foldl_sum, zero_add, ← Fin.sum_univ_def]
  rw [Equiv.sum_comp wd.rowMajor.symm (fun w => seen g 0 (ix4 c h n i) w), ← Equiv.sum_comp places]
  refine Fintype.sum_equiv (Equiv.addRight (i + 1)) _ _ fun k => ?_
  have hk := k.isLt
  have hi := i.isLt
  have hs : ((Equiv.addRight (i + 1)) k).val = (k.val + (i.val + 1) % 64) % 64 := by
    show (k + (i + 1)).val = _
    rw [Fin.val_add, Fin.val_add]; rfl
  generalize (Equiv.addRight (i + 1)) k = j at hs
  unfold seen
  split
  · next hin =>
    have h3 : 63 ≤ i.val * 1 + k.val ∧ i.val * 1 + k.val - 63 < 64 := hin 3
    have hj : j.val = i.val + k.val - 63 := by omega
    rw [if_pos (show j ≤ i by rw [Fin.le_def]; omega)]
    refine congrArg g (funext fun a => Fin.ext ?_)
    match a with
    | ⟨0, _⟩ => show c.val * 1 + 0 - 0 = c.val; omega
    | ⟨1, _⟩ => show h.val * 1 + 0 - 0 = h.val; omega
    | ⟨2, _⟩ => show n.val * 1 + 0 - 0 = n.val; omega
    | ⟨3, _⟩ => show i.val * 1 + k.val - 63 = j.val; omega
  · next hin =>
    rw [if_neg]
    intro hle
    rw [Fin.le_def] at hle
    refine hin fun a => ?_
    match a with
    | ⟨0, _⟩ => show 0 ≤ c.val * 1 + 0 ∧ c.val * 1 + 0 - 0 < 16; omega
    | ⟨1, _⟩ => show 0 ≤ h.val * 1 + 0 ∧ h.val * 1 + 0 - 0 < 12; omega
    | ⟨2, _⟩ => show 0 ≤ n.val * 1 + 0 ∧ n.val * 1 + 0 - 0 < 32; omega
    | ⟨3, _⟩ => show 63 ≤ i.val * 1 + k.val ∧ i.val * 1 + k.val - 63 < 64; omega

end Cert.GdnRefIdeal.Pre

end
-- ==== Proof.GdnRefStart.lean ====
/-
  What the reference's loop starts from is the gated delta rule's chunks: the writes, the reads and the decays of
  every chunk, for each direction, batch row and head.
-/
module

public import proofs.«01_k».proof.Proof.GdnRefRead
public import proofs.«01_k».proof.Proof.GdnRefGate
public import proofs.«01_k».proof.Proof.GdnRefSums

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value Cert.GdnMath

variable (a0 : Cn S8x2048x4608) (a1 : Cn S8x2048x7168) (a2 a3 : Cn S2x12) (a4 : Cn S2x8x12x128x128)
variable (d : Fin 2) (b : Fin 8) (h : Fin 12) (n : Fin 32) (i j : Fin 64) (e f : Fin 128)

/-- The decays' running sums. -/
abbrev rcs : Cn S16x12x32x64 := rc (rg a2 (rsp (rx a1 a3)))
/-- The triangle, and the inverse its rows give. -/
abbrev rls : Cn S16x12x32x64x64 := rl (rkb (rk a0) (rb1 (rb0 a1))) (rk a0) (rd (rcs a1 a2 a3))
abbrev rts : Cn S16x12x32x64x64 := tri rrow (rls a0 a1 a2 a3) 63

theorem rcs_gc : rcs a1 a2 a3 (ix4 (bd d b) h n i) = gc (gs a1 a2 a3 d b h n.val) i := by
  rw [rcs, rc_apply]
  exact Finset.sum_congr rfl fun j _ => by rw [rg_gs]

theorem rcs_gt : rcs a1 a2 a3 (ix4 (bd d b) h n ⟨63, by decide⟩) = gt (gs a1 a2 a3 d b h n.val) := by
  rw [rcs_gc]
  exact Finset.sum_congr rfl fun j _ => if_pos (by rw [Fin.le_def]; show j.val ≤ 63; omega)

theorem rd_dec : rd (rcs a1 a2 a3) (ix5 (bd d b) h n i j) = dec (gs a1 a2 a3 d b h n.val) i j := by
  rw [rd_apply, rcs_gc, rcs_gc]
  rfl

theorem rkb_kb : rkb (rk a0) (rb1 (rb0 a1)) (ix5 (bd d b) h n i e) = ks a0 d b h n.val i e * bs a1 d b h n.val i := by
  rw [rkb_apply, rk_apply, rb_bs]

theorem rls_lm : rls a0 a1 a2 a3 (ix5 (bd d b) h n i j) = lm (ks a0 d b h n.val) (bs a1 d b h n.val) (gs a1 a2 a3 d b h n.val) i j := by
  rw [rls, rl_apply, rd_dec]
  unfold lm
  split
  · refine congrArg (· * _) (Finset.sum_congr rfl fun x _ => ?_)
    rw [rkb_kb, rk_apply]
  · rfl

theorem tri_subst (r : ℕ) (hr : r ≤ 63) (i j : Fin 64) : tri rrow (rls a0 a1 a2 a3) r (ix5 (bd d b) h n i j)
    = subst (lm (ks a0 d b h n.val) (bs a1 d b h n.val) (gs a1 a2 a3 d b h n.val)) r i j := by
  induction r generalizing i j with
  | zero => exact reye_apply _ _ _ i j
  | succ r ih =>
    rw [tri_succ]
    refine (rstep_apply (bd d b) h n i j _ _ ⟨r + 1, by omega⟩).trans ?_
    show _ = sub1 _ (r + 1) (subst _ r) i j
    unfold sub1
    by_cases hi : i.val = r + 1
    · rw [if_pos (Fin.ext hi), if_pos hi]
      refine congrArg (_ - ·) (Finset.sum_congr rfl fun x _ => ?_)
      rw [rls_lm, ih (by omega)]
    · rw [if_neg (fun hc => hi (congrArg Fin.val hc)), if_neg hi]
      exact ih (by omega) i j

variable {a0 a1 a2 a3} (hf : Fine a0)
include hf

theorem rts_ti : rts a0 a1 a2 a3 (ix5 (bd d b) h n i j) = ti (ks a0 d b h n.val) (bs a1 d b h n.val) (gs a1 a2 a3 d b h n.val) i j :=
  (tri_subst a0 a1 a2 a3 d b h n 63 le_rfl i j).trans (subst_ti _ _ _ (hf.ks d b h _) (bs_real d b h _) (gs_ne_top d b h _) i j)

theorem ru_uu : ru (rts a0 a1 a2 a3) (rvb (rv a0) (rb1 (rb0 a1))) (ix5 n (bd d b) h i e)
    = uu (ks a0 d b h n.val) (vs a0 d b h n.val) (bs a1 d b h n.val) (gs a1 a2 a3 d b h n.val) i e := by
  rw [ru_apply]
  exact Finset.sum_congr rfl fun x _ => by rw [rts_ti d b h n i x hf, rvb_apply, rv_apply, rb_bs]

theorem rw_ww : rw' (rts a0 a1 a2 a3) (rkb (rk a0) (rb1 (rb0 a1))) (rcs a1 a2 a3) (ix5 n (bd d b) h i e)
    = ww (ks a0 d b h n.val) (bs a1 d b h n.val) (gs a1 a2 a3 d b h n.val) i e := by
  rw [rw'_apply]
  exact Finset.sum_congr rfl fun x _ => by rw [rts_ti d b h n i x hf, rkb_kb, rcs_gc]

omit hf

theorem rqg_q : rqg (rq a0) (rcs a1 a2 a3) (ix5 n (bd d b) h i e)
    = qs a0 d b h n.val i e * Ideal.exp (gc (gs a1 a2 a3 d b h n.val) i) := by
  rw [rqg_apply, rq_apply, rcs_gc]

theorem ratt_att : ratt (rq a0) (rk a0) (rd (rcs a1 a2 a3)) (ix5 n (bd d b) h i j)
    = att (qs a0 d b h n.val) (ks a0 d b h n.val) (gs a1 a2 a3 d b h n.val) i j := by
  rw [ratt_apply, rd_dec]
  unfold att
  split
  · refine congrArg (· * _) (Finset.sum_congr rfl fun x _ => ?_)
    rw [rq_apply, rk_apply]
  · rfl

theorem rgl_gt : rgl (rcs a1 a2 a3) (ix5 n (bd d b) h 0 0) = Ideal.exp (gt (gs a1 a2 a3 d b h n.val)) := by
  rw [rgl_apply, rcs_gt]

theorem rkd_k : rkd (rk a0) (rcs a1 a2 a3) (ix5 n (bd d b) h e i)
    = ks a0 d b h n.val i e * Ideal.exp (gt (gs a1 a2 a3 d b h n.val) - gc (gs a1 a2 a3 d b h n.val) i) := by
  rw [rkd_apply, rk_apply, rcs_gt, rcs_gc]

end Cert.GdnRefIdeal.Pre

end
-- ==== Proof.GdnRefSlab.lean ====
/-
  What one pass of the reference's loop reads: a chunk of each carried array, and the products made of them.
-/
module

public import proofs.«01_k».proof.Proof.GdnRefCut
public import Idealize.ShloMosaic.Lib.DynamicIndex

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value Cert.GdnMath

/-- Where a pass starts in the arrays: its own chunk. -/
abbrev begins (t : Ci S_) : Fin 5 → Int :=
  fun k => ((![t, constantI S_ 32 0#32, constantI S_ 32 0#32, constantI S_ 32 0#32, constantI S_ 32 0#32] : Fin 5 → Ci S_) k (Shape.Idx.first h_S_)).toInt

theorem begins_at (t : Ci S_) (k : Fin 32) (ht : t = fun _ => BitVec.ofNat 32 k.val) (a : Fin 5) :
    begins t a = ((![k.val, 0, 0, 0, 0] : Fin 5 → ℕ) a : Int) := by
  subst ht
  match a with
  | ⟨0, _⟩ => exact toInt_ofNat_of_lt (by have := k.isLt; omega)
  | ⟨1, _⟩ => rfl
  | ⟨2, _⟩ => rfl
  | ⟨3, _⟩ => rfl
  | ⟨4, _⟩ => rfl

variable (t : Ci S_) (k : Fin 32) (ht : t = fun _ => BitVec.ofNat 32 k.val) (c : Fin 16) (h : Fin 12) (i j : Fin 64) (e f : Fin 128)
include ht

theorem slab (x : Cn S32x16x12x64x128) :
    (shapeCast S16x12x64x128 (Host.dynamicSlice S1x16x12x64x128 x (begins t) sliceFits_S32x16x12x64x128_S1x16x12x64x128) shapeCasts_S1x16x12x64x128_S16x12x64x128 : Cn S16x12x64x128) (ix4 c h i e)
      = x (ix5 k c h i e) := by
  have hk : ∀ a : Fin 5, (![k.val, 0, 0, 0, 0] : Fin 5 → ℕ) a + S1x16x12x64x128.size a ≤ S32x16x12x64x128.size a := by
    intro a
    have := k.isLt
    match a with
    | ⟨0, _⟩ => show k.val + 1 ≤ 32; omega
    | ⟨1, _⟩ => show 0 + 16 ≤ 16; omega
    | ⟨2, _⟩ => show 0 + 12 ≤ 12; omega
    | ⟨3, _⟩ => show 0 + 64 ≤ 64; omega
    | ⟨4, _⟩ => show 0 + 128 ≤ 128; omega
  rw [Host.dynamicSlice_eq_extractStridedSlice S1x16x12x64x128 x _ ![k.val, 0, 0, 0, 0] _ ⟨rfl, hk⟩ (begins_at t k ht)]
  pointwise
  all_goals first | rfl | exact congrArg x (congrArg (fun u => ix5 u c h i e) (Fin.ext (by dsimp only; omega)))

theorem slab_att (x : Cn S32x16x12x64x64) :
    (shapeCast S16x12x64x64 (Host.dynamicSlice S1x16x12x64x64 x (begins t) sliceFits_S32x16x12x64x64_S1x16x12x64x64) shapeCasts_S1x16x12x64x64_S16x12x64x64 : Cn S16x12x64x64) (ix4 c h i j)
      = x (ix5 k c h i j) := by
  have hk : ∀ a : Fin 5, (![k.val, 0, 0, 0, 0] : Fin 5 → ℕ) a + S1x16x12x64x64.size a ≤ S32x16x12x64x64.size a := by
    intro a
    have := k.isLt
    match a with
    | ⟨0, _⟩ => show k.val + 1 ≤ 32; omega
    | ⟨1, _⟩ => show 0 + 16 ≤ 16; omega
    | ⟨2, _⟩ => show 0 + 12 ≤ 12; omega
    | ⟨3, _⟩ => show 0 + 64 ≤ 64; omega
    | ⟨4, _⟩ => show 0 + 64 ≤ 64; omega
  rw [Host.dynamicSlice_eq_extractStridedSlice S1x16x12x64x64 x _ ![k.val, 0, 0, 0, 0] _ ⟨rfl, hk⟩ (begins_at t k ht)]
  pointwise
  all_goals first | rfl | exact congrArg x (congrArg (fun u => ix5 u c h i j) (Fin.ext (by dsimp only; omega)))

theorem slab_keys (x : Cn S32x16x12x128x64) :
    (shapeCast S16x12x128x64 (Host.dynamicSlice S1x16x12x128x64 x (begins t) sliceFits_S32x16x12x128x64_S1x16x12x128x64) shapeCasts_S1x16x12x128x64_S16x12x128x64 : Cn S16x12x128x64) (ix4 c h e i)
      = x (ix5 k c h e i) := by
  have hk : ∀ a : Fin 5, (![k.val, 0, 0, 0, 0] : Fin 5 → ℕ) a + S1x16x12x128x64.size a ≤ S32x16x12x128x64.size a := by
    intro a
    have := k.isLt
    match a with
    | ⟨0, _⟩ => show k.val + 1 ≤ 32; omega
    | ⟨1, _⟩ => show 0 + 16 ≤ 16; omega
    | ⟨2, _⟩ => show 0 + 12 ≤ 12; omega
    | ⟨3, _⟩ => show 0 + 128 ≤ 128; omega
    | ⟨4, _⟩ => show 0 + 64 ≤ 64; omega
  rw [Host.dynamicSlice_eq_extractStridedSlice S1x16x12x128x64 x _ ![k.val, 0, 0, 0, 0] _ ⟨rfl, hk⟩ (begins_at t k ht)]
  pointwise
  all_goals first | rfl | exact congrArg x (congrArg (fun u => ix5 u c h e i) (Fin.ext (by dsimp only; omega)))

theorem slab_decay (x : Cn S32x16x12x1x1) :
    (shapeCast S16x12x1x1 (Host.dynamicSlice S1x16x12x1x1 x (begins t) sliceFits_S32x16x12x1x1_S1x16x12x1x1) shapeCasts_S1x16x12x1x1_S16x12x1x1 : Cn S16x12x1x1) (ix4 c h 0 0)
      = x (ix5 k c h 0 0) := by
  have hk : ∀ a : Fin 5, (![k.val, 0, 0, 0, 0] : Fin 5 → ℕ) a + S1x16x12x1x1.size a ≤ S32x16x12x1x1.size a := by
    intro a
    have := k.isLt
    match a with
    | ⟨0, _⟩ => show k.val + 1 ≤ 32; omega
    | ⟨1, _⟩ => show 0 + 16 ≤ 16; omega
    | ⟨2, _⟩ => show 0 + 12 ≤ 12; omega
    | ⟨3, _⟩ => show 0 + 1 ≤ 1; omega
    | ⟨4, _⟩ => show 0 + 1 ≤ 1; omega
  rw [Host.dynamicSlice_eq_extractStridedSlice S1x16x12x1x1 x _ ![k.val, 0, 0, 0, 0] _ ⟨rfl, hk⟩ (begins_at t k ht)]
  pointwise
  all_goals first | rfl | exact congrArg x (congrArg (fun u => ix5 u c h 0 0) (Fin.ext (by dsimp only; omega)))

/-- A pass writes its own chunk and leaves the others. -/
theorem put_at (x : Cn S32x16x12x64x128) (y : Cn S1x16x12x64x128) :
    Host.dynamicUpdateSlice x y (begins t) updateFits_S32x16x12x64x128_S1x16x12x64x128 (ix5 k c h i e) = y (ix5 0 c h i e) := by
  have hs : ∀ a, Host.clampedStart S32x16x12x64x128 S1x16x12x64x128 rfl (begins t) a = (![k.val, 0, 0, 0, 0] : Fin 5 → ℕ) a := by
    intro a
    refine Host.clampedStart_of_le _ _ a _ (begins_at t k ht a) ?_
    have := k.isLt
    match a with
    | ⟨0, _⟩ => show k.val + 1 ≤ 32; omega
    | ⟨1, _⟩ => show 0 + 16 ≤ 16; omega
    | ⟨2, _⟩ => show 0 + 12 ≤ 12; omega
    | ⟨3, _⟩ => show 0 + 64 ≤ 64; omega
    | ⟨4, _⟩ => show 0 + 128 ≤ 128; omega
  rw [Host.dynamicUpdateSlice_apply, dif_pos]
  · rw [Shape.Idx.norm_def]
    refine congrArg y (funext fun a => Fin.ext ?_)
    refine (congrArg (_ - ·) (hs a)).trans ?_
    match a with
    | ⟨0, _⟩ => show k.val - k.val = 0; omega
    | ⟨1, _⟩ => rfl
    | ⟨2, _⟩ => rfl
    | ⟨3, _⟩ => rfl
    | ⟨4, _⟩ => rfl
  · intro a
    have h1 := hs a
    refine ⟨le_of_eq_of_le h1 ?_, lt_of_lt_of_eq ?_ (congrArg (· + _) h1.symm)⟩
    · match a with
      | ⟨0, _⟩ => exact le_refl k.val
      | ⟨1, _⟩ => exact Nat.zero_le _
      | ⟨2, _⟩ => exact Nat.zero_le _
      | ⟨3, _⟩ => exact Nat.zero_le _
      | ⟨4, _⟩ => exact Nat.zero_le _
    · match a with
      | ⟨0, _⟩ => show k.val < k.val + 1; omega
      | ⟨1, _⟩ => show c.val < 0 + 16; omega
      | ⟨2, _⟩ => show h.val < 0 + 12; omega
      | ⟨3, _⟩ => show i.val < 0 + 64; omega
      | ⟨4, _⟩ => show e.val < 0 + 128; omega

theorem put_off (x : Cn S32x16x12x64x128) (y : Cn S1x16x12x64x128) (n : Fin 32) (hn : n ≠ k) :
    Host.dynamicUpdateSlice x y (begins t) updateFits_S32x16x12x64x128_S1x16x12x64x128 (ix5 n c h i e) = x (ix5 n c h i e) := by
  have h0 : Host.clampedStart S32x16x12x64x128 S1x16x12x64x128 rfl (begins t) (0 : Fin 5) = k.val :=
    Host.clampedStart_of_le _ _ _ _ (begins_at t k ht 0) (by have := k.isLt; show k.val + 1 ≤ 32; omega)
  rw [Host.dynamicUpdateSlice_apply, dif_neg]
  intro hin
  have h1 : Host.clampedStart S32x16x12x64x128 S1x16x12x64x128 rfl (begins t) (0 : Fin 5) ≤ n.val
    ∧ n.val < Host.clampedStart S32x16x12x64x128 S1x16x12x64x128 rfl (begins t) (0 : Fin 5) + 1 := hin 0
  rw [h0] at h1
  exact hn (Fin.ext (by omega))

omit ht

/-- A pass's products. -/
theorem res_read (u w : Cn S16x12x64x128) (s : Cn S16x12x128x128) :
    subf (F := Ideal) (φ := .f32) u (Host.dotGeneral (F := Ideal) (φ₁ := .f32) (φ₂ := .f32) dot_S16x12x64x128_S16x12x128x128_S16x12x64x128_3_2_2_3_01_01 none w s) (ix4 c h i e)
      = u (ix4 c h i e) - ∑ f, w (ix4 c h i f) * s (ix4 c h f e) := by
  pointwise

theorem state_read (s : Cn S16x12x128x128) (g : Cn S16x12x1x1) (kd : Cn S16x12x128x64) (v : Cn S16x12x64x128) :
    addf (F := Ideal) (φ := .f32) (mulf (F := Ideal) (φ := .f32) s (broadcastInDim S16x12x128x128 ![0, 1, 2, 3] bcast_S16x12x1x1_S16x12x128x128_0_1_2_3 g : Cn S16x12x128x128))
        (Host.dotGeneral (F := Ideal) (φ₁ := .f32) (φ₂ := .f32) dot_S16x12x128x64_S16x12x64x128_S16x12x128x128_3_2_2_3_01_01 none kd v) (ix4 c h f e)
      = s (ix4 c h f e) * g (ix4 c h 0 0) + ∑ i, kd (ix4 c h f i) * v (ix4 c h i e) := by
  pointwise

theorem out_read (q : Cn S16x12x64x128) (s : Cn S16x12x128x128) (a : Cn S16x12x64x64) (v : Cn S16x12x64x128) :
    (broadcastInDim S1x16x12x64x128 ![1, 2, 3, 4] bcast_S16x12x64x128_S1x16x12x64x128_1_2_3_4
        (addf (F := Ideal) (φ := .f32) (Host.dotGeneral (F := Ideal) (φ₁ := .f32) (φ₂ := .f32) dot_S16x12x64x128_S16x12x128x128_S16x12x64x128_3_2_2_3_01_01 none q s)
          (Host.dotGeneral (F := Ideal) (φ₁ := .f32) (φ₂ := .f32) dot_S16x12x64x64_S16x12x64x128_S16x12x64x128_3_2_2_3_01_01 none a v)) : Cn S1x16x12x64x128) (ix5 0 c h i e)
      = (∑ f, q (ix4 c h i f) * s (ix4 c h f e)) + ∑ j, a (ix4 c h i j) * v (ix4 c h j e) := by
  pointwise

end Cert.GdnRefIdeal.Pre

end
-- ==== Proof.GdnRefLoop.lean ====
/-
  The reference's loop: pass by pass it holds the gated delta rule's states and outputs, and its results are the whole
  output and the last state.
-/
module

public import proofs.«01_k».proof.Proof.GdnRefEntry
public import proofs.«01_k».proof.Proof.GdnRefStart
public import proofs.«01_k».proof.Proof.GdnRefSlab

@[expose] public section

set_option maxRecDepth 16384

noncomputable section

namespace Cert.GdnRefIdeal.Pre

open Idealize.ShloMosaic Idealize.ShloMosaic.TcCoe Idealize.ShloMosaic.StableHlo Idealize.SL.Sem
open Cert.GdnRefIdeal Cert.GdnRefIdeal.Gen Cert.GdnRefIdeal.Value Cert.GdnMath

variable (a0 : Cn S8x2048x4608) (a1 : Cn S8x2048x7168) (a2 a3 : Cn S2x12) (a4 : Cn S2x8x12x128x128)

/-- What the loop holds before pass `k`. -/
structure Held (k : ℕ) (V : Valuation τ sig (Elt Ideal)) : Prop where
  v0 : V (Proc.devRef .tc main_v486_0) = ru (rts a0 a1 a2 a3) (rvb (rv a0) (rb1 (rb0 a1)))
  v1 : V (Proc.devRef .tc main_v486_1) = rw' (rts a0 a1 a2 a3) (rkb (rk a0) (rb1 (rb0 a1))) (rcs a1 a2 a3)
  v2 : V (Proc.devRef .tc main_v486_2) = rqg (rq a0) (rcs a1 a2 a3)
  v3 : V (Proc.devRef .tc main_v486_3) = ratt (rq a0) (rk a0) (rd (rcs a1 a2 a3))
  v4 : V (Proc.devRef .tc main_v486_4) = rgl (rcs a1 a2 a3)
  v5 : V (Proc.devRef .tc main_v486_5) = rkd (rk a0) (rcs a1 a2 a3)
  v6 : V (Proc.devRef .tc main_v486_6) = fun _ => BitVec.ofNat 32 k
  v7 : ∀ (d : Fin 2) (b : Fin 8) (h : Fin 12) (f e : Fin 128),
    (V (Proc.devRef .tc main_v486_7) : Cn S16x12x128x128) (ix4 (bd d b) h f e) = st a0 a1 a2 a3 a4 d b h k f e
  v8 : ∀ (n : Fin 32) (d : Fin 2) (b : Fin 8) (h : Fin 12) (i : Fin 64) (e : Fin 128), n.val < k →
    (V (Proc.devRef .tc main_v486_8) : Cn S32x16x12x64x128) (ix5 n (bd d b) h i e) = ou a0 a1 a2 a3 a4 d b h n.val i e

variable {a0 a1 a2 a3 a4} (hf : Fine a0) {k : Fin 32} {V : Valuation τ sig (Elt Ideal)} (H : Held a0 a1 a2 a3 a4 k.val V)
variable (d : Fin 2) (b : Fin 8) (h : Fin 12) (i j : Fin 64) (e f : Fin 128)
include hf H

theorem res_vn : (res_main_while0b_v502 V : Cn S16x12x64x128) (ix4 (bd d b) h i e)
    = vn (ks a0 d b h k.val) (vs a0 d b h k.val) (bs a1 d b h k.val) (gs a1 a2 a3 d b h k.val) (st a0 a1 a2 a3 a4 d b h k.val) i e := by
  unfold res_main_while0b_v502
  refine (res_read (bd d b) h i e _ _ _).trans ?_
  unfold vn
  refine congrArg₂ (· - ·) ?_ (Finset.sum_congr rfl fun f _ => congrArg₂ (· * ·) ?_ (H.v7 d b h f e))
  · refine (slab _ k H.v6 (bd d b) h i e _).trans ?_
    rw [H.v0]
    exact ru_uu d b h k i e hf
  · refine (slab _ k H.v6 (bd d b) h i f _).trans ?_
    rw [H.v1]
    exact rw_ww d b h k i f hf

theorem step_state : (step_main_v486_7 V : Cn S16x12x128x128) (ix4 (bd d b) h f e) = st a0 a1 a2 a3 a4 d b h (k.val + 1) f e := by
  unfold step_main_v486_7
  refine (state_read (bd d b) h e f _ _ _ _).trans ?_
  show _ = ss _ _ _ _ _ f e
  unfold ss
  refine congrArg₂ (· + ·) (congrArg₂ (· * ·) (H.v7 d b h f e) ?_) (Finset.sum_congr rfl fun i _ => congrArg₂ (· * ·) ?_ (res_vn hf H d b h i e))
  · refine (slab_decay _ k H.v6 (bd d b) h _).trans ?_
    rw [H.v4]
    exact rgl_gt d b h k
  · refine (slab_keys _ k H.v6 (bd d b) h i f _).trans ?_
    rw [H.v5]
    exact rkd_k d b h k i f

theorem step_out : (step_main_v486_8 V : Cn S32x16x12x64x128) (ix5 k (bd d b) h i e) = ou a0 a1 a2 a3 a4 d b h k.val i e := by
  unfold step_main_v486_8
  refine (put_at _ k H.v6 (bd d b) h i e _ _).trans ((out_read (bd d b) h i e _ _ _ _).trans ?_)
  unfold ou oo
  refine congrArg₂ (· + ·) (Finset.sum_congr rfl fun f _ => congrArg₂ (· * ·) ?_ (H.v7 d b h f e)) (Finset.sum_congr rfl fun j _ => congrArg₂ (· * ·) ?_ (res_vn hf H d b h j e))
  · refine (slab _ k H.v6 (bd d b) h i f _).trans ?_
    rw [H.v2]
    exact rqg_q d b h k i f
  · refine (slab_att _ k H.v6 (bd d b) h i j _).trans ?_
    rw [H.v3]
    exact ratt_att d b h k i j

theorem held_step : Held a0 a1 a2 a3 a4 (k.val + 1) (STEP V) where
  v0 := (STEP_main_v486_0 V).trans H.v0
  v1 := (STEP_main_v486_1 V).trans H.v1
  v2 := (STEP_main_v486_2 V).trans H.v2
  v3 := (STEP_main_v486_3 V).trans H.v3
  v4 := (STEP_main_v486_4 V).trans H.v4
  v5 := (STEP_main_v486_5 V).trans H.v5
  v6 := by
    rw [STEP_main_v486_6]
    unfold step_main_v486_6
    rw [H.v6]
    funext y
    show BitVec.ofNat 32 k.val + 1#32 = BitVec.ofNat 32 (k.val + 1)
    simp only [BitVec.ofNat_add]
  v7 d b h f e := by
    rw [STEP_main_v486_7]
    exact step_state hf H d b h e f
  v8 n d b h i e hn := by
    rw [STEP_main_v486_8]
    by_cases hk : n = k
    · subst hk
      exact step_out hf H d b h i e
    · have hv := H.v8 n d b h i e (by have : n.val ≠ k.val := fun hc => hk (Fin.ext hc); omega)
      unfold step_main_v486_8
      exact (put_off _ k H.v6 (bd d b) h i e _ _ n hk).trans hv

omit H

theorem held_start {E : Valuation τ sig (Elt Ideal)} (W : Valuation τ sig (Elt Ideal))
    (h0 : W (Proc.devRef .tc main_arg0) = a0) (h1 : W (Proc.devRef .tc main_arg1) = a1) (h2 : W (Proc.devRef .tc main_arg2) = a2)
    (h3 : W (Proc.devRef .tc main_arg3) = a3) (h4 : W (Proc.devRef .tc main_arg4) = a4)
    (hE : Entry W E) (h6 : E (Proc.devRef .tc main_v486_6) = fun _ => (0#32 : BitVec 32)) : Held a0 a1 a2 a3 a4 0 E := by
  subst h0 h1 h2 h3 h4
  exact {
    v0 := hE.v0
    v1 := hE.v1
    v2 := hE.v2
    v3 := hE.v3
    v4 := hE.v4
    v5 := hE.v5
    v6 := h6
    v7 := fun d b h f e => by rw [hE.v7]; exact rs0_apply h e f d b _
    v8 := fun n d b h i e hn => absurd hn (Nat.not_lt_zero _) }

theorem held_iter {E : Valuation τ sig (Elt Ideal)} (hE : Held a0 a1 a2 a3 a4 0 E) (k : ℕ) (hk : k ≤ 32) : Held a0 a1 a2 a3 a4 k (STEP^[k] E) := by
  induction k with
  | zero => exact hE
  | succ k ih =>
    rw [Function.iterate_succ_apply']
    exact held_step (k := ⟨k, by omega⟩) hf (ih (by omega))

omit hf

/-- The chunks laid out along the sequence again. -/
def laid (o : Cn S32x16x12x64x128) : Cn S16x2048x12x128 :=
  shapeCast S16x2048x12x128 (transpose S16x32x64x12x128 [1, 0, 3, 2, 4] o transposes_S32x16x12x64x128_S16x32x64x12x128_1_0_3_2_4) shapeCasts_S16x32x64x12x128_S16x2048x12x128

theorem laid_apply (o : Cn S32x16x12x64x128) (c : Fin 16) (l : Fin 2048) :
    laid o (ix4 c l h e) = o (ix5 ⟨l.val / 64, by omega⟩ c h ⟨l.val % 64, by omega⟩ e) := by
  unfold laid
  pointwise

/-- Both directions, the second turned back. -/
def both (x : Cn S16x2048x12x128) : Cn S2x8x2048x1536 :=
  shapeCast S2x8x2048x1536 (concatenate S16x2048x12x128 0 [⟨S8x2048x12x128, (extractStridedSlice S8x2048x12x128 ![0, 0, 0, 0] x slices_S16x2048x12x128_S8x2048x12x128_0_0_0_0)⟩, ⟨S8x2048x12x128, (Host.reverse [1] (extractStridedSlice S8x2048x12x128 ![8, 0, 0, 0] x slices_S16x2048x12x128_S8x2048x12x128_8_0_0_0))⟩] concatenates_S8x2048x12x128_S8x2048x12x128_S16x2048x12x128_d0) shapeCasts_S16x2048x12x128_S2x8x2048x1536

theorem both_apply (x : Cn S16x2048x12x128) (l : Fin 2048) (m : Fin 1536) :
    both x (ix4 d b l m) = x (ix4 (bd d b) ⟨turn d l, by unfold turn; split <;> omega⟩ ⟨m.val / 128, by omega⟩ ⟨m.val % 128, by omega⟩) := by
  unfold both
  pointwise
  split
  · next h1 =>
    have e0 : d = 0 := Fin.ext (by show d.val = 0; omega)
    subst e0
    exact congrArg x (congrArg₂ (fun u v => ix4 u v _ _) (Fin.ext (by show 0 * 8 + b.val = 8 * 0 + b.val; omega)) (Fin.ext rfl))
  · next h1 =>
    have e0 : d = 1 := Fin.ext (by show d.val = 1; omega)
    subst e0
    simp only [List.mem_singleton, if_neg (by decide : ¬(0 : Fin 4) = 1), if_neg (by decide : ¬(2 : Fin 4) = 1), if_neg (by decide : ¬(3 : Fin 4) = 1), if_true]
    refine congrArg x (congrArg₂ (fun u v => ix4 u v _ _) (Fin.ext ?_) (Fin.ext ?_))
    · show 8 + (1 * 8 + b.val - 8) = 8 * 1 + b.val; omega
    · show 2048 - (l.val + 1) = 2047 - l.val; omega

theorem out_493 {V : Valuation τ sig (Elt Ideal)} (H : Held a0 a1 a2 a3 a4 32 V) : out_main_v493 V = outA a0 a1 a2 a3 a4 := by
  funext y
  obtain ⟨d, b, l, m, rfl⟩ : ∃ d b l m, y = ix4 d b l m := ⟨y 0, y 1, y 2, y 3, by pointwise⟩
  show both (laid (V (Proc.devRef .tc main_v486_8))) (ix4 d b l m) = _
  rw [both_apply, laid_apply]
  refine (H.v8 _ d b _ _ _ (by have := l.isLt; show turn d l / 64 < 32; unfold turn; split <;> omega)).trans ?_
  rfl

theorem out_494 {V : Valuation τ sig (Elt Ideal)} (H : Held a0 a1 a2 a3 a4 32 V) : out_main_v494 V = stA a0 a1 a2 a3 a4 := by
  funext y
  obtain ⟨d, b, h, f, e, rfl⟩ : ∃ d b h f e, y = ix5 d b h f e := ⟨y 0, y 1, y 2, y 3, y 4, by pointwise⟩
  have key : ∀ x : Cn S16x12x128x128, (shapeCast S2x8x12x128x128 x shapeCasts_S16x12x128x128_S2x8x12x128x128 : Cn S2x8x12x128x128) (ix5 d b h f e) = x (ix4 (bd d b) h f e) := by
    intro x
    pointwise
    exact congrArg x (congrArg (fun u => ix4 u h f e) (Fin.ext (by show d.val * 8 + b.val = 8 * d.val + b.val; omega)))
  exact (key _).trans (H.v7 d b h f e)

end Cert.GdnRefIdeal.Pre

end
-- ==== Proof.DeltaRule.lean ====
/-
  The gated delta rule: the kernel's results are the reference's.

  The kernel's run ends with the outputs and the last states of the chunked recurrence (GdnValue), and so does the
  reference's (GdnRefLoop), whose loop keeps each chunk's state and outputs. Where the keys are real numbers both
  are the same function of the arguments: there the doubled products of the kernel and the row-by-row substitution of
  the reference are the same inverse of a unit triangular matrix.
-/
module

public import proofs.«01_k».proof.Defs
public import proofs.«01_k».proof.Proof.Gen.GdnIdeal.Frame
public import proofs.«01_k».proof.Proof.Gen.GdnRefIdeal.Run
public import proofs.«01_k».proof.Proof.GdnValue
public import proofs.«01_k».proof.Proof.GdnRefLoop
public import proofs.«01_k».proof.Proof.Gen.Pre_finite_keys
public import Idealize.ShloMosaic.Lib.Quiescent

@[expose] public section

set_option maxRecDepth 16384

noncomputable section

namespace Cert.DeltaRule

open Idealize.ShloMosaic Idealize.ShloMosaic.TcCoe Idealize.SL.Sem

open Cert.Pre_finite_keys (S8x2048x4608 S8x2048x7168 S2x12 S2x8x12x128x128)
open Cert.GdnMath (Fine Real' outA stA)

/-- A number whose magnitude is below a bound is real. -/
theorem real_of_abs {x b : EReal} (h : BitVec.ofBool (decide (max x (-x) < b)) = 1#1) : Real' x := by
  have hlt : max x (-x) < b := by
    by_contra hn
    rw [decide_eq_false hn] at h
    exact absurd h (by decide)
  have h1 : x ≠ ⊤ := fun e => by subst e; exact absurd (lt_of_le_of_lt (le_max_left _ _) hlt) not_top_lt
  have h2 : x ≠ ⊥ := fun e => by subst e; exact absurd (lt_of_le_of_lt (le_max_right _ _) hlt) (by rw [EReal.neg_bot]; exact not_top_lt)
  exact ⟨x.toReal, (EReal.coe_toReal h1 h2).symm⟩

section Reals

variable (x : FVec Ideal S8x2048x4608 .f32) (p : FVec Ideal S8x2048x7168 .f32) (a t : FVec Ideal S2x12 .f32) (s : FVec Ideal S2x8x12x128x128 .f32)

theorem real_key (h : Cert.Pre_finite_keys.fn (F := Ideal) x p a t s = fun _ => 1#1) (b : Fin 8) (l : Fin 2048) (c : Fin 1536) :
    Real' (x (ix3 b l ⟨1536 + c.val, by omega⟩)) := by
  have e : (Cert.Pre_finite_keys.fn (F := Ideal) x p a t s) (ix3 b l c)
      = BitVec.ofBool (decide (max (x (ix3 b l ⟨1536 + c.val, by omega⟩)) (-(x (ix3 b l ⟨1536 + c.val, by omega⟩))) < Ideal.ofBits FTy.f32 2139095040#32)) := by
    unfold Cert.Pre_finite_keys.fn
    dsimp only
    pointwise
    rfl
  exact real_of_abs (e.symm.trans (congrFun h _))

end Reals

/-- The reference's run, its argument arrays kept and every semaphore at zero. -/
theorem ref_frame : Cert.quiescent_GdnRefIdeal := fun m ρ _ =>
  (θ_run Cert.GdnRefIdeal.defs _ _).mono
    (fun r h => ⟨fun c => (h c).2.2, Idealize.ShloMosaic.sem_eq_zero_of_no_sems (by decide) r.2⟩)
    (Cert.GdnRefIdeal.Value.run (F := Ideal) m ρ)

/-- What the reference's loop holds after its last chunk. -/
theorem held_end (m : (ℓ : Loc Cert.GdnRefIdeal.nD Cert.GdnRefIdeal.τ Cert.GdnRefIdeal.sig) → Buf (Elt Ideal) ℓ) (c : Dev Cert.GdnRefIdeal.nD)
    (hf : Fine (m ((c.tc : Thread _ Cert.GdnRefIdeal.τ).loc Cert.GdnRefIdeal.main_arg0))) :
    Cert.GdnRefIdeal.Pre.Held (m ((c.tc : Thread _ Cert.GdnRefIdeal.τ).loc Cert.GdnRefIdeal.main_arg0)) (m ((c.tc : Thread _ Cert.GdnRefIdeal.τ).loc Cert.GdnRefIdeal.main_arg1))
      (m ((c.tc : Thread _ Cert.GdnRefIdeal.τ).loc Cert.GdnRefIdeal.main_arg2)) (m ((c.tc : Thread _ Cert.GdnRefIdeal.τ).loc Cert.GdnRefIdeal.main_arg3))
      (m ((c.tc : Thread _ Cert.GdnRefIdeal.τ).loc Cert.GdnRefIdeal.main_arg4)) 32
      (Cert.GdnRefIdeal.Value.STEP^[32] (Idealize.ShloMosaic.StableHlo.entryContents Cert.GdnRefIdeal.Value.preI m c)) :=
  Cert.GdnRefIdeal.Pre.held_iter hf
    (Cert.GdnRefIdeal.Pre.held_start hf (Idealize.ShloMosaic.StableHlo.launchContents m c) rfl rfl rfl rfl rfl (Cert.GdnRefIdeal.Pre.entry (Idealize.ShloMosaic.StableHlo.launchContents m c)) (Cert.GdnRefIdeal.Value.ctr_entry m c)) 32 le_rfl

/-- The recurrence's kernel and its reference have the same outputs and the same last states. -/
theorem algebraic : Cert.algebraic_GdnIdeal_GdnRefIdeal_pre_finite_keys := by
  intro m ρ m' ρ' hpre hagree
  have hf : ∀ c : Dev Cert.GdnIdeal.nD, Fine (m ((c.tc : Thread _ Cert.GdnIdeal.τ).loc Cert.GdnIdeal.main_arg0)) := fun c =>
    ⟨real_key _ _ _ _ _ (hpre c)⟩
  refine ⟨Cert.GdnIdeal.Rec.resO m, Cert.GdnIdeal.Rec.resS m, Cert.GdnIdeal.Rec.run_one m ρ hf, ?_⟩
  have key : ∀ c : Dev Cert.GdnRefIdeal.nD,
      Cert.GdnRefIdeal.Value.out_main_v493 (F := Ideal) (Cert.GdnRefIdeal.Value.STEP^[32] (Idealize.ShloMosaic.StableHlo.entryContents Cert.GdnRefIdeal.Value.preI m' c)) = Cert.GdnIdeal.Rec.resO m c
      ∧ Cert.GdnRefIdeal.Value.out_main_v494 (F := Ideal) (Cert.GdnRefIdeal.Value.STEP^[32] (Idealize.ShloMosaic.StableHlo.entryContents Cert.GdnRefIdeal.Value.preI m' c)) = Cert.GdnIdeal.Rec.resS m c := by
    intro c
    obtain ⟨a0, a1, a2, a3, a4⟩ := hagree c
    have H := held_end m' c (by rw [a0]; exact hf c)
    rw [a0, a1, a2, a3, a4] at H
    exact ⟨Cert.GdnRefIdeal.Pre.out_493 H, Cert.GdnRefIdeal.Pre.out_494 H⟩
  exact (θ_run Cert.GdnRefIdeal.defs _ _).mono (fun r h c => ⟨(h c).1.trans (key c).1, (h c).2.1.trans (key c).2, (h c).2.2⟩) (Cert.GdnRefIdeal.Value.run (F := Ideal) m' ρ')

end Cert.DeltaRule

end
-- ==== Proof.lean ====
/- Every claim of the certificate, each taken from the module that proves it. -/
module

public import proofs.«01_k».proof.Defs
public import proofs.«01_k».proof.Proof.Gen.Pre_finite_scores
public import proofs.«01_k».proof.Proof.Gen.Swa.Frame
public import proofs.«01_k».proof.Proof.Attention
public import proofs.«01_k».proof.Proof.Gen.EvenIn.Frame
public import proofs.«01_k».proof.Proof.InEven
public import proofs.«01_k».proof.Proof.Gen.OddIn.Frame
public import proofs.«01_k».proof.Proof.InOdd
public import proofs.«01_k».proof.Proof.QueryBits
public import proofs.«01_k».proof.Proof.InQuery
public import proofs.«01_k».proof.Proof.Gen.EvenOut.Frame
public import proofs.«01_k».proof.Proof.OutEven
public import proofs.«01_k».proof.Proof.Gen.OddOut.Frame
public import proofs.«01_k».proof.Proof.OutOdd
public import proofs.«01_k».proof.Proof.Gen.Pre_finite_keys
public import proofs.«01_k».proof.Proof.Gen.Gdn.Frame
public import proofs.«01_k».proof.Proof.DeltaRule

@[expose] public section

noncomputable section

namespace Cert.Proof

/-- The certificate's claim. -/
theorem claim : Cert.Claim :=
  ⟨Cert.Swa.Gen.facts,
    Cert.SwaIdeal.Gen.facts,
    Cert.SwaRefIdeal.Gen.facts,
    Cert.EvenIn.Gen.facts,
    Cert.EvenInIdeal.Gen.facts,
    Cert.EvenInRefIdeal.Gen.facts,
    Cert.OddIn.Gen.facts,
    Cert.OddInIdeal.Gen.facts,
    Cert.OddInRefIdeal.Gen.facts,
    Cert.Query.Gen.facts,
    Cert.QueryIdeal.Gen.facts,
    Cert.QueryRefIdeal.Gen.facts,
    Cert.EvenOut.Gen.facts,
    Cert.EvenOutIdeal.Gen.facts,
    Cert.EvenOutRefIdeal.Gen.facts,
    Cert.OddOut.Gen.facts,
    Cert.OddOutIdeal.Gen.facts,
    Cert.OddOutRefIdeal.Gen.facts,
    Cert.Gdn.Gen.facts,
    Cert.GdnIdeal.Gen.facts,
    Cert.GdnRefIdeal.Gen.facts,
    Cert.Pre_finite_scores.Gen.facts,
    Cert.Pre_finite_keys.Gen.facts,
    fun m ρ _ => Cert.Swa.Gen.frame m ρ,
    fun m ρ _ => Cert.SwaIdeal.Gen.frame m ρ,
    fun m ρ _ => Cert.SwaIdeal.Gen.frame m ρ,
    Cert.Attention.ref_frame,
    fun m ρ _ => Cert.Attention.ref_frame m ρ trivial,
    fun m ρ _ => Cert.EvenIn.Gen.frame m ρ,
    fun m ρ _ => Cert.EvenInIdeal.Gen.frame m ρ,
    Cert.InEven.ref_frame,
    fun m ρ _ => Cert.OddIn.Gen.frame m ρ,
    fun m ρ _ => Cert.OddInIdeal.Gen.frame m ρ,
    Cert.InOdd.ref_frame,
    fun m ρ _ => Cert.Query.Body.frame m ρ,
    fun m ρ _ => Cert.QueryIdeal.Body.frame m ρ,
    Cert.InQuery.ref_frame,
    fun m ρ _ => Cert.EvenOut.Gen.frame m ρ,
    fun m ρ _ => Cert.EvenOutIdeal.Gen.frame m ρ,
    Cert.OutEven.ref_frame,
    fun m ρ _ => Cert.OddOut.Gen.frame m ρ,
    fun m ρ _ => Cert.OddOutIdeal.Gen.frame m ρ,
    Cert.OutOdd.ref_frame,
    fun m ρ _ => Cert.Gdn.Gen.frame m ρ,
    fun m ρ _ => Cert.GdnIdeal.Gen.frame m ρ,
    fun m ρ _ => Cert.GdnIdeal.Gen.frame m ρ,
    Cert.DeltaRule.ref_frame,
    fun m ρ _ => Cert.DeltaRule.ref_frame m ρ trivial,
    trivial,
    Cert.Attention.algebraic,
    trivial,
    Cert.InEven.algebraic,
    trivial,
    Cert.InOdd.algebraic,
    trivial,
    Cert.InQuery.algebraic,
    trivial,
    Cert.OutEven.algebraic,
    trivial,
    Cert.OutOdd.algebraic,
    trivial,
    Cert.DeltaRule.algebraic⟩

end Cert.Proof
